-- ==== Defs.lean ====
def Pre_StageSelf (m : (ℓ : Loc Cert.StageSelf.nD Cert.StageSelf.τ Cert.StageSelf.sig) → Buf (Elt Bits) ℓ) : Prop :=
  True

def Pre_StageSelf_no_tie_self [hPre_no_tie_self : Cert.Pre_no_tie_self.Facts] (m : (ℓ : Loc Cert.StageSelf.nD Cert.StageSelf.τ Cert.StageSelf.sig) → Buf (Elt Bits) ℓ) : Prop :=
  ∀ c : Dev Cert.StageSelf.nD,
    (Cert.Pre_no_tie_self.fn (F := Bits) (m ((c.tc : Thread Cert.StageSelf.nD Cert.StageSelf.τ).loc Cert.StageSelf.main_arg0)) (m ((c.tc : Thread Cert.StageSelf.nD Cert.StageSelf.τ).loc Cert.StageSelf.main_arg1)) (m ((c.tc : Thread Cert.StageSelf.nD Cert.StageSelf.τ).loc Cert.StageSelf.main_arg2))) = (fun _ => 1#1)

def Pre_StageSelfIdeal [hPre_no_tie_self : Cert.Pre_no_tie_self.Facts] (m : (ℓ : Loc Cert.StageSelfIdeal.nD Cert.StageSelfIdeal.τ Cert.StageSelfIdeal.sig) → Buf (Elt Ideal) ℓ) : Prop :=
  ∀ c : Dev Cert.StageSelfIdeal.nD,
    (Cert.Pre_no_tie_self.fn (F := Ideal) (m ((c.tc : Thread Cert.StageSelfIdeal.nD Cert.StageSelfIdeal.τ).loc Cert.StageSelfIdeal.main_arg0)) (m ((c.tc : Thread Cert.StageSelfIdeal.nD Cert.StageSelfIdeal.τ).loc Cert.StageSelfIdeal.main_arg1)) (m ((c.tc : Thread Cert.StageSelfIdeal.nD Cert.StageSelfIdeal.τ).loc Cert.StageSelfIdeal.main_arg2))) = (fun _ => 1#1)

def Pre_RefSelfIdeal (m : (ℓ : Loc Cert.RefSelfIdeal.nD Cert.RefSelfIdeal.τ Cert.RefSelfIdeal.sig) → Buf (Elt Ideal) ℓ) : Prop :=
  True

def Pre_RefSelfIdeal_no_tie_self [hPre_no_tie_self : Cert.Pre_no_tie_self.Facts] (m : (ℓ : Loc Cert.RefSelfIdeal.nD Cert.RefSelfIdeal.τ Cert.RefSelfIdeal.sig) → Buf (Elt Ideal) ℓ) : Prop :=
  ∀ c : Dev Cert.RefSelfIdeal.nD,
    (Cert.Pre_no_tie_self.fn (F := Ideal) (m ((c.tc : Thread Cert.RefSelfIdeal.nD Cert.RefSelfIdeal.τ).loc Cert.RefSelfIdeal.main_arg0)) (m ((c.tc : Thread Cert.RefSelfIdeal.nD Cert.RefSelfIdeal.τ).loc Cert.RefSelfIdeal.main_arg1)) (m ((c.tc : Thread Cert.RefSelfIdeal.nD Cert.RefSelfIdeal.τ).loc Cert.RefSelfIdeal.main_arg2))) = (fun _ => 1#1)

def Pre_StageGather4 (m : (ℓ : Loc Cert.StageGather4.nD Cert.StageGather4.τ Cert.StageGather4.sig) → Buf (Elt Bits) ℓ) : Prop :=
  True

def Pre_StageGather4_no_tie_gather4 [hPre_no_tie_gather4 : Cert.Pre_no_tie_gather4.Facts] (m : (ℓ : Loc Cert.StageGather4.nD Cert.StageGather4.τ Cert.StageGather4.sig) → Buf (Elt Bits) ℓ) : Prop :=
  ∀ c : Dev Cert.StageGather4.nD,
    (Cert.Pre_no_tie_gather4.fn (F := Bits) (m ((c.tc : Thread Cert.StageGather4.nD Cert.StageGather4.τ).loc Cert.StageGather4.main_arg0)) (m ((c.tc : Thread Cert.StageGather4.nD Cert.StageGather4.τ).loc Cert.StageGather4.main_arg1)) (m ((c.tc : Thread Cert.StageGather4.nD Cert.StageGather4.τ).loc Cert.StageGather4.main_arg2)) (m ((c.tc : Thread Cert.StageGather4.nD Cert.StageGather4.τ).loc Cert.StageGather4.main_arg3)) (m ((c.tc : Thread Cert.StageGather4.nD Cert.StageGather4.τ).loc Cert.StageGather4.main_arg4))) = (fun _ => 1#1)

def Pre_StageGather4Ideal [hPre_no_tie_gather4 : Cert.Pre_no_tie_gather4.Facts] (m : (ℓ : Loc Cert.StageGather4Ideal.nD Cert.StageGather4Ideal.τ Cert.StageGather4Ideal.sig) → Buf (Elt Ideal) ℓ) : Prop :=
  ∀ c : Dev Cert.StageGather4Ideal.nD,
    (Cert.Pre_no_tie_gather4.fn (F := Ideal) (m ((c.tc : Thread Cert.StageGather4Ideal.nD Cert.StageGather4Ideal.τ).loc Cert.StageGather4Ideal.main_arg0)) (m ((c.tc : Thread Cert.StageGather4Ideal.nD Cert.StageGather4Ideal.τ).loc Cert.StageGather4Ideal.main_arg1)) (m ((c.tc : Thread Cert.StageGather4Ideal.nD Cert.StageGather4Ideal.τ).loc Cert.StageGather4Ideal.main_arg2)) (m ((c.tc : Thread Cert.StageGather4Ideal.nD Cert.StageGather4Ideal.τ).loc Cert.StageGather4Ideal.main_arg3)) (m ((c.tc : Thread Cert.StageGather4Ideal.nD Cert.StageGather4Ideal.τ).loc Cert.StageGather4Ideal.main_arg4))) = (fun _ => 1#1)

def Pre_RefGather4Ideal (m : (ℓ : Loc Cert.RefGather4Ideal.nD Cert.RefGather4Ideal.τ Cert.RefGather4Ideal.sig) → Buf (Elt Ideal) ℓ) : Prop :=
  True

def Pre_RefGather4Ideal_no_tie_gather4 [hPre_no_tie_gather4 : Cert.Pre_no_tie_gather4.Facts] (m : (ℓ : Loc Cert.RefGather4Ideal.nD Cert.RefGather4Ideal.τ Cert.RefGather4Ideal.sig) → Buf (Elt Ideal) ℓ) : Prop :=
  ∀ c : Dev Cert.RefGather4Ideal.nD,
    (Cert.Pre_no_tie_gather4.fn (F := Ideal) (m ((c.tc : Thread Cert.RefGather4Ideal.nD Cert.RefGather4Ideal.τ).loc Cert.RefGather4Ideal.main_arg0)) (m ((c.tc : Thread Cert.RefGather4Ideal.nD Cert.RefGather4Ideal.τ).loc Cert.RefGather4Ideal.main_arg1)) (m ((c.tc : Thread Cert.RefGather4Ideal.nD Cert.RefGather4Ideal.τ).loc Cert.RefGather4Ideal.main_arg2)) (m ((c.tc : Thread Cert.RefGather4Ideal.nD Cert.RefGather4Ideal.τ).loc Cert.RefGather4Ideal.main_arg3)) (m ((c.tc : Thread Cert.RefGather4Ideal.nD Cert.RefGather4Ideal.τ).loc Cert.RefGather4Ideal.main_arg4))) = (fun _ => 1#1)

def Pre_StageGather2 (m : (ℓ : Loc Cert.StageGather2.nD Cert.StageGather2.τ Cert.StageGather2.sig) → Buf (Elt Bits) ℓ) : Prop :=
  True

def Pre_StageGather2_no_tie_gather2 [hPre_no_tie_gather2 : Cert.Pre_no_tie_gather2.Facts] (m : (ℓ : Loc Cert.StageGather2.nD Cert.StageGather2.τ Cert.StageGather2.sig) → Buf (Elt Bits) ℓ) : Prop :=
  ∀ c : Dev Cert.StageGather2.nD,
    (Cert.Pre_no_tie_gather2.fn (F := Bits) (m ((c.tc : Thread Cert.StageGather2.nD Cert.StageGather2.τ).loc Cert.StageGather2.main_arg0)) (m ((c.tc : Thread Cert.StageGather2.nD Cert.StageGather2.τ).loc Cert.StageGather2.main_arg1)) (m ((c.tc : Thread Cert.StageGather2.nD Cert.StageGather2.τ).loc Cert.StageGather2.main_arg2)) (m ((c.tc : Thread Cert.StageGather2.nD Cert.StageGather2.τ).loc Cert.StageGather2.main_arg3)) (m ((c.tc : Thread Cert.StageGather2.nD Cert.StageGather2.τ).loc Cert.StageGather2.main_arg4))) = (fun _ => 1#1)

def Pre_StageGather2Ideal [hPre_no_tie_gather2 : Cert.Pre_no_tie_gather2.Facts] (m : (ℓ : Loc Cert.StageGather2Ideal.nD Cert.StageGather2Ideal.τ Cert.StageGather2Ideal.sig) → Buf (Elt Ideal) ℓ) : Prop :=
  ∀ c : Dev Cert.StageGather2Ideal.nD,
    (Cert.Pre_no_tie_gather2.fn (F := Ideal) (m ((c.tc : Thread Cert.StageGather2Ideal.nD Cert.StageGather2Ideal.τ).loc Cert.StageGather2Ideal.main_arg0)) (m ((c.tc : Thread Cert.StageGather2Ideal.nD Cert.StageGather2Ideal.τ).loc Cert.StageGather2Ideal.main_arg1)) (m ((c.tc : Thread Cert.StageGather2Ideal.nD Cert.StageGather2Ideal.τ).loc Cert.StageGather2Ideal.main_arg2)) (m ((c.tc : Thread Cert.StageGather2Ideal.nD Cert.StageGather2Ideal.τ).loc Cert.StageGather2Ideal.main_arg3)) (m ((c.tc : Thread Cert.StageGather2Ideal.nD Cert.StageGather2Ideal.τ).loc Cert.StageGather2Ideal.main_arg4))) = (fun _ => 1#1)

def Pre_RefGather2Ideal (m : (ℓ : Loc Cert.RefGather2Ideal.nD Cert.RefGather2Ideal.τ Cert.RefGather2Ideal.sig) → Buf (Elt Ideal) ℓ) : Prop :=
  True

def Pre_RefGather2Ideal_no_tie_gather2 [hPre_no_tie_gather2 : Cert.Pre_no_tie_gather2.Facts] (m : (ℓ : Loc Cert.RefGather2Ideal.nD Cert.RefGather2Ideal.τ Cert.RefGather2Ideal.sig) → Buf (Elt Ideal) ℓ) : Prop :=
  ∀ c : Dev Cert.RefGather2Ideal.nD,
    (Cert.Pre_no_tie_gather2.fn (F := Ideal) (m ((c.tc : Thread Cert.RefGather2Ideal.nD Cert.RefGather2Ideal.τ).loc Cert.RefGather2Ideal.main_arg0)) (m ((c.tc : Thread Cert.RefGather2Ideal.nD Cert.RefGather2Ideal.τ).loc Cert.RefGather2Ideal.main_arg1)) (m ((c.tc : Thread Cert.RefGather2Ideal.nD Cert.RefGather2Ideal.τ).loc Cert.RefGather2Ideal.main_arg2)) (m ((c.tc : Thread Cert.RefGather2Ideal.nD Cert.RefGather2Ideal.τ).loc Cert.RefGather2Ideal.main_arg3)) (m ((c.tc : Thread Cert.RefGather2Ideal.nD Cert.RefGather2Ideal.τ).loc Cert.RefGather2Ideal.main_arg4))) = (fun _ => 1#1)

def Pre_StageFirst (m : (ℓ : Loc Cert.StageFirst.nD Cert.StageFirst.τ Cert.StageFirst.sig) → Buf (Elt Bits) ℓ) : Prop :=
  True

def Pre_StageFirst_no_tie_stage1 [hPre_no_tie_stage1 : Cert.Pre_no_tie_stage1.Facts] (m : (ℓ : Loc Cert.StageFirst.nD Cert.StageFirst.τ Cert.StageFirst.sig) → Buf (Elt Bits) ℓ) : Prop :=
  ∀ c : Dev Cert.StageFirst.nD,
    (Cert.Pre_no_tie_stage1.fn (F := Bits) (m ((c.tc : Thread Cert.StageFirst.nD Cert.StageFirst.τ).loc Cert.StageFirst.main_arg0)) (m ((c.tc : Thread Cert.StageFirst.nD Cert.StageFirst.τ).loc Cert.StageFirst.main_arg1)) (m ((c.tc : Thread Cert.StageFirst.nD Cert.StageFirst.τ).loc Cert.StageFirst.main_arg2)) (m ((c.tc : Thread Cert.StageFirst.nD Cert.StageFirst.τ).loc Cert.StageFirst.main_arg3))) = (fun _ => 1#1)

def Pre_StageFirstIdeal [hPre_no_tie_stage1 : Cert.Pre_no_tie_stage1.Facts] (m : (ℓ : Loc Cert.StageFirstIdeal.nD Cert.StageFirstIdeal.τ Cert.StageFirstIdeal.sig) → Buf (Elt Ideal) ℓ) : Prop :=
  ∀ c : Dev Cert.StageFirstIdeal.nD,
    (Cert.Pre_no_tie_stage1.fn (F := Ideal) (m ((c.tc : Thread Cert.StageFirstIdeal.nD Cert.StageFirstIdeal.τ).loc Cert.StageFirstIdeal.main_arg0)) (m ((c.tc : Thread Cert.StageFirstIdeal.nD Cert.StageFirstIdeal.τ).loc Cert.StageFirstIdeal.main_arg1)) (m ((c.tc : Thread Cert.StageFirstIdeal.nD Cert.StageFirstIdeal.τ).loc Cert.StageFirstIdeal.main_arg2)) (m ((c.tc : Thread Cert.StageFirstIdeal.nD Cert.StageFirstIdeal.τ).loc Cert.StageFirstIdeal.main_arg3))) = (fun _ => 1#1)

def Pre_RefFirstIdeal (m : (ℓ : Loc Cert.RefFirstIdeal.nD Cert.RefFirstIdeal.τ Cert.RefFirstIdeal.sig) → Buf (Elt Ideal) ℓ) : Prop :=
  True

def Pre_RefFirstIdeal_no_tie_stage1 [hPre_no_tie_stage1 : Cert.Pre_no_tie_stage1.Facts] (m : (ℓ : Loc Cert.RefFirstIdeal.nD Cert.RefFirstIdeal.τ Cert.RefFirstIdeal.sig) → Buf (Elt Ideal) ℓ) : Prop :=
  ∀ c : Dev Cert.RefFirstIdeal.nD,
    (Cert.Pre_no_tie_stage1.fn (F := Ideal) (m ((c.tc : Thread Cert.RefFirstIdeal.nD Cert.RefFirstIdeal.τ).loc Cert.RefFirstIdeal.main_arg0)) (m ((c.tc : Thread Cert.RefFirstIdeal.nD Cert.RefFirstIdeal.τ).loc Cert.RefFirstIdeal.main_arg1)) (m ((c.tc : Thread Cert.RefFirstIdeal.nD Cert.RefFirstIdeal.τ).loc Cert.RefFirstIdeal.main_arg2)) (m ((c.tc : Thread Cert.RefFirstIdeal.nD Cert.RefFirstIdeal.τ).loc Cert.RefFirstIdeal.main_arg3))) = (fun _ => 1#1)

def Pre_Finalize4 (m : (ℓ : Loc Cert.Finalize4.nD Cert.Finalize4.τ Cert.Finalize4.sig) → Buf (Elt Bits) ℓ) : Prop :=
  True

def Pre_Finalize4Ideal (m : (ℓ : Loc Cert.Finalize4Ideal.nD Cert.Finalize4Ideal.τ Cert.Finalize4Ideal.sig) → Buf (Elt Ideal) ℓ) : Prop :=
  True

def Pre_Finalize4Ideal_spread4 [hPre_spread4 : Cert.Pre_spread4.Facts] (m : (ℓ : Loc Cert.Finalize4Ideal.nD Cert.Finalize4Ideal.τ Cert.Finalize4Ideal.sig) → Buf (Elt Ideal) ℓ) : Prop :=
  ∀ c : Dev Cert.Finalize4Ideal.nD,
    (Cert.Pre_spread4.fn (F := Ideal) (m ((c.tc : Thread Cert.Finalize4Ideal.nD Cert.Finalize4Ideal.τ).loc Cert.Finalize4Ideal.main_arg0)) (m ((c.tc : Thread Cert.Finalize4Ideal.nD Cert.Finalize4Ideal.τ).loc Cert.Finalize4Ideal.main_arg1)) (m ((c.tc : Thread Cert.Finalize4Ideal.nD Cert.Finalize4Ideal.τ).loc Cert.Finalize4Ideal.main_arg2)) (m ((c.tc : Thread Cert.Finalize4Ideal.nD Cert.Finalize4Ideal.τ).loc Cert.Finalize4Ideal.main_arg3))) = (fun _ => 1#1)

def Pre_RefFinalize4Ideal (m : (ℓ : Loc Cert.RefFinalize4Ideal.nD Cert.RefFinalize4Ideal.τ Cert.RefFinalize4Ideal.sig) → Buf (Elt Ideal) ℓ) : Prop :=
  True

def Pre_RefFinalize4Ideal_spread4 [hPre_spread4 : Cert.Pre_spread4.Facts] (m : (ℓ : Loc Cert.RefFinalize4Ideal.nD Cert.RefFinalize4Ideal.τ Cert.RefFinalize4Ideal.sig) → Buf (Elt Ideal) ℓ) : Prop :=
  ∀ c : Dev Cert.RefFinalize4Ideal.nD,
    (Cert.Pre_spread4.fn (F := Ideal) (m ((c.tc : Thread Cert.RefFinalize4Ideal.nD Cert.RefFinalize4Ideal.τ).loc Cert.RefFinalize4Ideal.main_arg0)) (m ((c.tc : Thread Cert.RefFinalize4Ideal.nD Cert.RefFinalize4Ideal.τ).loc Cert.RefFinalize4Ideal.main_arg1)) (m ((c.tc : Thread Cert.RefFinalize4Ideal.nD Cert.RefFinalize4Ideal.τ).loc Cert.RefFinalize4Ideal.main_arg2)) (m ((c.tc : Thread Cert.RefFinalize4Ideal.nD Cert.RefFinalize4Ideal.τ).loc Cert.RefFinalize4Ideal.main_arg3))) = (fun _ => 1#1)

def Pre_Finalize2 (m : (ℓ : Loc Cert.Finalize2.nD Cert.Finalize2.τ Cert.Finalize2.sig) → Buf (Elt Bits) ℓ) : Prop :=
  True

def Pre_Finalize2Ideal (m : (ℓ : Loc Cert.Finalize2Ideal.nD Cert.Finalize2Ideal.τ Cert.Finalize2Ideal.sig) → Buf (Elt Ideal) ℓ) : Prop :=
  True

def Pre_Finalize2Ideal_spread2 [hPre_spread2 : Cert.Pre_spread2.Facts] (m : (ℓ : Loc Cert.Finalize2Ideal.nD Cert.Finalize2Ideal.τ Cert.Finalize2Ideal.sig) → Buf (Elt Ideal) ℓ) : Prop :=
  ∀ c : Dev Cert.Finalize2Ideal.nD,
    (Cert.Pre_spread2.fn (F := Ideal) (m ((c.tc : Thread Cert.Finalize2Ideal.nD Cert.Finalize2Ideal.τ).loc Cert.Finalize2Ideal.main_arg0)) (m ((c.tc : Thread Cert.Finalize2Ideal.nD Cert.Finalize2Ideal.τ).loc Cert.Finalize2Ideal.main_arg1)) (m ((c.tc : Thread Cert.Finalize2Ideal.nD Cert.Finalize2Ideal.τ).loc Cert.Finalize2Ideal.main_arg2)) (m ((c.tc : Thread Cert.Finalize2Ideal.nD Cert.Finalize2Ideal.τ).loc Cert.Finalize2Ideal.main_arg3))) = (fun _ => 1#1)

def Pre_RefFinalize2Ideal (m : (ℓ : Loc Cert.RefFinalize2Ideal.nD Cert.RefFinalize2Ideal.τ Cert.RefFinalize2Ideal.sig) → Buf (Elt Ideal) ℓ) : Prop :=
  True

def Pre_RefFinalize2Ideal_spread2 [hPre_spread2 : Cert.Pre_spread2.Facts] (m : (ℓ : Loc Cert.RefFinalize2Ideal.nD Cert.RefFinalize2Ideal.τ Cert.RefFinalize2Ideal.sig) → Buf (Elt Ideal) ℓ) : Prop :=
  ∀ c : Dev Cert.RefFinalize2Ideal.nD,
    (Cert.Pre_spread2.fn (F := Ideal) (m ((c.tc : Thread Cert.RefFinalize2Ideal.nD Cert.RefFinalize2Ideal.τ).loc Cert.RefFinalize2Ideal.main_arg0)) (m ((c.tc : Thread Cert.RefFinalize2Ideal.nD Cert.RefFinalize2Ideal.τ).loc Cert.RefFinalize2Ideal.main_arg1)) (m ((c.tc : Thread Cert.RefFinalize2Ideal.nD Cert.RefFinalize2Ideal.τ).loc Cert.RefFinalize2Ideal.main_arg2)) (m ((c.tc : Thread Cert.RefFinalize2Ideal.nD Cert.RefFinalize2Ideal.τ).loc Cert.RefFinalize2Ideal.main_arg3))) = (fun _ => 1#1)

def Pre_Finalize1 (m : (ℓ : Loc Cert.Finalize1.nD Cert.Finalize1.τ Cert.Finalize1.sig) → Buf (Elt Bits) ℓ) : Prop :=
  True

def Pre_Finalize1Ideal (m : (ℓ : Loc Cert.Finalize1Ideal.nD Cert.Finalize1Ideal.τ Cert.Finalize1Ideal.sig) → Buf (Elt Ideal) ℓ) : Prop :=
  True

def Pre_Finalize1Ideal_spread1 [hPre_spread1 : Cert.Pre_spread1.Facts] (m : (ℓ : Loc Cert.Finalize1Ideal.nD Cert.Finalize1Ideal.τ Cert.Finalize1Ideal.sig) → Buf (Elt Ideal) ℓ) : Prop :=
  ∀ c : Dev Cert.Finalize1Ideal.nD,
    (Cert.Pre_spread1.fn (F := Ideal) (m ((c.tc : Thread Cert.Finalize1Ideal.nD Cert.Finalize1Ideal.τ).loc Cert.Finalize1Ideal.main_arg0)) (m ((c.tc : Thread Cert.Finalize1Ideal.nD Cert.Finalize1Ideal.τ).loc Cert.Finalize1Ideal.main_arg1)) (m ((c.tc : Thread Cert.Finalize1Ideal.nD Cert.Finalize1Ideal.τ).loc Cert.Finalize1Ideal.main_arg2)) (m ((c.tc : Thread Cert.Finalize1Ideal.nD Cert.Finalize1Ideal.τ).loc Cert.Finalize1Ideal.main_arg3))) = (fun _ => 1#1)

def Pre_RefFinalize1Ideal (m : (ℓ : Loc Cert.RefFinalize1Ideal.nD Cert.RefFinalize1Ideal.τ Cert.RefFinalize1Ideal.sig) → Buf (Elt Ideal) ℓ) : Prop :=
  True

def Pre_RefFinalize1Ideal_spread1 [hPre_spread1 : Cert.Pre_spread1.Facts] (m : (ℓ : Loc Cert.RefFinalize1Ideal.nD Cert.RefFinalize1Ideal.τ Cert.RefFinalize1Ideal.sig) → Buf (Elt Ideal) ℓ) : Prop :=
  ∀ c : Dev Cert.RefFinalize1Ideal.nD,
    (Cert.Pre_spread1.fn (F := Ideal) (m ((c.tc : Thread Cert.RefFinalize1Ideal.nD Cert.RefFinalize1Ideal.τ).loc Cert.RefFinalize1Ideal.main_arg0)) (m ((c.tc : Thread Cert.RefFinalize1Ideal.nD Cert.RefFinalize1Ideal.τ).loc Cert.RefFinalize1Ideal.main_arg1)) (m ((c.tc : Thread Cert.RefFinalize1Ideal.nD Cert.RefFinalize1Ideal.τ).loc Cert.RefFinalize1Ideal.main_arg2)) (m ((c.tc : Thread Cert.RefFinalize1Ideal.nD Cert.RefFinalize1Ideal.τ).loc Cert.RefFinalize1Ideal.main_arg3))) = (fun _ => 1#1)

def Pre_Fps128 (m : (ℓ : Loc Cert.Fps128.nD Cert.Fps128.τ Cert.Fps128.sig) → Buf (Elt Bits) ℓ) : Prop :=
  True

def Pre_Fps128Ideal (m : (ℓ : Loc Cert.Fps128Ideal.nD Cert.Fps128Ideal.τ Cert.Fps128Ideal.sig) → Buf (Elt Ideal) ℓ) : Prop :=
  True

def Pre_RefFps128Ideal (m : (ℓ : Loc Cert.RefFps128Ideal.nD Cert.RefFps128Ideal.τ Cert.RefFps128Ideal.sig) → Buf (Elt Ideal) ℓ) : Prop :=
  True

def Pre_Fps512 (m : (ℓ : Loc Cert.Fps512.nD Cert.Fps512.τ Cert.Fps512.sig) → Buf (Elt Bits) ℓ) : Prop :=
  True

def Pre_Fps512Ideal (m : (ℓ : Loc Cert.Fps512Ideal.nD Cert.Fps512Ideal.τ Cert.Fps512Ideal.sig) → Buf (Elt Ideal) ℓ) : Prop :=
  True

def Pre_RefFps512Ideal (m : (ℓ : Loc Cert.RefFps512Ideal.nD Cert.RefFps512Ideal.τ Cert.RefFps512Ideal.sig) → Buf (Elt Ideal) ℓ) : Prop :=
  True

def quiescent_StageSelf [hStageSelf : Cert.StageSelf.Facts] : Prop :=
  ∀ (m : (ℓ : Loc Cert.StageSelf.nD Cert.StageSelf.τ Cert.StageSelf.sig) → Buf (Elt Bits) ℓ) (g : Dev Cert.StageSelf.nD → PrngReg), Pre_StageSelf m →
    θ_run (Cert.StageSelf.defs (F := Bits)) (onTc (τ := Cert.StageSelf.τ) (Cert.StageSelf.main (F := Bits))) ⟨m, fun _ => 0, g⟩ (fun r => (∀ c : Dev Cert.StageSelf.nD,
      r.2.mem ((c.tc : Thread Cert.StageSelf.nD Cert.StageSelf.τ).loc Cert.StageSelf.main_arg0) = m ((c.tc : Thread Cert.StageSelf.nD Cert.StageSelf.τ).loc Cert.StageSelf.main_arg0)
      ∧ r.2.mem ((c.tc : Thread Cert.StageSelf.nD Cert.StageSelf.τ).loc Cert.StageSelf.main_arg1) = m ((c.tc : Thread Cert.StageSelf.nD Cert.StageSelf.τ).loc Cert.StageSelf.main_arg1)
      ∧ r.2.mem ((c.tc : Thread Cert.StageSelf.nD Cert.StageSelf.τ).loc Cert.StageSelf.main_arg2) = m ((c.tc : Thread Cert.StageSelf.nD Cert.StageSelf.τ).loc Cert.StageSelf.main_arg2))
      ∧ r.2.sem = fun _ => 0)

def quiescent_StageSelf_pre_no_tie_self [hStageSelf : Cert.StageSelf.Facts] [hPre_no_tie_self : Cert.Pre_no_tie_self.Facts] : Prop :=
  ∀ (m : (ℓ : Loc Cert.StageSelf.nD Cert.StageSelf.τ Cert.StageSelf.sig) → Buf (Elt Bits) ℓ) (g : Dev Cert.StageSelf.nD → PrngReg), Pre_StageSelf_no_tie_self m →
    θ_run (Cert.StageSelf.defs (F := Bits)) (onTc (τ := Cert.StageSelf.τ) (Cert.StageSelf.main (F := Bits))) ⟨m, fun _ => 0, g⟩ (fun r => (∀ c : Dev Cert.StageSelf.nD,
      r.2.mem ((c.tc : Thread Cert.StageSelf.nD Cert.StageSelf.τ).loc Cert.StageSelf.main_arg0) = m ((c.tc : Thread Cert.StageSelf.nD Cert.StageSelf.τ).loc Cert.StageSelf.main_arg0)
      ∧ r.2.mem ((c.tc : Thread Cert.StageSelf.nD Cert.StageSelf.τ).loc Cert.StageSelf.main_arg1) = m ((c.tc : Thread Cert.StageSelf.nD Cert.StageSelf.τ).loc Cert.StageSelf.main_arg1)
      ∧ r.2.mem ((c.tc : Thread Cert.StageSelf.nD Cert.StageSelf.τ).loc Cert.StageSelf.main_arg2) = m ((c.tc : Thread Cert.StageSelf.nD Cert.StageSelf.τ).loc Cert.StageSelf.main_arg2))
      ∧ r.2.sem = fun _ => 0)

def quiescent_StageSelfIdeal [hStageSelfIdeal : Cert.StageSelfIdeal.Facts] [hPre_no_tie_self : Cert.Pre_no_tie_self.Facts] : Prop :=
  ∀ (m : (ℓ : Loc Cert.StageSelfIdeal.nD Cert.StageSelfIdeal.τ Cert.StageSelfIdeal.sig) → Buf (Elt Ideal) ℓ) (g : Dev Cert.StageSelfIdeal.nD → PrngReg), Pre_StageSelfIdeal m →
    θ_run (Cert.StageSelfIdeal.defs (F := Ideal)) (onTc (τ := Cert.StageSelfIdeal.τ) (Cert.StageSelfIdeal.main (F := Ideal))) ⟨m, fun _ => 0, g⟩ (fun r => (∀ c : Dev Cert.StageSelfIdeal.nD,
      r.2.mem ((c.tc : Thread Cert.StageSelfIdeal.nD Cert.StageSelfIdeal.τ).loc Cert.StageSelfIdeal.main_arg0) = m ((c.tc : Thread Cert.StageSelfIdeal.nD Cert.StageSelfIdeal.τ).loc Cert.StageSelfIdeal.main_arg0)
      ∧ r.2.mem ((c.tc : Thread Cert.StageSelfIdeal.nD Cert.StageSelfIdeal.τ).loc Cert.StageSelfIdeal.main_arg1) = m ((c.tc : Thread Cert.StageSelfIdeal.nD Cert.StageSelfIdeal.τ).loc Cert.StageSelfIdeal.main_arg1)
      ∧ r.2.mem ((c.tc : Thread Cert.StageSelfIdeal.nD Cert.StageSelfIdeal.τ).loc Cert.StageSelfIdeal.main_arg2) = m ((c.tc : Thread Cert.StageSelfIdeal.nD Cert.StageSelfIdeal.τ).loc Cert.StageSelfIdeal.main_arg2))
      ∧ r.2.sem = fun _ => 0)

def quiescent_RefSelfIdeal [hRefSelfIdeal : Cert.RefSelfIdeal.Facts] : Prop :=
  ∀ (m : (ℓ : Loc Cert.RefSelfIdeal.nD Cert.RefSelfIdeal.τ Cert.RefSelfIdeal.sig) → Buf (Elt Ideal) ℓ) (g : Dev Cert.RefSelfIdeal.nD → PrngReg), Pre_RefSelfIdeal m →
    θ_run (Cert.RefSelfIdeal.defs (F := Ideal)) (onTc (τ := Cert.RefSelfIdeal.τ) (Cert.RefSelfIdeal.main (F := Ideal))) ⟨m, fun _ => 0, g⟩ (fun r => (∀ c : Dev Cert.RefSelfIdeal.nD,
      r.2.mem ((c.tc : Thread Cert.RefSelfIdeal.nD Cert.RefSelfIdeal.τ).loc Cert.RefSelfIdeal.main_arg0) = m ((c.tc : Thread Cert.RefSelfIdeal.nD Cert.RefSelfIdeal.τ).loc Cert.RefSelfIdeal.main_arg0)
      ∧ r.2.mem ((c.tc : Thread Cert.RefSelfIdeal.nD Cert.RefSelfIdeal.τ).loc Cert.RefSelfIdeal.main_arg1) = m ((c.tc : Thread Cert.RefSelfIdeal.nD Cert.RefSelfIdeal.τ).loc Cert.RefSelfIdeal.main_arg1)
      ∧ r.2.mem ((c.tc : Thread Cert.RefSelfIdeal.nD Cert.RefSelfIdeal.τ).loc Cert.RefSelfIdeal.main_arg2) = m ((c.tc : Thread Cert.RefSelfIdeal.nD Cert.RefSelfIdeal.τ).loc Cert.RefSelfIdeal.main_arg2))
      ∧ r.2.sem = fun _ => 0)

def quiescent_RefSelfIdeal_pre_no_tie_self [hRefSelfIdeal : Cert.RefSelfIdeal.Facts] [hPre_no_tie_self : Cert.Pre_no_tie_self.Facts] : Prop :=
  ∀ (m : (ℓ : Loc Cert.RefSelfIdeal.nD Cert.RefSelfIdeal.τ Cert.RefSelfIdeal.sig) → Buf (Elt Ideal) ℓ) (g : Dev Cert.RefSelfIdeal.nD → PrngReg), Pre_RefSelfIdeal_no_tie_self m →
    θ_run (Cert.RefSelfIdeal.defs (F := Ideal)) (onTc (τ := Cert.RefSelfIdeal.τ) (Cert.RefSelfIdeal.main (F := Ideal))) ⟨m, fun _ => 0, g⟩ (fun r => (∀ c : Dev Cert.RefSelfIdeal.nD,
      r.2.mem ((c.tc : Thread Cert.RefSelfIdeal.nD Cert.RefSelfIdeal.τ).loc Cert.RefSelfIdeal.main_arg0) = m ((c.tc : Thread Cert.RefSelfIdeal.nD Cert.RefSelfIdeal.τ).loc Cert.RefSelfIdeal.main_arg0)
      ∧ r.2.mem ((c.tc : Thread Cert.RefSelfIdeal.nD Cert.RefSelfIdeal.τ).loc Cert.RefSelfIdeal.main_arg1) = m ((c.tc : Thread Cert.RefSelfIdeal.nD Cert.RefSelfIdeal.τ).loc Cert.RefSelfIdeal.main_arg1)
      ∧ r.2.mem ((c.tc : Thread Cert.RefSelfIdeal.nD Cert.RefSelfIdeal.τ).loc Cert.RefSelfIdeal.main_arg2) = m ((c.tc : Thread Cert.RefSelfIdeal.nD Cert.RefSelfIdeal.τ).loc Cert.RefSelfIdeal.main_arg2))
      ∧ r.2.sem = fun _ => 0)

def quiescent_StageGather4 [hStageGather4 : Cert.StageGather4.Facts] : Prop :=
  ∀ (m : (ℓ : Loc Cert.StageGather4.nD Cert.StageGather4.τ Cert.StageGather4.sig) → Buf (Elt Bits) ℓ) (g : Dev Cert.StageGather4.nD → PrngReg), Pre_StageGather4 m →
    θ_run (Cert.StageGather4.defs (F := Bits)) (onTc (τ := Cert.StageGather4.τ) (Cert.StageGather4.main (F := Bits))) ⟨m, fun _ => 0, g⟩ (fun r => (∀ c : Dev Cert.StageGather4.nD,
      r.2.mem ((c.tc : Thread Cert.StageGather4.nD Cert.StageGather4.τ).loc Cert.StageGather4.main_arg0) = m ((c.tc : Thread Cert.StageGather4.nD Cert.StageGather4.τ).loc Cert.StageGather4.main_arg0)
      ∧ r.2.mem ((c.tc : Thread Cert.StageGather4.nD Cert.StageGather4.τ).loc Cert.StageGather4.main_arg1) = m ((c.tc : Thread Cert.StageGather4.nD Cert.StageGather4.τ).loc Cert.StageGather4.main_arg1)
      ∧ r.2.mem ((c.tc : Thread Cert.StageGather4.nD Cert.StageGather4.τ).loc Cert.StageGather4.main_arg2) = m ((c.tc : Thread Cert.StageGather4.nD Cert.StageGather4.τ).loc Cert.StageGather4.main_arg2)
      ∧ r.2.mem ((c.tc : Thread Cert.StageGather4.nD Cert.StageGather4.τ).loc Cert.StageGather4.main_arg3) = m ((c.tc : Thread Cert.StageGather4.nD Cert.StageGather4.τ).loc Cert.StageGather4.main_arg3)
      ∧ r.2.mem ((c.tc : Thread Cert.StageGather4.nD Cert.StageGather4.τ).loc Cert.StageGather4.main_arg4) = m ((c.tc : Thread Cert.StageGather4.nD Cert.StageGather4.τ).loc Cert.StageGather4.main_arg4))
      ∧ r.2.sem = fun _ => 0)

def quiescent_StageGather4_pre_no_tie_gather4 [hStageGather4 : Cert.StageGather4.Facts] [hPre_no_tie_gather4 : Cert.Pre_no_tie_gather4.Facts] : Prop :=
  ∀ (m : (ℓ : Loc Cert.StageGather4.nD Cert.StageGather4.τ Cert.StageGather4.sig) → Buf (Elt Bits) ℓ) (g : Dev Cert.StageGather4.nD → PrngReg), Pre_StageGather4_no_tie_gather4 m →
    θ_run (Cert.StageGather4.defs (F := Bits)) (onTc (τ := Cert.StageGather4.τ) (Cert.StageGather4.main (F := Bits))) ⟨m, fun _ => 0, g⟩ (fun r => (∀ c : Dev Cert.StageGather4.nD,
      r.2.mem ((c.tc : Thread Cert.StageGather4.nD Cert.StageGather4.τ).loc Cert.StageGather4.main_arg0) = m ((c.tc : Thread Cert.StageGather4.nD Cert.StageGather4.τ).loc Cert.StageGather4.main_arg0)
      ∧ r.2.mem ((c.tc : Thread Cert.StageGather4.nD Cert.StageGather4.τ).loc Cert.StageGather4.main_arg1) = m ((c.tc : Thread Cert.StageGather4.nD Cert.StageGather4.τ).loc Cert.StageGather4.main_arg1)
      ∧ r.2.mem ((c.tc : Thread Cert.StageGather4.nD Cert.StageGather4.τ).loc Cert.StageGather4.main_arg2) = m ((c.tc : Thread Cert.StageGather4.nD Cert.StageGather4.τ).loc Cert.StageGather4.main_arg2)
      ∧ r.2.mem ((c.tc : Thread Cert.StageGather4.nD Cert.StageGather4.τ).loc Cert.StageGather4.main_arg3) = m ((c.tc : Thread Cert.StageGather4.nD Cert.StageGather4.τ).loc Cert.StageGather4.main_arg3)
      ∧ r.2.mem ((c.tc : Thread Cert.StageGather4.nD Cert.StageGather4.τ).loc Cert.StageGather4.main_arg4) = m ((c.tc : Thread Cert.StageGather4.nD Cert.StageGather4.τ).loc Cert.StageGather4.main_arg4))
      ∧ r.2.sem = fun _ => 0)

def quiescent_StageGather4Ideal [hStageGather4Ideal : Cert.StageGather4Ideal.Facts] [hPre_no_tie_gather4 : Cert.Pre_no_tie_gather4.Facts] : Prop :=
  ∀ (m : (ℓ : Loc Cert.StageGather4Ideal.nD Cert.StageGather4Ideal.τ Cert.StageGather4Ideal.sig) → Buf (Elt Ideal) ℓ) (g : Dev Cert.StageGather4Ideal.nD → PrngReg), Pre_StageGather4Ideal m →
    θ_run (Cert.StageGather4Ideal.defs (F := Ideal)) (onTc (τ := Cert.StageGather4Ideal.τ) (Cert.StageGather4Ideal.main (F := Ideal))) ⟨m, fun _ => 0, g⟩ (fun r => (∀ c : Dev Cert.StageGather4Ideal.nD,
      r.2.mem ((c.tc : Thread Cert.StageGather4Ideal.nD Cert.StageGather4Ideal.τ).loc Cert.StageGather4Ideal.main_arg0) = m ((c.tc : Thread Cert.StageGather4Ideal.nD Cert.StageGather4Ideal.τ).loc Cert.StageGather4Ideal.main_arg0)
      ∧ r.2.mem ((c.tc : Thread Cert.StageGather4Ideal.nD Cert.StageGather4Ideal.τ).loc Cert.StageGather4Ideal.main_arg1) = m ((c.tc : Thread Cert.StageGather4Ideal.nD Cert.StageGather4Ideal.τ).loc Cert.StageGather4Ideal.main_arg1)
      ∧ r.2.mem ((c.tc : Thread Cert.StageGather4Ideal.nD Cert.StageGather4Ideal.τ).loc Cert.StageGather4Ideal.main_arg2) = m ((c.tc : Thread Cert.StageGather4Ideal.nD Cert.StageGather4Ideal.τ).loc Cert.StageGather4Ideal.main_arg2)
      ∧ r.2.mem ((c.tc : Thread Cert.StageGather4Ideal.nD Cert.StageGather4Ideal.τ).loc Cert.StageGather4Ideal.main_arg3) = m ((c.tc : Thread Cert.StageGather4Ideal.nD Cert.StageGather4Ideal.τ).loc Cert.StageGather4Ideal.main_arg3)
      ∧ r.2.mem ((c.tc : Thread Cert.StageGather4Ideal.nD Cert.StageGather4Ideal.τ).loc Cert.StageGather4Ideal.main_arg4) = m ((c.tc : Thread Cert.StageGather4Ideal.nD Cert.StageGather4Ideal.τ).loc Cert.StageGather4Ideal.main_arg4))
      ∧ r.2.sem = fun _ => 0)

def quiescent_RefGather4Ideal [hRefGather4Ideal : Cert.RefGather4Ideal.Facts] : Prop :=
  ∀ (m : (ℓ : Loc Cert.RefGather4Ideal.nD Cert.RefGather4Ideal.τ Cert.RefGather4Ideal.sig) → Buf (Elt Ideal) ℓ) (g : Dev Cert.RefGather4Ideal.nD → PrngReg), Pre_RefGather4Ideal m →
    θ_run (Cert.RefGather4Ideal.defs (F := Ideal)) (onTc (τ := Cert.RefGather4Ideal.τ) (Cert.RefGather4Ideal.main (F := Ideal))) ⟨m, fun _ => 0, g⟩ (fun r => (∀ c : Dev Cert.RefGather4Ideal.nD,
      r.2.mem ((c.tc : Thread Cert.RefGather4Ideal.nD Cert.RefGather4Ideal.τ).loc Cert.RefGather4Ideal.main_arg0) = m ((c.tc : Thread Cert.RefGather4Ideal.nD Cert.RefGather4Ideal.τ).loc Cert.RefGather4Ideal.main_arg0)
      ∧ r.2.mem ((c.tc : Thread Cert.RefGather4Ideal.nD Cert.RefGather4Ideal.τ).loc Cert.RefGather4Ideal.main_arg1) = m ((c.tc : Thread Cert.RefGather4Ideal.nD Cert.RefGather4Ideal.τ).loc Cert.RefGather4Ideal.main_arg1)
      ∧ r.2.mem ((c.tc : Thread Cert.RefGather4Ideal.nD Cert.RefGather4Ideal.τ).loc Cert.RefGather4Ideal.main_arg2) = m ((c.tc : Thread Cert.RefGather4Ideal.nD Cert.RefGather4Ideal.τ).loc Cert.RefGather4Ideal.main_arg2)
      ∧ r.2.mem ((c.tc : Thread Cert.RefGather4Ideal.nD Cert.RefGather4Ideal.τ).loc Cert.RefGather4Ideal.main_arg3) = m ((c.tc : Thread Cert.RefGather4Ideal.nD Cert.RefGather4Ideal.τ).loc Cert.RefGather4Ideal.main_arg3)
      ∧ r.2.mem ((c.tc : Thread Cert.RefGather4Ideal.nD Cert.RefGather4Ideal.τ).loc Cert.RefGather4Ideal.main_arg4) = m ((c.tc : Thread Cert.RefGather4Ideal.nD Cert.RefGather4Ideal.τ).loc Cert.RefGather4Ideal.main_arg4))
      ∧ r.2.sem = fun _ => 0)

def quiescent_RefGather4Ideal_pre_no_tie_gather4 [hRefGather4Ideal : Cert.RefGather4Ideal.Facts] [hPre_no_tie_gather4 : Cert.Pre_no_tie_gather4.Facts] : Prop :=
  ∀ (m : (ℓ : Loc Cert.RefGather4Ideal.nD Cert.RefGather4Ideal.τ Cert.RefGather4Ideal.sig) → Buf (Elt Ideal) ℓ) (g : Dev Cert.RefGather4Ideal.nD → PrngReg), Pre_RefGather4Ideal_no_tie_gather4 m →
    θ_run (Cert.RefGather4Ideal.defs (F := Ideal)) (onTc (τ := Cert.RefGather4Ideal.τ) (Cert.RefGather4Ideal.main (F := Ideal))) ⟨m, fun _ => 0, g⟩ (fun r => (∀ c : Dev Cert.RefGather4Ideal.nD,
      r.2.mem ((c.tc : Thread Cert.RefGather4Ideal.nD Cert.RefGather4Ideal.τ).loc Cert.RefGather4Ideal.main_arg0) = m ((c.tc : Thread Cert.RefGather4Ideal.nD Cert.RefGather4Ideal.τ).loc Cert.RefGather4Ideal.main_arg0)
      ∧ r.2.mem ((c.tc : Thread Cert.RefGather4Ideal.nD Cert.RefGather4Ideal.τ).loc Cert.RefGather4Ideal.main_arg1) = m ((c.tc : Thread Cert.RefGather4Ideal.nD Cert.RefGather4Ideal.τ).loc Cert.RefGather4Ideal.main_arg1)
      ∧ r.2.mem ((c.tc : Thread Cert.RefGather4Ideal.nD Cert.RefGather4Ideal.τ).loc Cert.RefGather4Ideal.main_arg2) = m ((c.tc : Thread Cert.RefGather4Ideal.nD Cert.RefGather4Ideal.τ).loc Cert.RefGather4Ideal.main_arg2)
      ∧ r.2.mem ((c.tc : Thread Cert.RefGather4Ideal.nD Cert.RefGather4Ideal.τ).loc Cert.RefGather4Ideal.main_arg3) = m ((c.tc : Thread Cert.RefGather4Ideal.nD Cert.RefGather4Ideal.τ).loc Cert.RefGather4Ideal.main_arg3)
      ∧ r.2.mem ((c.tc : Thread Cert.RefGather4Ideal.nD Cert.RefGather4Ideal.τ).loc Cert.RefGather4Ideal.main_arg4) = m ((c.tc : Thread Cert.RefGather4Ideal.nD Cert.RefGather4Ideal.τ).loc Cert.RefGather4Ideal.main_arg4))
      ∧ r.2.sem = fun _ => 0)

def quiescent_StageGather2 [hStageGather2 : Cert.StageGather2.Facts] : Prop :=
  ∀ (m : (ℓ : Loc Cert.StageGather2.nD Cert.StageGather2.τ Cert.StageGather2.sig) → Buf (Elt Bits) ℓ) (g : Dev Cert.StageGather2.nD → PrngReg), Pre_StageGather2 m →
    θ_run (Cert.StageGather2.defs (F := Bits)) (onTc (τ := Cert.StageGather2.τ) (Cert.StageGather2.main (F := Bits))) ⟨m, fun _ => 0, g⟩ (fun r => (∀ c : Dev Cert.StageGather2.nD,
      r.2.mem ((c.tc : Thread Cert.StageGather2.nD Cert.StageGather2.τ).loc Cert.StageGather2.main_arg0) = m ((c.tc : Thread Cert.StageGather2.nD Cert.StageGather2.τ).loc Cert.StageGather2.main_arg0)
      ∧ r.2.mem ((c.tc : Thread Cert.StageGather2.nD Cert.StageGather2.τ).loc Cert.StageGather2.main_arg1) = m ((c.tc : Thread Cert.StageGather2.nD Cert.StageGather2.τ).loc Cert.StageGather2.main_arg1)
      ∧ r.2.mem ((c.tc : Thread Cert.StageGather2.nD Cert.StageGather2.τ).loc Cert.StageGather2.main_arg2) = m ((c.tc : Thread Cert.StageGather2.nD Cert.StageGather2.τ).loc Cert.StageGather2.main_arg2)
      ∧ r.2.mem ((c.tc : Thread Cert.StageGather2.nD Cert.StageGather2.τ).loc Cert.StageGather2.main_arg3) = m ((c.tc : Thread Cert.StageGather2.nD Cert.StageGather2.τ).loc Cert.StageGather2.main_arg3)
      ∧ r.2.mem ((c.tc : Thread Cert.StageGather2.nD Cert.StageGather2.τ).loc Cert.StageGather2.main_arg4) = m ((c.tc : Thread Cert.StageGather2.nD Cert.StageGather2.τ).loc Cert.StageGather2.main_arg4))
      ∧ r.2.sem = fun _ => 0)

def quiescent_StageGather2_pre_no_tie_gather2 [hStageGather2 : Cert.StageGather2.Facts] [hPre_no_tie_gather2 : Cert.Pre_no_tie_gather2.Facts] : Prop :=
  ∀ (m : (ℓ : Loc Cert.StageGather2.nD Cert.StageGather2.τ Cert.StageGather2.sig) → Buf (Elt Bits) ℓ) (g : Dev Cert.StageGather2.nD → PrngReg), Pre_StageGather2_no_tie_gather2 m →
    θ_run (Cert.StageGather2.defs (F := Bits)) (onTc (τ := Cert.StageGather2.τ) (Cert.StageGather2.main (F := Bits))) ⟨m, fun _ => 0, g⟩ (fun r => (∀ c : Dev Cert.StageGather2.nD,
      r.2.mem ((c.tc : Thread Cert.StageGather2.nD Cert.StageGather2.τ).loc Cert.StageGather2.main_arg0) = m ((c.tc : Thread Cert.StageGather2.nD Cert.StageGather2.τ).loc Cert.StageGather2.main_arg0)
      ∧ r.2.mem ((c.tc : Thread Cert.StageGather2.nD Cert.StageGather2.τ).loc Cert.StageGather2.main_arg1) = m ((c.tc : Thread Cert.StageGather2.nD Cert.StageGather2.τ).loc Cert.StageGather2.main_arg1)
      ∧ r.2.mem ((c.tc : Thread Cert.StageGather2.nD Cert.StageGather2.τ).loc Cert.StageGather2.main_arg2) = m ((c.tc : Thread Cert.StageGather2.nD Cert.StageGather2.τ).loc Cert.StageGather2.main_arg2)
      ∧ r.2.mem ((c.tc : Thread Cert.StageGather2.nD Cert.StageGather2.τ).loc Cert.StageGather2.main_arg3) = m ((c.tc : Thread Cert.StageGather2.nD Cert.StageGather2.τ).loc Cert.StageGather2.main_arg3)
      ∧ r.2.mem ((c.tc : Thread Cert.StageGather2.nD Cert.StageGather2.τ).loc Cert.StageGather2.main_arg4) = m ((c.tc : Thread Cert.StageGather2.nD Cert.StageGather2.τ).loc Cert.StageGather2.main_arg4))
      ∧ r.2.sem = fun _ => 0)

def quiescent_StageGather2Ideal [hStageGather2Ideal : Cert.StageGather2Ideal.Facts] [hPre_no_tie_gather2 : Cert.Pre_no_tie_gather2.Facts] : Prop :=
  ∀ (m : (ℓ : Loc Cert.StageGather2Ideal.nD Cert.StageGather2Ideal.τ Cert.StageGather2Ideal.sig) → Buf (Elt Ideal) ℓ) (g : Dev Cert.StageGather2Ideal.nD → PrngReg), Pre_StageGather2Ideal m →
    θ_run (Cert.StageGather2Ideal.defs (F := Ideal)) (onTc (τ := Cert.StageGather2Ideal.τ) (Cert.StageGather2Ideal.main (F := Ideal))) ⟨m, fun _ => 0, g⟩ (fun r => (∀ c : Dev Cert.StageGather2Ideal.nD,
      r.2.mem ((c.tc : Thread Cert.StageGather2Ideal.nD Cert.StageGather2Ideal.τ).loc Cert.StageGather2Ideal.main_arg0) = m ((c.tc : Thread Cert.StageGather2Ideal.nD Cert.StageGather2Ideal.τ).loc Cert.StageGather2Ideal.main_arg0)
      ∧ r.2.mem ((c.tc : Thread Cert.StageGather2Ideal.nD Cert.StageGather2Ideal.τ).loc Cert.StageGather2Ideal.main_arg1) = m ((c.tc : Thread Cert.StageGather2Ideal.nD Cert.StageGather2Ideal.τ).loc Cert.StageGather2Ideal.main_arg1)
      ∧ r.2.mem ((c.tc : Thread Cert.StageGather2Ideal.nD Cert.StageGather2Ideal.τ).loc Cert.StageGather2Ideal.main_arg2) = m ((c.tc : Thread Cert.StageGather2Ideal.nD Cert.StageGather2Ideal.τ).loc Cert.StageGather2Ideal.main_arg2)
      ∧ r.2.mem ((c.tc : Thread Cert.StageGather2Ideal.nD Cert.StageGather2Ideal.τ).loc Cert.StageGather2Ideal.main_arg3) = m ((c.tc : Thread Cert.StageGather2Ideal.nD Cert.StageGather2Ideal.τ).loc Cert.StageGather2Ideal.main_arg3)
      ∧ r.2.mem ((c.tc : Thread Cert.StageGather2Ideal.nD Cert.StageGather2Ideal.τ).loc Cert.StageGather2Ideal.main_arg4) = m ((c.tc : Thread Cert.StageGather2Ideal.nD Cert.StageGather2Ideal.τ).loc Cert.StageGather2Ideal.main_arg4))
      ∧ r.2.sem = fun _ => 0)

def quiescent_RefGather2Ideal [hRefGather2Ideal : Cert.RefGather2Ideal.Facts] : Prop :=
  ∀ (m : (ℓ : Loc Cert.RefGather2Ideal.nD Cert.RefGather2Ideal.τ Cert.RefGather2Ideal.sig) → Buf (Elt Ideal) ℓ) (g : Dev Cert.RefGather2Ideal.nD → PrngReg), Pre_RefGather2Ideal m →
    θ_run (Cert.RefGather2Ideal.defs (F := Ideal)) (onTc (τ := Cert.RefGather2Ideal.τ) (Cert.RefGather2Ideal.main (F := Ideal))) ⟨m, fun _ => 0, g⟩ (fun r => (∀ c : Dev Cert.RefGather2Ideal.nD,
      r.2.mem ((c.tc : Thread Cert.RefGather2Ideal.nD Cert.RefGather2Ideal.τ).loc Cert.RefGather2Ideal.main_arg0) = m ((c.tc : Thread Cert.RefGather2Ideal.nD Cert.RefGather2Ideal.τ).loc Cert.RefGather2Ideal.main_arg0)
      ∧ r.2.mem ((c.tc : Thread Cert.RefGather2Ideal.nD Cert.RefGather2Ideal.τ).loc Cert.RefGather2Ideal.main_arg1) = m ((c.tc : Thread Cert.RefGather2Ideal.nD Cert.RefGather2Ideal.τ).loc Cert.RefGather2Ideal.main_arg1)
      ∧ r.2.mem ((c.tc : Thread Cert.RefGather2Ideal.nD Cert.RefGather2Ideal.τ).loc Cert.RefGather2Ideal.main_arg2) = m ((c.tc : Thread Cert.RefGather2Ideal.nD Cert.RefGather2Ideal.τ).loc Cert.RefGather2Ideal.main_arg2)
      ∧ r.2.mem ((c.tc : Thread Cert.RefGather2Ideal.nD Cert.RefGather2Ideal.τ).loc Cert.RefGather2Ideal.main_arg3) = m ((c.tc : Thread Cert.RefGather2Ideal.nD Cert.RefGather2Ideal.τ).loc Cert.RefGather2Ideal.main_arg3)
      ∧ r.2.mem ((c.tc : Thread Cert.RefGather2Ideal.nD Cert.RefGather2Ideal.τ).loc Cert.RefGather2Ideal.main_arg4) = m ((c.tc : Thread Cert.RefGather2Ideal.nD Cert.RefGather2Ideal.τ).loc Cert.RefGather2Ideal.main_arg4))
      ∧ r.2.sem = fun _ => 0)

def quiescent_RefGather2Ideal_pre_no_tie_gather2 [hRefGather2Ideal : Cert.RefGather2Ideal.Facts] [hPre_no_tie_gather2 : Cert.Pre_no_tie_gather2.Facts] : Prop :=
  ∀ (m : (ℓ : Loc Cert.RefGather2Ideal.nD Cert.RefGather2Ideal.τ Cert.RefGather2Ideal.sig) → Buf (Elt Ideal) ℓ) (g : Dev Cert.RefGather2Ideal.nD → PrngReg), Pre_RefGather2Ideal_no_tie_gather2 m →
    θ_run (Cert.RefGather2Ideal.defs (F := Ideal)) (onTc (τ := Cert.RefGather2Ideal.τ) (Cert.RefGather2Ideal.main (F := Ideal))) ⟨m, fun _ => 0, g⟩ (fun r => (∀ c : Dev Cert.RefGather2Ideal.nD,
      r.2.mem ((c.tc : Thread Cert.RefGather2Ideal.nD Cert.RefGather2Ideal.τ).loc Cert.RefGather2Ideal.main_arg0) = m ((c.tc : Thread Cert.RefGather2Ideal.nD Cert.RefGather2Ideal.τ).loc Cert.RefGather2Ideal.main_arg0)
      ∧ r.2.mem ((c.tc : Thread Cert.RefGather2Ideal.nD Cert.RefGather2Ideal.τ).loc Cert.RefGather2Ideal.main_arg1) = m ((c.tc : Thread Cert.RefGather2Ideal.nD Cert.RefGather2Ideal.τ).loc Cert.RefGather2Ideal.main_arg1)
      ∧ r.2.mem ((c.tc : Thread Cert.RefGather2Ideal.nD Cert.RefGather2Ideal.τ).loc Cert.RefGather2Ideal.main_arg2) = m ((c.tc : Thread Cert.RefGather2Ideal.nD Cert.RefGather2Ideal.τ).loc Cert.RefGather2Ideal.main_arg2)
      ∧ r.2.mem ((c.tc : Thread Cert.RefGather2Ideal.nD Cert.RefGather2Ideal.τ).loc Cert.RefGather2Ideal.main_arg3) = m ((c.tc : Thread Cert.RefGather2Ideal.nD Cert.RefGather2Ideal.τ).loc Cert.RefGather2Ideal.main_arg3)
      ∧ r.2.mem ((c.tc : Thread Cert.RefGather2Ideal.nD Cert.RefGather2Ideal.τ).loc Cert.RefGather2Ideal.main_arg4) = m ((c.tc : Thread Cert.RefGather2Ideal.nD Cert.RefGather2Ideal.τ).loc Cert.RefGather2Ideal.main_arg4))
      ∧ r.2.sem = fun _ => 0)

def quiescent_StageFirst [hStageFirst : Cert.StageFirst.Facts] : Prop :=
  ∀ (m : (ℓ : Loc Cert.StageFirst.nD Cert.StageFirst.τ Cert.StageFirst.sig) → Buf (Elt Bits) ℓ) (g : Dev Cert.StageFirst.nD → PrngReg), Pre_StageFirst m →
    θ_run (Cert.StageFirst.defs (F := Bits)) (onTc (τ := Cert.StageFirst.τ) (Cert.StageFirst.main (F := Bits))) ⟨m, fun _ => 0, g⟩ (fun r => (∀ c : Dev Cert.StageFirst.nD,
      r.2.mem ((c.tc : Thread Cert.StageFirst.nD Cert.StageFirst.τ).loc Cert.StageFirst.main_arg0) = m ((c.tc : Thread Cert.StageFirst.nD Cert.StageFirst.τ).loc Cert.StageFirst.main_arg0)
      ∧ r.2.mem ((c.tc : Thread Cert.StageFirst.nD Cert.StageFirst.τ).loc Cert.StageFirst.main_arg1) = m ((c.tc : Thread Cert.StageFirst.nD Cert.StageFirst.τ).loc Cert.StageFirst.main_arg1)
      ∧ r.2.mem ((c.tc : Thread Cert.StageFirst.nD Cert.StageFirst.τ).loc Cert.StageFirst.main_arg2) = m ((c.tc : Thread Cert.StageFirst.nD Cert.StageFirst.τ).loc Cert.StageFirst.main_arg2)
      ∧ r.2.mem ((c.tc : Thread Cert.StageFirst.nD Cert.StageFirst.τ).loc Cert.StageFirst.main_arg3) = m ((c.tc : Thread Cert.StageFirst.nD Cert.StageFirst.τ).loc Cert.StageFirst.main_arg3))
      ∧ r.2.sem = fun _ => 0)

def quiescent_StageFirst_pre_no_tie_stage1 [hStageFirst : Cert.StageFirst.Facts] [hPre_no_tie_stage1 : Cert.Pre_no_tie_stage1.Facts] : Prop :=
  ∀ (m : (ℓ : Loc Cert.StageFirst.nD Cert.StageFirst.τ Cert.StageFirst.sig) → Buf (Elt Bits) ℓ) (g : Dev Cert.StageFirst.nD → PrngReg), Pre_StageFirst_no_tie_stage1 m →
    θ_run (Cert.StageFirst.defs (F := Bits)) (onTc (τ := Cert.StageFirst.τ) (Cert.StageFirst.main (F := Bits))) ⟨m, fun _ => 0, g⟩ (fun r => (∀ c : Dev Cert.StageFirst.nD,
      r.2.mem ((c.tc : Thread Cert.StageFirst.nD Cert.StageFirst.τ).loc Cert.StageFirst.main_arg0) = m ((c.tc : Thread Cert.StageFirst.nD Cert.StageFirst.τ).loc Cert.StageFirst.main_arg0)
      ∧ r.2.mem ((c.tc : Thread Cert.StageFirst.nD Cert.StageFirst.τ).loc Cert.StageFirst.main_arg1) = m ((c.tc : Thread Cert.StageFirst.nD Cert.StageFirst.τ).loc Cert.StageFirst.main_arg1)
      ∧ r.2.mem ((c.tc : Thread Cert.StageFirst.nD Cert.StageFirst.τ).loc Cert.StageFirst.main_arg2) = m ((c.tc : Thread Cert.StageFirst.nD Cert.StageFirst.τ).loc Cert.StageFirst.main_arg2)
      ∧ r.2.mem ((c.tc : Thread Cert.StageFirst.nD Cert.StageFirst.τ).loc Cert.StageFirst.main_arg3) = m ((c.tc : Thread Cert.StageFirst.nD Cert.StageFirst.τ).loc Cert.StageFirst.main_arg3))
      ∧ r.2.sem = fun _ => 0)

def quiescent_StageFirstIdeal [hStageFirstIdeal : Cert.StageFirstIdeal.Facts] [hPre_no_tie_stage1 : Cert.Pre_no_tie_stage1.Facts] : Prop :=
  ∀ (m : (ℓ : Loc Cert.StageFirstIdeal.nD Cert.StageFirstIdeal.τ Cert.StageFirstIdeal.sig) → Buf (Elt Ideal) ℓ) (g : Dev Cert.StageFirstIdeal.nD → PrngReg), Pre_StageFirstIdeal m →
    θ_run (Cert.StageFirstIdeal.defs (F := Ideal)) (onTc (τ := Cert.StageFirstIdeal.τ) (Cert.StageFirstIdeal.main (F := Ideal))) ⟨m, fun _ => 0, g⟩ (fun r => (∀ c : Dev Cert.StageFirstIdeal.nD,
      r.2.mem ((c.tc : Thread Cert.StageFirstIdeal.nD Cert.StageFirstIdeal.τ).loc Cert.StageFirstIdeal.main_arg0) = m ((c.tc : Thread Cert.StageFirstIdeal.nD Cert.StageFirstIdeal.τ).loc Cert.StageFirstIdeal.main_arg0)
      ∧ r.2.mem ((c.tc : Thread Cert.StageFirstIdeal.nD Cert.StageFirstIdeal.τ).loc Cert.StageFirstIdeal.main_arg1) = m ((c.tc : Thread Cert.StageFirstIdeal.nD Cert.StageFirstIdeal.τ).loc Cert.StageFirstIdeal.main_arg1)
      ∧ r.2.mem ((c.tc : Thread Cert.StageFirstIdeal.nD Cert.StageFirstIdeal.τ).loc Cert.StageFirstIdeal.main_arg2) = m ((c.tc : Thread Cert.StageFirstIdeal.nD Cert.StageFirstIdeal.τ).loc Cert.StageFirstIdeal.main_arg2)
      ∧ r.2.mem ((c.tc : Thread Cert.StageFirstIdeal.nD Cert.StageFirstIdeal.τ).loc Cert.StageFirstIdeal.main_arg3) = m ((c.tc : Thread Cert.StageFirstIdeal.nD Cert.StageFirstIdeal.τ).loc Cert.StageFirstIdeal.main_arg3))
      ∧ r.2.sem = fun _ => 0)

def quiescent_RefFirstIdeal [hRefFirstIdeal : Cert.RefFirstIdeal.Facts] : Prop :=
  ∀ (m : (ℓ : Loc Cert.RefFirstIdeal.nD Cert.RefFirstIdeal.τ Cert.RefFirstIdeal.sig) → Buf (Elt Ideal) ℓ) (g : Dev Cert.RefFirstIdeal.nD → PrngReg), Pre_RefFirstIdeal m →
    θ_run (Cert.RefFirstIdeal.defs (F := Ideal)) (onTc (τ := Cert.RefFirstIdeal.τ) (Cert.RefFirstIdeal.main (F := Ideal))) ⟨m, fun _ => 0, g⟩ (fun r => (∀ c : Dev Cert.RefFirstIdeal.nD,
      r.2.mem ((c.tc : Thread Cert.RefFirstIdeal.nD Cert.RefFirstIdeal.τ).loc Cert.RefFirstIdeal.main_arg0) = m ((c.tc : Thread Cert.RefFirstIdeal.nD Cert.RefFirstIdeal.τ).loc Cert.RefFirstIdeal.main_arg0)
      ∧ r.2.mem ((c.tc : Thread Cert.RefFirstIdeal.nD Cert.RefFirstIdeal.τ).loc Cert.RefFirstIdeal.main_arg1) = m ((c.tc : Thread Cert.RefFirstIdeal.nD Cert.RefFirstIdeal.τ).loc Cert.RefFirstIdeal.main_arg1)
      ∧ r.2.mem ((c.tc : Thread Cert.RefFirstIdeal.nD Cert.RefFirstIdeal.τ).loc Cert.RefFirstIdeal.main_arg2) = m ((c.tc : Thread Cert.RefFirstIdeal.nD Cert.RefFirstIdeal.τ).loc Cert.RefFirstIdeal.main_arg2)
      ∧ r.2.mem ((c.tc : Thread Cert.RefFirstIdeal.nD Cert.RefFirstIdeal.τ).loc Cert.RefFirstIdeal.main_arg3) = m ((c.tc : Thread Cert.RefFirstIdeal.nD Cert.RefFirstIdeal.τ).loc Cert.RefFirstIdeal.main_arg3))
      ∧ r.2.sem = fun _ => 0)

def quiescent_RefFirstIdeal_pre_no_tie_stage1 [hRefFirstIdeal : Cert.RefFirstIdeal.Facts] [hPre_no_tie_stage1 : Cert.Pre_no_tie_stage1.Facts] : Prop :=
  ∀ (m : (ℓ : Loc Cert.RefFirstIdeal.nD Cert.RefFirstIdeal.τ Cert.RefFirstIdeal.sig) → Buf (Elt Ideal) ℓ) (g : Dev Cert.RefFirstIdeal.nD → PrngReg), Pre_RefFirstIdeal_no_tie_stage1 m →
    θ_run (Cert.RefFirstIdeal.defs (F := Ideal)) (onTc (τ := Cert.RefFirstIdeal.τ) (Cert.RefFirstIdeal.main (F := Ideal))) ⟨m, fun _ => 0, g⟩ (fun r => (∀ c : Dev Cert.RefFirstIdeal.nD,
      r.2.mem ((c.tc : Thread Cert.RefFirstIdeal.nD Cert.RefFirstIdeal.τ).loc Cert.RefFirstIdeal.main_arg0) = m ((c.tc : Thread Cert.RefFirstIdeal.nD Cert.RefFirstIdeal.τ).loc Cert.RefFirstIdeal.main_arg0)
      ∧ r.2.mem ((c.tc : Thread Cert.RefFirstIdeal.nD Cert.RefFirstIdeal.τ).loc Cert.RefFirstIdeal.main_arg1) = m ((c.tc : Thread Cert.RefFirstIdeal.nD Cert.RefFirstIdeal.τ).loc Cert.RefFirstIdeal.main_arg1)
      ∧ r.2.mem ((c.tc : Thread Cert.RefFirstIdeal.nD Cert.RefFirstIdeal.τ).loc Cert.RefFirstIdeal.main_arg2) = m ((c.tc : Thread Cert.RefFirstIdeal.nD Cert.RefFirstIdeal.τ).loc Cert.RefFirstIdeal.main_arg2)
      ∧ r.2.mem ((c.tc : Thread Cert.RefFirstIdeal.nD Cert.RefFirstIdeal.τ).loc Cert.RefFirstIdeal.main_arg3) = m ((c.tc : Thread Cert.RefFirstIdeal.nD Cert.RefFirstIdeal.τ).loc Cert.RefFirstIdeal.main_arg3))
      ∧ r.2.sem = fun _ => 0)

def quiescent_Finalize4 [hFinalize4 : Cert.Finalize4.Facts] : Prop :=
  ∀ (m : (ℓ : Loc Cert.Finalize4.nD Cert.Finalize4.τ Cert.Finalize4.sig) → Buf (Elt Bits) ℓ) (g : Dev Cert.Finalize4.nD → PrngReg), Pre_Finalize4 m →
    θ_run (Cert.Finalize4.defs (F := Bits)) (onTc (τ := Cert.Finalize4.τ) (Cert.Finalize4.main (F := Bits))) ⟨m, fun _ => 0, g⟩ (fun r => (∀ c : Dev Cert.Finalize4.nD,
      r.2.mem ((c.tc : Thread Cert.Finalize4.nD Cert.Finalize4.τ).loc Cert.Finalize4.main_arg0) = m ((c.tc : Thread Cert.Finalize4.nD Cert.Finalize4.τ).loc Cert.Finalize4.main_arg0)
      ∧ r.2.mem ((c.tc : Thread Cert.Finalize4.nD Cert.Finalize4.τ).loc Cert.Finalize4.main_arg1) = m ((c.tc : Thread Cert.Finalize4.nD Cert.Finalize4.τ).loc Cert.Finalize4.main_arg1)
      ∧ r.2.mem ((c.tc : Thread Cert.Finalize4.nD Cert.Finalize4.τ).loc Cert.Finalize4.main_arg2) = m ((c.tc : Thread Cert.Finalize4.nD Cert.Finalize4.τ).loc Cert.Finalize4.main_arg2)
      ∧ r.2.mem ((c.tc : Thread Cert.Finalize4.nD Cert.Finalize4.τ).loc Cert.Finalize4.main_arg3) = m ((c.tc : Thread Cert.Finalize4.nD Cert.Finalize4.τ).loc Cert.Finalize4.main_arg3))
      ∧ r.2.sem = fun _ => 0)

def quiescent_Finalize4Ideal [hFinalize4Ideal : Cert.Finalize4Ideal.Facts] : Prop :=
  ∀ (m : (ℓ : Loc Cert.Finalize4Ideal.nD Cert.Finalize4Ideal.τ Cert.Finalize4Ideal.sig) → Buf (Elt Ideal) ℓ) (g : Dev Cert.Finalize4Ideal.nD → PrngReg), Pre_Finalize4Ideal m →
    θ_run (Cert.Finalize4Ideal.defs (F := Ideal)) (onTc (τ := Cert.Finalize4Ideal.τ) (Cert.Finalize4Ideal.main (F := Ideal))) ⟨m, fun _ => 0, g⟩ (fun r => (∀ c : Dev Cert.Finalize4Ideal.nD,
      r.2.mem ((c.tc : Thread Cert.Finalize4Ideal.nD Cert.Finalize4Ideal.τ).loc Cert.Finalize4Ideal.main_arg0) = m ((c.tc : Thread Cert.Finalize4Ideal.nD Cert.Finalize4Ideal.τ).loc Cert.Finalize4Ideal.main_arg0)
      ∧ r.2.mem ((c.tc : Thread Cert.Finalize4Ideal.nD Cert.Finalize4Ideal.τ).loc Cert.Finalize4Ideal.main_arg1) = m ((c.tc : Thread Cert.Finalize4Ideal.nD Cert.Finalize4Ideal.τ).loc Cert.Finalize4Ideal.main_arg1)
      ∧ r.2.mem ((c.tc : Thread Cert.Finalize4Ideal.nD Cert.Finalize4Ideal.τ).loc Cert.Finalize4Ideal.main_arg2) = m ((c.tc : Thread Cert.Finalize4Ideal.nD Cert.Finalize4Ideal.τ).loc Cert.Finalize4Ideal.main_arg2)
      ∧ r.2.mem ((c.tc : Thread Cert.Finalize4Ideal.nD Cert.Finalize4Ideal.τ).loc Cert.Finalize4Ideal.main_arg3) = m ((c.tc : Thread Cert.Finalize4Ideal.nD Cert.Finalize4Ideal.τ).loc Cert.Finalize4Ideal.main_arg3))
      ∧ r.2.sem = fun _ => 0)

def quiescent_Finalize4Ideal_pre_spread4 [hFinalize4Ideal : Cert.Finalize4Ideal.Facts] [hPre_spread4 : Cert.Pre_spread4.Facts] : Prop :=
  ∀ (m : (ℓ : Loc Cert.Finalize4Ideal.nD Cert.Finalize4Ideal.τ Cert.Finalize4Ideal.sig) → Buf (Elt Ideal) ℓ) (g : Dev Cert.Finalize4Ideal.nD → PrngReg), Pre_Finalize4Ideal_spread4 m →
    θ_run (Cert.Finalize4Ideal.defs (F := Ideal)) (onTc (τ := Cert.Finalize4Ideal.τ) (Cert.Finalize4Ideal.main (F := Ideal))) ⟨m, fun _ => 0, g⟩ (fun r => (∀ c : Dev Cert.Finalize4Ideal.nD,
      r.2.mem ((c.tc : Thread Cert.Finalize4Ideal.nD Cert.Finalize4Ideal.τ).loc Cert.Finalize4Ideal.main_arg0) = m ((c.tc : Thread Cert.Finalize4Ideal.nD Cert.Finalize4Ideal.τ).loc Cert.Finalize4Ideal.main_arg0)
      ∧ r.2.mem ((c.tc : Thread Cert.Finalize4Ideal.nD Cert.Finalize4Ideal.τ).loc Cert.Finalize4Ideal.main_arg1) = m ((c.tc : Thread Cert.Finalize4Ideal.nD Cert.Finalize4Ideal.τ).loc Cert.Finalize4Ideal.main_arg1)
      ∧ r.2.mem ((c.tc : Thread Cert.Finalize4Ideal.nD Cert.Finalize4Ideal.τ).loc Cert.Finalize4Ideal.main_arg2) = m ((c.tc : Thread Cert.Finalize4Ideal.nD Cert.Finalize4Ideal.τ).loc Cert.Finalize4Ideal.main_arg2)
      ∧ r.2.mem ((c.tc : Thread Cert.Finalize4Ideal.nD Cert.Finalize4Ideal.τ).loc Cert.Finalize4Ideal.main_arg3) = m ((c.tc : Thread Cert.Finalize4Ideal.nD Cert.Finalize4Ideal.τ).loc Cert.Finalize4Ideal.main_arg3))
      ∧ r.2.sem = fun _ => 0)

def quiescent_RefFinalize4Ideal [hRefFinalize4Ideal : Cert.RefFinalize4Ideal.Facts] : Prop :=
  ∀ (m : (ℓ : Loc Cert.RefFinalize4Ideal.nD Cert.RefFinalize4Ideal.τ Cert.RefFinalize4Ideal.sig) → Buf (Elt Ideal) ℓ) (g : Dev Cert.RefFinalize4Ideal.nD → PrngReg), Pre_RefFinalize4Ideal m →
    θ_run (Cert.RefFinalize4Ideal.defs (F := Ideal)) (onTc (τ := Cert.RefFinalize4Ideal.τ) (Cert.RefFinalize4Ideal.main (F := Ideal))) ⟨m, fun _ => 0, g⟩ (fun r => (∀ c : Dev Cert.RefFinalize4Ideal.nD,
      r.2.mem ((c.tc : Thread Cert.RefFinalize4Ideal.nD Cert.RefFinalize4Ideal.τ).loc Cert.RefFinalize4Ideal.main_arg0) = m ((c.tc : Thread Cert.RefFinalize4Ideal.nD Cert.RefFinalize4Ideal.τ).loc Cert.RefFinalize4Ideal.main_arg0)
      ∧ r.2.mem ((c.tc : Thread Cert.RefFinalize4Ideal.nD Cert.RefFinalize4Ideal.τ).loc Cert.RefFinalize4Ideal.main_arg1) = m ((c.tc : Thread Cert.RefFinalize4Ideal.nD Cert.RefFinalize4Ideal.τ).loc Cert.RefFinalize4Ideal.main_arg1)
      ∧ r.2.mem ((c.tc : Thread Cert.RefFinalize4Ideal.nD Cert.RefFinalize4Ideal.τ).loc Cert.RefFinalize4Ideal.main_arg2) = m ((c.tc : Thread Cert.RefFinalize4Ideal.nD Cert.RefFinalize4Ideal.τ).loc Cert.RefFinalize4Ideal.main_arg2)
      ∧ r.2.mem ((c.tc : Thread Cert.RefFinalize4Ideal.nD Cert.RefFinalize4Ideal.τ).loc Cert.RefFinalize4Ideal.main_arg3) = m ((c.tc : Thread Cert.RefFinalize4Ideal.nD Cert.RefFinalize4Ideal.τ).loc Cert.RefFinalize4Ideal.main_arg3))
      ∧ r.2.sem = fun _ => 0)

def quiescent_RefFinalize4Ideal_pre_spread4 [hRefFinalize4Ideal : Cert.RefFinalize4Ideal.Facts] [hPre_spread4 : Cert.Pre_spread4.Facts] : Prop :=
  ∀ (m : (ℓ : Loc Cert.RefFinalize4Ideal.nD Cert.RefFinalize4Ideal.τ Cert.RefFinalize4Ideal.sig) → Buf (Elt Ideal) ℓ) (g : Dev Cert.RefFinalize4Ideal.nD → PrngReg), Pre_RefFinalize4Ideal_spread4 m →
    θ_run (Cert.RefFinalize4Ideal.defs (F := Ideal)) (onTc (τ := Cert.RefFinalize4Ideal.τ) (Cert.RefFinalize4Ideal.main (F := Ideal))) ⟨m, fun _ => 0, g⟩ (fun r => (∀ c : Dev Cert.RefFinalize4Ideal.nD,
      r.2.mem ((c.tc : Thread Cert.RefFinalize4Ideal.nD Cert.RefFinalize4Ideal.τ).loc Cert.RefFinalize4Ideal.main_arg0) = m ((c.tc : Thread Cert.RefFinalize4Ideal.nD Cert.RefFinalize4Ideal.τ).loc Cert.RefFinalize4Ideal.main_arg0)
      ∧ r.2.mem ((c.tc : Thread Cert.RefFinalize4Ideal.nD Cert.RefFinalize4Ideal.τ).loc Cert.RefFinalize4Ideal.main_arg1) = m ((c.tc : Thread Cert.RefFinalize4Ideal.nD Cert.RefFinalize4Ideal.τ).loc Cert.RefFinalize4Ideal.main_arg1)
      ∧ r.2.mem ((c.tc : Thread Cert.RefFinalize4Ideal.nD Cert.RefFinalize4Ideal.τ).loc Cert.RefFinalize4Ideal.main_arg2) = m ((c.tc : Thread Cert.RefFinalize4Ideal.nD Cert.RefFinalize4Ideal.τ).loc Cert.RefFinalize4Ideal.main_arg2)
      ∧ r.2.mem ((c.tc : Thread Cert.RefFinalize4Ideal.nD Cert.RefFinalize4Ideal.τ).loc Cert.RefFinalize4Ideal.main_arg3) = m ((c.tc : Thread Cert.RefFinalize4Ideal.nD Cert.RefFinalize4Ideal.τ).loc Cert.RefFinalize4Ideal.main_arg3))
      ∧ r.2.sem = fun _ => 0)

def quiescent_Finalize2 [hFinalize2 : Cert.Finalize2.Facts] : Prop :=
  ∀ (m : (ℓ : Loc Cert.Finalize2.nD Cert.Finalize2.τ Cert.Finalize2.sig) → Buf (Elt Bits) ℓ) (g : Dev Cert.Finalize2.nD → PrngReg), Pre_Finalize2 m →
    θ_run (Cert.Finalize2.defs (F := Bits)) (onTc (τ := Cert.Finalize2.τ) (Cert.Finalize2.main (F := Bits))) ⟨m, fun _ => 0, g⟩ (fun r => (∀ c : Dev Cert.Finalize2.nD,
      r.2.mem ((c.tc : Thread Cert.Finalize2.nD Cert.Finalize2.τ).loc Cert.Finalize2.main_arg0) = m ((c.tc : Thread Cert.Finalize2.nD Cert.Finalize2.τ).loc Cert.Finalize2.main_arg0)
      ∧ r.2.mem ((c.tc : Thread Cert.Finalize2.nD Cert.Finalize2.τ).loc Cert.Finalize2.main_arg1) = m ((c.tc : Thread Cert.Finalize2.nD Cert.Finalize2.τ).loc Cert.Finalize2.main_arg1)
      ∧ r.2.mem ((c.tc : Thread Cert.Finalize2.nD Cert.Finalize2.τ).loc Cert.Finalize2.main_arg2) = m ((c.tc : Thread Cert.Finalize2.nD Cert.Finalize2.τ).loc Cert.Finalize2.main_arg2)
      ∧ r.2.mem ((c.tc : Thread Cert.Finalize2.nD Cert.Finalize2.τ).loc Cert.Finalize2.main_arg3) = m ((c.tc : Thread Cert.Finalize2.nD Cert.Finalize2.τ).loc Cert.Finalize2.main_arg3))
      ∧ r.2.sem = fun _ => 0)

def quiescent_Finalize2Ideal [hFinalize2Ideal : Cert.Finalize2Ideal.Facts] : Prop :=
  ∀ (m : (ℓ : Loc Cert.Finalize2Ideal.nD Cert.Finalize2Ideal.τ Cert.Finalize2Ideal.sig) → Buf (Elt Ideal) ℓ) (g : Dev Cert.Finalize2Ideal.nD → PrngReg), Pre_Finalize2Ideal m →
    θ_run (Cert.Finalize2Ideal.defs (F := Ideal)) (onTc (τ := Cert.Finalize2Ideal.τ) (Cert.Finalize2Ideal.main (F := Ideal))) ⟨m, fun _ => 0, g⟩ (fun r => (∀ c : Dev Cert.Finalize2Ideal.nD,
      r.2.mem ((c.tc : Thread Cert.Finalize2Ideal.nD Cert.Finalize2Ideal.τ).loc Cert.Finalize2Ideal.main_arg0) = m ((c.tc : Thread Cert.Finalize2Ideal.nD Cert.Finalize2Ideal.τ).loc Cert.Finalize2Ideal.main_arg0)
      ∧ r.2.mem ((c.tc : Thread Cert.Finalize2Ideal.nD Cert.Finalize2Ideal.τ).loc Cert.Finalize2Ideal.main_arg1) = m ((c.tc : Thread Cert.Finalize2Ideal.nD Cert.Finalize2Ideal.τ).loc Cert.Finalize2Ideal.main_arg1)
      ∧ r.2.mem ((c.tc : Thread Cert.Finalize2Ideal.nD Cert.Finalize2Ideal.τ).loc Cert.Finalize2Ideal.main_arg2) = m ((c.tc : Thread Cert.Finalize2Ideal.nD Cert.Finalize2Ideal.τ).loc Cert.Finalize2Ideal.main_arg2)
      ∧ r.2.mem ((c.tc : Thread Cert.Finalize2Ideal.nD Cert.Finalize2Ideal.τ).loc Cert.Finalize2Ideal.main_arg3) = m ((c.tc : Thread Cert.Finalize2Ideal.nD Cert.Finalize2Ideal.τ).loc Cert.Finalize2Ideal.main_arg3))
      ∧ r.2.sem = fun _ => 0)

def quiescent_Finalize2Ideal_pre_spread2 [hFinalize2Ideal : Cert.Finalize2Ideal.Facts] [hPre_spread2 : Cert.Pre_spread2.Facts] : Prop :=
  ∀ (m : (ℓ : Loc Cert.Finalize2Ideal.nD Cert.Finalize2Ideal.τ Cert.Finalize2Ideal.sig) → Buf (Elt Ideal) ℓ) (g : Dev Cert.Finalize2Ideal.nD → PrngReg), Pre_Finalize2Ideal_spread2 m →
    θ_run (Cert.Finalize2Ideal.defs (F := Ideal)) (onTc (τ := Cert.Finalize2Ideal.τ) (Cert.Finalize2Ideal.main (F := Ideal))) ⟨m, fun _ => 0, g⟩ (fun r => (∀ c : Dev Cert.Finalize2Ideal.nD,
      r.2.mem ((c.tc : Thread Cert.Finalize2Ideal.nD Cert.Finalize2Ideal.τ).loc Cert.Finalize2Ideal.main_arg0) = m ((c.tc : Thread Cert.Finalize2Ideal.nD Cert.Finalize2Ideal.τ).loc Cert.Finalize2Ideal.main_arg0)
      ∧ r.2.mem ((c.tc : Thread Cert.Finalize2Ideal.nD Cert.Finalize2Ideal.τ).loc Cert.Finalize2Ideal.main_arg1) = m ((c.tc : Thread Cert.Finalize2Ideal.nD Cert.Finalize2Ideal.τ).loc Cert.Finalize2Ideal.main_arg1)
      ∧ r.2.mem ((c.tc : Thread Cert.Finalize2Ideal.nD Cert.Finalize2Ideal.τ).loc Cert.Finalize2Ideal.main_arg2) = m ((c.tc : Thread Cert.Finalize2Ideal.nD Cert.Finalize2Ideal.τ).loc Cert.Finalize2Ideal.main_arg2)
      ∧ r.2.mem ((c.tc : Thread Cert.Finalize2Ideal.nD Cert.Finalize2Ideal.τ).loc Cert.Finalize2Ideal.main_arg3) = m ((c.tc : Thread Cert.Finalize2Ideal.nD Cert.Finalize2Ideal.τ).loc Cert.Finalize2Ideal.main_arg3))
      ∧ r.2.sem = fun _ => 0)

def quiescent_RefFinalize2Ideal [hRefFinalize2Ideal : Cert.RefFinalize2Ideal.Facts] : Prop :=
  ∀ (m : (ℓ : Loc Cert.RefFinalize2Ideal.nD Cert.RefFinalize2Ideal.τ Cert.RefFinalize2Ideal.sig) → Buf (Elt Ideal) ℓ) (g : Dev Cert.RefFinalize2Ideal.nD → PrngReg), Pre_RefFinalize2Ideal m →
    θ_run (Cert.RefFinalize2Ideal.defs (F := Ideal)) (onTc (τ := Cert.RefFinalize2Ideal.τ) (Cert.RefFinalize2Ideal.main (F := Ideal))) ⟨m, fun _ => 0, g⟩ (fun r => (∀ c : Dev Cert.RefFinalize2Ideal.nD,
      r.2.mem ((c.tc : Thread Cert.RefFinalize2Ideal.nD Cert.RefFinalize2Ideal.τ).loc Cert.RefFinalize2Ideal.main_arg0) = m ((c.tc : Thread Cert.RefFinalize2Ideal.nD Cert.RefFinalize2Ideal.τ).loc Cert.RefFinalize2Ideal.main_arg0)
      ∧ r.2.mem ((c.tc : Thread Cert.RefFinalize2Ideal.nD Cert.RefFinalize2Ideal.τ).loc Cert.RefFinalize2Ideal.main_arg1) = m ((c.tc : Thread Cert.RefFinalize2Ideal.nD Cert.RefFinalize2Ideal.τ).loc Cert.RefFinalize2Ideal.main_arg1)
      ∧ r.2.mem ((c.tc : Thread Cert.RefFinalize2Ideal.nD Cert.RefFinalize2Ideal.τ).loc Cert.RefFinalize2Ideal.main_arg2) = m ((c.tc : Thread Cert.RefFinalize2Ideal.nD Cert.RefFinalize2Ideal.τ).loc Cert.RefFinalize2Ideal.main_arg2)
      ∧ r.2.mem ((c.tc : Thread Cert.RefFinalize2Ideal.nD Cert.RefFinalize2Ideal.τ).loc Cert.RefFinalize2Ideal.main_arg3) = m ((c.tc : Thread Cert.RefFinalize2Ideal.nD Cert.RefFinalize2Ideal.τ).loc Cert.RefFinalize2Ideal.main_arg3))
      ∧ r.2.sem = fun _ => 0)

def quiescent_RefFinalize2Ideal_pre_spread2 [hRefFinalize2Ideal : Cert.RefFinalize2Ideal.Facts] [hPre_spread2 : Cert.Pre_spread2.Facts] : Prop :=
  ∀ (m : (ℓ : Loc Cert.RefFinalize2Ideal.nD Cert.RefFinalize2Ideal.τ Cert.RefFinalize2Ideal.sig) → Buf (Elt Ideal) ℓ) (g : Dev Cert.RefFinalize2Ideal.nD → PrngReg), Pre_RefFinalize2Ideal_spread2 m →
    θ_run (Cert.RefFinalize2Ideal.defs (F := Ideal)) (onTc (τ := Cert.RefFinalize2Ideal.τ) (Cert.RefFinalize2Ideal.main (F := Ideal))) ⟨m, fun _ => 0, g⟩ (fun r => (∀ c : Dev Cert.RefFinalize2Ideal.nD,
      r.2.mem ((c.tc : Thread Cert.RefFinalize2Ideal.nD Cert.RefFinalize2Ideal.τ).loc Cert.RefFinalize2Ideal.main_arg0) = m ((c.tc : Thread Cert.RefFinalize2Ideal.nD Cert.RefFinalize2Ideal.τ).loc Cert.RefFinalize2Ideal.main_arg0)
      ∧ r.2.mem ((c.tc : Thread Cert.RefFinalize2Ideal.nD Cert.RefFinalize2Ideal.τ).loc Cert.RefFinalize2Ideal.main_arg1) = m ((c.tc : Thread Cert.RefFinalize2Ideal.nD Cert.RefFinalize2Ideal.τ).loc Cert.RefFinalize2Ideal.main_arg1)
      ∧ r.2.mem ((c.tc : Thread Cert.RefFinalize2Ideal.nD Cert.RefFinalize2Ideal.τ).loc Cert.RefFinalize2Ideal.main_arg2) = m ((c.tc : Thread Cert.RefFinalize2Ideal.nD Cert.RefFinalize2Ideal.τ).loc Cert.RefFinalize2Ideal.main_arg2)
      ∧ r.2.mem ((c.tc : Thread Cert.RefFinalize2Ideal.nD Cert.RefFinalize2Ideal.τ).loc Cert.RefFinalize2Ideal.main_arg3) = m ((c.tc : Thread Cert.RefFinalize2Ideal.nD Cert.RefFinalize2Ideal.τ).loc Cert.RefFinalize2Ideal.main_arg3))
      ∧ r.2.sem = fun _ => 0)

def quiescent_Finalize1 [hFinalize1 : Cert.Finalize1.Facts] : Prop :=
  ∀ (m : (ℓ : Loc Cert.Finalize1.nD Cert.Finalize1.τ Cert.Finalize1.sig) → Buf (Elt Bits) ℓ) (g : Dev Cert.Finalize1.nD → PrngReg), Pre_Finalize1 m →
    θ_run (Cert.Finalize1.defs (F := Bits)) (onTc (τ := Cert.Finalize1.τ) (Cert.Finalize1.main (F := Bits))) ⟨m, fun _ => 0, g⟩ (fun r => (∀ c : Dev Cert.Finalize1.nD,
      r.2.mem ((c.tc : Thread Cert.Finalize1.nD Cert.Finalize1.τ).loc Cert.Finalize1.main_arg0) = m ((c.tc : Thread Cert.Finalize1.nD Cert.Finalize1.τ).loc Cert.Finalize1.main_arg0)
      ∧ r.2.mem ((c.tc : Thread Cert.Finalize1.nD Cert.Finalize1.τ).loc Cert.Finalize1.main_arg1) = m ((c.tc : Thread Cert.Finalize1.nD Cert.Finalize1.τ).loc Cert.Finalize1.main_arg1)
      ∧ r.2.mem ((c.tc : Thread Cert.Finalize1.nD Cert.Finalize1.τ).loc Cert.Finalize1.main_arg2) = m ((c.tc : Thread Cert.Finalize1.nD Cert.Finalize1.τ).loc Cert.Finalize1.main_arg2)
      ∧ r.2.mem ((c.tc : Thread Cert.Finalize1.nD Cert.Finalize1.τ).loc Cert.Finalize1.main_arg3) = m ((c.tc : Thread Cert.Finalize1.nD Cert.Finalize1.τ).loc Cert.Finalize1.main_arg3))
      ∧ r.2.sem = fun _ => 0)

def quiescent_Finalize1Ideal [hFinalize1Ideal : Cert.Finalize1Ideal.Facts] : Prop :=
  ∀ (m : (ℓ : Loc Cert.Finalize1Ideal.nD Cert.Finalize1Ideal.τ Cert.Finalize1Ideal.sig) → Buf (Elt Ideal) ℓ) (g : Dev Cert.Finalize1Ideal.nD → PrngReg), Pre_Finalize1Ideal m →
    θ_run (Cert.Finalize1Ideal.defs (F := Ideal)) (onTc (τ := Cert.Finalize1Ideal.τ) (Cert.Finalize1Ideal.main (F := Ideal))) ⟨m, fun _ => 0, g⟩ (fun r => (∀ c : Dev Cert.Finalize1Ideal.nD,
      r.2.mem ((c.tc : Thread Cert.Finalize1Ideal.nD Cert.Finalize1Ideal.τ).loc Cert.Finalize1Ideal.main_arg0) = m ((c.tc : Thread Cert.Finalize1Ideal.nD Cert.Finalize1Ideal.τ).loc Cert.Finalize1Ideal.main_arg0)
      ∧ r.2.mem ((c.tc : Thread Cert.Finalize1Ideal.nD Cert.Finalize1Ideal.τ).loc Cert.Finalize1Ideal.main_arg1) = m ((c.tc : Thread Cert.Finalize1Ideal.nD Cert.Finalize1Ideal.τ).loc Cert.Finalize1Ideal.main_arg1)
      ∧ r.2.mem ((c.tc : Thread Cert.Finalize1Ideal.nD Cert.Finalize1Ideal.τ).loc Cert.Finalize1Ideal.main_arg2) = m ((c.tc : Thread Cert.Finalize1Ideal.nD Cert.Finalize1Ideal.τ).loc Cert.Finalize1Ideal.main_arg2)
      ∧ r.2.mem ((c.tc : Thread Cert.Finalize1Ideal.nD Cert.Finalize1Ideal.τ).loc Cert.Finalize1Ideal.main_arg3) = m ((c.tc : Thread Cert.Finalize1Ideal.nD Cert.Finalize1Ideal.τ).loc Cert.Finalize1Ideal.main_arg3))
      ∧ r.2.sem = fun _ => 0)

def quiescent_Finalize1Ideal_pre_spread1 [hFinalize1Ideal : Cert.Finalize1Ideal.Facts] [hPre_spread1 : Cert.Pre_spread1.Facts] : Prop :=
  ∀ (m : (ℓ : Loc Cert.Finalize1Ideal.nD Cert.Finalize1Ideal.τ Cert.Finalize1Ideal.sig) → Buf (Elt Ideal) ℓ) (g : Dev Cert.Finalize1Ideal.nD → PrngReg), Pre_Finalize1Ideal_spread1 m →
    θ_run (Cert.Finalize1Ideal.defs (F := Ideal)) (onTc (τ := Cert.Finalize1Ideal.τ) (Cert.Finalize1Ideal.main (F := Ideal))) ⟨m, fun _ => 0, g⟩ (fun r => (∀ c : Dev Cert.Finalize1Ideal.nD,
      r.2.mem ((c.tc : Thread Cert.Finalize1Ideal.nD Cert.Finalize1Ideal.τ).loc Cert.Finalize1Ideal.main_arg0) = m ((c.tc : Thread Cert.Finalize1Ideal.nD Cert.Finalize1Ideal.τ).loc Cert.Finalize1Ideal.main_arg0)
      ∧ r.2.mem ((c.tc : Thread Cert.Finalize1Ideal.nD Cert.Finalize1Ideal.τ).loc Cert.Finalize1Ideal.main_arg1) = m ((c.tc : Thread Cert.Finalize1Ideal.nD Cert.Finalize1Ideal.τ).loc Cert.Finalize1Ideal.main_arg1)
      ∧ r.2.mem ((c.tc : Thread Cert.Finalize1Ideal.nD Cert.Finalize1Ideal.τ).loc Cert.Finalize1Ideal.main_arg2) = m ((c.tc : Thread Cert.Finalize1Ideal.nD Cert.Finalize1Ideal.τ).loc Cert.Finalize1Ideal.main_arg2)
      ∧ r.2.mem ((c.tc : Thread Cert.Finalize1Ideal.nD Cert.Finalize1Ideal.τ).loc Cert.Finalize1Ideal.main_arg3) = m ((c.tc : Thread Cert.Finalize1Ideal.nD Cert.Finalize1Ideal.τ).loc Cert.Finalize1Ideal.main_arg3))
      ∧ r.2.sem = fun _ => 0)

def quiescent_RefFinalize1Ideal [hRefFinalize1Ideal : Cert.RefFinalize1Ideal.Facts] : Prop :=
  ∀ (m : (ℓ : Loc Cert.RefFinalize1Ideal.nD Cert.RefFinalize1Ideal.τ Cert.RefFinalize1Ideal.sig) → Buf (Elt Ideal) ℓ) (g : Dev Cert.RefFinalize1Ideal.nD → PrngReg), Pre_RefFinalize1Ideal m →
    θ_run (Cert.RefFinalize1Ideal.defs (F := Ideal)) (onTc (τ := Cert.RefFinalize1Ideal.τ) (Cert.RefFinalize1Ideal.main (F := Ideal))) ⟨m, fun _ => 0, g⟩ (fun r => (∀ c : Dev Cert.RefFinalize1Ideal.nD,
      r.2.mem ((c.tc : Thread Cert.RefFinalize1Ideal.nD Cert.RefFinalize1Ideal.τ).loc Cert.RefFinalize1Ideal.main_arg0) = m ((c.tc : Thread Cert.RefFinalize1Ideal.nD Cert.RefFinalize1Ideal.τ).loc Cert.RefFinalize1Ideal.main_arg0)
      ∧ r.2.mem ((c.tc : Thread Cert.RefFinalize1Ideal.nD Cert.RefFinalize1Ideal.τ).loc Cert.RefFinalize1Ideal.main_arg1) = m ((c.tc : Thread Cert.RefFinalize1Ideal.nD Cert.RefFinalize1Ideal.τ).loc Cert.RefFinalize1Ideal.main_arg1)
      ∧ r.2.mem ((c.tc : Thread Cert.RefFinalize1Ideal.nD Cert.RefFinalize1Ideal.τ).loc Cert.RefFinalize1Ideal.main_arg2) = m ((c.tc : Thread Cert.RefFinalize1Ideal.nD Cert.RefFinalize1Ideal.τ).loc Cert.RefFinalize1Ideal.main_arg2)
      ∧ r.2.mem ((c.tc : Thread Cert.RefFinalize1Ideal.nD Cert.RefFinalize1Ideal.τ).loc Cert.RefFinalize1Ideal.main_arg3) = m ((c.tc : Thread Cert.RefFinalize1Ideal.nD Cert.RefFinalize1Ideal.τ).loc Cert.RefFinalize1Ideal.main_arg3))
      ∧ r.2.sem = fun _ => 0)

def quiescent_RefFinalize1Ideal_pre_spread1 [hRefFinalize1Ideal : Cert.RefFinalize1Ideal.Facts] [hPre_spread1 : Cert.Pre_spread1.Facts] : Prop :=
  ∀ (m : (ℓ : Loc Cert.RefFinalize1Ideal.nD Cert.RefFinalize1Ideal.τ Cert.RefFinalize1Ideal.sig) → Buf (Elt Ideal) ℓ) (g : Dev Cert.RefFinalize1Ideal.nD → PrngReg), Pre_RefFinalize1Ideal_spread1 m →
    θ_run (Cert.RefFinalize1Ideal.defs (F := Ideal)) (onTc (τ := Cert.RefFinalize1Ideal.τ) (Cert.RefFinalize1Ideal.main (F := Ideal))) ⟨m, fun _ => 0, g⟩ (fun r => (∀ c : Dev Cert.RefFinalize1Ideal.nD,
      r.2.mem ((c.tc : Thread Cert.RefFinalize1Ideal.nD Cert.RefFinalize1Ideal.τ).loc Cert.RefFinalize1Ideal.main_arg0) = m ((c.tc : Thread Cert.RefFinalize1Ideal.nD Cert.RefFinalize1Ideal.τ).loc Cert.RefFinalize1Ideal.main_arg0)
      ∧ r.2.mem ((c.tc : Thread Cert.RefFinalize1Ideal.nD Cert.RefFinalize1Ideal.τ).loc Cert.RefFinalize1Ideal.main_arg1) = m ((c.tc : Thread Cert.RefFinalize1Ideal.nD Cert.RefFinalize1Ideal.τ).loc Cert.RefFinalize1Ideal.main_arg1)
      ∧ r.2.mem ((c.tc : Thread Cert.RefFinalize1Ideal.nD Cert.RefFinalize1Ideal.τ).loc Cert.RefFinalize1Ideal.main_arg2) = m ((c.tc : Thread Cert.RefFinalize1Ideal.nD Cert.RefFinalize1Ideal.τ).loc Cert.RefFinalize1Ideal.main_arg2)
      ∧ r.2.mem ((c.tc : Thread Cert.RefFinalize1Ideal.nD Cert.RefFinalize1Ideal.τ).loc Cert.RefFinalize1Ideal.main_arg3) = m ((c.tc : Thread Cert.RefFinalize1Ideal.nD Cert.RefFinalize1Ideal.τ).loc Cert.RefFinalize1Ideal.main_arg3))
      ∧ r.2.sem = fun _ => 0)

def quiescent_Fps128 [hFps128 : Cert.Fps128.Facts] : Prop :=
  ∀ (m : (ℓ : Loc Cert.Fps128.nD Cert.Fps128.τ Cert.Fps128.sig) → Buf (Elt Bits) ℓ) (g : Dev Cert.Fps128.nD → PrngReg), Pre_Fps128 m →
    θ_run (Cert.Fps128.defs (F := Bits)) (onTc (τ := Cert.Fps128.τ) (Cert.Fps128.main (F := Bits))) ⟨m, fun _ => 0, g⟩ (fun r => (∀ c : Dev Cert.Fps128.nD,
      r.2.mem ((c.tc : Thread Cert.Fps128.nD Cert.Fps128.τ).loc Cert.Fps128.main_arg0) = m ((c.tc : Thread Cert.Fps128.nD Cert.Fps128.τ).loc Cert.Fps128.main_arg0))
      ∧ r.2.sem = fun _ => 0)

def quiescent_Fps128Ideal [hFps128Ideal : Cert.Fps128Ideal.Facts] : Prop :=
  ∀ (m : (ℓ : Loc Cert.Fps128Ideal.nD Cert.Fps128Ideal.τ Cert.Fps128Ideal.sig) → Buf (Elt Ideal) ℓ) (g : Dev Cert.Fps128Ideal.nD → PrngReg), Pre_Fps128Ideal m →
    θ_run (Cert.Fps128Ideal.defs (F := Ideal)) (onTc (τ := Cert.Fps128Ideal.τ) (Cert.Fps128Ideal.main (F := Ideal))) ⟨m, fun _ => 0, g⟩ (fun r => (∀ c : Dev Cert.Fps128Ideal.nD,
      r.2.mem ((c.tc : Thread Cert.Fps128Ideal.nD Cert.Fps128Ideal.τ).loc Cert.Fps128Ideal.main_arg0) = m ((c.tc : Thread Cert.Fps128Ideal.nD Cert.Fps128Ideal.τ).loc Cert.Fps128Ideal.main_arg0))
      ∧ r.2.sem = fun _ => 0)

def quiescent_RefFps128Ideal [hRefFps128Ideal : Cert.RefFps128Ideal.Facts] : Prop :=
  ∀ (m : (ℓ : Loc Cert.RefFps128Ideal.nD Cert.RefFps128Ideal.τ Cert.RefFps128Ideal.sig) → Buf (Elt Ideal) ℓ) (g : Dev Cert.RefFps128Ideal.nD → PrngReg), Pre_RefFps128Ideal m →
    θ_run (Cert.RefFps128Ideal.defs (F := Ideal)) (onTc (τ := Cert.RefFps128Ideal.τ) (Cert.RefFps128Ideal.main (F := Ideal))) ⟨m, fun _ => 0, g⟩ (fun r => (∀ c : Dev Cert.RefFps128Ideal.nD,
      r.2.mem ((c.tc : Thread Cert.RefFps128Ideal.nD Cert.RefFps128Ideal.τ).loc Cert.RefFps128Ideal.main_arg0) = m ((c.tc : Thread Cert.RefFps128Ideal.nD Cert.RefFps128Ideal.τ).loc Cert.RefFps128Ideal.main_arg0))
      ∧ r.2.sem = fun _ => 0)

def quiescent_Fps512 [hFps512 : Cert.Fps512.Facts] : Prop :=
  ∀ (m : (ℓ : Loc Cert.Fps512.nD Cert.Fps512.τ Cert.Fps512.sig) → Buf (Elt Bits) ℓ) (g : Dev Cert.Fps512.nD → PrngReg), Pre_Fps512 m →
    θ_run (Cert.Fps512.defs (F := Bits)) (onTc (τ := Cert.Fps512.τ) (Cert.Fps512.main (F := Bits))) ⟨m, fun _ => 0, g⟩ (fun r => (∀ c : Dev Cert.Fps512.nD,
      r.2.mem ((c.tc : Thread Cert.Fps512.nD Cert.Fps512.τ).loc Cert.Fps512.main_arg0) = m ((c.tc : Thread Cert.Fps512.nD Cert.Fps512.τ).loc Cert.Fps512.main_arg0))
      ∧ r.2.sem = fun _ => 0)

def quiescent_Fps512Ideal [hFps512Ideal : Cert.Fps512Ideal.Facts] : Prop :=
  ∀ (m : (ℓ : Loc Cert.Fps512Ideal.nD Cert.Fps512Ideal.τ Cert.Fps512Ideal.sig) → Buf (Elt Ideal) ℓ) (g : Dev Cert.Fps512Ideal.nD → PrngReg), Pre_Fps512Ideal m →
    θ_run (Cert.Fps512Ideal.defs (F := Ideal)) (onTc (τ := Cert.Fps512Ideal.τ) (Cert.Fps512Ideal.main (F := Ideal))) ⟨m, fun _ => 0, g⟩ (fun r => (∀ c : Dev Cert.Fps512Ideal.nD,
      r.2.mem ((c.tc : Thread Cert.Fps512Ideal.nD Cert.Fps512Ideal.τ).loc Cert.Fps512Ideal.main_arg0) = m ((c.tc : Thread Cert.Fps512Ideal.nD Cert.Fps512Ideal.τ).loc Cert.Fps512Ideal.main_arg0))
      ∧ r.2.sem = fun _ => 0)

def quiescent_RefFps512Ideal [hRefFps512Ideal : Cert.RefFps512Ideal.Facts] : Prop :=
  ∀ (m : (ℓ : Loc Cert.RefFps512Ideal.nD Cert.RefFps512Ideal.τ Cert.RefFps512Ideal.sig) → Buf (Elt Ideal) ℓ) (g : Dev Cert.RefFps512Ideal.nD → PrngReg), Pre_RefFps512Ideal m →
    θ_run (Cert.RefFps512Ideal.defs (F := Ideal)) (onTc (τ := Cert.RefFps512Ideal.τ) (Cert.RefFps512Ideal.main (F := Ideal))) ⟨m, fun _ => 0, g⟩ (fun r => (∀ c : Dev Cert.RefFps512Ideal.nD,
      r.2.mem ((c.tc : Thread Cert.RefFps512Ideal.nD Cert.RefFps512Ideal.τ).loc Cert.RefFps512Ideal.main_arg0) = m ((c.tc : Thread Cert.RefFps512Ideal.nD Cert.RefFps512Ideal.τ).loc Cert.RefFps512Ideal.main_arg0))
      ∧ r.2.sem = fun _ => 0)

def preserves_StageSelf_StageSelfIdeal : Prop :=
  IdealRules.named_const.Statement Cert.StageSelfIdeal.κ "neg_mask" .f32 0xF149F2CA#32 ⊥
  ∧ IdealRules.named_const.Statement Cert.StageSelfIdeal.κ "mask" .f32 0x7149F2CA#32 ⊤

def algebraic_StageSelfIdeal_RefSelfIdeal [hStageSelfIdeal : Cert.StageSelfIdeal.Facts] [hRefSelfIdeal : Cert.RefSelfIdeal.Facts] [hPre_no_tie_self : Cert.Pre_no_tie_self.Facts] : Prop :=
  ∀ (m : (ℓ : Loc Cert.StageSelfIdeal.nD Cert.StageSelfIdeal.τ Cert.StageSelfIdeal.sig) → Buf (Elt Ideal) ℓ) (g : Dev Cert.StageSelfIdeal.nD → PrngReg)
    (m' : (ℓ : Loc Cert.RefSelfIdeal.nD Cert.RefSelfIdeal.τ Cert.RefSelfIdeal.sig) → Buf (Elt Ideal) ℓ) (g' : Dev Cert.RefSelfIdeal.nD → PrngReg), Pre_StageSelfIdeal m →
    (∀ c : Dev Cert.StageSelfIdeal.nD,
      m' ((c.tc : Thread Cert.RefSelfIdeal.nD Cert.RefSelfIdeal.τ).loc Cert.RefSelfIdeal.main_arg0) = m ((c.tc : Thread Cert.StageSelfIdeal.nD Cert.StageSelfIdeal.τ).loc Cert.StageSelfIdeal.main_arg0)
      ∧ m' ((c.tc : Thread Cert.RefSelfIdeal.nD Cert.RefSelfIdeal.τ).loc Cert.RefSelfIdeal.main_arg1) = m ((c.tc : Thread Cert.StageSelfIdeal.nD Cert.StageSelfIdeal.τ).loc Cert.StageSelfIdeal.main_arg1)
      ∧ m' ((c.tc : Thread Cert.RefSelfIdeal.nD Cert.RefSelfIdeal.τ).loc Cert.RefSelfIdeal.main_arg2) = m ((c.tc : Thread Cert.StageSelfIdeal.nD Cert.StageSelfIdeal.τ).loc Cert.StageSelfIdeal.main_arg2)) →
    ∃ (v0 : (c : Dev Cert.StageSelfIdeal.nD) → Buf (Elt Ideal) ((c.tc : Thread Cert.StageSelfIdeal.nD Cert.StageSelfIdeal.τ).loc Cert.StageSelfIdeal.main_v0_0)) (v1 : (c : Dev Cert.StageSelfIdeal.nD) → Buf (Elt Ideal) ((c.tc : Thread Cert.StageSelfIdeal.nD Cert.StageSelfIdeal.τ).loc Cert.StageSelfIdeal.main_v0_1)),
      θ_run (Cert.StageSelfIdeal.defs (F := Ideal)) (onTc (τ := Cert.StageSelfIdeal.τ) (Cert.StageSelfIdeal.main (F := Ideal))) ⟨m, fun _ => 0, g⟩ (fun r => ∀ c : Dev Cert.StageSelfIdeal.nD,
          r.2.mem ((c.tc : Thread Cert.StageSelfIdeal.nD Cert.StageSelfIdeal.τ).loc Cert.StageSelfIdeal.main_v0_0) = v0 c
          ∧ r.2.mem ((c.tc : Thread Cert.StageSelfIdeal.nD Cert.StageSelfIdeal.τ).loc Cert.StageSelfIdeal.main_v0_1) = v1 c
          ∧ r.2.mem ((c.tc : Thread Cert.StageSelfIdeal.nD Cert.StageSelfIdeal.τ).loc Cert.StageSelfIdeal.main_arg0) = m ((c.tc : Thread Cert.StageSelfIdeal.nD Cert.StageSelfIdeal.τ).loc Cert.StageSelfIdeal.main_arg0)
          ∧ r.2.mem ((c.tc : Thread Cert.StageSelfIdeal.nD Cert.StageSelfIdeal.τ).loc Cert.StageSelfIdeal.main_arg1) = m ((c.tc : Thread Cert.StageSelfIdeal.nD Cert.StageSelfIdeal.τ).loc Cert.StageSelfIdeal.main_arg1)
          ∧ r.2.mem ((c.tc : Thread Cert.StageSelfIdeal.nD Cert.StageSelfIdeal.τ).loc Cert.StageSelfIdeal.main_arg2) = m ((c.tc : Thread Cert.StageSelfIdeal.nD Cert.StageSelfIdeal.τ).loc Cert.StageSelfIdeal.main_arg2))
      ∧ θ_run (Cert.RefSelfIdeal.defs (F := Ideal)) (onTc (τ := Cert.RefSelfIdeal.τ) (Cert.RefSelfIdeal.main (F := Ideal))) ⟨m', fun _ => 0, g'⟩ (fun r => ∀ c : Dev Cert.RefSelfIdeal.nD,
          r.2.mem ((c.tc : Thread Cert.RefSelfIdeal.nD Cert.RefSelfIdeal.τ).loc Cert.RefSelfIdeal.main_v37) = v0 c
          ∧ r.2.mem ((c.tc : Thread Cert.RefSelfIdeal.nD Cert.RefSelfIdeal.τ).loc Cert.RefSelfIdeal.main_v40) = v1 c
          ∧ r.2.mem ((c.tc : Thread Cert.RefSelfIdeal.nD Cert.RefSelfIdeal.τ).loc Cert.RefSelfIdeal.main_arg0) = m' ((c.tc : Thread Cert.RefSelfIdeal.nD Cert.RefSelfIdeal.τ).loc Cert.RefSelfIdeal.main_arg0)
          ∧ r.2.mem ((c.tc : Thread Cert.RefSelfIdeal.nD Cert.RefSelfIdeal.τ).loc Cert.RefSelfIdeal.main_arg1) = m' ((c.tc : Thread Cert.RefSelfIdeal.nD Cert.RefSelfIdeal.τ).loc Cert.RefSelfIdeal.main_arg1)
          ∧ r.2.mem ((c.tc : Thread Cert.RefSelfIdeal.nD Cert.RefSelfIdeal.τ).loc Cert.RefSelfIdeal.main_arg2) = m' ((c.tc : Thread Cert.RefSelfIdeal.nD Cert.RefSelfIdeal.τ).loc Cert.RefSelfIdeal.main_arg2))

def preserves_StageGather4_StageGather4Ideal : Prop :=
  IdealRules.named_const.Statement Cert.StageGather4Ideal.κ "neg_mask" .f32 0xF149F2CA#32 ⊥
  ∧ IdealRules.named_const.Statement Cert.StageGather4Ideal.κ "mask" .f32 0x7149F2CA#32 ⊤

def algebraic_StageGather4Ideal_RefGather4Ideal [hStageGather4Ideal : Cert.StageGather4Ideal.Facts] [hRefGather4Ideal : Cert.RefGather4Ideal.Facts] [hPre_no_tie_gather4 : Cert.Pre_no_tie_gather4.Facts] : Prop :=
  ∀ (m : (ℓ : Loc Cert.StageGather4Ideal.nD Cert.StageGather4Ideal.τ Cert.StageGather4Ideal.sig) → Buf (Elt Ideal) ℓ) (g : Dev Cert.StageGather4Ideal.nD → PrngReg)
    (m' : (ℓ : Loc Cert.RefGather4Ideal.nD Cert.RefGather4Ideal.τ Cert.RefGather4Ideal.sig) → Buf (Elt Ideal) ℓ) (g' : Dev Cert.RefGather4Ideal.nD → PrngReg), Pre_StageGather4Ideal m →
    (∀ c : Dev Cert.StageGather4Ideal.nD,
      m' ((c.tc : Thread Cert.RefGather4Ideal.nD Cert.RefGather4Ideal.τ).loc Cert.RefGather4Ideal.main_arg0) = m ((c.tc : Thread Cert.StageGather4Ideal.nD Cert.StageGather4Ideal.τ).loc Cert.StageGather4Ideal.main_arg0)
      ∧ m' ((c.tc : Thread Cert.RefGather4Ideal.nD Cert.RefGather4Ideal.τ).loc Cert.RefGather4Ideal.main_arg1) = m ((c.tc : Thread Cert.StageGather4Ideal.nD Cert.StageGather4Ideal.τ).loc Cert.StageGather4Ideal.main_arg1)
      ∧ m' ((c.tc : Thread Cert.RefGather4Ideal.nD Cert.RefGather4Ideal.τ).loc Cert.RefGather4Ideal.main_arg2) = m ((c.tc : Thread Cert.StageGather4Ideal.nD Cert.StageGather4Ideal.τ).loc Cert.StageGather4Ideal.main_arg2)
      ∧ m' ((c.tc : Thread Cert.RefGather4Ideal.nD Cert.RefGather4Ideal.τ).loc Cert.RefGather4Ideal.main_arg3) = m ((c.tc : Thread Cert.StageGather4Ideal.nD Cert.StageGather4Ideal.τ).loc Cert.StageGather4Ideal.main_arg3)
      ∧ m' ((c.tc : Thread Cert.RefGather4Ideal.nD Cert.RefGather4Ideal.τ).loc Cert.RefGather4Ideal.main_arg4) = m ((c.tc : Thread Cert.StageGather4Ideal.nD Cert.StageGather4Ideal.τ).loc Cert.StageGather4Ideal.main_arg4)) →
    ∃ (v0 : (c : Dev Cert.StageGather4Ideal.nD) → Buf (Elt Ideal) ((c.tc : Thread Cert.StageGather4Ideal.nD Cert.StageGather4Ideal.τ).loc Cert.StageGather4Ideal.main_v0_0)) (v1 : (c : Dev Cert.StageGather4Ideal.nD) → Buf (Elt Ideal) ((c.tc : Thread Cert.StageGather4Ideal.nD Cert.StageGather4Ideal.τ).loc Cert.StageGather4Ideal.main_v0_1)),
      θ_run (Cert.StageGather4Ideal.defs (F := Ideal)) (onTc (τ := Cert.StageGather4Ideal.τ) (Cert.StageGather4Ideal.main (F := Ideal))) ⟨m, fun _ => 0, g⟩ (fun r => ∀ c : Dev Cert.StageGather4Ideal.nD,
          r.2.mem ((c.tc : Thread Cert.StageGather4Ideal.nD Cert.StageGather4Ideal.τ).loc Cert.StageGather4Ideal.main_v0_0) = v0 c
          ∧ r.2.mem ((c.tc : Thread Cert.StageGather4Ideal.nD Cert.StageGather4Ideal.τ).loc Cert.StageGather4Ideal.main_v0_1) = v1 c
          ∧ r.2.mem ((c.tc : Thread Cert.StageGather4Ideal.nD Cert.StageGather4Ideal.τ).loc Cert.StageGather4Ideal.main_arg0) = m ((c.tc : Thread Cert.StageGather4Ideal.nD Cert.StageGather4Ideal.τ).loc Cert.StageGather4Ideal.main_arg0)
          ∧ r.2.mem ((c.tc : Thread Cert.StageGather4Ideal.nD Cert.StageGather4Ideal.τ).loc Cert.StageGather4Ideal.main_arg1) = m ((c.tc : Thread Cert.StageGather4Ideal.nD Cert.StageGather4Ideal.τ).loc Cert.StageGather4Ideal.main_arg1)
          ∧ r.2.mem ((c.tc : Thread Cert.StageGather4Ideal.nD Cert.StageGather4Ideal.τ).loc Cert.StageGather4Ideal.main_arg2) = m ((c.tc : Thread Cert.StageGather4Ideal.nD Cert.StageGather4Ideal.τ).loc Cert.StageGather4Ideal.main_arg2)
          ∧ r.2.mem ((c.tc : Thread Cert.StageGather4Ideal.nD Cert.StageGather4Ideal.τ).loc Cert.StageGather4Ideal.main_arg3) = m ((c.tc : Thread Cert.StageGather4Ideal.nD Cert.StageGather4Ideal.τ).loc Cert.StageGather4Ideal.main_arg3)
          ∧ r.2.mem ((c.tc : Thread Cert.StageGather4Ideal.nD Cert.StageGather4Ideal.τ).loc Cert.StageGather4Ideal.main_arg4) = m ((c.tc : Thread Cert.StageGather4Ideal.nD Cert.StageGather4Ideal.τ).loc Cert.StageGather4Ideal.main_arg4))
      ∧ θ_run (Cert.RefGather4Ideal.defs (F := Ideal)) (onTc (τ := Cert.RefGather4Ideal.τ) (Cert.RefGather4Ideal.main (F := Ideal))) ⟨m', fun _ => 0, g'⟩ (fun r => ∀ c : Dev Cert.RefGather4Ideal.nD,
          r.2.mem ((c.tc : Thread Cert.RefGather4Ideal.nD Cert.RefGather4Ideal.τ).loc Cert.RefGather4Ideal.main_v45) = v0 c
          ∧ r.2.mem ((c.tc : Thread Cert.RefGather4Ideal.nD Cert.RefGather4Ideal.τ).loc Cert.RefGather4Ideal.main_v48) = v1 c
          ∧ r.2.mem ((c.tc : Thread Cert.RefGather4Ideal.nD Cert.RefGather4Ideal.τ).loc Cert.RefGather4Ideal.main_arg0) = m' ((c.tc : Thread Cert.RefGather4Ideal.nD Cert.RefGather4Ideal.τ).loc Cert.RefGather4Ideal.main_arg0)
          ∧ r.2.mem ((c.tc : Thread Cert.RefGather4Ideal.nD Cert.RefGather4Ideal.τ).loc Cert.RefGather4Ideal.main_arg1) = m' ((c.tc : Thread Cert.RefGather4Ideal.nD Cert.RefGather4Ideal.τ).loc Cert.RefGather4Ideal.main_arg1)
          ∧ r.2.mem ((c.tc : Thread Cert.RefGather4Ideal.nD Cert.RefGather4Ideal.τ).loc Cert.RefGather4Ideal.main_arg2) = m' ((c.tc : Thread Cert.RefGather4Ideal.nD Cert.RefGather4Ideal.τ).loc Cert.RefGather4Ideal.main_arg2)
          ∧ r.2.mem ((c.tc : Thread Cert.RefGather4Ideal.nD Cert.RefGather4Ideal.τ).loc Cert.RefGather4Ideal.main_arg3) = m' ((c.tc : Thread Cert.RefGather4Ideal.nD Cert.RefGather4Ideal.τ).loc Cert.RefGather4Ideal.main_arg3)
          ∧ r.2.mem ((c.tc : Thread Cert.RefGather4Ideal.nD Cert.RefGather4Ideal.τ).loc Cert.RefGather4Ideal.main_arg4) = m' ((c.tc : Thread Cert.RefGather4Ideal.nD Cert.RefGather4Ideal.τ).loc Cert.RefGather4Ideal.main_arg4))

def preserves_StageGather2_StageGather2Ideal : Prop :=
  IdealRules.named_const.Statement Cert.StageGather2Ideal.κ "neg_mask" .f32 0xF149F2CA#32 ⊥
  ∧ IdealRules.named_const.Statement Cert.StageGather2Ideal.κ "mask" .f32 0x7149F2CA#32 ⊤

def algebraic_StageGather2Ideal_RefGather2Ideal [hStageGather2Ideal : Cert.StageGather2Ideal.Facts] [hRefGather2Ideal : Cert.RefGather2Ideal.Facts] [hPre_no_tie_gather2 : Cert.Pre_no_tie_gather2.Facts] : Prop :=
  ∀ (m : (ℓ : Loc Cert.StageGather2Ideal.nD Cert.StageGather2Ideal.τ Cert.StageGather2Ideal.sig) → Buf (Elt Ideal) ℓ) (g : Dev Cert.StageGather2Ideal.nD → PrngReg)
    (m' : (ℓ : Loc Cert.RefGather2Ideal.nD Cert.RefGather2Ideal.τ Cert.RefGather2Ideal.sig) → Buf (Elt Ideal) ℓ) (g' : Dev Cert.RefGather2Ideal.nD → PrngReg), Pre_StageGather2Ideal m →
    (∀ c : Dev Cert.StageGather2Ideal.nD,
      m' ((c.tc : Thread Cert.RefGather2Ideal.nD Cert.RefGather2Ideal.τ).loc Cert.RefGather2Ideal.main_arg0) = m ((c.tc : Thread Cert.StageGather2Ideal.nD Cert.StageGather2Ideal.τ).loc Cert.StageGather2Ideal.main_arg0)
      ∧ m' ((c.tc : Thread Cert.RefGather2Ideal.nD Cert.RefGather2Ideal.τ).loc Cert.RefGather2Ideal.main_arg1) = m ((c.tc : Thread Cert.StageGather2Ideal.nD Cert.StageGather2Ideal.τ).loc Cert.StageGather2Ideal.main_arg1)
      ∧ m' ((c.tc : Thread Cert.RefGather2Ideal.nD Cert.RefGather2Ideal.τ).loc Cert.RefGather2Ideal.main_arg2) = m ((c.tc : Thread Cert.StageGather2Ideal.nD Cert.StageGather2Ideal.τ).loc Cert.StageGather2Ideal.main_arg2)
      ∧ m' ((c.tc : Thread Cert.RefGather2Ideal.nD Cert.RefGather2Ideal.τ).loc Cert.RefGather2Ideal.main_arg3) = m ((c.tc : Thread Cert.StageGather2Ideal.nD Cert.StageGather2Ideal.τ).loc Cert.StageGather2Ideal.main_arg3)
      ∧ m' ((c.tc : Thread Cert.RefGather2Ideal.nD Cert.RefGather2Ideal.τ).loc Cert.RefGather2Ideal.main_arg4) = m ((c.tc : Thread Cert.StageGather2Ideal.nD Cert.StageGather2Ideal.τ).loc Cert.StageGather2Ideal.main_arg4)) →
    ∃ (v0 : (c : Dev Cert.StageGather2Ideal.nD) → Buf (Elt Ideal) ((c.tc : Thread Cert.StageGather2Ideal.nD Cert.StageGather2Ideal.τ).loc Cert.StageGather2Ideal.main_v0_0)) (v1 : (c : Dev Cert.StageGather2Ideal.nD) → Buf (Elt Ideal) ((c.tc : Thread Cert.StageGather2Ideal.nD Cert.StageGather2Ideal.τ).loc Cert.StageGather2Ideal.main_v0_1)),
      θ_run (Cert.StageGather2Ideal.defs (F := Ideal)) (onTc (τ := Cert.StageGather2Ideal.τ) (Cert.StageGather2Ideal.main (F := Ideal))) ⟨m, fun _ => 0, g⟩ (fun r => ∀ c : Dev Cert.StageGather2Ideal.nD,
          r.2.mem ((c.tc : Thread Cert.StageGather2Ideal.nD Cert.StageGather2Ideal.τ).loc Cert.StageGather2Ideal.main_v0_0) = v0 c
          ∧ r.2.mem ((c.tc : Thread Cert.StageGather2Ideal.nD Cert.StageGather2Ideal.τ).loc Cert.StageGather2Ideal.main_v0_1) = v1 c
          ∧ r.2.mem ((c.tc : Thread Cert.StageGather2Ideal.nD Cert.StageGather2Ideal.τ).loc Cert.StageGather2Ideal.main_arg0) = m ((c.tc : Thread Cert.StageGather2Ideal.nD Cert.StageGather2Ideal.τ).loc Cert.StageGather2Ideal.main_arg0)
          ∧ r.2.mem ((c.tc : Thread Cert.StageGather2Ideal.nD Cert.StageGather2Ideal.τ).loc Cert.StageGather2Ideal.main_arg1) = m ((c.tc : Thread Cert.StageGather2Ideal.nD Cert.StageGather2Ideal.τ).loc Cert.StageGather2Ideal.main_arg1)
          ∧ r.2.mem ((c.tc : Thread Cert.StageGather2Ideal.nD Cert.StageGather2Ideal.τ).loc Cert.StageGather2Ideal.main_arg2) = m ((c.tc : Thread Cert.StageGather2Ideal.nD Cert.StageGather2Ideal.τ).loc Cert.StageGather2Ideal.main_arg2)
          ∧ r.2.mem ((c.tc : Thread Cert.StageGather2Ideal.nD Cert.StageGather2Ideal.τ).loc Cert.StageGather2Ideal.main_arg3) = m ((c.tc : Thread Cert.StageGather2Ideal.nD Cert.StageGather2Ideal.τ).loc Cert.StageGather2Ideal.main_arg3)
          ∧ r.2.mem ((c.tc : Thread Cert.StageGather2Ideal.nD Cert.StageGather2Ideal.τ).loc Cert.StageGather2Ideal.main_arg4) = m ((c.tc : Thread Cert.StageGather2Ideal.nD Cert.StageGather2Ideal.τ).loc Cert.StageGather2Ideal.main_arg4))
      ∧ θ_run (Cert.RefGather2Ideal.defs (F := Ideal)) (onTc (τ := Cert.RefGather2Ideal.τ) (Cert.RefGather2Ideal.main (F := Ideal))) ⟨m', fun _ => 0, g'⟩ (fun r => ∀ c : Dev Cert.RefGather2Ideal.nD,
          r.2.mem ((c.tc : Thread Cert.RefGather2Ideal.nD Cert.RefGather2Ideal.τ).loc Cert.RefGather2Ideal.main_v45) = v0 c
          ∧ r.2.mem ((c.tc : Thread Cert.RefGather2Ideal.nD Cert.RefGather2Ideal.τ).loc Cert.RefGather2Ideal.main_v48) = v1 c
          ∧ r.2.mem ((c.tc : Thread Cert.RefGather2Ideal.nD Cert.RefGather2Ideal.τ).loc Cert.RefGather2Ideal.main_arg0) = m' ((c.tc : Thread Cert.RefGather2Ideal.nD Cert.RefGather2Ideal.τ).loc Cert.RefGather2Ideal.main_arg0)
          ∧ r.2.mem ((c.tc : Thread Cert.RefGather2Ideal.nD Cert.RefGather2Ideal.τ).loc Cert.RefGather2Ideal.main_arg1) = m' ((c.tc : Thread Cert.RefGather2Ideal.nD Cert.RefGather2Ideal.τ).loc Cert.RefGather2Ideal.main_arg1)
          ∧ r.2.mem ((c.tc : Thread Cert.RefGather2Ideal.nD Cert.RefGather2Ideal.τ).loc Cert.RefGather2Ideal.main_arg2) = m' ((c.tc : Thread Cert.RefGather2Ideal.nD Cert.RefGather2Ideal.τ).loc Cert.RefGather2Ideal.main_arg2)
          ∧ r.2.mem ((c.tc : Thread Cert.RefGather2Ideal.nD Cert.RefGather2Ideal.τ).loc Cert.RefGather2Ideal.main_arg3) = m' ((c.tc : Thread Cert.RefGather2Ideal.nD Cert.RefGather2Ideal.τ).loc Cert.RefGather2Ideal.main_arg3)
          ∧ r.2.mem ((c.tc : Thread Cert.RefGather2Ideal.nD Cert.RefGather2Ideal.τ).loc Cert.RefGather2Ideal.main_arg4) = m' ((c.tc : Thread Cert.RefGather2Ideal.nD Cert.RefGather2Ideal.τ).loc Cert.RefGather2Ideal.main_arg4))

def preserves_StageFirst_StageFirstIdeal : Prop :=
  IdealRules.named_const.Statement Cert.StageFirstIdeal.κ "neg_mask" .f32 0xF149F2CA#32 ⊥
  ∧ IdealRules.named_const.Statement Cert.StageFirstIdeal.κ "mask" .f32 0x7149F2CA#32 ⊤

def algebraic_StageFirstIdeal_RefFirstIdeal [hStageFirstIdeal : Cert.StageFirstIdeal.Facts] [hRefFirstIdeal : Cert.RefFirstIdeal.Facts] [hPre_no_tie_stage1 : Cert.Pre_no_tie_stage1.Facts] : Prop :=
  ∀ (m : (ℓ : Loc Cert.StageFirstIdeal.nD Cert.StageFirstIdeal.τ Cert.StageFirstIdeal.sig) → Buf (Elt Ideal) ℓ) (g : Dev Cert.StageFirstIdeal.nD → PrngReg)
    (m' : (ℓ : Loc Cert.RefFirstIdeal.nD Cert.RefFirstIdeal.τ Cert.RefFirstIdeal.sig) → Buf (Elt Ideal) ℓ) (g' : Dev Cert.RefFirstIdeal.nD → PrngReg), Pre_StageFirstIdeal m →
    (∀ c : Dev Cert.StageFirstIdeal.nD,
      m' ((c.tc : Thread Cert.RefFirstIdeal.nD Cert.RefFirstIdeal.τ).loc Cert.RefFirstIdeal.main_arg0) = m ((c.tc : Thread Cert.StageFirstIdeal.nD Cert.StageFirstIdeal.τ).loc Cert.StageFirstIdeal.main_arg0)
      ∧ m' ((c.tc : Thread Cert.RefFirstIdeal.nD Cert.RefFirstIdeal.τ).loc Cert.RefFirstIdeal.main_arg1) = m ((c.tc : Thread Cert.StageFirstIdeal.nD Cert.StageFirstIdeal.τ).loc Cert.StageFirstIdeal.main_arg1)
      ∧ m' ((c.tc : Thread Cert.RefFirstIdeal.nD Cert.RefFirstIdeal.τ).loc Cert.RefFirstIdeal.main_arg2) = m ((c.tc : Thread Cert.StageFirstIdeal.nD Cert.StageFirstIdeal.τ).loc Cert.StageFirstIdeal.main_arg2)
      ∧ m' ((c.tc : Thread Cert.RefFirstIdeal.nD Cert.RefFirstIdeal.τ).loc Cert.RefFirstIdeal.main_arg3) = m ((c.tc : Thread Cert.StageFirstIdeal.nD Cert.StageFirstIdeal.τ).loc Cert.StageFirstIdeal.main_arg3)) →
    ∃ (v0 : (c : Dev Cert.StageFirstIdeal.nD) → Buf (Elt Ideal) ((c.tc : Thread Cert.StageFirstIdeal.nD Cert.StageFirstIdeal.τ).loc Cert.StageFirstIdeal.main_v0_0)) (v1 : (c : Dev Cert.StageFirstIdeal.nD) → Buf (Elt Ideal) ((c.tc : Thread Cert.StageFirstIdeal.nD Cert.StageFirstIdeal.τ).loc Cert.StageFirstIdeal.main_v0_1)),
      θ_run (Cert.StageFirstIdeal.defs (F := Ideal)) (onTc (τ := Cert.StageFirstIdeal.τ) (Cert.StageFirstIdeal.main (F := Ideal))) ⟨m, fun _ => 0, g⟩ (fun r => ∀ c : Dev Cert.StageFirstIdeal.nD,
          r.2.mem ((c.tc : Thread Cert.StageFirstIdeal.nD Cert.StageFirstIdeal.τ).loc Cert.StageFirstIdeal.main_v0_0) = v0 c
          ∧ r.2.mem ((c.tc : Thread Cert.StageFirstIdeal.nD Cert.StageFirstIdeal.τ).loc Cert.StageFirstIdeal.main_v0_1) = v1 c
          ∧ r.2.mem ((c.tc : Thread Cert.StageFirstIdeal.nD Cert.StageFirstIdeal.τ).loc Cert.StageFirstIdeal.main_arg0) = m ((c.tc : Thread Cert.StageFirstIdeal.nD Cert.StageFirstIdeal.τ).loc Cert.StageFirstIdeal.main_arg0)
          ∧ r.2.mem ((c.tc : Thread Cert.StageFirstIdeal.nD Cert.StageFirstIdeal.τ).loc Cert.StageFirstIdeal.main_arg1) = m ((c.tc : Thread Cert.StageFirstIdeal.nD Cert.StageFirstIdeal.τ).loc Cert.StageFirstIdeal.main_arg1)
          ∧ r.2.mem ((c.tc : Thread Cert.StageFirstIdeal.nD Cert.StageFirstIdeal.τ).loc Cert.StageFirstIdeal.main_arg2) = m ((c.tc : Thread Cert.StageFirstIdeal.nD Cert.StageFirstIdeal.τ).loc Cert.StageFirstIdeal.main_arg2)
          ∧ r.2.mem ((c.tc : Thread Cert.StageFirstIdeal.nD Cert.StageFirstIdeal.τ).loc Cert.StageFirstIdeal.main_arg3) = m ((c.tc : Thread Cert.StageFirstIdeal.nD Cert.StageFirstIdeal.τ).loc Cert.StageFirstIdeal.main_arg3))
      ∧ θ_run (Cert.RefFirstIdeal.defs (F := Ideal)) (onTc (τ := Cert.RefFirstIdeal.τ) (Cert.RefFirstIdeal.main (F := Ideal))) ⟨m', fun _ => 0, g'⟩ (fun r => ∀ c : Dev Cert.RefFirstIdeal.nD,
          r.2.mem ((c.tc : Thread Cert.RefFirstIdeal.nD Cert.RefFirstIdeal.τ).loc Cert.RefFirstIdeal.main_v42) = v0 c
          ∧ r.2.mem ((c.tc : Thread Cert.RefFirstIdeal.nD Cert.RefFirstIdeal.τ).loc Cert.RefFirstIdeal.main_v45) = v1 c
          ∧ r.2.mem ((c.tc : Thread Cert.RefFirstIdeal.nD Cert.RefFirstIdeal.τ).loc Cert.RefFirstIdeal.main_arg0) = m' ((c.tc : Thread Cert.RefFirstIdeal.nD Cert.RefFirstIdeal.τ).loc Cert.RefFirstIdeal.main_arg0)
          ∧ r.2.mem ((c.tc : Thread Cert.RefFirstIdeal.nD Cert.RefFirstIdeal.τ).loc Cert.RefFirstIdeal.main_arg1) = m' ((c.tc : Thread Cert.RefFirstIdeal.nD Cert.RefFirstIdeal.τ).loc Cert.RefFirstIdeal.main_arg1)
          ∧ r.2.mem ((c.tc : Thread Cert.RefFirstIdeal.nD Cert.RefFirstIdeal.τ).loc Cert.RefFirstIdeal.main_arg2) = m' ((c.tc : Thread Cert.RefFirstIdeal.nD Cert.RefFirstIdeal.τ).loc Cert.RefFirstIdeal.main_arg2)
          ∧ r.2.mem ((c.tc : Thread Cert.RefFirstIdeal.nD Cert.RefFirstIdeal.τ).loc Cert.RefFirstIdeal.main_arg3) = m' ((c.tc : Thread Cert.RefFirstIdeal.nD Cert.RefFirstIdeal.τ).loc Cert.RefFirstIdeal.main_arg3))

def preserves_Finalize4_Finalize4Ideal : Prop :=
  True

def algebraic_Finalize4Ideal_RefFinalize4Ideal_pre_spread4 [hFinalize4Ideal : Cert.Finalize4Ideal.Facts] [hRefFinalize4Ideal : Cert.RefFinalize4Ideal.Facts] [hPre_spread4 : Cert.Pre_spread4.Facts] : Prop :=
  ∀ (m : (ℓ : Loc Cert.Finalize4Ideal.nD Cert.Finalize4Ideal.τ Cert.Finalize4Ideal.sig) → Buf (Elt Ideal) ℓ) (g : Dev Cert.Finalize4Ideal.nD → PrngReg)
    (m' : (ℓ : Loc Cert.RefFinalize4Ideal.nD Cert.RefFinalize4Ideal.τ Cert.RefFinalize4Ideal.sig) → Buf (Elt Ideal) ℓ) (g' : Dev Cert.RefFinalize4Ideal.nD → PrngReg), Pre_Finalize4Ideal_spread4 m →
    (∀ c : Dev Cert.Finalize4Ideal.nD,
      m' ((c.tc : Thread Cert.RefFinalize4Ideal.nD Cert.RefFinalize4Ideal.τ).loc Cert.RefFinalize4Ideal.main_arg0) = m ((c.tc : Thread Cert.Finalize4Ideal.nD Cert.Finalize4Ideal.τ).loc Cert.Finalize4Ideal.main_arg0)
      ∧ m' ((c.tc : Thread Cert.RefFinalize4Ideal.nD Cert.RefFinalize4Ideal.τ).loc Cert.RefFinalize4Ideal.main_arg1) = m ((c.tc : Thread Cert.Finalize4Ideal.nD Cert.Finalize4Ideal.τ).loc Cert.Finalize4Ideal.main_arg1)
      ∧ m' ((c.tc : Thread Cert.RefFinalize4Ideal.nD Cert.RefFinalize4Ideal.τ).loc Cert.RefFinalize4Ideal.main_arg2) = m ((c.tc : Thread Cert.Finalize4Ideal.nD Cert.Finalize4Ideal.τ).loc Cert.Finalize4Ideal.main_arg2)
      ∧ m' ((c.tc : Thread Cert.RefFinalize4Ideal.nD Cert.RefFinalize4Ideal.τ).loc Cert.RefFinalize4Ideal.main_arg3) = m ((c.tc : Thread Cert.Finalize4Ideal.nD Cert.Finalize4Ideal.τ).loc Cert.Finalize4Ideal.main_arg3)) →
    ∃ (v0 : (c : Dev Cert.Finalize4Ideal.nD) → Buf (Elt Ideal) ((c.tc : Thread Cert.Finalize4Ideal.nD Cert.Finalize4Ideal.τ).loc Cert.Finalize4Ideal.main_v0)),
      θ_run (Cert.Finalize4Ideal.defs (F := Ideal)) (onTc (τ := Cert.Finalize4Ideal.τ) (Cert.Finalize4Ideal.main (F := Ideal))) ⟨m, fun _ => 0, g⟩ (fun r => ∀ c : Dev Cert.Finalize4Ideal.nD,
          r.2.mem ((c.tc : Thread Cert.Finalize4Ideal.nD Cert.Finalize4Ideal.τ).loc Cert.Finalize4Ideal.main_v0) = v0 c
          ∧ r.2.mem ((c.tc : Thread Cert.Finalize4Ideal.nD Cert.Finalize4Ideal.τ).loc Cert.Finalize4Ideal.main_arg0) = m ((c.tc : Thread Cert.Finalize4Ideal.nD Cert.Finalize4Ideal.τ).loc Cert.Finalize4Ideal.main_arg0)
          ∧ r.2.mem ((c.tc : Thread Cert.Finalize4Ideal.nD Cert.Finalize4Ideal.τ).loc Cert.Finalize4Ideal.main_arg1) = m ((c.tc : Thread Cert.Finalize4Ideal.nD Cert.Finalize4Ideal.τ).loc Cert.Finalize4Ideal.main_arg1)
          ∧ r.2.mem ((c.tc : Thread Cert.Finalize4Ideal.nD Cert.Finalize4Ideal.τ).loc Cert.Finalize4Ideal.main_arg2) = m ((c.tc : Thread Cert.Finalize4Ideal.nD Cert.Finalize4Ideal.τ).loc Cert.Finalize4Ideal.main_arg2)
          ∧ r.2.mem ((c.tc : Thread Cert.Finalize4Ideal.nD Cert.Finalize4Ideal.τ).loc Cert.Finalize4Ideal.main_arg3) = m ((c.tc : Thread Cert.Finalize4Ideal.nD Cert.Finalize4Ideal.τ).loc Cert.Finalize4Ideal.main_arg3))
      ∧ θ_run (Cert.RefFinalize4Ideal.defs (F := Ideal)) (onTc (τ := Cert.RefFinalize4Ideal.τ) (Cert.RefFinalize4Ideal.main (F := Ideal))) ⟨m', fun _ => 0, g'⟩ (fun r => ∀ c : Dev Cert.RefFinalize4Ideal.nD,
          r.2.mem ((c.tc : Thread Cert.RefFinalize4Ideal.nD Cert.RefFinalize4Ideal.τ).loc Cert.RefFinalize4Ideal.main_v31) = v0 c
          ∧ r.2.mem ((c.tc : Thread Cert.RefFinalize4Ideal.nD Cert.RefFinalize4Ideal.τ).loc Cert.RefFinalize4Ideal.main_arg0) = m' ((c.tc : Thread Cert.RefFinalize4Ideal.nD Cert.RefFinalize4Ideal.τ).loc Cert.RefFinalize4Ideal.main_arg0)
          ∧ r.2.mem ((c.tc : Thread Cert.RefFinalize4Ideal.nD Cert.RefFinalize4Ideal.τ).loc Cert.RefFinalize4Ideal.main_arg1) = m' ((c.tc : Thread Cert.RefFinalize4Ideal.nD Cert.RefFinalize4Ideal.τ).loc Cert.RefFinalize4Ideal.main_arg1)
          ∧ r.2.mem ((c.tc : Thread Cert.RefFinalize4Ideal.nD Cert.RefFinalize4Ideal.τ).loc Cert.RefFinalize4Ideal.main_arg2) = m' ((c.tc : Thread Cert.RefFinalize4Ideal.nD Cert.RefFinalize4Ideal.τ).loc Cert.RefFinalize4Ideal.main_arg2)
          ∧ r.2.mem ((c.tc : Thread Cert.RefFinalize4Ideal.nD Cert.RefFinalize4Ideal.τ).loc Cert.RefFinalize4Ideal.main_arg3) = m' ((c.tc : Thread Cert.RefFinalize4Ideal.nD Cert.RefFinalize4Ideal.τ).loc Cert.RefFinalize4Ideal.main_arg3))

def preserves_Finalize2_Finalize2Ideal : Prop :=
  True

def algebraic_Finalize2Ideal_RefFinalize2Ideal_pre_spread2 [hFinalize2Ideal : Cert.Finalize2Ideal.Facts] [hRefFinalize2Ideal : Cert.RefFinalize2Ideal.Facts] [hPre_spread2 : Cert.Pre_spread2.Facts] : Prop :=
  ∀ (m : (ℓ : Loc Cert.Finalize2Ideal.nD Cert.Finalize2Ideal.τ Cert.Finalize2Ideal.sig) → Buf (Elt Ideal) ℓ) (g : Dev Cert.Finalize2Ideal.nD → PrngReg)
    (m' : (ℓ : Loc Cert.RefFinalize2Ideal.nD Cert.RefFinalize2Ideal.τ Cert.RefFinalize2Ideal.sig) → Buf (Elt Ideal) ℓ) (g' : Dev Cert.RefFinalize2Ideal.nD → PrngReg), Pre_Finalize2Ideal_spread2 m →
    (∀ c : Dev Cert.Finalize2Ideal.nD,
      m' ((c.tc : Thread Cert.RefFinalize2Ideal.nD Cert.RefFinalize2Ideal.τ).loc Cert.RefFinalize2Ideal.main_arg0) = m ((c.tc : Thread Cert.Finalize2Ideal.nD Cert.Finalize2Ideal.τ).loc Cert.Finalize2Ideal.main_arg0)
      ∧ m' ((c.tc : Thread Cert.RefFinalize2Ideal.nD Cert.RefFinalize2Ideal.τ).loc Cert.RefFinalize2Ideal.main_arg1) = m ((c.tc : Thread Cert.Finalize2Ideal.nD Cert.Finalize2Ideal.τ).loc Cert.Finalize2Ideal.main_arg1)
      ∧ m' ((c.tc : Thread Cert.RefFinalize2Ideal.nD Cert.RefFinalize2Ideal.τ).loc Cert.RefFinalize2Ideal.main_arg2) = m ((c.tc : Thread Cert.Finalize2Ideal.nD Cert.Finalize2Ideal.τ).loc Cert.Finalize2Ideal.main_arg2)
      ∧ m' ((c.tc : Thread Cert.RefFinalize2Ideal.nD Cert.RefFinalize2Ideal.τ).loc Cert.RefFinalize2Ideal.main_arg3) = m ((c.tc : Thread Cert.Finalize2Ideal.nD Cert.Finalize2Ideal.τ).loc Cert.Finalize2Ideal.main_arg3)) →
    ∃ (v0 : (c : Dev Cert.Finalize2Ideal.nD) → Buf (Elt Ideal) ((c.tc : Thread Cert.Finalize2Ideal.nD Cert.Finalize2Ideal.τ).loc Cert.Finalize2Ideal.main_v0)),
      θ_run (Cert.Finalize2Ideal.defs (F := Ideal)) (onTc (τ := Cert.Finalize2Ideal.τ) (Cert.Finalize2Ideal.main (F := Ideal))) ⟨m, fun _ => 0, g⟩ (fun r => ∀ c : Dev Cert.Finalize2Ideal.nD,
          r.2.mem ((c.tc : Thread Cert.Finalize2Ideal.nD Cert.Finalize2Ideal.τ).loc Cert.Finalize2Ideal.main_v0) = v0 c
          ∧ r.2.mem ((c.tc : Thread Cert.Finalize2Ideal.nD Cert.Finalize2Ideal.τ).loc Cert.Finalize2Ideal.main_arg0) = m ((c.tc : Thread Cert.Finalize2Ideal.nD Cert.Finalize2Ideal.τ).loc Cert.Finalize2Ideal.main_arg0)
          ∧ r.2.mem ((c.tc : Thread Cert.Finalize2Ideal.nD Cert.Finalize2Ideal.τ).loc Cert.Finalize2Ideal.main_arg1) = m ((c.tc : Thread Cert.Finalize2Ideal.nD Cert.Finalize2Ideal.τ).loc Cert.Finalize2Ideal.main_arg1)
          ∧ r.2.mem ((c.tc : Thread Cert.Finalize2Ideal.nD Cert.Finalize2Ideal.τ).loc Cert.Finalize2Ideal.main_arg2) = m ((c.tc : Thread Cert.Finalize2Ideal.nD Cert.Finalize2Ideal.τ).loc Cert.Finalize2Ideal.main_arg2)
          ∧ r.2.mem ((c.tc : Thread Cert.Finalize2Ideal.nD Cert.Finalize2Ideal.τ).loc Cert.Finalize2Ideal.main_arg3) = m ((c.tc : Thread Cert.Finalize2Ideal.nD Cert.Finalize2Ideal.τ).loc Cert.Finalize2Ideal.main_arg3))
      ∧ θ_run (Cert.RefFinalize2Ideal.defs (F := Ideal)) (onTc (τ := Cert.RefFinalize2Ideal.τ) (Cert.RefFinalize2Ideal.main (F := Ideal))) ⟨m', fun _ => 0, g'⟩ (fun r => ∀ c : Dev Cert.RefFinalize2Ideal.nD,
          r.2.mem ((c.tc : Thread Cert.RefFinalize2Ideal.nD Cert.RefFinalize2Ideal.τ).loc Cert.RefFinalize2Ideal.main_v31) = v0 c
          ∧ r.2.mem ((c.tc : Thread Cert.RefFinalize2Ideal.nD Cert.RefFinalize2Ideal.τ).loc Cert.RefFinalize2Ideal.main_arg0) = m' ((c.tc : Thread Cert.RefFinalize2Ideal.nD Cert.RefFinalize2Ideal.τ).loc Cert.RefFinalize2Ideal.main_arg0)
          ∧ r.2.mem ((c.tc : Thread Cert.RefFinalize2Ideal.nD Cert.RefFinalize2Ideal.τ).loc Cert.RefFinalize2Ideal.main_arg1) = m' ((c.tc : Thread Cert.RefFinalize2Ideal.nD Cert.RefFinalize2Ideal.τ).loc Cert.RefFinalize2Ideal.main_arg1)
          ∧ r.2.mem ((c.tc : Thread Cert.RefFinalize2Ideal.nD Cert.RefFinalize2Ideal.τ).loc Cert.RefFinalize2Ideal.main_arg2) = m' ((c.tc : Thread Cert.RefFinalize2Ideal.nD Cert.RefFinalize2Ideal.τ).loc Cert.RefFinalize2Ideal.main_arg2)
          ∧ r.2.mem ((c.tc : Thread Cert.RefFinalize2Ideal.nD Cert.RefFinalize2Ideal.τ).loc Cert.RefFinalize2Ideal.main_arg3) = m' ((c.tc : Thread Cert.RefFinalize2Ideal.nD Cert.RefFinalize2Ideal.τ).loc Cert.RefFinalize2Ideal.main_arg3))

def preserves_Finalize1_Finalize1Ideal : Prop :=
  True

def algebraic_Finalize1Ideal_RefFinalize1Ideal_pre_spread1 [hFinalize1Ideal : Cert.Finalize1Ideal.Facts] [hRefFinalize1Ideal : Cert.RefFinalize1Ideal.Facts] [hPre_spread1 : Cert.Pre_spread1.Facts] : Prop :=
  ∀ (m : (ℓ : Loc Cert.Finalize1Ideal.nD Cert.Finalize1Ideal.τ Cert.Finalize1Ideal.sig) → Buf (Elt Ideal) ℓ) (g : Dev Cert.Finalize1Ideal.nD → PrngReg)
    (m' : (ℓ : Loc Cert.RefFinalize1Ideal.nD Cert.RefFinalize1Ideal.τ Cert.RefFinalize1Ideal.sig) → Buf (Elt Ideal) ℓ) (g' : Dev Cert.RefFinalize1Ideal.nD → PrngReg), Pre_Finalize1Ideal_spread1 m →
    (∀ c : Dev Cert.Finalize1Ideal.nD,
      m' ((c.tc : Thread Cert.RefFinalize1Ideal.nD Cert.RefFinalize1Ideal.τ).loc Cert.RefFinalize1Ideal.main_arg0) = m ((c.tc : Thread Cert.Finalize1Ideal.nD Cert.Finalize1Ideal.τ).loc Cert.Finalize1Ideal.main_arg0)
      ∧ m' ((c.tc : Thread Cert.RefFinalize1Ideal.nD Cert.RefFinalize1Ideal.τ).loc Cert.RefFinalize1Ideal.main_arg1) = m ((c.tc : Thread Cert.Finalize1Ideal.nD Cert.Finalize1Ideal.τ).loc Cert.Finalize1Ideal.main_arg1)
      ∧ m' ((c.tc : Thread Cert.RefFinalize1Ideal.nD Cert.RefFinalize1Ideal.τ).loc Cert.RefFinalize1Ideal.main_arg2) = m ((c.tc : Thread Cert.Finalize1Ideal.nD Cert.Finalize1Ideal.τ).loc Cert.Finalize1Ideal.main_arg2)
      ∧ m' ((c.tc : Thread Cert.RefFinalize1Ideal.nD Cert.RefFinalize1Ideal.τ).loc Cert.RefFinalize1Ideal.main_arg3) = m ((c.tc : Thread Cert.Finalize1Ideal.nD Cert.Finalize1Ideal.τ).loc Cert.Finalize1Ideal.main_arg3)) →
    ∃ (v0 : (c : Dev Cert.Finalize1Ideal.nD) → Buf (Elt Ideal) ((c.tc : Thread Cert.Finalize1Ideal.nD Cert.Finalize1Ideal.τ).loc Cert.Finalize1Ideal.main_v0)),
      θ_run (Cert.Finalize1Ideal.defs (F := Ideal)) (onTc (τ := Cert.Finalize1Ideal.τ) (Cert.Finalize1Ideal.main (F := Ideal))) ⟨m, fun _ => 0, g⟩ (fun r => ∀ c : Dev Cert.Finalize1Ideal.nD,
          r.2.mem ((c.tc : Thread Cert.Finalize1Ideal.nD Cert.Finalize1Ideal.τ).loc Cert.Finalize1Ideal.main_v0) = v0 c
          ∧ r.2.mem ((c.tc : Thread Cert.Finalize1Ideal.nD Cert.Finalize1Ideal.τ).loc Cert.Finalize1Ideal.main_arg0) = m ((c.tc : Thread Cert.Finalize1Ideal.nD Cert.Finalize1Ideal.τ).loc Cert.Finalize1Ideal.main_arg0)
          ∧ r.2.mem ((c.tc : Thread Cert.Finalize1Ideal.nD Cert.Finalize1Ideal.τ).loc Cert.Finalize1Ideal.main_arg1) = m ((c.tc : Thread Cert.Finalize1Ideal.nD Cert.Finalize1Ideal.τ).loc Cert.Finalize1Ideal.main_arg1)
          ∧ r.2.mem ((c.tc : Thread Cert.Finalize1Ideal.nD Cert.Finalize1Ideal.τ).loc Cert.Finalize1Ideal.main_arg2) = m ((c.tc : Thread Cert.Finalize1Ideal.nD Cert.Finalize1Ideal.τ).loc Cert.Finalize1Ideal.main_arg2)
          ∧ r.2.mem ((c.tc : Thread Cert.Finalize1Ideal.nD Cert.Finalize1Ideal.τ).loc Cert.Finalize1Ideal.main_arg3) = m ((c.tc : Thread Cert.Finalize1Ideal.nD Cert.Finalize1Ideal.τ).loc Cert.Finalize1Ideal.main_arg3))
      ∧ θ_run (Cert.RefFinalize1Ideal.defs (F := Ideal)) (onTc (τ := Cert.RefFinalize1Ideal.τ) (Cert.RefFinalize1Ideal.main (F := Ideal))) ⟨m', fun _ => 0, g'⟩ (fun r => ∀ c : Dev Cert.RefFinalize1Ideal.nD,
          r.2.mem ((c.tc : Thread Cert.RefFinalize1Ideal.nD Cert.RefFinalize1Ideal.τ).loc Cert.RefFinalize1Ideal.main_v31) = v0 c
          ∧ r.2.mem ((c.tc : Thread Cert.RefFinalize1Ideal.nD Cert.RefFinalize1Ideal.τ).loc Cert.RefFinalize1Ideal.main_arg0) = m' ((c.tc : Thread Cert.RefFinalize1Ideal.nD Cert.RefFinalize1Ideal.τ).loc Cert.RefFinalize1Ideal.main_arg0)
          ∧ r.2.mem ((c.tc : Thread Cert.RefFinalize1Ideal.nD Cert.RefFinalize1Ideal.τ).loc Cert.RefFinalize1Ideal.main_arg1) = m' ((c.tc : Thread Cert.RefFinalize1Ideal.nD Cert.RefFinalize1Ideal.τ).loc Cert.RefFinalize1Ideal.main_arg1)
          ∧ r.2.mem ((c.tc : Thread Cert.RefFinalize1Ideal.nD Cert.RefFinalize1Ideal.τ).loc Cert.RefFinalize1Ideal.main_arg2) = m' ((c.tc : Thread Cert.RefFinalize1Ideal.nD Cert.RefFinalize1Ideal.τ).loc Cert.RefFinalize1Ideal.main_arg2)
          ∧ r.2.mem ((c.tc : Thread Cert.RefFinalize1Ideal.nD Cert.RefFinalize1Ideal.τ).loc Cert.RefFinalize1Ideal.main_arg3) = m' ((c.tc : Thread Cert.RefFinalize1Ideal.nD Cert.RefFinalize1Ideal.τ).loc Cert.RefFinalize1Ideal.main_arg3))

def preserves_Fps128_Fps128Ideal : Prop :=
  True

def algebraic_Fps128Ideal_RefFps128Ideal [hFps128Ideal : Cert.Fps128Ideal.Facts] [hRefFps128Ideal : Cert.RefFps128Ideal.Facts] : Prop :=
  ∀ (m : (ℓ : Loc Cert.Fps128Ideal.nD Cert.Fps128Ideal.τ Cert.Fps128Ideal.sig) → Buf (Elt Ideal) ℓ) (g : Dev Cert.Fps128Ideal.nD → PrngReg)
    (m' : (ℓ : Loc Cert.RefFps128Ideal.nD Cert.RefFps128Ideal.τ Cert.RefFps128Ideal.sig) → Buf (Elt Ideal) ℓ) (g' : Dev Cert.RefFps128Ideal.nD → PrngReg), Pre_Fps128Ideal m →
    (∀ c : Dev Cert.Fps128Ideal.nD,
      m' ((c.tc : Thread Cert.RefFps128Ideal.nD Cert.RefFps128Ideal.τ).loc Cert.RefFps128Ideal.main_arg0) = m ((c.tc : Thread Cert.Fps128Ideal.nD Cert.Fps128Ideal.τ).loc Cert.Fps128Ideal.main_arg0)) →
    ∃ (v0 : (c : Dev Cert.Fps128Ideal.nD) → Buf (Elt Ideal) ((c.tc : Thread Cert.Fps128Ideal.nD Cert.Fps128Ideal.τ).loc Cert.Fps128Ideal.main_v0_0)) (v1 : (c : Dev Cert.Fps128Ideal.nD) → Buf (Elt Ideal) ((c.tc : Thread Cert.Fps128Ideal.nD Cert.Fps128Ideal.τ).loc Cert.Fps128Ideal.main_v0_1)),
      θ_run (Cert.Fps128Ideal.defs (F := Ideal)) (onTc (τ := Cert.Fps128Ideal.τ) (Cert.Fps128Ideal.main (F := Ideal))) ⟨m, fun _ => 0, g⟩ (fun r => ∀ c : Dev Cert.Fps128Ideal.nD,
          r.2.mem ((c.tc : Thread Cert.Fps128Ideal.nD Cert.Fps128Ideal.τ).loc Cert.Fps128Ideal.main_v0_0) = v0 c
          ∧ r.2.mem ((c.tc : Thread Cert.Fps128Ideal.nD Cert.Fps128Ideal.τ).loc Cert.Fps128Ideal.main_v0_1) = v1 c
          ∧ r.2.mem ((c.tc : Thread Cert.Fps128Ideal.nD Cert.Fps128Ideal.τ).loc Cert.Fps128Ideal.main_arg0) = m ((c.tc : Thread Cert.Fps128Ideal.nD Cert.Fps128Ideal.τ).loc Cert.Fps128Ideal.main_arg0))
      ∧ θ_run (Cert.RefFps128Ideal.defs (F := Ideal)) (onTc (τ := Cert.RefFps128Ideal.τ) (Cert.RefFps128Ideal.main (F := Ideal))) ⟨m', fun _ => 0, g'⟩ (fun r => ∀ c : Dev Cert.RefFps128Ideal.nD,
          r.2.mem ((c.tc : Thread Cert.RefFps128Ideal.nD Cert.RefFps128Ideal.τ).loc Cert.RefFps128Ideal.main_v3_5) = v0 c
          ∧ r.2.mem ((c.tc : Thread Cert.RefFps128Ideal.nD Cert.RefFps128Ideal.τ).loc Cert.RefFps128Ideal.main_v10) = v1 c
          ∧ r.2.mem ((c.tc : Thread Cert.RefFps128Ideal.nD Cert.RefFps128Ideal.τ).loc Cert.RefFps128Ideal.main_arg0) = m' ((c.tc : Thread Cert.RefFps128Ideal.nD Cert.RefFps128Ideal.τ).loc Cert.RefFps128Ideal.main_arg0))

def preserves_Fps512_Fps512Ideal : Prop :=
  True

def algebraic_Fps512Ideal_RefFps512Ideal [hFps512Ideal : Cert.Fps512Ideal.Facts] [hRefFps512Ideal : Cert.RefFps512Ideal.Facts] : Prop :=
  ∀ (m : (ℓ : Loc Cert.Fps512Ideal.nD Cert.Fps512Ideal.τ Cert.Fps512Ideal.sig) → Buf (Elt Ideal) ℓ) (g : Dev Cert.Fps512Ideal.nD → PrngReg)
    (m' : (ℓ : Loc Cert.RefFps512Ideal.nD Cert.RefFps512Ideal.τ Cert.RefFps512Ideal.sig) → Buf (Elt Ideal) ℓ) (g' : Dev Cert.RefFps512Ideal.nD → PrngReg), Pre_Fps512Ideal m →
    (∀ c : Dev Cert.Fps512Ideal.nD,
      m' ((c.tc : Thread Cert.RefFps512Ideal.nD Cert.RefFps512Ideal.τ).loc Cert.RefFps512Ideal.main_arg0) = m ((c.tc : Thread Cert.Fps512Ideal.nD Cert.Fps512Ideal.τ).loc Cert.Fps512Ideal.main_arg0)) →
    ∃ (v0 : (c : Dev Cert.Fps512Ideal.nD) → Buf (Elt Ideal) ((c.tc : Thread Cert.Fps512Ideal.nD Cert.Fps512Ideal.τ).loc Cert.Fps512Ideal.main_v0_0)) (v1 : (c : Dev Cert.Fps512Ideal.nD) → Buf (Elt Ideal) ((c.tc : Thread Cert.Fps512Ideal.nD Cert.Fps512Ideal.τ).loc Cert.Fps512Ideal.main_v0_1)),
      θ_run (Cert.Fps512Ideal.defs (F := Ideal)) (onTc (τ := Cert.Fps512Ideal.τ) (Cert.Fps512Ideal.main (F := Ideal))) ⟨m, fun _ => 0, g⟩ (fun r => ∀ c : Dev Cert.Fps512Ideal.nD,
          r.2.mem ((c.tc : Thread Cert.Fps512Ideal.nD Cert.Fps512Ideal.τ).loc Cert.Fps512Ideal.main_v0_0) = v0 c
          ∧ r.2.mem ((c.tc : Thread Cert.Fps512Ideal.nD Cert.Fps512Ideal.τ).loc Cert.Fps512Ideal.main_v0_1) = v1 c
          ∧ r.2.mem ((c.tc : Thread Cert.Fps512Ideal.nD Cert.Fps512Ideal.τ).loc Cert.Fps512Ideal.main_arg0) = m ((c.tc : Thread Cert.Fps512Ideal.nD Cert.Fps512Ideal.τ).loc Cert.Fps512Ideal.main_arg0))
      ∧ θ_run (Cert.RefFps512Ideal.defs (F := Ideal)) (onTc (τ := Cert.RefFps512Ideal.τ) (Cert.RefFps512Ideal.main (F := Ideal))) ⟨m', fun _ => 0, g'⟩ (fun r => ∀ c : Dev Cert.RefFps512Ideal.nD,
          r.2.mem ((c.tc : Thread Cert.RefFps512Ideal.nD Cert.RefFps512Ideal.τ).loc Cert.RefFps512Ideal.main_v3_5) = v0 c
          ∧ r.2.mem ((c.tc : Thread Cert.RefFps512Ideal.nD Cert.RefFps512Ideal.τ).loc Cert.RefFps512Ideal.main_v10) = v1 c
          ∧ r.2.mem ((c.tc : Thread Cert.RefFps512Ideal.nD Cert.RefFps512Ideal.τ).loc Cert.RefFps512Ideal.main_arg0) = m' ((c.tc : Thread Cert.RefFps512Ideal.nD Cert.RefFps512Ideal.τ).loc Cert.RefFps512Ideal.main_arg0))

def Claim : Prop :=
  ∃ (hStageSelf : Cert.StageSelf.Facts) (hStageSelfIdeal : Cert.StageSelfIdeal.Facts) (hRefSelfIdeal : Cert.RefSelfIdeal.Facts) (hStageGather4 : Cert.StageGather4.Facts) (hStageGather4Ideal : Cert.StageGather4Ideal.Facts) (hRefGather4Ideal : Cert.RefGather4Ideal.Facts) (hStageGather2 : Cert.StageGather2.Facts) (hStageGather2Ideal : Cert.StageGather2Ideal.Facts) (hRefGather2Ideal : Cert.RefGather2Ideal.Facts) (hStageFirst : Cert.StageFirst.Facts) (hStageFirstIdeal : Cert.StageFirstIdeal.Facts) (hRefFirstIdeal : Cert.RefFirstIdeal.Facts) (hFinalize4 : Cert.Finalize4.Facts) (hFinalize4Ideal : Cert.Finalize4Ideal.Facts) (hRefFinalize4Ideal : Cert.RefFinalize4Ideal.Facts) (hFinalize2 : Cert.Finalize2.Facts) (hFinalize2Ideal : Cert.Finalize2Ideal.Facts) (hRefFinalize2Ideal : Cert.RefFinalize2Ideal.Facts) (hFinalize1 : Cert.Finalize1.Facts) (hFinalize1Ideal : Cert.Finalize1Ideal.Facts) (hRefFinalize1Ideal : Cert.RefFinalize1Ideal.Facts) (hFps128 : Cert.Fps128.Facts) (hFps128Ideal : Cert.Fps128Ideal.Facts) (hRefFps128Ideal : Cert.RefFps128Ideal.Facts) (hFps512 : Cert.Fps512.Facts) (hFps512Ideal : Cert.Fps512Ideal.Facts) (hRefFps512Ideal : Cert.RefFps512Ideal.Facts) (hPre_no_tie_self : Cert.Pre_no_tie_self.Facts) (hPre_no_tie_gather4 : Cert.Pre_no_tie_gather4.Facts) (hPre_no_tie_gather2 : Cert.Pre_no_tie_gather2.Facts) (hPre_no_tie_stage1 : Cert.Pre_no_tie_stage1.Facts) (hPre_spread4 : Cert.Pre_spread4.Facts) (hPre_spread2 : Cert.Pre_spread2.Facts) (hPre_spread1 : Cert.Pre_spread1.Facts),
    quiescent_StageSelf (hStageSelf := hStageSelf)
    ∧ quiescent_StageSelf_pre_no_tie_self (hStageSelf := hStageSelf) (hPre_no_tie_self := hPre_no_tie_self)
    ∧ quiescent_StageSelfIdeal (hStageSelfIdeal := hStageSelfIdeal) (hPre_no_tie_self := hPre_no_tie_self)
    ∧ quiescent_RefSelfIdeal (hRefSelfIdeal := hRefSelfIdeal)
    ∧ quiescent_RefSelfIdeal_pre_no_tie_self (hRefSelfIdeal := hRefSelfIdeal) (hPre_no_tie_self := hPre_no_tie_self)
    ∧ quiescent_StageGather4 (hStageGather4 := hStageGather4)
    ∧ quiescent_StageGather4_pre_no_tie_gather4 (hStageGather4 := hStageGather4) (hPre_no_tie_gather4 := hPre_no_tie_gather4)
    ∧ quiescent_StageGather4Ideal (hStageGather4Ideal := hStageGather4Ideal) (hPre_no_tie_gather4 := hPre_no_tie_gather4)
    ∧ quiescent_RefGather4Ideal (hRefGather4Ideal := hRefGather4Ideal)
    ∧ quiescent_RefGather4Ideal_pre_no_tie_gather4 (hRefGather4Ideal := hRefGather4Ideal) (hPre_no_tie_gather4 := hPre_no_tie_gather4)
    ∧ quiescent_StageGather2 (hStageGather2 := hStageGather2)
    ∧ quiescent_StageGather2_pre_no_tie_gather2 (hStageGather2 := hStageGather2) (hPre_no_tie_gather2 := hPre_no_tie_gather2)
    ∧ quiescent_StageGather2Ideal (hStageGather2Ideal := hStageGather2Ideal) (hPre_no_tie_gather2 := hPre_no_tie_gather2)
    ∧ quiescent_RefGather2Ideal (hRefGather2Ideal := hRefGather2Ideal)
    ∧ quiescent_RefGather2Ideal_pre_no_tie_gather2 (hRefGather2Ideal := hRefGather2Ideal) (hPre_no_tie_gather2 := hPre_no_tie_gather2)
    ∧ quiescent_StageFirst (hStageFirst := hStageFirst)
    ∧ quiescent_StageFirst_pre_no_tie_stage1 (hStageFirst := hStageFirst) (hPre_no_tie_stage1 := hPre_no_tie_stage1)
    ∧ quiescent_StageFirstIdeal (hStageFirstIdeal := hStageFirstIdeal) (hPre_no_tie_stage1 := hPre_no_tie_stage1)
    ∧ quiescent_RefFirstIdeal (hRefFirstIdeal := hRefFirstIdeal)
    ∧ quiescent_RefFirstIdeal_pre_no_tie_stage1 (hRefFirstIdeal := hRefFirstIdeal) (hPre_no_tie_stage1 := hPre_no_tie_stage1)
    ∧ quiescent_Finalize4 (hFinalize4 := hFinalize4)
    ∧ quiescent_Finalize4Ideal (hFinalize4Ideal := hFinalize4Ideal)
    ∧ quiescent_Finalize4Ideal_pre_spread4 (hFinalize4Ideal := hFinalize4Ideal) (hPre_spread4 := hPre_spread4)
    ∧ quiescent_RefFinalize4Ideal (hRefFinalize4Ideal := hRefFinalize4Ideal)
    ∧ quiescent_RefFinalize4Ideal_pre_spread4 (hRefFinalize4Ideal := hRefFinalize4Ideal) (hPre_spread4 := hPre_spread4)
    ∧ quiescent_Finalize2 (hFinalize2 := hFinalize2)
    ∧ quiescent_Finalize2Ideal (hFinalize2Ideal := hFinalize2Ideal)
    ∧ quiescent_Finalize2Ideal_pre_spread2 (hFinalize2Ideal := hFinalize2Ideal) (hPre_spread2 := hPre_spread2)
    ∧ quiescent_RefFinalize2Ideal (hRefFinalize2Ideal := hRefFinalize2Ideal)
    ∧ quiescent_RefFinalize2Ideal_pre_spread2 (hRefFinalize2Ideal := hRefFinalize2Ideal) (hPre_spread2 := hPre_spread2)
    ∧ quiescent_Finalize1 (hFinalize1 := hFinalize1)
    ∧ quiescent_Finalize1Ideal (hFinalize1Ideal := hFinalize1Ideal)
    ∧ quiescent_Finalize1Ideal_pre_spread1 (hFinalize1Ideal := hFinalize1Ideal) (hPre_spread1 := hPre_spread1)
    ∧ quiescent_RefFinalize1Ideal (hRefFinalize1Ideal := hRefFinalize1Ideal)
    ∧ quiescent_RefFinalize1Ideal_pre_spread1 (hRefFinalize1Ideal := hRefFinalize1Ideal) (hPre_spread1 := hPre_spread1)
    ∧ quiescent_Fps128 (hFps128 := hFps128)
    ∧ quiescent_Fps128Ideal (hFps128Ideal := hFps128Ideal)
    ∧ quiescent_RefFps128Ideal (hRefFps128Ideal := hRefFps128Ideal)
    ∧ quiescent_Fps512 (hFps512 := hFps512)
    ∧ quiescent_Fps512Ideal (hFps512Ideal := hFps512Ideal)
    ∧ quiescent_RefFps512Ideal (hRefFps512Ideal := hRefFps512Ideal)
    ∧ preserves_StageSelf_StageSelfIdeal
    ∧ algebraic_StageSelfIdeal_RefSelfIdeal (hStageSelfIdeal := hStageSelfIdeal) (hRefSelfIdeal := hRefSelfIdeal) (hPre_no_tie_self := hPre_no_tie_self)
    ∧ preserves_StageGather4_StageGather4Ideal
    ∧ algebraic_StageGather4Ideal_RefGather4Ideal (hStageGather4Ideal := hStageGather4Ideal) (hRefGather4Ideal := hRefGather4Ideal) (hPre_no_tie_gather4 := hPre_no_tie_gather4)
    ∧ preserves_StageGather2_StageGather2Ideal
    ∧ algebraic_StageGather2Ideal_RefGather2Ideal (hStageGather2Ideal := hStageGather2Ideal) (hRefGather2Ideal := hRefGather2Ideal) (hPre_no_tie_gather2 := hPre_no_tie_gather2)
    ∧ preserves_StageFirst_StageFirstIdeal
    ∧ algebraic_StageFirstIdeal_RefFirstIdeal (hStageFirstIdeal := hStageFirstIdeal) (hRefFirstIdeal := hRefFirstIdeal) (hPre_no_tie_stage1 := hPre_no_tie_stage1)
    ∧ preserves_Finalize4_Finalize4Ideal
    ∧ algebraic_Finalize4Ideal_RefFinalize4Ideal_pre_spread4 (hFinalize4Ideal := hFinalize4Ideal) (hRefFinalize4Ideal := hRefFinalize4Ideal) (hPre_spread4 := hPre_spread4)
    ∧ preserves_Finalize2_Finalize2Ideal
    ∧ algebraic_Finalize2Ideal_RefFinalize2Ideal_pre_spread2 (hFinalize2Ideal := hFinalize2Ideal) (hRefFinalize2Ideal := hRefFinalize2Ideal) (hPre_spread2 := hPre_spread2)
    ∧ preserves_Finalize1_Finalize1Ideal
    ∧ algebraic_Finalize1Ideal_RefFinalize1Ideal_pre_spread1 (hFinalize1Ideal := hFinalize1Ideal) (hRefFinalize1Ideal := hRefFinalize1Ideal) (hPre_spread1 := hPre_spread1)
    ∧ preserves_Fps128_Fps128Ideal
    ∧ algebraic_Fps128Ideal_RefFps128Ideal (hFps128Ideal := hFps128Ideal) (hRefFps128Ideal := hRefFps128Ideal)
    ∧ preserves_Fps512_Fps512Ideal
    ∧ algebraic_Fps512Ideal_RefFps512Ideal (hFps512Ideal := hFps512Ideal) (hRefFps512Ideal := hRefFps512Ideal)
-- ==== Pre_no_tie_gather2.lean ====
abbrev S16x3x512 : Shape := ⟨3, ![16, 3, 512]⟩
abbrev S16x3x2048 : Shape := ⟨3, ![16, 3, 2048]⟩
abbrev S16x32x2048 : Shape := ⟨3, ![16, 32, 2048]⟩
abbrev S16x1x512 : Shape := ⟨3, ![16, 1, 512]⟩
abbrev S64x64 : Shape := ⟨2, ![64, 64]⟩
abbrev S_ : Shape := ⟨0, ![]⟩
abbrev S16x3x512x1 : Shape := ⟨4, ![16, 3, 512, 1]⟩
abbrev S16x3x1x2048 : Shape := ⟨4, ![16, 3, 1, 2048]⟩
abbrev S16x3x512x2048 : Shape := ⟨4, ![16, 3, 512, 2048]⟩
abbrev S16x512x2048 : Shape := ⟨3, ![16, 512, 2048]⟩
abbrev S16x512x2047 : Shape := ⟨3, ![16, 512, 2047]⟩

class Facts : Prop where
  bcast_S_S16x1x512 : S_.BroadcastsInDim S16x1x512 (![] : Fin 0 → Fin S16x1x512.rank)
  reducesTo_S16x1x512_S_d0_1_2 : S16x1x512.ReducesTo [0, 1, 2] S_
  h_S_ : 0 < S_.numel
  bcast_S_S16x3x512 : S_.BroadcastsInDim S16x3x512 (![] : Fin 0 → Fin S16x3x512.rank)
  reducesTo_S16x3x512_S_d0_1_2 : S16x3x512.ReducesTo [0, 1, 2] S_
  bcast_S_S16x3x2048 : S_.BroadcastsInDim S16x3x2048 (![] : Fin 0 → Fin S16x3x2048.rank)
  reducesTo_S16x3x2048_S_d0_1_2 : S16x3x2048.ReducesTo [0, 1, 2] S_
  bcast_S_S16x32x2048 : S_.BroadcastsInDim S16x32x2048 (![] : Fin 0 → Fin S16x32x2048.rank)
  reducesTo_S16x32x2048_S_d0_1_2 : S16x32x2048.ReducesTo [0, 1, 2] S_
  bcast_S16x3x512_S16x3x512x1_0_1_2 : S16x3x512.BroadcastsInDim S16x3x512x1 (![0, 1, 2] : Fin 3 → Fin S16x3x512x1.rank)
  bcast_S16x3x2048_S16x3x1x2048_0_1_3 : S16x3x2048.BroadcastsInDim S16x3x1x2048 (![0, 1, 3] : Fin 3 → Fin S16x3x1x2048.rank)
  bcast_S16x3x512x1_S16x3x512x2048_0_1_2_3 : S16x3x512x1.BroadcastsInDim S16x3x512x2048 (![0, 1, 2, 3] : Fin 4 → Fin S16x3x512x2048.rank)
  bcast_S16x3x1x2048_S16x3x512x2048_0_1_2_3 : S16x3x1x2048.BroadcastsInDim S16x3x512x2048 (![0, 1, 2, 3] : Fin 4 → Fin S16x3x512x2048.rank)
  reducesTo_S16x3x512x2048_S16x512x2048_d1 : S16x3x512x2048.ReducesTo [1] S16x512x2048
  slices_S16x512x2048_S16x512x2047_0_0_0 : S16x512x2048.Slices ![0, 0, 0] S16x512x2047
  slices_S16x512x2048_S16x512x2047_0_0_1 : S16x512x2048.Slices ![0, 0, 1] S16x512x2047
  reducesTo_S16x512x2047_S_d0_1_2 : S16x512x2047.ReducesTo [0, 1, 2] S_

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S16x512x2048 .f32) : FVec F S16x512x2048 .f32 :=
  let v0 : FVec F S16x512x2048 .f32 := (fun x => Host.sort S16x512x2048 2 comparator_f32_d2 x) arg0
  v0

def fn_part1 {F : FTy → Type} [FloatOps F] (main_arg0 : FVec F S16x3x512 .f32) (main_arg1 : FVec F S16x3x2048 .f32) (main_arg2 : FVec F S16x32x2048 .f32) (main_v6 : IVec S_ 1) (main_v15 : IVec S_ 1) : IVec S_ 1 :=
  let main_v16 : FVec F S16x32x2048 .f32 := Host.absf main_arg2
  let main_cst_6 : FVec F S_ .f32 := constant S_ .f32 0x7F800000#32
  let main_v17 : FVec F S16x32x2048 .f32 := broadcastInDim S16x32x2048 ![] bcast_S_S16x32x2048 main_cst_6
  let main_v18 : IVec S16x32x2048 1 := cmpf .olt main_v16 main_v17
  let main_c_7 : IVec S_ 1 := constantI S_ 1 1#1
  let main_v19 : IVec S_ 1 := (fun x v => Host.reduce IntOp.andi x v reducesTo_S16x32x2048_S_d0_1_2 h_S_) main_v18 main_c_7
  let main_v20 : IVec S_ 1 := andi main_v15 main_v19
  let main_v21 : IVec S_ 1 := andi main_v20 main_v6
  let main_v22 : FVec F S16x3x512x1 .f32 := broadcastInDim S16x3x512x1 ![0, 1, 2] bcast_S16x3x512_S16x3x512x1_0_1_2 main_arg0
  let main_v23 : FVec F S16x3x1x2048 .f32 := broadcastInDim S16x3x1x2048 ![0, 1, 3] bcast_S16x3x2048_S16x3x1x2048_0_1_3 main_arg1
  let main_v24 : FVec F S16x3x512x2048 .f32 := broadcastInDim S16x3x512x2048 ![0, 1, 2, 3] bcast_S16x3x512x1_S16x3x512x2048_0_1_2_3 main_v22
  let main_v25 : FVec F S16x3x512x2048 .f32 := broadcastInDim S16x3x512x2048 ![0, 1, 2, 3] bcast_S16x3x1x2048_S16x3x512x2048_0_1_2_3 main_v23
  let main_v26 : FVec F S16x3x512x2048 .f32 := subf main_v24 main_v25
  let main_v27 : FVec F S16x3x512x2048 .f32 := mulf main_v26 main_v26
  let main_cst_8 : FVec F S_ .f32 := constant S_ .f32 0x00000000#32
  let main_v28 : FVec F S16x512x2048 .f32 := (fun x v => Host.reduceAdd x v reducesTo_S16x3x512x2048_S16x512x2048_d1 h_S_) main_v27 main_cst_8
  let main_v29 : FVec F S16x512x2048 .f32 := fn_sort (F := F) main_v28
  let main_v30 : FVec F S16x512x2047 .f32 := (extractStridedSlice S16x512x2047 ![0, 0, 0] · slices_S16x512x2048_S16x512x2047_0_0_0) main_v29
  let main_v31 : FVec F S16x512x2047 .f32 := (extractStridedSlice S16x512x2047 ![0, 0, 1] · slices_S16x512x2048_S16x512x2047_0_0_1) main_v29
  let main_v32 : IVec S16x512x2047 1 := cmpf .olt main_v30 main_v31
  let main_c_9 : IVec S_ 1 := constantI S_ 1 1#1
  let main_v33 : IVec S_ 1 := (fun x v => Host.reduce IntOp.andi x v reducesTo_S16x512x2047_S_d0_1_2 h_S_) main_v32 main_c_9
  let main_v34 : IVec S_ 1 := andi main_v21 main_v33
  main_v34

def fn {F : FTy → Type} [FloatOps F] (main_arg0 : FVec F S16x3x512 .f32) (main_arg1 : FVec F S16x3x2048 .f32) (main_arg2 : FVec F S16x32x2048 .f32) (main_arg3 : IVec S16x1x512 32) (main_arg4 : FVec F S64x64 .f32) : IVec S_ 1 :=
  let main_c : IVec S_ 32 := constantI S_ 32 0#32
  let main_v0 : IVec S16x1x512 32 := broadcastInDim S16x1x512 ![] bcast_S_S16x1x512 main_c
  let main_v1 : IVec S16x1x512 1 := cmpi .sge main_arg3 main_v0
  let main_c_0 : IVec S_ 1 := constantI S_ 1 1#1
  let main_v2 : IVec S_ 1 := (fun x v => Host.reduce IntOp.andi x v reducesTo_S16x1x512_S_d0_1_2 h_S_) main_v1 main_c_0
  let main_c_1 : IVec S_ 32 := constantI S_ 32 2048#32
  let main_v3 : IVec S16x1x512 32 := broadcastInDim S16x1x512 ![] bcast_S_S16x1x512 main_c_1
  let main_v4 : IVec S16x1x512 1 := cmpi .slt main_arg3 main_v3
  let main_c_2 : IVec S_ 1 := constantI S_ 1 1#1
  let main_v5 : IVec S_ 1 := (fun x v => Host.reduce IntOp.andi x v reducesTo_S16x1x512_S_d0_1_2 h_S_) main_v4 main_c_2
  let main_v6 : IVec S_ 1 := andi main_v2 main_v5
  let main_v7 : FVec F S16x3x512 .f32 := Host.absf main_arg0
  let main_cst : FVec F S_ .f32 := constant S_ .f32 0x7F800000#32
  let main_v8 : FVec F S16x3x512 .f32 := broadcastInDim S16x3x512 ![] bcast_S_S16x3x512 main_cst
  let main_v9 : IVec S16x3x512 1 := cmpf .olt main_v7 main_v8
  let main_c_3 : IVec S_ 1 := constantI S_ 1 1#1
  let main_v10 : IVec S_ 1 := (fun x v => Host.reduce IntOp.andi x v reducesTo_S16x3x512_S_d0_1_2 h_S_) main_v9 main_c_3
  let main_v11 : FVec F S16x3x2048 .f32 := Host.absf main_arg1
  let main_cst_4 : FVec F S_ .f32 := constant S_ .f32 0x7F800000#32
  let main_v12 : FVec F S16x3x2048 .f32 := broadcastInDim S16x3x2048 ![] bcast_S_S16x3x2048 main_cst_4
  let main_v13 : IVec S16x3x2048 1 := cmpf .olt main_v11 main_v12
  let main_c_5 : IVec S_ 1 := constantI S_ 1 1#1
  let main_v14 : IVec S_ 1 := (fun x v => Host.reduce IntOp.andi x v reducesTo_S16x3x2048_S_d0_1_2 h_S_) main_v13 main_c_5
  let main_v15 : IVec S_ 1 := andi main_v10 main_v14
  fn_part1 (F := F) main_arg0 main_arg1 main_arg2 main_v6 main_v15
-- ==== Pre_no_tie_gather4.lean ====
abbrev S16x3x128 : Shape := ⟨3, ![16, 3, 128]⟩
abbrev S16x3x512 : Shape := ⟨3, ![16, 3, 512]⟩
abbrev S16x64x512 : Shape := ⟨3, ![16, 64, 512]⟩
abbrev S16x1x128 : Shape := ⟨3, ![16, 1, 128]⟩
abbrev S128x128 : Shape := ⟨2, ![128, 128]⟩
abbrev S_ : Shape := ⟨0, ![]⟩
abbrev S16x3x128x1 : Shape := ⟨4, ![16, 3, 128, 1]⟩
abbrev S16x3x1x512 : Shape := ⟨4, ![16, 3, 1, 512]⟩
abbrev S16x3x128x512 : Shape := ⟨4, ![16, 3, 128, 512]⟩
abbrev S16x128x512 : Shape := ⟨3, ![16, 128, 512]⟩
abbrev S16x128x511 : Shape := ⟨3, ![16, 128, 511]⟩

class Facts : Prop where
  bcast_S_S16x1x128 : S_.BroadcastsInDim S16x1x128 (![] : Fin 0 → Fin S16x1x128.rank)
  reducesTo_S16x1x128_S_d0_1_2 : S16x1x128.ReducesTo [0, 1, 2] S_
  h_S_ : 0 < S_.numel
  bcast_S_S16x3x128 : S_.BroadcastsInDim S16x3x128 (![] : Fin 0 → Fin S16x3x128.rank)
  reducesTo_S16x3x128_S_d0_1_2 : S16x3x128.ReducesTo [0, 1, 2] S_
  bcast_S_S16x3x512 : S_.BroadcastsInDim S16x3x512 (![] : Fin 0 → Fin S16x3x512.rank)
  reducesTo_S16x3x512_S_d0_1_2 : S16x3x512.ReducesTo [0, 1, 2] S_
  bcast_S_S16x64x512 : S_.BroadcastsInDim S16x64x512 (![] : Fin 0 → Fin S16x64x512.rank)
  reducesTo_S16x64x512_S_d0_1_2 : S16x64x512.ReducesTo [0, 1, 2] S_
  bcast_S16x3x128_S16x3x128x1_0_1_2 : S16x3x128.BroadcastsInDim S16x3x128x1 (![0, 1, 2] : Fin 3 → Fin S16x3x128x1.rank)
  bcast_S16x3x512_S16x3x1x512_0_1_3 : S16x3x512.BroadcastsInDim S16x3x1x512 (![0, 1, 3] : Fin 3 → Fin S16x3x1x512.rank)
  bcast_S16x3x128x1_S16x3x128x512_0_1_2_3 : S16x3x128x1.BroadcastsInDim S16x3x128x512 (![0, 1, 2, 3] : Fin 4 → Fin S16x3x128x512.rank)
  bcast_S16x3x1x512_S16x3x128x512_0_1_2_3 : S16x3x1x512.BroadcastsInDim S16x3x128x512 (![0, 1, 2, 3] : Fin 4 → Fin S16x3x128x512.rank)
  reducesTo_S16x3x128x512_S16x128x512_d1 : S16x3x128x512.ReducesTo [1] S16x128x512
  slices_S16x128x512_S16x128x511_0_0_0 : S16x128x512.Slices ![0, 0, 0] S16x128x511
  slices_S16x128x512_S16x128x511_0_0_1 : S16x128x512.Slices ![0, 0, 1] S16x128x511
  reducesTo_S16x128x511_S_d0_1_2 : S16x128x511.ReducesTo [0, 1, 2] S_

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S16x128x512 .f32) : FVec F S16x128x512 .f32 :=
  let v0 : FVec F S16x128x512 .f32 := (fun x => Host.sort S16x128x512 2 comparator_f32_d2 x) arg0
  v0

def fn_part1 {F : FTy → Type} [FloatOps F] (main_arg0 : FVec F S16x3x128 .f32) (main_arg1 : FVec F S16x3x512 .f32) (main_arg2 : FVec F S16x64x512 .f32) (main_v6 : IVec S_ 1) (main_v15 : IVec S_ 1) : IVec S_ 1 :=
  let main_v16 : FVec F S16x64x512 .f32 := Host.absf main_arg2
  let main_cst_6 : FVec F S_ .f32 := constant S_ .f32 0x7F800000#32
  let main_v17 : FVec F S16x64x512 .f32 := broadcastInDim S16x64x512 ![] bcast_S_S16x64x512 main_cst_6
  let main_v18 : IVec S16x64x512 1 := cmpf .olt main_v16 main_v17
  let main_c_7 : IVec S_ 1 := constantI S_ 1 1#1
  let main_v19 : IVec S_ 1 := (fun x v => Host.reduce IntOp.andi x v reducesTo_S16x64x512_S_d0_1_2 h_S_) main_v18 main_c_7
  let main_v20 : IVec S_ 1 := andi main_v15 main_v19
  let main_v21 : IVec S_ 1 := andi main_v20 main_v6
  let main_v22 : FVec F S16x3x128x1 .f32 := broadcastInDim S16x3x128x1 ![0, 1, 2] bcast_S16x3x128_S16x3x128x1_0_1_2 main_arg0
  let main_v23 : FVec F S16x3x1x512 .f32 := broadcastInDim S16x3x1x512 ![0, 1, 3] bcast_S16x3x512_S16x3x1x512_0_1_3 main_arg1
  let main_v24 : FVec F S16x3x128x512 .f32 := broadcastInDim S16x3x128x512 ![0, 1, 2, 3] bcast_S16x3x128x1_S16x3x128x512_0_1_2_3 main_v22
  let main_v25 : FVec F S16x3x128x512 .f32 := broadcastInDim S16x3x128x512 ![0, 1, 2, 3] bcast_S16x3x1x512_S16x3x128x512_0_1_2_3 main_v23
  let main_v26 : FVec F S16x3x128x512 .f32 := subf main_v24 main_v25
  let main_v27 : FVec F S16x3x128x512 .f32 := mulf main_v26 main_v26
  let main_cst_8 : FVec F S_ .f32 := constant S_ .f32 0x00000000#32
  let main_v28 : FVec F S16x128x512 .f32 := (fun x v => Host.reduceAdd x v reducesTo_S16x3x128x512_S16x128x512_d1 h_S_) main_v27 main_cst_8
  let main_v29 : FVec F S16x128x512 .f32 := fn_sort (F := F) main_v28
  let main_v30 : FVec F S16x128x511 .f32 := (extractStridedSlice S16x128x511 ![0, 0, 0] · slices_S16x128x512_S16x128x511_0_0_0) main_v29
  let main_v31 : FVec F S16x128x511 .f32 := (extractStridedSlice S16x128x511 ![0, 0, 1] · slices_S16x128x512_S16x128x511_0_0_1) main_v29
  let main_v32 : IVec S16x128x511 1 := cmpf .olt main_v30 main_v31
  let main_c_9 : IVec S_ 1 := constantI S_ 1 1#1
  let main_v33 : IVec S_ 1 := (fun x v => Host.reduce IntOp.andi x v reducesTo_S16x128x511_S_d0_1_2 h_S_) main_v32 main_c_9
  let main_v34 : IVec S_ 1 := andi main_v21 main_v33
  main_v34

def fn {F : FTy → Type} [FloatOps F] (main_arg0 : FVec F S16x3x128 .f32) (main_arg1 : FVec F S16x3x512 .f32) (main_arg2 : FVec F S16x64x512 .f32) (main_arg3 : IVec S16x1x128 32) (main_arg4 : FVec F S128x128 .f32) : IVec S_ 1 :=
  let main_c : IVec S_ 32 := constantI S_ 32 0#32
  let main_v0 : IVec S16x1x128 32 := broadcastInDim S16x1x128 ![] bcast_S_S16x1x128 main_c
  let main_v1 : IVec S16x1x128 1 := cmpi .sge main_arg3 main_v0
  let main_c_0 : IVec S_ 1 := constantI S_ 1 1#1
  let main_v2 : IVec S_ 1 := (fun x v => Host.reduce IntOp.andi x v reducesTo_S16x1x128_S_d0_1_2 h_S_) main_v1 main_c_0
  let main_c_1 : IVec S_ 32 := constantI S_ 32 512#32
  let main_v3 : IVec S16x1x128 32 := broadcastInDim S16x1x128 ![] bcast_S_S16x1x128 main_c_1
  let main_v4 : IVec S16x1x128 1 := cmpi .slt main_arg3 main_v3
  let main_c_2 : IVec S_ 1 := constantI S_ 1 1#1
  let main_v5 : IVec S_ 1 := (fun x v => Host.reduce IntOp.andi x v reducesTo_S16x1x128_S_d0_1_2 h_S_) main_v4 main_c_2
  let main_v6 : IVec S_ 1 := andi main_v2 main_v5
  let main_v7 : FVec F S16x3x128 .f32 := Host.absf main_arg0
  let main_cst : FVec F S_ .f32 := constant S_ .f32 0x7F800000#32
  let main_v8 : FVec F S16x3x128 .f32 := broadcastInDim S16x3x128 ![] bcast_S_S16x3x128 main_cst
  let main_v9 : IVec S16x3x128 1 := cmpf .olt main_v7 main_v8
  let main_c_3 : IVec S_ 1 := constantI S_ 1 1#1
  let main_v10 : IVec S_ 1 := (fun x v => Host.reduce IntOp.andi x v reducesTo_S16x3x128_S_d0_1_2 h_S_) main_v9 main_c_3
  let main_v11 : FVec F S16x3x512 .f32 := Host.absf main_arg1
  let main_cst_4 : FVec F S_ .f32 := constant S_ .f32 0x7F800000#32
  let main_v12 : FVec F S16x3x512 .f32 := broadcastInDim S16x3x512 ![] bcast_S_S16x3x512 main_cst_4
  let main_v13 : IVec S16x3x512 1 := cmpf .olt main_v11 main_v12
  let main_c_5 : IVec S_ 1 := constantI S_ 1 1#1
  let main_v14 : IVec S_ 1 := (fun x v => Host.reduce IntOp.andi x v reducesTo_S16x3x512_S_d0_1_2 h_S_) main_v13 main_c_5
  let main_v15 : IVec S_ 1 := andi main_v10 main_v14
  fn_part1 (F := F) main_arg0 main_arg1 main_arg2 main_v6 main_v15
-- ==== Pre_no_tie_self.lean ====
abbrev S16x3x512 : Shape := ⟨3, ![16, 3, 512]⟩
abbrev S16x64x512 : Shape := ⟨3, ![16, 64, 512]⟩
abbrev S64x128 : Shape := ⟨2, ![64, 128]⟩
abbrev S_ : Shape := ⟨0, ![]⟩
abbrev S16x3x512x1 : Shape := ⟨4, ![16, 3, 512, 1]⟩
abbrev S16x3x1x512 : Shape := ⟨4, ![16, 3, 1, 512]⟩
abbrev S16x3x512x512 : Shape := ⟨4, ![16, 3, 512, 512]⟩
abbrev S16x512x512 : Shape := ⟨3, ![16, 512, 512]⟩
abbrev S16x512x511 : Shape := ⟨3, ![16, 512, 511]⟩

class Facts : Prop where
  bcast_S_S16x3x512 : S_.BroadcastsInDim S16x3x512 (![] : Fin 0 → Fin S16x3x512.rank)
  reducesTo_S16x3x512_S_d0_1_2 : S16x3x512.ReducesTo [0, 1, 2] S_
  h_S_ : 0 < S_.numel
  bcast_S_S16x64x512 : S_.BroadcastsInDim S16x64x512 (![] : Fin 0 → Fin S16x64x512.rank)
  reducesTo_S16x64x512_S_d0_1_2 : S16x64x512.ReducesTo [0, 1, 2] S_
  bcast_S16x3x512_S16x3x512x1_0_1_2 : S16x3x512.BroadcastsInDim S16x3x512x1 (![0, 1, 2] : Fin 3 → Fin S16x3x512x1.rank)
  bcast_S16x3x512_S16x3x1x512_0_1_3 : S16x3x512.BroadcastsInDim S16x3x1x512 (![0, 1, 3] : Fin 3 → Fin S16x3x1x512.rank)
  bcast_S16x3x512x1_S16x3x512x512_0_1_2_3 : S16x3x512x1.BroadcastsInDim S16x3x512x512 (![0, 1, 2, 3] : Fin 4 → Fin S16x3x512x512.rank)
  bcast_S16x3x1x512_S16x3x512x512_0_1_2_3 : S16x3x1x512.BroadcastsInDim S16x3x512x512 (![0, 1, 2, 3] : Fin 4 → Fin S16x3x512x512.rank)
  reducesTo_S16x3x512x512_S16x512x512_d1 : S16x3x512x512.ReducesTo [1] S16x512x512
  slices_S16x512x512_S16x512x511_0_0_0 : S16x512x512.Slices ![0, 0, 0] S16x512x511
  slices_S16x512x512_S16x512x511_0_0_1 : S16x512x512.Slices ![0, 0, 1] S16x512x511
  reducesTo_S16x512x511_S_d0_1_2 : S16x512x511.ReducesTo [0, 1, 2] S_

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S16x512x512 .f32) : FVec F S16x512x512 .f32 :=
  let v0 : FVec F S16x512x512 .f32 := (fun x => Host.sort S16x512x512 2 comparator_f32_d2 x) arg0
  v0

def fn_part1 {F : FTy → Type} [FloatOps F] (main_v8 : IVec S_ 1) (main_v17 : FVec F S16x512x511 .f32) (main_v18 : FVec F S16x512x511 .f32) : IVec S_ 1 :=
  let main_v19 : IVec S16x512x511 1 := cmpf .olt main_v17 main_v18
  let main_c_3 : IVec S_ 1 := constantI S_ 1 1#1
  let main_v20 : IVec S_ 1 := (fun x v => Host.reduce IntOp.andi x v reducesTo_S16x512x511_S_d0_1_2 h_S_) main_v19 main_c_3
  let main_v21 : IVec S_ 1 := andi main_v8 main_v20
  main_v21

def fn {F : FTy → Type} [FloatOps F] (main_arg0 : FVec F S16x3x512 .f32) (main_arg1 : FVec F S16x64x512 .f32) (main_arg2 : FVec F S64x128 .f32) : IVec S_ 1 :=
  let main_v0 : FVec F S16x3x512 .f32 := Host.absf main_arg0
  let main_cst : FVec F S_ .f32 := constant S_ .f32 0x7F800000#32
  let main_v1 : FVec F S16x3x512 .f32 := broadcastInDim S16x3x512 ![] bcast_S_S16x3x512 main_cst
  let main_v2 : IVec S16x3x512 1 := cmpf .olt main_v0 main_v1
  let main_c : IVec S_ 1 := constantI S_ 1 1#1
  let main_v3 : IVec S_ 1 := (fun x v => Host.reduce IntOp.andi x v reducesTo_S16x3x512_S_d0_1_2 h_S_) main_v2 main_c
  let main_v4 : FVec F S16x64x512 .f32 := Host.absf main_arg1
  let main_cst_0 : FVec F S_ .f32 := constant S_ .f32 0x7F800000#32
  let main_v5 : FVec F S16x64x512 .f32 := broadcastInDim S16x64x512 ![] bcast_S_S16x64x512 main_cst_0
  let main_v6 : IVec S16x64x512 1 := cmpf .olt main_v4 main_v5
  let main_c_1 : IVec S_ 1 := constantI S_ 1 1#1
  let main_v7 : IVec S_ 1 := (fun x v => Host.reduce IntOp.andi x v reducesTo_S16x64x512_S_d0_1_2 h_S_) main_v6 main_c_1
  let main_v8 : IVec S_ 1 := andi main_v3 main_v7
  let main_v9 : FVec F S16x3x512x1 .f32 := broadcastInDim S16x3x512x1 ![0, 1, 2] bcast_S16x3x512_S16x3x512x1_0_1_2 main_arg0
  let main_v10 : FVec F S16x3x1x512 .f32 := broadcastInDim S16x3x1x512 ![0, 1, 3] bcast_S16x3x512_S16x3x1x512_0_1_3 main_arg0
  let main_v11 : FVec F S16x3x512x512 .f32 := broadcastInDim S16x3x512x512 ![0, 1, 2, 3] bcast_S16x3x512x1_S16x3x512x512_0_1_2_3 main_v9
  let main_v12 : FVec F S16x3x512x512 .f32 := broadcastInDim S16x3x512x512 ![0, 1, 2, 3] bcast_S16x3x1x512_S16x3x512x512_0_1_2_3 main_v10
  let main_v13 : FVec F S16x3x512x512 .f32 := subf main_v11 main_v12
  let main_v14 : FVec F S16x3x512x512 .f32 := mulf main_v13 main_v13
  let main_cst_2 : FVec F S_ .f32 := constant S_ .f32 0x00000000#32
  let main_v15 : FVec F S16x512x512 .f32 := (fun x v => Host.reduceAdd x v reducesTo_S16x3x512x512_S16x512x512_d1 h_S_) main_v14 main_cst_2
  let main_v16 : FVec F S16x512x512 .f32 := fn_sort (F := F) main_v15
  let main_v17 : FVec F S16x512x511 .f32 := (extractStridedSlice S16x512x511 ![0, 0, 0] · slices_S16x512x512_S16x512x511_0_0_0) main_v16
  let main_v18 : FVec F S16x512x511 .f32 := (extractStridedSlice S16x512x511 ![0, 0, 1] · slices_S16x512x512_S16x512x511_0_0_1) main_v16
  fn_part1 (F := F) main_v8 main_v17 main_v18
-- ==== Pre_no_tie_stage1.lean ====
abbrev S16x3x2048 : Shape := ⟨3, ![16, 3, 2048]⟩
abbrev S8x3 : Shape := ⟨2, ![8, 3]⟩
abbrev S8x1 : Shape := ⟨2, ![8, 1]⟩
abbrev S32x16 : Shape := ⟨2, ![32, 16]⟩
abbrev S_ : Shape := ⟨0, ![]⟩
abbrev S16x3x2048x1 : Shape := ⟨4, ![16, 3, 2048, 1]⟩
abbrev S16x3x1x2048 : Shape := ⟨4, ![16, 3, 1, 2048]⟩
abbrev S16x3x2048x2048 : Shape := ⟨4, ![16, 3, 2048, 2048]⟩
abbrev S16x2048x2048 : Shape := ⟨3, ![16, 2048, 2048]⟩
abbrev S16x2048x2047 : Shape := ⟨3, ![16, 2048, 2047]⟩

class Facts : Prop where
  bcast_S_S16x3x2048 : S_.BroadcastsInDim S16x3x2048 (![] : Fin 0 → Fin S16x3x2048.rank)
  reducesTo_S16x3x2048_S_d0_1_2 : S16x3x2048.ReducesTo [0, 1, 2] S_
  h_S_ : 0 < S_.numel
  bcast_S_S8x3 : S_.BroadcastsInDim S8x3 (![] : Fin 0 → Fin S8x3.rank)
  reducesTo_S8x3_S_d0_1 : S8x3.ReducesTo [0, 1] S_
  bcast_S_S8x1 : S_.BroadcastsInDim S8x1 (![] : Fin 0 → Fin S8x1.rank)
  reducesTo_S8x1_S_d0_1 : S8x1.ReducesTo [0, 1] S_
  bcast_S16x3x2048_S16x3x2048x1_0_1_2 : S16x3x2048.BroadcastsInDim S16x3x2048x1 (![0, 1, 2] : Fin 3 → Fin S16x3x2048x1.rank)
  bcast_S16x3x2048_S16x3x1x2048_0_1_3 : S16x3x2048.BroadcastsInDim S16x3x1x2048 (![0, 1, 3] : Fin 3 → Fin S16x3x1x2048.rank)
  bcast_S16x3x2048x1_S16x3x2048x2048_0_1_2_3 : S16x3x2048x1.BroadcastsInDim S16x3x2048x2048 (![0, 1, 2, 3] : Fin 4 → Fin S16x3x2048x2048.rank)
  bcast_S16x3x1x2048_S16x3x2048x2048_0_1_2_3 : S16x3x1x2048.BroadcastsInDim S16x3x2048x2048 (![0, 1, 2, 3] : Fin 4 → Fin S16x3x2048x2048.rank)
  reducesTo_S16x3x2048x2048_S16x2048x2048_d1 : S16x3x2048x2048.ReducesTo [1] S16x2048x2048
  slices_S16x2048x2048_S16x2048x2047_0_0_0 : S16x2048x2048.Slices ![0, 0, 0] S16x2048x2047
  slices_S16x2048x2048_S16x2048x2047_0_0_1 : S16x2048x2048.Slices ![0, 0, 1] S16x2048x2047
  reducesTo_S16x2048x2047_S_d0_1_2 : S16x2048x2047.ReducesTo [0, 1, 2] S_

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S16x2048x2048 .f32) : FVec F S16x2048x2048 .f32 :=
  let v0 : FVec F S16x2048x2048 .f32 := (fun x => Host.sort S16x2048x2048 2 comparator_f32_d2 x) arg0
  v0

def fn_part1 {F : FTy → Type} [FloatOps F] (main_v13 : IVec S_ 1) (main_v16 : FVec F S16x3x2048x2048 .f32) (main_v17 : FVec F S16x3x2048x2048 .f32) : IVec S_ 1 :=
  let main_v18 : FVec F S16x3x2048x2048 .f32 := subf main_v16 main_v17
  let main_v19 : FVec F S16x3x2048x2048 .f32 := mulf main_v18 main_v18
  let main_cst_4 : FVec F S_ .f32 := constant S_ .f32 0x00000000#32
  let main_v20 : FVec F S16x2048x2048 .f32 := (fun x v => Host.reduceAdd x v reducesTo_S16x3x2048x2048_S16x2048x2048_d1 h_S_) main_v19 main_cst_4
  let main_v21 : FVec F S16x2048x2048 .f32 := fn_sort (F := F) main_v20
  let main_v22 : FVec F S16x2048x2047 .f32 := (extractStridedSlice S16x2048x2047 ![0, 0, 0] · slices_S16x2048x2048_S16x2048x2047_0_0_0) main_v21
  let main_v23 : FVec F S16x2048x2047 .f32 := (extractStridedSlice S16x2048x2047 ![0, 0, 1] · slices_S16x2048x2048_S16x2048x2047_0_0_1) main_v21
  let main_v24 : IVec S16x2048x2047 1 := cmpf .olt main_v22 main_v23
  let main_c_5 : IVec S_ 1 := constantI S_ 1 1#1
  let main_v25 : IVec S_ 1 := (fun x v => Host.reduce IntOp.andi x v reducesTo_S16x2048x2047_S_d0_1_2 h_S_) main_v24 main_c_5
  let main_v26 : IVec S_ 1 := andi main_v13 main_v25
  main_v26

def fn {F : FTy → Type} [FloatOps F] (main_arg0 : FVec F S16x3x2048 .f32) (main_arg1 : FVec F S8x3 .f32) (main_arg2 : FVec F S8x1 .f32) (main_arg3 : FVec F S32x16 .f32) : IVec S_ 1 :=
  let main_v0 : FVec F S16x3x2048 .f32 := Host.absf main_arg0
  let main_cst : FVec F S_ .f32 := constant S_ .f32 0x7F800000#32
  let main_v1 : FVec F S16x3x2048 .f32 := broadcastInDim S16x3x2048 ![] bcast_S_S16x3x2048 main_cst
  let main_v2 : IVec S16x3x2048 1 := cmpf .olt main_v0 main_v1
  let main_c : IVec S_ 1 := constantI S_ 1 1#1
  let main_v3 : IVec S_ 1 := (fun x v => Host.reduce IntOp.andi x v reducesTo_S16x3x2048_S_d0_1_2 h_S_) main_v2 main_c
  let main_v4 : FVec F S8x3 .f32 := Host.absf main_arg1
  let main_cst_0 : FVec F S_ .f32 := constant S_ .f32 0x7F800000#32
  let main_v5 : FVec F S8x3 .f32 := broadcastInDim S8x3 ![] bcast_S_S8x3 main_cst_0
  let main_v6 : IVec S8x3 1 := cmpf .olt main_v4 main_v5
  let main_c_1 : IVec S_ 1 := constantI S_ 1 1#1
  let main_v7 : IVec S_ 1 := (fun x v => Host.reduce IntOp.andi x v reducesTo_S8x3_S_d0_1 h_S_) main_v6 main_c_1
  let main_v8 : IVec S_ 1 := andi main_v3 main_v7
  let main_v9 : FVec F S8x1 .f32 := Host.absf main_arg2
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  let main_v14 : FVec F S16x3x2048x1 .f32 := broadcastInDim S16x3x2048x1 ![0, 1, 2] bcast_S16x3x2048_S16x3x2048x1_0_1_2 main_arg0
  let main_v15 : FVec F S16x3x1x2048 .f32 := broadcastInDim S16x3x1x2048 ![0, 1, 3] bcast_S16x3x2048_S16x3x1x2048_0_1_3 main_arg0
  let main_v16 : FVec F S16x3x2048x2048 .f32 := broadcastInDim S16x3x2048x2048 ![0, 1, 2, 3] bcast_S16x3x2048x1_S16x3x2048x2048_0_1_2_3 main_v14
  let main_v17 : FVec F S16x3x2048x2048 .f32 := broadcastInDim S16x3x2048x2048 ![0, 1, 2, 3] bcast_S16x3x1x2048_S16x3x2048x2048_0_1_2_3 main_v15
  fn_part1 (F := F) main_v13 main_v16 main_v17
-- ==== Pre_spread1.lean ====
abbrev S16x32x2048 : Shape := ⟨3, ![16, 32, 2048]⟩
abbrev S16x4x2 : Shape := ⟨3, ![16, 4, 2]⟩
abbrev S32x1 : Shape := ⟨2, ![32, 1]⟩
abbrev S16x4x1 : Shape := ⟨3, ![16, 4, 1]⟩
abbrev S16x4 : Shape := ⟨2, ![16, 4]⟩
abbrev S_ : Shape := ⟨0, ![]⟩

class Facts : Prop where
  slices_S16x4x2_S16x4x1_0_0_0 : S16x4x2.Slices ![0, 0, 0] S16x4x1
  shapeCasts_S16x4x1_S16x4 : S16x4x1.ShapeCasts S16x4
  bcast_S_S16x4 : S_.BroadcastsInDim S16x4 (![] : Fin 0 → Fin S16x4.rank)
  slices_S16x4x2_S16x4x1_0_0_1 : S16x4x2.Slices ![0, 0, 1] S16x4x1
  reducesTo_S16x4_S_d0_1 : S16x4.ReducesTo [0, 1] S_
  h_S_ : 0 < S_.numel

variable [Facts]

def fn {F : FTy → Type} [FloatOps F] (main_arg0 : FVec F S16x32x2048 .f32) (main_arg1 : FVec F S16x4x2 .f32) (main_arg2 : FVec F S32x1 .f32) (main_arg3 : FVec F S32x1 .f32) : IVec S_ 1 :=
  let main_v0 : FVec F S16x4x1 .f32 := (extractStridedSlice S16x4x1 ![0, 0, 0] · slices_S16x4x2_S16x4x1_0_0_0) main_arg1
  let main_v1 : FVec F S16x4 .f32 := shapeCast S16x4 main_v0 shapeCasts_S16x4x1_S16x4
  let main_cst : FVec F S_ .f32 := constant S_ .f32 0x48800000#32
  let main_v2 : FVec F S16x4 .f32 := broadcastInDim S16x4 ![] bcast_S_S16x4 main_cst
  let main_v3 : FVec F S16x4 .f32 := Host.divf main_v1 main_v2
  let main_v4 : FVec F S16x4x1 .f32 := (extractStridedSlice S16x4x1 ![0, 0, 1] · slices_S16x4x2_S16x4x1_0_0_1) main_arg1
  let main_v5 : FVec F S16x4 .f32 := shapeCast S16x4 main_v4 shapeCasts_S16x4x1_S16x4
  let main_cst_0 : FVec F S_ .f32 := constant S_ .f32 0x48800000#32
  let main_v6 : FVec F S16x4 .f32 := broadcastInDim S16x4 ![] bcast_S_S16x4 main_cst_0
  let main_v7 : FVec F S16x4 .f32 := Host.divf main_v5 main_v6
  let main_v8 : FVec F S16x4 .f32 := mulf main_v3 main_v3
  let main_v9 : FVec F S16x4 .f32 := subf main_v7 main_v8
  let main_cst_1 : FVec F S_ .f32 := constant S_ .f32 0x3727C5AC#32
  let main_v10 : FVec F S16x4 .f32 := broadcastInDim S16x4 ![] bcast_S_S16x4 main_cst_1
  let main_v11 : FVec F S16x4 .f32 := addf main_v9 main_v10
  let main_cst_2 : FVec F S_ .f32 := constant S_ .f32 0x00000000#32
  let main_v12 : FVec F S16x4 .f32 := broadcastInDim S16x4 ![] bcast_S_S16x4 main_cst_2
  let main_v13 : IVec S16x4 1 := cmpf .ogt main_v11 main_v12
  let main_c : IVec S_ 1 := constantI S_ 1 1#1
  let main_v14 : IVec S_ 1 := (fun x v => Host.reduce IntOp.andi x v reducesTo_S16x4_S_d0_1 h_S_) main_v13 main_c
  main_v14
-- ==== Pre_spread2.lean ====
abbrev S16x64x512 : Shape := ⟨3, ![16, 64, 512]⟩
abbrev S16x4x2 : Shape := ⟨3, ![16, 4, 2]⟩
abbrev S64x1 : Shape := ⟨2, ![64, 1]⟩
abbrev S16x4x1 : Shape := ⟨3, ![16, 4, 1]⟩
abbrev S16x4 : Shape := ⟨2, ![16, 4]⟩
abbrev S_ : Shape := ⟨0, ![]⟩

class Facts : Prop where
  slices_S16x4x2_S16x4x1_0_0_0 : S16x4x2.Slices ![0, 0, 0] S16x4x1
  shapeCasts_S16x4x1_S16x4 : S16x4x1.ShapeCasts S16x4
  bcast_S_S16x4 : S_.BroadcastsInDim S16x4 (![] : Fin 0 → Fin S16x4.rank)
  slices_S16x4x2_S16x4x1_0_0_1 : S16x4x2.Slices ![0, 0, 1] S16x4x1
  reducesTo_S16x4_S_d0_1 : S16x4.ReducesTo [0, 1] S_
  h_S_ : 0 < S_.numel

variable [Facts]

def fn {F : FTy → Type} [FloatOps F] (main_arg0 : FVec F S16x64x512 .f32) (main_arg1 : FVec F S16x4x2 .f32) (main_arg2 : FVec F S64x1 .f32) (main_arg3 : FVec F S64x1 .f32) : IVec S_ 1 :=
  let main_v0 : FVec F S16x4x1 .f32 := (extractStridedSlice S16x4x1 ![0, 0, 0] · slices_S16x4x2_S16x4x1_0_0_0) main_arg1
  let main_v1 : FVec F S16x4 .f32 := shapeCast S16x4 main_v0 shapeCasts_S16x4x1_S16x4
  let main_cst : FVec F S_ .f32 := constant S_ .f32 0x48000000#32
  let main_v2 : FVec F S16x4 .f32 := broadcastInDim S16x4 ![] bcast_S_S16x4 main_cst
  let main_v3 : FVec F S16x4 .f32 := Host.divf main_v1 main_v2
  let main_v4 : FVec F S16x4x1 .f32 := (extractStridedSlice S16x4x1 ![0, 0, 1] · slices_S16x4x2_S16x4x1_0_0_1) main_arg1
  let main_v5 : FVec F S16x4 .f32 := shapeCast S16x4 main_v4 shapeCasts_S16x4x1_S16x4
  let main_cst_0 : FVec F S_ .f32 := constant S_ .f32 0x48000000#32
  let main_v6 : FVec F S16x4 .f32 := broadcastInDim S16x4 ![] bcast_S_S16x4 main_cst_0
  let main_v7 : FVec F S16x4 .f32 := Host.divf main_v5 main_v6
  let main_v8 : FVec F S16x4 .f32 := mulf main_v3 main_v3
  let main_v9 : FVec F S16x4 .f32 := subf main_v7 main_v8
  let main_cst_1 : FVec F S_ .f32 := constant S_ .f32 0x3727C5AC#32
  let main_v10 : FVec F S16x4 .f32 := broadcastInDim S16x4 ![] bcast_S_S16x4 main_cst_1
  let main_v11 : FVec F S16x4 .f32 := addf main_v9 main_v10
  let main_cst_2 : FVec F S_ .f32 := constant S_ .f32 0x00000000#32
  let main_v12 : FVec F S16x4 .f32 := broadcastInDim S16x4 ![] bcast_S_S16x4 main_cst_2
  let main_v13 : IVec S16x4 1 := cmpf .ogt main_v11 main_v12
  let main_c : IVec S_ 1 := constantI S_ 1 1#1
  let main_v14 : IVec S_ 1 := (fun x v => Host.reduce IntOp.andi x v reducesTo_S16x4_S_d0_1 h_S_) main_v13 main_c
  main_v14
-- ==== Pre_spread4.lean ====
abbrev S16x128x128 : Shape := ⟨3, ![16, 128, 128]⟩
abbrev S16x4x2 : Shape := ⟨3, ![16, 4, 2]⟩
abbrev S128x1 : Shape := ⟨2, ![128, 1]⟩
abbrev S16x4x1 : Shape := ⟨3, ![16, 4, 1]⟩
abbrev S16x4 : Shape := ⟨2, ![16, 4]⟩
abbrev S_ : Shape := ⟨0, ![]⟩

class Facts : Prop where
  slices_S16x4x2_S16x4x1_0_0_0 : S16x4x2.Slices ![0, 0, 0] S16x4x1
  shapeCasts_S16x4x1_S16x4 : S16x4x1.ShapeCasts S16x4
  bcast_S_S16x4 : S_.BroadcastsInDim S16x4 (![] : Fin 0 → Fin S16x4.rank)
  slices_S16x4x2_S16x4x1_0_0_1 : S16x4x2.Slices ![0, 0, 1] S16x4x1
  reducesTo_S16x4_S_d0_1 : S16x4.ReducesTo [0, 1] S_
  h_S_ : 0 < S_.numel

variable [Facts]

def fn {F : FTy → Type} [FloatOps F] (main_arg0 : FVec F S16x128x128 .f32) (main_arg1 : FVec F S16x4x2 .f32) (main_arg2 : FVec F S128x1 .f32) (main_arg3 : FVec F S128x1 .f32) : IVec S_ 1 :=
  let main_v0 : FVec F S16x4x1 .f32 := (extractStridedSlice S16x4x1 ![0, 0, 0] · slices_S16x4x2_S16x4x1_0_0_0) main_arg1
  let main_v1 : FVec F S16x4 .f32 := shapeCast S16x4 main_v0 shapeCasts_S16x4x1_S16x4
  let main_cst : FVec F S_ .f32 := constant S_ .f32 0x47800000#32
  let main_v2 : FVec F S16x4 .f32 := broadcastInDim S16x4 ![] bcast_S_S16x4 main_cst
  let main_v3 : FVec F S16x4 .f32 := Host.divf main_v1 main_v2
  let main_v4 : FVec F S16x4x1 .f32 := (extractStridedSlice S16x4x1 ![0, 0, 1] · slices_S16x4x2_S16x4x1_0_0_1) main_arg1
  let main_v5 : FVec F S16x4 .f32 := shapeCast S16x4 main_v4 shapeCasts_S16x4x1_S16x4
  let main_cst_0 : FVec F S_ .f32 := constant S_ .f32 0x47800000#32
  let main_v6 : FVec F S16x4 .f32 := broadcastInDim S16x4 ![] bcast_S_S16x4 main_cst_0
  let main_v7 : FVec F S16x4 .f32 := Host.divf main_v5 main_v6
  let main_v8 : FVec F S16x4 .f32 := mulf main_v3 main_v3
  let main_v9 : FVec F S16x4 .f32 := subf main_v7 main_v8
  let main_cst_1 : FVec F S_ .f32 := constant S_ .f32 0x3727C5AC#32
  let main_v10 : FVec F S16x4 .f32 := broadcastInDim S16x4 ![] bcast_S_S16x4 main_cst_1
  let main_v11 : FVec F S16x4 .f32 := addf main_v9 main_v10
  let main_cst_2 : FVec F S_ .f32 := constant S_ .f32 0x00000000#32
  let main_v12 : FVec F S16x4 .f32 := broadcastInDim S16x4 ![] bcast_S_S16x4 main_cst_2
  let main_v13 : IVec S16x4 1 := cmpf .ogt main_v11 main_v12
  let main_c : IVec S_ 1 := constantI S_ 1 1#1
  let main_v14 : IVec S_ 1 := (fun x v => Host.reduce IntOp.andi x v reducesTo_S16x4_S_d0_1 h_S_) main_v13 main_c
  main_v14
-- ==== StageSelf.lean ====
abbrev S16x3x512 : Shape := ⟨3, ![16, 3, 512]⟩
abbrev S16x64x512 : Shape := ⟨3, ![16, 64, 512]⟩
abbrev S64x128 : Shape := ⟨2, ![64, 128]⟩
abbrev S16x4x2 : Shape := ⟨3, ![16, 4, 2]⟩
abbrev S1x3x512 : Shape := ⟨3, ![1, 3, 512]⟩
abbrev S1x64x512 : Shape := ⟨3, ![1, 64, 512]⟩
abbrev S1x4x2 : Shape := ⟨3, ![1, 4, 2]⟩
abbrev S512x512 : Shape := ⟨2, ![512, 512]⟩
abbrev S64x512 : Shape := ⟨2, ![64, 512]⟩
abbrev S3x512 : Shape := ⟨2, ![3, 512]⟩
abbrev S512 : Shape := ⟨1, ![512]⟩
abbrev S1x512 : Shape := ⟨2, ![1, 512]⟩
abbrev S1x1 : Shape := ⟨2, ![1, 1]⟩
abbrev S512x1 : Shape := ⟨2, ![512, 1]⟩
abbrev S192x512 : Shape := ⟨2, ![192, 512]⟩
abbrev S128x512 : Shape := ⟨2, ![128, 512]⟩
abbrev S64x4 : Shape := ⟨2, ![64, 4]⟩
abbrev S64 : Shape := ⟨1, ![64]⟩
abbrev S64x1 : Shape := ⟨2, ![64, 1]⟩
abbrev S4x1 : Shape := ⟨2, ![4, 1]⟩
abbrev S4x2 : Shape := ⟨2, ![4, 2]⟩

abbrev nBuf : Space → Nat
  | .hbm => 5
  | .vmem => 13
  | .smem => 0
  | _ => 0

abbrev bufTy : (tb : Table) → Fin (tcTables nBuf tb) → BufTy
  | .hbm, ⟨0, _⟩ => ⟨S16x3x512, .f32⟩
  | .hbm, ⟨1, _⟩ => ⟨S16x64x512, .f32⟩
  | .hbm, ⟨2, _⟩ => ⟨S64x128, .f32⟩
  | .hbm, ⟨3, _⟩ => ⟨S16x64x512, .f32⟩
  | .hbm, ⟨4, _⟩ => ⟨S16x4x2, .f32⟩
  | .local _ .vmem, ⟨0, _⟩ => ⟨S1x3x512, .f32⟩
  | .local _ .vmem, ⟨1, _⟩ => ⟨S1x3x512, .f32⟩
  | .local _ .vmem, ⟨2, _⟩ => ⟨S1x64x512, .f32⟩
  | .local _ .vmem, ⟨3, _⟩ => ⟨S1x64x512, .f32⟩
  | .local _ .vmem, ⟨4, _⟩ => ⟨S64x128, .f32⟩
  | .local _ .vmem, ⟨5, _⟩ => ⟨S1x64x512, .f32⟩
  | .local _ .vmem, ⟨6, _⟩ => ⟨S1x64x512, .f32⟩
  | .local _ .vmem, ⟨7, _⟩ => ⟨S1x4x2, .f32⟩
  | .local _ .vmem, ⟨8, _⟩ => ⟨S1x4x2, .f32⟩
  | .local _ .vmem, ⟨9, _⟩ => ⟨S512x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | _, _ => ⟨S16x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v44 : BitVec 32 := Scalar.addi c0_i32 c16_i32
  let c1_i32 : BitVec 32 := 1#32
  ⟨c0_i32, v44, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== StageSelfIdeal.lean ====
variable {F : FTy → Type} [FloatOps F] [Named F]
def κ : String → Option EReal := fun
  | "mask" => some ⊤
  | "neg_mask" => some ⊥
  | _ => none
-- ==== RefSelfIdeal.lean ====
abbrev S16x3x512 : Shape := ⟨3, ![16, 3, 512]⟩
abbrev S16x64x512 : Shape := ⟨3, ![16, 64, 512]⟩
abbrev S64x128 : Shape := ⟨2, ![64, 128]⟩
abbrev S16x512x3 : Shape := ⟨3, ![16, 512, 3]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩
abbrev S16x1x512 : Shape := ⟨3, ![16, 1, 512]⟩
abbrev S16x512x16 : Shape := ⟨3, ![16, 512, 16]⟩
abbrev S16x512x64 : Shape := ⟨3, ![16, 512, 64]⟩
abbrev S16x512x16x1 : Shape := ⟨4, ![16, 512, 16, 1]⟩
abbrev S16x512x16x64 : Shape := ⟨4, ![16, 512, 16, 64]⟩
abbrev S16x64x512x16 : Shape := ⟨4, ![16, 64, 512, 16]⟩
abbrev S16x64x512x1 : Shape := ⟨4, ![16, 64, 512, 1]⟩
abbrev S16x128x512x16 : Shape := ⟨4, ![16, 128, 512, 16]⟩
abbrev S16x4x16x512x16 : Shape := ⟨5, ![16, 4, 16, 512, 16]⟩
abbrev S16x4 : Shape := ⟨2, ![16, 4]⟩
abbrev S16x4x1 : Shape := ⟨3, ![16, 4, 1]⟩
abbrev S16x4x2 : Shape := ⟨3, ![16, 4, 2]⟩

abbrev nBuf : Space → Nat
  | .hbm => 54
  | .vmem => 0
  | .smem => 0
  | _ => 0

abbrev bufTy : (tb : Table) → Fin (tcTables nBuf tb) → BufTy
  | .hbm, ⟨0, _⟩ => ⟨S16x3x512, .f32⟩
  | .hbm, ⟨1, _⟩ => ⟨S16x64x512, .f32⟩
  | .hbm, ⟨2, _⟩ => ⟨S64x128, .f32⟩
  | .hbm, ⟨3, _⟩ => ⟨S16x512x3, .f32⟩
  | .hbm, ⟨4, _⟩ => ⟨S16x512x3, .f32⟩
  | .hbm, ⟨5, _⟩ => ⟨S16x3x512, .f32⟩
  | .hbm, ⟨6, _⟩ => ⟨S16x512x512, .f32⟩
  | .hbm, ⟨7, _⟩ => ⟨S_, .f32⟩
  | .hbm, ⟨8, _⟩ => ⟨S16x512x512, .f32⟩
  | .hbm, ⟨9, _⟩ => ⟨S16x512x512, .f32⟩
  | .hbm, ⟨10, _⟩ => ⟨S16x512x3, .f32⟩
  | .hbm, ⟨11, _⟩ => ⟨S_, .f32⟩
  | .hbm, ⟨12, _⟩ => ⟨S16x512, .f32⟩
  | .hbm, ⟨13, _⟩ => ⟨S16x512x1, .f32⟩
  | .hbm, ⟨14, _⟩ => ⟨S16x512x512, .f32⟩
  | .hbm, ⟨15, _⟩ => ⟨S16x512x512, .f32⟩
  | .hbm, ⟨16, _⟩ => ⟨S16x512x3, .f32⟩
  | .hbm, ⟨17, _⟩ => ⟨S_, .f32⟩
  | .hbm, ⟨18, _⟩ => ⟨S16x512, .f32⟩
  | .hbm, ⟨19, _⟩ => ⟨S16x1x512, .f32⟩
  | .hbm, ⟨20, _⟩ => ⟨S16x512x512, .f32⟩
  | .hbm, ⟨21, _⟩ => ⟨S16x512x512, .f32⟩
  | .hbm, ⟨22, _⟩ => ⟨S16x512x512, .f32⟩
  | .hbm, ⟨23, _⟩ => ⟨S16x512x16, .f32⟩
  | .hbm, ⟨24, _⟩ => ⟨S16x512x16, .i32⟩
  | .hbm, ⟨25, _⟩ => ⟨S16x512x64, .f32⟩
  | .hbm, ⟨26, _⟩ => ⟨S_, .i32⟩
  | .hbm, ⟨27, _⟩ => ⟨S16x512x16, .i32⟩
  | .hbm, ⟨28, _⟩ => ⟨S16x512x16, .i1⟩
  | .hbm, ⟨29, _⟩ => ⟨S_, .i32⟩
  | .hbm, ⟨30, _⟩ => ⟨S16x512x16, .i32⟩
  | .hbm, ⟨31, _⟩ => ⟨S16x512x16, .i32⟩
  | .hbm, ⟨32, _⟩ => ⟨S16x512x16, .i32⟩
  | .hbm, ⟨33, _⟩ => ⟨S16x512x16x1, .i32⟩
  | .hbm, ⟨34, _⟩ => ⟨S16x512x16x64, .f32⟩
  | .hbm, ⟨35, _⟩ => ⟨S16x64x512x16, .f32⟩
  | .hbm, ⟨36, _⟩ => ⟨S16x64x512x1, .f32⟩
  | .hbm, ⟨37, _⟩ => ⟨S16x64x512x16, .f32⟩
  | .hbm, ⟨38, _⟩ => ⟨S16x64x512x16, .f32⟩
  | .hbm, ⟨39, _⟩ => ⟨S16x64x512x16, .f32⟩
  | .hbm, ⟨40, _⟩ => ⟨S16x128x512x16, .f32⟩
  | .hbm, ⟨41, _⟩ => ⟨S16x512x16x64, .f32⟩
  | .hbm, ⟨42, _⟩ => ⟨S16x64x512x16, .f32⟩
  | .hbm, ⟨43, _⟩ => ⟨S16x4x16x512x16, .f32⟩
  | .hbm, ⟨44, _⟩ => ⟨S_, .f32⟩
  | .hbm, ⟨45, _⟩ => ⟨S16x4, .f32⟩
  | .hbm, ⟨46, _⟩ => ⟨S16x4x16x512x16, .f32⟩
  | .hbm, ⟨47, _⟩ => ⟨S_, .f32⟩
  | .hbm, ⟨48, _⟩ => ⟨S16x4, .f32⟩
  | .hbm, ⟨49, _⟩ => ⟨S_, .f32⟩
  | .hbm, ⟨50, _⟩ => ⟨S16x64x512, .f32⟩
  | .hbm, ⟨51, _⟩ => ⟨S16x4x1, .f32⟩
  | .hbm, ⟨52, _⟩ => ⟨S16x4x1, .f32⟩
  | .hbm, ⟨53, _⟩ => ⟨S16x4x2, .f32⟩
  | _, _ => ⟨S16x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== StageGather4.lean ====
abbrev S16x3x128 : Shape := ⟨3, ![16, 3, 128]⟩
abbrev S16x3x512 : Shape := ⟨3, ![16, 3, 512]⟩
abbrev S16x64x512 : Shape := ⟨3, ![16, 64, 512]⟩
abbrev S16x1x128 : Shape := ⟨3, ![16, 1, 128]⟩
abbrev S128x128 : Shape := ⟨2, ![128, 128]⟩
abbrev S16x128x128 : Shape := ⟨3, ![16, 128, 128]⟩
abbrev S16x4x2 : Shape := ⟨3, ![16, 4, 2]⟩
abbrev S1x3x128 : Shape := ⟨3, ![1, 3, 128]⟩
abbrev S1x3x512 : Shape := ⟨3, ![1, 3, 512]⟩
abbrev S1x64x512 : Shape := ⟨3, ![1, 64, 512]⟩
abbrev S1x1x128 : Shape := ⟨3, ![1, 1, 128]⟩
abbrev S1x128x128 : Shape := ⟨3, ![1, 128, 128]⟩
abbrev S1x4x2 : Shape := ⟨3, ![1, 4, 2]⟩
abbrev S128x512 : Shape := ⟨2, ![128, 512]⟩
abbrev S3x128 : Shape := ⟨2, ![3, 128]⟩
abbrev S3x512 : Shape := ⟨2, ![3, 512]⟩
abbrev S64x512 : Shape := ⟨2, ![64, 512]⟩
abbrev S1x128 : Shape := ⟨2, ![1, 128]⟩
abbrev S512x128 : Shape := ⟨2, ![512, 128]⟩
abbrev S64x128 : Shape := ⟨2, ![64, 128]⟩
abbrev S128 : Shape := ⟨1, ![128]⟩
abbrev S512 : Shape := ⟨1, ![512]⟩
abbrev S1x512 : Shape := ⟨2, ![1, 512]⟩
abbrev S1x1 : Shape := ⟨2, ![1, 1]⟩
abbrev S128x1 : Shape := ⟨2, ![128, 1]⟩
abbrev S192x512 : Shape := ⟨2, ![192, 512]⟩
abbrev S192x128 : Shape := ⟨2, ![192, 128]⟩
abbrev S128x4 : Shape := ⟨2, ![128, 4]⟩
abbrev S4x1 : Shape := ⟨2, ![4, 1]⟩
abbrev S4x2 : Shape := ⟨2, ![4, 2]⟩

abbrev nBuf : Space → Nat
  | .hbm => 7
  | .vmem => 17
  | .smem => 0
  | _ => 0

abbrev bufTy : (tb : Table) → Fin (tcTables nBuf tb) → BufTy
  | .hbm, ⟨0, _⟩ => ⟨S16x3x128, .f32⟩
  | .hbm, ⟨1, _⟩ => ⟨S16x3x512, .f32⟩
  | .hbm, ⟨2, _⟩ => ⟨S16x64x512, .f32⟩
  | .hbm, ⟨3, _⟩ => ⟨S16x1x128, .i32⟩
  | .hbm, ⟨4, _⟩ => ⟨S128x128, .f32⟩
  | .hbm, ⟨5, _⟩ => ⟨S16x128x128, .f32⟩
  | .hbm, ⟨6, _⟩ => ⟨S16x4x2, .f32⟩
  | .local _ .vmem, ⟨0, _⟩ => ⟨S1x3x128, .f32⟩
  | .local _ .vmem, ⟨1, _⟩ => ⟨S1x3x128, .f32⟩
  | .local _ .vmem, ⟨2, _⟩ => ⟨S1x3x512, .f32⟩
  | .local _ .vmem, ⟨3, _⟩ => ⟨S1x3x512, .f32⟩
  | .local _ .vmem, ⟨4, _⟩ => ⟨S1x64x512, .f32⟩
  | .local _ .vmem, ⟨5, _⟩ => ⟨S1x64x512, .f32⟩
  | .local _ .vmem, ⟨6, _⟩ => ⟨S1x1x128, .i32⟩
  | .local _ .vmem, ⟨7, _⟩ => ⟨S1x1x128, .i32⟩
  | .local _ .vmem, ⟨8, _⟩ => ⟨S128x128, .f32⟩
  | .local _ .vmem, ⟨9, _⟩ => ⟨S1x128x128, .f32⟩
  | .local _ .vmem, ⟨10, _⟩ => ⟨S1x128x128, .f32⟩
  | .local _ .vmem, ⟨11, _⟩ => ⟨S1x4x2, .f32⟩
  | .local _ .vmem, ⟨12, _⟩ => ⟨S1x4x2, .f32⟩
  | .local _ .vmem, ⟨13, _⟩ => ⟨S128x512, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | _, _ => ⟨S16x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v54 : BitVec 32 := Scalar.addi c0_i32 c16_i32
  let c1_i32 : BitVec 32 := 1#32
  ⟨c0_i32, v54, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StageGather4Ideal.lean ====
abbrev S16x3x128 : Shape := ⟨3, ![16, 3, 128]⟩
abbrev S16x3x512 : Shape := ⟨3, ![16, 3, 512]⟩
abbrev S16x64x512 : Shape := ⟨3, ![16, 64, 512]⟩
abbrev S16x1x128 : Shape := ⟨3, ![16, 1, 128]⟩
abbrev S128x128 : Shape := ⟨2, ![128, 128]⟩
abbrev S16x128x128 : Shape := ⟨3, ![16, 128, 128]⟩
abbrev S16x4x2 : Shape := ⟨3, ![16, 4, 2]⟩
abbrev S1x3x128 : Shape := ⟨3, ![1, 3, 128]⟩
abbrev S1x3x512 : Shape := ⟨3, ![1, 3, 512]⟩
abbrev S1x64x512 : Shape := ⟨3, ![1, 64, 512]⟩
abbrev S1x1x128 : Shape := ⟨3, ![1, 1, 128]⟩
abbrev S1x128x128 : Shape := ⟨3, ![1, 128, 128]⟩
abbrev S1x4x2 : Shape := ⟨3, ![1, 4, 2]⟩
abbrev S128x512 : Shape := ⟨2, ![128, 512]⟩
abbrev S3x128 : Shape := ⟨2, ![3, 128]⟩
abbrev S3x512 : Shape := ⟨2, ![3, 512]⟩
abbrev S64x512 : Shape := ⟨2, ![64, 512]⟩
abbrev S1x128 : Shape := ⟨2, ![1, 128]⟩
abbrev S512x128 : Shape := ⟨2, ![512, 128]⟩
abbrev S64x128 : Shape := ⟨2, ![64, 128]⟩
abbrev S128 : Shape := ⟨1, ![128]⟩
abbrev S512 : Shape := ⟨1, ![512]⟩
abbrev S1x512 : Shape := ⟨2, ![1, 512]⟩
abbrev S1x1 : Shape := ⟨2, ![1, 1]⟩
abbrev S128x1 : Shape := ⟨2, ![128, 1]⟩
abbrev S192x512 : Shape := ⟨2, ![192, 512]⟩
abbrev S192x128 : Shape := ⟨2, ![192, 128]⟩
abbrev S128x4 : Shape := ⟨2, ![128, 4]⟩
abbrev S4x1 : Shape := ⟨2, ![4, 1]⟩
abbrev S4x2 : Shape := ⟨2, ![4, 2]⟩

abbrev nBuf : Space → Nat
  | .hbm => 7
  | .vmem => 17
  | .smem => 0
  | _ => 0

abbrev bufTy : (tb : Table) → Fin (tcTables nBuf tb) → BufTy
  | .hbm, ⟨0, _⟩ => ⟨S16x3x128, .f32⟩
  | .hbm, ⟨1, _⟩ => ⟨S16x3x512, .f32⟩
  | .hbm, ⟨2, _⟩ => ⟨S16x64x512, .f32⟩
  | .hbm, ⟨3, _⟩ => ⟨S16x1x128, .i32⟩
  | .hbm, ⟨4, _⟩ => ⟨S128x128, .f32⟩
  | .hbm, ⟨5, _⟩ => ⟨S16x128x128, .f32⟩
  | .hbm, ⟨6, _⟩ => ⟨S16x4x2, .f32⟩
  | .local _ .vmem, ⟨0, _⟩ => ⟨S1x3x128, .f32⟩
  | .local _ .vmem, ⟨1, _⟩ => ⟨S1x3x128, .f32⟩
  | .local _ .vmem, ⟨2, _⟩ => ⟨S1x3x512, .f32⟩
  | .local _ .vmem, ⟨3, _⟩ => ⟨S1x3x512, .f32⟩
  | .local _ .vmem, ⟨4, _⟩ => ⟨S1x64x512, .f32⟩
  | .local _ .vmem, ⟨5, _⟩ => ⟨S1x64x512, .f32⟩
  | .local _ .vmem, ⟨6, _⟩ => ⟨S1x1x128, .i32⟩
  | .local _ .vmem, ⟨7, _⟩ => ⟨S1x1x128, .i32⟩
  | .local _ .vmem, ⟨8, _⟩ => ⟨S128x128, .f32⟩
  | .local _ .vmem, ⟨9, _⟩ => ⟨S1x128x128, .f32⟩
  | .local _ .vmem, ⟨10, _⟩ => ⟨S1x128x128, .f32⟩
  | .local _ .vmem, ⟨11, _⟩ => ⟨S1x4x2, .f32⟩
  | .local _ .vmem, ⟨12, _⟩ => ⟨S1x4x2, .f32⟩
  | .local _ .vmem, ⟨13, _⟩ => ⟨S128x512, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | _, _ => ⟨S16x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F] [Named F]

def κ : String → Option EReal := fun
  | "mask" => some ⊤
  | "neg_mask" => some ⊥
  | _ => none

abbrev grid0 : Pipeline.Grid := ⟨1, ![16], ![false]⟩

@[reducible] def k0_t1_loop : Scf.Loop 32 :=
  let c0_i32 : BitVec 32 := 0#32
  let c16_i32 : BitVec 32 := 16#32
  let v54 : BitVec 32 := Scalar.addi c0_i32 c16_i32
  let c1_i32 : BitVec 32 := 1#32
  ⟨c0_i32, v54, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefGather4Ideal.lean ====
abbrev S16x3x128 : Shape := ⟨3, ![16, 3, 128]⟩
abbrev S16x3x512 : Shape := ⟨3, ![16, 3, 512]⟩
abbrev S16x64x512 : Shape := ⟨3, ![16, 64, 512]⟩
abbrev S16x1x128 : Shape := ⟨3, ![16, 1, 128]⟩
abbrev S128x128 : Shape := ⟨2, ![128, 128]⟩
abbrev S16x128 : Shape := ⟨2, ![16, 128]⟩
abbrev S_ : Shape := ⟨0, ![]⟩
abbrev S16x128x1 : Shape := ⟨3, ![16, 128, 1]⟩
abbrev S16x64x128 : Shape := ⟨3, ![16, 64, 128]⟩
abbrev S16x128x3 : Shape := ⟨3, ![16, 128, 3]⟩
abbrev S16x512x3 : Shape := ⟨3, ![16, 512, 3]⟩
abbrev S16x128x512 : Shape := ⟨3, ![16, 128, 512]⟩
abbrev S16x512 : Shape := ⟨2, ![16, 512]⟩
abbrev S16x1x512 : Shape := ⟨3, ![16, 1, 512]⟩
abbrev S16x128x16 : Shape := ⟨3, ![16, 128, 16]⟩
abbrev S16x512x64 : Shape := ⟨3, ![16, 512, 64]⟩
abbrev S16x128x16x1 : Shape := ⟨4, ![16, 128, 16, 1]⟩
abbrev S16x128x16x64 : Shape := ⟨4, ![16, 128, 16, 64]⟩
abbrev S16x64x128x16 : Shape := ⟨4, ![16, 64, 128, 16]⟩
abbrev S16x64x128x1 : Shape := ⟨4, ![16, 64, 128, 1]⟩
abbrev S16x128x128x16 : Shape := ⟨4, ![16, 128, 128, 16]⟩
abbrev S16x128x16x128 : Shape := ⟨4, ![16, 128, 16, 128]⟩
abbrev S16x4x32x128x16 : Shape := ⟨5, ![16, 4, 32, 128, 16]⟩
abbrev S16x4 : Shape := ⟨2, ![16, 4]⟩
abbrev S16x128x128 : Shape := ⟨3, ![16, 128, 128]⟩
abbrev S16x4x1 : Shape := ⟨3, ![16, 4, 1]⟩
abbrev S16x4x2 : Shape := ⟨3, ![16, 4, 2]⟩

abbrev nBuf : Space → Nat
  | .hbm => 66
  | .vmem => 0
  | .smem => 0
  | _ => 0

abbrev bufTy : (tb : Table) → Fin (tcTables nBuf tb) → BufTy
  | .hbm, ⟨0, _⟩ => ⟨S16x3x128, .f32⟩
  | .hbm, ⟨1, _⟩ => ⟨S16x3x512, .f32⟩
  | .hbm, ⟨2, _⟩ => ⟨S16x64x512, .f32⟩
  | .hbm, ⟨3, _⟩ => ⟨S16x1x128, .i32⟩
  | .hbm, ⟨4, _⟩ => ⟨S128x128, .f32⟩
  | .hbm, ⟨5, _⟩ => ⟨S16x128, .i32⟩
  | .hbm, ⟨6, _⟩ => ⟨S_, .i32⟩
  | .hbm, ⟨7, _⟩ => ⟨S16x128, .i32⟩
  | .hbm, ⟨8, _⟩ => ⟨S16x128, .i1⟩
  | .hbm, ⟨9, _⟩ => ⟨S_, .i32⟩
  | .hbm, ⟨10, _⟩ => ⟨S16x128, .i32⟩
  | .hbm, ⟨11, _⟩ => ⟨S16x128, .i32⟩
  | .hbm, ⟨12, _⟩ => ⟨S16x128, .i32⟩
  | .hbm, ⟨13, _⟩ => ⟨S16x128x1, .i32⟩
  | .hbm, ⟨14, _⟩ => ⟨S16x64x128, .f32⟩
  | .hbm, ⟨15, _⟩ => ⟨S16x128x3, .f32⟩
  | .hbm, ⟨16, _⟩ => ⟨S16x512x3, .f32⟩
  | .hbm, ⟨17, _⟩ => ⟨S16x3x512, .f32⟩
  | .hbm, ⟨18, _⟩ => ⟨S16x128x512, .f32⟩
  | .hbm, ⟨19, _⟩ => ⟨S_, .f32⟩
  | .hbm, ⟨20, _⟩ => ⟨S16x128x512, .f32⟩
  | .hbm, ⟨21, _⟩ => ⟨S16x128x512, .f32⟩
  | .hbm, ⟨22, _⟩ => ⟨S16x128x3, .f32⟩
  | .hbm, ⟨23, _⟩ => ⟨S_, .f32⟩
  | .hbm, ⟨24, _⟩ => ⟨S16x128, .f32⟩
  | .hbm, ⟨25, _⟩ => ⟨S16x128x1, .f32⟩
  | .hbm, ⟨26, _⟩ => ⟨S16x128x512, .f32⟩
  | .hbm, ⟨27, _⟩ => ⟨S16x128x512, .f32⟩
  | .hbm, ⟨28, _⟩ => ⟨S16x512x3, .f32⟩
  | .hbm, ⟨29, _⟩ => ⟨S_, .f32⟩
  | .hbm, ⟨30, _⟩ => ⟨S16x512, .f32⟩
  | .hbm, ⟨31, _⟩ => ⟨S16x1x512, .f32⟩
  | .hbm, ⟨32, _⟩ => ⟨S16x128x512, .f32⟩
  | .hbm, ⟨33, _⟩ => ⟨S16x128x512, .f32⟩
  | .hbm, ⟨34, _⟩ => ⟨S16x128x512, .f32⟩
  | .hbm, ⟨35, _⟩ => ⟨S16x128x16, .f32⟩
  | .hbm, ⟨36, _⟩ => ⟨S16x128x16, .i32⟩
  | .hbm, ⟨37, _⟩ => ⟨S16x512x64, .f32⟩
  | .hbm, ⟨38, _⟩ => ⟨S_, .i32⟩
  | .hbm, ⟨39, _⟩ => ⟨S16x128x16, .i32⟩
  | .hbm, ⟨40, _⟩ => ⟨S16x128x16, .i1⟩
  | .hbm, ⟨41, _⟩ => ⟨S_, .i32⟩
  | .hbm, ⟨42, _⟩ => ⟨S16x128x16, .i32⟩
  | .hbm, ⟨43, _⟩ => ⟨S16x128x16, .i32⟩
  | .hbm, ⟨44, _⟩ => ⟨S16x128x16, .i32⟩
  | .hbm, ⟨45, _⟩ => ⟨S16x128x16x1, .i32⟩
  | .hbm, ⟨46, _⟩ => ⟨S16x128x16x64, .f32⟩
  | .hbm, ⟨47, _⟩ => ⟨S16x64x128x16, .f32⟩
  | .hbm, ⟨48, _⟩ => ⟨S16x64x128x1, .f32⟩
  | .hbm, ⟨49, _⟩ => ⟨S16x64x128x16, .f32⟩
  | .hbm, ⟨50, _⟩ => ⟨S16x64x128x16, .f32⟩
  | .hbm, ⟨51, _⟩ => ⟨S16x64x128x16, .f32⟩
  | .hbm, ⟨52, _⟩ => ⟨S16x128x128x16, .f32⟩
  | .hbm, ⟨53, _⟩ => ⟨S16x128x16x128, .f32⟩
  | .hbm, ⟨54, _⟩ => ⟨S16x128x128x16, .f32⟩
  | .hbm, ⟨55, _⟩ => ⟨S16x4x32x128x16, .f32⟩
  | .hbm, ⟨56, _⟩ => ⟨S_, .f32⟩
  | .hbm, ⟨57, _⟩ => ⟨S16x4, .f32⟩
  | .hbm, ⟨58, _⟩ => ⟨S16x4x32x128x16, .f32⟩
  | .hbm, ⟨59, _⟩ => ⟨S_, .f32⟩
  | .hbm, ⟨60, _⟩ => ⟨S16x4, .f32⟩
  | .hbm, ⟨61, _⟩ => ⟨S_, .f32⟩
  | .hbm, ⟨62, _⟩ => ⟨S16x128x128, .f32⟩
  | .hbm, ⟨63, _⟩ => ⟨S16x4x1, .f32⟩
  | .hbm, ⟨64, _⟩ => ⟨S16x4x1, .f32⟩
  | .hbm, ⟨65, _⟩ => ⟨S16x4x2, .f32⟩
  | _, _ => ⟨S16x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_values : Ref sig .tc := ⟨.hbm, 35, rfl⟩
abbrev main_indices : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== StageGather2.lean ====
abbrev S16x3x512 : Shape := ⟨3, ![16, 3, 512]⟩
abbrev S16x3x2048 : Shape := ⟨3, ![16, 3, 2048]⟩
abbrev S16x32x2048 : Shape := ⟨3, ![16, 32, 2048]⟩
abbrev S16x1x512 : Shape := ⟨3, ![16, 1, 512]⟩
abbrev S64x64 : Shape := ⟨2, ![64, 64]⟩
abbrev S16x64x512 : Shape := ⟨3, ![16, 64, 512]⟩
abbrev S16x4x2 : Shape := ⟨3, ![16, 4, 2]⟩
abbrev S1x3x512 : Shape := ⟨3, ![1, 3, 512]⟩
abbrev S1x3x2048 : Shape := ⟨3, ![1, 3, 2048]⟩
abbrev S1x32x2048 : Shape := ⟨3, ![1, 32, 2048]⟩
abbrev S1x1x512 : Shape := ⟨3, ![1, 1, 512]⟩
abbrev S1x64x512 : Shape := ⟨3, ![1, 64, 512]⟩
abbrev S1x4x2 : Shape := ⟨3, ![1, 4, 2]⟩
abbrev S512x2048 : Shape := ⟨2, ![512, 2048]⟩
abbrev S64x512 : Shape := ⟨2, ![64, 512]⟩
abbrev S3x512 : Shape := ⟨2, ![3, 512]⟩
abbrev S3x2048 : Shape := ⟨2, ![3, 2048]⟩
abbrev S32x2048 : Shape := ⟨2, ![32, 2048]⟩
abbrev S1x512 : Shape := ⟨2, ![1, 512]⟩
abbrev S2048x512 : Shape := ⟨2, ![2048, 512]⟩
abbrev S32x512 : Shape := ⟨2, ![32, 512]⟩
abbrev S512 : Shape := ⟨1, ![512]⟩
abbrev S2048 : Shape := ⟨1, ![2048]⟩
abbrev S1x2048 : Shape := ⟨2, ![1, 2048]⟩
abbrev S1x1 : Shape := ⟨2, ![1, 1]⟩
abbrev S512x1 : Shape := ⟨2, ![512, 1]⟩
abbrev S96x2048 : Shape := ⟨2, ![96, 2048]⟩
abbrev S96x512 : Shape := ⟨2, ![96, 512]⟩
abbrev S64x4 : Shape := ⟨2, ![64, 4]⟩
abbrev S64 : Shape := ⟨1, ![64]⟩
abbrev S64x1 : Shape := ⟨2, ![64, 1]⟩
abbrev S4x1 : Shape := ⟨2, ![4, 1]⟩
abbrev S4x2 : Shape := ⟨2, ![4, 2]⟩

abbrev nBuf : Space → Nat
  | .hbm => 7
  | .vmem => 17
  | .smem => 0
  | _ => 0

abbrev bufTy : (tb : Table) → Fin (tcTables nBuf tb) → BufTy
  | .hbm, ⟨0, _⟩ => ⟨S16x3x512, .f32⟩
  | .hbm, ⟨1, _⟩ => ⟨S16x3x2048, .f32⟩
  | .hbm, ⟨2, _⟩ => ⟨S16x32x2048, .f32⟩
  | .hbm, ⟨3, _⟩ => ⟨S16x1x512, .i32⟩
  | .hbm, ⟨4, _⟩ => ⟨S64x64, .f32⟩
  | .hbm, ⟨5, _⟩ => ⟨S16x64x512, .f32⟩
  | .hbm, ⟨6, _⟩ => ⟨S16x4x2, .f32⟩
  | .local _ .vmem, ⟨0, _⟩ => ⟨S1x3x512, .f32⟩
  | .local _ .vmem, ⟨1, _⟩ => ⟨S1x3x512, .f32⟩
  | .local _ .vmem, ⟨2, _⟩ => ⟨S1x3x2048, .f32⟩
  | .local _ .vmem, ⟨3, _⟩ => ⟨S1x3x2048, .f32⟩
  | .local _ .vmem, ⟨4, _⟩ => ⟨S1x32x2048, .f32⟩
  | .local _ .vmem, ⟨5, _⟩ => ⟨S1x32x2048, .f32⟩
  | .local _ .vmem, ⟨6, _⟩ => ⟨S1x1x512, .i32⟩
  | .local _ .vmem, ⟨7, _⟩ => ⟨S1x1x512, .i32⟩
  | .local _ .vmem, ⟨8, _⟩ => ⟨S64x64, .f32⟩
  | .local _ .vmem, ⟨9, _⟩ => ⟨S1x64x512, .f32⟩
  | .local _ .vmem, ⟨10, _⟩ => ⟨S1x64x512, .f32⟩
  | .local _ .vmem, ⟨11, _⟩ => ⟨S1x4x2, .f32⟩
  | .local _ .vmem, ⟨12, _⟩ => ⟨S1x4x2, .f32⟩
  | .local _ .vmem, ⟨13, _⟩ => ⟨S512x2048, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | _, _ => ⟨S16x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v54 : BitVec 32 := Scalar.addi c0_i32 c16_i32
  let c1_i32 : BitVec 32 := 1#32
  ⟨c0_i32, v54, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StageGather2Ideal.lean ====
variable {F : FTy → Type} [FloatOps F] [Named F]
def κ : String → Option EReal := fun
  | "mask" => some ⊤
  | "neg_mask" => some ⊥
  | _ => none
-- ==== RefGather2Ideal.lean ====
abbrev S16x3x512 : Shape := ⟨3, ![16, 3, 512]⟩
abbrev S16x3x2048 : Shape := ⟨3, ![16, 3, 2048]⟩
abbrev S16x32x2048 : Shape := ⟨3, ![16, 32, 2048]⟩
abbrev S16x1x512 : Shape := ⟨3, ![16, 1, 512]⟩
abbrev S64x64 : Shape := ⟨2, ![64, 64]⟩
abbrev S16x512 : Shape := ⟨2, ![16, 512]⟩
abbrev S_ : Shape := ⟨0, ![]⟩
abbrev S16x512x1 : Shape := ⟨3, ![16, 512, 1]⟩
abbrev S16x32x512 : Shape := ⟨3, ![16, 32, 512]⟩
abbrev S16x512x3 : Shape := ⟨3, ![16, 512, 3]⟩
abbrev S16x2048x3 : Shape := ⟨3, ![16, 2048, 3]⟩
abbrev S16x512x2048 : Shape := ⟨3, ![16, 512, 2048]⟩
abbrev S16x2048 : Shape := ⟨2, ![16, 2048]⟩
abbrev S16x1x2048 : Shape := ⟨3, ![16, 1, 2048]⟩
abbrev S16x512x16 : Shape := ⟨3, ![16, 512, 16]⟩
abbrev S16x2048x32 : Shape := ⟨3, ![16, 2048, 32]⟩
abbrev S16x512x16x1 : Shape := ⟨4, ![16, 512, 16, 1]⟩
abbrev S16x512x16x32 : Shape := ⟨4, ![16, 512, 16, 32]⟩
abbrev S16x32x512x16 : Shape := ⟨4, ![16, 32, 512, 16]⟩
abbrev S16x32x512x1 : Shape := ⟨4, ![16, 32, 512, 1]⟩
abbrev S16x64x512x16 : Shape := ⟨4, ![16, 64, 512, 16]⟩
abbrev S16x512x16x64 : Shape := ⟨4, ![16, 512, 16, 64]⟩
abbrev S16x4x16x512x16 : Shape := ⟨5, ![16, 4, 16, 512, 16]⟩
abbrev S16x4 : Shape := ⟨2, ![16, 4]⟩
abbrev S16x64x512 : Shape := ⟨3, ![16, 64, 512]⟩
abbrev S16x4x1 : Shape := ⟨3, ![16, 4, 1]⟩
abbrev S16x4x2 : Shape := ⟨3, ![16, 4, 2]⟩

abbrev nBuf : Space → Nat
  | .hbm => 66
  | .vmem => 0
  | .smem => 0
  | _ => 0

abbrev bufTy : (tb : Table) → Fin (tcTables nBuf tb) → BufTy
  | .hbm, ⟨0, _⟩ => ⟨S16x3x512, .f32⟩
  | .hbm, ⟨1, _⟩ => ⟨S16x3x2048, .f32⟩
  | .hbm, ⟨2, _⟩ => ⟨S16x32x2048, .f32⟩
  | .hbm, ⟨3, _⟩ => ⟨S16x1x512, .i32⟩
  | .hbm, ⟨4, _⟩ => ⟨S64x64, .f32⟩
  | .hbm, ⟨5, _⟩ => ⟨S16x512, .i32⟩
  | .hbm, ⟨6, _⟩ => ⟨S_, .i32⟩
  | .hbm, ⟨7, _⟩ => ⟨S16x512, .i32⟩
  | .hbm, ⟨8, _⟩ => ⟨S16x512, .i1⟩
  | .hbm, ⟨9, _⟩ => ⟨S_, .i32⟩
  | .hbm, ⟨10, _⟩ => ⟨S16x512, .i32⟩
  | .hbm, ⟨11, _⟩ => ⟨S16x512, .i32⟩
  | .hbm, ⟨12, _⟩ => ⟨S16x512, .i32⟩
  | .hbm, ⟨13, _⟩ => ⟨S16x512x1, .i32⟩
  | .hbm, ⟨14, _⟩ => ⟨S16x32x512, .f32⟩
  | .hbm, ⟨15, _⟩ => ⟨S16x512x3, .f32⟩
  | .hbm, ⟨16, _⟩ => ⟨S16x2048x3, .f32⟩
  | .hbm, ⟨17, _⟩ => ⟨S16x3x2048, .f32⟩
  | .hbm, ⟨18, _⟩ => ⟨S16x512x2048, .f32⟩
  | .hbm, ⟨19, _⟩ => ⟨S_, .f32⟩
  | .hbm, ⟨20, _⟩ => ⟨S16x512x2048, .f32⟩
  | .hbm, ⟨21, _⟩ => ⟨S16x512x2048, .f32⟩
  | .hbm, ⟨22, _⟩ => ⟨S16x512x3, .f32⟩
  | .hbm, ⟨23, _⟩ => ⟨S_, .f32⟩
  | .hbm, ⟨24, _⟩ => ⟨S16x512, .f32⟩
  | .hbm, ⟨25, _⟩ => ⟨S16x512x1, .f32⟩
  | .hbm, ⟨26, _⟩ => ⟨S16x512x2048, .f32⟩
  | .hbm, ⟨27, _⟩ => ⟨S16x512x2048, .f32⟩
  | .hbm, ⟨28, _⟩ => ⟨S16x2048x3, .f32⟩
  | .hbm, ⟨29, _⟩ => ⟨S_, .f32⟩
  | .hbm, ⟨30, _⟩ => ⟨S16x2048, .f32⟩
  | .hbm, ⟨31, _⟩ => ⟨S16x1x2048, .f32⟩
  | .hbm, ⟨32, _⟩ => ⟨S16x512x2048, .f32⟩
  | .hbm, ⟨33, _⟩ => ⟨S16x512x2048, .f32⟩
  | .hbm, ⟨34, _⟩ => ⟨S16x512x2048, .f32⟩
  | .hbm, ⟨35, _⟩ => ⟨S16x512x16, .f32⟩
  | .hbm, ⟨36, _⟩ => ⟨S16x512x16, .i32⟩
  | .hbm, ⟨37, _⟩ => ⟨S16x2048x32, .f32⟩
  | .hbm, ⟨38, _⟩ => ⟨S_, .i32⟩
  | .hbm, ⟨39, _⟩ => ⟨S16x512x16, .i32⟩
  | .hbm, ⟨40, _⟩ => ⟨S16x512x16, .i1⟩
  | .hbm, ⟨41, _⟩ => ⟨S_, .i32⟩
  | .hbm, ⟨42, _⟩ => ⟨S16x512x16, .i32⟩
  | .hbm, ⟨43, _⟩ => ⟨S16x512x16, .i32⟩
  | .hbm, ⟨44, _⟩ => ⟨S16x512x16, .i32⟩
  | .hbm, ⟨45, _⟩ => ⟨S16x512x16x1, .i32⟩
  | .hbm, ⟨46, _⟩ => ⟨S16x512x16x32, .f32⟩
  | .hbm, ⟨47, _⟩ => ⟨S16x32x512x16, .f32⟩
  | .hbm, ⟨48, _⟩ => ⟨S16x32x512x1, .f32⟩
  | .hbm, ⟨49, _⟩ => ⟨S16x32x512x16, .f32⟩
  | .hbm, ⟨50, _⟩ => ⟨S16x32x512x16, .f32⟩
  | .hbm, ⟨51, _⟩ => ⟨S16x32x512x16, .f32⟩
  | .hbm, ⟨52, _⟩ => ⟨S16x64x512x16, .f32⟩
  | .hbm, ⟨53, _⟩ => ⟨S16x512x16x64, .f32⟩
  | .hbm, ⟨54, _⟩ => ⟨S16x64x512x16, .f32⟩
  | .hbm, ⟨55, _⟩ => ⟨S16x4x16x512x16, .f32⟩
  | .hbm, ⟨56, _⟩ => ⟨S_, .f32⟩
  | .hbm, ⟨57, _⟩ => ⟨S16x4, .f32⟩
  | .hbm, ⟨58, _⟩ => ⟨S16x4x16x512x16, .f32⟩
  | .hbm, ⟨59, _⟩ => ⟨S_, .f32⟩
  | .hbm, ⟨60, _⟩ => ⟨S16x4, .f32⟩
  | .hbm, ⟨61, _⟩ => ⟨S_, .f32⟩
  | .hbm, ⟨62, _⟩ => ⟨S16x64x512, .f32⟩
  | .hbm, ⟨63, _⟩ => ⟨S16x4x1, .f32⟩
  | .hbm, ⟨64, _⟩ => ⟨S16x4x1, .f32⟩
  | .hbm, ⟨65, _⟩ => ⟨S16x4x2, .f32⟩
  | _, _ => ⟨S16x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_values : Ref sig .tc := ⟨.hbm, 35, rfl⟩
abbrev main_indices : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== StageFirst.lean ====
abbrev S16x3x2048 : Shape := ⟨3, ![16, 3, 2048]⟩
abbrev S8x3 : Shape := ⟨2, ![8, 3]⟩
abbrev S8x1 : Shape := ⟨2, ![8, 1]⟩
abbrev S32x16 : Shape := ⟨2, ![32, 16]⟩
abbrev S16x32x2048 : Shape := ⟨3, ![16, 32, 2048]⟩
abbrev S16x4x2 : Shape := ⟨3, ![16, 4, 2]⟩
abbrev S1x3x512 : Shape := ⟨3, ![1, 3, 512]⟩
abbrev S1x3x2048 : Shape := ⟨3, ![1, 3, 2048]⟩
abbrev S1x32x512 : Shape := ⟨3, ![1, 32, 512]⟩
abbrev S1x4x2 : Shape := ⟨3, ![1, 4, 2]⟩
abbrev S512x2048 : Shape := ⟨2, ![512, 2048]⟩
abbrev S32x512 : Shape := ⟨2, ![32, 512]⟩
abbrev S3x512 : Shape := ⟨2, ![3, 512]⟩
abbrev S3x2048 : Shape := ⟨2, ![3, 2048]⟩
abbrev S8x2048 : Shape := ⟨2, ![8, 2048]⟩
abbrev S8x512 : Shape := ⟨2, ![8, 512]⟩
abbrev S512 : Shape := ⟨1, ![512]⟩
abbrev S1x512 : Shape := ⟨2, ![1, 512]⟩
abbrev S2048 : Shape := ⟨1, ![2048]⟩
abbrev S1x2048 : Shape := ⟨2, ![1, 2048]⟩
abbrev S1x1 : Shape := ⟨2, ![1, 1]⟩
abbrev S512x1 : Shape := ⟨2, ![512, 1]⟩
abbrev S24x2048 : Shape := ⟨2, ![24, 2048]⟩
abbrev S24x512 : Shape := ⟨2, ![24, 512]⟩
abbrev S16x512 : Shape := ⟨2, ![16, 512]⟩
abbrev S32x4 : Shape := ⟨2, ![32, 4]⟩
abbrev S32 : Shape := ⟨1, ![32]⟩
abbrev S32x1 : Shape := ⟨2, ![32, 1]⟩
abbrev S4x1 : Shape := ⟨2, ![4, 1]⟩
abbrev S4x2 : Shape := ⟨2, ![4, 2]⟩

abbrev nBuf : Space → Nat
  | .hbm => 6
  | .vmem => 15
  | .smem => 0
  | _ => 0

abbrev bufTy : (tb : Table) → Fin (tcTables nBuf tb) → BufTy
  | .hbm, ⟨0, _⟩ => ⟨S16x3x2048, .f32⟩
  | .hbm, ⟨1, _⟩ => ⟨S8x3, .f32⟩
  | .hbm, ⟨2, _⟩ => ⟨S8x1, .f32⟩
  | .hbm, ⟨3, _⟩ => ⟨S32x16, .f32⟩
  | .hbm, ⟨4, _⟩ => ⟨S16x32x2048, .f32⟩
  | .hbm, ⟨5, _⟩ => ⟨S16x4x2, .f32⟩
  | .local _ .vmem, ⟨0, _⟩ => ⟨S1x3x512, .f32⟩
  | .local _ .vmem, ⟨1, _⟩ => ⟨S1x3x512, .f32⟩
  | .local _ .vmem, ⟨2, _⟩ => ⟨S1x3x2048, .f32⟩
  | .local _ .vmem, ⟨3, _⟩ => ⟨S1x3x2048, .f32⟩
  | .local _ .vmem, ⟨4, _⟩ => ⟨S8x3, .f32⟩
  | .local _ .vmem, ⟨5, _⟩ => ⟨S8x1, .f32⟩
  | .local _ .vmem, ⟨6, _⟩ => ⟨S32x16, .f32⟩
  | .local _ .vmem, ⟨7, _⟩ => ⟨S1x32x512, .f32⟩
  | .local _ .vmem, ⟨8, _⟩ => ⟨S1x32x512, .f32⟩
  | .local _ .vmem, ⟨9, _⟩ => ⟨S1x4x2, .f32⟩
  | .local _ .vmem, ⟨10, _⟩ => ⟨S1x4x2, .f32⟩
  | .local _ .vmem, ⟨11, _⟩ => ⟨S512x2048, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | _, _ => ⟨S16x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c16_i32 : BitVec 32 := 16#32
  let v54 : BitVec 32 := Scalar.addi c0_i32 c16_i32
  let c1_i32 : BitVec 32 := 1#32
  ⟨c0_i32, v54, c1_i32⟩
def k0_cond1 (i : grid0.Coords) : BitVec 1 :=
  let arg1 : BitVec 32 := BitVec.ofNat 32 (i 1).val
  let c0_i32_52 : BitVec 32 := 0#32
  let v97 : BitVec 1 := Scalar.cmpi .eq arg1 c0_i32_52
  let v98 : BitVec 32 := Scalar.extui v97
  let c0_i32_53 : BitVec 32 := 0#32
  let v99 : BitVec 1 := Scalar.cmpi .ne v98 c0_i32_53
  v99

def k0_cond2 (i : grid0.Coords) : BitVec 1 :=
  let arg1 : BitVec 32 := BitVec.ofNat 32 (i 1).val
  let c0_i32_54 : BitVec 32 := 0#32
  let v100 : BitVec 1 := Scalar.cmpi .ne arg1 c0_i32_54
  let v101 : BitVec 32 := Scalar.extui v100
  let c0_i32_55 : BitVec 32 := 0#32
  let v102 : BitVec 1 := Scalar.cmpi .ne v101 c0_i32_55
  v102

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== StageFirstIdeal.lean ====
variable {F : FTy → Type} [FloatOps F] [Named F]
def κ : String → Option EReal := fun
  | "mask" => some ⊤
  | "neg_mask" => some ⊥
  | _ => none
-- ==== RefFirstIdeal.lean ====
abbrev S16x3x2048 : Shape := ⟨3, ![16, 3, 2048]⟩
abbrev S8x3 : Shape := ⟨2, ![8, 3]⟩
abbrev S8x1 : Shape := ⟨2, ![8, 1]⟩
abbrev S32x16 : Shape := ⟨2, ![32, 16]⟩
abbrev S16x2048x8 : Shape := ⟨3, ![16, 2048, 8]⟩
abbrev S16x8x2048 : Shape := ⟨3, ![16, 8, 2048]⟩
abbrev S1x8x1 : Shape := ⟨3, ![1, 8, 1]⟩
abbrev S16x2048x3 : Shape := ⟨3, ![16, 2048, 3]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x16 : Shape := ⟨3, ![16, 2048, 16]⟩
abbrev S16x2048x16x1 : Shape := ⟨4, ![16, 2048, 16, 1]⟩
abbrev S16x2048x16x8 : Shape := ⟨4, ![16, 2048, 16, 8]⟩
abbrev S16x8x2048x16 : Shape := ⟨4, ![16, 8, 2048, 16]⟩
abbrev S16x8x2048x1 : Shape := ⟨4, ![16, 8, 2048, 1]⟩
abbrev S16x16x2048x16 : Shape := ⟨4, ![16, 16, 2048, 16]⟩
abbrev S16x2048x16x32 : Shape := ⟨4, ![16, 2048, 16, 32]⟩
abbrev S16x32x2048x16 : Shape := ⟨4, ![16, 32, 2048, 16]⟩
abbrev S16x4x8x2048x16 : Shape := ⟨5, ![16, 4, 8, 2048, 16]⟩
abbrev S16x4 : Shape := ⟨2, ![16, 4]⟩
abbrev S16x32x2048 : Shape := ⟨3, ![16, 32, 2048]⟩
abbrev S16x4x1 : Shape := ⟨3, ![16, 4, 1]⟩
abbrev S16x4x2 : Shape := ⟨3, ![16, 4, 2]⟩

abbrev nBuf : Space → Nat
  | .hbm => 60
  | .vmem => 0
  | .smem => 0
  | _ => 0

abbrev bufTy : (tb : Table) → Fin (tcTables nBuf tb) → BufTy
  | .hbm, ⟨0, _⟩ => ⟨S16x3x2048, .f32⟩
  | .hbm, ⟨1, _⟩ => ⟨S8x3, .f32⟩
  | .hbm, ⟨2, _⟩ => ⟨S8x1, .f32⟩
  | .hbm, ⟨3, _⟩ => ⟨S32x16, .f32⟩
  | .hbm, ⟨4, _⟩ => ⟨S16x2048x8, .f32⟩
  | .hbm, ⟨5, _⟩ => ⟨S16x8x2048, .f32⟩
  | .hbm, ⟨6, _⟩ => ⟨S1x8x1, .f32⟩
  | .hbm, ⟨7, _⟩ => ⟨S16x8x2048, .f32⟩
  | .hbm, ⟨8, _⟩ => ⟨S16x8x2048, .f32⟩
  | .hbm, ⟨9, _⟩ => ⟨S16x2048x3, .f32⟩
  | .hbm, ⟨10, _⟩ => ⟨S16x2048x3, .f32⟩
  | .hbm, ⟨11, _⟩ => ⟨S16x3x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x3, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x3, .f32⟩
  | .hbm, ⟨23, _⟩ => ⟨S_, .f32⟩
  | .hbm, ⟨24, _⟩ => ⟨S16x2048, .f32⟩
  | .hbm, ⟨25, _⟩ => ⟨S16x1x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x16, .f32⟩
  | .hbm, ⟨30, _⟩ => ⟨S16x2048x16, .i32⟩
  | .hbm, ⟨31, _⟩ => ⟨S16x2048x8, .f32⟩
  | .hbm, ⟨32, _⟩ => ⟨S_, .i32⟩
  | .hbm, ⟨33, _⟩ => ⟨S16x2048x16, .i32⟩
  | .hbm, ⟨34, _⟩ => ⟨S16x2048x16, .i1⟩
  | .hbm, ⟨35, _⟩ => ⟨S_, .i32⟩
  | .hbm, ⟨36, _⟩ => ⟨S16x2048x16, .i32⟩
  | .hbm, ⟨37, _⟩ => ⟨S16x2048x16, .i32⟩
  | .hbm, ⟨38, _⟩ => ⟨S16x2048x16, .i32⟩
  | .hbm, ⟨39, _⟩ => ⟨S16x2048x16x1, .i32⟩
  | .hbm, ⟨40, _⟩ => ⟨S16x2048x16x8, .f32⟩
  | .hbm, ⟨41, _⟩ => ⟨S16x8x2048x16, .f32⟩
  | .hbm, ⟨42, _⟩ => ⟨S16x8x2048x1, .f32⟩
  | .hbm, ⟨43, _⟩ => ⟨S16x8x2048x16, .f32⟩
  | .hbm, ⟨44, _⟩ => ⟨S16x8x2048x16, .f32⟩
  | .hbm, ⟨45, _⟩ => ⟨S16x8x2048x16, .f32⟩
  | .hbm, ⟨46, _⟩ => ⟨S16x16x2048x16, .f32⟩
  | .hbm, ⟨47, _⟩ => ⟨S16x2048x16x32, .f32⟩
  | .hbm, ⟨48, _⟩ => ⟨S16x32x2048x16, .f32⟩
  | .hbm, ⟨49, _⟩ => ⟨S16x4x8x2048x16, .f32⟩
  | .hbm, ⟨50, _⟩ => ⟨S_, .f32⟩
  | .hbm, ⟨51, _⟩ => ⟨S16x4, .f32⟩
  | .hbm, ⟨52, _⟩ => ⟨S16x4x8x2048x16, .f32⟩
  | .hbm, ⟨53, _⟩ => ⟨S_, .f32⟩
  | .hbm, ⟨54, _⟩ => ⟨S16x4, .f32⟩
  | .hbm, ⟨55, _⟩ => ⟨S_, .f32⟩
  | .hbm, ⟨56, _⟩ => ⟨S16x32x2048, .f32⟩
  | .hbm, ⟨57, _⟩ => ⟨S16x4x1, .f32⟩
  | .hbm, ⟨58, _⟩ => ⟨S16x4x1, .f32⟩
  | .hbm, ⟨59, _⟩ => ⟨S16x4x2, .f32⟩
  | _, _ => ⟨S16x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_values : Ref sig .tc := ⟨.hbm, 29, rfl⟩
abbrev main_indices : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Finalize4.lean ====
abbrev S16x128x128 : Shape := ⟨3, ![16, 128, 128]⟩
abbrev S16x4x2 : Shape := ⟨3, ![16, 4, 2]⟩
abbrev S128x1 : Shape := ⟨2, ![128, 1]⟩
abbrev S1x128x128 : Shape := ⟨3, ![1, 128, 128]⟩
abbrev S1x4x2 : Shape := ⟨3, ![1, 4, 2]⟩
abbrev S4x2 : Shape := ⟨2, ![4, 2]⟩
abbrev S4x1 : Shape := ⟨2, ![4, 1]⟩
abbrev S128x4 : Shape := ⟨2, ![128, 4]⟩
abbrev S128x128 : Shape := ⟨2, ![128, 128]⟩

abbrev nBuf : Space → Nat
  | .hbm => 5
  | .vmem => 8
  | .smem => 0
  | _ => 0

abbrev bufTy : (tb : Table) → Fin (tcTables nBuf tb) → BufTy
  | .hbm, ⟨0, _⟩ => ⟨S16x128x128, .f32⟩
  | .hbm, ⟨1, _⟩ => ⟨S16x4x2, .f32⟩
  | .hbm, ⟨2, _⟩ => ⟨S128x1, .f32⟩
  | .hbm, ⟨3, _⟩ => ⟨S128x1, .f32⟩
  | .hbm, ⟨4, _⟩ => ⟨S16x128x128, .f32⟩
  | .local _ .vmem, ⟨0, _⟩ => ⟨S1x128x128, .f32⟩
  | .local _ .vmem, ⟨1, _⟩ => ⟨S1x128x128, .f32⟩
  | .local _ .vmem, ⟨2, _⟩ => ⟨S1x4x2, .f32⟩
  | .local _ .vmem, ⟨3, _⟩ => ⟨S1x4x2, .f32⟩
  | .local _ .vmem, ⟨4, _⟩ => ⟨S128x1, .f32⟩
  | .local _ .vmem, ⟨5, _⟩ => ⟨S128x1, .f32⟩
  | .local _ .vmem, ⟨6, _⟩ => ⟨S1x128x128, .f32⟩
  | .local _ .vmem, ⟨7, _⟩ => ⟨S1x128x128, .f32⟩
  | _, _ => ⟨S16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefFinalize4Ideal.lean ====
abbrev S16x128x128 : Shape := ⟨3, ![16, 128, 128]⟩
abbrev S16x4x2 : Shape := ⟨3, ![16, 4, 2]⟩
abbrev S128x1 : Shape := ⟨2, ![128, 1]⟩
abbrev S16x4x1 : Shape := ⟨3, ![16, 4, 1]⟩
abbrev S16x4 : Shape := ⟨2, ![16, 4]⟩
abbrev S_ : Shape := ⟨0, ![]⟩
abbrev S16x4x32x128 : Shape := ⟨4, ![16, 4, 32, 128]⟩
abbrev S16x4x1x1 : Shape := ⟨4, ![16, 4, 1, 1]⟩
abbrev S1x128x1 : Shape := ⟨3, ![1, 128, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x128x128, .f32⟩
  | .hbm, ⟨1, _⟩ => ⟨S16x4x2, .f32⟩
  | .hbm, ⟨2, _⟩ => ⟨S128x1, .f32⟩
  | .hbm, ⟨3, _⟩ => ⟨S128x1, .f32⟩
  | .hbm, ⟨4, _⟩ => ⟨S16x4x1, .f32⟩
  | .hbm, ⟨5, _⟩ => ⟨S16x4, .f32⟩
  | .hbm, ⟨6, _⟩ => ⟨S_, .f32⟩
  | .hbm, ⟨7, _⟩ => ⟨S16x4, .f32⟩
  | .hbm, ⟨8, _⟩ => ⟨S16x4, .f32⟩
  | .hbm, ⟨9, _⟩ => ⟨S16x4x1, .f32⟩
  | .hbm, ⟨10, _⟩ => ⟨S16x4, .f32⟩
  | .hbm, ⟨11, _⟩ => ⟨S_, .f32⟩
  | .hbm, ⟨12, _⟩ => ⟨S16x4, .f32⟩
  | .hbm, ⟨13, _⟩ => ⟨S16x4, .f32⟩
  | .hbm, ⟨14, _⟩ => ⟨S16x4, .f32⟩
  | .hbm, ⟨15, _⟩ => ⟨S16x4, .f32⟩
  | .hbm, ⟨16, _⟩ => ⟨S16x4x32x128, .f32⟩
  | .hbm, ⟨17, _⟩ => ⟨S16x4x1x1, .f32⟩
  | .hbm, ⟨18, _⟩ => ⟨S16x4x32x128, .f32⟩
  | .hbm, ⟨19, _⟩ => ⟨S16x4x32x128, .f32⟩
  | .hbm, ⟨20, _⟩ => ⟨S_, .f32⟩
  | .hbm, ⟨21, _⟩ => ⟨S16x4, .f32⟩
  | .hbm, ⟨22, _⟩ => ⟨S16x4, .f32⟩
  | .hbm, ⟨23, _⟩ => ⟨S16x4, .f32⟩
  | .hbm, ⟨24, _⟩ => ⟨S16x4x1x1, .f32⟩
  | .hbm, ⟨25, _⟩ => ⟨S16x4x32x128, .f32⟩
  | .hbm, ⟨26, _⟩ => ⟨S16x4x32x128, .f32⟩
  | .hbm, ⟨27, _⟩ => ⟨S16x128x128, .f32⟩
  | .hbm, ⟨28, _⟩ => ⟨S1x128x1, .f32⟩
  | .hbm, ⟨29, _⟩ => ⟨S16x128x128, .f32⟩
  | .hbm, ⟨30, _⟩ => ⟨S16x128x128, .f32⟩
  | .hbm, ⟨31, _⟩ => ⟨S1x128x1, .f32⟩
  | .hbm, ⟨32, _⟩ => ⟨S16x128x128, .f32⟩
  | .hbm, ⟨33, _⟩ => ⟨S16x128x128, .f32⟩
  | .hbm, ⟨34, _⟩ => ⟨S_, .f32⟩
  | .hbm, ⟨35, _⟩ => ⟨S16x128x128, .f32⟩
  | .hbm, ⟨36, _⟩ => ⟨S16x128x128, .i1⟩
  | .hbm, ⟨37, _⟩ => ⟨S_, .f32⟩
  | .hbm, ⟨38, _⟩ => ⟨S16x128x128, .f32⟩
  | .hbm, ⟨39, _⟩ => ⟨S16x128x128, .f32⟩
  | .hbm, ⟨40, _⟩ => ⟨S16x128x128, .f32⟩
  | _, _ => ⟨S16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Finalize2.lean ====
abbrev S16x64x512 : Shape := ⟨3, ![16, 64, 512]⟩
abbrev S16x4x2 : Shape := ⟨3, ![16, 4, 2]⟩
abbrev S64x1 : Shape := ⟨2, ![64, 1]⟩
abbrev S1x64x512 : Shape := ⟨3, ![1, 64, 512]⟩
abbrev S1x4x2 : Shape := ⟨3, ![1, 4, 2]⟩
abbrev S4x2 : Shape := ⟨2, ![4, 2]⟩
abbrev S4x1 : Shape := ⟨2, ![4, 1]⟩
abbrev S64x4 : Shape := ⟨2, ![64, 4]⟩
abbrev S64x512 : Shape := ⟨2, ![64, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x64x512, .f32⟩
  | .hbm, ⟨1, _⟩ => ⟨S16x4x2, .f32⟩
  | .hbm, ⟨2, _⟩ => ⟨S64x1, .f32⟩
  | .hbm, ⟨3, _⟩ => ⟨S64x1, .f32⟩
  | .hbm, ⟨4, _⟩ => ⟨S16x64x512, .f32⟩
  | .local _ .vmem, ⟨0, _⟩ => ⟨S1x64x512, .f32⟩
  | .local _ .vmem, ⟨1, _⟩ => ⟨S1x64x512, .f32⟩
  | .local _ .vmem, ⟨2, _⟩ => ⟨S1x4x2, .f32⟩
  | .local _ .vmem, ⟨3, _⟩ => ⟨S1x4x2, .f32⟩
  | .local _ .vmem, ⟨4, _⟩ => ⟨S64x1, .f32⟩
  | .local _ .vmem, ⟨5, _⟩ => ⟨S64x1, .f32⟩
  | .local _ .vmem, ⟨6, _⟩ => ⟨S1x64x512, .f32⟩
  | .local _ .vmem, ⟨7, _⟩ => ⟨S1x64x512, .f32⟩
  | _, _ => ⟨S16x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefFinalize2Ideal.lean ====
abbrev S16x64x512 : Shape := ⟨3, ![16, 64, 512]⟩
abbrev S16x4x2 : Shape := ⟨3, ![16, 4, 2]⟩
abbrev S64x1 : Shape := ⟨2, ![64, 1]⟩
abbrev S16x4x1 : Shape := ⟨3, ![16, 4, 1]⟩
abbrev S16x4 : Shape := ⟨2, ![16, 4]⟩
abbrev S_ : Shape := ⟨0, ![]⟩
abbrev S16x4x16x512 : Shape := ⟨4, ![16, 4, 16, 512]⟩
abbrev S16x4x1x1 : Shape := ⟨4, ![16, 4, 1, 1]⟩
abbrev S1x64x1 : Shape := ⟨3, ![1, 64, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x64x512, .f32⟩
  | .hbm, ⟨1, _⟩ => ⟨S16x4x2, .f32⟩
  | .hbm, ⟨2, _⟩ => ⟨S64x1, .f32⟩
  | .hbm, ⟨3, _⟩ => ⟨S64x1, .f32⟩
  | .hbm, ⟨4, _⟩ => ⟨S16x4x1, .f32⟩
  | .hbm, ⟨5, _⟩ => ⟨S16x4, .f32⟩
  | .hbm, ⟨6, _⟩ => ⟨S_, .f32⟩
  | .hbm, ⟨7, _⟩ => ⟨S16x4, .f32⟩
  | .hbm, ⟨8, _⟩ => ⟨S16x4, .f32⟩
  | .hbm, ⟨9, _⟩ => ⟨S16x4x1, .f32⟩
  | .hbm, ⟨10, _⟩ => ⟨S16x4, .f32⟩
  | .hbm, ⟨11, _⟩ => ⟨S_, .f32⟩
  | .hbm, ⟨12, _⟩ => ⟨S16x4, .f32⟩
  | .hbm, ⟨13, _⟩ => ⟨S16x4, .f32⟩
  | .hbm, ⟨14, _⟩ => ⟨S16x4, .f32⟩
  | .hbm, ⟨15, _⟩ => ⟨S16x4, .f32⟩
  | .hbm, ⟨16, _⟩ => ⟨S16x4x16x512, .f32⟩
  | .hbm, ⟨17, _⟩ => ⟨S16x4x1x1, .f32⟩
  | .hbm, ⟨18, _⟩ => ⟨S16x4x16x512, .f32⟩
  | .hbm, ⟨19, _⟩ => ⟨S16x4x16x512, .f32⟩
  | .hbm, ⟨20, _⟩ => ⟨S_, .f32⟩
  | .hbm, ⟨21, _⟩ => ⟨S16x4, .f32⟩
  | .hbm, ⟨22, _⟩ => ⟨S16x4, .f32⟩
  | .hbm, ⟨23, _⟩ => ⟨S16x4, .f32⟩
  | .hbm, ⟨24, _⟩ => ⟨S16x4x1x1, .f32⟩
  | .hbm, ⟨25, _⟩ => ⟨S16x4x16x512, .f32⟩
  | .hbm, ⟨26, _⟩ => ⟨S16x4x16x512, .f32⟩
  | .hbm, ⟨27, _⟩ => ⟨S16x64x512, .f32⟩
  | .hbm, ⟨28, _⟩ => ⟨S1x64x1, .f32⟩
  | .hbm, ⟨29, _⟩ => ⟨S16x64x512, .f32⟩
  | .hbm, ⟨30, _⟩ => ⟨S16x64x512, .f32⟩
  | .hbm, ⟨31, _⟩ => ⟨S1x64x1, .f32⟩
  | .hbm, ⟨32, _⟩ => ⟨S16x64x512, .f32⟩
  | .hbm, ⟨33, _⟩ => ⟨S16x64x512, .f32⟩
  | .hbm, ⟨34, _⟩ => ⟨S_, .f32⟩
  | .hbm, ⟨35, _⟩ => ⟨S16x64x512, .f32⟩
  | .hbm, ⟨36, _⟩ => ⟨S16x64x512, .i1⟩
  | .hbm, ⟨37, _⟩ => ⟨S_, .f32⟩
  | .hbm, ⟨38, _⟩ => ⟨S16x64x512, .f32⟩
  | .hbm, ⟨39, _⟩ => ⟨S16x64x512, .f32⟩
  | .hbm, ⟨40, _⟩ => ⟨S16x64x512, .f32⟩
  | _, _ => ⟨S16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Finalize1.lean ====
abbrev S16x32x2048 : Shape := ⟨3, ![16, 32, 2048]⟩
abbrev S16x4x2 : Shape := ⟨3, ![16, 4, 2]⟩
abbrev S32x1 : Shape := ⟨2, ![32, 1]⟩
abbrev S1x32x2048 : Shape := ⟨3, ![1, 32, 2048]⟩
abbrev S1x4x2 : Shape := ⟨3, ![1, 4, 2]⟩
abbrev S4x2 : Shape := ⟨2, ![4, 2]⟩
abbrev S4x1 : Shape := ⟨2, ![4, 1]⟩
abbrev S32x4 : Shape := ⟨2, ![32, 4]⟩
abbrev S32x2048 : Shape := ⟨2, ![32, 2048]⟩

abbrev nBuf : Space → Nat
  | .hbm => 5
  | .vmem => 8
  | .smem => 0
  | _ => 0

abbrev bufTy : (tb : Table) → Fin (tcTables nBuf tb) → BufTy
  | .hbm, ⟨0, _⟩ => ⟨S16x32x2048, .f32⟩
  | .hbm, ⟨1, _⟩ => ⟨S16x4x2, .f32⟩
  | .hbm, ⟨2, _⟩ => ⟨S32x1, .f32⟩
  | .hbm, ⟨3, _⟩ => ⟨S32x1, .f32⟩
  | .hbm, ⟨4, _⟩ => ⟨S16x32x2048, .f32⟩
  | .local _ .vmem, ⟨0, _⟩ => ⟨S1x32x2048, .f32⟩
  | .local _ .vmem, ⟨1, _⟩ => ⟨S1x32x2048, .f32⟩
  | .local _ .vmem, ⟨2, _⟩ => ⟨S1x4x2, .f32⟩
  | .local _ .vmem, ⟨3, _⟩ => ⟨S1x4x2, .f32⟩
  | .local _ .vmem, ⟨4, _⟩ => ⟨S32x1, .f32⟩
  | .local _ .vmem, ⟨5, _⟩ => ⟨S32x1, .f32⟩
  | .local _ .vmem, ⟨6, _⟩ => ⟨S1x32x2048, .f32⟩
  | .local _ .vmem, ⟨7, _⟩ => ⟨S1x32x2048, .f32⟩
  | _, _ => ⟨S16x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefFinalize1Ideal.lean ====
abbrev S16x32x2048 : Shape := ⟨3, ![16, 32, 2048]⟩
abbrev S16x4x2 : Shape := ⟨3, ![16, 4, 2]⟩
abbrev S32x1 : Shape := ⟨2, ![32, 1]⟩
abbrev S16x4x1 : Shape := ⟨3, ![16, 4, 1]⟩
abbrev S16x4 : Shape := ⟨2, ![16, 4]⟩
abbrev S_ : Shape := ⟨0, ![]⟩
abbrev S16x4x8x2048 : Shape := ⟨4, ![16, 4, 8, 2048]⟩
abbrev S16x4x1x1 : Shape := ⟨4, ![16, 4, 1, 1]⟩
abbrev S1x32x1 : Shape := ⟨3, ![1, 32, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x32x2048, .f32⟩
  | .hbm, ⟨1, _⟩ => ⟨S16x4x2, .f32⟩
  | .hbm, ⟨2, _⟩ => ⟨S32x1, .f32⟩
  | .hbm, ⟨3, _⟩ => ⟨S32x1, .f32⟩
  | .hbm, ⟨4, _⟩ => ⟨S16x4x1, .f32⟩
  | .hbm, ⟨5, _⟩ => ⟨S16x4, .f32⟩
  | .hbm, ⟨6, _⟩ => ⟨S_, .f32⟩
  | .hbm, ⟨7, _⟩ => ⟨S16x4, .f32⟩
  | .hbm, ⟨8, _⟩ => ⟨S16x4, .f32⟩
  | .hbm, ⟨9, _⟩ => ⟨S16x4x1, .f32⟩
  | .hbm, ⟨10, _⟩ => ⟨S16x4, .f32⟩
  | .hbm, ⟨11, _⟩ => ⟨S_, .f32⟩
  | .hbm, ⟨12, _⟩ => ⟨S16x4, .f32⟩
  | .hbm, ⟨13, _⟩ => ⟨S16x4, .f32⟩
  | .hbm, ⟨14, _⟩ => ⟨S16x4, .f32⟩
  | .hbm, ⟨15, _⟩ => ⟨S16x4, .f32⟩
  | .hbm, ⟨16, _⟩ => ⟨S16x4x8x2048, .f32⟩
  | .hbm, ⟨17, _⟩ => ⟨S16x4x1x1, .f32⟩
  | .hbm, ⟨18, _⟩ => ⟨S16x4x8x2048, .f32⟩
  | .hbm, ⟨19, _⟩ => ⟨S16x4x8x2048, .f32⟩
  | .hbm, ⟨20, _⟩ => ⟨S_, .f32⟩
  | .hbm, ⟨21, _⟩ => ⟨S16x4, .f32⟩
  | .hbm, ⟨22, _⟩ => ⟨S16x4, .f32⟩
  | .hbm, ⟨23, _⟩ => ⟨S16x4, .f32⟩
  | .hbm, ⟨24, _⟩ => ⟨S16x4x1x1, .f32⟩
  | .hbm, ⟨25, _⟩ => ⟨S16x4x8x2048, .f32⟩
  | .hbm, ⟨26, _⟩ => ⟨S16x4x8x2048, .f32⟩
  | .hbm, ⟨27, _⟩ => ⟨S16x32x2048, .f32⟩
  | .hbm, ⟨28, _⟩ => ⟨S1x32x1, .f32⟩
  | .hbm, ⟨29, _⟩ => ⟨S16x32x2048, .f32⟩
  | .hbm, ⟨30, _⟩ => ⟨S16x32x2048, .f32⟩
  | .hbm, ⟨31, _⟩ => ⟨S1x32x1, .f32⟩
  | .hbm, ⟨32, _⟩ => ⟨S16x32x2048, .f32⟩
  | .hbm, ⟨33, _⟩ => ⟨S16x32x2048, .f32⟩
  | .hbm, ⟨34, _⟩ => ⟨S_, .f32⟩
  | .hbm, ⟨35, _⟩ => ⟨S16x32x2048, .f32⟩
  | .hbm, ⟨36, _⟩ => ⟨S16x32x2048, .i1⟩
  | .hbm, ⟨37, _⟩ => ⟨S_, .f32⟩
  | .hbm, ⟨38, _⟩ => ⟨S16x32x2048, .f32⟩
  | .hbm, ⟨39, _⟩ => ⟨S16x32x2048, .f32⟩
  | .hbm, ⟨40, _⟩ => ⟨S16x32x2048, .f32⟩
  | _, _ => ⟨S16x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Fps128.lean ====
abbrev S16x3x512 : Shape := ⟨3, ![16, 3, 512]⟩
abbrev S16x128 : Shape := ⟨2, ![16, 128]⟩
abbrev S16x3x128 : Shape := ⟨3, ![16, 3, 128]⟩
abbrev S16x512 : Shape := ⟨2, ![16, 512]⟩
abbrev S16x1 : Shape := ⟨2, ![16, 1]⟩
abbrev S16x1x512 : Shape := ⟨3, ![16, 1, 512]⟩
abbrev S16 : Shape := ⟨1, ![16]⟩
abbrev S16x1x128 : Shape := ⟨3, ![16, 1, 128]⟩

abbrev nBuf : Space → Nat
  | .hbm => 3
  | .vmem => 5
  | .smem => 0
  | _ => 0

abbrev bufTy : (tb : Table) → Fin (tcTables nBuf tb) → BufTy
  | .hbm, ⟨0, _⟩ => ⟨S16x3x512, .f32⟩
  | .hbm, ⟨1, _⟩ => ⟨S16x128, .i32⟩
  | .hbm, ⟨2, _⟩ => ⟨S16x3x128, .f32⟩
  | .local _ .vmem, ⟨0, _⟩ => ⟨S16x3x512, .f32⟩
  | .local _ .vmem, ⟨1, _⟩ => ⟨S16x128, .i32⟩
  | .local _ .vmem, ⟨2, _⟩ => ⟨S16x3x128, .f32⟩
  | .local _ .vmem, ⟨3, _⟩ => ⟨S16x512, .f32⟩
  | .local _ .vmem, ⟨4, _⟩ => ⟨S16x1, .i32⟩
  | _, _ => ⟨S16x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_17 : BitVec 32 := 0#32
  let c128_i32 : BitVec 32 := 128#32
  let v20 : BitVec 32 := Scalar.addi c0_i32_17 c128_i32
  let c1_i32 : BitVec 32 := 1#32
  ⟨c0_i32_17, v20, c1_i32⟩
abbrev stage0_0 : Fin 1 → Memref sig .tc .vmem S16x3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RefFps128Ideal.lean ====
abbrev S16x3x512 : Shape := ⟨3, ![16, 3, 512]⟩
abbrev S_ : Shape := ⟨0, ![]⟩
abbrev S16x512 : Shape := ⟨2, ![16, 512]⟩
abbrev S16x128 : Shape := ⟨2, ![16, 128]⟩
abbrev S16 : Shape := ⟨1, ![16]⟩
abbrev S1 : Shape := ⟨1, ![1]⟩
abbrev S16x1 : Shape := ⟨2, ![16, 1]⟩
abbrev S16x1x1 : Shape := ⟨3, ![16, 1, 1]⟩
abbrev S16x3x1 : Shape := ⟨3, ![16, 3, 1]⟩
abbrev S16x128x1 : Shape := ⟨3, ![16, 128, 1]⟩
abbrev S16x3x128 : Shape := ⟨3, ![16, 3, 128]⟩

abbrev nBuf : Space → Nat
  | .hbm => 57
  | .vmem => 0
  | .smem => 0
  | _ => 0

abbrev bufTy : (tb : Table) → Fin (tcTables nBuf tb) → BufTy
  | .hbm, ⟨0, _⟩ => ⟨S16x3x512, .f32⟩
  | .hbm, ⟨1, _⟩ => ⟨S_, .f32⟩
  | .hbm, ⟨2, _⟩ => ⟨S16x512, .f32⟩
  | .hbm, ⟨3, _⟩ => ⟨S_, .i32⟩
  | .hbm, ⟨4, _⟩ => ⟨S16x128, .i32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16x3x512, .f32⟩
  | .hbm, ⟨10, _⟩ => ⟨S_, .i32⟩
  | .hbm, ⟨11, _⟩ => ⟨S_, .i32⟩
  | .hbm, ⟨12, _⟩ => ⟨S16x512, .f32⟩
  | .hbm, ⟨13, _⟩ => ⟨S16, .i32⟩
  | .hbm, ⟨14, _⟩ => ⟨S16x128, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S16x128, .i32⟩
  | .hbm, ⟨27, _⟩ => ⟨S16x1, .i32⟩
  | .hbm, ⟨28, _⟩ => ⟨S_, .i32⟩
  | .hbm, ⟨29, _⟩ => ⟨S16x1, .i32⟩
  | .hbm, ⟨30, _⟩ => ⟨S16x1, .i1⟩
  | .hbm, ⟨31, _⟩ => ⟨S_, .i32⟩
  | .hbm, ⟨32, _⟩ => ⟨S16x1, .i32⟩
  | .hbm, ⟨33, _⟩ => ⟨S16x1, .i32⟩
  | .hbm, ⟨34, _⟩ => ⟨S16x1, .i32⟩
  | .hbm, ⟨35, _⟩ => ⟨S16x1x1, .i32⟩
  | .hbm, ⟨36, _⟩ => ⟨S16x3x1, .f32⟩
  | .hbm, ⟨37, _⟩ => ⟨S16x3x512, .f32⟩
  | .hbm, ⟨38, _⟩ => ⟨S16x3x512, .f32⟩
  | .hbm, ⟨39, _⟩ => ⟨S16x3x512, .f32⟩
  | .hbm, ⟨40, _⟩ => ⟨S_, .f32⟩
  | .hbm, ⟨41, _⟩ => ⟨S16x512, .f32⟩
  | .hbm, ⟨42, _⟩ => ⟨S16x512, .f32⟩
  | .hbm, ⟨43, _⟩ => ⟨S16x1, .f32⟩
  | .hbm, ⟨44, _⟩ => ⟨S16x1, .i32⟩
  | .hbm, ⟨45, _⟩ => ⟨S16, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S16x128, .i32⟩
  | .hbm, ⟨50, _⟩ => ⟨S16x128, .i1⟩
  | .hbm, ⟨51, _⟩ => ⟨S_, .i32⟩
  | .hbm, ⟨52, _⟩ => ⟨S16x128, .i32⟩
  | .hbm, ⟨53, _⟩ => ⟨S16x128, .i32⟩
  | .hbm, ⟨54, _⟩ => ⟨S16x128, .i32⟩
  | .hbm, ⟨55, _⟩ => ⟨S16x128x1, .i32⟩
  | .hbm, ⟨56, _⟩ => ⟨S16x3x128, .f32⟩
  | _, _ => ⟨S16x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_10 : Ref sig .tc := ⟨.hbm, 15, rfl⟩
abbrev main_while0c_v11 : Ref sig .tc := ⟨.hbm, 16, rfl⟩
abbrev main_while0b_c_10 : Ref sig .tc := ⟨.hbm, 17, rfl⟩
abbrev main_while0b_v11 : Ref sig .tc := ⟨.hbm, 18, rfl⟩
abbrev main_while0b_c_11 : Ref sig .tc := ⟨.hbm, 19, rfl⟩
abbrev main_while0b_v12 : Ref sig .tc := ⟨.hbm, 20, rfl⟩
abbrev main_while0b_c_12 : Ref sig .tc := ⟨.hbm, 21, rfl⟩
abbrev main_while0b_v13 : Ref sig .tc := ⟨.hbm, 22, rfl⟩
abbrev main_while0b_v14 : Ref sig .tc := ⟨.hbm, 23, rfl⟩
abbrev main_while0b_v15 : Ref sig .tc := ⟨.hbm, 24, rfl⟩
abbrev main_while0b_v16 : Ref sig .tc := ⟨.hbm, 25, rfl⟩
abbrev main_while0b_v17 : Ref sig .tc := ⟨.hbm, 26, rfl⟩
abbrev main_while0b_v18 : Ref sig .tc := ⟨.hbm, 27, rfl⟩
abbrev main_while0b_c_13 : Ref sig .tc := ⟨.hbm, 28, rfl⟩
abbrev main_while0b_v19 : Ref sig .tc := ⟨.hbm, 29, rfl⟩
abbrev main_while0b_v20 : Ref sig .tc := ⟨.hbm, 30, rfl⟩
abbrev main_while0b_c_14 : Ref sig .tc := ⟨.hbm, 31, rfl⟩
abbrev main_while0b_v21 : Ref sig .tc := ⟨.hbm, 32, rfl⟩
abbrev main_while0b_v22 : Ref sig .tc := ⟨.hbm, 33, rfl⟩
abbrev main_while0b_v23 : Ref sig .tc := ⟨.hbm, 34, rfl⟩
abbrev main_while0b_v24 : Ref sig .tc := ⟨.hbm, 35, rfl⟩
abbrev main_while0b_v25 : Ref sig .tc := ⟨.hbm, 36, rfl⟩
abbrev main_while0b_v26 : Ref sig .tc := ⟨.hbm, 37, rfl⟩
abbrev main_while0b_v27 : Ref sig .tc := ⟨.hbm, 38, rfl⟩
abbrev main_while0b_v28 : Ref sig .tc := ⟨.hbm, 39, rfl⟩
abbrev main_while0b_cst_15 : Ref sig .tc := ⟨.hbm, 40, rfl⟩
abbrev main_while0b_v29 : Ref sig .tc := ⟨.hbm, 41, rfl⟩
abbrev main_while0b_v30 : Ref sig .tc := ⟨.hbm, 42, rfl⟩
abbrev main_while0b_values : Ref sig .tc := ⟨.hbm, 43, rfl⟩
abbrev main_while0b_indices : Ref sig .tc := ⟨.hbm, 44, rfl⟩
abbrev main_while0b_v31 : Ref sig .tc := ⟨.hbm, 45, rfl⟩
abbrev main_while0b_c_16 : Ref sig .tc := ⟨.hbm, 46, rfl⟩
abbrev main_while0b_v32 : Ref sig .tc := ⟨.hbm, 47, rfl⟩
abbrev main_c_3 : Ref sig .tc := ⟨.hbm, 48, rfl⟩
abbrev main_v4 : Ref sig .tc := ⟨.hbm, 49, rfl⟩
abbrev main_v5 : Ref sig .tc := ⟨.hbm, 50, rfl⟩
abbrev main_c_4 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩

abbrev nD : Nat := 1
abbrev τ : Topo := Topo.v7x

variable {F : FTy → Type} [FloatOps F]

abbrev main_while0_count : Scf.Loop 32 := ⟨0#32, 128#32, 1#32⟩
-- ==== Fps512.lean ====
abbrev S16x3x2048 : Shape := ⟨3, ![16, 3, 2048]⟩
abbrev S16x512 : Shape := ⟨2, ![16, 512]⟩
abbrev S16x3x512 : Shape := ⟨3, ![16, 3, 512]⟩
abbrev S16x2048 : Shape := ⟨2, ![16, 2048]⟩
abbrev S16x1 : Shape := ⟨2, ![16, 1]⟩
abbrev S16x1x2048 : Shape := ⟨3, ![16, 1, 2048]⟩
abbrev S16 : Shape := ⟨1, ![16]⟩
abbrev S16x1x512 : Shape := ⟨3, ![16, 1, 512]⟩

abbrev nBuf : Space → Nat
  | .hbm => 3
  | .vmem => 5
  | .smem => 0
  | _ => 0

abbrev bufTy : (tb : Table) → Fin (tcTables nBuf tb) → BufTy
  | .hbm, ⟨0, _⟩ => ⟨S16x3x2048, .f32⟩
  | .hbm, ⟨1, _⟩ => ⟨S16x512, .i32⟩
  | .hbm, ⟨2, _⟩ => ⟨S16x3x512, .f32⟩
  | .local _ .vmem, ⟨0, _⟩ => ⟨S16x3x2048, .f32⟩
  | .local _ .vmem, ⟨1, _⟩ => ⟨S16x512, .i32⟩
  | .local _ .vmem, ⟨2, _⟩ => ⟨S16x3x512, .f32⟩
  | .local _ .vmem, ⟨3, _⟩ => ⟨S16x2048, .f32⟩
  | .local _ .vmem, ⟨4, _⟩ => ⟨S16x1, .i32⟩
  | _, _ => ⟨S16x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_17 : BitVec 32 := 0#32
  let c512_i32 : BitVec 32 := 512#32
  let v20 : BitVec 32 := Scalar.addi c0_i32_17 c512_i32
  let c1_i32 : BitVec 32 := 1#32
  ⟨c0_i32_17, v20, c1_i32⟩
abbrev stage0_0 : Fin 1 → Memref sig .tc .vmem S16x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RefFps512Ideal.lean ====
abbrev S16x3x2048 : Shape := ⟨3, ![16, 3, 2048]⟩
abbrev S_ : Shape := ⟨0, ![]⟩
abbrev S16x2048 : Shape := ⟨2, ![16, 2048]⟩
abbrev S16x512 : Shape := ⟨2, ![16, 512]⟩
abbrev S16 : Shape := ⟨1, ![16]⟩
abbrev S1 : Shape := ⟨1, ![1]⟩
abbrev S16x1 : Shape := ⟨2, ![16, 1]⟩
abbrev S16x1x1 : Shape := ⟨3, ![16, 1, 1]⟩
abbrev S16x3x1 : Shape := ⟨3, ![16, 3, 1]⟩
abbrev S16x512x1 : Shape := ⟨3, ![16, 512, 1]⟩
abbrev S16x3x512 : Shape := ⟨3, ![16, 3, 512]⟩

abbrev nBuf : Space → Nat
  | .hbm => 57
  | .vmem => 0
  | .smem => 0
  | _ => 0

abbrev bufTy : (tb : Table) → Fin (tcTables nBuf tb) → BufTy
  | .hbm, ⟨0, _⟩ => ⟨S16x3x2048, .f32⟩
  | .hbm, ⟨1, _⟩ => ⟨S_, .f32⟩
  | .hbm, ⟨2, _⟩ => ⟨S16x2048, .f32⟩
  | .hbm, ⟨3, _⟩ => ⟨S_, .i32⟩
  | .hbm, ⟨4, _⟩ => ⟨S16x512, .i32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16x3x2048, .f32⟩
  | .hbm, ⟨10, _⟩ => ⟨S_, .i32⟩
  | .hbm, ⟨11, _⟩ => ⟨S_, .i32⟩
  | .hbm, ⟨12, _⟩ => ⟨S16x2048, .f32⟩
  | .hbm, ⟨13, _⟩ => ⟨S16, .i32⟩
  | .hbm, ⟨14, _⟩ => ⟨S16x512, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S16x512, .i32⟩
  | .hbm, ⟨27, _⟩ => ⟨S16x1, .i32⟩
  | .hbm, ⟨28, _⟩ => ⟨S_, .i32⟩
  | .hbm, ⟨29, _⟩ => ⟨S16x1, .i32⟩
  | .hbm, ⟨30, _⟩ => ⟨S16x1, .i1⟩
  | .hbm, ⟨31, _⟩ => ⟨S_, .i32⟩
  | .hbm, ⟨32, _⟩ => ⟨S16x1, .i32⟩
  | .hbm, ⟨33, _⟩ => ⟨S16x1, .i32⟩
  | .hbm, ⟨34, _⟩ => ⟨S16x1, .i32⟩
  | .hbm, ⟨35, _⟩ => ⟨S16x1x1, .i32⟩
  | .hbm, ⟨36, _⟩ => ⟨S16x3x1, .f32⟩
  | .hbm, ⟨37, _⟩ => ⟨S16x3x2048, .f32⟩
  | .hbm, ⟨38, _⟩ => ⟨S16x3x2048, .f32⟩
  | .hbm, ⟨39, _⟩ => ⟨S16x3x2048, .f32⟩
  | .hbm, ⟨40, _⟩ => ⟨S_, .f32⟩
  | .hbm, ⟨41, _⟩ => ⟨S16x2048, .f32⟩
  | .hbm, ⟨42, _⟩ => ⟨S16x2048, .f32⟩
  | .hbm, ⟨43, _⟩ => ⟨S16x1, .f32⟩
  | .hbm, ⟨44, _⟩ => ⟨S16x1, .i32⟩
  | .hbm, ⟨45, _⟩ => ⟨S16, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S16x512, .i32⟩
  | .hbm, ⟨50, _⟩ => ⟨S16x512, .i1⟩
  | .hbm, ⟨51, _⟩ => ⟨S_, .i32⟩
  | .hbm, ⟨52, _⟩ => ⟨S16x512, .i32⟩
  | .hbm, ⟨53, _⟩ => ⟨S16x512, .i32⟩
  | .hbm, ⟨54, _⟩ => ⟨S16x512, .i32⟩
  | .hbm, ⟨55, _⟩ => ⟨S16x512x1, .i32⟩
  | .hbm, ⟨56, _⟩ => ⟨S16x3x512, .f32⟩
  | _, _ => ⟨S16x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_10 : Ref sig .tc := ⟨.hbm, 15, rfl⟩
abbrev main_while0c_v11 : Ref sig .tc := ⟨.hbm, 16, rfl⟩
abbrev main_while0b_c_10 : Ref sig .tc := ⟨.hbm, 17, rfl⟩
abbrev main_while0b_v11 : Ref sig .tc := ⟨.hbm, 18, rfl⟩
abbrev main_while0b_c_11 : Ref sig .tc := ⟨.hbm, 19, rfl⟩
abbrev main_while0b_v12 : Ref sig .tc := ⟨.hbm, 20, rfl⟩
abbrev main_while0b_c_12 : Ref sig .tc := ⟨.hbm, 21, rfl⟩
abbrev main_while0b_v13 : Ref sig .tc := ⟨.hbm, 22, rfl⟩
abbrev main_while0b_v14 : Ref sig .tc := ⟨.hbm, 23, rfl⟩
abbrev main_while0b_v15 : Ref sig .tc := ⟨.hbm, 24, rfl⟩
abbrev main_while0b_v16 : Ref sig .tc := ⟨.hbm, 25, rfl⟩
abbrev main_while0b_v17 : Ref sig .tc := ⟨.hbm, 26, rfl⟩
abbrev main_while0b_v18 : Ref sig .tc := ⟨.hbm, 27, rfl⟩
abbrev main_while0b_c_13 : Ref sig .tc := ⟨.hbm, 28, rfl⟩
abbrev main_while0b_v19 : Ref sig .tc := ⟨.hbm, 29, rfl⟩
abbrev main_while0b_v20 : Ref sig .tc := ⟨.hbm, 30, rfl⟩
abbrev main_while0b_c_14 : Ref sig .tc := ⟨.hbm, 31, rfl⟩
abbrev main_while0b_v21 : Ref sig .tc := ⟨.hbm, 32, rfl⟩
abbrev main_while0b_v22 : Ref sig .tc := ⟨.hbm, 33, rfl⟩
abbrev main_while0b_v23 : Ref sig .tc := ⟨.hbm, 34, rfl⟩
abbrev main_while0b_v24 : Ref sig .tc := ⟨.hbm, 35, rfl⟩
abbrev main_while0b_v25 : Ref sig .tc := ⟨.hbm, 36, rfl⟩
abbrev main_while0b_v26 : Ref sig .tc := ⟨.hbm, 37, rfl⟩
abbrev main_while0b_v27 : Ref sig .tc := ⟨.hbm, 38, rfl⟩
abbrev main_while0b_v28 : Ref sig .tc := ⟨.hbm, 39, rfl⟩
abbrev main_while0b_cst_15 : Ref sig .tc := ⟨.hbm, 40, rfl⟩
abbrev main_while0b_v29 : Ref sig .tc := ⟨.hbm, 41, rfl⟩
abbrev main_while0b_v30 : Ref sig .tc := ⟨.hbm, 42, rfl⟩
abbrev main_while0b_values : Ref sig .tc := ⟨.hbm, 43, rfl⟩
abbrev main_while0b_indices : Ref sig .tc := ⟨.hbm, 44, rfl⟩
abbrev main_while0b_v31 : Ref sig .tc := ⟨.hbm, 45, rfl⟩
abbrev main_while0b_c_16 : Ref sig .tc := ⟨.hbm, 46, rfl⟩
abbrev main_while0b_v32 : Ref sig .tc := ⟨.hbm, 47, rfl⟩
abbrev main_c_3 : Ref sig .tc := ⟨.hbm, 48, rfl⟩
abbrev main_v4 : Ref sig .tc := ⟨.hbm, 49, rfl⟩
abbrev main_v5 : Ref sig .tc := ⟨.hbm, 50, rfl⟩
abbrev main_c_4 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩

abbrev nD : Nat := 1
abbrev τ : Topo := Topo.v7x

variable {F : FTy → Type} [FloatOps F]

abbrev main_while0_count : Scf.Loop 32 := ⟨0#32, 512#32, 1#32⟩
-- ==== Proof.LoopKit.lean ====
module

public import Idealize.ShloMosaic.Lib.Pipeline.Value
public import Idealize.ShloMosaic.Lib.Pipeline.ValueKit.Acc
public import Idealize.ShloMosaic.Lib.VecWindow
public import Idealize.ShloMosaic.Lib.Tactic

@[expose] public section

namespace LoopKit

open Idealize.ShloMosaic

/-! # Whole loads and stores -/

/-- A whole load after two lists of stores reads what the later stores leave over the earlier ones. -/
theorem readCov_two {sig : RefSig} {κ : Kind} {sp : Space} {s : Shape} {e : EltTy} {Val : EltTy → Type} [∀ e, Nonempty (Val e)]
    (v : View sig κ sp s e) (L L' : List (View.Piece Val s e)) {off : Fin s.rank → ℕ} (inb : ∀ a, off a + s.size a ≤ s.size a) :
    v.readCov (L ++ L') (Rect.unit off s.size inb).toLoadRect = v.read Val (v.writes Val (v.writes Val v.junk L') L) := by
  rw [← View.writes_append]
  exact View.readAt_full v _ inb

/-- Three stores of boxes of one size, one after another. -/
theorem read_three {sig : RefSig} {κ : Kind} {sp : Space} {s : Shape} {e : EltTy} {Val : EltTy → Type}
    (v : View sig κ sp s e) (f : v.ty.Contents Val) {o0 o1 o2 size : Fin s.rank → ℕ} (i0 : ∀ a, o0 a + size a ≤ s.size a)
    (i1 : ∀ a, o1 a + size a ≤ s.size a) (i2 : ∀ a, o2 a + size a ≤ s.size a) (w0 w1 w2 : ((a : Fin s.rank) → Fin (size a)) → Val e) :
    v.read Val (v.writes Val f [⟨Rect.unit o2 size i2, w2⟩, ⟨Rect.unit o1 size i1, w1⟩, ⟨Rect.unit o0 size i0, w0⟩])
      = VecWindow.put (VecWindow.put (VecWindow.put (v.read Val f) o0 size w0) o1 size w1) o2 size w2 := by
  rw [View.read_writes_cons_put v f i2 w2 _ rfl, View.read_writes_cons_put v f i1 w1 _ rfl, View.read_writes_cons_put v f i0 w0 _ rfl]
  rfl

theorem hz : (![0, 0] : Fin 2 → Nat) = fun _ => 0 := funext fun a => by fin_cases a <;> rfl
theorem hz3 : (![0, 0, 0] : Fin 3 → Nat) = fun _ => 0 := funext fun a => by fin_cases a <;> rfl

end LoopKit

end
-- ==== Proof.Fps128Loop.lean ====
module

public import proofs.«01_k».proof.Proof.Gen.Fps128Ideal.Value
public import proofs.«01_k».proof.Proof.LoopKit

@[expose] public section

set_option maxRecDepth 16384

noncomputable section

namespace Cert.Fps128Ideal.Loop

open Cert.Fps128Ideal Cert.Fps128Ideal.Gen Idealize.ShloMosaic Idealize.ShloMosaic.TcCoe Idealize.SL.Sem LoopKit

variable {F : FTy → Type} [FloatOps F]

/-- What the loop's four buffers hold: chosen positions, their coordinates, distances, the next position. -/
abbrev St (F : FTy → Type) : Type := Vec F S16x128 .i32 × Vec F S16x3x128 .f32 × Vec F S16x512 .f32 × Vec F S16x1 .i32

/-- Row `r` of the chosen points' coordinates. -/
abbrev row0 (x : Vec F S16x3x128 .f32) : Vec F S16x1x128 .f32 := VecWindow.window x ![0, 0, 0] S16x1x128.size inb_S16x3x128_S16x1x128_0_0_0
abbrev row1 (x : Vec F S16x3x128 .f32) : Vec F S16x1x128 .f32 := VecWindow.window x ![0, 1, 0] S16x1x128.size inb_S16x3x128_S16x1x128_0_1_0
abbrev row2 (x : Vec F S16x3x128 .f32) : Vec F S16x1x128 .f32 := VecWindow.window x ![0, 2, 0] S16x1x128.size inb_S16x3x128_S16x1x128_0_2_0

/-- One trip on what the buffers hold. -/
def step (v0 v2 v4 : Vec F S16x1x512 .f32) (v6 : IVec S16x512 32) (v7 : IVec S16x128 32) (k : Fin k0_t1_loop.trips) (s : St F) : St F :=
  (k0_pay14 v7 0#32 1#32 k s.2.2.2 s.1,
    VecWindow.put (VecWindow.put (VecWindow.put s.2.1 ![0, 0, 0] S16x1x128.size (k0_pay19 (k0_pay1 v0) v6 v7 0#32 1#32 k s.2.2.2 (row0 s.2.1)))
      ![0, 1, 0] S16x1x128.size (k0_pay8 (k0_pay20 (k0_pay2 v2) v6 v7 0#32 1#32 k s.2.2.2 (row1 s.2.1))))
      ![0, 2, 0] S16x1x128.size (k0_pay9 (k0_pay13 v7 0#32 1#32 k) (k0_pay18 (k0_pay3 v4) v6 s.2.2.2) (row2 s.2.1)),
    k0_pay11 v0 v2 v4 (k0_pay16 (k0_pay1 v0) v6 s.2.2.2) (k0_pay17 (k0_pay2 v2) v6 s.2.2.2) (k0_pay18 (k0_pay3 v4) v6 s.2.2.2) s.2.2.1,
    k0_pay12 v0 v2 v4 (k0_pay16 (k0_pay1 v0) v6 s.2.2.2) (k0_pay17 (k0_pay2 v2) v6 s.2.2.2) (k0_pay18 (k0_pay3 v4) v6 s.2.2.2) s.2.2.1)

/-- The buffers after `k` trips. -/
def trips (v0 v2 v4 : Vec F S16x1x512 .f32) (v6 : IVec S16x512 32) (v7 : IVec S16x128 32) (s : St F) : ℕ → St F
  | 0 => s
  | k + 1 => if h : k < k0_t1_loop.trips then step v0 v2 v4 v6 v7 ⟨k, h⟩ (trips v0 v2 v4 v6 v7 s k) else trips v0 v2 v4 v6 v7 s k

section
variable (𝒱 : Variants) (c : Dev nD) (bd : Option 𝒱.V) (arg0 : Memref sig .tc .vmem S16x3x512 .f32) (harg0 : arg0.IsWhole) (arg1 : Memref sig .tc .vmem S16x128 .i32) (harg1 : arg1.IsWhole)
  (arg2 : Memref sig .tc .vmem S16x3x128 .f32) (harg2 : arg2.IsWhole) (arg3 : Memref sig .tc .vmem S16x512 .f32) (harg3 : arg3.IsWhole) (arg4 : Memref sig .tc .vmem S16x1 .i32) (harg4 : arg4.IsWhole)
  (v0 v2 v4 : Vec F S16x1x512 .f32) (v6 : IVec S16x512 32) (v7 : IVec S16x128 32)

/-- What the four buffers read as. -/
def rd (f1 : BufTy.Contents (Elt F) arg1.view.ty) (f2 : BufTy.Contents (Elt F) arg2.view.ty) (f3 : BufTy.Contents (Elt F) arg3.view.ty) (f4 : BufTy.Contents (Elt F) arg4.view.ty) : St F :=
  (arg1.view.read (Elt F) f1, arg2.view.read (Elt F) f2, arg3.view.read (Elt F) f3, arg4.view.read (Elt F) f4)

theorem trip_rd (k : Fin k0_t1_loop.trips) (f1 f2 f3 f4) :
    rd arg1 arg2 arg3 arg4
      (arg1.view.writes (Elt F) f1 ((trip_k0_t1 (F := F) 𝒱 c bd arg0 harg0 arg1 harg1 arg2 harg2 arg3 harg3 arg4 harg4 v0 v2 v4 v6 v7 k).1 f1 f2 f3 f4))
      (arg2.view.writes (Elt F) f2 ((trip_k0_t1 (F := F) 𝒱 c bd arg0 harg0 arg1 harg1 arg2 harg2 arg3 harg3 arg4 harg4 v0 v2 v4 v6 v7 k).2.1 f1 f2 f3 f4))
      (arg3.view.writes (Elt F) f3 ((trip_k0_t1 (F := F) 𝒱 c bd arg0 harg0 arg1 harg1 arg2 harg2 arg3 harg3 arg4 harg4 v0 v2 v4 v6 v7 k).2.2.1 f1 f2 f3 f4))
      (arg4.view.writes (Elt F) f4 ((trip_k0_t1 (F := F) 𝒱 c bd arg0 harg0 arg1 harg1 arg2 harg2 arg3 harg3 arg4 harg4 v0 v2 v4 v6 v7 k).2.2.2.1 f1 f2 f3 f4))
      = step v0 v2 v4 v6 v7 k (rd arg1 arg2 arg3 arg4 f1 f2 f3 f4) := by
  unfold trip_k0_t1 rd step
  dsimp only
  sl_unfold_words
  refine Prod.ext ?_ (Prod.ext ?_ (Prod.ext ?_ ?_))
  · refine (View.read_writes_full _ _ _ _ _).trans ?_
    exact congrArg₂ (k0_pay14 v7 0#32 1#32 k) (View.readAt_full arg4.view f4 _) (View.readAt_full arg1.view f1 _)
  · refine (read_three (s := S16x3x128) arg2.view f2 _ _ _ _ _ _).trans ?_
    have e : ∀ (x : Vec F S16x3x128 .f32) (a a' b b' d d' : Vec F S16x1x128 .f32), a = a' → b = b' → d = d' →
        VecWindow.put (VecWindow.put (VecWindow.put x ![0, 0, 0] S16x1x128.size a) ![0, 1, 0] S16x1x128.size b) ![0, 2, 0] S16x1x128.size d
          = VecWindow.put (VecWindow.put (VecWindow.put x ![0, 0, 0] S16x1x128.size a') ![0, 1, 0] S16x1x128.size b') ![0, 2, 0] S16x1x128.size d' := by
      rintro x a _ b _ d _ rfl rfl rfl; rfl
    refine e _ _ _ _ _ _ _ ?_ ?_ ?_
    · exact congrArg₂ (k0_pay19 (k0_pay1 v0) v6 v7 0#32 1#32 k) (View.readAt_full arg4.view f4 _) (View.readAt_unit arg2.view f2 _ rfl _)
    · exact congrArg k0_pay8 (congrArg₂ (k0_pay20 (k0_pay2 v2) v6 v7 0#32 1#32 k) (View.readAt_full arg4.view f4 _) (View.readAt_unit arg2.view f2 _ rfl _))
    · exact congrArg₂ (k0_pay9 (k0_pay13 v7 0#32 1#32 k)) (congrArg (k0_pay18 (k0_pay3 v4) v6) (View.readAt_full arg4.view f4 _)) (View.readAt_unit arg2.view f2 _ rfl _)
  · refine (View.read_writes_full _ _ _ _ _).trans ?_
    exact congrArg₂ (fun x y => k0_pay11 v0 v2 v4 (k0_pay16 (k0_pay1 v0) v6 x) (k0_pay17 (k0_pay2 v2) v6 x) (k0_pay18 (k0_pay3 v4) v6 x) y) (View.readAt_full arg4.view f4 _) (View.readAt_full arg3.view f3 _)
  · refine (View.read_writes_full _ _ _ _ _).trans ?_
    exact congrArg₂ (fun x y => k0_pay12 v0 v2 v4 (k0_pay16 (k0_pay1 v0) v6 x) (k0_pay17 (k0_pay2 v2) v6 x) (k0_pay18 (k0_pay3 v4) v6 x) y) (View.readAt_full arg4.view f4 _) (View.readAt_full arg3.view f3 _)

/-- After `k` trips the buffers read as `k` steps from what they read at entry. -/
theorem loop_rd (G1 G2 G3 G4) (k : ℕ) (hk : k ≤ k0_t1_loop.trips) :
    rd arg1 arg2 arg3 arg4
      (arg1.view.writes (Elt F) G1 (pb_k0_t1 (F := F) 𝒱 c bd arg0 harg0 arg1 harg1 arg2 harg2 arg3 harg3 arg4 harg4 v0 v2 v4 v6 v7 G1 G2 G3 G4 k).1)
      (arg2.view.writes (Elt F) G2 (pb_k0_t1 (F := F) 𝒱 c bd arg0 harg0 arg1 harg1 arg2 harg2 arg3 harg3 arg4 harg4 v0 v2 v4 v6 v7 G1 G2 G3 G4 k).2.1)
      (arg3.view.writes (Elt F) G3 (pb_k0_t1 (F := F) 𝒱 c bd arg0 harg0 arg1 harg1 arg2 harg2 arg3 harg3 arg4 harg4 v0 v2 v4 v6 v7 G1 G2 G3 G4 k).2.2.1)
      (arg4.view.writes (Elt F) G4 (pb_k0_t1 (F := F) 𝒱 c bd arg0 harg0 arg1 harg1 arg2 harg2 arg3 harg3 arg4 harg4 v0 v2 v4 v6 v7 G1 G2 G3 G4 k).2.2.2)
      = trips v0 v2 v4 v6 v7 (rd arg1 arg2 arg3 arg4 G1 G2 G3 G4) k := by
  induction k with
  | zero => rfl
  | succ k ih =>
    rw [trips, dif_pos (show k < k0_t1_loop.trips by omega), ← ih (by omega)]
    rw [pb_k0_t1_succ 𝒱 c bd arg0 harg0 arg1 harg1 arg2 harg2 arg3 harg3 arg4 harg4 v0 v2 v4 v6 v7 G1 G2 G3 G4 ⟨k, by omega⟩]
    dsimp only
    rw [View.writes_append, View.writes_append, View.writes_append, View.writes_append]
    exact trip_rd 𝒱 c bd arg0 harg0 arg1 harg1 arg2 harg2 arg3 harg3 arg4 harg4 v0 v2 v4 v6 v7 ⟨k, by omega⟩ _ _ _ _
theorem loop1 (G1 G2 G3 G4) (k : ℕ) (hk : k ≤ k0_t1_loop.trips) :
    arg1.view.read (Elt F) (arg1.view.writes (Elt F) G1 (pb_k0_t1 (F := F) 𝒱 c bd arg0 harg0 arg1 harg1 arg2 harg2 arg3 harg3 arg4 harg4 v0 v2 v4 v6 v7 G1 G2 G3 G4 k).1)
      = (trips v0 v2 v4 v6 v7 (rd arg1 arg2 arg3 arg4 G1 G2 G3 G4) k).1 :=
  congrArg (fun s : St F => s.1) (loop_rd 𝒱 c bd arg0 harg0 arg1 harg1 arg2 harg2 arg3 harg3 arg4 harg4 v0 v2 v4 v6 v7 G1 G2 G3 G4 k hk)

theorem loop2 (G1 G2 G3 G4) (k : ℕ) (hk : k ≤ k0_t1_loop.trips) :
    arg2.view.read (Elt F) (arg2.view.writes (Elt F) G2 (pb_k0_t1 (F := F) 𝒱 c bd arg0 harg0 arg1 harg1 arg2 harg2 arg3 harg3 arg4 harg4 v0 v2 v4 v6 v7 G1 G2 G3 G4 k).2.1)
      = (trips v0 v2 v4 v6 v7 (rd arg1 arg2 arg3 arg4 G1 G2 G3 G4) k).2.1 :=
  congrArg (fun s : St F => s.2.1) (loop_rd 𝒱 c bd arg0 harg0 arg1 harg1 arg2 harg2 arg3 harg3 arg4 harg4 v0 v2 v4 v6 v7 G1 G2 G3 G4 k hk)
end

/-- One coordinate of all the points. -/
abbrev pts0 (x : Vec F S16x3x512 .f32) : Vec F S16x1x512 .f32 := VecWindow.window x ![0, 0, 0] S16x1x512.size inb_S16x3x512_S16x1x512_0_0_0
abbrev pts1 (x : Vec F S16x3x512 .f32) : Vec F S16x1x512 .f32 := VecWindow.window x ![0, 1, 0] S16x1x512.size inb_S16x3x512_S16x1x512_0_1_0
abbrev pts2 (x : Vec F S16x3x512 .f32) : Vec F S16x1x512 .f32 := VecWindow.window x ![0, 2, 0] S16x1x512.size inb_S16x3x512_S16x1x512_0_2_0

/-- The four buffers before the loop. -/
def start : St F := (k0_pay6, k0_pay7, k0_pay4, k0_pay5)

/-- The four buffers after `k` trips, from the points. -/
def at_ (x0 : Vec F S16x3x512 .f32) (k : ℕ) : St F :=
  trips (pts0 x0) (pts1 x0) (pts2 x0) (iota .tc S16x512 32 [1] iota_S16x512_d1_w32) (iota .tc S16x128 32 [1] iota_S16x128_d1_w32) start k

section
variable (c : Dev nD) (arg0 : Memref sig .tc .vmem S16x3x512 .f32) (harg0 : arg0.IsWhole) (arg1 : Memref sig .tc .vmem S16x128 .i32) (harg1 : arg1.IsWhole)
  (arg2 : Memref sig .tc .vmem S16x3x128 .f32) (harg2 : arg2.IsWhole) (arg3 : Memref sig .tc .vmem S16x512 .f32) (harg3 : arg3.IsWhole) (arg4 : Memref sig .tc .vmem S16x1 .i32) (harg4 : arg4.IsWhole)
  (x0 : Vec F S16x3x512 .f32)

theorem count : k0_t1_loop.trips = 128 := by decide

theorem count' : Scf.trips (0#32) (Scalar.addi 0#32 128#32) 1#32 = 128 := by decide

/-- The first result: the chosen positions. -/
theorem out1 : out0_A_1 c arg0 harg0 arg1 harg1 arg2 harg2 arg3 harg3 arg4 harg4 x0 = (at_ x0 128).1 := by
  unfold out0_A_1
  rw [View.read_writes_eq_canon _ _ _ (cover0_A_1 c arg0 harg0 arg1 harg1 arg2 harg2 arg3 harg3 arg4 harg4 x0), ← View.read_writes_eq_canon arg1.view arg1.view.junk _ (cover0_A_1 c arg0 harg0 arg1 harg1 arg2 harg2 arg3 harg3 arg4 harg4 x0)]
  unfold kernelRun0_A
  dsimp only
  sl_unfold_words
  rw [View.writes_append, count']
  have key : ∀ (w0 w2 w4 : Vec F S16x1x512 .f32) (w6 : IVec S16x512 32) (w7 : IVec S16x128 32) (G1 G2 G3 G4),
      arg1.view.read (Elt F) (arg1.view.writes (Elt F) G1 (pb_k0_t1 (F := F) .none c none arg0 harg0 arg1 harg1 arg2 harg2 arg3 harg3 arg4 harg4 w0 w2 w4 w6 w7 G1 G2 G3 G4 128).1)
        = (trips w0 w2 w4 w6 w7 (rd arg1 arg2 arg3 arg4 G1 G2 G3 G4) 128).1 := fun w0 w2 w4 w6 w7 G1 G2 G3 G4 =>
    loop1 .none c none arg0 harg0 arg1 harg1 arg2 harg2 arg3 harg3 arg4 harg4 w0 w2 w4 w6 w7 G1 G2 G3 G4 128 (le_of_eq count.symm)
  rw [key]
  unfold at_ start rd
  rw [View.read_writes_full (s := S16x128), View.read_writes_full (s := S16x3x128), View.read_writes_full (s := S16x512), View.read_writes_full (s := S16x1)]
  have hx : arg0.view.read (Elt F) (harg0.unread x0) = x0 := harg0.read_unread x0
  refine congrArg (fun s : St F => s.1) ?_
  have e : ∀ (w0 w0' w2 w2' w4 w4' : Vec F S16x1x512 .f32) (w6 : IVec S16x512 32) (w7 : IVec S16x128 32) (s : St F) (k : ℕ), w0 = w0' → w2 = w2' → w4 = w4' →
      trips w0 w2 w4 w6 w7 s k = trips w0' w2' w4' w6 w7 s k := by
    rintro w0 _ w2 _ w4 _ w6 w7 s k rfl rfl rfl; rfl
  refine e _ _ _ _ _ _ _ _ _ _ ?_ ?_ ?_
  all_goals
    refine (View.readAt_unit arg0.view _ _ rfl _).trans ?_
    rw [hx]

/-- The second result: their coordinates. -/
theorem out2 : out0_A_2 c arg0 harg0 arg1 harg1 arg2 harg2 arg3 harg3 arg4 harg4 x0 = (at_ x0 128).2.1 := by
  unfold out0_A_2
  rw [View.read_writes_eq_canon _ _ _ (cover0_A_2 c arg0 harg0 arg1 harg1 arg2 harg2 arg3 harg3 arg4 harg4 x0), ← View.read_writes_eq_canon arg2.view arg2.view.junk _ (cover0_A_2 c arg0 harg0 arg1 harg1 arg2 harg2 arg3 harg3 arg4 harg4 x0)]
  unfold kernelRun0_A
  dsimp only
  sl_unfold_words
  rw [View.writes_append, count']
  have key : ∀ (w0 w2 w4 : Vec F S16x1x512 .f32) (w6 : IVec S16x512 32) (w7 : IVec S16x128 32) (G1 G2 G3 G4),
      arg2.view.read (Elt F) (arg2.view.writes (Elt F) G2 (pb_k0_t1 (F := F) .none c none arg0 harg0 arg1 harg1 arg2 harg2 arg3 harg3 arg4 harg4 w0 w2 w4 w6 w7 G1 G2 G3 G4 128).2.1)
        = (trips w0 w2 w4 w6 w7 (rd arg1 arg2 arg3 arg4 G1 G2 G3 G4) 128).2.1 := fun w0 w2 w4 w6 w7 G1 G2 G3 G4 =>
    loop2 .none c none arg0 harg0 arg1 harg1 arg2 harg2 arg3 harg3 arg4 harg4 w0 w2 w4 w6 w7 G1 G2 G3 G4 128 (le_of_eq count.symm)
  rw [key]
  unfold at_ start rd
  rw [View.read_writes_full (s := S16x128), View.read_writes_full (s := S16x3x128), View.read_writes_full (s := S16x512), View.read_writes_full (s := S16x1)]
  have hx : arg0.view.read (Elt F) (harg0.unread x0) = x0 := harg0.read_unread x0
  refine congrArg (fun s : St F => s.2.1) ?_
  have e : ∀ (w0 w0' w2 w2' w4 w4' : Vec F S16x1x512 .f32) (w6 : IVec S16x512 32) (w7 : IVec S16x128 32) (s : St F) (k : ℕ), w0 = w0' → w2 = w2' → w4 = w4' →
      trips w0 w2 w4 w6 w7 s k = trips w0' w2' w4' w6 w7 s k := by
    rintro w0 _ w2 _ w4 _ w6 w7 s k rfl rfl rfl; rfl
  refine e _ _ _ _ _ _ _ _ _ _ ?_ ?_ ?_
  all_goals
    refine (View.readAt_unit arg0.view _ _ rfl _).trans ?_
    rw [hx]

end

end Cert.Fps128Ideal.Loop

end
-- ==== Proof.Nearest.lean ====
module

public import Idealize.ShloMosaic.PureOps
public import Idealize.ShloMosaic.PureOps.Ideal.Laws
public import Idealize.ShloMosaic.Lib.SortFacts
public import Idealize.ShloMosaic.Lib.ValueIdxCore

@[expose] public section

noncomputable section

namespace Nearest

open Idealize.ShloMosaic

/-! # Nearest neighbours, one after another

A row of distances `d` is put in order by a stable sort: `near d k` is the position of the `k`-th smallest, equal
distances in the order of their positions.  Here: taking the first minimum, masking it with `⊤`, and repeating,
visits the positions `near d 0`, `near d 1`, … in that order. -/

variable {n : ℕ} (d : Fin n → EReal)

/-- The order the sort sorts by. -/
def lt' (a b : Fin n) : Bool := decide (d a < d b)

/-- The position of the `k`-th smallest distance. -/
def near (k : Fin n) : Fin n := sortedFrom (lt' d) k

/-- Smaller distance, or the same distance and a smaller position. -/
def Lex (a b : Fin n) : Prop := d a < d b ∨ (d a = d b ∧ a < b)

theorem insert_lex (a : Fin n) (l : List (Fin n)) (hl : l.Pairwise (Lex d)) (ha : ∀ b ∈ l, a < b) :
    (insertBefore (lt' d) a l).Pairwise (Lex d) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem b hc)⟩
      rcases List.mem_cons.mp ((perm_insertBefore _ a l).mem_iff.mp hc) with rfl | hc'
      · exact Or.inl (of_decide_eq_true h)
      · exact hl.1 c hc'
    · rename_i h
      have hab : d a ≤ d b := not_lt.mp fun hlt => h (decide_eq_true hlt)
      have hb := ha b List.mem_cons_self
      refine List.pairwise_cons.mpr ⟨fun c hc => ?_, List.pairwise_cons.mpr hl⟩
      rcases List.mem_cons.mp hc with rfl | hc'
      · exact hab.lt_or_eq.imp id fun e => ⟨e, hb⟩
      · rcases hl.1 c hc' with h1 | ⟨h1, h2⟩
        · exact Or.inl (hab.trans_lt h1)
        · exact (hab.trans_eq h1).lt_or_eq.imp id fun e => ⟨e, hb.trans h2⟩

theorem sort_lex (l : List (Fin n)) (hl : l.Pairwise (· < ·)) : (stableSort (lt' d) l).Pairwise (Lex d) := by
  induction l with
  | nil => exact List.Pairwise.nil
  | cons a l ih =>
    rw [List.pairwise_cons] at hl
    unfold stableSort
    exact insert_lex d a _ (ih hl.2) fun b hb => hl.1 b ((perm_stableSort _ l).mem_iff.mp hb)

/-- The sorted positions are in order. -/
theorem near_lex {i j : Fin n} (h : i < j) : Lex d (near d i) (near d j) := by
  have hp := List.pairwise_iff_get.mp (sort_lex d (List.finRange n) (List.pairwise_lt_finRange n))
  exact hp (i.cast (length_sortPositions n (lt' d)).symm) (j.cast (length_sortPositions n (lt' d)).symm) h

theorem near_injective : Function.Injective (near d) := sortedFrom_injective _
theorem near_surjective : Function.Surjective (near d) := sortedFrom_surjective _

/-- `p` is the first position at which `v` is least. -/
def FirstMin (v : Fin n → EReal) (p : Fin n) : Prop := (∀ q, v p ≤ v q) ∧ ∀ q, q < p → v p < v q

open Classical in
/-- The distances with the `k` nearest masked out. -/
def masked (k : ℕ) (p : Fin n) : EReal := if ∃ j : Fin n, j.val < k ∧ near d j = p then ⊤ else d p

theorem masked_zero : masked d 0 = d := funext fun p => if_neg fun ⟨_, h, _⟩ => absurd h (Nat.not_lt_zero _)

theorem masked_succ (k : Fin n) (p : Fin n) :
    masked d (k.val + 1) p = if p = near d k then ⊤ else masked d k.val p := by
  unfold masked
  by_cases hp : p = near d k
  · rw [if_pos hp, if_pos ⟨k, Nat.lt_succ_self _, hp.symm⟩]
  · rw [if_neg hp]
    refine if_congr ⟨fun ⟨j, hj, e⟩ => ⟨j, ?_, e⟩, fun ⟨j, hj, e⟩ => ⟨j, Nat.lt_succ_of_lt hj, e⟩⟩ rfl rfl
    rcases Nat.lt_succ_iff_lt_or_eq.mp hj with h | h
    · exact h
    · exact absurd (by rw [← e, Fin.ext h]) hp

/-- The first minimum of the masked distances is the next nearest position. -/
theorem firstMin_masked (hd : ∀ p, d p < ⊤) (k : Fin n) : FirstMin (masked d k.val) (near d k) := by
  have hk : masked d k.val (near d k) = d (near d k) := if_neg fun ⟨j, hj, e⟩ => by
    rw [near_injective d e] at hj; exact absurd hj (lt_irrefl _)
  have key : ∀ q, masked d k.val q = ⊤ ∨ q = near d k ∨ (masked d k.val q = d q ∧ Lex d (near d k) q) := fun q => by
    obtain ⟨j, rfl⟩ := near_surjective d q
    by_cases hj : j.val < k.val
    · exact Or.inl (if_pos ⟨j, hj, rfl⟩)
    · rcases (not_lt.mp hj).lt_or_eq with h | h
      · refine Or.inr (Or.inr ⟨if_neg fun ⟨i, hi, e⟩ => ?_, near_lex d h⟩)
        rw [near_injective d e] at hi; exact hj hi
      · exact Or.inr (Or.inl (by rw [Fin.ext h]))
  constructor
  · intro q
    rw [hk]
    rcases key q with h | rfl | ⟨h, hl⟩
    · rw [h]; exact le_top
    · rw [hk]
    · rw [h]; rcases hl with h | h
      · exact h.le
      · exact h.1.le
  · intro q hq
    rw [hk]
    rcases key q with h | rfl | ⟨h, hl⟩
    · rw [h]; exact hd _
    · exact absurd hq (lt_irrefl _)
    · rw [h]; rcases hl with h | h
      · exact h
      · exact absurd hq (not_lt.mpr h.2.le)

/-- The index reduction at a row whose first minimum is `p`. -/
theorem reduceIndex_eq {s t : Shape} {a : Fin s.rank} (h : s.Reduces [a] t) (x : s.Idx → EReal) (j : t.Idx)
    (p : Fin (s.size a)) (hp : FirstMin (fun k => x (h.lift j k)) p) :
    Ideal.reduceIndex .argMin a h x j = BitVec.ofNat 32 p.val := by
  classical
  unfold Ideal.reduceIndex
  refine congrArg (BitVec.ofNat 32) ?_
  have hla : ∀ k, (h.lift j k a).val = k.val := fun k => by rw [h.lift_val]; simp [Shape.Reduces.liftVal]
  have hf : ∀ i, i ∈ Finset.univ.filter (fun i : s.Idx => h.drop i = j) ↔ ∃ k, i = h.lift j k := fun i => by
    rw [Finset.mem_filter]
    exact ⟨fun hi => ⟨i a, by rw [← hi.2, h.lift_drop]⟩, fun ⟨k, hk⟩ => ⟨Finset.mem_univ _, by rw [hk, h.drop_lift]⟩⟩
  suffices hm : (Finset.image (fun i : s.Idx => (i a).val) ((Finset.univ.filter (fun i : s.Idx => h.drop i = j)).filter
      (fun i => ∀ i' ∈ Finset.univ.filter (fun i : s.Idx => h.drop i = j), ¬ (x i' < x i)))).min = some p.val by
    simp only [show ¬ (ArgKind.argMin = ArgKind.argMax) by decide, if_false] at hm ⊢
    convert congrArg (fun o : Option ℕ => o.getD 0) hm
    rfl
  refine le_antisymm (Finset.min_le ?_) (Finset.le_min fun v hv => ?_)
  · refine Finset.mem_image.mpr ⟨h.lift j p, Finset.mem_filter.mpr ⟨(hf _).mpr ⟨p, rfl⟩, fun i' hi' => ?_⟩, hla p⟩
    obtain ⟨k, rfl⟩ := (hf _).mp hi'
    exact not_lt.mpr (hp.1 k)
  · obtain ⟨i, hi, rfl⟩ := Finset.mem_image.mp hv
    obtain ⟨h1, h2⟩ := Finset.mem_filter.mp hi
    obtain ⟨k, rfl⟩ := (hf _).mp h1
    rw [hla]
    refine WithTop.coe_le_coe.mpr (not_lt.mp fun hlt => ?_)
    exact h2 (h.lift j p) ((hf _).mpr ⟨p, rfl⟩) (hp.2 k hlt)

open Idealize.ShloMosaic.ValueIdx in
/-- The positions `lax.top_k` returns for the negated distances. -/
theorem topK_idx {B Q N K : ℕ} (D : (⟨3, ![B, Q, N]⟩ : Shape).Idx → EReal)
    (h : (⟨3, ![B, Q, N]⟩ : Shape).Slices (fun _ => 0) ⟨3, ![B, Q, K]⟩) (b : Fin B) (q : Fin Q) (k : Fin K) (hk : k.val < N) :
    (Host.topK (s := ⟨3, ![B, Q, N]⟩) ⟨3, ![B, Q, K]⟩ 2 (FloatOps.cmpfTotal (F := Ideal) (φ := .f32) .gt) (fun i => -(D i)) h).2 (ix3 b q k)
      = BitVec.ofNat 32 (near (fun p => D (ix3 b q p)) ⟨k.val, hk⟩).val := by
  unfold Host.topK Host.sort2
  dsimp only
  rw [dif_pos (show 2 < 3 by decide)]
  unfold extractStridedSlice
  dsimp only
  rw [dif_pos (show 2 < 3 by decide)]
  show BitVec.ofNat 32 (Shape.Idx.along (s := ⟨3, ![B, Q, N]⟩) _ 2 _ 2).val = _
  unfold Shape.Idx.along
  refine congrArg (fun p : Fin N => BitVec.ofNat 32 p.val) ?_
  refine (Function.update_self (β := fun a => Fin ((![B, Q, N] : Fin 3 → ℕ) a)) (2 : Fin 3) _ _).trans ?_
  unfold near
  refine congrArg₂ (sortedFrom (n := N)) (funext fun i => funext fun j => ?_) (Fin.ext (Nat.zero_add _))
  have hal : ∀ (J : (⟨3, ![B, Q, N]⟩ : Shape).Idx) (p : Fin N), J 0 = b → J 1 = q → Function.update J (2 : Fin 3) p = ix3 b q p := by
    intro J p h0 h1
    funext a
    match a with
    | ⟨0, _⟩ => exact (Function.update_of_ne (β := fun a => Fin ((![B, Q, N] : Fin 3 → ℕ) a)) (a := (0 : Fin 3)) (a' := (2 : Fin 3)) (by decide) _ _).trans h0
    | ⟨1, _⟩ => exact (Function.update_of_ne (β := fun a => Fin ((![B, Q, N] : Fin 3 → ℕ) a)) (a := (1 : Fin 3)) (a' := (2 : Fin 3)) (by decide) _ _).trans h1
    | ⟨2, _⟩ => exact Function.update_self (β := fun a => Fin ((![B, Q, N] : Fin 3 → ℕ) a)) (2 : Fin 3) _ _
  refine (congrArg₂ (fun u v : EReal => Ideal.cmp .ogt (-u) (-v) == 1#1)
    (congrArg D (hal _ i (Fin.ext (Nat.zero_add _)) (Fin.ext (Nat.zero_add _))))
    (congrArg D (hal _ j (Fin.ext (Nat.zero_add _)) (Fin.ext (Nat.zero_add _))))).trans ?_
  show _ = decide (D (ix3 b q i) < D (ix3 b q j))
  unfold Ideal.cmp
  by_cases hlt : D (ix3 b q i) < D (ix3 b q j)
  · simp [hlt, EReal.neg_lt_neg_iff]
  · simp [hlt, EReal.neg_lt_neg_iff]

end Nearest

end
-- ==== Proof.Ops.lean ====
module

public import proofs.«01_k».proof.Proof.Nearest
public import Idealize.ShloMosaic.Lib.Pipeline.Value
public import Idealize.ShloMosaic.Lib.MatmulPlain
public import Idealize.ShloMosaic.Lib.ValueLayout
public import Idealize.ShloMosaic.Lib.ValueLayoutCasts
public import Mathlib.Tactic.FinCases

@[expose] public section

noncomputable section

namespace KOps

open Idealize.ShloMosaic Idealize.ShloMosaic.ValueIdx Nearest
open scoped BigOperators

/-! # The kernels' operations read at an index, at any sizes -/

/-- Both operands contracted on their first axis. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem tn_rank (K M N : ℕ) : (tn K M N).contr.rank = 1 := rfl
theorem tn_size (K M N : ℕ) : (tn K M N).contr.size ⟨0, by rw [tn_rank]; exact Nat.one_pos⟩ = K := rfl

/-- Its value at an entry: a sum over the common first axis. -/
theorem tn_apply {K M N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (tn K M N) prec lhs rhs acc (ix2 r c) = acc (ix2 r c) + ∑ k : Fin K, lhs (ix2 k r) * rhs (ix2 k c) := by
  rw [Ideal.matmul_apply, ← Equiv.sum_comp (contrEquiv1 _ K (tn_rank K M N) (tn_size K M N)).symm]
  refine congrArg (acc (ix2 r c) + ·) (Finset.sum_congr rfl fun k _ => ?_)
  have hk := contrEquiv1_symm_val _ K (tn_rank K M N) (tn_size K M N) k
  have el : (tn K M N).lhsIdx (ix2 r c) ((contrEquiv1 _ K (tn_rank K M N) (tn_size K M N)).symm k) = ix2 k r := by
    funext a; apply Fin.ext
    match a with
    | ⟨0, _⟩ => exact hk
    | ⟨1, _⟩ => rfl
  have er : (tn K M N).rhsIdx (ix2 r c) ((contrEquiv1 _ K (tn_rank K M N) (tn_size K M N)).symm k) = ix2 k c := by
    funext a; apply Fin.ext
    match a with
    | ⟨0, _⟩ => exact hk
    | ⟨1, _⟩ => rfl
  rw [el, er]

/-- The zero constant. -/
theorem zero_apply {s : Shape} (j : s.Idx) : (constant (F := Ideal) s .f32 0x00000000#32) j = 0 := Ideal.ofBits_zero_f32

/-- A cast to the same shape changes nothing. -/
theorem cast_self {α : Type} {s : Shape} (x : s.Idx → α) (h : s.ShapeCasts s) : shapeCast s x h = x :=
  funext fun j => shapeCast_apply x h j j rfl

/-- One column broadcast over many. -/
theorem col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row {a b : ℕ} (h : (⟨2, ![a, b]⟩ : Shape).Reduces [1] ⟨1, ![a]⟩) (i : Fin a) (k : Fin b) : h.lift (ix1 i) k = ix2 i k := by
  funext c
  apply Fin.ext
  refine (h.lift_val (ix1 i) k c).trans ?_
  match c with
  | ⟨0, _⟩ => rfl
  | ⟨1, _⟩ => rfl

theorem lift_col {a b : ℕ} (h : (⟨2, ![a, b]⟩ : Shape).Reduces [0] ⟨1, ![b]⟩) (i : Fin b) (k : Fin a) : h.lift (ix1 i) k = ix2 k i := by
  funext c
  apply Fin.ext
  refine (h.lift_val (ix1 i) k c).trans ?_
  match c with
  | ⟨0, _⟩ => rfl
  | ⟨1, _⟩ => rfl

/-- The position of a row's first minimum, marked. -/
theorem mark_apply {Q N : ℕ} (x : FVec Ideal ⟨2, ![Q, N]⟩ .f32) (hi : (⟨2, ![Q, N]⟩ : Shape).Iotas .tc 32 [1])
    (hr : (⟨2, ![Q, N]⟩ : Shape).Reduces [1] ⟨1, ![Q]⟩) (hc : (⟨1, ![Q]⟩ : Shape).ShapeCasts ⟨2, ![Q, 1]⟩)
    (hb : (⟨2, ![Q, 1]⟩ : Shape).Broadcasts ⟨2, ![Q, N]⟩) (hN : N ≤ 2 ^ 32) (q : Fin Q) (p P : Fin N)
    (hP : FirstMin (fun k => x (ix2 q k)) P) :
    cmpi .eq (iota .tc ⟨2, ![Q, N]⟩ 32 [1] hi)
      (broadcastTo ⟨2, ![Q, N]⟩ (shapeCast ⟨2, ![Q, 1]⟩ (reduceIndex (F := Ideal) .argMin 1 ⟨1, ![Q]⟩ x hr) hc) hb) (ix2 q p)
      = if p = P then 1#1 else 0#1 := by
  have e : broadcastTo ⟨2, ![Q, N]⟩ (shapeCast ⟨2, ![Q, 1]⟩ (reduceIndex (F := Ideal) .argMin 1 ⟨1, ![Q]⟩ x hr) hc) hb (ix2 q p)
      = BitVec.ofNat 32 P.val := by
    rw [col_apply, shapeCast_a_a1_apply]
    refine reduceIndex_eq hr x (ix1 q) P ?_
    have : (fun k => x (hr.lift (ix1 q) k)) = fun k => x (ix2 q k) := funext fun k => congrArg x (lift_row hr q k)
    rw [this]; exact hP
  show IntOp.cmpi .eq (iota .tc ⟨2, ![Q, N]⟩ 32 [1] hi (ix2 q p)) _ = _
  rw [e, iota_single_apply]
  show BitVec.ofBool (BitVec.ofNat 32 p.val == BitVec.ofNat 32 P.val) = _
  by_cases h : p = P
  · subst h; simp
  · rw [if_neg h]
    have hne : BitVec.ofNat 32 p.val ≠ BitVec.ofNat 32 P.val := fun he => h (Fin.ext (by
      have := congrArg BitVec.toNat he
      simp only [BitVec.toNat_ofNat] at this
      rwa [Nat.mod_eq_of_lt (by omega), Nat.mod_eq_of_lt (by omega)] at this))
    rw [beq_eq_false_iff_ne.mpr hne]; rfl

/-- A mark as a number. -/
theorem flag_apply {s : Shape} (x : IVec s 1) (h : 1 < 32) (j : s.Idx) (b : Prop) [Decidable b] (hx : x j = if b then 1#1 else 0#1) :
    sitofp (F := Ideal) .f32 (extui 32 x h) j = if b then (1 : EReal) else 0 := by
  show (((BitVec.setWidth 32 (x j)).toInt : ℝ) : EReal) = _
  rw [hx]
  by_cases hb : b
  · rw [if_pos hb, if_pos hb]; simp
  · rw [if_neg hb, if_neg hb]; simp

/-- A product with a marked position picks it out. -/
theorem pick {N : ℕ} (g h : Fin N → EReal) (P : Fin N) (hh : ∀ p, h p = if p = P then 1 else 0) : ∑ p, g p * h p = g P := by
  rw [Finset.sum_eq_single P]
  · rw [hh, if_pos rfl, mul_one]
  · intro p _ hp; rw [hh, if_neg hp, mul_zero]
  · intro hp; exact absurd (Finset.mem_univ _) hp

/-- Two blocks of rows, one above the other. -/
theorem stack2_apply {C D E Q : ℕ} {α : Type} (x : (⟨2, ![C, Q]⟩ : Shape).Idx → α) (y : (⟨2, ![D, Q]⟩ : Shape).Idx → α)
    (h : Shape.Concatenates [⟨2, ![C, Q]⟩, ⟨2, ![D, Q]⟩] ⟨2, ![E, Q]⟩ 0) (hE : E = C + D) (r : Fin E) (q : Fin Q) :
    concatenate ⟨2, ![E, Q]⟩ 0 [⟨⟨2, ![C, Q]⟩, x⟩, ⟨⟨2, ![D, Q]⟩, y⟩] h (ix2 r q)
      = if hr : r.val < C then x (ix2 ⟨r.val, hr⟩ q) else y (ix2 ⟨r.val - C, by omega⟩ q) := by
  by_cases hr : r.val < C
  · rw [dif_pos hr]
    refine concatenate_pair_apply_left (t := ⟨2, ![E, Q]⟩) (s₁ := ⟨2, ![C, Q]⟩) (s₂ := ⟨2, ![D, Q]⟩) 0 x y h (ix2 r q) rfl (ix2 ⟨r.val, hr⟩ q) fun b => ?_
    match b with
    | ⟨0, _⟩ => rfl
    | ⟨1, _⟩ => rfl
  · rw [dif_neg hr]
    refine concatenate_pair_apply_right (t := ⟨2, ![E, Q]⟩) (s₁ := ⟨2, ![C, Q]⟩) (s₂ := ⟨2, ![D, Q]⟩) 0 x y h (ix2 r q) rfl rfl (ix2 ⟨r.val - C, by omega⟩ q) (fun b hb => ?_) ?_
    · match b with
      | ⟨0, _⟩ => exact absurd rfl hb
      | ⟨1, _⟩ => rfl
    · show r.val - C + C = r.val
      omega

/-- Three blocks of rows. -/
theorem stack3_apply {C E Q : ℕ} {α : Type} (x y z : (⟨2, ![C, Q]⟩ : Shape).Idx → α)
    (h : Shape.Concatenates [⟨2, ![C, Q]⟩, ⟨2, ![C, Q]⟩, ⟨2, ![C, Q]⟩] ⟨2, ![E, Q]⟩ 0) (q : Fin Q) (c : Fin C) :
    (∀ h0 : c.val < E, concatenate ⟨2, ![E, Q]⟩ 0 [⟨⟨2, ![C, Q]⟩, x⟩, ⟨⟨2, ![C, Q]⟩, y⟩, ⟨⟨2, ![C, Q]⟩, z⟩] h (ix2 ⟨c.val, h0⟩ q) = x (ix2 c q))
    ∧ (∀ h0 : C + c.val < E, concatenate ⟨2, ![E, Q]⟩ 0 [⟨⟨2, ![C, Q]⟩, x⟩, ⟨⟨2, ![C, Q]⟩, y⟩, ⟨⟨2, ![C, Q]⟩, z⟩] h (ix2 ⟨C + c.val, h0⟩ q) = y (ix2 c q))
    ∧ (∀ h0 : C + C + c.val < E, concatenate ⟨2, ![E, Q]⟩ 0 [⟨⟨2, ![C, Q]⟩, x⟩, ⟨⟨2, ![C, Q]⟩, y⟩, ⟨⟨2, ![C, Q]⟩, z⟩] h (ix2 ⟨C + C + c.val, h0⟩ q) = z (ix2 c q)) := by
  refine ⟨fun h0 => ?_, fun h0 => ?_, fun h0 => ?_⟩
  · refine concatenate_apply_piece (t := ⟨2, ![E, Q]⟩) 0 [⟨⟨2, ![C, Q]⟩, x⟩, ⟨⟨2, ![C, Q]⟩, y⟩, ⟨⟨2, ![C, Q]⟩, z⟩] h _ 0 (Nat.lt_of_sub_pos (by exact Nat.succ_pos _)) ⟨2, ![C, Q]⟩ x rfl rfl 0 rfl (ix2 c q) (fun b hb => ?_) ?_
    · match b with
      | ⟨0, _⟩ => exact absurd rfl hb
      | ⟨1, _⟩ => rfl
    · exact Nat.zero_add _
  · refine concatenate_apply_piece (t := ⟨2, ![E, Q]⟩) 0 [⟨⟨2, ![C, Q]⟩, x⟩, ⟨⟨2, ![C, Q]⟩, y⟩, ⟨⟨2, ![C, Q]⟩, z⟩] h _ 1 (Nat.lt_of_sub_pos (by exact Nat.succ_pos _)) ⟨2, ![C, Q]⟩ y rfl rfl C rfl (ix2 c q) (fun b hb => ?_) rfl
    match b with
    | ⟨0, _⟩ => exact absurd rfl hb
    | ⟨1, _⟩ => rfl
  · refine concatenate_apply_piece (t := ⟨2, ![E, Q]⟩) 0 [⟨⟨2, ![C, Q]⟩, x⟩, ⟨⟨2, ![C, Q]⟩, y⟩, ⟨⟨2, ![C, Q]⟩, z⟩] h _ 2 (Nat.lt_of_sub_pos (by exact Nat.succ_pos _)) ⟨2, ![C, Q]⟩ z rfl rfl (C + C) rfl (ix2 c q) (fun b hb => ?_) rfl
    match b with
    | ⟨0, _⟩ => exact absurd rfl hb
    | ⟨1, _⟩ => rfl

/-- A block of rows cut out. -/
theorem rows_apply {A E Q o : ℕ} {α : Type} (x : (⟨2, ![E, Q]⟩ : Shape).Idx → α)
    (h : (⟨2, ![E, Q]⟩ : Shape).Slices ![o, 0] ⟨2, ![A, Q]⟩) (c : Fin A) (q : Fin Q) (hc : o + c.val < E) :
    extractStridedSlice ⟨2, ![A, Q]⟩ ![o, 0] x h (ix2 c q) = x (ix2 ⟨o + c.val, hc⟩ q) := by
  refine extractStridedSlice_apply _ x h _ _ fun a => ?_
  match a with
  | ⟨0, _⟩ => rfl
  | ⟨1, _⟩ => exact (Nat.zero_add _).symm

end KOps

end
-- ==== Proof.Conv.lean ====
module

public import proofs.«01_k».proof.Proof.Ops

@[expose] public section

noncomputable section

namespace KOps

open Idealize.ShloMosaic Idealize.ShloMosaic.ValueIdx Nearest
open scoped BigOperators

/-! # The convolution of one neighbour, at any sizes -/

/-- The edge feature of a query and a key: the difference of their channels, then the query's own. -/
def edge {C N Q : ℕ} (key : (⟨2, ![C, N]⟩ : Shape).Idx → EReal) (fq : (⟨2, ![C, Q]⟩ : Shape).Idx → EReal) (P : Fin N) (q : Fin Q)
    {E : ℕ} (hE : E = C + C) (c : Fin E) : EReal :=
  if h : c.val < C then key (ix2 ⟨c.val, h⟩ P) - fq (ix2 ⟨c.val, h⟩ q) else fq (ix2 ⟨c.val - C, by omega⟩ q)

/-- Its convolution with one row of weights. -/
def conv {C N Q O E : ℕ} (hE : E = C + C) (W : (⟨2, ![O, E]⟩ : Shape).Idx → EReal) (key : (⟨2, ![C, N]⟩ : Shape).Idx → EReal)
    (fq : (⟨2, ![C, Q]⟩ : Shape).Idx → EReal) (P : Fin N) (o : Fin O) (q : Fin Q) : EReal :=
  ∑ c : Fin E, W (ix2 o c) * edge key fq P q hE c

/-- A finite number less itself. -/
theorem sub_self_fin {x : EReal} (h : x ≠ ⊥ ∧ x ≠ ⊤) : x - x = 0 := EReal.sub_self h.2 h.1

/-- A finite array in three parts: itself, then nothing, then nothing. -/
def split3 {C N E : ℕ} (f : FVec Ideal ⟨2, ![C, N]⟩ .f32) (hb : FTy.bits .bf16 < FTy.bits .f32)
    (h : Shape.Concatenates [⟨2, ![C, N]⟩, ⟨2, ![C, N]⟩, ⟨2, ![C, N]⟩] ⟨2, ![E, N]⟩ 0) : FVec Ideal ⟨2, ![E, N]⟩ .bf16 :=
  concatenate ⟨2, ![E, N]⟩ 0
    [⟨⟨2, ![C, N]⟩, truncf (F := Ideal) .bf16 f hb⟩,
     ⟨⟨2, ![C, N]⟩, truncf (F := Ideal) .bf16 (subf f (extf .f32 (truncf .bf16 f hb) hb)) hb⟩,
     ⟨⟨2, ![C, N]⟩, truncf (F := Ideal) .bf16 (subf (subf f (extf .f32 (truncf .bf16 f hb) hb)) (extf .f32 (truncf .bf16 (subf f (extf .f32 (truncf .bf16 f hb) hb)) hb) hb)) hb⟩] h

theorem split3_apply {C N E : ℕ} (f : FVec Ideal ⟨2, ![C, N]⟩ .f32) (hb : FTy.bits .bf16 < FTy.bits .f32)
    (h : Shape.Concatenates [⟨2, ![C, N]⟩, ⟨2, ![C, N]⟩, ⟨2, ![C, N]⟩] ⟨2, ![E, N]⟩ 0)
    (hf : ∀ i, f i ≠ ⊥ ∧ f i ≠ ⊤) (c : Fin C) (p : Fin N) :
    (∀ h0 : c.val < E, split3 f hb h (ix2 ⟨c.val, h0⟩ p) = f (ix2 c p))
    ∧ (∀ h0 : C + c.val < E, split3 f hb h (ix2 ⟨C + c.val, h0⟩ p) = 0)
    ∧ (∀ h0 : C + C + c.val < E, split3 f hb h (ix2 ⟨C + C + c.val, h0⟩ p) = 0) := by
  obtain ⟨h1, h2, h3⟩ := stack3_apply (E := E) (truncf (F := Ideal) .bf16 f hb)
    (truncf (F := Ideal) .bf16 (subf f (extf .f32 (truncf .bf16 f hb) hb)) hb)
    (truncf (F := Ideal) .bf16 (subf (subf f (extf .f32 (truncf .bf16 f hb) hb)) (extf .f32 (truncf .bf16 (subf f (extf .f32 (truncf .bf16 f hb) hb)) hb) hb)) hb) h p c
  refine ⟨fun h0 => h1 h0, fun h0 => (h2 h0).trans ?_, fun h0 => (h3 h0).trans ?_⟩
  · show f (ix2 c p) - f (ix2 c p) = 0
    exact sub_self_fin (hf _)
  · show (f (ix2 c p) - f (ix2 c p)) - (f (ix2 c p) - f (ix2 c p)) = 0
    rw [sub_self_fin (hf _), sub_zero]

/-- The gathered keys: the product of the split array with the marks picks the marked column. -/
theorem gathered_apply {C N Q E : ℕ} (hE : E = C + C + C) (f : FVec Ideal ⟨2, ![C, N]⟩ .f32) (hb : FTy.bits .bf16 < FTy.bits .f32)
    (h : Shape.Concatenates [⟨2, ![C, N]⟩, ⟨2, ![C, N]⟩, ⟨2, ![C, N]⟩] ⟨2, ![E, N]⟩ 0)
    (hf : ∀ i, f i ≠ ⊥ ∧ f i ≠ ⊤) (oh : FVec Ideal ⟨2, ![Q, N]⟩ .bf16) (acc : FVec Ideal ⟨2, ![E, Q]⟩ .f32) (hacc : ∀ i, acc i = 0)
    (s0 : (⟨2, ![E, Q]⟩ : Shape).Slices ![0, 0] ⟨2, ![C, Q]⟩) (s1 : (⟨2, ![E, Q]⟩ : Shape).Slices ![C, 0] ⟨2, ![C, Q]⟩)
    (s2 : (⟨2, ![E, Q]⟩ : Shape).Slices ![C + C, 0] ⟨2, ![C, Q]⟩) (q : Fin Q) (P : Fin N)
    (hoh : ∀ p, oh (ix2 q p) = if p = P then 1 else 0) (c : Fin C) :
    addf (addf (extractStridedSlice ⟨2, ![C, Q]⟩ ![0, 0] (FloatOps.matmul (DotDims.transposedRhs E N Q) none (split3 f hb h) oh acc) s0)
        (extractStridedSlice ⟨2, ![C, Q]⟩ ![C, 0] (FloatOps.matmul (DotDims.transposedRhs E N Q) none (split3 f hb h) oh acc) s1))
      (extractStridedSlice ⟨2, ![C, Q]⟩ ![C + C, 0] (FloatOps.matmul (DotDims.transposedRhs E N Q) none (split3 f hb h) oh acc) s2) (ix2 c q)
      = f (ix2 c P) := by
  obtain ⟨h1, h2, h3⟩ := split3_apply f hb h hf c P
  have key : ∀ r : Fin E, FloatOps.matmul (DotDims.transposedRhs E N Q) none (split3 f hb h) oh acc (ix2 r q) = split3 f hb h (ix2 r P) := fun r => by
    rw [Ideal.matmul_transposedRhs_apply, hacc, zero_add, pick (fun k => split3 f hb h (ix2 r k)) (fun k => oh (ix2 q k)) P hoh]
  have e0 := (rows_apply (FloatOps.matmul (DotDims.transposedRhs E N Q) none (split3 f hb h) oh acc) s0 c q (by omega)).trans (key _)
  have e1 := (rows_apply (FloatOps.matmul (DotDims.transposedRhs E N Q) none (split3 f hb h) oh acc) s1 c q (by omega)).trans (key _)
  have e2 := (rows_apply (FloatOps.matmul (DotDims.transposedRhs E N Q) none (split3 f hb h) oh acc) s2 c q (by omega)).trans (key _)
  have z : (⟨0 + c.val, by omega⟩ : Fin E) = ⟨c.val, by omega⟩ := Fin.ext (Nat.zero_add _)
  show _ + _ + _ = _
  rw [e0, e1, e2, h2, h3, z, h1, add_zero, add_zero]

/-- The convolution as the kernel computes it. -/
theorem conv_apply {C N Q O E : ℕ} (hE : E = C + C) (W : FVec Ideal ⟨2, ![O, E]⟩ .f32) (key : (⟨2, ![C, N]⟩ : Shape).Idx → EReal)
    (fq g : FVec Ideal ⟨2, ![C, Q]⟩ .f32) (h : Shape.Concatenates [⟨2, ![C, Q]⟩, ⟨2, ![C, Q]⟩] ⟨2, ![E, Q]⟩ 0)
    (acc : FVec Ideal ⟨2, ![O, Q]⟩ .f32) (hacc : ∀ i, acc i = 0) (q : Fin Q) (P : Fin N) (hg : ∀ c, g (ix2 c q) = key (ix2 c P)) (o : Fin O) :
    FloatOps.matmul (DotDims.plain O E Q) none W
      (concatenate ⟨2, ![E, Q]⟩ 0 [⟨⟨2, ![C, Q]⟩, subf g fq⟩, ⟨⟨2, ![C, Q]⟩, fq⟩] h) acc (ix2 o q) = conv hE W key fq P o q := by
  rw [Ideal.matmul_plain_apply, hacc, zero_add]
  refine Finset.sum_congr rfl fun c _ => congrArg (W (ix2 o c) * ·) ?_
  refine (stack2_apply (subf g fq) fq h hE c q).trans ?_
  unfold edge
  by_cases hc : c.val < C
  · rw [dif_pos hc, dif_pos hc]
    show g _ - fq _ = _
    rw [hg]
  · rw [dif_neg hc, dif_neg hc]

/-! ## A loop's state after some trips -/

/-- The pooled features after `k` neighbours: the largest, the sum, the sum of squares. -/
structure Pooled {N O Q : ℕ} [NeZero N] (D : Fin Q → Fin N → EReal) (cv : Fin N → Fin O → Fin Q → EReal) (k : ℕ)
    (d : (⟨2, ![Q, N]⟩ : Shape).Idx → EReal) (mx sm sq : (⟨2, ![O, Q]⟩ : Shape).Idx → EReal) : Prop where
  d_eq : ∀ q p, d (ix2 q p) = masked (D q) k p
  mx_eq : ∀ o q, mx (ix2 o q) = (Finset.range k).sup fun j => cv (near (D q) (Fin.ofNat N j)) o q
  sm_eq : ∀ o q, sm (ix2 o q) = ∑ j ∈ Finset.range k, cv (near (D q) (Fin.ofNat N j)) o q
  sq_eq : ∀ o q, sq (ix2 o q) = ∑ j ∈ Finset.range k, cv (near (D q) (Fin.ofNat N j)) o q * cv (near (D q) (Fin.ofNat N j)) o q

variable {N O Q : ℕ} [NeZero N] (D : Fin Q → Fin N → EReal) (cv : Fin N → Fin O → Fin Q → EReal)

theorem Pooled.zero (d : (⟨2, ![Q, N]⟩ : Shape).Idx → EReal) (mx sm sq : (⟨2, ![O, Q]⟩ : Shape).Idx → EReal)
    (hd : ∀ q p, d (ix2 q p) = D q p) (hm : ∀ i, mx i = ⊥) (hs : ∀ i, sm i = 0) (hq : ∀ i, sq i = 0) : Pooled D cv 0 d mx sm sq where
  d_eq q p := by rw [hd, masked_zero]
  mx_eq o q := by rw [hm]; rfl
  sm_eq o q := by rw [hs]; rfl
  sq_eq o q := by rw [hq]; rfl

/-- One more trip: the nearest key left is marked, its convolution is pooled, its distance is masked. -/
theorem Pooled.succ {k : ℕ} (hk : k < N) {d d' : (⟨2, ![Q, N]⟩ : Shape).Idx → EReal} {mx sm sq mx' sm' sq' : (⟨2, ![O, Q]⟩ : Shape).Idx → EReal}
    (hD : ∀ q p, D q p < ⊤) (h : Pooled D cv k d mx sm sq)
    (hd : ∀ q P, FirstMin (fun p => d (ix2 q p)) P → ∀ p, d' (ix2 q p) = if p = P then ⊤ else d (ix2 q p))
    (hm : ∀ q P, FirstMin (fun p => d (ix2 q p)) P → ∀ o, mx' (ix2 o q) = max (mx (ix2 o q)) (cv P o q))
    (hs : ∀ q P, FirstMin (fun p => d (ix2 q p)) P → ∀ o, sm' (ix2 o q) = sm (ix2 o q) + cv P o q)
    (hq : ∀ q P, FirstMin (fun p => d (ix2 q p)) P → ∀ o, sq' (ix2 o q) = sq (ix2 o q) + cv P o q * cv P o q) :
    Pooled D cv (k + 1) d' mx' sm' sq' := by
  have hP : ∀ q, FirstMin (fun p => d (ix2 q p)) (near (D q) (Fin.ofNat N k)) := fun q => by
    have e : (fun p => d (ix2 q p)) = masked (D q) k := funext fun p => h.d_eq q p
    rw [e]
    have := firstMin_masked (D q) (hD q) (Fin.ofNat N k)
    rwa [show (Fin.ofNat N k).val = k from Nat.mod_eq_of_lt hk] at this
  refine ⟨fun q p => ?_, fun o q => ?_, fun o q => ?_, fun o q => ?_⟩
  · rw [hd q _ (hP q), h.d_eq]
    have := masked_succ (D q) (Fin.ofNat N k) p
    rw [show (Fin.ofNat N k).val = k from Nat.mod_eq_of_lt hk] at this
    exact this.symm
  · rw [hm q _ (hP q), h.mx_eq, Finset.range_add_one, Finset.sup_insert, max_comm]
  · rw [hs q _ (hP q), h.sm_eq, Finset.sum_range_succ]
  · rw [hq q _ (hP q), h.sq_eq, Finset.sum_range_succ]

end KOps

end
-- ==== Proof.Dist.lean ====
module

public import proofs.«01_k».proof.Proof.Conv
public import Idealize.ShloMosaic.Lib.IdealHost

@[expose] public section

noncomputable section

namespace KOps

open Idealize.ShloMosaic Idealize.ShloMosaic.ValueIdx Nearest
open scoped BigOperators

/-! # The squared distance, as both programs add it up -/

/-- Minus twice the product, plus the query's square, plus the key's. -/
def sqd {Q N : ℕ} (x : Fin 3 → Fin Q → EReal) (y : Fin 3 → Fin N → EReal) (q : Fin Q) (p : Fin N) : EReal :=
  (Ideal.ofBits .f32 0xC0000000#32 * (∑ k : Fin 3, x k q * y k p) + ∑ k : Fin 3, x k q * x k q) + ∑ k : Fin 3, y k p * y k p

/-- A column of squares summed. -/
theorem colsum_apply {N : ℕ} (x : FVec Ideal ⟨2, ![3, N]⟩ .f32) (h : (⟨2, ![3, N]⟩ : Shape).Reduces [0] ⟨1, ![N]⟩)
    (hφ : FTy.f32 = .f32 ∨ FTy.f32 = .bf16) (hacc) (hc : (⟨1, ![N]⟩ : Shape).ShapeCasts ⟨2, ![1, N]⟩) (u : Fin 1) (p : Fin N) :
    shapeCast ⟨2, ![1, N]⟩ (multiReduction (F := Ideal) .add [0] ⟨1, ![N]⟩ (mulf x x) 0x00000000#32 h hφ hacc) hc (ix2 u p)
      = ∑ k : Fin 3, x (ix2 k p) * x (ix2 k p) := by
  rw [shapeCast_a_1a_apply]
  refine (Ideal.multiReduction_add_single (mulf x x) 0x00000000#32 h hφ hacc (ix1 p)).trans ?_
  exact Finset.sum_congr rfl fun k _ => congrArg (mulf x x) (lift_col h p k)

theorem sqd_apply {Q N : ℕ} (x : FVec Ideal ⟨2, ![3, Q]⟩ .f32) (y : FVec Ideal ⟨2, ![3, N]⟩ .f32)
    (hx : (⟨2, ![3, Q]⟩ : Shape).Reduces [0] ⟨1, ![Q]⟩) (hy : (⟨2, ![3, N]⟩ : Shape).Reduces [0] ⟨1, ![N]⟩)
    (hφ : FTy.f32 = .f32 ∨ FTy.f32 = .bf16) (hacc) (hcx : (⟨1, ![Q]⟩ : Shape).ShapeCasts ⟨2, ![1, Q]⟩) (hcy : (⟨1, ![N]⟩ : Shape).ShapeCasts ⟨2, ![1, N]⟩)
    (bq : (⟨2, ![Q, 1]⟩ : Shape).Broadcasts ⟨2, ![Q, N]⟩) (bp : (⟨2, ![1, N]⟩ : Shape).Broadcasts ⟨2, ![Q, N]⟩) (q : Fin Q) (p : Fin N) :
    addf (addf (mulf (broadcast ⟨2, ![Q, N]⟩ (Scalar.ofBits (F := Ideal) .f32 0xC0000000#32))
          (FloatOps.matmul (tn 3 Q N) none x y (constant ⟨2, ![Q, N]⟩ .f32 0x00000000#32)))
        (broadcastTo ⟨2, ![Q, N]⟩ (FloatOps.matmul (tn 1 Q 1) (some .fp32)
          (shapeCast ⟨2, ![1, Q]⟩ (multiReduction (F := Ideal) .add [0] ⟨1, ![Q]⟩ (mulf x x) 0x00000000#32 hx hφ hacc) hcx)
          (broadcast ⟨2, ![1, 1]⟩ (Scalar.ofBits (F := Ideal) .f32 0x3F800000#32)) (constant ⟨2, ![Q, 1]⟩ .f32 0x00000000#32)) bq))
      (broadcastTo ⟨2, ![Q, N]⟩ (shapeCast ⟨2, ![1, N]⟩ (multiReduction (F := Ideal) .add [0] ⟨1, ![N]⟩ (mulf y y) 0x00000000#32 hy hφ hacc) hcy) bp) (ix2 q p)
      = sqd (fun k q => x (ix2 k q)) (fun k p => y (ix2 k p)) q p := by
  show Ideal.ofBits .f32 0xC0000000#32 * FloatOps.matmul (tn 3 Q N) none x y (constant ⟨2, ![Q, N]⟩ .f32 0x00000000#32) (ix2 q p) + _ + _ = _
  rw [tn_apply, zero_apply, zero_add, col_apply, tn_apply, zero_apply, zero_add, broadcastTo_1b_ab_apply, colsum_apply]
  rw [Fin.sum_univ_one, colsum_apply]
  show _ + _ * Ideal.ofBits .f32 0x3F800000#32 + _ = _
  rw [Ideal.ofBits_one_f32, mul_one]
  rfl

theorem ofBits_neg_two : Ideal.ofBits .f32 0xC0000000#32 = ((-2 : ℝ) : EReal) := by
  simp [Ideal.ofBits, Ideal.ieee, -EReal.coe_mul, -EReal.coe_neg]; norm_num

/-- Between finite points it is finite. -/
theorem sqd_lt {Q N : ℕ} (x : Fin 3 → Fin Q → EReal) (y : Fin 3 → Fin N → EReal) (hx : ∀ k q, x k q ≠ ⊥ ∧ x k q ≠ ⊤)
    (hy : ∀ k p, y k p ≠ ⊥ ∧ y k p ≠ ⊤) (q : Fin Q) (p : Fin N) : sqd x y q p < ⊤ := by
  have ex : ∀ k q, ∃ r : ℝ, x k q = r := fun k q => ⟨(x k q).toReal, (EReal.coe_toReal (hx k q).2 (hx k q).1).symm⟩
  have ey : ∀ k q, ∃ r : ℝ, y k q = r := fun k q => ⟨(y k q).toReal, (EReal.coe_toReal (hy k q).2 (hy k q).1).symm⟩
  choose X hX using ex
  choose Y hY using ey
  unfold sqd
  simp only [hX, hY, ofBits_neg_two, ← EReal.coe_mul, Fin.sum_univ_three, ← EReal.coe_add]
  exact EReal.coe_lt_top _

end KOps

end
-- ==== Proof.Groups.lean ====
module

public import proofs.«01_k».proof.Proof.Dist

@[expose] public section

noncomputable section

namespace KOps

open Idealize.ShloMosaic Idealize.ShloMosaic.ValueIdx Nearest
open scoped BigOperators

/-! # Sums over channel groups -/

/-- Channel `s` of group `g`. -/
def chan {G S O : ℕ} (hO : O = G * S) (g : Fin G) (s : Fin S) : Fin O := (finProdFinEquiv (g, s)).cast hO.symm

theorem chan_val {G S O : ℕ} (hO : O = G * S) (g : Fin G) (s : Fin S) : (chan hO g s).val = s.val + S * g.val := rfl

/-- A sum over all channels that keeps only one group's is the sum over the group. -/
theorem sum_group {G S O : ℕ} (hO : O = G * S) (g : Fin G) (f : Fin O → EReal) :
    (∑ o : Fin O, (if o.val / S = g.val then (1 : EReal) else 0) * f o) = ∑ s : Fin S, f (chan hO g s) := by
  subst hO
  rw [← Equiv.sum_comp finProdFinEquiv, Fintype.sum_prod_type, Finset.sum_eq_single g]
  · refine Finset.sum_congr rfl fun s _ => ?_
    have hS : 0 < S := s.pos
    have e : (finProdFinEquiv (g, s)).val / S = g.val := by
      show (s.val + S * g.val) / S = g.val
      rw [Nat.add_mul_div_left _ _ hS, Nat.div_eq_of_lt s.isLt, Nat.zero_add]
    rw [if_pos e, one_mul]
    rfl
  · intro g' _ hg'
    refine Finset.sum_eq_zero fun s _ => ?_
    have hS : 0 < S := s.pos
    have e : (finProdFinEquiv (g', s)).val / S = g'.val := by
      show (s.val + S * g'.val) / S = g'.val
      rw [Nat.add_mul_div_left _ _ hS, Nat.div_eq_of_lt s.isLt, Nat.zero_add]
    rw [e, if_neg (fun h => hg' (Fin.ext h)), zero_mul]
  · intro h; exact absurd (Finset.mem_univ _) h

/-- The kernel's group sum: the marks of the groups times the row sums. -/
theorem group_apply {G S O Q : ℕ} (hO : O = G * S) (oh : FVec Ideal ⟨2, ![O, G]⟩ .f32) (x : FVec Ideal ⟨2, ![O, Q]⟩ .f32)
    (h : (⟨2, ![O, Q]⟩ : Shape).Reduces [1] ⟨1, ![O]⟩) (hφ : FTy.f32 = .f32 ∨ FTy.f32 = .bf16) (hacc)
    (hc : (⟨1, ![O]⟩ : Shape).ShapeCasts ⟨2, ![O, 1]⟩) (g : Fin G) (u : Fin 1)
    (hoh : ∀ o, oh (ix2 o g) = if o.val / S = g.val then (1 : EReal) else 0) :
    FloatOps.matmul (tn O G 1) (some .fp32) oh
      (shapeCast ⟨2, ![O, 1]⟩ (multiReduction (F := Ideal) .add [1] ⟨1, ![O]⟩ x 0x00000000#32 h hφ hacc) hc)
      (constant ⟨2, ![G, 1]⟩ .f32 0x00000000#32) (ix2 g u) = ∑ s : Fin S, ∑ q : Fin Q, x (ix2 (chan hO g s) q) := by
  rw [tn_apply, zero_apply, zero_add, ← sum_group hO g fun o => ∑ q : Fin Q, x (ix2 o q)]
  refine Finset.sum_congr rfl fun o _ => ?_
  rw [hoh, shapeCast_a_a1_apply]
  refine congrArg (_ * ·) ((Ideal.multiReduction_add_single x 0x00000000#32 h hφ hacc (ix1 o)).trans ?_)
  exact Finset.sum_congr rfl fun k _ => congrArg x (lift_row h o k)

/-- Two columns side by side. -/
theorem beside_apply {G : ℕ} {α : Type} (x y : (⟨2, ![G, 1]⟩ : Shape).Idx → α)
    (h : Shape.Concatenates [⟨2, ![G, 1]⟩, ⟨2, ![G, 1]⟩] ⟨2, ![G, 2]⟩ 1) (g : Fin G) :
    concatenate ⟨2, ![G, 2]⟩ 1 [⟨⟨2, ![G, 1]⟩, x⟩, ⟨⟨2, ![G, 1]⟩, y⟩] h (ix2 g 0) = x (ix2 g 0)
    ∧ concatenate ⟨2, ![G, 2]⟩ 1 [⟨⟨2, ![G, 1]⟩, x⟩, ⟨⟨2, ![G, 1]⟩, y⟩] h (ix2 g 1) = y (ix2 g 0) := by
  refine ⟨?_, ?_⟩
  · refine concatenate_pair_apply_left (t := ⟨2, ![G, 2]⟩) (s₁ := ⟨2, ![G, 1]⟩) (s₂ := ⟨2, ![G, 1]⟩) 1 x y h (ix2 g 0) rfl (ix2 g 0) fun b => ?_
    match b with
    | ⟨0, _⟩ => rfl
    | ⟨1, _⟩ => rfl
  · refine concatenate_pair_apply_right (t := ⟨2, ![G, 2]⟩) (s₁ := ⟨2, ![G, 1]⟩) (s₂ := ⟨2, ![G, 1]⟩) 1 x y h (ix2 g 1) rfl rfl (ix2 g 0) (fun b hb => ?_) rfl
    match b with
    | ⟨0, _⟩ => rfl
    | ⟨1, _⟩ => exact absurd rfl hb

end KOps

end
-- ==== Proof.Column.lean ====
module

public import proofs.«01_k».proof.Proof.Groups

@[expose] public section

noncomputable section

namespace KOps

open Idealize.ShloMosaic Idealize.ShloMosaic.ValueIdx Nearest
open scoped BigOperators

/-! # Columns picked by an index, and the input convolution -/

/-- Small words are equal only where the numbers are. -/
theorem word_eq {n : ℕ} (hn : n ≤ 2 ^ 32) (p P : Fin n) :
    IntOp.cmpi .eq (BitVec.ofNat 32 p.val) (BitVec.ofNat 32 P.val) = if p = P then 1#1 else 0#1 := by
  by_cases h : p = P
  · subst h
    rw [if_pos rfl]
    simp [IntOp.cmpi]
  · rw [if_neg h]
    have hne : BitVec.ofNat 32 p.val ≠ BitVec.ofNat 32 P.val := fun e => h (Fin.ext (by
      have e' := congrArg BitVec.toNat e
      rw [BitVec.toNat_ofNat, BitVec.toNat_ofNat, Nat.mod_eq_of_lt (lt_of_lt_of_le p.isLt hn), Nat.mod_eq_of_lt (lt_of_lt_of_le P.isLt hn)] at e'
      exact e'))
    show BitVec.ofBool (BitVec.ofNat 32 p.val == BitVec.ofNat 32 P.val) = 0#1
    rw [beq_false_of_ne hne]
    rfl

/-- The marks of the rows that the indices name. -/
theorem rowmark_apply {N Q : ℕ} (x : IVec ⟨3, ![1, 1, Q]⟩ 32) (hi : (⟨2, ![N, Q]⟩ : Shape).Iotas .tc 32 [0])
    (hc : (⟨3, ![1, 1, Q]⟩ : Shape).ShapeCasts ⟨2, ![1, Q]⟩) (hb : (⟨2, ![1, Q]⟩ : Shape).Broadcasts ⟨2, ![N, Q]⟩) (hN : N ≤ 2 ^ 32)
    (q : Fin Q) (p P : Fin N) (hP : x (ix3 0 0 q) = BitVec.ofNat 32 P.val) :
    cmpi .eq (iota .tc ⟨2, ![N, Q]⟩ 32 [0] hi) (broadcastTo ⟨2, ![N, Q]⟩ (shapeCast ⟨2, ![1, Q]⟩ x hc) hb) (ix2 p q) = if p = P then 1#1 else 0#1 := by
  have e : broadcastTo ⟨2, ![N, Q]⟩ (shapeCast ⟨2, ![1, Q]⟩ x hc) hb (ix2 p q) = BitVec.ofNat 32 P.val :=
    (broadcastTo_1b_ab_apply _ hb p q).trans ((shapeCast_1ab_ab_apply x hc 0 q).trans hP)
  have e0 : iota .tc ⟨2, ![N, Q]⟩ 32 [0] hi (ix2 p q) = BitVec.ofNat 32 p.val := iota_single_apply _ _ _ _ _ _
  show IntOp.cmpi .eq (iota .tc ⟨2, ![N, Q]⟩ 32 [0] hi (ix2 p q)) _ = _
  rw [e0, e]
  exact word_eq hN p P

/-- A product with these marks takes, for each query, the column its index names. -/
theorem column_apply {C N Q : ℕ} (f : FVec Ideal ⟨2, ![C, N]⟩ .f32) (x : IVec ⟨3, ![1, 1, Q]⟩ 32) (hi : (⟨2, ![N, Q]⟩ : Shape).Iotas .tc 32 [0])
    (hc : (⟨3, ![1, 1, Q]⟩ : Shape).ShapeCasts ⟨2, ![1, Q]⟩) (hb : (⟨2, ![1, Q]⟩ : Shape).Broadcasts ⟨2, ![N, Q]⟩) (h32 : 1 < 32) (hN : N ≤ 2 ^ 32)
    (prec : Option ContractPrecision) (acc : FVec Ideal ⟨2, ![C, Q]⟩ .f32) (hacc : ∀ j, acc j = 0)
    (c : Fin C) (q : Fin Q) (P : Fin N) (hP : x (ix3 0 0 q) = BitVec.ofNat 32 P.val) :
    FloatOps.matmul (DotDims.plain C N Q) prec f
      (sitofp (F := Ideal) .f32 (extui 32 (cmpi .eq (iota .tc ⟨2, ![N, Q]⟩ 32 [0] hi) (broadcastTo ⟨2, ![N, Q]⟩ (shapeCast ⟨2, ![1, Q]⟩ x hc) hb)) h32)) acc (ix2 c q)
      = f (ix2 c P) := by
  rw [Ideal.matmul_plain_apply, hacc, zero_add]
  exact pick (fun p => f (ix2 c p)) _ P fun p => flag_apply _ h32 (ix2 p q) (p = P) (rowmark_apply x hi hc hb hN q p P hP)

/-- A pointwise linear map of the positions and its bias. -/
theorem lift_apply {C N : ℕ} (x : FVec Ideal ⟨2, ![3, N]⟩ .f32) (w : FVec Ideal ⟨2, ![C, 3]⟩ .f32) (b : FVec Ideal ⟨2, ![C, 1]⟩ .f32)
    (hb : (⟨2, ![C, 1]⟩ : Shape).Broadcasts ⟨2, ![C, N]⟩) (acc : FVec Ideal ⟨2, ![C, N]⟩ .f32) (hacc : ∀ j, acc j = 0) (c : Fin C) (p : Fin N) :
    addf (FloatOps.matmul (DotDims.plain C 3 N) none w x acc) (broadcastTo ⟨2, ![C, N]⟩ b hb) (ix2 c p)
      = (∑ k : Fin 3, w (ix2 c k) * x (ix2 k p)) + b (ix2 c 0) := by
  show FloatOps.matmul (DotDims.plain C 3 N) none w x acc (ix2 c p) + broadcastTo ⟨2, ![C, N]⟩ b hb (ix2 c p) = _
  rw [Ideal.matmul_plain_apply, hacc, zero_add, col_apply]

end KOps

end
-- ==== Proof.HostOps.lean ====
module

public import proofs.«01_k».proof.Proof.Groups
public import Idealize.ShloMosaic.Lib.ReduceAll

@[expose] public section

noncomputable section

namespace KOps

open Idealize.ShloMosaic Idealize.ShloMosaic.ValueIdx Nearest
open scoped BigOperators

/-! # The references' operations read at an index, at any sizes -/

section Rows
variable {α : Type} {B N C Q K : ℕ}

/-- Rows of `[N, C]` taken at `[Q, K]` positions, batch by batch. -/
abbrev takeDims (B N C Q K : ℕ)
    (wf : GatherDims.WF ⟨3, ![B, N, C]⟩ ⟨4, ![B, Q, K, 1]⟩ ⟨4, ![B, Q, K, C]⟩ [3] [1] [0] [1] [0] 3 ![1, 1, C]) :
    GatherDims ⟨3, ![B, N, C]⟩ ⟨4, ![B, Q, K, 1]⟩ ⟨4, ![B, Q, K, C]⟩ where
  offsetDims := [3]
  collapsedSliceDims := [1]
  operandBatchingDims := [0]
  startIndicesBatchingDims := [0]
  startIndexMap := [1]
  indexVectorDim := 3
  sliceSizes := ![1, 1, C]
  wf := wf

theorem take_apply (wf : GatherDims.WF ⟨3, ![B, N, C]⟩ ⟨4, ![B, Q, K, 1]⟩ ⟨4, ![B, Q, K, C]⟩ [3] [1] [0] [1] [0] 3 ![1, 1, C])
    (x : (⟨3, ![B, N, C]⟩ : Shape).Idx → α) (idx : IVec ⟨4, ![B, Q, K, 1]⟩ 32) (b : Fin B) (q : Fin Q) (k : Fin K) (c : Fin C) (p : Fin N)
    (hp : (idx (ix4 b q k 0)).toInt = p.val) :
    Host.gather (takeDims B N C Q K wf) x idx (ix4 b q k c) = x (ix3 b p c) := by
  unfold Host.gather
  refine congrArg x ?_
  funext a
  refine Fin.ext ?_
  show (takeDims B N C Q K wf).start (ix4 b q k c) idx a + (takeDims B N C Q K wf).batchCoord (ix4 b q k c) a
      + (takeDims B N C Q K wf).offCoord (ix4 b q k c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeDims B N C Q K wf).startIndexMap from List.mem_singleton.mpr rfl)]
    have hsi : (takeDims B N C Q K wf).siIdx (ix4 b q k c) ⟨List.idxOf (1 : Fin 3) (takeDims B N C Q K wf).startIndexMap,
        List.idxOf_lt_length_iff.2 (List.mem_singleton.mpr rfl)⟩ = ix4 b q k 0 := by
      funext e; refine Fin.ext ?_
      match e with
      | ⟨0, _⟩ => rfl
      | ⟨1, _⟩ => rfl
      | ⟨2, _⟩ => rfl
      | ⟨3, _⟩ => rfl
    rw [hsi]
    show min (idx (ix4 b q k 0)).toInt.toNat (N - 1) = p.val
    rw [hp, Int.toNat_natCast]
    exact Nat.min_eq_left (by have := p.isLt; omega)
  · rw [GatherDims.batchCoord_eq_zero _ _ _ (fun h => by simp at h)]
    have hs : (takeDims B N C Q K wf).start (ix4 b q k c) idx 2 = 0 := by
      unfold GatherDims.start
      exact dif_neg (fun h => by simp at h)
    rw [hs]
    simp only [Nat.zero_add]
    unfold GatherDims.offCoord
    rw [dif_pos ((GatherDims.mem_sKept _ _).mpr ⟨fun h => by simp at h, fun h => by simp at h⟩)]
    rfl

end Rows

/-- An index below the size, read as signed, is itself. -/
theorem toInt_small {n : ℕ} (hn : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- A nonnegative index is not wrapped. -/
theorem wrap_small {n : ℕ} (hn : n < 2 ^ 31) (y : BitVec 32) :
    Scalar.select (IntOp.cmpi .slt (BitVec.ofNat 32 n) 0#32) y (BitVec.ofNat 32 n) = BitVec.ofNat 32 n := by
  have : IntOp.cmpi .slt (BitVec.ofNat 32 n) 0#32 = 0#1 := by
    show BitVec.ofBool ((BitVec.ofNat 32 n).slt 0#32) = 0#1
    have h : ¬ ((n : ℤ) < (0#32 : BitVec 32).toInt) := by rw [BitVec.toInt_zero]; omega
    rw [BitVec.slt, toInt_small hn, decide_eq_false h]
    rfl
  rw [this]
  rfl

/-- Two blocks of channels of a batched array. -/
theorem stack4_apply {B C E Q K : ℕ} {α : Type} (x y : (⟨4, ![B, C, Q, K]⟩ : Shape).Idx → α)
    (h : Shape.Concatenates [⟨4, ![B, C, Q, K]⟩, ⟨4, ![B, C, Q, K]⟩] ⟨4, ![B, E, Q, K]⟩ 1) (hE : E = C + C) (b : Fin B) (r : Fin E) (q : Fin Q) (k : Fin K) :
    concatenate ⟨4, ![B, E, Q, K]⟩ 1 [⟨⟨4, ![B, C, Q, K]⟩, x⟩, ⟨⟨4, ![B, C, Q, K]⟩, y⟩] h (ix4 b r q k)
      = if hr : r.val < C then x (ix4 b ⟨r.val, hr⟩ q k) else y (ix4 b ⟨r.val - C, by omega⟩ q k) := by
  by_cases hr : r.val < C
  · rw [dif_pos hr]
    refine concatenate_pair_apply_left (t := ⟨4, ![B, E, Q, K]⟩) (s₁ := ⟨4, ![B, C, Q, K]⟩) (s₂ := ⟨4, ![B, C, Q, K]⟩) 1 x y h (ix4 b r q k) rfl (ix4 b ⟨r.val, hr⟩ q k) fun a => ?_
    match a with
    | ⟨0, _⟩ => rfl
    | ⟨1, _⟩ => rfl
    | ⟨2, _⟩ => rfl
    | ⟨3, _⟩ => rfl
  · rw [dif_neg hr]
    refine concatenate_pair_apply_right (t := ⟨4, ![B, E, Q, K]⟩) (s₁ := ⟨4, ![B, C, Q, K]⟩) (s₂ := ⟨4, ![B, C, Q, K]⟩) 1 x y h (ix4 b r q k) rfl rfl (ix4 b ⟨r.val - C, by omega⟩ q k) (fun a ha => ?_) ?_
    · match a with
      | ⟨0, _⟩ => rfl
      | ⟨1, _⟩ => exact absurd rfl ha
      | ⟨2, _⟩ => rfl
      | ⟨3, _⟩ => rfl
    · show r.val - C + C = r.val
      omega

/-- Two columns of group numbers, side by side. -/
theorem stack3c_apply {B G : ℕ} {α : Type} (x y : (⟨3, ![B, G, 1]⟩ : Shape).Idx → α)
    (h : Shape.Concatenates [⟨3, ![B, G, 1]⟩, ⟨3, ![B, G, 1]⟩] ⟨3, ![B, G, 2]⟩ 2) (b : Fin B) (g : Fin G) :
    concatenate ⟨3, ![B, G, 2]⟩ 2 [⟨⟨3, ![B, G, 1]⟩, x⟩, ⟨⟨3, ![B, G, 1]⟩, y⟩] h (ix3 b g 0) = x (ix3 b g 0)
    ∧ concatenate ⟨3, ![B, G, 2]⟩ 2 [⟨⟨3, ![B, G, 1]⟩, x⟩, ⟨⟨3, ![B, G, 1]⟩, y⟩] h (ix3 b g 1) = y (ix3 b g 0) := by
  refine ⟨?_, ?_⟩
  · refine concatenate_pair_apply_left (t := ⟨3, ![B, G, 2]⟩) (s₁ := ⟨3, ![B, G, 1]⟩) (s₂ := ⟨3, ![B, G, 1]⟩) 2 x y h (ix3 b g 0) rfl (ix3 b g 0) fun a => ?_
    match a with
    | ⟨0, _⟩ => rfl
    | ⟨1, _⟩ => rfl
    | ⟨2, _⟩ => rfl
  · refine concatenate_pair_apply_right (t := ⟨3, ![B, G, 2]⟩) (s₁ := ⟨3, ![B, G, 1]⟩) (s₂ := ⟨3, ![B, G, 1]⟩) 2 x y h (ix3 b g 1) rfl rfl (ix3 b g 0) (fun a ha => ?_) rfl
    match a with
    | ⟨0, _⟩ => rfl
    | ⟨1, _⟩ => rfl
    | ⟨2, _⟩ => exact absurd rfl ha

/-- A sum over a group's channels, the queries and the neighbours. -/
theorem groupsum_apply {B G S Q K : ℕ} (h : (⟨5, ![B, G, S, Q, K]⟩ : Shape).ReducesTo [2, 3, 4] ⟨2, ![B, G]⟩) {u : Shape} (hu : 0 < u.numel)
    (x : FVec Ideal ⟨5, ![B, G, S, Q, K]⟩ .f32) (init : FVec Ideal u .f32) (hi : init (Shape.Idx.first hu) = 0) (b : Fin B) (g : Fin G) :
    Host.reduceAdd (F := Ideal) x init h hu (ix2 b g) = ∑ s : Fin S, ∑ q : Fin Q, ∑ k : Fin K, x (ix5 b g s q k) := by
  show init (Shape.Idx.first hu) + ∑ i ∈ Finset.univ.filter (fun i => h.drop i = ix2 b g), x i = _
  rw [hi, zero_add]
  have e : ∑ s : Fin S, ∑ q : Fin Q, ∑ k : Fin K, x (ix5 b g s q k) = ∑ t : Fin S × Fin Q × Fin K, x (ix5 b g t.1 t.2.1 t.2.2) := by
    rw [Fintype.sum_prod_type]
    exact Finset.sum_congr rfl fun s _ => by rw [Fintype.sum_prod_type]
  rw [e]
  have hback : ∀ i ∈ Finset.univ.filter (fun i => h.drop i = ix2 b g), i = ix5 b g (i 2) (i 3) (i 4) := fun i hi => by
    have hd := (Finset.mem_filter.mp hi).2
    have h0 : (i 0).val = b.val := (h.drop_apply_val_of_eq i 0 0 (show 0 < 2 by decide) rfl).symm.trans (congrArg (fun j => (j 0).val) hd)
    have h1 : (i 1).val = g.val := (h.drop_apply_val_of_eq i 1 1 (show 1 < 2 by decide) rfl).symm.trans (congrArg (fun j => (j 1).val) hd)
    funext a
    refine Fin.ext ?_
    match a with
    | ⟨0, _⟩ => exact h0
    | ⟨1, _⟩ => exact h1
    | ⟨2, _⟩ => rfl
    | ⟨3, _⟩ => rfl
    | ⟨4, _⟩ => rfl
  refine Finset.sum_nbij' (fun i => (i 2, i 3, i 4)) (fun t => ix5 b g t.1 t.2.1 t.2.2) (fun _ _ => Finset.mem_univ _) (fun t _ => ?_) (fun i hi => ?_) (fun _ _ => rfl) (fun i hi => ?_)
  · refine Finset.mem_filter.mpr ⟨Finset.mem_univ _, ?_⟩
    funext a
    refine Fin.ext ?_
    match a with
    | ⟨0, _⟩ => exact h.drop_apply_val_of_eq _ 0 0 (show 0 < 2 by decide) rfl
    | ⟨1, _⟩ => exact h.drop_apply_val_of_eq _ 1 1 (show 1 < 2 by decide) rfl
  · exact (hback i hi).symm
  · exact congrArg x (hback i hi)

/-- The largest over the neighbours. -/
theorem maxlast_apply {B C Q K : ℕ} (h : (⟨4, ![B, C, Q, K]⟩ : Shape).ReducesTo [3] ⟨3, ![B, C, Q]⟩) (h' : (⟨4, ![B, C, Q, K]⟩ : Shape).Reduces [3] ⟨3, ![B, C, Q]⟩)
    {u : Shape} (hu : 0 < u.numel)
    (x : FVec Ideal ⟨4, ![B, C, Q, K]⟩ .f32) (init : FVec Ideal u .f32) (hi : init (Shape.Idx.first hu) = (⊥ : EReal)) (b : Fin B) (c : Fin C) (q : Fin Q)
    (y : ℕ → EReal) (hy : ∀ k : Fin K, x (ix4 b c q k) = y k.val) :
    Host.reduce (FloatOps.maximumf (F := Ideal) (φ := .f32)) x init h hu (ix3 b c q) = (Finset.range K).sup y := by
  rw [Host.reduce_eq_fold_single _ x init h h' hu, hi]
  have hl : ∀ k : Fin K, (x ∘ h'.lift (ix3 b c q)) k = y k.val := fun k => by
    refine (congrArg x ?_).trans (hy k)
    funext a
    refine Fin.ext ((h'.lift_val (ix3 b c q) k a).trans ?_)
    match a with
    | ⟨0, _⟩ => rfl
    | ⟨1, _⟩ => rfl
    | ⟨2, _⟩ => rfl
    | ⟨3, _⟩ => rfl
  show (Finset.univ : Finset (Fin K)).sup (x ∘ h'.lift (ix3 b c q)) = _
  refine le_antisymm (Finset.sup_le fun k _ => ?_) (Finset.sup_le fun k hk => ?_)
  · refine (hl k).trans_le ?_
    exact Finset.le_sup (f := y) (Finset.mem_range.mpr k.isLt)
  · refine (hl ⟨k, Finset.mem_range.mp hk⟩).symm.trans_le ?_
    exact Finset.le_sup (f := x ∘ h'.lift (ix3 b c q)) (Finset.mem_univ _)

end KOps

end
-- ==== Proof.Finite.lean ====
module

public import Idealize.ShloMosaic.Lib.StableHlo
public import Idealize.ShloMosaic.Lib.ReduceAll
public import Idealize.ShloMosaic.PureOps.Ideal

@[expose] public section

noncomputable section

namespace KOps

open Idealize.ShloMosaic

/-! # Reading the finiteness of an array out of a precondition -/

/-- The word of positive infinity is `⊤`. -/
theorem inf_word : Ideal.ofBits .f32 0x7F800000#32 = ⊤ := by
  simp [Ideal.ofBits, Ideal.ieee]

/-- A number of absolute value below infinity is neither infinity. -/
theorem finite_of_abs (x : EReal) (h : max x (-x) < ⊤) : x ≠ ⊥ ∧ x ≠ ⊤ := by
  constructor
  · rintro rfl
    simp at h
  · rintro rfl
    simp at h

/-- The conjunction of two bits is 1 only where both are. -/
theorem both_bits : ∀ a b : BitVec 1, IntOp.andi a b = 1#1 → a = 1#1 ∧ b = 1#1 := by decide

/-- Where the conjunction over all entries of `|x| < ∞` is 1, every entry of `x` is finite. -/
theorem finite_of_all {s u t : Shape} {axes : List (Fin s.rank)} [Subsingleton t.Idx] (x y : FVec Ideal s .f32) (hy : ∀ i, y i = Ideal.ofBits .f32 0x7F800000#32)
    (init : u.Idx → BitVec 1) (h : s.ReducesTo axes t) (hu : 0 < u.numel) (j : t.Idx)
    (e : Host.reduce IntOp.andi (cmpf .olt (Host.absf x) y) init h hu j = 1#1) (i : s.Idx) : x i ≠ ⊥ ∧ x i ≠ ⊤ := by
  have hi : Ideal.cmp .olt (max (x i) (-(x i))) (y i) = 1#1 := Host.reduce_andi_all _ init h hu j e i
  refine finite_of_abs _ ?_
  rw [hy i, inf_word] at hi
  by_contra hn
  simp [Ideal.cmp, hn] at hi

end KOps

end
-- ==== Proof.Query.lean ====
module

public import proofs.«01_k».proof.Proof.HostOps
public import proofs.«01_k».proof.Proof.Finite

@[expose] public section

noncomputable section

namespace KOps

open Idealize.ShloMosaic Idealize.ShloMosaic.ValueIdx

/-! # Columns taken on the host, and indices in range -/

section Cols
variable {α : Type} {B C N Q : ℕ}

/-- Columns of `[C, N]` taken at `[Q]` positions, batch by batch. -/
abbrev colDims (B C N Q : ℕ)
    (wf : GatherDims.WF ⟨3, ![B, C, N]⟩ ⟨3, ![B, Q, 1]⟩ ⟨3, ![B, C, Q]⟩ [1] [2] [0] [2] [0] 2 ![1, C, 1]) :
    GatherDims ⟨3, ![B, C, N]⟩ ⟨3, ![B, Q, 1]⟩ ⟨3, ![B, C, Q]⟩ where
  offsetDims := [1]
  collapsedSliceDims := [2]
  operandBatchingDims := [0]
  startIndicesBatchingDims := [0]
  startIndexMap := [2]
  indexVectorDim := 2
  sliceSizes := ![1, C, 1]
  wf := wf

theorem cols_apply (wf : GatherDims.WF ⟨3, ![B, C, N]⟩ ⟨3, ![B, Q, 1]⟩ ⟨3, ![B, C, Q]⟩ [1] [2] [0] [2] [0] 2 ![1, C, 1])
    (x : (⟨3, ![B, C, N]⟩ : Shape).Idx → α) (idx : IVec ⟨3, ![B, Q, 1]⟩ 32) (b : Fin B) (c : Fin C) (q : Fin Q) (p : Fin N)
    (hp : (idx (ix3 b q 0)).toInt = p.val) :
    Host.gather (colDims B C N Q wf) x idx (ix3 b c q) = x (ix3 b c p) := by
  unfold Host.gather
  refine congrArg x ?_
  funext a
  refine Fin.ext ?_
  show (colDims B C N Q wf).start (ix3 b c q) idx a + (colDims B C N Q wf).batchCoord (ix3 b c q) a
      + (colDims B C N Q wf).offCoord (ix3 b c q) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h)]
    have hs : (colDims B C N Q wf).start (ix3 b c q) idx 1 = 0 := by
      unfold GatherDims.start
      exact dif_neg (fun h => by simp at h)
    rw [hs]
    simp only [Nat.zero_add]
    unfold GatherDims.offCoord
    rw [dif_pos ((GatherDims.mem_sKept _ _).mpr ⟨fun h => by simp at h, fun h => by simp at h⟩)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (colDims B C N Q wf).startIndexMap from List.mem_singleton.mpr rfl)]
    have hsi : (colDims B C N Q wf).siIdx (ix3 b c q) ⟨List.idxOf (2 : Fin 3) (colDims B C N Q wf).startIndexMap,
        List.idxOf_lt_length_iff.2 (List.mem_singleton.mpr rfl)⟩ = ix3 b q 0 := by
      funext e; refine Fin.ext ?_
      match e with
      | ⟨0, _⟩ => rfl
      | ⟨1, _⟩ => rfl
      | ⟨2, _⟩ => rfl
    rw [hsi]
    show min (idx (ix3 b q 0)).toInt.toNat (N - 1) = p.val
    rw [hp, Int.toNat_natCast]
    exact Nat.min_eq_left (by have := p.isLt; omega)

end Cols

theorem one_of_bool : ∀ b : Bool, BitVec.ofBool b = 1#1 → b = true := by decide

/-- A word that is signed at least 0 and below `n` is one of the first `n` numbers. -/
theorem word_in_range {n : ℕ} (hn : n < 2 ^ 31) (w : BitVec 32) (h0 : IntOp.cmpi .sge w 0#32 = 1#1)
    (h1 : IntOp.cmpi .slt w (BitVec.ofNat 32 n) = 1#1) : ∃ p : Fin n, w = BitVec.ofNat 32 p.val := by
  have e0 : (0#32 : BitVec 32).sle w = true := one_of_bool _ h0
  have e1 : w.slt (BitVec.ofNat 32 n) = true := one_of_bool _ h1
  rw [BitVec.sle, decide_eq_true_iff, BitVec.toInt_zero] at e0
  rw [BitVec.slt, decide_eq_true_iff, toInt_small hn] at e1
  have e2 : w.toInt = w.toNat := by
    rw [BitVec.toInt_eq_toNat_cond] at e0 ⊢
    split
    · rfl
    · rename_i h
      rw [if_neg h] at e0
      have := w.isLt
      omega
  refine ⟨⟨w.toNat, by omega⟩, ?_⟩
  apply BitVec.eq_of_toNat_eq
  rw [BitVec.toNat_ofNat, Nat.mod_eq_of_lt w.isLt]

/-- Where both range conjunctions are 1, every entry is one of the first `n` numbers. -/
theorem range_of_all {s u t : Shape} {axes : List (Fin s.rank)} [Subsingleton t.Idx] {n : ℕ} (hn : n < 2 ^ 31) (x y z : IVec s 32) (hy : ∀ i, y i = 0#32)
    (hz : ∀ i, z i = BitVec.ofNat 32 n) (init init' : u.Idx → BitVec 1) (h h' : s.ReducesTo axes t) (hu hu' : 0 < u.numel) (j : t.Idx)
    (e : Host.reduce IntOp.andi (cmpi .sge x y) init h hu j = 1#1) (e' : Host.reduce IntOp.andi (cmpi .slt x z) init' h' hu' j = 1#1) (i : s.Idx) :
    ∃ p : Fin n, x i = BitVec.ofNat 32 p.val := by
  have a : IntOp.cmpi .sge (x i) (y i) = 1#1 := Host.reduce_andi_all _ init h hu j e i
  have b : IntOp.cmpi .slt (x i) (z i) = 1#1 := Host.reduce_andi_all _ init' h' hu' j e' i
  rw [hy] at a
  rw [hz] at b
  exact word_in_range hn (x i) a b

end KOps

end
-- ==== Proof.Farthest.lean ====
module

public import proofs.«01_k».proof.Proof.Column
public import proofs.«01_k».proof.Proof.Query

@[expose] public section

noncomputable section

namespace Farthest

open Idealize.ShloMosaic Idealize.ShloMosaic.ValueIdx Nearest KOps
open scoped BigOperators

/-! # The farthest point, the first where there are several -/

/-- The first position of a row's largest value. -/
def far {n : ℕ} (d : Fin (n + 1) → EReal) : Fin (n + 1) := near (fun p => -(d p)) 0

theorem far_max {n : ℕ} (d : Fin (n + 1) → EReal) (q : Fin (n + 1)) : d q ≤ d (far d) := by
  obtain ⟨j, rfl⟩ := near_surjective (fun p => -(d p)) q
  rcases (Fin.zero_le j).eq_or_lt with h | h
  · rw [← h]; exact le_refl _
  · rcases near_lex (fun p => -(d p)) h with h | h
    · exact (EReal.neg_lt_neg_iff.mp h).le
    · exact (neg_injective h.1).ge

theorem far_first {n : ℕ} (d : Fin (n + 1) → EReal) (q : Fin (n + 1)) (hq : d q = d (far d)) : far d ≤ q := by
  obtain ⟨j, rfl⟩ := near_surjective (fun p => -(d p)) q
  rcases (Fin.zero_le j).eq_or_lt with h | h
  · rw [← h]; exact le_refl _
  · rcases near_lex (fun p => -(d p)) h with h | h
    · exact absurd hq (EReal.neg_lt_neg_iff.mp h).ne
    · exact h.2.le

/-- The position that `lax.top_k` with one result returns. -/
theorem top_idx {B n : ℕ} (D : (⟨2, ![B, n + 1]⟩ : Shape).Idx → EReal)
    (h : (⟨2, ![B, n + 1]⟩ : Shape).Slices (fun _ => 0) ⟨2, ![B, 1]⟩) (b : Fin B) :
    (Host.topK (s := ⟨2, ![B, n + 1]⟩) ⟨2, ![B, 1]⟩ 1 (FloatOps.cmpfTotal (F := Ideal) (φ := .f32) .gt) D h).2 (ix2 b 0)
      = BitVec.ofNat 32 (far (fun p => D (ix2 b p))).val := by
  unfold Host.topK Host.sort2
  dsimp only
  rw [dif_pos (show 1 < 2 by decide)]
  unfold extractStridedSlice
  dsimp only
  rw [dif_pos (show 1 < 2 by decide)]
  show BitVec.ofNat 32 (Shape.Idx.along (s := ⟨2, ![B, n + 1]⟩) _ 1 _ 1).val = _
  unfold Shape.Idx.along
  refine congrArg (fun p : Fin (n + 1) => BitVec.ofNat 32 p.val) ?_
  refine (Function.update_self (β := fun a => Fin ((![B, n + 1] : Fin 2 → ℕ) a)) (1 : Fin 2) _ _).trans ?_
  unfold far near
  refine congrArg₂ (sortedFrom (n := n + 1)) (funext fun i => funext fun j => ?_) (Fin.ext rfl)
  have hal : ∀ (J : (⟨2, ![B, n + 1]⟩ : Shape).Idx) (p : Fin (n + 1)), J 0 = b → Function.update J (1 : Fin 2) p = ix2 b p := by
    intro J p h0
    funext a
    match a with
    | ⟨0, _⟩ => exact (Function.update_of_ne (β := fun a => Fin ((![B, n + 1] : Fin 2 → ℕ) a)) (a := (0 : Fin 2)) (a' := (1 : Fin 2)) (by decide) _ _).trans h0
    | ⟨1, _⟩ => exact Function.update_self (β := fun a => Fin ((![B, n + 1] : Fin 2 → ℕ) a)) (1 : Fin 2) _ _
  refine (congrArg₂ (fun u v : EReal => Ideal.cmp .ogt u v == 1#1)
    (congrArg D (hal _ i (Fin.ext (Nat.zero_add _)))) (congrArg D (hal _ j (Fin.ext (Nat.zero_add _))))).trans ?_
  show _ = decide (-(D (ix2 b i)) < -(D (ix2 b j)))
  unfold Ideal.cmp
  by_cases hlt : D (ix2 b j) < D (ix2 b i)
  · simp [hlt, EReal.neg_lt_neg_iff]
  · simp [hlt, EReal.neg_lt_neg_iff]

/-- The least of some words, where one of them is below all the others. -/
theorem fold_min {ι : Type} [Fintype ι] [DecidableEq ι] (f : ι → BitVec 32) (acc w : BitVec 32) (P : ι) (hP : f P = w)
    (ha : IntOp.minsi acc w = w) (hf : ∀ k, IntOp.minsi (f k) w = w) : Finset.univ.fold IntOp.minsi acc f = w := by
  have key : ∀ s : Finset ι, IntOp.minsi (s.fold IntOp.minsi acc f) w = w := fun s => by
    induction s using Finset.induction_on with
    | empty => rw [Finset.fold_empty]; exact ha
    | insert a s h ih => rw [Finset.fold_insert h, Std.Associative.assoc (op := IntOp.minsi (w := 32)), ih, hf]
  have hi : (Finset.univ : Finset ι) = insert P (Finset.univ.erase P) := (Finset.insert_erase (Finset.mem_univ P)).symm
  rw [hi, Finset.fold_insert (Finset.notMem_erase _ _), hP, Std.Commutative.comm (op := IntOp.minsi (w := 32))]
  exact key _

theorem min_small {m k : ℕ} (hm : m ≤ k) (hk : k < 2 ^ 31) : IntOp.minsi (BitVec.ofNat 32 k) (BitVec.ofNat 32 m) = BitVec.ofNat 32 m := by
  unfold IntOp.minsi
  split
  · rename_i h
    rw [BitVec.slt, decide_eq_true_iff, toInt_small hk, toInt_small (by omega)] at h
    omega
  · rfl

/-- The largest of a row. -/
theorem rowmax_apply {B n : ℕ} (D : FVec Ideal ⟨2, ![B, n + 1]⟩ .f32) (hr : (⟨2, ![B, n + 1]⟩ : Shape).Reduces [1] ⟨1, ![B]⟩)
    (hφ : FKind.Formats .f32) (hacc : (0xFF800000#32 : BitVec 32) = FKind.maximumf.neutral .f32 hφ) (b : Fin B) :
    multiReduction (F := Ideal) .maximumf [1] ⟨1, ![B]⟩ D 0xFF800000#32 hr hφ hacc (ix1 b) = D (ix2 b (far fun p => D (ix2 b p))) := by
  have hb : (FloatOps.ofBits (F := Ideal) .f32 0xFF800000#32 : EReal) = ⊥ := by
    show Ideal.ofBits .f32 0xFF800000#32 = ⊥
    simp [Ideal.ofBits, Ideal.ieee]
  refine (Ideal.multiReduction_maximumf_single D _ hr hφ hacc (ix1 b)).trans ?_
  have hl : D ∘ hr.lift (ix1 b) = fun p : Fin (n + 1) => D (ix2 b p) := funext fun p => congrArg D (lift_row hr b p)
  rw [hl, hb]
  refine le_antisymm (Finset.fold_max_le _ |>.mpr ⟨bot_le, fun p _ => far_max (fun p => D (ix2 b p)) p⟩) ?_
  exact Finset.le_fold_max _ |>.mpr (Or.inr ⟨_, Finset.mem_univ _, le_refl _⟩)

/-- The least position at which the row is its largest. -/
theorem farthest_apply {B n : ℕ} (D : FVec Ideal ⟨2, ![B, n + 1]⟩ .f32) (hi : (⟨2, ![B, n + 1]⟩ : Shape).Iotas .tc 32 [1])
    (hr : (⟨2, ![B, n + 1]⟩ : Shape).Reduces [1] ⟨1, ![B]⟩) (hφ : FKind.Formats .f32)
    (hacc : (0xFF800000#32 : BitVec 32) = FKind.maximumf.neutral .f32 hφ) (hmin : (2147483647#32 : BitVec 32) = IKind.minsi.neutral)
    (hc : (⟨1, ![B]⟩ : Shape).ShapeCasts ⟨2, ![B, 1]⟩) (hb : (⟨2, ![B, 1]⟩ : Shape).Broadcasts ⟨2, ![B, n + 1]⟩)
    (hn : n + 1 < 2 ^ 31) (b : Fin B) :
    multiReductionI .minsi [1] ⟨1, ![B]⟩
      (select (cmpf (F := Ideal) .oeq D (broadcastTo ⟨2, ![B, n + 1]⟩
          (shapeCast ⟨2, ![B, 1]⟩ (multiReduction (F := Ideal) .maximumf [1] ⟨1, ![B]⟩ D 0xFF800000#32 hr hφ hacc) hc) hb))
        (iota .tc ⟨2, ![B, n + 1]⟩ 32 [1] hi) (broadcast ⟨2, ![B, n + 1]⟩ (BitVec.ofNat 32 (n + 1))))
      2147483647#32 hr hmin (ix1 b) = BitVec.ofNat 32 (far fun p => D (ix2 b p)).val := by
  refine (multiReductionI_eq_fold _ _ _ hr hmin (ix1 b)).trans ?_
  refine (hr.fold_filter_drop_single IntOp.minsi _ _ (ix1 b)).trans ?_
  have hv : ∀ p : Fin (n + 1), (select (cmpf (F := Ideal) .oeq D (broadcastTo ⟨2, ![B, n + 1]⟩
          (shapeCast ⟨2, ![B, 1]⟩ (multiReduction (F := Ideal) .maximumf [1] ⟨1, ![B]⟩ D 0xFF800000#32 hr hφ hacc) hc) hb))
        (iota .tc ⟨2, ![B, n + 1]⟩ 32 [1] hi) (broadcast ⟨2, ![B, n + 1]⟩ (BitVec.ofNat 32 (n + 1)))) (hr.lift (ix1 b) p)
      = if D (ix2 b p) = D (ix2 b (far fun p => D (ix2 b p))) then BitVec.ofNat 32 p.val else BitVec.ofNat 32 (n + 1) := fun p => by
    rw [lift_row hr b p]
    have e : broadcastTo ⟨2, ![B, n + 1]⟩
          (shapeCast ⟨2, ![B, 1]⟩ (multiReduction (F := Ideal) .maximumf [1] ⟨1, ![B]⟩ D 0xFF800000#32 hr hφ hacc) hc) hb (ix2 b p)
        = D (ix2 b (far fun p => D (ix2 b p))) := by rw [col_apply, shapeCast_a_a1_apply, rowmax_apply]
    show Scalar.select (Ideal.cmp .oeq (D (ix2 b p)) _) (iota .tc ⟨2, ![B, n + 1]⟩ 32 [1] hi (ix2 b p)) (BitVec.ofNat 32 (n + 1)) = _
    rw [e, iota_single_apply]
    generalize D (ix2 b (far fun p => D (ix2 b p))) = M
    by_cases h : D (ix2 b p) = M
    · rw [if_pos h]; simp [Ideal.cmp, Scalar.select, h]; rfl
    · rw [if_neg h]; simp [Ideal.cmp, Scalar.select, h]
  refine fold_min _ _ _ (far fun p => D (ix2 b p)) ((hv _).trans (if_pos rfl)) ?_ fun p => ?_
  · have := (far fun p => D (ix2 b p)).isLt
    exact min_small (k := 2147483647) (by omega) (by decide)
  · refine (congrArg (fun w => IntOp.minsi w _) (hv p)).trans ?_
    have h1 := (far fun p => D (ix2 b p)).isLt
    by_cases h : D (ix2 b p) = D (ix2 b (far fun p => D (ix2 b p)))
    · rw [if_pos h]
      exact min_small (far_first (fun p => D (ix2 b p)) p h) (lt_trans (show p.val < n + 1 from p.isLt) hn)
    · rw [if_neg h]
      exact min_small h1.le hn

/-- A row's entry at the position that its word names. -/
theorem entry_apply {B N : ℕ} (v : FVec Ideal ⟨2, ![B, N]⟩ .f32) (x : IVec ⟨2, ![B, 1]⟩ 32) (hi : (⟨2, ![B, N]⟩ : Shape).Iotas .tc 32 [1])
    (hr : (⟨2, ![B, N]⟩ : Shape).Reduces [1] ⟨1, ![B]⟩) (hφ : FKind.Formats .f32)
    (hacc : (0x00000000#32 : BitVec 32) = FKind.add.neutral .f32 hφ) (h32 : 1 < 32)
    (hb : (⟨2, ![B, 1]⟩ : Shape).Broadcasts ⟨2, ![B, N]⟩) (hN : N ≤ 2 ^ 32) (b : Fin B) (P : Fin N)
    (hP : x (ix2 b 0) = BitVec.ofNat 32 P.val) :
    multiReduction (F := Ideal) .add [1] ⟨1, ![B]⟩
      (mulf (F := Ideal) v (sitofp (F := Ideal) .f32 (extui 32 (cmpi .eq (iota .tc ⟨2, ![B, N]⟩ 32 [1] hi) (broadcastTo ⟨2, ![B, N]⟩ x hb)) h32)))
      0x00000000#32 hr hφ hacc (ix1 b) = v (ix2 b P) := by
  refine (Ideal.multiReduction_add_single _ _ hr hφ hacc (ix1 b)).trans ?_
  refine (Finset.sum_congr rfl fun p _ => congrArg (mulf (F := Ideal) v _) (lift_row hr b p)).trans ?_
  refine pick (fun p => v (ix2 b p)) (fun p => sitofp (F := Ideal) .f32 (extui 32 (cmpi .eq (iota .tc ⟨2, ![B, N]⟩ 32 [1] hi) (broadcastTo ⟨2, ![B, N]⟩ x hb)) h32) (ix2 b p)) P
    fun p => flag_apply _ h32 (ix2 b p) (p = P) ?_
  show IntOp.cmpi .eq (iota .tc ⟨2, ![B, N]⟩ 32 [1] hi (ix2 b p)) (broadcastTo ⟨2, ![B, N]⟩ x hb (ix2 b p)) = _
  rw [iota_single_apply, col_apply, hP]
  exact word_eq hN p P

/-- One column replaced. -/
theorem setcol_apply {α : Type} {B M : ℕ} (hi : (⟨2, ![B, M]⟩ : Shape).Iotas .tc 32 [1]) (v : (⟨2, ![B, 1]⟩ : Shape).Idx → α)
    (old : (⟨2, ![B, M]⟩ : Shape).Idx → α) (hb : (⟨2, ![B, 1]⟩ : Shape).Broadcasts ⟨2, ![B, M]⟩) (hM : M ≤ 2 ^ 32) (k : Fin M) (b : Fin B) (q : Fin M) :
    select (cmpi .eq (iota .tc ⟨2, ![B, M]⟩ 32 [1] hi) (broadcast ⟨2, ![B, M]⟩ (BitVec.ofNat 32 k.val))) (broadcastTo ⟨2, ![B, M]⟩ v hb) old (ix2 b q)
      = if q = k then v (ix2 b 0) else old (ix2 b q) := by
  show Scalar.select (IntOp.cmpi .eq (iota .tc ⟨2, ![B, M]⟩ 32 [1] hi (ix2 b q)) (BitVec.ofNat 32 k.val)) (broadcastTo ⟨2, ![B, M]⟩ v hb (ix2 b q)) (old (ix2 b q)) = _
  rw [iota_single_apply, col_apply]
  refine (congrArg (fun w => Scalar.select w _ _) (word_eq hM q k)).trans ?_
  by_cases h : q = k
  · rw [if_pos h, if_pos h]; rfl
  · rw [if_neg h, if_neg h]; rfl

/-- A sum over three terms, on the host. -/
theorem sum3_apply {B N : ℕ} (x : FVec Ideal ⟨3, ![B, 3, N]⟩ .f32) {u : Shape} (hu : 0 < u.numel) (z : FVec Ideal u .f32)
    (h : (⟨3, ![B, 3, N]⟩ : Shape).ReducesTo [1] ⟨2, ![B, N]⟩) (h' : (⟨3, ![B, 3, N]⟩ : Shape).Reduces [1] ⟨2, ![B, N]⟩)
    (hz : z (Shape.Idx.first hu) = 0) (b : Fin B) (p : Fin N) :
    Host.reduceAdd (F := Ideal) x z h hu (ix2 b p) = x (ix3 b 0 p) + x (ix3 b 1 p) + x (ix3 b 2 p) := by
  refine (Ideal.hostReduceAdd_single h h' x _ (ix2 b p)).trans ?_
  rw [hz, zero_add]
  have hl : ∀ k : Fin 3, x (h'.lift (ix2 b p) k) = x (ix3 b k p) := fun k => by
    refine congrArg x (funext fun a => Fin.ext ((h'.lift_val (ix2 b p) k a).trans ?_))
    match a with
    | ⟨0, _⟩ => rfl
    | ⟨1, _⟩ => rfl
    | ⟨2, _⟩ => rfl
  refine (Finset.sum_congr rfl fun k _ => hl k).trans ?_
  exact Fin.sum_univ_three fun k => x (ix3 b k p)

end Farthest

end
-- ==== Proof.Rows.lean ====
module

public import proofs.«01_k».proof.Proof.Farthest
public import Idealize.ShloMosaic.Lib.VecWindow

@[expose] public section

noncomputable section

namespace Farthest

open Idealize.ShloMosaic Idealize.ShloMosaic.ValueIdx

/-! # Rows of a three-row array, one row read or replaced -/

/-- A middle unit axis dropped. -/
theorem drop_apply {α : Type} {B M : ℕ} (x : (⟨3, ![B, 1, M]⟩ : Shape).Idx → α) (h : (⟨3, ![B, 1, M]⟩ : Shape).ShapeCasts ⟨2, ![B, M]⟩)
    (b : Fin B) (q : Fin M) : shapeCast ⟨2, ![B, M]⟩ x h (ix2 b q) = x (ix3 b 0 q) :=
  shapeCast_apply x h _ _ (by
    rw [Shape.rowMajor_val_three, Shape.rowMajor_val_two]
    show (b.val * 1 + 0) * M + q.val = b.val * M + q.val
    rw [Nat.mul_one, Nat.add_zero])

/-- A middle unit axis added. -/
theorem add_apply {α : Type} {B M : ℕ} (x : (⟨2, ![B, M]⟩ : Shape).Idx → α) (h : (⟨2, ![B, M]⟩ : Shape).ShapeCasts ⟨3, ![B, 1, M]⟩)
    (b : Fin B) (u : Fin 1) (q : Fin M) : shapeCast ⟨3, ![B, 1, M]⟩ x h (ix3 b u q) = x (ix2 b q) :=
  shapeCast_apply x h _ _ (by
    have hu : u.val = 0 := by omega
    rw [Shape.rowMajor_val_three, Shape.rowMajor_val_two]
    show b.val * M + q.val = (b.val * 1 + u.val) * M + q.val
    rw [hu, Nat.mul_one, Nat.add_zero])

/-- Row `r` of an array. -/
theorem window_apply {α : Type} {B M : ℕ} (x : (⟨3, ![B, 3, M]⟩ : Shape).Idx → α) (r : Fin 3)
    (inb : ∀ a, (![0, r.val, 0] : Fin 3 → ℕ) a + (![B, 1, M] : Fin 3 → ℕ) a ≤ (⟨3, ![B, 3, M]⟩ : Shape).size a) (b : Fin B) (u : Fin 1) (q : Fin M) :
    VecWindow.window x ![0, r.val, 0] ![B, 1, M] inb (ix3 b u q) = x (ix3 b r q) := by
  unfold VecWindow.window
  refine congrArg x (funext fun a => Fin.ext ?_)
  match a with
  | ⟨0, _⟩ => show 0 + 1 * b.val = b.val; omega
  | ⟨1, _⟩ => show r.val + 1 * u.val = r.val; omega
  | ⟨2, _⟩ => show 0 + 1 * q.val = q.val; omega

/-- Row `r` of an array replaced. -/
theorem put_apply {α : Type} {B M : ℕ} (x : (⟨3, ![B, 3, M]⟩ : Shape).Idx → α) (r : Fin 3) (w : (⟨3, ![B, 1, M]⟩ : Shape).Idx → α)
    (b : Fin B) (c : Fin 3) (q : Fin M) :
    VecWindow.put x ![0, r.val, 0] ![B, 1, M] w (ix3 b c q) = if c = r then w (ix3 b 0 q) else x (ix3 b c q) := by
  unfold VecWindow.put
  by_cases h : c = r
  · have hin : ∀ a, (![0, r.val, 0] : Fin 3 → ℕ) a ≤ ((ix3 b c q : (⟨3, ![B, 3, M]⟩ : Shape).Idx) a).val
        ∧ ((ix3 b c q : (⟨3, ![B, 3, M]⟩ : Shape).Idx) a).val < (![0, r.val, 0] : Fin 3 → ℕ) a + (![B, 1, M] : Fin 3 → ℕ) a := fun a => by
      match a with
      | ⟨0, _⟩ => exact ⟨Nat.zero_le _, by show b.val < 0 + B; omega⟩
      | ⟨1, _⟩ => rw [h]; exact ⟨le_refl _, Nat.lt_succ_self _⟩
      | ⟨2, _⟩ => exact ⟨Nat.zero_le _, by show q.val < 0 + M; omega⟩
    rw [if_pos h]
    refine (dif_pos hin).trans (congrArg w (funext fun a => Fin.ext ?_))
    match a with
    | ⟨0, _⟩ => rfl
    | ⟨1, _⟩ => show c.val - r.val = 0; rw [h]; omega
    | ⟨2, _⟩ => rfl
  · rw [if_neg h]
    refine dif_neg fun hin => h (Fin.ext ?_)
    have h1 : r.val ≤ c.val ∧ c.val < r.val + 1 := hin 1
    omega

/-- Three rows replaced one after another. -/
theorem put3_apply {α : Type} {B M : ℕ} (x : (⟨3, ![B, 3, M]⟩ : Shape).Idx → α) (w0 w1 w2 : (⟨3, ![B, 1, M]⟩ : Shape).Idx → α)
    (f : Fin 3 → α) (b : Fin B) (q : Fin M) (h0 : w0 (ix3 b 0 q) = f 0) (h1 : w1 (ix3 b 0 q) = f 1) (h2 : w2 (ix3 b 0 q) = f 2) (c : Fin 3) :
    VecWindow.put (VecWindow.put (VecWindow.put x ![0, 0, 0] ![B, 1, M] w0) ![0, 1, 0] ![B, 1, M] w1) ![0, 2, 0] ![B, 1, M] w2 (ix3 b c q) = f c := by
  refine (put_apply _ 2 w2 b c q).trans ?_
  by_cases e2 : c = 2
  · rw [if_pos e2, e2]; exact h2
  rw [if_neg e2]
  refine (put_apply _ 1 w1 b c q).trans ?_
  by_cases e1 : c = 1
  · rw [if_pos e1, e1]; exact h1
  rw [if_neg e1]
  refine (put_apply _ 0 w0 b c q).trans ?_
  have e0 : c = 0 := by
    match c with
    | ⟨0, _⟩ => rfl
    | ⟨1, _⟩ => exact absurd rfl e1
    | ⟨2, _⟩ => exact absurd rfl e2
  rw [if_pos e0, e0]; exact h0

end Farthest

end
-- ==== Proof.Fps128Val.lean ====
module

public import proofs.«01_k».proof.Proof.Fps128Loop
public import proofs.«01_k».proof.Proof.Rows

@[expose] public section

set_option maxRecDepth 16384

noncomputable section

namespace Cert.Fps128Ideal.Val

open Cert.Fps128Ideal Cert.Fps128Ideal.Gen Cert.Fps128Ideal.Loop Idealize.ShloMosaic Idealize.ShloMosaic.ValueIdx Nearest KOps Farthest

/-! # One trip of the farthest-point selection, over the extended reals -/

/-- The positions, one row for every batch. -/
abbrev pos : IVec S16x512 32 := iota .tc S16x512 32 [1] iota_S16x512_d1_w32
/-- The places of the chosen points, one row for every batch. -/
abbrev place : IVec S16x128 32 := iota .tc S16x128 32 [1] iota_S16x128_d1_w32

theorem trip_word (k : Fin k0_t1_loop.trips) : Scf.iv 0#32 1#32 k = BitVec.ofNat 32 k.val := by
  simp [Scf.iv]

section
variable (k : Fin k0_t1_loop.trips) (K : Fin 128) (hK : k.val = K.val) (x : IVec S16x1 32) (b : Fin 16)

include hK in
theorem pay13_eq : k0_pay13 place 0#32 1#32 k = cmpi .eq place (broadcast S16x128 (BitVec.ofNat 32 K.val)) := by
  unfold k0_pay13
  rw [trip_word, hK]

include hK in
/-- The trip's place takes the next position. -/
theorem pay14_apply (old : IVec S16x128 32) (q : Fin 128) :
    k0_pay14 (F := Ideal) place 0#32 1#32 k x old (ix2 b q) = if q = K then x (ix2 b 0) else old (ix2 b q) := by
  unfold k0_pay14
  rw [cast_self, cast_self, pay13_eq k K hK]
  exact setcol_apply iota_S16x128_d1_w32 x old broadcasts_S16x1_S16x128 (by norm_num) K b q

variable (P : Fin 512) (hP : x (ix2 b 0) = BitVec.ofNat 32 P.val)
include hP

/-- The coordinate at the position that the word names. -/
theorem pay16_apply (v : FVec Ideal S16x512 .f32) : k0_pay16 (F := Ideal) v pos x (ix2 b 0) = v (ix2 b P) := by
  unfold k0_pay16 k0_pay15
  refine (shapeCast_a_a1_apply _ shapeCasts_S16_S16x1 b 0).trans ?_
  exact entry_apply v x iota_S16x512_d1_w32 reduces_S16x512_S16 (.inl rfl) rfl natLt_1_32 broadcasts_S16x1_S16x512 (by norm_num) b P hP

theorem pay17_apply (v : FVec Ideal S16x512 .f32) : k0_pay17 (F := Ideal) v pos x (ix2 b 0) = v (ix2 b P) := pay16_apply x b P hP v
theorem pay18_apply (v : FVec Ideal S16x512 .f32) : k0_pay18 (F := Ideal) v pos x (ix2 b 0) = v (ix2 b P) := pay16_apply x b P hP v

include hK

theorem pay19_apply (v : FVec Ideal S16x512 .f32) (old : FVec Ideal S16x1x128 .f32) (q : Fin 128) :
    k0_pay19 (F := Ideal) v pos place 0#32 1#32 k x old (ix3 b 0 q) = if q = K then v (ix2 b P) else old (ix3 b 0 q) := by
  unfold k0_pay19
  refine (add_apply _ shapeCasts_S16x128_S16x1x128 b 0 q).trans ?_
  rw [cast_self, pay13_eq k K hK]
  refine (setcol_apply iota_S16x128_d1_w32 _ _ broadcasts_S16x1_S16x128 (by norm_num) K b q).trans ?_
  rw [pay16_apply x b P hP, drop_apply old shapeCasts_S16x1x128_S16x128 b q]

theorem pay20_apply (v : FVec Ideal S16x512 .f32) (old : FVec Ideal S16x1x128 .f32) (q : Fin 128) :
    k0_pay8 (F := Ideal) (k0_pay20 (F := Ideal) v pos place 0#32 1#32 k x old) (ix3 b 0 q) = if q = K then v (ix2 b P) else old (ix3 b 0 q) :=
  pay19_apply k K hK x b P hP v old q

theorem pay9_apply (v : FVec Ideal S16x512 .f32) (old : FVec Ideal S16x1x128 .f32) (q : Fin 128) :
    k0_pay9 (F := Ideal) (k0_pay13 place 0#32 1#32 k) (k0_pay18 (F := Ideal) v pos x) old (ix3 b 0 q) = if q = K then v (ix2 b P) else old (ix3 b 0 q) :=
  pay19_apply k K hK x b P hP v old q
end

/-- A coordinate of the points, row by row. -/
theorem pts_apply (X : FVec Ideal S16x3x512 .f32) (b : Fin 16) (p : Fin 512) :
    k0_pay1 (F := Ideal) (pts0 X) (ix2 b p) = X (ix3 b 0 p) ∧ k0_pay2 (F := Ideal) (pts1 X) (ix2 b p) = X (ix3 b 1 p)
      ∧ k0_pay3 (F := Ideal) (pts2 X) (ix2 b p) = X (ix3 b 2 p) := by
  refine ⟨?_, ?_, ?_⟩
  · unfold k0_pay1 pts0
    exact (drop_apply _ shapeCasts_S16x1x512_S16x512 b p).trans (window_apply X 0 inb_S16x3x512_S16x1x512_0_0_0 b 0 p)
  · unfold k0_pay2 pts1
    exact (drop_apply _ shapeCasts_S16x1x512_S16x512 b p).trans (window_apply X 1 inb_S16x3x512_S16x1x512_0_1_0 b 0 p)
  · unfold k0_pay3 pts2
    exact (drop_apply _ shapeCasts_S16x1x512_S16x512 b p).trans (window_apply X 2 inb_S16x3x512_S16x1x512_0_2_0 b 0 p)

/-- The distance to the points chosen so far, one more chosen at `P`. -/
def near1 (X : FVec Ideal S16x3x512 .f32) (b : Fin 16) (P p : Fin 512) (d : EReal) : EReal :=
  min d ((X (ix3 b 0 p) - X (ix3 b 0 P)) * (X (ix3 b 0 p) - X (ix3 b 0 P)) + (X (ix3 b 1 p) - X (ix3 b 1 P)) * (X (ix3 b 1 p) - X (ix3 b 1 P))
    + (X (ix3 b 2 p) - X (ix3 b 2 P)) * (X (ix3 b 2 p) - X (ix3 b 2 P)))

section
variable (X : FVec Ideal S16x3x512 .f32) (x : IVec S16x1 32) (d : FVec Ideal S16x512 .f32)

/-- The distances after one more point. -/
abbrev dist : FVec Ideal S16x512 .f32 :=
  k0_pay10 (F := Ideal) (pts0 X) (pts1 X) (pts2 X) (k0_pay16 (k0_pay1 (pts0 X)) pos x) (k0_pay17 (k0_pay2 (pts1 X)) pos x) (k0_pay18 (k0_pay3 (pts2 X)) pos x) d

theorem dist_apply (b : Fin 16) (P : Fin 512) (hP : x (ix2 b 0) = BitVec.ofNat 32 P.val) (p : Fin 512) :
    dist X x d (ix2 b p) = near1 X b P p (d (ix2 b p)) := by
  have e : ∀ (v : FVec Ideal S16x512 .f32) (y z : EReal), v (ix2 b p) = y → v (ix2 b P) = z →
      subf (F := Ideal) v (broadcastTo S16x512 (k0_pay16 (F := Ideal) v pos x) broadcasts_S16x1_S16x512) (ix2 b p) = y - z := by
    rintro v y z rfl rfl
    exact congrArg (v (ix2 b p) - ·) ((col_apply _ broadcasts_S16x1_S16x512 b p).trans (pay16_apply x b P hP v))
  have e0 := e _ _ _ (pts_apply X b p).1 (pts_apply X b P).1
  have e1 := e _ _ _ (pts_apply X b p).2.1 (pts_apply X b P).2.1
  have e2 := e _ _ _ (pts_apply X b p).2.2 (pts_apply X b P).2.2
  unfold dist k0_pay10 near1
  refine congrArg (min (d (ix2 b p))) ?_
  exact congr (congrArg HAdd.hAdd (congr (congrArg HAdd.hAdd (congrArg (fun t : EReal => t * t) e0)) (congrArg (fun t : EReal => t * t) e1))) (congrArg (fun t : EReal => t * t) e2)

theorem pay11_eq : k0_pay11 (F := Ideal) (pts0 X) (pts1 X) (pts2 X) (k0_pay16 (k0_pay1 (pts0 X)) pos x) (k0_pay17 (k0_pay2 (pts1 X)) pos x) (k0_pay18 (k0_pay3 (pts2 X)) pos x) d
    = dist X x d := by
  unfold k0_pay11
  rw [cast_self]

theorem pay12_apply (b : Fin 16) :
    k0_pay12 (F := Ideal) (pts0 X) (pts1 X) (pts2 X) (k0_pay16 (k0_pay1 (pts0 X)) pos x) (k0_pay17 (k0_pay2 (pts1 X)) pos x) (k0_pay18 (k0_pay3 (pts2 X)) pos x) d (ix2 b 0)
      = BitVec.ofNat 32 (far (n := 511) fun p => dist X x d (ix2 b p)).val := by
  unfold k0_pay12
  rw [cast_self]
  refine (shapeCast_a_a1_apply _ shapeCasts_S16_S16x1 b 0).trans ?_
  exact farthest_apply (n := 511) (dist X x d) iota_S16x512_d1_w32 reduces_S16x512_S16 (.inl rfl) rfl rfl shapeCasts_S16_S16x1 broadcasts_S16x1_S16x512 (by norm_num) b
end

end Cert.Fps128Ideal.Val

end
-- ==== Proof.Fps128Ref.lean ====
module

public import proofs.«01_k».proof.Proof.Fps128Val
public import proofs.«01_k».proof.Proof.HostOps
public import proofs.«01_k».proof.Proof.Query
public import proofs.«01_k».proof.Proof.Gen.RefFps128Ideal.Step
public import Idealize.ShloMosaic.Lib.Routing.OpsOne

@[expose] public section

set_option maxRecDepth 16384

noncomputable section

namespace Cert.RefFps128Ideal.Trip

open Cert.RefFps128Ideal Cert.RefFps128Ideal.Gen Cert.RefFps128Ideal.Step Idealize.ShloMosaic Idealize.ShloMosaic.ValueIdx Nearest KOps Farthest

/-! # One trip of the reference's selection, over the extended reals -/

section
variable (j : Fin 128) (s : State Ideal)

/-- The trip's place takes the next position. -/
theorem b9_apply (b : Fin 16) (q : Fin 128) :
    b9 j.val s (ix2 b q) = if q = j then s.main_v3_4 (ix1 b) else s.main_v3_5 (ix2 b q) := by
  unfold b9
  refine Routing.scatter_col scatter_S16x128_S1_S16_0_1_1_0 rfl rfl s.main_v3_5 (b8 j.val s) s.main_v3_4 j (by have := j.isLt; omega) ?_ b q
  exact wrap_small (by have := j.isLt; omega) _

variable (b : Fin 16) (P : Fin 512) (hP : s.main_v3_4 (ix1 b) = BitVec.ofNat 32 P.val)

include hP in
theorem b18_apply : b18 j.val s (ix3 b 0 0) = BitVec.ofNat 32 P.val := by
  have e : b10 j.val s (ix2 b 0) = BitVec.ofNat 32 P.val :=
    (congrArg s.main_v3_4 (funext fun a => Fin.ext (by match a with | ⟨0, _⟩ => rfl))).trans hP
  have e' : b17 j.val s (ix2 b 0) = BitVec.ofNat 32 P.val := by
    show Scalar.select (IntOp.cmpi .slt (b10 j.val s (ix2 b 0)) 0#32) (b16 j.val s (ix2 b 0)) (b10 j.val s (ix2 b 0)) = _
    rw [e]
    exact wrap_small (by have := P.isLt; omega) _
  exact (congrArg (b17 j.val s) (funext fun a => Fin.ext (by match a with | ⟨0, _⟩ => rfl | ⟨1, _⟩ => rfl))).trans e'

include hP in
/-- The point at the position that the word names. -/
theorem b19_apply (c : Fin 3) : b19 j.val s (ix3 b c 0) = s.main_v3_0 (ix3 b c P) := by
  unfold b19
  refine cols_apply gather_S16x3x512_S16x1x1_S16x3x1_1_2_0_0_2_2_131_wf s.main_v3_0 (b18 j.val s) b c 0 P ?_
  rw [b18_apply j s b P hP]
  exact toInt_small (by have := P.isLt; omega)

include hP in
theorem b21_apply (c : Fin 3) (p : Fin 512) : b21 j.val s (ix3 b c p) = s.main_v3_0 (ix3 b c p) - s.main_v3_0 (ix3 b c P) := by
  refine congrArg (s.main_v3_0 (ix3 b c p) - ·) ?_
  refine Eq.trans ?_ (b19_apply j s b P hP c)
  exact congrArg (b19 j.val s) (funext fun a => Fin.ext (by match a with | ⟨0, _⟩ => rfl | ⟨1, _⟩ => rfl | ⟨2, _⟩ => rfl))

include hP in
/-- The distances after one more point. -/
theorem b25_apply (p : Fin 512) :
    b25 j.val s (ix2 b p) = Cert.Fps128Ideal.Val.near1 s.main_v3_0 b P p (s.main_v3_3 (ix2 b p)) := by
  unfold Cert.Fps128Ideal.Val.near1
  refine congrArg (min (s.main_v3_3 (ix2 b p))) ?_
  unfold b24
  refine (sum3_apply (b22 j.val s) h_S_ (b23 j.val s) reducesTo_S16x3x512_S16x512_d1 (by decide) Ideal.ofBits_zero_f32 b p).trans ?_
  have e : ∀ c : Fin 3, b22 j.val s (ix3 b c p) = (s.main_v3_0 (ix3 b c p) - s.main_v3_0 (ix3 b c P)) * (s.main_v3_0 (ix3 b c p) - s.main_v3_0 (ix3 b c P)) :=
    fun c => congrArg (fun t : EReal => t * t) (b21_apply j s b P hP c p)
  rw [e 0, e 1, e 2]

/-- The next position is the first at which the distance is largest. -/
theorem b28_apply : b28 j.val s (ix1 b) = BitVec.ofNat 32 (far (n := 511) fun p => b25 j.val s (ix2 b p)).val := by
  unfold b28
  refine (shapeCast_apply (b27 j.val s) shapeCasts_S16x1_S16 (ix1 b) (ix2 b 0) ?_).trans ?_
  · revert b; decide
  · exact top_idx (n := 511) (b25 j.val s) sliceFits_S16x512_S16x1 b
end

/-- The chosen points, where every chosen word is a position. -/
theorem chosen_apply (s : State Ideal) (X : FVec Ideal S16x3x512 .f32) (b : Fin 16) (c : Fin 3) (q : Fin 128) (P : Fin 512)
    (hP : s.main_v3_5 (ix2 b q) = BitVec.ofNat 32 P.val) : R_main_v10 s X (ix3 b c q) = X (ix3 b c P) := by
  unfold R_main_v10
  refine cols_apply gather_S16x3x512_S16x128x1_S16x3x128_1_2_0_0_2_2_131_wf X _ b c q P ?_
  refine (congrArg BitVec.toInt (?_ : _ = BitVec.ofNat 32 P.val)).trans (toInt_small (by have := P.isLt; omega))
  refine Eq.trans (congrArg (select _ _ s.main_v3_5) (funext fun a => Fin.ext (by match a with | ⟨0, _⟩ => rfl | ⟨1, _⟩ => rfl) : _ = ix2 b q)) ?_
  show Scalar.select (IntOp.cmpi .slt (s.main_v3_5 (ix2 b q)) 0#32) _ (s.main_v3_5 (ix2 b q)) = _
  rw [hP]
  exact wrap_small (by have := P.isLt; omega) _

end Cert.RefFps128Ideal.Trip

end
-- ==== Proof.Fps128Eq.lean ====
module

public import proofs.«01_k».proof.Proof.Fps128Ref
public import proofs.«01_k».proof.Proof.Gen.Fps128Ideal.Value

@[expose] public section

set_option maxRecDepth 16384

noncomputable section

namespace Cert.Fps128Ideal.Eq

open Cert.Fps128Ideal Cert.Fps128Ideal.Gen Cert.Fps128Ideal.Loop Cert.Fps128Ideal.Val Idealize.ShloMosaic Idealize.ShloMosaic.TcCoe Idealize.ShloMosaic.ValueIdx Nearest KOps Farthest

/-! # The kernel's trips against the reference's -/

/-- After `k` trips the kernel's four buffers `S` hold what the reference's state `s` holds: the same distances, the same next
position, the same chosen positions, and beside these the points there. -/
structure Same (X : FVec Ideal S16x3x512 .f32) (k : ℕ) (S : St Ideal) (s : Cert.RefFps128Ideal.Step.State Ideal) : Prop where
  pts : s.main_v3_0 = X
  dist : ∀ b p, S.2.2.1 (ix2 b p) = s.main_v3_3 (ix2 b p)
  next : ∀ b : Fin 16, ∃ P : Fin 512, S.2.2.2 (ix2 b 0) = BitVec.ofNat 32 P.val ∧ s.main_v3_4 (ix1 b) = BitVec.ofNat 32 P.val
  idx : ∀ b q, S.1 (ix2 b q) = s.main_v3_5 (ix2 b q)
  chosen : ∀ (b : Fin 16) (q : Fin 128), q.val < k → ∃ P : Fin 512, S.1 (ix2 b q) = BitVec.ofNat 32 P.val ∧ ∀ c : Fin 3, S.2.1 (ix3 b c q) = X (ix3 b c P)

theorem row_apply (x : FVec Ideal S16x3x128 .f32) (b : Fin 16) (q : Fin 128) :
    row0 (F := Ideal) x (ix3 b 0 q) = x (ix3 b 0 q) ∧ row1 (F := Ideal) x (ix3 b 0 q) = x (ix3 b 1 q) ∧ row2 (F := Ideal) x (ix3 b 0 q) = x (ix3 b 2 q) :=
  ⟨window_apply x 0 inb_S16x3x128_S16x1x128_0_0_0 b 0 q, window_apply x 1 inb_S16x3x128_S16x1x128_0_1_0 b 0 q,
    window_apply x 2 inb_S16x3x128_S16x1x128_0_2_0 b 0 q⟩

section
variable (X : FVec Ideal S16x3x512 .f32) (k : Fin k0_t1_loop.trips) (K : Fin 128) (hK : k.val = K.val) (S : St Ideal)

/-- One trip of the kernel. -/
abbrev next : St Ideal := Loop.step (pts0 X) (pts1 X) (pts2 X) pos place k S

variable (b : Fin 16) (P : Fin 512) (hP : S.2.2.2 (ix2 b 0) = BitVec.ofNat 32 P.val)

include hK hP in
/-- One trip puts the point at the next position at the trip's place. -/
theorem next_points (c : Fin 3) (q : Fin 128) : (next X k S).2.1 (ix3 b c q) = if q = K then X (ix3 b c P) else S.2.1 (ix3 b c q) := by
  refine put3_apply S.2.1 _ _ _ (fun c => if q = K then X (ix3 b c P) else S.2.1 (ix3 b c q)) b q ?_ ?_ ?_ c
  · refine (pay19_apply k K hK S.2.2.2 b P hP _ _ q).trans ?_
    rw [(pts_apply X b P).1, (row_apply S.2.1 b q).1]
  · refine (pay20_apply k K hK S.2.2.2 b P hP _ _ q).trans ?_
    rw [(pts_apply X b P).2.1, (row_apply S.2.1 b q).2.1]
  · refine (pay9_apply k K hK S.2.2.2 b P hP _ _ q).trans ?_
    rw [(pts_apply X b P).2.2, (row_apply S.2.1 b q).2.2]

include hP in
theorem next_dist (p : Fin 512) : (next X k S).2.2.1 (ix2 b p) = near1 X b P p (S.2.2.1 (ix2 b p)) :=
  (congrFun (pay11_eq X S.2.2.2 S.2.2.1) (ix2 b p)).trans (dist_apply X S.2.2.2 S.2.2.1 b P hP p)
end

theorem same_step (X : FVec Ideal S16x3x512 .f32) (k : Fin k0_t1_loop.trips) (K : Fin 128) (hK : k.val = K.val) (S : St Ideal)
    (s : Cert.RefFps128Ideal.Step.State Ideal) (h : Same X K.val S s) : Same X (K.val + 1) (next X k S) (Cert.RefFps128Ideal.Step.step K.val s) := by
  have hd : ∀ b p, (next X k S).2.2.1 (ix2 b p) = Cert.RefFps128Ideal.Step.b25 K.val s (ix2 b p) := fun b p => by
    obtain ⟨P, h1, h2⟩ := h.next b
    rw [next_dist X k S b P h1 p, Cert.RefFps128Ideal.Trip.b25_apply K s b P h2 p, h.pts, h.dist b p]
  refine ⟨h.pts, hd, fun b => ?_, fun b q => ?_, fun b q hq => ?_⟩
  · refine ⟨_, pay12_apply X S.2.2.2 S.2.2.1 b, (Cert.RefFps128Ideal.Trip.b28_apply K s b).trans ?_⟩
    refine congrArg (fun f : Fin (511 + 1) → EReal => BitVec.ofNat 32 (far (n := 511) f).val) (funext fun p => ?_)
    exact (hd b p).symm.trans (congrFun (pay11_eq X S.2.2.2 S.2.2.1) (ix2 b p))
  · obtain ⟨P, h1, h2⟩ := h.next b
    refine (pay14_apply k K hK S.2.2.2 b S.1 q).trans (Eq.trans ?_ (Cert.RefFps128Ideal.Trip.b9_apply K s b q).symm)
    rw [h1, h2, h.idx b q]
  · obtain ⟨P, h1, h2⟩ := h.next b
    have e := pay14_apply k K hK S.2.2.2 b S.1 q
    have e' := fun c => next_points X k K hK S b P h1 c q
    by_cases hqK : q = K
    · exact ⟨P, e.trans ((if_pos hqK).trans h1), fun c => (e' c).trans (if_pos hqK)⟩
    · obtain ⟨Q, hQ, hc⟩ := h.chosen b q (by have : q.val ≠ K.val := fun t => hqK (Fin.ext t); omega)
      exact ⟨Q, e.trans ((if_neg hqK).trans hQ), fun c => (e' c).trans ((if_neg hqK).trans (hc c))⟩

theorem same_start (X : FVec Ideal S16x3x512 .f32) : Same X 0 start (Cert.RefFps128Ideal.Step.init X) := by
  refine ⟨rfl, fun b p => ?_, fun b => ⟨0, ?_, rfl⟩, fun b q => ?_, fun b q hq => absurd hq (Nat.not_lt_zero _)⟩
  · show k0_pay4 (F := Ideal) (ix2 b p) = _
    unfold k0_pay4
    rw [cast_self]
    rfl
  · show k0_pay5 (ix2 b 0) = _
    unfold k0_pay5
    rw [cast_self]
    rfl
  · unfold start k0_pay6
    rfl

/-- Through all the trips. -/
theorem same_all (X : FVec Ideal S16x3x512 .f32) (it : ℕ → Cert.RefFps128Ideal.Step.State Ideal) (h0 : it 0 = Cert.RefFps128Ideal.Step.init X)
    (hs : ∀ k, it (k + 1) = Cert.RefFps128Ideal.Step.step k (it k)) : ∀ k, k ≤ 128 → Same X k (at_ X k) (it k)
  | 0, _ => h0 ▸ same_start X
  | k + 1, hk => by
    have hk' : k < k0_t1_loop.trips := count.symm ▸ hk
    have e : at_ X (k + 1) = next X ⟨k, hk'⟩ (at_ X k) := dif_pos hk'
    rw [e, hs k]
    exact same_step X ⟨k, hk'⟩ ⟨k, hk⟩ rfl _ _ (same_all X it h0 hs k (Nat.le_of_succ_le hk))

section
variable (X : FVec Ideal S16x3x512 .f32) (s : Cert.RefFps128Ideal.Step.State Ideal) (S : St Ideal) (h : Same X 128 S s)
include h

theorem positions : S.1 = s.main_v3_5 := funext fun i => by
  rw [eq_ix2 i]
  exact h.idx (i 0) (i 1)

theorem points : S.2.1 = Cert.RefFps128Ideal.Step.R_main_v10 s X := funext fun i => by
  rw [eq_ix3 i]
  obtain ⟨P, hP, hc⟩ := h.chosen (i 0) (i 2) (i 2).isLt
  exact (hc (i 1)).trans (Cert.RefFps128Ideal.Trip.chosen_apply s X (i 0) (i 1) (i 2) P ((h.idx (i 0) (i 2)).symm.trans hP)).symm
end

variable (m : (ℓ : Loc nD τ sig) → Buf (Elt Ideal) ℓ)

theorem idx0 : ∀ t : Fin cfg0.N, ∀ a, win0_0.index t a = 0 := by decide +kernel
theorem idx1 : ∀ t : Fin cfg0.N, ∀ a, win0_1.index t a = 0 := by decide +kernel
theorem idx2 : ∀ t : Fin cfg0.N, ∀ a, win0_2.index t a = 0 := by decide +kernel

theorem emb0 (t : Fin cfg0.N) (j : S16x3x512.Idx) : ((cfg0.win 0).blk t).view.emb j = j := by
  funext a; apply Fin.ext
  show win0_0.index t a * _ + 1 * (j a).val = (j a).val
  rw [idx0]; omega

theorem emb1 (t : Fin cfg0.N) (j : S16x128.Idx) : ((cfg0.win 1).blk t).view.emb j = j := by
  funext a; apply Fin.ext
  show win0_1.index t a * _ + 1 * (j a).val = (j a).val
  rw [idx1]; omega

theorem emb2 (t : Fin cfg0.N) (j : S16x3x128.Idx) : ((cfg0.win 2).blk t).view.emb j = j := by
  funext a; apply Fin.ext
  show win0_2.index t a * _ + 1 * (j a).val = (j a).val
  rw [idx2]; omega

/-- The one point of the grid. -/
abbrev only : Fin cfg0.N := ⟨0, by decide⟩

theorem iblk0_eq (c : Dev nD) (t : Fin cfg0.N) : iblk m c 0 t = V m c main_arg0 := by
  funext j; show V m c main_arg0 (((cfg0.win 0).blk t).view.emb j) = _; rw [emb0]

theorem covered1 (i : S16x128.Idx) : ∃ t : Fin cfg0.N, (cfg0.win 1).flush t = true ∧ i ∈ ((cfg0.win 1).blk t).view.set :=
  ⟨only, flush0_1 _, by
    have h := ((cfg0.win 1).blk only).view.emb_mem_set i
    rw [emb1] at h
    exact h⟩

theorem covered2 (i : S16x3x128.Idx) : ∃ t : Fin cfg0.N, (cfg0.win 2).flush t = true ∧ i ∈ ((cfg0.win 2).blk t).view.set :=
  ⟨only, flush0_2 _, by
    have h := ((cfg0.win 2).blk only).view.emb_mem_set i
    rw [emb2] at h
    exact h⟩

theorem cut1_eq (t : Fin cfg0.N) (X Y : IVec S16x128 32) (h : X = Y) :
    (cfg0.win 1).cut (α := Elt Ideal .i32) (grid0.coords t) X = ((cfg0.win 1).blk t).view.read (Elt Ideal) Y := by
  subst h
  funext j
  exact (congrArg X (emb1 t j)).symm

theorem cut2_eq (t : Fin cfg0.N) (X Y : FVec Ideal S16x3x128 .f32) (h : X = Y) :
    (cfg0.win 2).cut (α := Elt Ideal .f32) (grid0.coords t) X = ((cfg0.win 2).blk t).view.read (Elt Ideal) Y := by
  subst h
  funext j
  exact (congrArg X (emb2 t j)).symm

/-- The first result is the chosen positions after the last trip. -/
theorem final1 (c : Dev nD) : (dats m 0 c).arrAt 1 cfg0.N = (at_ (V m c main_arg0) 128).1 := by
  refine (dats m 0 c).arrAt_eq_of_cover 1 _ (fun t _ => ?_) covered1
  rw [Cert.Fps128Ideal.Value.flushed1_A, iblk0_eq, out1]
  exact cut1_eq t _ _ rfl

/-- The second result is the points there. -/
theorem final2 (c : Dev nD) : (dats m 0 c).arrAt 2 cfg0.N = (at_ (V m c main_arg0) 128).2.1 := by
  refine (dats m 0 c).arrAt_eq_of_cover 2 _ (fun t _ => ?_) covered2
  rw [Cert.Fps128Ideal.Value.flushed2_A, iblk0_eq, out2]
  exact cut2_eq t _ _ rfl

end Cert.Fps128Ideal.Eq

end
-- ==== Proof.Fps128Iter.lean ====
module

public import proofs.«01_k».proof.Proof.Gen.RefFps128Ideal.Run
public import proofs.«01_k».proof.Proof.Gen.RefFps128Ideal.Step

@[expose] public section

set_option maxRecDepth 16384

noncomputable section

namespace Cert.RefFps128Ideal.Iter

open Idealize.ShloMosaic Idealize.ShloMosaic.TcCoe Idealize.SL.Sem Idealize.ShloMosaic.StableHlo
open Cert.RefFps128Ideal Cert.RefFps128Ideal.Gen Cert.RefFps128Ideal.Value Cert.RefFps128Ideal.Step

variable {F : FTy → Type} [FloatOps F]

/-! # The reference's loop as an iterated step -/

/-- The part of the buffers that a trip reads and writes, apart from the counters. -/
def part (V : Valuation τ sig (Elt F)) : State F where
  main_v3_3 := V (Proc.devRef .tc main_v3_3)
  main_v3_4 := V (Proc.devRef .tc main_v3_4)
  main_v3_5 := V (Proc.devRef .tc main_v3_5)
  main_v3_0 := V (Proc.devRef .tc main_v3_0)

section
variable (V : Valuation τ sig (Elt F)) (j : ℕ)

theorem far10 : res_main_while0b_v18 V = b10 j (part V) := rfl

theorem diff : res_main_while0b_v27 V = b21 j (part V) := by
  unfold res_main_while0b_v27
  rw [far10 V j]
  rfl

theorem dist : Value.step_main_v3_3 V = b25 j (part V) := by
  unfold Value.step_main_v3_3 res_main_while0b_v30
  rw [diff V j]
  rfl

theorem far : Value.step_main_v3_4 V = b28 j (part V) := by
  unfold Value.step_main_v3_4 res_main_while0b_v30
  rw [diff V j]
  rfl

theorem chosen (h : V (Proc.devRef .tc main_v3_2) = constantI S_ 32 (BitVec.ofNat 32 j)) : Value.step_main_v3_5 V = b9 j (part V) := by
  have e : ∀ (w : IVec S_ 32) (i : IVec S1 32), i = broadcastInDim S1 ![] bcast_S_S1 w → w = b7 j (part V) → i = b8 j (part V) := by
    rintro _ _ rfl rfl
    rfl
  have key : ∀ w : IVec S_ 32, w = constantI S_ 32 (BitVec.ofNat 32 j) →
      broadcastInDim S1 ![] bcast_S_S1 (id (select (cmpi .slt w (constantI S_ 32 0#32)) (addi w (constantI S_ 32 128#32)) w)) = b8 j (part V) := by
    rintro _ rfl
    refine e _ _ rfl ?_
    unfold b7 b6 b3 b5 b2 b4
    rfl
  have k := key _ h
  unfold Value.step_main_v3_5
  generalize broadcastInDim S1 ![] bcast_S_S1 (id (select (cmpi .slt (V (Proc.devRef .tc main_v3_2)) (constantI S_ 32 0#32)) (addi (V (Proc.devRef .tc main_v3_2)) (constantI S_ 32 128#32)) (V (Proc.devRef .tc main_v3_2)))) = i at k ⊢
  rw [k, id_eq]
  unfold b9
  generalize b8 j (part V) = a
  unfold part
  dsimp only
  generalize V (Proc.devRef .tc main_v3_5) = x
  generalize V (Proc.devRef .tc main_v3_4) = u
  exact rfl

theorem part_step (h : V (Proc.devRef .tc main_v3_2) = constantI S_ 32 (BitVec.ofNat 32 j)) : part (STEP V) = step j (part V) := by
  unfold part step
  rw [STEP_main_v3_3, STEP_main_v3_4, STEP_main_v3_5, STEP_main_v3_0, dist V j, far V j, chosen V j h]
  rfl

theorem part_idx : V (Proc.devRef .tc main_v3_5) = (part V).main_v3_5 := rfl

theorem part_out (x : (⟨S16x3x512, .f32⟩ : BufTy).Contents (Elt F)) (h : V (Proc.devRef .tc main_arg0) = x) :
    out_main_v10 V = R_main_v10 (part V) x := by
  unfold out_main_v10 R_main_v10
  rw [h]
  rfl

theorem count_step (h : V (Proc.devRef .tc main_v3_2) = constantI S_ 32 (BitVec.ofNat 32 j)) :
    STEP V (Proc.devRef .tc main_v3_2) = constantI S_ 32 (BitVec.ofNat 32 (j + 1)) := by
  rw [STEP_main_v3_2]
  unfold step_main_v3_2
  rw [h]
  funext i
  exact (BitVec.ofNat_add j 1).symm
end

variable (m : (ℓ : Loc nD τ sig) → Buf (Elt F) ℓ) (c : Dev nD)

/-- The buffers before trip `k`. -/
abbrev before (k : ℕ) : Valuation τ sig (Elt F) := STEP^[k] (entryContents preI m c)

theorem entry : (before m c 0) (Proc.devRef .tc main_v3_2) = constantI S_ 32 (BitVec.ofNat 32 0)
    ∧ part (before m c 0) = init (m ((c.tc : Thread nD τ).loc main_arg0)) := by
  have h3 : (before m c 0) (Proc.devRef .tc main_v3_3) = K_main_v0 (F := F) := by
    show entryContents preI m c (Proc.devRef .tc main_v3_3) = _
    simp only [entryContents, afterL_cons, afterL_nil]; after_reads_simp; rfl
  have h4 : (before m c 0) (Proc.devRef .tc main_v3_4) = K_main_v2 (F := F) := by
    show entryContents preI m c (Proc.devRef .tc main_v3_4) = _
    simp only [entryContents, afterL_cons, afterL_nil]; after_reads_simp; rfl
  have h5 : (before m c 0) (Proc.devRef .tc main_v3_5) = K_main_v1 (F := F) := by
    show entryContents preI m c (Proc.devRef .tc main_v3_5) = _
    simp only [entryContents, afterL_cons, afterL_nil]; after_reads_simp; rfl
  have h0 : (before m c 0) (Proc.devRef .tc main_v3_0) = m ((c.tc : Thread nD τ).loc main_arg0) := by
    show entryContents preI m c (Proc.devRef .tc main_v3_0) = _
    simp only [entryContents, afterL_cons, afterL_nil]; after_reads_simp; rfl
  have h2 : (before m c 0) (Proc.devRef .tc main_v3_2) = constantI S_ 32 (BitVec.ofNat 32 0) := by
    show entryContents preI m c (Proc.devRef .tc main_v3_2) = _
    simp only [entryContents, afterL_cons, afterL_nil]; after_reads_simp; rfl
  refine ⟨h2, ?_⟩
  unfold part init
  rw [h3, h4, h5, h0]

theorem count : ∀ k, (before m c k) (Proc.devRef .tc main_v3_2) = constantI S_ 32 (BitVec.ofNat 32 k)
  | 0 => (entry m c).1
  | k + 1 => by
    unfold before
    rw [Function.iterate_succ_apply']
    exact count_step _ k (count k)

/-- The state before trip `k`. -/
def it (k : ℕ) : State F := part (before m c k)

theorem it_zero : it m c 0 = init (m ((c.tc : Thread nD τ).loc main_arg0)) := (entry m c).2

theorem it_succ (k : ℕ) : it m c (k + 1) = step k (it m c k) := by
  unfold it before
  rw [Function.iterate_succ_apply']
  exact part_step _ k (count m c k)

/-- The reference ends with the chosen positions and the points there. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v3_5) = (it m c 128).main_v3_5
      ∧ r.2.mem ((c.tc : Thread nD τ).loc main_v10) = R_main_v10 (it m c 128) (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2.1.trans ?_, (h c).2.2⟩) (Cert.RefFps128Ideal.Value.run m ρ)
  · exact part_idx (before m c 128)
  · exact part_out (before m c 128) _ (iter_main_arg0 m c 128)

end Cert.RefFps128Ideal.Iter

end
-- ==== Proof.Fps128Claims.lean ====
module

public import proofs.«01_k».proof.Defs
public import proofs.«01_k».proof.Proof.Fps128Eq
public import proofs.«01_k».proof.Proof.Fps128Iter
public import proofs.«01_k».proof.Proof.Gen.Fps128.Frame
public import Idealize.ShloMosaic.Lib.Quiescent

@[expose] public section

set_option maxRecDepth 16384

noncomputable section

namespace Cert.Fps128Claims

open Idealize.ShloMosaic Idealize.ShloMosaic.TcCoe Idealize.SL.Sem

/-! # The claims about the selection of 128 points of 512 -/

/-- The reference runs, keeps its argument, and has no semaphore to leave raised. -/
theorem frame_ref : Cert.quiescent_RefFps128Ideal := fun m ρ _ =>
  (θ_run Cert.RefFps128Ideal.defs _ _).mono (fun r h => ⟨fun c => (h c).2.2, sem_eq_zero_of_no_sems rfl r.2⟩) (Cert.RefFps128Ideal.Iter.run m ρ)

/-- Nothing was rewritten. -/
theorem preserves : Cert.preserves_Fps128_Fps128Ideal := trivial

/-- From memories that agree on the points both programs end with the same positions and the same chosen points. -/
theorem algebraic : Cert.algebraic_Fps128Ideal_RefFps128Ideal := by
  intro m ρ m' ρ' _ hargs
  refine ⟨fun c => (Cert.RefFps128Ideal.Iter.it m' c 128).main_v3_5,
    fun c => Cert.RefFps128Ideal.Step.R_main_v10 (Cert.RefFps128Ideal.Iter.it m' c 128) (m' ((c.tc : Thread Cert.RefFps128Ideal.nD Cert.RefFps128Ideal.τ).loc Cert.RefFps128Ideal.main_arg0)), ?_,
    Cert.RefFps128Ideal.Iter.run m' ρ'⟩
  refine (θ_run Cert.Fps128Ideal.defs _ _).mono (fun r h c => ?_) (Cert.Fps128Ideal.Value.run_blocks m ρ)
  obtain ⟨h1, h2, hk⟩ := h c
  have hs := Cert.Fps128Ideal.Eq.same_all _ (Cert.RefFps128Ideal.Iter.it m' c) (Cert.RefFps128Ideal.Iter.it_zero m' c) (Cert.RefFps128Ideal.Iter.it_succ m' c) 128 le_rfl
  have f1 := Cert.Fps128Ideal.Eq.final1 m c
  have f2 := Cert.Fps128Ideal.Eq.final2 m c
  have a0 : Cert.Fps128Ideal.Gen.V m c Cert.Fps128Ideal.main_arg0 = m' ((c.tc : Thread Cert.RefFps128Ideal.nD Cert.RefFps128Ideal.τ).loc Cert.RefFps128Ideal.main_arg0) := (hargs c).symm
  rw [a0] at f1 f2
  exact ⟨h1.trans (f1.trans (Cert.Fps128Ideal.Eq.positions _ _ _ hs)), h2.trans (f2.trans (Cert.Fps128Ideal.Eq.points _ _ _ hs)), hk⟩

end Cert.Fps128Claims

end
-- ==== Proof.Fps512Loop.lean ====
module

public import proofs.«01_k».proof.Proof.Gen.Fps512Ideal.Value
public import proofs.«01_k».proof.Proof.LoopKit

@[expose] public section

set_option maxRecDepth 65536

noncomputable section

namespace Cert.Fps512Ideal.Loop

open Cert.Fps512Ideal Cert.Fps512Ideal.Gen Idealize.ShloMosaic Idealize.ShloMosaic.TcCoe Idealize.SL.Sem LoopKit

variable {F : FTy → Type} [FloatOps F]

/-- What the loop's four buffers hold: chosen positions, their coordinates, distances, the next position. -/
abbrev St (F : FTy → Type) : Type := Vec F S16x512 .i32 × Vec F S16x3x512 .f32 × Vec F S16x2048 .f32 × Vec F S16x1 .i32

/-- Row `r` of the chosen points' coordinates. -/
abbrev row0 (x : Vec F S16x3x512 .f32) : Vec F S16x1x512 .f32 := VecWindow.window x ![0, 0, 0] S16x1x512.size inb_S16x3x512_S16x1x512_0_0_0
abbrev row1 (x : Vec F S16x3x512 .f32) : Vec F S16x1x512 .f32 := VecWindow.window x ![0, 1, 0] S16x1x512.size inb_S16x3x512_S16x1x512_0_1_0
abbrev row2 (x : Vec F S16x3x512 .f32) : Vec F S16x1x512 .f32 := VecWindow.window x ![0, 2, 0] S16x1x512.size inb_S16x3x512_S16x1x512_0_2_0

/-- One trip on what the buffers hold. -/
def step (v0 v2 v4 : Vec F S16x1x2048 .f32) (v6 : IVec S16x2048 32) (v7 : IVec S16x512 32) (k : Fin k0_t1_loop.trips) (s : St F) : St F :=
  (k0_pay14 v7 0#32 1#32 k s.2.2.2 s.1,
    VecWindow.put (VecWindow.put (VecWindow.put s.2.1 ![0, 0, 0] S16x1x512.size (k0_pay19 (k0_pay1 v0) v6 v7 0#32 1#32 k s.2.2.2 (row0 s.2.1)))
      ![0, 1, 0] S16x1x512.size (k0_pay8 (k0_pay20 (k0_pay2 v2) v6 v7 0#32 1#32 k s.2.2.2 (row1 s.2.1))))
      ![0, 2, 0] S16x1x512.size (k0_pay9 (k0_pay13 v7 0#32 1#32 k) (k0_pay18 (k0_pay3 v4) v6 s.2.2.2) (row2 s.2.1)),
    k0_pay11 v0 v2 v4 (k0_pay16 (k0_pay1 v0) v6 s.2.2.2) (k0_pay17 (k0_pay2 v2) v6 s.2.2.2) (k0_pay18 (k0_pay3 v4) v6 s.2.2.2) s.2.2.1,
    k0_pay12 v0 v2 v4 (k0_pay16 (k0_pay1 v0) v6 s.2.2.2) (k0_pay17 (k0_pay2 v2) v6 s.2.2.2) (k0_pay18 (k0_pay3 v4) v6 s.2.2.2) s.2.2.1)

/-- The buffers after `k` trips. -/
def trips (v0 v2 v4 : Vec F S16x1x2048 .f32) (v6 : IVec S16x2048 32) (v7 : IVec S16x512 32) (s : St F) : ℕ → St F
  | 0 => s
  | k + 1 => if h : k < k0_t1_loop.trips then step v0 v2 v4 v6 v7 ⟨k, h⟩ (trips v0 v2 v4 v6 v7 s k) else trips v0 v2 v4 v6 v7 s k

section
variable (𝒱 : Variants) (c : Dev nD) (bd : Option 𝒱.V) (arg0 : Memref sig .tc .vmem S16x3x2048 .f32) (harg0 : arg0.IsWhole) (arg1 : Memref sig .tc .vmem S16x512 .i32) (harg1 : arg1.IsWhole)
  (arg2 : Memref sig .tc .vmem S16x3x512 .f32) (harg2 : arg2.IsWhole) (arg3 : Memref sig .tc .vmem S16x2048 .f32) (harg3 : arg3.IsWhole) (arg4 : Memref sig .tc .vmem S16x1 .i32) (harg4 : arg4.IsWhole)
  (v0 v2 v4 : Vec F S16x1x2048 .f32) (v6 : IVec S16x2048 32) (v7 : IVec S16x512 32)

/-- What the four buffers read as. -/
def rd (f1 : BufTy.Contents (Elt F) arg1.view.ty) (f2 : BufTy.Contents (Elt F) arg2.view.ty) (f3 : BufTy.Contents (Elt F) arg3.view.ty) (f4 : BufTy.Contents (Elt F) arg4.view.ty) : St F :=
  (arg1.view.read (Elt F) f1, arg2.view.read (Elt F) f2, arg3.view.read (Elt F) f3, arg4.view.read (Elt F) f4)

theorem trip_rd (k : Fin k0_t1_loop.trips) (f1 f2 f3 f4) :
    rd arg1 arg2 arg3 arg4
      (arg1.view.writes (Elt F) f1 ((trip_k0_t1 (F := F) 𝒱 c bd arg0 harg0 arg1 harg1 arg2 harg2 arg3 harg3 arg4 harg4 v0 v2 v4 v6 v7 k).1 f1 f2 f3 f4))
      (arg2.view.writes (Elt F) f2 ((trip_k0_t1 (F := F) 𝒱 c bd arg0 harg0 arg1 harg1 arg2 harg2 arg3 harg3 arg4 harg4 v0 v2 v4 v6 v7 k).2.1 f1 f2 f3 f4))
      (arg3.view.writes (Elt F) f3 ((trip_k0_t1 (F := F) 𝒱 c bd arg0 harg0 arg1 harg1 arg2 harg2 arg3 harg3 arg4 harg4 v0 v2 v4 v6 v7 k).2.2.1 f1 f2 f3 f4))
      (arg4.view.writes (Elt F) f4 ((trip_k0_t1 (F := F) 𝒱 c bd arg0 harg0 arg1 harg1 arg2 harg2 arg3 harg3 arg4 harg4 v0 v2 v4 v6 v7 k).2.2.2.1 f1 f2 f3 f4))
      = step v0 v2 v4 v6 v7 k (rd arg1 arg2 arg3 arg4 f1 f2 f3 f4) := by
  unfold trip_k0_t1 rd step
  dsimp only
  sl_unfold_words
  refine Prod.ext ?_ (Prod.ext ?_ (Prod.ext ?_ ?_))
  · refine (View.read_writes_full _ _ _ _ _).trans ?_
    exact congrArg₂ (k0_pay14 v7 0#32 1#32 k) (View.readAt_full arg4.view f4 _) (View.readAt_full arg1.view f1 _)
  · refine (read_three (s := S16x3x512) arg2.view f2 _ _ _ _ _ _).trans ?_
    have e : ∀ (x : Vec F S16x3x512 .f32) (a a' b b' d d' : Vec F S16x1x512 .f32), a = a' → b = b' → d = d' →
        VecWindow.put (VecWindow.put (VecWindow.put x ![0, 0, 0] S16x1x512.size a) ![0, 1, 0] S16x1x512.size b) ![0, 2, 0] S16x1x512.size d
          = VecWindow.put (VecWindow.put (VecWindow.put x ![0, 0, 0] S16x1x512.size a') ![0, 1, 0] S16x1x512.size b') ![0, 2, 0] S16x1x512.size d' := by
      rintro x a _ b _ d _ rfl rfl rfl; rfl
    refine e _ _ _ _ _ _ _ ?_ ?_ ?_
    · exact congrArg₂ (k0_pay19 (k0_pay1 v0) v6 v7 0#32 1#32 k) (View.readAt_full arg4.view f4 _) (View.readAt_unit arg2.view f2 _ rfl _)
    · exact congrArg k0_pay8 (congrArg₂ (k0_pay20 (k0_pay2 v2) v6 v7 0#32 1#32 k) (View.readAt_full arg4.view f4 _) (View.readAt_unit arg2.view f2 _ rfl _))
    · exact congrArg₂ (k0_pay9 (k0_pay13 v7 0#32 1#32 k)) (congrArg (k0_pay18 (k0_pay3 v4) v6) (View.readAt_full arg4.view f4 _)) (View.readAt_unit arg2.view f2 _ rfl _)
  · refine (View.read_writes_full _ _ _ _ _).trans ?_
    exact congrArg₂ (fun x y => k0_pay11 v0 v2 v4 (k0_pay16 (k0_pay1 v0) v6 x) (k0_pay17 (k0_pay2 v2) v6 x) (k0_pay18 (k0_pay3 v4) v6 x) y) (View.readAt_full arg4.view f4 _) (View.readAt_full arg3.view f3 _)
  · refine (View.read_writes_full _ _ _ _ _).trans ?_
    exact congrArg₂ (fun x y => k0_pay12 v0 v2 v4 (k0_pay16 (k0_pay1 v0) v6 x) (k0_pay17 (k0_pay2 v2) v6 x) (k0_pay18 (k0_pay3 v4) v6 x) y) (View.readAt_full arg4.view f4 _) (View.readAt_full arg3.view f3 _)

/-- After `k` trips the buffers read as `k` steps from what they read at entry. -/
theorem loop_rd (G1 G2 G3 G4) (k : ℕ) (hk : k ≤ k0_t1_loop.trips) :
    rd arg1 arg2 arg3 arg4
      (arg1.view.writes (Elt F) G1 (pb_k0_t1 (F := F) 𝒱 c bd arg0 harg0 arg1 harg1 arg2 harg2 arg3 harg3 arg4 harg4 v0 v2 v4 v6 v7 G1 G2 G3 G4 k).1)
      (arg2.view.writes (Elt F) G2 (pb_k0_t1 (F := F) 𝒱 c bd arg0 harg0 arg1 harg1 arg2 harg2 arg3 harg3 arg4 harg4 v0 v2 v4 v6 v7 G1 G2 G3 G4 k).2.1)
      (arg3.view.writes (Elt F) G3 (pb_k0_t1 (F := F) 𝒱 c bd arg0 harg0 arg1 harg1 arg2 harg2 arg3 harg3 arg4 harg4 v0 v2 v4 v6 v7 G1 G2 G3 G4 k).2.2.1)
      (arg4.view.writes (Elt F) G4 (pb_k0_t1 (F := F) 𝒱 c bd arg0 harg0 arg1 harg1 arg2 harg2 arg3 harg3 arg4 harg4 v0 v2 v4 v6 v7 G1 G2 G3 G4 k).2.2.2)
      = trips v0 v2 v4 v6 v7 (rd arg1 arg2 arg3 arg4 G1 G2 G3 G4) k := by
  induction k with
  | zero => rfl
  | succ k ih =>
    rw [trips, dif_pos (show k < k0_t1_loop.trips by omega), ← ih (by omega)]
    rw [pb_k0_t1_succ 𝒱 c bd arg0 harg0 arg1 harg1 arg2 harg2 arg3 harg3 arg4 harg4 v0 v2 v4 v6 v7 G1 G2 G3 G4 ⟨k, by omega⟩]
    dsimp only
    rw [View.writes_append, View.writes_append, View.writes_append, View.writes_append]
    exact trip_rd 𝒱 c bd arg0 harg0 arg1 harg1 arg2 harg2 arg3 harg3 arg4 harg4 v0 v2 v4 v6 v7 ⟨k, by omega⟩ _ _ _ _
theorem loop1 (G1 G2 G3 G4) (k : ℕ) (hk : k ≤ k0_t1_loop.trips) :
    arg1.view.read (Elt F) (arg1.view.writes (Elt F) G1 (pb_k0_t1 (F := F) 𝒱 c bd arg0 harg0 arg1 harg1 arg2 harg2 arg3 harg3 arg4 harg4 v0 v2 v4 v6 v7 G1 G2 G3 G4 k).1)
      = (trips v0 v2 v4 v6 v7 (rd arg1 arg2 arg3 arg4 G1 G2 G3 G4) k).1 :=
  congrArg (fun s : St F => s.1) (loop_rd 𝒱 c bd arg0 harg0 arg1 harg1 arg2 harg2 arg3 harg3 arg4 harg4 v0 v2 v4 v6 v7 G1 G2 G3 G4 k hk)

theorem loop2 (G1 G2 G3 G4) (k : ℕ) (hk : k ≤ k0_t1_loop.trips) :
    arg2.view.read (Elt F) (arg2.view.writes (Elt F) G2 (pb_k0_t1 (F := F) 𝒱 c bd arg0 harg0 arg1 harg1 arg2 harg2 arg3 harg3 arg4 harg4 v0 v2 v4 v6 v7 G1 G2 G3 G4 k).2.1)
      = (trips v0 v2 v4 v6 v7 (rd arg1 arg2 arg3 arg4 G1 G2 G3 G4) k).2.1 :=
  congrArg (fun s : St F => s.2.1) (loop_rd 𝒱 c bd arg0 harg0 arg1 harg1 arg2 harg2 arg3 harg3 arg4 harg4 v0 v2 v4 v6 v7 G1 G2 G3 G4 k hk)
end

/-- One coordinate of all the points. -/
abbrev pts0 (x : Vec F S16x3x2048 .f32) : Vec F S16x1x2048 .f32 := VecWindow.window x ![0, 0, 0] S16x1x2048.size inb_S16x3x2048_S16x1x2048_0_0_0
abbrev pts1 (x : Vec F S16x3x2048 .f32) : Vec F S16x1x2048 .f32 := VecWindow.window x ![0, 1, 0] S16x1x2048.size inb_S16x3x2048_S16x1x2048_0_1_0
abbrev pts2 (x : Vec F S16x3x2048 .f32) : Vec F S16x1x2048 .f32 := VecWindow.window x ![0, 2, 0] S16x1x2048.size inb_S16x3x2048_S16x1x2048_0_2_0

/-- The four buffers before the loop. -/
def start : St F := (k0_pay6, k0_pay7, k0_pay4, k0_pay5)

/-- The four buffers after `k` trips, from the points. -/
def at_ (x0 : Vec F S16x3x2048 .f32) (k : ℕ) : St F :=
  trips (pts0 x0) (pts1 x0) (pts2 x0) (iota .tc S16x2048 32 [1] iota_S16x2048_d1_w32) (iota .tc S16x512 32 [1] iota_S16x512_d1_w32) start k

section
variable (c : Dev nD) (arg0 : Memref sig .tc .vmem S16x3x2048 .f32) (harg0 : arg0.IsWhole) (arg1 : Memref sig .tc .vmem S16x512 .i32) (harg1 : arg1.IsWhole)
  (arg2 : Memref sig .tc .vmem S16x3x512 .f32) (harg2 : arg2.IsWhole) (arg3 : Memref sig .tc .vmem S16x2048 .f32) (harg3 : arg3.IsWhole) (arg4 : Memref sig .tc .vmem S16x1 .i32) (harg4 : arg4.IsWhole)
  (x0 : Vec F S16x3x2048 .f32)

theorem count : k0_t1_loop.trips = 512 := by decide

theorem count' : Scf.trips (0#32) (Scalar.addi 0#32 512#32) 1#32 = 512 := by decide

/-- The first result: the chosen positions. -/
theorem out1 : out0_A_1 c arg0 harg0 arg1 harg1 arg2 harg2 arg3 harg3 arg4 harg4 x0 = (at_ x0 512).1 := by
  unfold out0_A_1
  rw [View.read_writes_eq_canon _ _ _ (cover0_A_1 c arg0 harg0 arg1 harg1 arg2 harg2 arg3 harg3 arg4 harg4 x0), ← View.read_writes_eq_canon arg1.view arg1.view.junk _ (cover0_A_1 c arg0 harg0 arg1 harg1 arg2 harg2 arg3 harg3 arg4 harg4 x0)]
  unfold kernelRun0_A
  dsimp only
  sl_unfold_words
  rw [View.writes_append, count']
  have key : ∀ (w0 w2 w4 : Vec F S16x1x2048 .f32) (w6 : IVec S16x2048 32) (w7 : IVec S16x512 32) (G1 G2 G3 G4),
      arg1.view.read (Elt F) (arg1.view.writes (Elt F) G1 (pb_k0_t1 (F := F) .none c none arg0 harg0 arg1 harg1 arg2 harg2 arg3 harg3 arg4 harg4 w0 w2 w4 w6 w7 G1 G2 G3 G4 512).1)
        = (trips w0 w2 w4 w6 w7 (rd arg1 arg2 arg3 arg4 G1 G2 G3 G4) 512).1 := fun w0 w2 w4 w6 w7 G1 G2 G3 G4 =>
    loop1 .none c none arg0 harg0 arg1 harg1 arg2 harg2 arg3 harg3 arg4 harg4 w0 w2 w4 w6 w7 G1 G2 G3 G4 512 (le_of_eq count.symm)
  rw [key]
  unfold at_ start rd
  rw [View.read_writes_full (s := S16x512), View.read_writes_full (s := S16x3x512), View.read_writes_full (s := S16x2048), View.read_writes_full (s := S16x1)]
  have hx : arg0.view.read (Elt F) (harg0.unread x0) = x0 := harg0.read_unread x0
  refine congrArg (fun s : St F => s.1) ?_
  have e : ∀ (w0 w0' w2 w2' w4 w4' : Vec F S16x1x2048 .f32) (w6 : IVec S16x2048 32) (w7 : IVec S16x512 32) (s : St F) (k : ℕ), w0 = w0' → w2 = w2' → w4 = w4' →
      trips w0 w2 w4 w6 w7 s k = trips w0' w2' w4' w6 w7 s k := by
    rintro w0 _ w2 _ w4 _ w6 w7 s k rfl rfl rfl; rfl
  refine e _ _ _ _ _ _ _ _ _ _ ?_ ?_ ?_
  all_goals
    refine (View.readAt_unit arg0.view _ _ rfl _).trans ?_
    rw [hx]

/-- The second result: their coordinates. -/
theorem out2 : out0_A_2 c arg0 harg0 arg1 harg1 arg2 harg2 arg3 harg3 arg4 harg4 x0 = (at_ x0 512).2.1 := by
  unfold out0_A_2
  rw [View.read_writes_eq_canon _ _ _ (cover0_A_2 c arg0 harg0 arg1 harg1 arg2 harg2 arg3 harg3 arg4 harg4 x0), ← View.read_writes_eq_canon arg2.view arg2.view.junk _ (cover0_A_2 c arg0 harg0 arg1 harg1 arg2 harg2 arg3 harg3 arg4 harg4 x0)]
  unfold kernelRun0_A
  dsimp only
  sl_unfold_words
  rw [View.writes_append, count']
  have key : ∀ (w0 w2 w4 : Vec F S16x1x2048 .f32) (w6 : IVec S16x2048 32) (w7 : IVec S16x512 32) (G1 G2 G3 G4),
      arg2.view.read (Elt F) (arg2.view.writes (Elt F) G2 (pb_k0_t1 (F := F) .none c none arg0 harg0 arg1 harg1 arg2 harg2 arg3 harg3 arg4 harg4 w0 w2 w4 w6 w7 G1 G2 G3 G4 512).2.1)
        = (trips w0 w2 w4 w6 w7 (rd arg1 arg2 arg3 arg4 G1 G2 G3 G4) 512).2.1 := fun w0 w2 w4 w6 w7 G1 G2 G3 G4 =>
    loop2 .none c none arg0 harg0 arg1 harg1 arg2 harg2 arg3 harg3 arg4 harg4 w0 w2 w4 w6 w7 G1 G2 G3 G4 512 (le_of_eq count.symm)
  rw [key]
  unfold at_ start rd
  rw [View.read_writes_full (s := S16x512), View.read_writes_full (s := S16x3x512), View.read_writes_full (s := S16x2048), View.read_writes_full (s := S16x1)]
  have hx : arg0.view.read (Elt F) (harg0.unread x0) = x0 := harg0.read_unread x0
  refine congrArg (fun s : St F => s.2.1) ?_
  have e : ∀ (w0 w0' w2 w2' w4 w4' : Vec F S16x1x2048 .f32) (w6 : IVec S16x2048 32) (w7 : IVec S16x512 32) (s : St F) (k : ℕ), w0 = w0' → w2 = w2' → w4 = w4' →
      trips w0 w2 w4 w6 w7 s k = trips w0' w2' w4' w6 w7 s k := by
    rintro w0 _ w2 _ w4 _ w6 w7 s k rfl rfl rfl; rfl
  refine e _ _ _ _ _ _ _ _ _ _ ?_ ?_ ?_
  all_goals
    refine (View.readAt_unit arg0.view _ _ rfl _).trans ?_
    rw [hx]

end

end Cert.Fps512Ideal.Loop

end
-- ==== Proof.Fps512Val.lean ====
module

public import proofs.«01_k».proof.Proof.Fps512Loop
public import proofs.«01_k».proof.Proof.Rows

@[expose] public section

set_option maxRecDepth 65536

noncomputable section

namespace Cert.Fps512Ideal.Val

open Cert.Fps512Ideal Cert.Fps512Ideal.Gen Cert.Fps512Ideal.Loop Idealize.ShloMosaic Idealize.ShloMosaic.ValueIdx Nearest KOps Farthest

/-! # One trip of the farthest-point selection, over the extended reals -/

/-- The positions, one row for every batch. -/
abbrev pos : IVec S16x2048 32 := iota .tc S16x2048 32 [1] iota_S16x2048_d1_w32
/-- The places of the chosen points, one row for every batch. -/
abbrev place : IVec S16x512 32 := iota .tc S16x512 32 [1] iota_S16x512_d1_w32

theorem trip_word (k : Fin k0_t1_loop.trips) : Scf.iv 0#32 1#32 k = BitVec.ofNat 32 k.val := by
  simp [Scf.iv]

section
variable (k : Fin k0_t1_loop.trips) (K : Fin 512) (hK : k.val = K.val) (x : IVec S16x1 32) (b : Fin 16)

include hK in
theorem pay13_eq : k0_pay13 place 0#32 1#32 k = cmpi .eq place (broadcast S16x512 (BitVec.ofNat 32 K.val)) := by
  unfold k0_pay13
  rw [trip_word, hK]

include hK in
/-- The trip's place takes the next position. -/
theorem pay14_apply (old : IVec S16x512 32) (q : Fin 512) :
    k0_pay14 (F := Ideal) place 0#32 1#32 k x old (ix2 b q) = if q = K then x (ix2 b 0) else old (ix2 b q) := by
  unfold k0_pay14
  rw [cast_self, cast_self, pay13_eq k K hK]
  exact setcol_apply iota_S16x512_d1_w32 x old broadcasts_S16x1_S16x512 (by norm_num) K b q

variable (P : Fin 2048) (hP : x (ix2 b 0) = BitVec.ofNat 32 P.val)
include hP

/-- The coordinate at the position that the word names. -/
theorem pay16_apply (v : FVec Ideal S16x2048 .f32) : k0_pay16 (F := Ideal) v pos x (ix2 b 0) = v (ix2 b P) := by
  unfold k0_pay16 k0_pay15
  refine (shapeCast_a_a1_apply _ shapeCasts_S16_S16x1 b 0).trans ?_
  exact entry_apply v x iota_S16x2048_d1_w32 reduces_S16x2048_S16 (.inl rfl) rfl natLt_1_32 broadcasts_S16x1_S16x2048 (by norm_num) b P hP

theorem pay17_apply (v : FVec Ideal S16x2048 .f32) : k0_pay17 (F := Ideal) v pos x (ix2 b 0) = v (ix2 b P) := pay16_apply x b P hP v
theorem pay18_apply (v : FVec Ideal S16x2048 .f32) : k0_pay18 (F := Ideal) v pos x (ix2 b 0) = v (ix2 b P) := pay16_apply x b P hP v

include hK

theorem pay19_apply (v : FVec Ideal S16x2048 .f32) (old : FVec Ideal S16x1x512 .f32) (q : Fin 512) :
    k0_pay19 (F := Ideal) v pos place 0#32 1#32 k x old (ix3 b 0 q) = if q = K then v (ix2 b P) else old (ix3 b 0 q) := by
  unfold k0_pay19
  refine (add_apply _ shapeCasts_S16x512_S16x1x512 b 0 q).trans ?_
  rw [cast_self, pay13_eq k K hK]
  refine (setcol_apply iota_S16x512_d1_w32 _ _ broadcasts_S16x1_S16x512 (by norm_num) K b q).trans ?_
  rw [pay16_apply x b P hP, drop_apply old shapeCasts_S16x1x512_S16x512 b q]

theorem pay20_apply (v : FVec Ideal S16x2048 .f32) (old : FVec Ideal S16x1x512 .f32) (q : Fin 512) :
    k0_pay8 (F := Ideal) (k0_pay20 (F := Ideal) v pos place 0#32 1#32 k x old) (ix3 b 0 q) = if q = K then v (ix2 b P) else old (ix3 b 0 q) :=
  pay19_apply k K hK x b P hP v old q

theorem pay9_apply (v : FVec Ideal S16x2048 .f32) (old : FVec Ideal S16x1x512 .f32) (q : Fin 512) :
    k0_pay9 (F := Ideal) (k0_pay13 place 0#32 1#32 k) (k0_pay18 (F := Ideal) v pos x) old (ix3 b 0 q) = if q = K then v (ix2 b P) else old (ix3 b 0 q) :=
  pay19_apply k K hK x b P hP v old q
end

/-- A coordinate of the points, row by row. -/
theorem pts_apply (X : FVec Ideal S16x3x2048 .f32) (b : Fin 16) (p : Fin 2048) :
    k0_pay1 (F := Ideal) (pts0 X) (ix2 b p) = X (ix3 b 0 p) ∧ k0_pay2 (F := Ideal) (pts1 X) (ix2 b p) = X (ix3 b 1 p)
      ∧ k0_pay3 (F := Ideal) (pts2 X) (ix2 b p) = X (ix3 b 2 p) := by
  refine ⟨?_, ?_, ?_⟩
  · unfold k0_pay1 pts0
    exact (drop_apply _ shapeCasts_S16x1x2048_S16x2048 b p).trans (window_apply X 0 inb_S16x3x2048_S16x1x2048_0_0_0 b 0 p)
  · unfold k0_pay2 pts1
    exact (drop_apply _ shapeCasts_S16x1x2048_S16x2048 b p).trans (window_apply X 1 inb_S16x3x2048_S16x1x2048_0_1_0 b 0 p)
  · unfold k0_pay3 pts2
    exact (drop_apply _ shapeCasts_S16x1x2048_S16x2048 b p).trans (window_apply X 2 inb_S16x3x2048_S16x1x2048_0_2_0 b 0 p)

/-- The distance to the points chosen so far, one more chosen at `P`. -/
def near1 (X : FVec Ideal S16x3x2048 .f32) (b : Fin 16) (P p : Fin 2048) (d : EReal) : EReal :=
  min d ((X (ix3 b 0 p) - X (ix3 b 0 P)) * (X (ix3 b 0 p) - X (ix3 b 0 P)) + (X (ix3 b 1 p) - X (ix3 b 1 P)) * (X (ix3 b 1 p) - X (ix3 b 1 P))
    + (X (ix3 b 2 p) - X (ix3 b 2 P)) * (X (ix3 b 2 p) - X (ix3 b 2 P)))

section
variable (X : FVec Ideal S16x3x2048 .f32) (x : IVec S16x1 32) (d : FVec Ideal S16x2048 .f32)

/-- The distances after one more point. -/
abbrev dist : FVec Ideal S16x2048 .f32 :=
  k0_pay10 (F := Ideal) (pts0 X) (pts1 X) (pts2 X) (k0_pay16 (k0_pay1 (pts0 X)) pos x) (k0_pay17 (k0_pay2 (pts1 X)) pos x) (k0_pay18 (k0_pay3 (pts2 X)) pos x) d

theorem dist_apply (b : Fin 16) (P : Fin 2048) (hP : x (ix2 b 0) = BitVec.ofNat 32 P.val) (p : Fin 2048) :
    dist X x d (ix2 b p) = near1 X b P p (d (ix2 b p)) := by
  have e : ∀ (v : FVec Ideal S16x2048 .f32) (y z : EReal), v (ix2 b p) = y → v (ix2 b P) = z →
      subf (F := Ideal) v (broadcastTo S16x2048 (k0_pay16 (F := Ideal) v pos x) broadcasts_S16x1_S16x2048) (ix2 b p) = y - z := by
    rintro v y z rfl rfl
    exact congrArg (v (ix2 b p) - ·) ((col_apply _ broadcasts_S16x1_S16x2048 b p).trans (pay16_apply x b P hP v))
  have e0 := e _ _ _ (pts_apply X b p).1 (pts_apply X b P).1
  have e1 := e _ _ _ (pts_apply X b p).2.1 (pts_apply X b P).2.1
  have e2 := e _ _ _ (pts_apply X b p).2.2 (pts_apply X b P).2.2
  unfold dist k0_pay10 near1
  refine congrArg (min (d (ix2 b p))) ?_
  exact congr (congrArg HAdd.hAdd (congr (congrArg HAdd.hAdd (congrArg (fun t : EReal => t * t) e0)) (congrArg (fun t : EReal => t * t) e1))) (congrArg (fun t : EReal => t * t) e2)

theorem pay11_eq : k0_pay11 (F := Ideal) (pts0 X) (pts1 X) (pts2 X) (k0_pay16 (k0_pay1 (pts0 X)) pos x) (k0_pay17 (k0_pay2 (pts1 X)) pos x) (k0_pay18 (k0_pay3 (pts2 X)) pos x) d
    = dist X x d := by
  unfold k0_pay11
  rw [cast_self]

theorem pay12_apply (b : Fin 16) :
    k0_pay12 (F := Ideal) (pts0 X) (pts1 X) (pts2 X) (k0_pay16 (k0_pay1 (pts0 X)) pos x) (k0_pay17 (k0_pay2 (pts1 X)) pos x) (k0_pay18 (k0_pay3 (pts2 X)) pos x) d (ix2 b 0)
      = BitVec.ofNat 32 (far (n := 2047) fun p => dist X x d (ix2 b p)).val := by
  unfold k0_pay12
  rw [cast_self]
  refine (shapeCast_a_a1_apply _ shapeCasts_S16_S16x1 b 0).trans ?_
  exact farthest_apply (n := 2047) (dist X x d) iota_S16x2048_d1_w32 reduces_S16x2048_S16 (.inl rfl) rfl rfl shapeCasts_S16_S16x1 broadcasts_S16x1_S16x2048 (by norm_num) b
end

end Cert.Fps512Ideal.Val

end
-- ==== Proof.Fps512Ref.lean ====
module

public import proofs.«01_k».proof.Proof.Fps512Val
public import proofs.«01_k».proof.Proof.HostOps
public import proofs.«01_k».proof.Proof.Query
public import proofs.«01_k».proof.Proof.Gen.RefFps512Ideal.Step
public import Idealize.ShloMosaic.Lib.Routing.OpsOne

@[expose] public section

set_option maxRecDepth 65536

noncomputable section

namespace Cert.RefFps512Ideal.Trip

open Cert.RefFps512Ideal Cert.RefFps512Ideal.Gen Cert.RefFps512Ideal.Step Idealize.ShloMosaic Idealize.ShloMosaic.ValueIdx Nearest KOps Farthest

/-! # One trip of the reference's selection, over the extended reals -/

section
variable (j : Fin 512) (s : State Ideal)

/-- The trip's place takes the next position. -/
theorem b9_apply (b : Fin 16) (q : Fin 512) :
    b9 j.val s (ix2 b q) = if q = j then s.main_v3_4 (ix1 b) else s.main_v3_5 (ix2 b q) := by
  unfold b9
  refine Routing.scatter_col scatter_S16x512_S1_S16_0_1_1_0 rfl rfl s.main_v3_5 (b8 j.val s) s.main_v3_4 j (by have := j.isLt; omega) ?_ b q
  exact wrap_small (by have := j.isLt; omega) _

variable (b : Fin 16) (P : Fin 2048) (hP : s.main_v3_4 (ix1 b) = BitVec.ofNat 32 P.val)

include hP in
theorem b18_apply : b18 j.val s (ix3 b 0 0) = BitVec.ofNat 32 P.val := by
  have e : b10 j.val s (ix2 b 0) = BitVec.ofNat 32 P.val :=
    (congrArg s.main_v3_4 (funext fun a => Fin.ext (by match a with | ⟨0, _⟩ => rfl))).trans hP
  have e' : b17 j.val s (ix2 b 0) = BitVec.ofNat 32 P.val := by
    show Scalar.select (IntOp.cmpi .slt (b10 j.val s (ix2 b 0)) 0#32) (b16 j.val s (ix2 b 0)) (b10 j.val s (ix2 b 0)) = _
    rw [e]
    exact wrap_small (by have := P.isLt; omega) _
  exact (congrArg (b17 j.val s) (funext fun a => Fin.ext (by match a with | ⟨0, _⟩ => rfl | ⟨1, _⟩ => rfl))).trans e'

include hP in
/-- The point at the position that the word names. -/
theorem b19_apply (c : Fin 3) : b19 j.val s (ix3 b c 0) = s.main_v3_0 (ix3 b c P) := by
  unfold b19
  refine cols_apply gather_S16x3x2048_S16x1x1_S16x3x1_1_2_0_0_2_2_131_wf s.main_v3_0 (b18 j.val s) b c 0 P ?_
  rw [b18_apply j s b P hP]
  exact toInt_small (by have := P.isLt; omega)

include hP in
theorem b21_apply (c : Fin 3) (p : Fin 2048) : b21 j.val s (ix3 b c p) = s.main_v3_0 (ix3 b c p) - s.main_v3_0 (ix3 b c P) := by
  refine congrArg (s.main_v3_0 (ix3 b c p) - ·) ?_
  refine Eq.trans ?_ (b19_apply j s b P hP c)
  exact congrArg (b19 j.val s) (funext fun a => Fin.ext (by match a with | ⟨0, _⟩ => rfl | ⟨1, _⟩ => rfl | ⟨2, _⟩ => rfl))

include hP in
/-- The distances after one more point. -/
theorem b25_apply (p : Fin 2048) :
    b25 j.val s (ix2 b p) = Cert.Fps512Ideal.Val.near1 s.main_v3_0 b P p (s.main_v3_3 (ix2 b p)) := by
  unfold Cert.Fps512Ideal.Val.near1
  refine congrArg (min (s.main_v3_3 (ix2 b p))) ?_
  unfold b24
  refine (sum3_apply (b22 j.val s) h_S_ (b23 j.val s) reducesTo_S16x3x2048_S16x2048_d1 (by decide) Ideal.ofBits_zero_f32 b p).trans ?_
  have e : ∀ c : Fin 3, b22 j.val s (ix3 b c p) = (s.main_v3_0 (ix3 b c p) - s.main_v3_0 (ix3 b c P)) * (s.main_v3_0 (ix3 b c p) - s.main_v3_0 (ix3 b c P)) :=
    fun c => congrArg (fun t : EReal => t * t) (b21_apply j s b P hP c p)
  rw [e 0, e 1, e 2]

/-- The next position is the first at which the distance is largest. -/
theorem b28_apply : b28 j.val s (ix1 b) = BitVec.ofNat 32 (far (n := 2047) fun p => b25 j.val s (ix2 b p)).val := by
  unfold b28
  refine (shapeCast_apply (b27 j.val s) shapeCasts_S16x1_S16 (ix1 b) (ix2 b 0) ?_).trans ?_
  · revert b; decide
  · exact top_idx (n := 2047) (b25 j.val s) sliceFits_S16x2048_S16x1 b
end

/-- The chosen points, where every chosen word is a position. -/
theorem chosen_apply (s : State Ideal) (X : FVec Ideal S16x3x2048 .f32) (b : Fin 16) (c : Fin 3) (q : Fin 512) (P : Fin 2048)
    (hP : s.main_v3_5 (ix2 b q) = BitVec.ofNat 32 P.val) : R_main_v10 s X (ix3 b c q) = X (ix3 b c P) := by
  unfold R_main_v10
  refine cols_apply gather_S16x3x2048_S16x512x1_S16x3x512_1_2_0_0_2_2_131_wf X _ b c q P ?_
  refine (congrArg BitVec.toInt (?_ : _ = BitVec.ofNat 32 P.val)).trans (toInt_small (by have := P.isLt; omega))
  refine Eq.trans (congrArg (select _ _ s.main_v3_5) (funext fun a => Fin.ext (by match a with | ⟨0, _⟩ => rfl | ⟨1, _⟩ => rfl) : _ = ix2 b q)) ?_
  show Scalar.select (IntOp.cmpi .slt (s.main_v3_5 (ix2 b q)) 0#32) _ (s.main_v3_5 (ix2 b q)) = _
  rw [hP]
  exact wrap_small (by have := P.isLt; omega) _

end Cert.RefFps512Ideal.Trip

end
-- ==== Proof.Fps512Eq.lean ====
module

public import proofs.«01_k».proof.Proof.Fps512Ref
public import proofs.«01_k».proof.Proof.Gen.Fps512Ideal.Value

@[expose] public section

set_option maxRecDepth 65536

noncomputable section

namespace Cert.Fps512Ideal.Eq

open Cert.Fps512Ideal Cert.Fps512Ideal.Gen Cert.Fps512Ideal.Loop Cert.Fps512Ideal.Val Idealize.ShloMosaic Idealize.ShloMosaic.TcCoe Idealize.ShloMosaic.ValueIdx Nearest KOps Farthest

/-! # The kernel's trips against the reference's -/

/-- After `k` trips the kernel's four buffers `S` hold what the reference's state `s` holds: the same distances, the same next
position, the same chosen positions, and beside these the points there. -/
structure Same (X : FVec Ideal S16x3x2048 .f32) (k : ℕ) (S : St Ideal) (s : Cert.RefFps512Ideal.Step.State Ideal) : Prop where
  pts : s.main_v3_0 = X
  dist : ∀ b p, S.2.2.1 (ix2 b p) = s.main_v3_3 (ix2 b p)
  next : ∀ b : Fin 16, ∃ P : Fin 2048, S.2.2.2 (ix2 b 0) = BitVec.ofNat 32 P.val ∧ s.main_v3_4 (ix1 b) = BitVec.ofNat 32 P.val
  idx : ∀ b q, S.1 (ix2 b q) = s.main_v3_5 (ix2 b q)
  chosen : ∀ (b : Fin 16) (q : Fin 512), q.val < k → ∃ P : Fin 2048, S.1 (ix2 b q) = BitVec.ofNat 32 P.val ∧ ∀ c : Fin 3, S.2.1 (ix3 b c q) = X (ix3 b c P)

theorem row_apply (x : FVec Ideal S16x3x512 .f32) (b : Fin 16) (q : Fin 512) :
    row0 (F := Ideal) x (ix3 b 0 q) = x (ix3 b 0 q) ∧ row1 (F := Ideal) x (ix3 b 0 q) = x (ix3 b 1 q) ∧ row2 (F := Ideal) x (ix3 b 0 q) = x (ix3 b 2 q) :=
  ⟨window_apply x 0 inb_S16x3x512_S16x1x512_0_0_0 b 0 q, window_apply x 1 inb_S16x3x512_S16x1x512_0_1_0 b 0 q,
    window_apply x 2 inb_S16x3x512_S16x1x512_0_2_0 b 0 q⟩

section
variable (X : FVec Ideal S16x3x2048 .f32) (k : Fin k0_t1_loop.trips) (K : Fin 512) (hK : k.val = K.val) (S : St Ideal)

/-- One trip of the kernel. -/
abbrev next : St Ideal := Loop.step (pts0 X) (pts1 X) (pts2 X) pos place k S

variable (b : Fin 16) (P : Fin 2048) (hP : S.2.2.2 (ix2 b 0) = BitVec.ofNat 32 P.val)

include hK hP in
/-- One trip puts the point at the next position at the trip's place. -/
theorem next_points (c : Fin 3) (q : Fin 512) : (next X k S).2.1 (ix3 b c q) = if q = K then X (ix3 b c P) else S.2.1 (ix3 b c q) := by
  refine put3_apply S.2.1 _ _ _ (fun c => if q = K then X (ix3 b c P) else S.2.1 (ix3 b c q)) b q ?_ ?_ ?_ c
  · refine (pay19_apply k K hK S.2.2.2 b P hP _ _ q).trans ?_
    rw [(pts_apply X b P).1, (row_apply S.2.1 b q).1]
  · refine (pay20_apply k K hK S.2.2.2 b P hP _ _ q).trans ?_
    rw [(pts_apply X b P).2.1, (row_apply S.2.1 b q).2.1]
  · refine (pay9_apply k K hK S.2.2.2 b P hP _ _ q).trans ?_
    rw [(pts_apply X b P).2.2, (row_apply S.2.1 b q).2.2]

include hP in
theorem next_dist (p : Fin 2048) : (next X k S).2.2.1 (ix2 b p) = near1 X b P p (S.2.2.1 (ix2 b p)) :=
  (congrFun (pay11_eq X S.2.2.2 S.2.2.1) (ix2 b p)).trans (dist_apply X S.2.2.2 S.2.2.1 b P hP p)
end

theorem same_step (X : FVec Ideal S16x3x2048 .f32) (k : Fin k0_t1_loop.trips) (K : Fin 512) (hK : k.val = K.val) (S : St Ideal)
    (s : Cert.RefFps512Ideal.Step.State Ideal) (h : Same X K.val S s) : Same X (K.val + 1) (next X k S) (Cert.RefFps512Ideal.Step.step K.val s) := by
  have hd : ∀ b p, (next X k S).2.2.1 (ix2 b p) = Cert.RefFps512Ideal.Step.b25 K.val s (ix2 b p) := fun b p => by
    obtain ⟨P, h1, h2⟩ := h.next b
    rw [next_dist X k S b P h1 p, Cert.RefFps512Ideal.Trip.b25_apply K s b P h2 p, h.pts, h.dist b p]
  refine ⟨h.pts, hd, fun b => ?_, fun b q => ?_, fun b q hq => ?_⟩
  · refine ⟨_, pay12_apply X S.2.2.2 S.2.2.1 b, (Cert.RefFps512Ideal.Trip.b28_apply K s b).trans ?_⟩
    refine congrArg (fun f : Fin (2047 + 1) → EReal => BitVec.ofNat 32 (far (n := 2047) f).val) (funext fun p => ?_)
    exact (hd b p).symm.trans (congrFun (pay11_eq X S.2.2.2 S.2.2.1) (ix2 b p))
  · obtain ⟨P, h1, h2⟩ := h.next b
    refine (pay14_apply k K hK S.2.2.2 b S.1 q).trans (Eq.trans ?_ (Cert.RefFps512Ideal.Trip.b9_apply K s b q).symm)
    rw [h1, h2, h.idx b q]
  · obtain ⟨P, h1, h2⟩ := h.next b
    have e := pay14_apply k K hK S.2.2.2 b S.1 q
    have e' := fun c => next_points X k K hK S b P h1 c q
    by_cases hqK : q = K
    · exact ⟨P, e.trans ((if_pos hqK).trans h1), fun c => (e' c).trans (if_pos hqK)⟩
    · obtain ⟨Q, hQ, hc⟩ := h.chosen b q (by have : q.val ≠ K.val := fun t => hqK (Fin.ext t); omega)
      exact ⟨Q, e.trans ((if_neg hqK).trans hQ), fun c => (e' c).trans ((if_neg hqK).trans (hc c))⟩

theorem same_start (X : FVec Ideal S16x3x2048 .f32) : Same X 0 start (Cert.RefFps512Ideal.Step.init X) := by
  refine ⟨rfl, fun b p => ?_, fun b => ⟨0, ?_, rfl⟩, fun b q => ?_, fun b q hq => absurd hq (Nat.not_lt_zero _)⟩
  · show k0_pay4 (F := Ideal) (ix2 b p) = _
    unfold k0_pay4
    rw [cast_self]
    rfl
  · show k0_pay5 (ix2 b 0) = _
    unfold k0_pay5
    rw [cast_self]
    rfl
  · unfold start k0_pay6
    rfl

/-- Through all the trips. -/
theorem same_all (X : FVec Ideal S16x3x2048 .f32) (it : ℕ → Cert.RefFps512Ideal.Step.State Ideal) (h0 : it 0 = Cert.RefFps512Ideal.Step.init X)
    (hs : ∀ k, it (k + 1) = Cert.RefFps512Ideal.Step.step k (it k)) : ∀ k, k ≤ 512 → Same X k (at_ X k) (it k)
  | 0, _ => h0 ▸ same_start X
  | k + 1, hk => by
    have hk' : k < k0_t1_loop.trips := count.symm ▸ hk
    have e : at_ X (k + 1) = next X ⟨k, hk'⟩ (at_ X k) := dif_pos hk'
    rw [e, hs k]
    exact same_step X ⟨k, hk'⟩ ⟨k, hk⟩ rfl _ _ (same_all X it h0 hs k (Nat.le_of_succ_le hk))

section
variable (X : FVec Ideal S16x3x2048 .f32) (s : Cert.RefFps512Ideal.Step.State Ideal) (S : St Ideal) (h : Same X 512 S s)
include h

theorem positions : S.1 = s.main_v3_5 := funext fun i => by
  rw [eq_ix2 i]
  exact h.idx (i 0) (i 1)

theorem points : S.2.1 = Cert.RefFps512Ideal.Step.R_main_v10 s X := funext fun i => by
  rw [eq_ix3 i]
  obtain ⟨P, hP, hc⟩ := h.chosen (i 0) (i 2) (i 2).isLt
  exact (hc (i 1)).trans (Cert.RefFps512Ideal.Trip.chosen_apply s X (i 0) (i 1) (i 2) P ((h.idx (i 0) (i 2)).symm.trans hP)).symm
end

variable (m : (ℓ : Loc nD τ sig) → Buf (Elt Ideal) ℓ)

theorem idx0 : ∀ t : Fin cfg0.N, ∀ a, win0_0.index t a = 0 := by decide +kernel
theorem idx1 : ∀ t : Fin cfg0.N, ∀ a, win0_1.index t a = 0 := by decide +kernel
theorem idx2 : ∀ t : Fin cfg0.N, ∀ a, win0_2.index t a = 0 := by decide +kernel

theorem emb0 (t : Fin cfg0.N) (j : S16x3x2048.Idx) : ((cfg0.win 0).blk t).view.emb j = j := by
  funext a; apply Fin.ext
  show win0_0.index t a * _ + 1 * (j a).val = (j a).val
  rw [idx0]; omega

theorem emb1 (t : Fin cfg0.N) (j : S16x512.Idx) : ((cfg0.win 1).blk t).view.emb j = j := by
  funext a; apply Fin.ext
  show win0_1.index t a * _ + 1 * (j a).val = (j a).val
  rw [idx1]; omega

theorem emb2 (t : Fin cfg0.N) (j : S16x3x512.Idx) : ((cfg0.win 2).blk t).view.emb j = j := by
  funext a; apply Fin.ext
  show win0_2.index t a * _ + 1 * (j a).val = (j a).val
  rw [idx2]; omega

/-- The one point of the grid. -/
abbrev only : Fin cfg0.N := ⟨0, by decide⟩

theorem iblk0_eq (c : Dev nD) (t : Fin cfg0.N) : iblk m c 0 t = V m c main_arg0 := by
  funext j; show V m c main_arg0 (((cfg0.win 0).blk t).view.emb j) = _; rw [emb0]

theorem covered1 (i : S16x512.Idx) : ∃ t : Fin cfg0.N, (cfg0.win 1).flush t = true ∧ i ∈ ((cfg0.win 1).blk t).view.set :=
  ⟨only, flush0_1 _, by
    have h := ((cfg0.win 1).blk only).view.emb_mem_set i
    rw [emb1] at h
    exact h⟩

theorem covered2 (i : S16x3x512.Idx) : ∃ t : Fin cfg0.N, (cfg0.win 2).flush t = true ∧ i ∈ ((cfg0.win 2).blk t).view.set :=
  ⟨only, flush0_2 _, by
    have h := ((cfg0.win 2).blk only).view.emb_mem_set i
    rw [emb2] at h
    exact h⟩

theorem cut1_eq (t : Fin cfg0.N) (X Y : IVec S16x512 32) (h : X = Y) :
    (cfg0.win 1).cut (α := Elt Ideal .i32) (grid0.coords t) X = ((cfg0.win 1).blk t).view.read (Elt Ideal) Y := by
  subst h
  funext j
  exact (congrArg X (emb1 t j)).symm

theorem cut2_eq (t : Fin cfg0.N) (X Y : FVec Ideal S16x3x512 .f32) (h : X = Y) :
    (cfg0.win 2).cut (α := Elt Ideal .f32) (grid0.coords t) X = ((cfg0.win 2).blk t).view.read (Elt Ideal) Y := by
  subst h
  funext j
  exact (congrArg X (emb2 t j)).symm

/-- The first result is the chosen positions after the last trip. -/
theorem final1 (c : Dev nD) : (dats m 0 c).arrAt 1 cfg0.N = (at_ (V m c main_arg0) 512).1 := by
  refine (dats m 0 c).arrAt_eq_of_cover 1 _ (fun t _ => ?_) covered1
  rw [Cert.Fps512Ideal.Value.flushed1_A, iblk0_eq, out1]
  exact cut1_eq t _ _ rfl

/-- The second result is the points there. -/
theorem final2 (c : Dev nD) : (dats m 0 c).arrAt 2 cfg0.N = (at_ (V m c main_arg0) 512).2.1 := by
  refine (dats m 0 c).arrAt_eq_of_cover 2 _ (fun t _ => ?_) covered2
  rw [Cert.Fps512Ideal.Value.flushed2_A, iblk0_eq, out2]
  exact cut2_eq t _ _ rfl

end Cert.Fps512Ideal.Eq

end
-- ==== Proof.Fps512Iter.lean ====
module

public import proofs.«01_k».proof.Proof.Gen.RefFps512Ideal.Run
public import proofs.«01_k».proof.Proof.Gen.RefFps512Ideal.Step

@[expose] public section

set_option maxRecDepth 65536

noncomputable section

namespace Cert.RefFps512Ideal.Iter

open Idealize.ShloMosaic Idealize.ShloMosaic.TcCoe Idealize.SL.Sem Idealize.ShloMosaic.StableHlo
open Cert.RefFps512Ideal Cert.RefFps512Ideal.Gen Cert.RefFps512Ideal.Value Cert.RefFps512Ideal.Step

variable {F : FTy → Type} [FloatOps F]

/-! # The reference's loop as an iterated step -/

/-- The part of the buffers that a trip reads and writes, apart from the counters. -/
def part (V : Valuation τ sig (Elt F)) : State F where
  main_v3_3 := V (Proc.devRef .tc main_v3_3)
  main_v3_4 := V (Proc.devRef .tc main_v3_4)
  main_v3_5 := V (Proc.devRef .tc main_v3_5)
  main_v3_0 := V (Proc.devRef .tc main_v3_0)

section
variable (V : Valuation τ sig (Elt F)) (j : ℕ)

theorem far10 : res_main_while0b_v18 V = b10 j (part V) := rfl

theorem diff : res_main_while0b_v27 V = b21 j (part V) := by
  unfold res_main_while0b_v27
  rw [far10 V j]
  rfl

theorem dist : Value.step_main_v3_3 V = b25 j (part V) := by
  unfold Value.step_main_v3_3 res_main_while0b_v30
  rw [diff V j]
  rfl

theorem far : Value.step_main_v3_4 V = b28 j (part V) := by
  unfold Value.step_main_v3_4 res_main_while0b_v30
  rw [diff V j]
  rfl

theorem chosen (h : V (Proc.devRef .tc main_v3_2) = constantI S_ 32 (BitVec.ofNat 32 j)) : Value.step_main_v3_5 V = b9 j (part V) := by
  have e : ∀ (w : IVec S_ 32) (i : IVec S1 32), i = broadcastInDim S1 ![] bcast_S_S1 w → w = b7 j (part V) → i = b8 j (part V) := by
    rintro _ _ rfl rfl
    rfl
  have key : ∀ w : IVec S_ 32, w = constantI S_ 32 (BitVec.ofNat 32 j) →
      broadcastInDim S1 ![] bcast_S_S1 (id (select (cmpi .slt w (constantI S_ 32 0#32)) (addi w (constantI S_ 32 512#32)) w)) = b8 j (part V) := by
    rintro _ rfl
    refine e _ _ rfl ?_
    unfold b7 b6 b3 b5 b2 b4
    rfl
  have k := key _ h
  unfold Value.step_main_v3_5
  generalize broadcastInDim S1 ![] bcast_S_S1 (id (select (cmpi .slt (V (Proc.devRef .tc main_v3_2)) (constantI S_ 32 0#32)) (addi (V (Proc.devRef .tc main_v3_2)) (constantI S_ 32 512#32)) (V (Proc.devRef .tc main_v3_2)))) = i at k ⊢
  rw [k, id_eq]
  unfold b9
  generalize b8 j (part V) = a
  unfold part
  dsimp only
  generalize V (Proc.devRef .tc main_v3_5) = x
  generalize V (Proc.devRef .tc main_v3_4) = u
  exact rfl

theorem part_step (h : V (Proc.devRef .tc main_v3_2) = constantI S_ 32 (BitVec.ofNat 32 j)) : part (STEP V) = step j (part V) := by
  unfold part step
  rw [STEP_main_v3_3, STEP_main_v3_4, STEP_main_v3_5, STEP_main_v3_0, dist V j, far V j, chosen V j h]
  rfl

theorem part_idx : V (Proc.devRef .tc main_v3_5) = (part V).main_v3_5 := rfl

theorem part_out (x : (⟨S16x3x2048, .f32⟩ : BufTy).Contents (Elt F)) (h : V (Proc.devRef .tc main_arg0) = x) :
    out_main_v10 V = R_main_v10 (part V) x := by
  unfold out_main_v10 R_main_v10
  rw [h]
  rfl

theorem count_step (h : V (Proc.devRef .tc main_v3_2) = constantI S_ 32 (BitVec.ofNat 32 j)) :
    STEP V (Proc.devRef .tc main_v3_2) = constantI S_ 32 (BitVec.ofNat 32 (j + 1)) := by
  rw [STEP_main_v3_2]
  unfold step_main_v3_2
  rw [h]
  funext i
  exact (BitVec.ofNat_add j 1).symm
end

variable (m : (ℓ : Loc nD τ sig) → Buf (Elt F) ℓ) (c : Dev nD)

/-- The buffers before trip `k`. -/
abbrev before (k : ℕ) : Valuation τ sig (Elt F) := STEP^[k] (entryContents preI m c)

theorem entry : (before m c 0) (Proc.devRef .tc main_v3_2) = constantI S_ 32 (BitVec.ofNat 32 0)
    ∧ part (before m c 0) = init (m ((c.tc : Thread nD τ).loc main_arg0)) := by
  have h3 : (before m c 0) (Proc.devRef .tc main_v3_3) = K_main_v0 (F := F) := by
    show entryContents preI m c (Proc.devRef .tc main_v3_3) = _
    simp only [entryContents, afterL_cons, afterL_nil]; after_reads_simp; rfl
  have h4 : (before m c 0) (Proc.devRef .tc main_v3_4) = K_main_v2 (F := F) := by
    show entryContents preI m c (Proc.devRef .tc main_v3_4) = _
    simp only [entryContents, afterL_cons, afterL_nil]; after_reads_simp; rfl
  have h5 : (before m c 0) (Proc.devRef .tc main_v3_5) = K_main_v1 (F := F) := by
    show entryContents preI m c (Proc.devRef .tc main_v3_5) = _
    simp only [entryContents, afterL_cons, afterL_nil]; after_reads_simp; rfl
  have h0 : (before m c 0) (Proc.devRef .tc main_v3_0) = m ((c.tc : Thread nD τ).loc main_arg0) := by
    show entryContents preI m c (Proc.devRef .tc main_v3_0) = _
    simp only [entryContents, afterL_cons, afterL_nil]; after_reads_simp; rfl
  have h2 : (before m c 0) (Proc.devRef .tc main_v3_2) = constantI S_ 32 (BitVec.ofNat 32 0) := by
    show entryContents preI m c (Proc.devRef .tc main_v3_2) = _
    simp only [entryContents, afterL_cons, afterL_nil]; after_reads_simp; rfl
  refine ⟨h2, ?_⟩
  unfold part init
  rw [h3, h4, h5, h0]

theorem count : ∀ k, (before m c k) (Proc.devRef .tc main_v3_2) = constantI S_ 32 (BitVec.ofNat 32 k)
  | 0 => (entry m c).1
  | k + 1 => by
    unfold before
    rw [Function.iterate_succ_apply']
    exact count_step _ k (count k)

/-- The state before trip `k`. -/
def it (k : ℕ) : State F := part (before m c k)

theorem it_zero : it m c 0 = init (m ((c.tc : Thread nD τ).loc main_arg0)) := (entry m c).2

theorem it_succ (k : ℕ) : it m c (k + 1) = step k (it m c k) := by
  unfold it before
  rw [Function.iterate_succ_apply']
  exact part_step _ k (count m c k)

/-- The reference ends with the chosen positions and the points there. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v3_5) = (it m c 512).main_v3_5
      ∧ r.2.mem ((c.tc : Thread nD τ).loc main_v10) = R_main_v10 (it m c 512) (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2.1.trans ?_, (h c).2.2⟩) (Cert.RefFps512Ideal.Value.run m ρ)
  · exact part_idx (before m c 512)
  · exact part_out (before m c 512) _ (iter_main_arg0 m c 512)

end Cert.RefFps512Ideal.Iter

end
-- ==== Proof.Fps512Claims.lean ====
module

public import proofs.«01_k».proof.Defs
public import proofs.«01_k».proof.Proof.Fps512Eq
public import proofs.«01_k».proof.Proof.Fps512Iter
public import proofs.«01_k».proof.Proof.Gen.Fps512.Frame
public import Idealize.ShloMosaic.Lib.Quiescent

@[expose] public section

set_option maxRecDepth 65536

noncomputable section

namespace Cert.Fps512Claims

open Idealize.ShloMosaic Idealize.ShloMosaic.TcCoe Idealize.SL.Sem

/-! # The claims about the selection of 512 points of 2048 -/

/-- The reference runs, keeps its argument, and has no semaphore to leave raised. -/
theorem frame_ref : Cert.quiescent_RefFps512Ideal := fun m ρ _ =>
  (θ_run Cert.RefFps512Ideal.defs _ _).mono (fun r h => ⟨fun c => (h c).2.2, sem_eq_zero_of_no_sems rfl r.2⟩) (Cert.RefFps512Ideal.Iter.run m ρ)

/-- Nothing was rewritten. -/
theorem preserves : Cert.preserves_Fps512_Fps512Ideal := trivial

/-- From memories that agree on the points both programs end with the same positions and the same chosen points. -/
theorem algebraic : Cert.algebraic_Fps512Ideal_RefFps512Ideal := by
  intro m ρ m' ρ' _ hargs
  refine ⟨fun c => (Cert.RefFps512Ideal.Iter.it m' c 512).main_v3_5,
    fun c => Cert.RefFps512Ideal.Step.R_main_v10 (Cert.RefFps512Ideal.Iter.it m' c 512) (m' ((c.tc : Thread Cert.RefFps512Ideal.nD Cert.RefFps512Ideal.τ).loc Cert.RefFps512Ideal.main_arg0)), ?_,
    Cert.RefFps512Ideal.Iter.run m' ρ'⟩
  refine (θ_run Cert.Fps512Ideal.defs _ _).mono (fun r h c => ?_) (Cert.Fps512Ideal.Value.run_blocks m ρ)
  obtain ⟨h1, h2, hk⟩ := h c
  have hs := Cert.Fps512Ideal.Eq.same_all _ (Cert.RefFps512Ideal.Iter.it m' c) (Cert.RefFps512Ideal.Iter.it_zero m' c) (Cert.RefFps512Ideal.Iter.it_succ m' c) 512 le_rfl
  have f1 := Cert.Fps512Ideal.Eq.final1 m c
  have f2 := Cert.Fps512Ideal.Eq.final2 m c
  have a0 : Cert.Fps512Ideal.Gen.V m c Cert.Fps512Ideal.main_arg0 = m' ((c.tc : Thread Cert.RefFps512Ideal.nD Cert.RefFps512Ideal.τ).loc Cert.RefFps512Ideal.main_arg0) := (hargs c).symm
  rw [a0] at f1 f2
  exact ⟨h1.trans (f1.trans (Cert.Fps512Ideal.Eq.positions _ _ _ hs)), h2.trans (f2.trans (Cert.Fps512Ideal.Eq.points _ _ _ hs)), hk⟩

end Cert.Fps512Claims

end
-- ==== Proof.SelfLoop.lean ====
module

public import proofs.«01_k».proof.Proof.Gen.StageSelfIdeal.Value
public import proofs.«01_k».proof.Proof.LoopKit

@[expose] public section

set_option maxRecDepth 16384

noncomputable section

namespace Cert.StageSelfIdeal.Loop

open Cert.StageSelfIdeal Cert.StageSelfIdeal.Gen Idealize.ShloMosaic Idealize.ShloMosaic.TcCoe Idealize.SL.Sem LoopKit

variable {F : FTy → Type} [FloatOps F] [Named F]

section
variable (𝒱 : Variants) (c : Dev nD) (bd : Option 𝒱.V) (i : grid0.Coords) (arg1 : Memref sig .tc .vmem S1x3x512 .f32) (harg1 : arg1.IsWhole) (arg2 : Memref sig .tc .vmem S1x64x512 .f32) (harg2 : arg2.IsWhole) (arg3 : Memref sig .tc .vmem S64x128 .f32) (harg3 : arg3.IsWhole) (arg4 : Memref sig .tc .vmem S1x64x512 .f32) (harg4 : arg4.IsWhole) (arg5 : Memref sig .tc .vmem S1x4x2 .f32) (harg5 : arg5.IsWhole) (arg6 : Memref sig .tc .vmem S512x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (v3 : FVec F S64x512 .f32) (v19 : Vec F S64x128 .f32) (v31 : FVec F S64x512 .f32) (v35 : IVec S512x512 32)

/-- What the loop's four buffers hold: masked distances, running maximum, running sum, running sum of squares. -/
abbrev St (F : FTy → Type) : Type := Vec F S512x512 .f32 × Vec F S64x512 .f32 × Vec F S64x512 .f32 × Vec F S64x512 .f32

/-- One trip on what the buffers hold. -/
def step (v3 : FVec F S64x512 .f32) (v19 : Vec F S64x128 .f32) (v35 : IVec S512x512 32) (s : St F) : St F :=
  (k0_pay3 v35 s.1, k0_pay5 v3 v19 v35 (k0_pay14 v3) s.1 s.2.1, k0_pay6 v3 v19 v35 (k0_pay14 v3) s.1 s.2.2.1,
    k0_pay15 (k0_pay7 v3 v19 v35 (k0_pay14 v3) s.1 s.2.2.2))

/-- What the four buffers read as. -/
def rd (f6 : BufTy.Contents (Elt F) arg6.view.ty) (f7 : BufTy.Contents (Elt F) arg7.view.ty) (f8 : BufTy.Contents (Elt F) arg8.view.ty) (f9 : BufTy.Contents (Elt F) arg9.view.ty) : St F :=
  (arg6.view.read (Elt F) f6, arg7.view.read (Elt F) f7, arg8.view.read (Elt F) f8, arg9.view.read (Elt F) f9)

theorem trip_rd (k : Fin k0_t1_loop.trips) (f6 f7 f8 f9) :
    rd arg6 arg7 arg8 arg9
      (arg6.view.writes (Elt F) f6 ((trip_k0_t1 (F := F) 𝒱 c bd i arg1 harg1 arg2 harg2 arg3 harg3 arg4 harg4 arg5 harg5 arg6 harg6 arg7 harg7 arg8 harg8 arg9 harg9 v3 v19 v31 v35 k).1 f6 f7 f8 f9))
      (arg7.view.writes (Elt F) f7 ((trip_k0_t1 (F := F) 𝒱 c bd i arg1 harg1 arg2 harg2 arg3 harg3 arg4 harg4 arg5 harg5 arg6 harg6 arg7 harg7 arg8 harg8 arg9 harg9 v3 v19 v31 v35 k).2.1 f6 f7 f8 f9))
      (arg8.view.writes (Elt F) f8 ((trip_k0_t1 (F := F) 𝒱 c bd i arg1 harg1 arg2 harg2 arg3 harg3 arg4 harg4 arg5 harg5 arg6 harg6 arg7 harg7 arg8 harg8 arg9 harg9 v3 v19 v31 v35 k).2.2.1 f6 f7 f8 f9))
      (arg9.view.writes (Elt F) f9 ((trip_k0_t1 (F := F) 𝒱 c bd i arg1 harg1 arg2 harg2 arg3 harg3 arg4 harg4 arg5 harg5 arg6 harg6 arg7 harg7 arg8 harg8 arg9 harg9 v3 v19 v31 v35 k).2.2.2.1 f6 f7 f8 f9))
      = step v3 v19 v35 (rd arg6 arg7 arg8 arg9 f6 f7 f8 f9) := by
  unfold trip_k0_t1 rd step
  dsimp only
  sl_unfold_words
  refine Prod.ext ?_ (Prod.ext ?_ (Prod.ext ?_ ?_))
  all_goals
    refine (View.read_writes_full _ _ _ _ _).trans ?_
  · exact congrArg (k0_pay3 v35) (View.readAt_full arg6.view f6 _)
  · exact congrArg₂ (k0_pay5 v3 v19 v35 (k0_pay14 v3)) (View.readAt_full arg6.view f6 _) (View.readAt_full arg7.view f7 _)
  · exact congrArg₂ (k0_pay6 v3 v19 v35 (k0_pay14 v3)) (View.readAt_full arg6.view f6 _) (View.readAt_full arg8.view f8 _)
  · exact congrArg k0_pay15 (congrArg₂ (k0_pay7 v3 v19 v35 (k0_pay14 v3)) (View.readAt_full arg6.view f6 _) (View.readAt_full arg9.view f9 _))

/-- After `k` trips the buffers read as `k` steps from what they read at entry. -/
theorem loop_rd (G6 G7 G8 G9) (k : ℕ) (hk : k ≤ k0_t1_loop.trips) :
    rd arg6 arg7 arg8 arg9
      (arg6.view.writes (Elt F) G6 (pb_k0_t1 (F := F) 𝒱 c bd i arg1 harg1 arg2 harg2 arg3 harg3 arg4 harg4 arg5 harg5 arg6 harg6 arg7 harg7 arg8 harg8 arg9 harg9 v3 v19 v31 v35 G6 G7 G8 G9 k).1) (arg7.view.writes (Elt F) G7 (pb_k0_t1 (F := F) 𝒱 c bd i arg1 harg1 arg2 harg2 arg3 harg3 arg4 harg4 arg5 harg5 arg6 harg6 arg7 harg7 arg8 harg8 arg9 harg9 v3 v19 v31 v35 G6 G7 G8 G9 k).2.1)
      (arg8.view.writes (Elt F) G8 (pb_k0_t1 (F := F) 𝒱 c bd i arg1 harg1 arg2 harg2 arg3 harg3 arg4 harg4 arg5 harg5 arg6 harg6 arg7 harg7 arg8 harg8 arg9 harg9 v3 v19 v31 v35 G6 G7 G8 G9 k).2.2.1) (arg9.view.writes (Elt F) G9 (pb_k0_t1 (F := F) 𝒱 c bd i arg1 harg1 arg2 harg2 arg3 harg3 arg4 harg4 arg5 harg5 arg6 harg6 arg7 harg7 arg8 harg8 arg9 harg9 v3 v19 v31 v35 G6 G7 G8 G9 k).2.2.2)
      = (step v3 v19 v35)^[k] (rd arg6 arg7 arg8 arg9 G6 G7 G8 G9) := by
  induction k with
  | zero => rfl
  | succ k ih =>
    rw [Function.iterate_succ_apply', ← ih (by omega)]
    rw [pb_k0_t1_succ 𝒱 c bd i arg1 harg1 arg2 harg2 arg3 harg3 arg4 harg4 arg5 harg5 arg6 harg6 arg7 harg7 arg8 harg8 arg9 harg9 v3 v19 v31 v35 G6 G7 G8 G9 ⟨k, by omega⟩]
    dsimp only
    rw [View.writes_append, View.writes_append, View.writes_append, View.writes_append]
    exact trip_rd 𝒱 c bd i arg1 harg1 arg2 harg2 arg3 harg3 arg4 harg4 arg5 harg5 arg6 harg6 arg7 harg7 arg8 harg8 arg9 harg9 v3 v19 v31 v35 ⟨k, by omega⟩ _ _ _ _
end

/-- The four buffers after the sixteen trips, from the two blocks of data and the weight. -/
def fin (x0 : Vec F S1x3x512 .f32) (x1 : Vec F S1x64x512 .f32) (x2 : Vec F S64x128 .f32) : St F :=
  (step (k0_pay8 x1) x2 (iota .tc S512x512 32 [1] iota_S512x512_d1_w32))^[16] (k0_pay9 x0, k0_pay10, k0_pay11, k0_pay13 k0_pay12)

/-- The first result's block. -/
theorem out3 (c : Dev nD) (i : grid0.Coords) (arg1 : Memref sig .tc .vmem S1x3x512 .f32) (harg1 : arg1.IsWhole) (arg2 : Memref sig .tc .vmem S1x64x512 .f32) (harg2 : arg2.IsWhole) (arg3 : Memref sig .tc .vmem S64x128 .f32) (harg3 : arg3.IsWhole) (arg4 : Memref sig .tc .vmem S1x64x512 .f32) (harg4 : arg4.IsWhole) (arg5 : Memref sig .tc .vmem S1x4x2 .f32) (harg5 : arg5.IsWhole) (arg6 : Memref sig .tc .vmem S512x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole)
    (x0 : Vec F S1x3x512 .f32) (x1 : Vec F S1x64x512 .f32) (x2 : Vec F S64x128 .f32) :
    out0_A_3 c i arg1 harg1 arg2 harg2 arg3 harg3 arg4 harg4 arg5 harg5 arg6 harg6 arg7 harg7 arg8 harg8 arg9 harg9 x0 x1 x2 = k0_pay16 (fin x0 x1 x2).2.1 := by
  unfold out0_A_3
  rw [View.read_writes_eq_canon _ _ _ (cover0_A_3 c i arg1 harg1 arg2 harg2 arg3 harg3 arg4 harg4 arg5 harg5 arg6 harg6 arg7 harg7 arg8 harg8 arg9 harg9 x0 x1 x2)]
  unfold kernelRun0_A
  dsimp only
  sl_unfold_words
  refine (View.canon_unit_zero (S := S1x64x512) hz3 _ _).trans (congrArg k0_pay16 ?_)
  refine (readCov_two (s := S64x512) arg7.view _ _ _).trans ?_
  refine (congrArg (fun s : St F => s.2.1) (loop_rd .none c none i arg1 harg1 arg2 harg2 arg3 harg3 arg4 harg4 arg5 harg5 arg6 harg6 arg7 harg7 arg8 harg8 arg9 harg9 _ _ _ _ _ _ _ _ 16 (by decide))).trans ?_
  unfold fin rd
  rw [View.read_writes_full (s := S512x512), View.read_writes_full (s := S64x512), View.read_writes_full (s := S64x512), View.read_writes_full (s := S64x512)]
  rw [show View.readAt (Elt F) arg1.view _ (harg1.unread x0) = x0 from (View.readAt_full arg1.view _ _).trans (harg1.read_unread x0),
    show View.readAt (Elt F) arg2.view _ (harg2.unread x1) = x1 from (View.readAt_full arg2.view _ _).trans (harg2.read_unread x1),
    show View.readAt (Elt F) arg3.view _ (harg3.unread x2) = x2 from (View.readAt_full arg3.view _ _).trans (harg3.read_unread x2)]

/-- The second result's block: the two group sums. -/
theorem out4 (c : Dev nD) (i : grid0.Coords) (arg1 : Memref sig .tc .vmem S1x3x512 .f32) (harg1 : arg1.IsWhole) (arg2 : Memref sig .tc .vmem S1x64x512 .f32) (harg2 : arg2.IsWhole) (arg3 : Memref sig .tc .vmem S64x128 .f32) (harg3 : arg3.IsWhole) (arg4 : Memref sig .tc .vmem S1x64x512 .f32) (harg4 : arg4.IsWhole) (arg5 : Memref sig .tc .vmem S1x4x2 .f32) (harg5 : arg5.IsWhole) (arg6 : Memref sig .tc .vmem S512x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole)
    (x0 : Vec F S1x3x512 .f32) (x1 : Vec F S1x64x512 .f32) (x2 : Vec F S64x128 .f32) :
    out0_A_4 c i arg1 harg1 arg2 harg2 arg3 harg3 arg4 harg4 arg5 harg5 arg6 harg6 arg7 harg7 arg8 harg8 arg9 harg9 x0 x1 x2 = k0_pay1 k0_pay17 k0_pay18 k0_pay19 (fin x0 x1 x2).2.2.1 (fin x0 x1 x2).2.2.2 := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2)]
  unfold kernelRun0_A
  dsimp only
  sl_unfold_words
  refine (View.canon_unit_zero (S := S1x4x2) hz3 _ _).trans (congrArg₂ (k0_pay1 k0_pay17 k0_pay18 k0_pay19) ?_ ?_)
  · refine (readCov_two (s := S64x512) arg8.view _ _ _).trans ?_
    refine (congrArg (fun s : St F => s.2.2.1) (loop_rd .none c none i arg1 harg1 arg2 harg2 arg3 harg3 arg4 harg4 arg5 harg5 arg6 harg6 arg7 harg7 arg8 harg8 arg9 harg9 _ _ _ _ _ _ _ _ 16 (by decide))).trans ?_
    unfold fin rd
    rw [View.read_writes_full (s := S512x512), View.read_writes_full (s := S64x512), View.read_writes_full (s := S64x512), View.read_writes_full (s := S64x512)]
    rw [show View.readAt (Elt F) arg1.view _ (harg1.unread x0) = x0 from (View.readAt_full arg1.view _ _).trans (harg1.read_unread x0),
      show View.readAt (Elt F) arg2.view _ (harg2.unread x1) = x1 from (View.readAt_full arg2.view _ _).trans (harg2.read_unread x1),
      show View.readAt (Elt F) arg3.view _ (harg3.unread x2) = x2 from (View.readAt_full arg3.view _ _).trans (harg3.read_unread x2)]
  · refine (readCov_two (s := S64x512) arg9.view _ _ _).trans ?_
    refine (congrArg (fun s : St F => s.2.2.2) (loop_rd .none c none i arg1 harg1 arg2 harg2 arg3 harg3 arg4 harg4 arg5 harg5 arg6 harg6 arg7 harg7 arg8 harg8 arg9 harg9 _ _ _ _ _ _ _ _ 16 (by decide))).trans ?_
    unfold fin rd
    rw [View.read_writes_full (s := S512x512), View.read_writes_full (s := S64x512), View.read_writes_full (s := S64x512), View.read_writes_full (s := S64x512)]
    rw [show View.readAt (Elt F) arg1.view _ (harg1.unread x0) = x0 from (View.readAt_full arg1.view _ _).trans (harg1.read_unread x0),
      show View.readAt (Elt F) arg2.view _ (harg2.unread x1) = x1 from (View.readAt_full arg2.view _ _).trans (harg2.read_unread x1),
      show View.readAt (Elt F) arg3.view _ (harg3.unread x2) = x2 from (View.readAt_full arg3.view _ _).trans (harg3.read_unread x2)]

end Cert.StageSelfIdeal.Loop

end
-- ==== Proof.SelfVal.lean ====
module

public import proofs.«01_k».proof.Proof.SelfLoop
public import Idealize.ShloMosaic.PureOps.IdealRules
public import proofs.«01_k».proof.Proof.Groups

@[expose] public section

set_option maxRecDepth 16384

noncomputable section

namespace Cert.StageSelfIdeal.Val

open Cert.StageSelfIdeal Cert.StageSelfIdeal.Gen Cert.StageSelfIdeal.Loop Idealize.ShloMosaic Idealize.ShloMosaic.ValueIdx Nearest KOps
open scoped BigOperators

/-! # What one block of the self stage computes, over the extended reals -/

/-- The key positions, one row for every query. -/
abbrev pos : IVec S512x512 32 := iota .tc S512x512 32 [1] iota_S512x512_d1_w32

theorem pay2_apply (d : FVec Ideal S512x512 .f32) (q p P : Fin 512) (hP : FirstMin (fun k => d (ix2 q k)) P) :
    k0_pay2 (F := Ideal) pos d (ix2 q p) = if p = P then 1#1 else 0#1 :=
  mark_apply d iota_S512x512_d1_w32 reduces_S512x512_S512 shapeCasts_S512_S512x1 broadcasts_S512x1_S512x512 (by norm_num) q p P hP

theorem mask_val : Named.named (F := Ideal) (φ := .f32) κ "mask" 0x7149F2CA#32 = (⊤ : EReal) :=
  IdealRules.named_const.ideal_named_scalar (φ := .f32) κ "mask" 0x7149F2CA#32 ⊤ (by rfl)

theorem neg_mask_val : Named.named (F := Ideal) (φ := .f32) κ "neg_mask" 0xF149F2CA#32 = (⊥ : EReal) :=
  IdealRules.named_const.ideal_named_scalar (φ := .f32) κ "neg_mask" 0xF149F2CA#32 ⊥ (by rfl)

theorem pay3_apply (d : FVec Ideal S512x512 .f32) (q p P : Fin 512) (hP : FirstMin (fun k => d (ix2 q k)) P) :
    k0_pay3 (F := Ideal) pos d (ix2 q p) = if p = P then ⊤ else d (ix2 q p) := by
  unfold k0_pay3
  rw [cast_self]
  refine (congrArg (fun c : BitVec 1 => Scalar.select c _ (d (ix2 q p))) (pay2_apply d q p P hP)).trans ?_
  by_cases h : p = P
  · rw [if_pos h, if_pos h]
    exact mask_val
  · rw [if_neg h, if_neg h]
    rfl

theorem pay4_apply (f : FVec Ideal S64x512 .f32) (hf : ∀ i, f i ≠ ⊥ ∧ f i ≠ ⊤) (W : FVec Ideal S64x128 .f32)
    (d : FVec Ideal S512x512 .f32) (o : Fin 64) (q P : Fin 512) (hP : FirstMin (fun k => d (ix2 q k)) P) :
    k0_pay4 (F := Ideal) f W pos (k0_pay14 f) d (ix2 o q) = conv (C := 64) rfl W f f P o q :=
  conv_apply (C := 64) rfl W f f _ concatenates_S64x512_S64x512_S128x512_d0 _ zero_apply q P
    (gathered_apply (C := 64) rfl f bitsLt_bf16_f32 concatenates_S64x512_S64x512_S64x512_S192x512_d0 hf _ _ zero_apply
      slices_S192x512_o0_0_S64x512 slices_S192x512_o64_0_S64x512 slices_S192x512_o128_0_S64x512 q P
      (fun p => flag_apply _ natLt_1_32 (ix2 q p) (p = P) (pay2_apply d q p P hP))) o

theorem pay9_apply (x0 : FVec Ideal S1x3x512 .f32) (q p : Fin 512) :
    k0_pay9 (F := Ideal) x0 (ix2 q p) = sqd (fun k p => x0 (ix3 0 k p)) (fun k p => x0 (ix3 0 k p)) q p := by
  have hx : ∀ (k : Fin 3) (p : Fin 512), shapeCast S3x512 x0 shapeCasts_S1x3x512_S3x512 (ix2 k p) = x0 (ix3 0 k p) := fun k p => shapeCast_1ab_ab_apply x0 _ k p
  unfold k0_pay9
  rw [cast_self]
  refine (sqd_apply (shapeCast S3x512 x0 shapeCasts_S1x3x512_S3x512) (shapeCast S3x512 x0 shapeCasts_S1x3x512_S3x512)
    reduces_S3x512_S512 reduces_S3x512_S512 (.inl rfl) rfl shapeCasts_S512_S1x512 shapeCasts_S512_S1x512 broadcasts_S512x1_S512x512 broadcasts_S1x512_S512x512 q p).trans ?_
  simp only [hx]

/-- The block's features, its leading axis dropped. -/
abbrev feat (x1 : FVec Ideal S1x64x512 .f32) : FVec Ideal S64x512 .f32 := k0_pay8 x1

theorem feat_apply (x1 : FVec Ideal S1x64x512 .f32) (c : Fin 64) (p : Fin 512) : feat x1 (ix2 c p) = x1 (ix3 0 c p) :=
  shapeCast_1ab_ab_apply x1 shapeCasts_S1x64x512_S64x512 c p

variable (x0 : FVec Ideal S1x3x512 .f32) (x1 : FVec Ideal S1x64x512 .f32) (x2 : FVec Ideal S64x128 .f32)

/-- Distances of the block's points. -/
abbrev D (q p : Fin 512) : EReal := sqd (fun k p => x0 (ix3 0 k p)) (fun k p => x0 (ix3 0 k p)) q p

/-- Convolution of the block's features. -/
abbrev cv (P : Fin 512) (o : Fin 64) (q : Fin 512) : EReal := conv (C := 64) rfl x2 (feat x1) (feat x1) P o q

/-- The four buffers after `k` trips. -/
def at' (k : ℕ) : St Ideal := (step (F := Ideal) (k0_pay8 x1) x2 pos)^[k] (k0_pay9 (F := Ideal) x0, k0_pay10 (F := Ideal), k0_pay11 (F := Ideal), k0_pay13 (F := Ideal) k0_pay12)

theorem at_zero : at' x0 x1 x2 0 = (k0_pay9 (F := Ideal) x0, k0_pay10 (F := Ideal), k0_pay11 (F := Ideal), k0_pay13 (F := Ideal) k0_pay12) := rfl

theorem at_succ (k : ℕ) : at' x0 x1 x2 (k + 1) = step (F := Ideal) (k0_pay8 x1) x2 pos (at' x0 x1 x2 k) := Function.iterate_succ_apply' _ _ _

theorem pay10_apply (i : S64x512.Idx) : k0_pay10 (F := Ideal) i = ⊥ := by
  unfold k0_pay10
  rw [cast_self]
  exact neg_mask_val

theorem pay11_apply (i : S64x512.Idx) : k0_pay11 (F := Ideal) i = 0 := by
  unfold k0_pay11
  rw [cast_self]
  exact Ideal.ofBits_zero_f32

theorem pay13_apply (i : S64x512.Idx) : k0_pay13 (F := Ideal) k0_pay12 i = 0 := by
  unfold k0_pay13 k0_pay12
  rw [cast_self]
  exact Ideal.ofBits_zero_f32

section
variable (f : FVec Ideal S64x512 .f32) (hf : ∀ i, f i ≠ ⊥ ∧ f i ≠ ⊤) (W : FVec Ideal S64x128 .f32) (d : FVec Ideal S512x512 .f32)
  (a : FVec Ideal S64x512 .f32) (o : Fin 64) (q P : Fin 512) (hP : FirstMin (fun k => d (ix2 q k)) P)
include hf hP

theorem pay5_apply : k0_pay5 (F := Ideal) f W pos (k0_pay14 f) d a (ix2 o q) = max (a (ix2 o q)) (conv (C := 64) rfl W f f P o q) := by
  unfold k0_pay5
  rw [cast_self]
  exact congrArg (max (a (ix2 o q))) (pay4_apply f hf W d o q P hP)

theorem pay6_apply : k0_pay6 (F := Ideal) f W pos (k0_pay14 f) d a (ix2 o q) = a (ix2 o q) + conv (C := 64) rfl W f f P o q := by
  unfold k0_pay6
  rw [cast_self]
  exact congrArg (a (ix2 o q) + ·) (pay4_apply f hf W d o q P hP)

theorem pay7_apply : k0_pay15 (F := Ideal) (k0_pay7 f W pos (k0_pay14 f) d a) (ix2 o q)
    = a (ix2 o q) + conv (C := 64) rfl W f f P o q * conv (C := 64) rfl W f f P o q := by
  unfold k0_pay15 k0_pay7
  rw [cast_self]
  exact congrArg (fun z => a (ix2 o q) + z * z) (pay4_apply f hf W d o q P hP)
end

theorem state (h0 : ∀ i, x0 i ≠ ⊥ ∧ x0 i ≠ ⊤) (h1 : ∀ i, x1 i ≠ ⊥ ∧ x1 i ≠ ⊤) (k : ℕ) (hk : k ≤ 16) :
    Pooled (D x0) (cv x1 x2) k (at' x0 x1 x2 k).1 (at' x0 x1 x2 k).2.1 (at' x0 x1 x2 k).2.2.1 (at' x0 x1 x2 k).2.2.2 := by
  have hf : ∀ i, feat x1 i ≠ ⊥ ∧ feat x1 i ≠ ⊤ := fun i => by
    rw [eq_ix2 i]
    exact (feat_apply x1 (i 0) (i 1)).symm ▸ h1 _
  induction k with
  | zero =>
    rw [at_zero]
    exact Pooled.zero _ _ _ _ _ _ (pay9_apply x0) pay10_apply pay11_apply pay13_apply
  | succ k ih =>
    rw [at_succ]
    exact Pooled.succ (D x0) (cv x1 x2) (by omega) (fun q p => sqd_lt _ _ (fun k q => h0 _) (fun k q => h0 _) q p) (ih (by omega))
      (fun q P hP p => pay3_apply _ q p P hP) (fun q P hP o => pay5_apply _ hf x2 _ _ o q P hP)
      (fun q P hP o => pay6_apply _ hf x2 _ _ o q P hP) (fun q P hP o => pay7_apply _ hf x2 _ _ o q P hP)

/-- The group of a channel, on words: the quotient by sixteen, rounded down. -/
def groupWord (v : BitVec 32) : BitVec 32 :=
  if IntOp.andi (IntOp.cmpi .ne (IntOp.subi ((IntOp.cmpi .sgt v 0#32).setWidth 32) ((IntOp.cmpi .slt v 0#32).setWidth 32))
      (IntOp.subi ((IntOp.cmpi .sgt 16#32 0#32).setWidth 32) ((IntOp.cmpi .slt 16#32 0#32).setWidth 32)))
    (IntOp.cmpi .ne (IntOp.remsi .vector v 16#32) 0#32) = 1#1 then IntOp.subi (IntOp.divsi .vector v 16#32) 1#32 else IntOp.divsi .vector v 16#32

theorem groupWord_mark : ∀ (o : Fin 64) (g : Fin 4), IntOp.cmpi .eq (groupWord (BitVec.ofNat 32 o.val)) (BitVec.ofNat 32 g.val) = if o.val / 16 = g.val then 1#1 else 0#1 := by
  decide +kernel

/-- The marks of the four channel groups. -/
theorem group_mark (o : Fin 64) (g : Fin 4) :
    cmpi .eq (select k0_pay18 k0_pay19 k0_pay17) (iota .tc S64x4 32 [1] iota_S64x4_d1_w32) (ix2 o g) = if o.val / 16 = g.val then 1#1 else 0#1 := by
  rw [← groupWord_mark]
  have e0 : iota .tc S64x4 32 [0] iota_S64x4_d0_w32 = fun i => BitVec.ofNat 32 (i 0).val := funext fun i => iota_single_apply _ _ _ _ _ i
  have e1 : iota .tc S64x4 32 [1] iota_S64x4_d1_w32 = fun i => BitVec.ofNat 32 (i 1).val := funext fun i => iota_single_apply _ _ _ _ _ i
  unfold k0_pay18 k0_pay19 k0_pay17
  rw [e0, e1]
  rfl

theorem fin_eq : fin (F := Ideal) x0 x1 x2 = at' x0 x1 x2 16 := rfl

/-- The block's first result: the largest convolution over the sixteen nearest keys. -/
theorem max_apply (h0 : ∀ i, x0 i ≠ ⊥ ∧ x0 i ≠ ⊤) (h1 : ∀ i, x1 i ≠ ⊥ ∧ x1 i ≠ ⊤) (u : Fin 1) (o : Fin 64) (q : Fin 512) :
    k0_pay16 (F := Ideal) (at' x0 x1 x2 16).2.1 (ix3 u o q) = (Finset.range 16).sup fun j => cv x1 x2 (near (D x0 q) (Fin.ofNat 512 j)) o q :=
  (shapeCast_ab_1ab_apply (at' x0 x1 x2 16).2.1 shapeCasts_S64x512_S1x64x512 u o q).trans ((state x0 x1 x2 h0 h1 16 le_rfl).mx_eq o q)

/-- The two group sums of any two arrays. -/
theorem pay1_apply (a b : FVec Ideal S64x512 .f32) (u : Fin 1) (g : Fin 4) :
    k0_pay1 (F := Ideal) k0_pay17 k0_pay18 k0_pay19 a b (ix3 u g 0) = (∑ s : Fin 16, ∑ q : Fin 512, a (ix2 (chan (G := 4) (S := 16) rfl g s) q))
    ∧ k0_pay1 (F := Ideal) k0_pay17 k0_pay18 k0_pay19 a b (ix3 u g 1) = ∑ s : Fin 16, ∑ q : Fin 512, b (ix2 (chan (G := 4) (S := 16) rfl g s) q) := by
  have hm : ∀ o : Fin 64, sitofp (F := Ideal) .f32 (extui 32 (cmpi .eq (select k0_pay18 k0_pay19 k0_pay17) (iota .tc S64x4 32 [1] iota_S64x4_d1_w32)) natLt_1_32) (ix2 o g)
      = if o.val / 16 = g.val then (1 : EReal) else 0 := fun o => flag_apply _ natLt_1_32 (ix2 o g) _ (group_mark o g)
  have ga := group_apply (G := 4) (S := 16) rfl _ a reduces_S64x512_S64 (.inl rfl) rfl shapeCasts_S64_S64x1 g 0 hm
  have gb := group_apply (G := 4) (S := 16) rfl _ b reduces_S64x512_S64 (.inl rfl) rfl shapeCasts_S64_S64x1 g 0 hm
  unfold k0_pay1
  rw [shapeCast_ab_1ab_apply, shapeCast_ab_1ab_apply]
  exact ⟨(beside_apply _ _ concatenates_S4x1_S4x1_S4x2_d1 g).1.trans ga, (beside_apply _ _ concatenates_S4x1_S4x1_S4x2_d1 g).2.trans gb⟩

/-- The block's second result: each group's sum and sum of squares. -/
theorem stats_apply (h0 : ∀ i, x0 i ≠ ⊥ ∧ x0 i ≠ ⊤) (h1 : ∀ i, x1 i ≠ ⊥ ∧ x1 i ≠ ⊤) (u : Fin 1) (g : Fin 4) :
    k0_pay1 (F := Ideal) k0_pay17 k0_pay18 k0_pay19 (at' x0 x1 x2 16).2.2.1 (at' x0 x1 x2 16).2.2.2 (ix3 u g 0)
      = (∑ s : Fin 16, ∑ q : Fin 512, ∑ j ∈ Finset.range 16, cv x1 x2 (near (D x0 q) (Fin.ofNat 512 j)) (chan (G := 4) (S := 16) rfl g s) q)
    ∧ k0_pay1 (F := Ideal) k0_pay17 k0_pay18 k0_pay19 (at' x0 x1 x2 16).2.2.1 (at' x0 x1 x2 16).2.2.2 (ix3 u g 1)
      = ∑ s : Fin 16, ∑ q : Fin 512, ∑ j ∈ Finset.range 16,
          cv x1 x2 (near (D x0 q) (Fin.ofNat 512 j)) (chan (G := 4) (S := 16) rfl g s) q * cv x1 x2 (near (D x0 q) (Fin.ofNat 512 j)) (chan (G := 4) (S := 16) rfl g s) q := by
  obtain ⟨e0, e1⟩ := pay1_apply (at' x0 x1 x2 16).2.2.1 (at' x0 x1 x2 16).2.2.2 u g
  have st := state x0 x1 x2 h0 h1 16 le_rfl
  constructor
  · exact e0.trans (Finset.sum_congr rfl fun s _ => Finset.sum_congr rfl fun q _ => st.sm_eq _ q)
  · exact e1.trans (Finset.sum_congr rfl fun s _ => Finset.sum_congr rfl fun q _ => st.sq_eq _ q)

end Cert.StageSelfIdeal.Val

end
-- ==== Proof.RefSelf.lean ====
module

public import proofs.«01_k».proof.Proof.Gen.RefSelfIdeal.Read
public import proofs.«01_k».proof.Proof.HostOps

@[expose] public section

set_option maxRecDepth 16384

noncomputable section

namespace Cert.RefSelfIdeal.Val

open Cert.RefSelfIdeal Cert.RefSelfIdeal.Read Idealize.ShloMosaic Idealize.ShloMosaic.ValueIdx Nearest KOps
open scoped BigOperators

/-! # What the reference of the self stage computes -/

variable (x0 : FVec Ideal S16x3x512 .f32) (x1 : FVec Ideal S16x64x512 .f32) (x2 : FVec Ideal S64x128 .f32)

/-- The query points of one batch, -/
abbrev pq (b : Fin 16) (k : Fin 3) (p : Fin 512) : EReal := x0 (ix3 b k p)

/-- and its key points. -/
abbrev pk (b : Fin 16) (k : Fin 3) (p : Fin 512) : EReal := x0 (ix3 b k p)

/-- The query features of one batch, -/
def fq (b : Fin 16) : (⟨2, ![64, 512]⟩ : Shape).Idx → EReal := fun i => x1 (ix3 b (i 0) (i 1))

/-- and its key features. -/
def fk (b : Fin 16) : (⟨2, ![64, 512]⟩ : Shape).Idx → EReal := fun i => x1 (ix3 b (i 0) (i 1))

theorem dist_eq (b : Fin 16) (q : Fin 512) (p : Fin 512) : val_main_v15 (F := Ideal) x0 (ix3 b q p) = sqd (pq x0 b) (pk x0 b) q p := by
  rw [val_main_v15_apply, val_main_v10_apply, val_main_v5_apply, val_main_v4_apply, val_main_cst_apply, val_main_v3_apply, val_main_v9_apply,
    val_main_v8_apply, val_main_v7_apply, val_main_v14_apply, val_main_v13_apply, val_main_v12_apply]
  simp only [val_main_v2_apply, val_main_v1_apply, val_main_v0_apply, val_main_v6_apply, val_main_v11_apply, val_main_cst_0_apply, val_main_cst_1_apply]
  show Ideal.ofBits .f32 0xC0000000#32 * _ + (Ideal.ofBits .f32 0x00000000#32 + _) + (Ideal.ofBits .f32 0x00000000#32 + _) = _
  rw [Ideal.ofBits_zero_f32, zero_add, zero_add]
  unfold sqd
  refine congrArg₂ (· + ·) (congrArg₂ (· + ·) (congrArg (_ * ·) ?_) ?_) ?_
  · exact Finset.sum_congr rfl fun k _ => congrArg₂ (fun i j => x0 i * x0 j)
      (funext fun a => Fin.ext (match a with | ⟨0, _⟩ => rfl | ⟨1, _⟩ => rfl | ⟨2, _⟩ => rfl))
      (funext fun a => Fin.ext (match a with | ⟨0, _⟩ => rfl | ⟨1, _⟩ => rfl | ⟨2, _⟩ => rfl))
  · exact Finset.sum_congr rfl fun k _ => congrArg (fun i => x0 i * x0 i)
      (funext fun a => Fin.ext (match a with | ⟨0, _⟩ => rfl | ⟨1, _⟩ => rfl | ⟨2, _⟩ => rfl))
  · exact Finset.sum_congr rfl fun k _ => congrArg (fun i => x0 i * x0 i)
      (funext fun a => Fin.ext (match a with | ⟨0, _⟩ => rfl | ⟨1, _⟩ => rfl | ⟨2, _⟩ => rfl))

/-- The key the reference takes as the `k`-th nearest of a query. -/
abbrev nb (b : Fin 16) (q : Fin 512) (k : ℕ) : Fin 512 := near (sqd (pq x0 b) (pk x0 b) q) (Fin.ofNat 512 k)

theorem index_eq (b : Fin 16) (q : Fin 512) (k : Fin 16) : val_main_indices (F := Ideal) x0 (ix3 b q k) = BitVec.ofNat 32 (nb x0 b q k.val).val := by
  have hv : val_main_v16 (F := Ideal) x0 = fun i => -(val_main_v15 (F := Ideal) x0 i : EReal) := by
    funext i
    rw [val_main_v16_apply]
    generalize val_main_v15 (F := Ideal) x0 i = z
    rfl
  unfold val_main_indices
  rw [hv]
  refine (topK_idx (B := 16) (Q := 512) (N := 512) (K := 16) (val_main_v15 (F := Ideal) x0) _ b q k (lt_trans k.isLt (by norm_num))).trans ?_
  have e : (fun p => val_main_v15 (F := Ideal) x0 (ix3 b q p)) = sqd (pq x0 b) (pk x0 b) q := funext fun p => dist_eq x0 b q p
  rw [e]
  refine congrArg (fun z => BitVec.ofNat 32 (near (sqd (pq x0 b) (pk x0 b) q) z).val) (Fin.ext ?_)
  exact (Nat.mod_eq_of_lt (lt_trans k.isLt (by norm_num))).symm

theorem start_eq (b : Fin 16) (q : Fin 512) (k : Fin 16) : (val_main_v23 (F := Ideal) x0 (ix4 b q k 0)).toInt = (nb x0 b q k.val).val := by
  rw [val_main_v23_apply, val_main_v22_apply, val_main_v19_apply, val_main_v18_apply, val_main_c_apply]
  have e : idx_main_v23 (ix4 b q k 0) = ix3 b q k := funext fun a => Fin.ext (match a with | ⟨0, _⟩ => rfl | ⟨1, _⟩ => rfl | ⟨2, _⟩ => rfl)
  have hlt : (nb x0 b q k.val).val < 2 ^ 31 := lt_trans (nb x0 b q k.val).isLt (by norm_num)
  rw [e, index_eq, wrap_small hlt, toInt_small hlt]

theorem taken_eq (b : Fin 16) (q : Fin 512) (k : Fin 16) (c : Fin 64) :
    val_main_v24 (F := Ideal) x0 x1 (ix4 b q k c) = x1 (ix3 b c (nb x0 b q k.val)) := by
  unfold val_main_v24
  refine (take_apply (B := 16) (N := 512) (C := 64) (Q := 512) (K := 16) _ (val_main_v17 (F := Ideal) x1) (val_main_v23 (F := Ideal) x0) b q k c _ (start_eq x0 b q k)).trans ?_
  rw [val_main_v17_apply]
  generalize nb x0 b q k.val = p
  exact congrArg x1 (funext fun a => Fin.ext (match a with | ⟨0, _⟩ => rfl | ⟨1, _⟩ => rfl | ⟨2, _⟩ => rfl))

theorem edge_eq (b : Fin 16) (c : Fin 128) (q : Fin 512) (k : Fin 16) :
    val_main_v30 (F := Ideal) x0 x1 (ix4 b c q k) = edge (C := 64) (fk x1 b) (fq x1 b) (nb x0 b q k.val) q rfl c := by
  unfold val_main_v30
  refine (stack4_apply (B := 16) (C := 64) (E := 128) (Q := 512) (K := 16) (val_main_v28 (F := Ideal) x0 x1) (val_main_v29 (F := Ideal) x1) _ rfl b c q k).trans ?_
  unfold edge
  by_cases hc : c.val < 64
  · rw [dif_pos hc, dif_pos hc, val_main_v28_apply, val_main_v25_apply, val_main_v27_apply, val_main_v26_apply]
    have e : idx_main_v25 (ix4 b ⟨c.val, hc⟩ q k) = ix4 b q k ⟨c.val, hc⟩ := funext fun a => Fin.ext (match a with | ⟨0, _⟩ => rfl | ⟨1, _⟩ => rfl | ⟨2, _⟩ => rfl | ⟨3, _⟩ => rfl)
    rw [e, taken_eq]
    exact congrArg (fun z => x1 (ix3 b ⟨c.val, hc⟩ (nb x0 b q k.val)) - x1 z) (funext fun a => Fin.ext (match a with | ⟨0, _⟩ => rfl | ⟨1, _⟩ => rfl | ⟨2, _⟩ => rfl))
  · rw [dif_neg hc, dif_neg hc, val_main_v29_apply, val_main_v26_apply]
    exact congrArg x1 (funext fun a => Fin.ext (match a with | ⟨0, _⟩ => rfl | ⟨1, _⟩ => rfl | ⟨2, _⟩ => rfl))

/-- One edge's convolution in one batch. -/
abbrev cv (b : Fin 16) (o : Fin 64) (q : Fin 512) (k : ℕ) : EReal := conv (C := 64) rfl x2 (fk x1 b) (fq x1 b) (nb x0 b q k) o q

theorem conv_eq (b : Fin 16) (o : Fin 64) (q : Fin 512) (k : Fin 16) :
    val_main_v32 (F := Ideal) x0 x1 x2 (ix4 b o q k) = cv x0 x1 x2 b o q k.val := by
  rw [val_main_v32_apply, val_main_v31_apply]
  refine Finset.sum_congr rfl fun c _ => ?_
  rw [mul_comm]
  refine congrArg₂ (· * ·) (congrArg x2 ?_) ((congrArg (val_main_v30 (F := Ideal) x0 x1) ?_).trans (edge_eq x0 x1 b c q k))
  · exact funext fun a => Fin.ext (match a with | ⟨0, _⟩ => rfl | ⟨1, _⟩ => rfl)
  · exact funext fun a => Fin.ext (match a with | ⟨0, _⟩ => rfl | ⟨1, _⟩ => rfl | ⟨2, _⟩ => rfl | ⟨3, _⟩ => rfl)

theorem group_eq (b : Fin 16) (g : Fin 4) (s : Fin 16) (q : Fin 512) (k : Fin 16) :
    val_main_v33 (F := Ideal) x0 x1 x2 (ix5 b g s q k) = cv x0 x1 x2 b (chan (G := 4) (S := 16) rfl g s) q k.val := by
  rw [val_main_v33_apply]
  refine (congrArg (val_main_v32 (F := Ideal) x0 x1 x2) ?_).trans (conv_eq x0 x1 x2 b (chan (G := 4) (S := 16) rfl g s) q k)
  refine funext fun a => Fin.ext ?_
  have h0 := b.isLt; have h1 := g.isLt; have h2 := s.isLt; have h3 := q.isLt; have h4 := k.isLt
  match a with
  | ⟨0, _⟩ => show ((((b.val * 4 + g.val) * 16 + s.val) * 512 + q.val) * 16 + k.val) / 524288 = b.val; omega
  | ⟨1, _⟩ => show ((((b.val * 4 + g.val) * 16 + s.val) * 512 + q.val) * 16 + k.val) / 8192 % 64 = s.val + 16 * g.val; omega
  | ⟨2, _⟩ => show ((((b.val * 4 + g.val) * 16 + s.val) * 512 + q.val) * 16 + k.val) / 16 % 512 = q.val; omega
  | ⟨3, _⟩ => show ((((b.val * 4 + g.val) * 16 + s.val) * 512 + q.val) * 16 + k.val) % 16 = k.val; omega

/-- The reference's first result. -/
theorem max_eq (b : Fin 16) (o : Fin 64) (q : Fin 512) :
    val_main_v37 (F := Ideal) x0 x1 x2 (ix3 b o q) = (Finset.range 16).sup fun j => cv x0 x1 x2 b o q j := by
  unfold val_main_v37
  refine maxlast_apply (B := 16) (C := 64) (Q := 512) (K := 16) _ (by decide) _ _ _ ?_ b o q _ fun k => conv_eq x0 x1 x2 b o q k
  rw [val_main_cst_5_apply]
  show Ideal.ofBits .f32 0xFF800000#32 = ⊥
  simp [Ideal.ofBits, Ideal.ieee]

/-- The reference's second result. -/
theorem stats_eq (b : Fin 16) (g : Fin 4) :
    val_main_v40 (F := Ideal) x0 x1 x2 (ix3 b g 0)
      = (∑ s : Fin 16, ∑ q : Fin 512, ∑ j ∈ Finset.range 16, cv x0 x1 x2 b (chan (G := 4) (S := 16) rfl g s) q j)
    ∧ val_main_v40 (F := Ideal) x0 x1 x2 (ix3 b g 1)
      = ∑ s : Fin 16, ∑ q : Fin 512, ∑ j ∈ Finset.range 16, cv x0 x1 x2 b (chan (G := 4) (S := 16) rfl g s) q j * cv x0 x1 x2 b (chan (G := 4) (S := 16) rfl g s) q j := by
  have hc : ∀ y : S16x4.Idx → EReal, ∀ i : S16x4.Idx, i 0 = b → i 1 = g → y i = y (ix2 b g) := fun y i h0 h1 => congrArg y (by rw [← h0, ← h1]; exact eq_ix2 i)
  unfold val_main_v40
  constructor
  · refine (stack3c_apply _ _ _ b g).1.trans ?_
    rw [val_main_v38_apply]
    refine (hc _ _ rfl rfl).trans ?_
    unfold val_main_v34
    refine (groupsum_apply (B := 16) (G := 4) (S := 16) (Q := 512) (K := 16) _ _ _ _ ?_ b g).trans ?_
    · rw [val_main_cst_3_apply]; exact Ideal.ofBits_zero_f32
    · refine Finset.sum_congr rfl fun s _ => Finset.sum_congr rfl fun q _ => ?_
      rw [← Fin.sum_univ_eq_sum_range (fun j => cv x0 x1 x2 b (chan (G := 4) (S := 16) rfl g s) q j) 16]
      exact Finset.sum_congr rfl fun k _ => group_eq x0 x1 x2 b g s q k
  · refine (stack3c_apply _ _ _ b g).2.trans ?_
    rw [val_main_v39_apply]
    refine (hc _ _ rfl rfl).trans ?_
    unfold val_main_v36
    refine (groupsum_apply (B := 16) (G := 4) (S := 16) (Q := 512) (K := 16) _ _ _ _ ?_ b g).trans ?_
    · rw [val_main_cst_4_apply]; exact Ideal.ofBits_zero_f32
    · refine Finset.sum_congr rfl fun s _ => Finset.sum_congr rfl fun q _ => ?_
      rw [← Fin.sum_univ_eq_sum_range (fun j => cv x0 x1 x2 b (chan (G := 4) (S := 16) rfl g s) q j * cv x0 x1 x2 b (chan (G := 4) (S := 16) rfl g s) q j) 16]
      exact Finset.sum_congr rfl fun k _ => congrArg (fun z => z * z) (group_eq x0 x1 x2 b g s q k)

end Cert.RefSelfIdeal.Val

end
-- ==== Proof.SelfEq.lean ====
module

public import proofs.«01_k».proof.Proof.SelfVal
public import proofs.«01_k».proof.Proof.RefSelf
public import proofs.«01_k».proof.Proof.Finite
public import proofs.«01_k».proof.Proof.Gen.StageSelfIdeal.Value
public import proofs.«01_k».proof.Proof.Gen.Pre_no_tie_self

@[expose] public section

set_option maxRecDepth 16384

noncomputable section

namespace Cert.StageSelfIdeal.Eq

open Cert.StageSelfIdeal Cert.StageSelfIdeal.Gen Cert.StageSelfIdeal.Value Cert.StageSelfIdeal.Loop Cert.StageSelfIdeal.Val
open Idealize.ShloMosaic Idealize.ShloMosaic.ValueIdx Idealize.ShloMosaic.TcCoe Idealize.SL.Sem Nearest KOps
open scoped BigOperators

/-! # The self stage's result arrays are the reference's -/

/-- The precondition makes the positions and the features finite. -/
theorem finite_of_pre (a0 : FVec Ideal S16x3x512 .f32) (a1 : FVec Ideal S16x64x512 .f32) (a2 : FVec Ideal S64x128 .f32)
    (h : Cert.Pre_no_tie_self.fn (F := Ideal) a0 a1 a2 = fun _ => 1#1) : (∀ i, a0 i ≠ ⊥ ∧ a0 i ≠ ⊤) ∧ ∀ i, a1 i ≠ ⊥ ∧ a1 i ≠ ⊤ := by
  have e := congrFun h default
  dsimp only [Cert.Pre_no_tie_self.fn, Cert.Pre_no_tie_self.fn_part1] at e
  obtain ⟨e8, -⟩ := both_bits _ _ e
  obtain ⟨e3, e7⟩ := both_bits _ _ e8
  exact ⟨fun i => finite_of_all a0 _ (fun _ => rfl) _ _ _ _ e3 i, fun i => finite_of_all a1 _ (fun _ => rfl) _ _ _ _ e7 i⟩

variable (m : (ℓ : Loc nD τ sig) → Buf (Elt Ideal) ℓ)

/-- Grid point `t` of the sixteen as a batch. -/
abbrev bat (t : Fin cfg0.N) : Fin 16 := ⟨t.val, t.isLt⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Where an index of a window's block lies in its array. -/
theorem emb0 (t : Fin cfg0.N) (j : S1x3x512.Idx) : ((cfg0.win 0).blk t).view.emb j = ix3 (bat t) (j 1) (j 2) := by
  obtain ⟨e0, e1, e2⟩ := idx0 t
  have := (j 0).isLt
  funext a; apply Fin.ext
  match a with
  | ⟨0, _⟩ => show win0_0.index t (0 : Fin 3) * 1 + 1 * (j 0).val = t.val; have : (j 0).val < 1 := (j 0).isLt; omega
  | ⟨1, _⟩ => show win0_0.index t (1 : Fin 3) * 3 + 1 * (j 1).val = (j 1).val; omega
  | ⟨2, _⟩ => show win0_0.index t (2 : Fin 3) * 512 + 1 * (j 2).val = (j 2).val; omega

theorem emb1 (t : Fin cfg0.N) (j : S1x64x512.Idx) : ((cfg0.win 1).blk t).view.emb j = ix3 (bat t) (j 1) (j 2) := by
  obtain ⟨e0, e1, e2⟩ := idx1 t
  funext a; apply Fin.ext
  match a with
  | ⟨0, _⟩ => show win0_1.index t (0 : Fin 3) * 1 + 1 * (j 0).val = t.val; have : (j 0).val < 1 := (j 0).isLt; omega
  | ⟨1, _⟩ => show win0_1.index t (1 : Fin 3) * 64 + 1 * (j 1).val = (j 1).val; omega
  | ⟨2, _⟩ => show win0_1.index t (2 : Fin 3) * 512 + 1 * (j 2).val = (j 2).val; omega

theorem emb2 (t : Fin cfg0.N) (j : S64x128.Idx) : ((cfg0.win 2).blk t).view.emb j = j := by
  obtain ⟨e0, e1⟩ := idx2 t
  funext a; apply Fin.ext
  match a with
  | ⟨0, _⟩ => show win0_2.index t (0 : Fin 2) * 64 + 1 * (j 0).val = (j 0).val; omega
  | ⟨1, _⟩ => show win0_2.index t (1 : Fin 2) * 128 + 1 * (j 1).val = (j 1).val; omega

theorem emb3 (t : Fin cfg0.N) (j : S1x64x512.Idx) : ((cfg0.win 3).blk t).view.emb j = ix3 (bat t) (j 1) (j 2) := by
  obtain ⟨e0, e1, e2⟩ := idx3 t
  funext a; apply Fin.ext
  match a with
  | ⟨0, _⟩ => show win0_3.index t (0 : Fin 3) * 1 + 1 * (j 0).val = t.val; have : (j 0).val < 1 := (j 0).isLt; omega
  | ⟨1, _⟩ => show win0_3.index t (1 : Fin 3) * 64 + 1 * (j 1).val = (j 1).val; omega
  | ⟨2, _⟩ => show win0_3.index t (2 : Fin 3) * 512 + 1 * (j 2).val = (j 2).val; omega

theorem emb4 (t : Fin cfg0.N) (j : S1x4x2.Idx) : ((cfg0.win 4).blk t).view.emb j = ix3 (bat t) (j 1) (j 2) := by
  obtain ⟨e0, e1, e2⟩ := idx4 t
  funext a; apply Fin.ext
  match a with
  | ⟨0, _⟩ => show win0_4.index t (0 : Fin 3) * 1 + 1 * (j 0).val = t.val; have : (j 0).val < 1 := (j 0).isLt; omega
  | ⟨1, _⟩ => show win0_4.index t (1 : Fin 3) * 4 + 1 * (j 1).val = (j 1).val; omega
  | ⟨2, _⟩ => show win0_4.index t (2 : Fin 3) * 2 + 1 * (j 2).val = (j 2).val; omega

/-- The positions' block of a grid point holds its batch's positions, -/
theorem iblk0_apply (c : Dev nD) (t : Fin cfg0.N) (j : S1x3x512.Idx) : iblk m c 0 t j = V m c main_arg0 (ix3 (bat t) (j 1) (j 2)) :=
  congrArg (V m c main_arg0) (emb0 t j)
/-- the features' block its batch's features, -/
theorem iblk1_apply (c : Dev nD) (t : Fin cfg0.N) (j : S1x64x512.Idx) : iblk m c 1 t j = V m c main_arg1 (ix3 (bat t) (j 1) (j 2)) :=
  congrArg (V m c main_arg1) (emb1 t j)
/-- and the weights' block all weights. -/
theorem iblk2_eq (c : Dev nD) (t : Fin cfg0.N) : iblk m c 2 t = V m c main_arg2 := by
  funext j; show V m c main_arg2 (((cfg0.win 2).blk t).view.emb j) = _; rw [emb2]

/-! ## One block against one batch -/

section block
variable (a0 : FVec Ideal S16x3x512 .f32) (a1 : FVec Ideal S16x64x512 .f32) (W : FVec Ideal S64x128 .f32)
variable (x0 : FVec Ideal S1x3x512 .f32) (x1 : FVec Ideal S1x64x512 .f32) (b : Fin 16)
variable (e0 : ∀ j, x0 j = a0 (ix3 b (j 1) (j 2))) (e1 : ∀ j, x1 j = a1 (ix3 b (j 1) (j 2)))
include e0 e1

theorem feat_eq : feat x1 = Cert.RefSelfIdeal.Val.fk a1 b := by
  funext i
  obtain ⟨k, p, rfl⟩ : ∃ (k : Fin 64) (p : Fin 512), i = ix2 k p := ⟨i 0, i 1, eq_ix2 i⟩
  exact (feat_apply x1 k p).trans (e1 _)

theorem D_eq (q : Fin 512) : D x0 q = sqd (Cert.RefSelfIdeal.Val.pq a0 b) (Cert.RefSelfIdeal.Val.pk a0 b) q := by
  have h : (fun (k : Fin 3) (p : Fin 512) => x0 (ix3 0 k p)) = Cert.RefSelfIdeal.Val.pq a0 b := by
    funext k p
    exact e0 _
  funext p
  show sqd (fun k p => x0 (ix3 0 k p)) (fun k p => x0 (ix3 0 k p)) q p = _
  rw [h]

/-- One edge's convolution is the same on both sides. -/
theorem cv_eq (o : Fin 64) (q : Fin 512) (j : ℕ) :
    cv x1 W (near (D x0 q) (Fin.ofNat 512 j)) o q
      = conv (C := 64) rfl W (Cert.RefSelfIdeal.Val.fk a1 b) (Cert.RefSelfIdeal.Val.fq a1 b) (Cert.RefSelfIdeal.Val.nb a0 b q j) o q := by
  unfold cv Cert.RefSelfIdeal.Val.nb
  rw [feat_eq a0 a1 x0 x1 b e0 e1, D_eq a0 a1 x0 x1 b e0 e1]
  rfl

variable (h0 : ∀ i, x0 i ≠ ⊥ ∧ x0 i ≠ ⊤) (h1 : ∀ i, x1 i ≠ ⊥ ∧ x1 i ≠ ⊤)
include h0 h1

theorem block_max (j : S1x64x512.Idx) :
    k0_pay16 (F := Ideal) (fin x0 x1 W).2.1 j = Cert.RefSelfIdeal.Read.val_main_v37 (F := Ideal) a0 a1 W (ix3 b (j 1) (j 2)) := by
  obtain ⟨u, o, q, rfl⟩ : ∃ (u : Fin 1) (o : Fin 64) (q : Fin 512), j = ix3 u o q := ⟨j 0, j 1, j 2, eq_ix3 j⟩
  rw [fin_eq]
  refine (max_apply x0 x1 W h0 h1 u o q).trans ((Finset.sup_congr rfl fun k _ => ?_).trans (Cert.RefSelfIdeal.Val.max_eq a0 a1 W b o q).symm)
  exact cv_eq a0 a1 W x0 x1 b e0 e1 o q k

theorem block_stats (j : S1x4x2.Idx) :
    k0_pay1 (F := Ideal) k0_pay17 k0_pay18 k0_pay19 (fin x0 x1 W).2.2.1 (fin x0 x1 W).2.2.2 j
      = Cert.RefSelfIdeal.Read.val_main_v40 (F := Ideal) a0 a1 W (ix3 b (j 1) (j 2)) := by
  obtain ⟨u, g, z, rfl⟩ : ∃ (u : Fin 1) (g : Fin 4) (z : Fin 2), j = ix3 u g z := ⟨j 0, j 1, j 2, eq_ix3 j⟩
  rw [fin_eq]
  obtain ⟨s0, s1⟩ := stats_apply x0 x1 W h0 h1 u g
  obtain ⟨r0, r1⟩ := Cert.RefSelfIdeal.Val.stats_eq a0 a1 W b g
  match z with
  | ⟨0, _⟩ =>
    refine s0.trans (Eq.trans ?_ r0.symm)
    exact Finset.sum_congr rfl fun s _ => Finset.sum_congr rfl fun q _ => Finset.sum_congr rfl fun k _ => cv_eq a0 a1 W x0 x1 b e0 e1 _ q k
  | ⟨1, _⟩ =>
    refine s1.trans (Eq.trans ?_ r1.symm)
    exact Finset.sum_congr rfl fun s _ => Finset.sum_congr rfl fun q _ => Finset.sum_congr rfl fun k _ =>
      congrArg₂ (· * ·) (cv_eq a0 a1 W x0 x1 b e0 e1 _ q k) (cv_eq a0 a1 W x0 x1 b e0 e1 _ q k)
end block

/-! ## The arrays -/

theorem covered3 (i : S16x64x512.Idx) : ∃ t : Fin cfg0.N, (cfg0.win 3).flush t = true ∧ i ∈ ((cfg0.win 3).blk t).view.set :=
  ⟨⟨(i 0).val, (i 0).isLt⟩, flush0_3 _, by
    have h := ((cfg0.win 3).blk (⟨(i 0).val, (i 0).isLt⟩ : Fin cfg0.N)).view.emb_mem_set (ix3 (0 : Fin 1) (i 1) (i 2))
    rw [emb3] at h
    have e : ix3 (bat ⟨(i 0).val, (i 0).isLt⟩) (i 1) (i 2) = i := (eq_ix3 i).symm
    exact e ▸ h⟩

theorem covered4 (i : S16x4x2.Idx) : ∃ t : Fin cfg0.N, (cfg0.win 4).flush t = true ∧ i ∈ ((cfg0.win 4).blk t).view.set :=
  ⟨⟨(i 0).val, (i 0).isLt⟩, flush0_4 _, by
    have h := ((cfg0.win 4).blk (⟨(i 0).val, (i 0).isLt⟩ : Fin cfg0.N)).view.emb_mem_set (ix3 (0 : Fin 1) (i 1) (i 2))
    rw [emb4] at h
    have e : ix3 (bat ⟨(i 0).val, (i 0).isLt⟩) (i 1) (i 2) = i := (eq_ix3 i).symm
    exact e ▸ h⟩

/-- A block that agrees with batch `t` of `Y` everywhere is what a reading of `Y` through the block gives. -/
theorem cut3_eq (t : Fin cfg0.N) (X : FVec Ideal S1x64x512 .f32) (Y : FVec Ideal S16x64x512 .f32) (h : ∀ j, X j = Y (ix3 (bat t) (j 1) (j 2))) :
    (cfg0.win 3).cut (α := Elt Ideal .f32) (grid0.coords t) X = ((cfg0.win 3).blk t).view.read (Elt Ideal) Y := by
  funext j
  exact (h j).trans (congrArg Y (emb3 t j)).symm

/-- A block that agrees with batch `t` of `Y` everywhere is what a reading of `Y` through the block gives. -/
theorem cut4_eq (t : Fin cfg0.N) (X : FVec Ideal S1x4x2 .f32) (Y : FVec Ideal S16x4x2 .f32) (h : ∀ j, X j = Y (ix3 (bat t) (j 1) (j 2))) :
    (cfg0.win 4).cut (α := Elt Ideal .f32) (grid0.coords t) X = ((cfg0.win 4).blk t).view.read (Elt Ideal) Y := by
  funext j
  exact (h j).trans (congrArg Y (emb4 t j)).symm

section arrays
variable (c : Dev nD) (h0 : ∀ i, V m c main_arg0 i ≠ (⊥ : EReal) ∧ V m c main_arg0 i ≠ (⊤ : EReal))
  (h1 : ∀ i, V m c main_arg1 i ≠ (⊥ : EReal) ∧ V m c main_arg1 i ≠ (⊤ : EReal))
include h0 h1

theorem final3 : (dats m 0 c).arrAt 3 cfg0.N
    = Cert.RefSelfIdeal.Read.val_main_v37 (F := Ideal) (V m c main_arg0) (V m c main_arg1) (V m c main_arg2) := by
  refine (dats m 0 c).arrAt_eq_of_cover 3 _ (fun t _ => ?_) covered3
  rw [flushed3_A, out3, iblk2_eq]
  refine cut3_eq t _ _ fun j => ?_
  exact block_max (V m c main_arg0) (V m c main_arg1) _ _ _ (bat t) (iblk0_apply m c t) (iblk1_apply m c t)
    (fun i => by rw [iblk0_apply]; exact h0 _) (fun i => by rw [iblk1_apply]; exact h1 _) j

theorem final4 : (dats m 0 c).arrAt 4 cfg0.N
    = Cert.RefSelfIdeal.Read.val_main_v40 (F := Ideal) (V m c main_arg0) (V m c main_arg1) (V m c main_arg2) := by
  refine (dats m 0 c).arrAt_eq_of_cover 4 _ (fun t _ => ?_) covered4
  rw [flushed4_A, out4, iblk2_eq]
  refine cut4_eq t _ _ fun j => ?_
  exact block_stats (V m c main_arg0) (V m c main_arg1) _ _ _ (bat t) (iblk0_apply m c t) (iblk1_apply m c t)
    (fun i => by rw [iblk0_apply]; exact h0 _) (fun i => by rw [iblk1_apply]; exact h1 _) j
end arrays

end Cert.StageSelfIdeal.Eq

end
-- ==== Proof.SelfClaims.lean ====
module

public import proofs.«01_k».proof.Defs
public import proofs.«01_k».proof.Proof.SelfEq
public import proofs.«01_k».proof.Proof.Gen.StageSelf.Frame
public import proofs.«01_k».proof.Proof.Gen.StageSelfIdeal.Value
public import proofs.«01_k».proof.Proof.Gen.RefSelfIdeal.Run
public import proofs.«01_k».proof.Proof.Gen.Pre_no_tie_self
public import Idealize.ShloMosaic.Lib.Quiescent

@[expose] public section

set_option maxRecDepth 16384

noncomputable section

namespace Cert.SelfClaims

open Idealize.ShloMosaic Idealize.ShloMosaic.TcCoe Idealize.SL.Sem

/-! # The claims about the self stage -/

/-- The reference runs, keeps its arguments, and has no semaphore to leave raised. -/
theorem frame_ref : Cert.quiescent_RefSelfIdeal := fun m ρ _ =>
  (θ_run Cert.RefSelfIdeal.defs _ _).mono (fun r h => ⟨fun c => (h c).2.2, sem_eq_zero_of_no_sems rfl r.2⟩) (Cert.RefSelfIdeal.Value.run m ρ)

theorem frame_ref_pre : Cert.quiescent_RefSelfIdeal_pre_no_tie_self := fun m ρ _ => frame_ref m ρ trivial

/-- The two sentinels stand for the two infinities. -/
theorem preserves : Cert.preserves_StageSelf_StageSelfIdeal :=
  ⟨IdealRules.named_const.statement Cert.StageSelfIdeal.κ "neg_mask" .f32 0xF149F2CA#32 ⊥ rfl,
    IdealRules.named_const.statement Cert.StageSelfIdeal.κ "mask" .f32 0x7149F2CA#32 ⊤ rfl⟩

/-- From memories that agree on the arguments both programs end with the reference's two results. -/
theorem algebraic : Cert.algebraic_StageSelfIdeal_RefSelfIdeal := by
  intro m ρ m' ρ' hpre hargs
  have hfin := fun c => Cert.StageSelfIdeal.Eq.finite_of_pre _ _ _ (hpre c)
  refine ⟨fun c => Cert.RefSelfIdeal.Value.res_main_v37 m' c, fun c => Cert.RefSelfIdeal.Value.res_main_v40 m' c, ?_, ?_⟩
  · refine (θ_run Cert.StageSelfIdeal.defs _ _).mono (fun r h c => ?_) (Cert.StageSelfIdeal.Value.run_blocks m ρ)
    obtain ⟨h3, h4, hk⟩ := h c
    obtain ⟨a0, a1, a2⟩ := hargs c
    refine ⟨h3.trans ?_, h4.trans ?_, hk⟩
    · refine (Cert.StageSelfIdeal.Eq.final3 m c (hfin c).1 (hfin c).2).trans (Eq.trans ?_ (Cert.RefSelfIdeal.Read.val_main_v37_eq m' c).symm)
      rw [a0, a1, a2]
    · refine (Cert.StageSelfIdeal.Eq.final4 m c (hfin c).1 (hfin c).2).trans (Eq.trans ?_ (Cert.RefSelfIdeal.Read.val_main_v40_eq m' c).symm)
      rw [a0, a1, a2]
  · exact Cert.RefSelfIdeal.Value.run m' ρ'

end Cert.SelfClaims

end
-- ==== Proof.Gather4Loop.lean ====
module

public import proofs.«01_k».proof.Proof.Gen.StageGather4Ideal.Value
public import proofs.«01_k».proof.Proof.LoopKit

@[expose] public section

set_option maxRecDepth 16384

noncomputable section

namespace Cert.StageGather4Ideal.Loop

open Cert.StageGather4Ideal Cert.StageGather4Ideal.Gen Idealize.ShloMosaic Idealize.ShloMosaic.TcCoe Idealize.SL.Sem LoopKit

variable {F : FTy → Type} [FloatOps F] [Named F]

/-- What the loop's four buffers hold: masked distances, running maximum, running sum, running sum of squares. -/
abbrev St (F : FTy → Type) : Type := Vec F S128x512 .f32 × Vec F S128x128 .f32 × Vec F S128x128 .f32 × Vec F S128x128 .f32

section
variable (𝒱 : Variants) (c : Dev nD) (bd : Option 𝒱.V) (i : grid0.Coords) (arg1 : Memref sig .tc .vmem S1x3x128 .f32) (harg1 : arg1.IsWhole) (arg2 : Memref sig .tc .vmem S1x3x512 .f32) (harg2 : arg2.IsWhole) (arg3 : Memref sig .tc .vmem S1x64x512 .f32) (harg3 : arg3.IsWhole) (arg4 : Memref sig .tc .vmem S1x1x128 .i32) (harg4 : arg4.IsWhole) (arg5 : Memref sig .tc .vmem S128x128 .f32) (harg5 : arg5.IsWhole) (arg6 : Memref sig .tc .vmem S1x128x128 .f32) (harg6 : arg6.IsWhole) (arg7 : Memref sig .tc .vmem S1x4x2 .f32) (harg7 : arg7.IsWhole) (arg8 : Memref sig .tc .vmem S128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (v5 : FVec F S64x512 .f32) (v13 : FVec F S64x128 .f32) (v29 : Vec F S128x128 .f32) (v33 : FVec F S128x128 .f32) (v45 : IVec S128x512 32)

/-- One trip on what the buffers hold. -/
def step (v5 : FVec F S64x512 .f32) (v13 : FVec F S64x128 .f32) (v29 : Vec F S128x128 .f32) (v45 : IVec S128x512 32) (s : St F) : St F :=
  (k0_pay3 v45 s.1, k0_pay5 v13 v29 v45 (k0_pay15 v5) s.1 s.2.1, k0_pay6 v13 v29 v45 (k0_pay15 v5) s.1 s.2.2.1,
    k0_pay16 (k0_pay7 v13 v29 v45 (k0_pay15 v5) s.1 s.2.2.2))

/-- What the four buffers read as. -/
def rd (f8 : BufTy.Contents (Elt F) arg8.view.ty) (f9 : BufTy.Contents (Elt F) arg9.view.ty) (f10 : BufTy.Contents (Elt F) arg10.view.ty) (f11 : BufTy.Contents (Elt F) arg11.view.ty) : St F :=
  (arg8.view.read (Elt F) f8, arg9.view.read (Elt F) f9, arg10.view.read (Elt F) f10, arg11.view.read (Elt F) f11)

theorem trip_rd (k : Fin k0_t1_loop.trips) (f8 f9 f10 f11) :
    rd arg8 arg9 arg10 arg11
      (arg8.view.writes (Elt F) f8 ((trip_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 k).1 f8 f9 f10 f11))
      (arg9.view.writes (Elt F) f9 ((trip_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 k).2.1 f8 f9 f10 f11))
      (arg10.view.writes (Elt F) f10 ((trip_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 k).2.2.1 f8 f9 f10 f11))
      (arg11.view.writes (Elt F) f11 ((trip_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 k).2.2.2.1 f8 f9 f10 f11))
      = step v5 v13 v29 v45 (rd arg8 arg9 arg10 arg11 f8 f9 f10 f11) := by
  unfold trip_k0_t1 rd step
  dsimp only
  sl_unfold_words
  refine Prod.ext ?_ (Prod.ext ?_ (Prod.ext ?_ ?_))
  all_goals
    refine (View.read_writes_full _ _ _ _ _).trans ?_
  · exact congrArg (k0_pay3 v45) (View.readAt_full arg8.view f8 _)
  · exact congrArg₂ (k0_pay5 v13 v29 v45 (k0_pay15 v5)) (View.readAt_full arg8.view f8 _) (View.readAt_full arg9.view f9 _)
  · exact congrArg₂ (k0_pay6 v13 v29 v45 (k0_pay15 v5)) (View.readAt_full arg8.view f8 _) (View.readAt_full arg10.view f10 _)
  · exact congrArg k0_pay16 (congrArg₂ (k0_pay7 v13 v29 v45 (k0_pay15 v5)) (View.readAt_full arg8.view f8 _) (View.readAt_full arg11.view f11 _))

/-- After `k` trips the buffers read as `k` steps from what they read at entry. -/
theorem loop_rd (G8 G9 G10 G11) (k : ℕ) (hk : k ≤ k0_t1_loop.trips) :
    rd arg8 arg9 arg10 arg11
      (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 k).1)
      (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 k).2.1)
      (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 k).2.2.1)
      (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 k).2.2.2)
      = (step v5 v13 v29 v45)^[k] (rd arg8 arg9 arg10 arg11 G8 G9 G10 G11) := by
  induction k with
  | zero => rfl
  | succ k ih =>
    rw [Function.iterate_succ_apply', ← ih (by omega)]
    rw [pb_k0_t1_succ 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 ⟨k, by omega⟩]
    dsimp only
    rw [View.writes_append, View.writes_append, View.writes_append, View.writes_append]
    exact trip_rd 𝒱 c bd i arg1 harg1 arg2 harg2 arg3 harg3 arg4 harg4 arg5 harg5 arg6 harg6 arg7 harg7 arg8 harg8 arg9 harg9 arg10 harg10 arg11 harg11 v5 v13 v29 v33 v45 ⟨k, by omega⟩ _ _ _ _
end

/-- The four buffers after the sixteen trips, from the blocks of data and the weight. -/
def fin (x0 : Vec F S1x3x128 .f32) (x1 : Vec F S1x3x512 .f32) (x2 : Vec F S1x64x512 .f32) (x3 : Vec F S1x1x128 .i32) (x4 : Vec F S128x128 .f32) : St F :=
  (step (k0_pay8 x2) (k0_pay9 x2 x3) x4 (iota .tc S128x512 32 [1] iota_S128x512_d1_w32))^[16] (k0_pay10 x0 x1, k0_pay12 k0_pay11, k0_pay13, k0_pay14)

/-- The first result's block. -/
theorem out5 (c : Dev nD) (i : grid0.Coords) (arg1 : Memref sig .tc .vmem S1x3x128 .f32) (harg1 : arg1.IsWhole) (arg2 : Memref sig .tc .vmem S1x3x512 .f32) (harg2 : arg2.IsWhole) (arg3 : Memref sig .tc .vmem S1x64x512 .f32) (harg3 : arg3.IsWhole) (arg4 : Memref sig .tc .vmem S1x1x128 .i32) (harg4 : arg4.IsWhole) (arg5 : Memref sig .tc .vmem S128x128 .f32) (harg5 : arg5.IsWhole) (arg6 : Memref sig .tc .vmem S1x128x128 .f32) (harg6 : arg6.IsWhole) (arg7 : Memref sig .tc .vmem S1x4x2 .f32) (harg7 : arg7.IsWhole) (arg8 : Memref sig .tc .vmem S128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole)
    (x0 : Vec F S1x3x128 .f32) (x1 : Vec F S1x3x512 .f32) (x2 : Vec F S1x64x512 .f32) (x3 : Vec F S1x1x128 .i32) (x4 : Vec F S128x128 .f32) :
    out0_A_5 c i arg1 harg1 arg2 harg2 arg3 harg3 arg4 harg4 arg5 harg5 arg6 harg6 arg7 harg7 arg8 harg8 arg9 harg9 arg10 harg10 arg11 harg11 x0 x1 x2 x3 x4 = k0_pay17 (fin x0 x1 x2 x3 x4).2.1 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 x0 x1 x2 x3 x4)]
  unfold kernelRun0_A
  dsimp only
  sl_unfold_words
  refine (View.canon_unit_zero (S := S1x128x128) hz3 _ _).trans (congrArg k0_pay17 ?_)
  refine (readCov_two (s := S128x128) arg9.view _ _ _).trans ?_
  refine (congrArg (fun s : St F => s.2.1) (loop_rd .none c none i arg1 harg1 arg2 harg2 arg3 harg3 arg4 harg4 arg5 harg5 arg6 harg6 arg7 harg7 arg8 harg8 arg9 harg9 arg10 harg10 arg11 harg11 _ _ _ _ _ _ _ _ _ 16 (by decide))).trans ?_
  unfold fin rd
  rw [View.read_writes_full (s := S128x512), View.read_writes_full (s := S128x128), View.read_writes_full (s := S128x128), View.read_writes_full (s := S128x128)]
  rw [show View.readAt (Elt F) arg1.view _ (harg1.unread x0) = x0 from (View.readAt_full arg1.view _ _).trans (harg1.read_unread x0),
    show View.readAt (Elt F) arg2.view _ (harg2.unread x1) = x1 from (View.readAt_full arg2.view _ _).trans (harg2.read_unread x1),
    show View.readAt (Elt F) arg3.view _ (harg3.unread x2) = x2 from (View.readAt_full arg3.view _ _).trans (harg3.read_unread x2),
    show View.readAt (Elt F) arg4.view _ (harg4.unread x3) = x3 from (View.readAt_full arg4.view _ _).trans (harg4.read_unread x3),
    show View.readAt (Elt F) arg5.view _ (harg5.unread x4) = x4 from (View.readAt_full arg5.view _ _).trans (harg5.read_unread x4)]

/-- The second result's block: the two group sums. -/
theorem out6 (c : Dev nD) (i : grid0.Coords) (arg1 : Memref sig .tc .vmem S1x3x128 .f32) (harg1 : arg1.IsWhole) (arg2 : Memref sig .tc .vmem S1x3x512 .f32) (harg2 : arg2.IsWhole) (arg3 : Memref sig .tc .vmem S1x64x512 .f32) (harg3 : arg3.IsWhole) (arg4 : Memref sig .tc .vmem S1x1x128 .i32) (harg4 : arg4.IsWhole) (arg5 : Memref sig .tc .vmem S128x128 .f32) (harg5 : arg5.IsWhole) (arg6 : Memref sig .tc .vmem S1x128x128 .f32) (harg6 : arg6.IsWhole) (arg7 : Memref sig .tc .vmem S1x4x2 .f32) (harg7 : arg7.IsWhole) (arg8 : Memref sig .tc .vmem S128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole)
    (x0 : Vec F S1x3x128 .f32) (x1 : Vec F S1x3x512 .f32) (x2 : Vec F S1x64x512 .f32) (x3 : Vec F S1x1x128 .i32) (x4 : Vec F S128x128 .f32) :
    out0_A_6 c i arg1 harg1 arg2 harg2 arg3 harg3 arg4 harg4 arg5 harg5 arg6 harg6 arg7 harg7 arg8 harg8 arg9 harg9 arg10 harg10 arg11 harg11 x0 x1 x2 x3 x4 = k0_pay1 (iota .tc S128x4 32 [0] iota_S128x4_d0_w32) 32#32 k0_pay18 k0_pay19 0#32 (fin x0 x1 x2 x3 x4).2.2.1 (fin x0 x1 x2 x3 x4).2.2.2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4)]
  unfold kernelRun0_A
  dsimp only
  sl_unfold_words
  refine (View.canon_unit_zero (S := S1x4x2) hz3 _ _).trans (congrArg₂ (k0_pay1 (iota .tc S128x4 32 [0] iota_S128x4_d0_w32) 32#32 k0_pay18 k0_pay19 0#32) ?_ ?_)
  · refine (readCov_two (s := S128x128) arg10.view _ _ _).trans ?_
    refine (congrArg (fun s : St F => s.2.2.1) (loop_rd .none c none i arg1 harg1 arg2 harg2 arg3 harg3 arg4 harg4 arg5 harg5 arg6 harg6 arg7 harg7 arg8 harg8 arg9 harg9 arg10 harg10 arg11 harg11 _ _ _ _ _ _ _ _ _ 16 (by decide))).trans ?_
    unfold fin rd
    rw [View.read_writes_full (s := S128x512), View.read_writes_full (s := S128x128), View.read_writes_full (s := S128x128), View.read_writes_full (s := S128x128)]
    rw [show View.readAt (Elt F) arg1.view _ (harg1.unread x0) = x0 from (View.readAt_full arg1.view _ _).trans (harg1.read_unread x0),
      show View.readAt (Elt F) arg2.view _ (harg2.unread x1) = x1 from (View.readAt_full arg2.view _ _).trans (harg2.read_unread x1),
      show View.readAt (Elt F) arg3.view _ (harg3.unread x2) = x2 from (View.readAt_full arg3.view _ _).trans (harg3.read_unread x2),
      show View.readAt (Elt F) arg4.view _ (harg4.unread x3) = x3 from (View.readAt_full arg4.view _ _).trans (harg4.read_unread x3),
      show View.readAt (Elt F) arg5.view _ (harg5.unread x4) = x4 from (View.readAt_full arg5.view _ _).trans (harg5.read_unread x4)]
  · refine (readCov_two (s := S128x128) arg11.view _ _ _).trans ?_
    refine (congrArg (fun s : St F => s.2.2.2) (loop_rd .none c none i arg1 harg1 arg2 harg2 arg3 harg3 arg4 harg4 arg5 harg5 arg6 harg6 arg7 harg7 arg8 harg8 arg9 harg9 arg10 harg10 arg11 harg11 _ _ _ _ _ _ _ _ _ 16 (by decide))).trans ?_
    unfold fin rd
    rw [View.read_writes_full (s := S128x512), View.read_writes_full (s := S128x128), View.read_writes_full (s := S128x128), View.read_writes_full (s := S128x128)]
    rw [show View.readAt (Elt F) arg1.view _ (harg1.unread x0) = x0 from (View.readAt_full arg1.view _ _).trans (harg1.read_unread x0),
      show View.readAt (Elt F) arg2.view _ (harg2.unread x1) = x1 from (View.readAt_full arg2.view _ _).trans (harg2.read_unread x1),
      show View.readAt (Elt F) arg3.view _ (harg3.unread x2) = x2 from (View.readAt_full arg3.view _ _).trans (harg3.read_unread x2),
      show View.readAt (Elt F) arg4.view _ (harg4.unread x3) = x3 from (View.readAt_full arg4.view _ _).trans (harg4.read_unread x3),
      show View.readAt (Elt F) arg5.view _ (harg5.unread x4) = x4 from (View.readAt_full arg5.view _ _).trans (harg5.read_unread x4)]

end Cert.StageGather4Ideal.Loop

end
-- ==== Proof.Gather4Val.lean ====
module

public import proofs.«01_k».proof.Proof.Gather4Loop
public import Idealize.ShloMosaic.PureOps.IdealRules
public import proofs.«01_k».proof.Proof.Groups
public import proofs.«01_k».proof.Proof.Column

@[expose] public section

set_option maxRecDepth 16384

noncomputable section

namespace Cert.StageGather4Ideal.Val

open Cert.StageGather4Ideal Cert.StageGather4Ideal.Gen Cert.StageGather4Ideal.Loop Idealize.ShloMosaic Idealize.ShloMosaic.ValueIdx Nearest KOps
open scoped BigOperators

/-! # What one block of the gather stage computes, over the extended reals -/

/-- The key positions, one row for every query. -/
abbrev pos : IVec S128x512 32 := iota .tc S128x512 32 [1] iota_S128x512_d1_w32

theorem mark_val (d : FVec Ideal S128x512 .f32) (q : Fin 128) (p P : Fin 512) (hP : FirstMin (fun k => d (ix2 q k)) P) :
    k0_pay2 (F := Ideal) pos d (ix2 q p) = if p = P then 1#1 else 0#1 :=
  mark_apply d iota_S128x512_d1_w32 reduces_S128x512_S128 shapeCasts_S128_S128x1 broadcasts_S128x1_S128x512 (by norm_num) q p P hP

theorem mask_val : Named.named (F := Ideal) (φ := .f32) κ "mask" 0x7149F2CA#32 = (⊤ : EReal) :=
  IdealRules.named_const.ideal_named_scalar (φ := .f32) κ "mask" 0x7149F2CA#32 ⊤ (by rfl)

theorem neg_mask_val : Named.named (F := Ideal) (φ := .f32) κ "neg_mask" 0xF149F2CA#32 = (⊥ : EReal) :=
  IdealRules.named_const.ideal_named_scalar (φ := .f32) κ "neg_mask" 0xF149F2CA#32 ⊥ (by rfl)

theorem masked_val (d : FVec Ideal S128x512 .f32) (q : Fin 128) (p P : Fin 512) (hP : FirstMin (fun k => d (ix2 q k)) P) :
    k0_pay3 (F := Ideal) pos d (ix2 q p) = if p = P then ⊤ else d (ix2 q p) := by
  unfold k0_pay3
  rw [cast_self]
  refine (congrArg (fun c : BitVec 1 => Scalar.select c _ (d (ix2 q p))) (mark_val d q p P hP)).trans ?_
  by_cases h : p = P
  · rw [if_pos h, if_pos h]
    exact mask_val
  · rw [if_neg h, if_neg h]
    rfl

theorem conv_val (f : FVec Ideal S64x512 .f32) (hf : ∀ i, f i ≠ ⊥ ∧ f i ≠ ⊤) (g : FVec Ideal S64x128 .f32) (W : FVec Ideal S128x128 .f32)
    (d : FVec Ideal S128x512 .f32) (o : Fin 128) (q : Fin 128) (P : Fin 512) (hP : FirstMin (fun k => d (ix2 q k)) P) :
    k0_pay4 (F := Ideal) g W pos (k0_pay15 f) d (ix2 o q) = conv (C := 64) rfl W f g P o q :=
  conv_apply (C := 64) rfl W f g _ concatenates_S64x128_S64x128_S128x128_d0 _ zero_apply q P
    (gathered_apply (C := 64) rfl f bitsLt_bf16_f32 concatenates_S64x512_S64x512_S64x512_S192x512_d0 hf _ _ zero_apply
      slices_S192x128_o0_0_S64x128 slices_S192x128_o64_0_S64x128 slices_S192x128_o128_0_S64x128 q P
      (fun p => flag_apply _ natLt_1_32 (ix2 q p) (p = P) (mark_val d q p P hP))) o

theorem dist_val (x0 : FVec Ideal S1x3x128 .f32) (x1 : FVec Ideal S1x3x512 .f32) (q : Fin 128) (p : Fin 512) :
    k0_pay10 (F := Ideal) x0 x1 (ix2 q p) = sqd (fun k p => x0 (ix3 0 k p)) (fun k p => x1 (ix3 0 k p)) q p := by
  have hx : ∀ (k : Fin 3) (p : Fin 128), shapeCast S3x128 x0 shapeCasts_S1x3x128_S3x128 (ix2 k p) = x0 (ix3 0 k p) := fun k p => shapeCast_1ab_ab_apply x0 _ k p
  have hy : ∀ (k : Fin 3) (p : Fin 512), shapeCast S3x512 x1 shapeCasts_S1x3x512_S3x512 (ix2 k p) = x1 (ix3 0 k p) := fun k p => shapeCast_1ab_ab_apply x1 _ k p
  unfold k0_pay10
  rw [cast_self]
  refine (sqd_apply (shapeCast S3x128 x0 shapeCasts_S1x3x128_S3x128) (shapeCast S3x512 x1 shapeCasts_S1x3x512_S3x512)
    reduces_S3x128_S128 reduces_S3x512_S512 (.inl rfl) rfl shapeCasts_S128_S1x128 shapeCasts_S512_S1x512 broadcasts_S128x1_S128x512 broadcasts_S1x512_S128x512 q p).trans ?_
  simp only [hx, hy]

/-- The block's features, its leading axis dropped. -/
theorem feat_apply (x2 : FVec Ideal S1x64x512 .f32) (c : Fin 64) (p : Fin 512) : k0_pay8 (F := Ideal) x2 (ix2 c p) = x2 (ix3 0 c p) :=
  shapeCast_1ab_ab_apply x2 shapeCasts_S1x64x512_S64x512 c p

/-- A query's own features: the key's that its index names. -/
theorem query_apply (x2 : FVec Ideal S1x64x512 .f32) (x3 : IVec S1x1x128 32) (c : Fin 64) (q : Fin 128) (P : Fin 512)
    (hP : x3 (ix3 0 0 q) = BitVec.ofNat 32 P.val) : k0_pay9 (F := Ideal) x2 x3 (ix2 c q) = x2 (ix3 0 c P) := by
  refine (column_apply (k0_pay8 (F := Ideal) x2) x3 iota_S512x128_d0_w32 shapeCasts_S1x1x128_S1x128 broadcasts_S1x128_S512x128 natLt_1_32 (by norm_num) (some .fp32) _ zero_apply c q P hP).trans ?_
  exact feat_apply x2 c P

variable (x0 : FVec Ideal S1x3x128 .f32) (x1 : FVec Ideal S1x3x512 .f32) (x2 : FVec Ideal S1x64x512 .f32) (x3 : IVec S1x1x128 32) (x4 : FVec Ideal S128x128 .f32)

/-- Distances of the block's queries to its keys. -/
abbrev D (q : Fin 128) (p : Fin 512) : EReal := sqd (fun k p => x0 (ix3 0 k p)) (fun k p => x1 (ix3 0 k p)) q p

/-- Convolution of the block's features. -/
abbrev cv (P : Fin 512) (o : Fin 128) (q : Fin 128) : EReal := conv (C := 64) rfl x4 (k0_pay8 (F := Ideal) x2) (k0_pay9 (F := Ideal) x2 x3) P o q

/-- The four buffers after `k` trips. -/
def at' (k : ℕ) : St Ideal := (step (F := Ideal) (k0_pay8 (F := Ideal) x2) (k0_pay9 (F := Ideal) x2 x3) x4 pos)^[k] (k0_pay10 (F := Ideal) x0 x1, k0_pay12 (F := Ideal) k0_pay11, k0_pay13 (F := Ideal), k0_pay14 (F := Ideal))

theorem at_zero : at' x0 x1 x2 x3 x4 0 = (k0_pay10 (F := Ideal) x0 x1, k0_pay12 (F := Ideal) k0_pay11, k0_pay13 (F := Ideal), k0_pay14 (F := Ideal)) := rfl

theorem at_succ (k : ℕ) : at' x0 x1 x2 x3 x4 (k + 1) = step (F := Ideal) (k0_pay8 (F := Ideal) x2) (k0_pay9 (F := Ideal) x2 x3) x4 pos (at' x0 x1 x2 x3 x4 k) := Function.iterate_succ_apply' _ _ _

theorem mx_init (i : S128x128.Idx) : k0_pay12 (F := Ideal) k0_pay11 i = ⊥ := by
  unfold k0_pay12 k0_pay11
  rw [cast_self]
  exact neg_mask_val

theorem sm_init (i : S128x128.Idx) : k0_pay13 (F := Ideal) i = 0 := by
  unfold k0_pay13
  rw [cast_self]
  exact Ideal.ofBits_zero_f32

theorem sq_init (i : S128x128.Idx) : k0_pay14 (F := Ideal) i = 0 := by
  unfold k0_pay14
  rw [cast_self]
  exact Ideal.ofBits_zero_f32

section
variable (f : FVec Ideal S64x512 .f32) (hf : ∀ i, f i ≠ ⊥ ∧ f i ≠ ⊤) (h : FVec Ideal S64x128 .f32) (W : FVec Ideal S128x128 .f32) (d : FVec Ideal S128x512 .f32)
  (a : FVec Ideal S128x128 .f32) (o : Fin 128) (q : Fin 128) (P : Fin 512) (hP : FirstMin (fun k => d (ix2 q k)) P)
include hf hP

theorem mx_val : k0_pay5 (F := Ideal) h W pos (k0_pay15 f) d a (ix2 o q) = max (a (ix2 o q)) (conv (C := 64) rfl W f h P o q) := by
  unfold k0_pay5
  rw [cast_self]
  exact congrArg (max (a (ix2 o q))) (conv_val f hf h W d o q P hP)

theorem sm_val : k0_pay6 (F := Ideal) h W pos (k0_pay15 f) d a (ix2 o q) = a (ix2 o q) + conv (C := 64) rfl W f h P o q := by
  unfold k0_pay6
  rw [cast_self]
  exact congrArg (a (ix2 o q) + ·) (conv_val f hf h W d o q P hP)

theorem sq_val : k0_pay16 (F := Ideal) (k0_pay7 h W pos (k0_pay15 f) d a) (ix2 o q)
    = a (ix2 o q) + conv (C := 64) rfl W f h P o q * conv (C := 64) rfl W f h P o q := by
  unfold k0_pay16 k0_pay7
  rw [cast_self]
  exact congrArg (fun z => a (ix2 o q) + z * z) (conv_val f hf h W d o q P hP)
end

theorem state (h0 : ∀ i, x0 i ≠ ⊥ ∧ x0 i ≠ ⊤) (h1 : ∀ i, x1 i ≠ ⊥ ∧ x1 i ≠ ⊤) (hf : ∀ i, k0_pay8 (F := Ideal) x2 i ≠ ⊥ ∧ k0_pay8 (F := Ideal) x2 i ≠ ⊤) (k : ℕ) (hk : k ≤ 16) :
    Pooled (D x0 x1) (cv x2 x3 x4) k (at' x0 x1 x2 x3 x4 k).1 (at' x0 x1 x2 x3 x4 k).2.1 (at' x0 x1 x2 x3 x4 k).2.2.1 (at' x0 x1 x2 x3 x4 k).2.2.2 := by
  induction k with
  | zero =>
    rw [at_zero]
    exact Pooled.zero _ _ _ _ _ _ (dist_val x0 x1) mx_init sm_init sq_init
  | succ k ih =>
    rw [at_succ]
    exact Pooled.succ (D x0 x1) (cv x2 x3 x4) (by omega) (fun q p => sqd_lt _ _ (fun k q => h0 _) (fun k q => h1 _) q p) (ih (by omega))
      (fun q P hP p => masked_val _ q p P hP) (fun q P hP o => mx_val _ hf _ x4 _ _ o q P hP)
      (fun q P hP o => sm_val _ hf _ x4 _ _ o q P hP) (fun q P hP o => sq_val _ hf _ x4 _ _ o q P hP)

/-- The group of a channel, on words: the quotient by the group's size, rounded down. -/
def groupWord (v : BitVec 32) : BitVec 32 :=
  if IntOp.andi (IntOp.cmpi .ne (IntOp.subi ((IntOp.cmpi .sgt v 0#32).setWidth 32) ((IntOp.cmpi .slt v 0#32).setWidth 32))
      (IntOp.subi ((IntOp.cmpi .sgt 32#32 0#32).setWidth 32) ((IntOp.cmpi .slt 32#32 0#32).setWidth 32)))
    (IntOp.cmpi .ne (IntOp.remsi .vector v 32#32) 0#32) = 1#1 then IntOp.subi (IntOp.divsi .vector v 32#32) 1#32 else IntOp.divsi .vector v 32#32

theorem groupWord_mark : ∀ (o : Fin 128) (g : Fin 4), IntOp.cmpi .eq (groupWord (BitVec.ofNat 32 o.val)) (BitVec.ofNat 32 g.val) = if o.val / 32 = g.val then 1#1 else 0#1 := by
  decide +kernel

/-- Every channel's number. -/
abbrev ch : IVec S128x4 32 := iota .tc S128x4 32 [0] iota_S128x4_d0_w32

/-- Every channel's group. -/
def grp : IVec S128x4 32 := select (andi (cmpi .ne k0_pay19 (broadcast S128x4 (Scalar.subi (Scalar.extui (Scalar.cmpi .sgt 32#32 0#32)) (Scalar.extui (Scalar.cmpi .slt 32#32 0#32)))))
    (cmpi .ne (remsi ch (broadcast S128x4 32#32)) (broadcast S128x4 0#32))) (subi k0_pay18 (broadcast S128x4 1#32)) k0_pay18

/-- The marks of the four channel groups. -/
theorem group_mark (o : Fin 128) (g : Fin 4) :
    cmpi .eq grp (iota .tc S128x4 32 [1] iota_S128x4_d1_w32) (ix2 o g) = if o.val / 32 = g.val then 1#1 else 0#1 := by
  rw [← groupWord_mark]
  have e0 : iota .tc S128x4 32 [0] iota_S128x4_d0_w32 = fun i => BitVec.ofNat 32 (i 0).val := funext fun i => iota_single_apply _ _ _ _ _ i
  have e1 : iota .tc S128x4 32 [1] iota_S128x4_d1_w32 = fun i => BitVec.ofNat 32 (i 1).val := funext fun i => iota_single_apply _ _ _ _ _ i
  unfold grp ch k0_pay19 k0_pay18
  rw [e0, e1]
  rfl

theorem fin_eq : fin (F := Ideal) x0 x1 x2 x3 x4 = at' x0 x1 x2 x3 x4 16 := rfl

/-- The block's first result: the largest convolution over the sixteen nearest keys. -/
theorem max_apply (h0 : ∀ i, x0 i ≠ ⊥ ∧ x0 i ≠ ⊤) (h1 : ∀ i, x1 i ≠ ⊥ ∧ x1 i ≠ ⊤) (hf : ∀ i, k0_pay8 (F := Ideal) x2 i ≠ ⊥ ∧ k0_pay8 (F := Ideal) x2 i ≠ ⊤) (u : Fin 1) (o : Fin 128) (q : Fin 128) :
    k0_pay17 (F := Ideal) (at' x0 x1 x2 x3 x4 16).2.1 (ix3 u o q) = (Finset.range 16).sup fun j => cv x2 x3 x4 (near (D x0 x1 q) (Fin.ofNat 512 j)) o q :=
  (shapeCast_ab_1ab_apply (at' x0 x1 x2 x3 x4 16).2.1 shapeCasts_S128x128_S1x128x128 u o q).trans ((state x0 x1 x2 x3 x4 h0 h1 hf 16 le_rfl).mx_eq o q)

/-- The two group sums of any two arrays. -/
theorem sums_val (a b : FVec Ideal S128x128 .f32) (u : Fin 1) (g : Fin 4) :
    k0_pay1 (F := Ideal) ch 32#32 k0_pay18 k0_pay19 0#32 a b (ix3 u g 0) = (∑ s : Fin 32, ∑ q : Fin 128, a (ix2 (chan (G := 4) (S := 32) rfl g s) q))
    ∧ k0_pay1 (F := Ideal) ch 32#32 k0_pay18 k0_pay19 0#32 a b (ix3 u g 1) = ∑ s : Fin 32, ∑ q : Fin 128, b (ix2 (chan (G := 4) (S := 32) rfl g s) q) := by
  have hm : ∀ o : Fin 128, sitofp (F := Ideal) .f32 (extui 32 (cmpi .eq grp (iota .tc S128x4 32 [1] iota_S128x4_d1_w32)) natLt_1_32) (ix2 o g)
      = if o.val / 32 = g.val then (1 : EReal) else 0 := fun o => flag_apply _ natLt_1_32 (ix2 o g) _ (group_mark o g)
  have ga := group_apply (G := 4) (S := 32) rfl _ a reduces_S128x128_S128 (.inl rfl) rfl shapeCasts_S128_S128x1 g 0 hm
  have gb := group_apply (G := 4) (S := 32) rfl _ b reduces_S128x128_S128 (.inl rfl) rfl shapeCasts_S128_S128x1 g 0 hm
  unfold k0_pay1
  rw [shapeCast_ab_1ab_apply, shapeCast_ab_1ab_apply]
  exact ⟨(beside_apply _ _ concatenates_S4x1_S4x1_S4x2_d1 g).1.trans ga, (beside_apply _ _ concatenates_S4x1_S4x1_S4x2_d1 g).2.trans gb⟩

/-- The block's second result: each group's sum and sum of squares. -/
theorem stats_apply (h0 : ∀ i, x0 i ≠ ⊥ ∧ x0 i ≠ ⊤) (h1 : ∀ i, x1 i ≠ ⊥ ∧ x1 i ≠ ⊤) (hf : ∀ i, k0_pay8 (F := Ideal) x2 i ≠ ⊥ ∧ k0_pay8 (F := Ideal) x2 i ≠ ⊤) (u : Fin 1) (g : Fin 4) :
    k0_pay1 (F := Ideal) ch 32#32 k0_pay18 k0_pay19 0#32 (at' x0 x1 x2 x3 x4 16).2.2.1 (at' x0 x1 x2 x3 x4 16).2.2.2 (ix3 u g 0)
      = (∑ s : Fin 32, ∑ q : Fin 128, ∑ j ∈ Finset.range 16, cv x2 x3 x4 (near (D x0 x1 q) (Fin.ofNat 512 j)) (chan (G := 4) (S := 32) rfl g s) q)
    ∧ k0_pay1 (F := Ideal) ch 32#32 k0_pay18 k0_pay19 0#32 (at' x0 x1 x2 x3 x4 16).2.2.1 (at' x0 x1 x2 x3 x4 16).2.2.2 (ix3 u g 1)
      = ∑ s : Fin 32, ∑ q : Fin 128, ∑ j ∈ Finset.range 16,
          cv x2 x3 x4 (near (D x0 x1 q) (Fin.ofNat 512 j)) (chan (G := 4) (S := 32) rfl g s) q * cv x2 x3 x4 (near (D x0 x1 q) (Fin.ofNat 512 j)) (chan (G := 4) (S := 32) rfl g s) q := by
  obtain ⟨e0, e1⟩ := sums_val (at' x0 x1 x2 x3 x4 16).2.2.1 (at' x0 x1 x2 x3 x4 16).2.2.2 u g
  have st := state x0 x1 x2 x3 x4 h0 h1 hf 16 le_rfl
  constructor
  · exact e0.trans (Finset.sum_congr rfl fun s _ => Finset.sum_congr rfl fun q _ => st.sm_eq _ q)
  · exact e1.trans (Finset.sum_congr rfl fun s _ => Finset.sum_congr rfl fun q _ => st.sq_eq _ q)

end Cert.StageGather4Ideal.Val

end
-- ==== Proof.RefGather4.lean ====
module

public import proofs.«01_k».proof.Proof.Gen.RefGather4Ideal.Read
public import proofs.«01_k».proof.Proof.HostOps

@[expose] public section

set_option maxRecDepth 16384

noncomputable section

namespace Cert.RefGather4Ideal.Val

open Cert.RefGather4Ideal Cert.RefGather4Ideal.Read Idealize.ShloMosaic Idealize.ShloMosaic.ValueIdx Nearest KOps
open scoped BigOperators

/-! # What the reference of the fourth stage computes -/

variable (x0 : FVec Ideal S16x3x128 .f32) (x1 : FVec Ideal S16x3x512 .f32) (x2 : FVec Ideal S16x64x512 .f32) (x3 : IVec S16x1x128 32) (x4 : FVec Ideal S128x128 .f32)

/-- The query points of one batch, -/
abbrev pq (b : Fin 16) (k : Fin 3) (p : Fin 128) : EReal := x0 (ix3 b k p)

/-- and its key points. -/
abbrev pk (b : Fin 16) (k : Fin 3) (p : Fin 512) : EReal := x1 (ix3 b k p)

/-- The query features of one batch, -/
def fq (b : Fin 16) : (⟨2, ![64, 128]⟩ : Shape).Idx → EReal := fun i => (val_main_v7 (F := Ideal) x2 x3) (ix3 b (i 0) (i 1))

/-- and its key features. -/
def fk (b : Fin 16) : (⟨2, ![64, 512]⟩ : Shape).Idx → EReal := fun i => x2 (ix3 b (i 0) (i 1))

theorem dist_eq (b : Fin 16) (q : Fin 128) (p : Fin 512) : val_main_v23 (F := Ideal) x0 x1 (ix3 b q p) = sqd (pq x0 b) (pk x1 b) q p := by
  rw [val_main_v23_apply, val_main_v18_apply, val_main_v13_apply, val_main_v12_apply, val_main_cst_apply, val_main_v11_apply, val_main_v17_apply,
    val_main_v16_apply, val_main_v15_apply, val_main_v22_apply, val_main_v21_apply, val_main_v20_apply]
  simp only [val_main_v10_apply, val_main_v9_apply, val_main_v8_apply, val_main_v14_apply, val_main_v19_apply, val_main_cst_1_apply, val_main_cst_2_apply]
  show Ideal.ofBits .f32 0xC0000000#32 * _ + (Ideal.ofBits .f32 0x00000000#32 + _) + (Ideal.ofBits .f32 0x00000000#32 + _) = _
  rw [Ideal.ofBits_zero_f32, zero_add, zero_add]
  unfold sqd
  refine congrArg₂ (· + ·) (congrArg₂ (· + ·) (congrArg (_ * ·) ?_) ?_) ?_
  · exact Finset.sum_congr rfl fun k _ => congrArg₂ (fun i j => x0 i * x1 j)
      (funext fun a => Fin.ext (match a with | ⟨0, _⟩ => rfl | ⟨1, _⟩ => rfl | ⟨2, _⟩ => rfl))
      (funext fun a => Fin.ext (match a with | ⟨0, _⟩ => rfl | ⟨1, _⟩ => rfl | ⟨2, _⟩ => rfl))
  · exact Finset.sum_congr rfl fun k _ => congrArg (fun i => x0 i * x0 i)
      (funext fun a => Fin.ext (match a with | ⟨0, _⟩ => rfl | ⟨1, _⟩ => rfl | ⟨2, _⟩ => rfl))
  · exact Finset.sum_congr rfl fun k _ => congrArg (fun i => x1 i * x1 i)
      (funext fun a => Fin.ext (match a with | ⟨0, _⟩ => rfl | ⟨1, _⟩ => rfl | ⟨2, _⟩ => rfl))

/-- The key the reference takes as the `k`-th nearest of a query. -/
abbrev nb (b : Fin 16) (q : Fin 128) (k : ℕ) : Fin 512 := near (sqd (pq x0 b) (pk x1 b) q) (Fin.ofNat 512 k)

theorem index_eq (b : Fin 16) (q : Fin 128) (k : Fin 16) : val_main_indices (F := Ideal) x0 x1 (ix3 b q k) = BitVec.ofNat 32 (nb x0 x1 b q k.val).val := by
  have hv : val_main_v24 (F := Ideal) x0 x1 = fun i => -(val_main_v23 (F := Ideal) x0 x1 i : EReal) := by
    funext i
    rw [val_main_v24_apply]
    generalize val_main_v23 (F := Ideal) x0 x1 i = z
    rfl
  unfold val_main_indices
  rw [hv]
  refine (topK_idx (B := 16) (Q := 128) (N := 512) (K := 16) (val_main_v23 (F := Ideal) x0 x1) _ b q k (lt_trans k.isLt (by norm_num))).trans ?_
  have e : (fun p => val_main_v23 (F := Ideal) x0 x1 (ix3 b q p)) = sqd (pq x0 b) (pk x1 b) q := funext fun p => dist_eq x0 x1 b q p
  rw [e]
  refine congrArg (fun z => BitVec.ofNat 32 (near (sqd (pq x0 b) (pk x1 b) q) z).val) (Fin.ext ?_)
  exact (Nat.mod_eq_of_lt (lt_trans k.isLt (by norm_num))).symm

theorem start_eq (b : Fin 16) (q : Fin 128) (k : Fin 16) : (val_main_v31 (F := Ideal) x0 x1 (ix4 b q k 0)).toInt = (nb x0 x1 b q k.val).val := by
  rw [val_main_v31_apply, val_main_v30_apply, val_main_v27_apply, val_main_v26_apply, val_main_c_3_apply]
  have e : idx_main_v31 (ix4 b q k 0) = ix3 b q k := funext fun a => Fin.ext (match a with | ⟨0, _⟩ => rfl | ⟨1, _⟩ => rfl | ⟨2, _⟩ => rfl)
  have hlt : (nb x0 x1 b q k.val).val < 2 ^ 31 := lt_trans (nb x0 x1 b q k.val).isLt (by norm_num)
  rw [e, index_eq, wrap_small hlt, toInt_small hlt]

theorem taken_eq (b : Fin 16) (q : Fin 128) (k : Fin 16) (c : Fin 64) :
    val_main_v32 (F := Ideal) x0 x1 x2 (ix4 b q k c) = x2 (ix3 b c (nb x0 x1 b q k.val)) := by
  unfold val_main_v32
  refine (take_apply (B := 16) (N := 512) (C := 64) (Q := 128) (K := 16) _ (val_main_v25 (F := Ideal) x2) (val_main_v31 (F := Ideal) x0 x1) b q k c _ (start_eq x0 x1 b q k)).trans ?_
  rw [val_main_v25_apply]
  generalize nb x0 x1 b q k.val = p
  exact congrArg x2 (funext fun a => Fin.ext (match a with | ⟨0, _⟩ => rfl | ⟨1, _⟩ => rfl | ⟨2, _⟩ => rfl))

theorem edge_eq (b : Fin 16) (c : Fin 128) (q : Fin 128) (k : Fin 16) :
    val_main_v38 (F := Ideal) x0 x1 x2 x3 (ix4 b c q k) = edge (C := 64) (fk x2 b) (fq x2 x3 b) (nb x0 x1 b q k.val) q rfl c := by
  unfold val_main_v38
  refine (stack4_apply (B := 16) (C := 64) (E := 128) (Q := 128) (K := 16) (val_main_v36 (F := Ideal) x0 x1 x2 x3) (val_main_v37 (F := Ideal) x2 x3) _ rfl b c q k).trans ?_
  unfold edge
  by_cases hc : c.val < 64
  · rw [dif_pos hc, dif_pos hc, val_main_v36_apply, val_main_v33_apply, val_main_v35_apply, val_main_v34_apply]
    have e : idx_main_v33 (ix4 b ⟨c.val, hc⟩ q k) = ix4 b q k ⟨c.val, hc⟩ := funext fun a => Fin.ext (match a with | ⟨0, _⟩ => rfl | ⟨1, _⟩ => rfl | ⟨2, _⟩ => rfl | ⟨3, _⟩ => rfl)
    rw [e, taken_eq]
    exact congrArg (fun z => x2 (ix3 b ⟨c.val, hc⟩ (nb x0 x1 b q k.val)) - (val_main_v7 (F := Ideal) x2 x3) z) (funext fun a => Fin.ext (match a with | ⟨0, _⟩ => rfl | ⟨1, _⟩ => rfl | ⟨2, _⟩ => rfl))
  · rw [dif_neg hc, dif_neg hc, val_main_v37_apply, val_main_v34_apply]
    exact congrArg (val_main_v7 (F := Ideal) x2 x3) (funext fun a => Fin.ext (match a with | ⟨0, _⟩ => rfl | ⟨1, _⟩ => rfl | ⟨2, _⟩ => rfl))

/-- One edge's convolution in one batch. -/
abbrev cv (b : Fin 16) (o : Fin 128) (q : Fin 128) (k : ℕ) : EReal := conv (C := 64) rfl x4 (fk x2 b) (fq x2 x3 b) (nb x0 x1 b q k) o q

theorem conv_eq (b : Fin 16) (o : Fin 128) (q : Fin 128) (k : Fin 16) :
    val_main_v40 (F := Ideal) x0 x1 x2 x3 x4 (ix4 b o q k) = cv x0 x1 x2 x3 x4 b o q k.val := by
  rw [val_main_v40_apply, val_main_v39_apply]
  refine Finset.sum_congr rfl fun c _ => ?_
  rw [mul_comm]
  refine congrArg₂ (· * ·) (congrArg x4 ?_) ((congrArg (val_main_v38 (F := Ideal) x0 x1 x2 x3) ?_).trans (edge_eq x0 x1 x2 x3 b c q k))
  · exact funext fun a => Fin.ext (match a with | ⟨0, _⟩ => rfl | ⟨1, _⟩ => rfl)
  · exact funext fun a => Fin.ext (match a with | ⟨0, _⟩ => rfl | ⟨1, _⟩ => rfl | ⟨2, _⟩ => rfl | ⟨3, _⟩ => rfl)

theorem group_eq (b : Fin 16) (g : Fin 4) (s : Fin 32) (q : Fin 128) (k : Fin 16) :
    val_main_v41 (F := Ideal) x0 x1 x2 x3 x4 (ix5 b g s q k) = cv x0 x1 x2 x3 x4 b (chan (G := 4) (S := 32) rfl g s) q k.val := by
  rw [val_main_v41_apply]
  refine (congrArg (val_main_v40 (F := Ideal) x0 x1 x2 x3 x4) ?_).trans (conv_eq x0 x1 x2 x3 x4 b (chan (G := 4) (S := 32) rfl g s) q k)
  refine funext fun a => Fin.ext ?_
  have h0 := b.isLt; have h1 := g.isLt; have h2 := s.isLt; have h3 := q.isLt; have h4 := k.isLt
  match a with
  | ⟨0, _⟩ => show ((((b.val * 4 + g.val) * 32 + s.val) * 128 + q.val) * 16 + k.val) / 262144 = b.val; omega
  | ⟨1, _⟩ => show ((((b.val * 4 + g.val) * 32 + s.val) * 128 + q.val) * 16 + k.val) / 2048 % 128 = s.val + 32 * g.val; omega
  | ⟨2, _⟩ => show ((((b.val * 4 + g.val) * 32 + s.val) * 128 + q.val) * 16 + k.val) / 16 % 128 = q.val; omega
  | ⟨3, _⟩ => show ((((b.val * 4 + g.val) * 32 + s.val) * 128 + q.val) * 16 + k.val) % 16 = k.val; omega

/-- The reference's first result. -/
theorem max_eq (b : Fin 16) (o : Fin 128) (q : Fin 128) :
    val_main_v45 (F := Ideal) x0 x1 x2 x3 x4 (ix3 b o q) = (Finset.range 16).sup fun j => cv x0 x1 x2 x3 x4 b o q j := by
  unfold val_main_v45
  refine maxlast_apply (B := 16) (C := 128) (Q := 128) (K := 16) _ (by decide) _ _ _ ?_ b o q _ fun k => conv_eq x0 x1 x2 x3 x4 b o q k
  rw [val_main_cst_7_apply]
  show Ideal.ofBits .f32 0xFF800000#32 = ⊥
  simp [Ideal.ofBits, Ideal.ieee]

/-- The reference's second result. -/
theorem stats_eq (b : Fin 16) (g : Fin 4) :
    val_main_v48 (F := Ideal) x0 x1 x2 x3 x4 (ix3 b g 0)
      = (∑ s : Fin 32, ∑ q : Fin 128, ∑ j ∈ Finset.range 16, cv x0 x1 x2 x3 x4 b (chan (G := 4) (S := 32) rfl g s) q j)
    ∧ val_main_v48 (F := Ideal) x0 x1 x2 x3 x4 (ix3 b g 1)
      = ∑ s : Fin 32, ∑ q : Fin 128, ∑ j ∈ Finset.range 16, cv x0 x1 x2 x3 x4 b (chan (G := 4) (S := 32) rfl g s) q j * cv x0 x1 x2 x3 x4 b (chan (G := 4) (S := 32) rfl g s) q j := by
  have hc : ∀ y : S16x4.Idx → EReal, ∀ i : S16x4.Idx, i 0 = b → i 1 = g → y i = y (ix2 b g) := fun y i h0 h1 => congrArg y (by rw [← h0, ← h1]; exact eq_ix2 i)
  unfold val_main_v48
  constructor
  · refine (stack3c_apply _ _ _ b g).1.trans ?_
    rw [val_main_v46_apply]
    refine (hc _ _ rfl rfl).trans ?_
    unfold val_main_v42
    refine (groupsum_apply (B := 16) (G := 4) (S := 32) (Q := 128) (K := 16) _ _ _ _ ?_ b g).trans ?_
    · rw [val_main_cst_5_apply]; exact Ideal.ofBits_zero_f32
    · refine Finset.sum_congr rfl fun s _ => Finset.sum_congr rfl fun q _ => ?_
      rw [← Fin.sum_univ_eq_sum_range (fun j => cv x0 x1 x2 x3 x4 b (chan (G := 4) (S := 32) rfl g s) q j) 16]
      exact Finset.sum_congr rfl fun k _ => group_eq x0 x1 x2 x3 x4 b g s q k
  · refine (stack3c_apply _ _ _ b g).2.trans ?_
    rw [val_main_v47_apply]
    refine (hc _ _ rfl rfl).trans ?_
    unfold val_main_v44
    refine (groupsum_apply (B := 16) (G := 4) (S := 32) (Q := 128) (K := 16) _ _ _ _ ?_ b g).trans ?_
    · rw [val_main_cst_6_apply]; exact Ideal.ofBits_zero_f32
    · refine Finset.sum_congr rfl fun s _ => Finset.sum_congr rfl fun q _ => ?_
      rw [← Fin.sum_univ_eq_sum_range (fun j => cv x0 x1 x2 x3 x4 b (chan (G := 4) (S := 32) rfl g s) q j * cv x0 x1 x2 x3 x4 b (chan (G := 4) (S := 32) rfl g s) q j) 16]
      exact Finset.sum_congr rfl fun k _ => congrArg (fun z => z * z) (group_eq x0 x1 x2 x3 x4 b g s q k)

end Cert.RefGather4Ideal.Val

end
-- ==== Proof.Gather4Eq.lean ====
module

public import proofs.«01_k».proof.Proof.Gather4Val
public import proofs.«01_k».proof.Proof.RefGather4
public import proofs.«01_k».proof.Proof.Query
public import proofs.«01_k».proof.Proof.Gen.StageGather4Ideal.Value
public import proofs.«01_k».proof.Proof.Gen.Pre_no_tie_gather4

@[expose] public section

set_option maxRecDepth 16384

noncomputable section

namespace Cert.StageGather4Ideal.Eq

open Cert.StageGather4Ideal Cert.StageGather4Ideal.Gen Cert.StageGather4Ideal.Value Cert.StageGather4Ideal.Loop Cert.StageGather4Ideal.Val
open Idealize.ShloMosaic Idealize.ShloMosaic.ValueIdx Idealize.ShloMosaic.TcCoe Idealize.SL.Sem Nearest KOps
open scoped BigOperators

/-! # The gather stage's result arrays are the reference's -/

/-- The precondition makes the positions and the features finite and the indices those of keys. -/
theorem of_pre (a0 : FVec Ideal S16x3x128 .f32) (a1 : FVec Ideal S16x3x512 .f32) (a2 : FVec Ideal S16x64x512 .f32) (a3 : IVec S16x1x128 32) (a4 : FVec Ideal S128x128 .f32)
    (h : Cert.Pre_no_tie_gather4.fn (F := Ideal) a0 a1 a2 a3 a4 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) ∧ ∀ i, ∃ p : Fin 512, a3 i = BitVec.ofNat 32 p.val := by
  have e := congrFun h default
  dsimp only [Cert.Pre_no_tie_gather4.fn, Cert.Pre_no_tie_gather4.fn_part1] at e
  obtain ⟨e1, -⟩ := both_bits _ _ e
  obtain ⟨e2, e3⟩ := both_bits _ _ e1
  obtain ⟨ge, lt⟩ := both_bits _ _ e3
  obtain ⟨e4, f2⟩ := both_bits _ _ e2
  obtain ⟨f0, f1⟩ := both_bits _ _ e4
  exact ⟨fun i => finite_of_all a0 _ (fun _ => rfl) _ _ _ _ f0 i, fun i => finite_of_all a1 _ (fun _ => rfl) _ _ _ _ f1 i,
    fun i => finite_of_all a2 _ (fun _ => rfl) _ _ _ _ f2 i, fun i => range_of_all (by norm_num) a3 _ _ (fun _ => rfl) (fun _ => rfl) _ _ _ _ _ _ _ ge lt i⟩

/-- What the reference takes for a query: its key's features. -/
theorem asked_eq (a2 : FVec Ideal S16x64x512 .f32) (a3 : IVec S16x1x128 32) (b : Fin 16) (c : Fin 64) (q : Fin 128) (p : Fin 512) (hp : a3 (ix3 b 0 q) = BitVec.ofNat 32 p.val) :
    Cert.RefGather4Ideal.Read.val_main_v7 (F := Ideal) a2 a3 (ix3 b c q) = a2 (ix3 b c p) := by
  have hlt : p.val < 2 ^ 31 := lt_trans p.isLt (by norm_num)
  have hs : (Cert.RefGather4Ideal.Read.val_main_v6 (F := Ideal) a3 (ix3 b q 0)).toInt = p.val := by
    rw [Cert.RefGather4Ideal.Read.val_main_v6_apply, Cert.RefGather4Ideal.Read.val_main_v5_apply, Cert.RefGather4Ideal.Read.val_main_v2_apply,
      Cert.RefGather4Ideal.Read.val_main_v1_apply, Cert.RefGather4Ideal.Read.val_main_c_apply, Cert.RefGather4Ideal.Read.val_main_v0_apply]
    have e : Cert.RefGather4Ideal.Read.idx_main_v0 (Cert.RefGather4Ideal.Read.idx_main_v6 (ix3 b q 0)) = ix3 b 0 q := by
      have hq := q.isLt
      funext a; apply Fin.ext
      match a with
      | ⟨0, _⟩ => show (b.val * 128 + q.val) / 128 = b.val; omega
      | ⟨1, _⟩ => rfl
      | ⟨2, _⟩ => show (b.val * 128 + q.val) % 128 = q.val; omega
    rw [e, hp, wrap_small hlt, toInt_small hlt]
  exact cols_apply (B := 16) (C := 64) (N := 512) (Q := 128) _ a2 (Cert.RefGather4Ideal.Read.val_main_v6 (F := Ideal) a3) b c q p hs

variable (m : (ℓ : Loc nD τ sig) → Buf (Elt Ideal) ℓ)

/-- Grid point `t` of the sixteen as a batch. -/
abbrev bat (t : Fin cfg0.N) : Fin 16 := ⟨t.val, t.isLt⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

/-! ## Where an index of a window's block lies in its array -/

theorem emb0 (t : Fin cfg0.N) (j : S1x3x128.Idx) : ((cfg0.win 0).blk t).view.emb j = ix3 (bat t) (j 1) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 3 + 1 * (j 1).val = (j 1).val; omega
  | ⟨2, _⟩ => show win0_0.index t (2 : Fin 3) * 128 + 1 * (j 2).val = (j 2).val; omega

theorem emb1 (t : Fin cfg0.N) (j : S1x3x512.Idx) : ((cfg0.win 1).blk t).view.emb j = ix3 (bat t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 3 + 1 * (j 1).val = (j 1).val; omega
  | ⟨2, _⟩ => show win0_1.index t (2 : Fin 3) * 512 + 1 * (j 2).val = (j 2).val; omega

theorem emb2 (t : Fin cfg0.N) (j : S1x64x512.Idx) : ((cfg0.win 2).blk t).view.emb j = ix3 (bat t) (j 1) (j 2) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val; omega
  | ⟨1, _⟩ => show win0_2.index t (1 : Fin 3) * 64 + 1 * (j 1).val = (j 1).val; omega
  | ⟨2, _⟩ => show win0_2.index t (2 : Fin 3) * 512 + 1 * (j 2).val = (j 2).val; omega

theorem emb3 (t : Fin cfg0.N) (j : S1x1x128.Idx) : ((cfg0.win 3).blk t).view.emb j = ix3 (bat t) (j 1) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val; omega
  | ⟨1, _⟩ => show win0_3.index t (1 : Fin 3) * 1 + 1 * (j 1).val = (j 1).val; omega
  | ⟨2, _⟩ => show win0_3.index t (2 : Fin 3) * 128 + 1 * (j 2).val = (j 2).val; omega

theorem emb5 (t : Fin cfg0.N) (j : S1x128x128.Idx) : ((cfg0.win 5).blk t).view.emb j = ix3 (bat t) (j 1) (j 2) := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val; omega
  | ⟨1, _⟩ => show win0_5.index t (1 : Fin 3) * 128 + 1 * (j 1).val = (j 1).val; omega
  | ⟨2, _⟩ => show win0_5.index t (2 : Fin 3) * 128 + 1 * (j 2).val = (j 2).val; omega

theorem emb6 (t : Fin cfg0.N) (j : S1x4x2.Idx) : ((cfg0.win 6).blk t).view.emb j = ix3 (bat t) (j 1) (j 2) := by
  obtain ⟨e0, e1, e2⟩ := idx6 t
  have h0 : (j 0).val < 1 := (j 0).isLt
  funext a; apply Fin.ext
  match a with
  | ⟨0, _⟩ => show win0_6.index t (0 : Fin 3) * 1 + 1 * (j 0).val = t.val; omega
  | ⟨1, _⟩ => show win0_6.index t (1 : Fin 3) * 4 + 1 * (j 1).val = (j 1).val; omega
  | ⟨2, _⟩ => show win0_6.index t (2 : Fin 3) * 2 + 1 * (j 2).val = (j 2).val; omega

theorem emb4 (t : Fin cfg0.N) (j : S128x128.Idx) : ((cfg0.win 4).blk t).view.emb j = j := by
  obtain ⟨e0, e1⟩ := idx4 t
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

/-! ## The blocks hold their batch's positions, features and indices, and all weights -/

theorem iblk0_apply (c : Dev nD) (t : Fin cfg0.N) (j : S1x3x128.Idx) : iblk m c 0 t j = V m c main_arg0 (ix3 (bat t) (j 1) (j 2)) :=
  congrArg (V m c main_arg0) (emb0 t j)
theorem iblk1_apply (c : Dev nD) (t : Fin cfg0.N) (j : S1x3x512.Idx) : iblk m c 1 t j = V m c main_arg1 (ix3 (bat t) (j 1) (j 2)) :=
  congrArg (V m c main_arg1) (emb1 t j)
theorem iblk2_apply (c : Dev nD) (t : Fin cfg0.N) (j : S1x64x512.Idx) : iblk m c 2 t j = V m c main_arg2 (ix3 (bat t) (j 1) (j 2)) :=
  congrArg (V m c main_arg2) (emb2 t j)
theorem iblk3_apply (c : Dev nD) (t : Fin cfg0.N) (j : S1x1x128.Idx) : iblk m c 3 t j = V m c main_arg3 (ix3 (bat t) (j 1) (j 2)) :=
  congrArg (V m c main_arg3) (emb3 t j)

theorem iblk4_eq (c : Dev nD) (t : Fin cfg0.N) : iblk m c 4 t = V m c main_arg4 := by
  funext j; show V m c main_arg4 (((cfg0.win 4).blk t).view.emb j) = _; rw [emb4]

/-! ## One block against one batch -/

section block
variable (a0 : FVec Ideal S16x3x128 .f32) (a1 : FVec Ideal S16x3x512 .f32) (a2 : FVec Ideal S16x64x512 .f32) (a3 : IVec S16x1x128 32) (W : FVec Ideal S128x128 .f32)
variable (x0 : FVec Ideal S1x3x128 .f32) (x1 : FVec Ideal S1x3x512 .f32) (x2 : FVec Ideal S1x64x512 .f32) (x3 : IVec S1x1x128 32) (b : Fin 16)

theorem keys_eq (e2 : ∀ j, x2 j = a2 (ix3 b (j 1) (j 2))) : k0_pay8 (F := Ideal) x2 = Cert.RefGather4Ideal.Val.fk a2 b := by
  funext i
  obtain ⟨k, p, rfl⟩ : ∃ (k : Fin 64) (p : Fin 512), i = ix2 k p := ⟨i 0, i 1, eq_ix2 i⟩
  exact (feat_apply x2 k p).trans (e2 _)

theorem asks_eq (e2 : ∀ j, x2 j = a2 (ix3 b (j 1) (j 2))) (e3 : ∀ j, x3 j = a3 (ix3 b (j 1) (j 2))) (hr : ∀ i, ∃ p : Fin 512, a3 i = BitVec.ofNat 32 p.val) :
    k0_pay9 (F := Ideal) x2 x3 = Cert.RefGather4Ideal.Val.fq a2 a3 b := by
  funext i
  obtain ⟨k, q, rfl⟩ : ∃ (k : Fin 64) (q : Fin 128), i = ix2 k q := ⟨i 0, i 1, eq_ix2 i⟩
  obtain ⟨p, hp⟩ := hr (ix3 b 0 q)
  refine (query_apply x2 x3 k q p ((e3 _).trans hp)).trans ((e2 _).trans ?_)
  exact (asked_eq a2 a3 b k q p hp).symm

theorem D_eq (e0 : ∀ j, x0 j = a0 (ix3 b (j 1) (j 2))) (e1 : ∀ j, x1 j = a1 (ix3 b (j 1) (j 2))) (q : Fin 128) :
    D x0 x1 q = sqd (Cert.RefGather4Ideal.Val.pq a0 b) (Cert.RefGather4Ideal.Val.pk a1 b) q := by
  have h : (fun (k : Fin 3) (p : Fin 128) => x0 (ix3 0 k p)) = Cert.RefGather4Ideal.Val.pq a0 b := by
    funext k p
    exact e0 _
  have h' : (fun (k : Fin 3) (p : Fin 512) => x1 (ix3 0 k p)) = Cert.RefGather4Ideal.Val.pk a1 b := by
    funext k p
    exact e1 _
  funext p
  show sqd (fun k p => x0 (ix3 0 k p)) (fun k p => x1 (ix3 0 k p)) q p = _
  rw [h, h']

variable (e0 : ∀ j, x0 j = a0 (ix3 b (j 1) (j 2))) (e1 : ∀ j, x1 j = a1 (ix3 b (j 1) (j 2))) (e2 : ∀ j, x2 j = a2 (ix3 b (j 1) (j 2))) (e3 : ∀ j, x3 j = a3 (ix3 b (j 1) (j 2)))
  (h0 : ∀ i, a0 i ≠ ⊥ ∧ a0 i ≠ ⊤) (h1 : ∀ i, a1 i ≠ ⊥ ∧ a1 i ≠ ⊤) (h2 : ∀ i, a2 i ≠ ⊥ ∧ a2 i ≠ ⊤) (hr : ∀ i, ∃ p : Fin 512, a3 i = BitVec.ofNat 32 p.val)
include e0 e1 e2 e3 hr

/-- One edge's convolution is the same on both sides. -/
theorem cv_eq (o : Fin 128) (q : Fin 128) (j : ℕ) :
    cv x2 x3 W (near (D x0 x1 q) (Fin.ofNat 512 j)) o q = Cert.RefGather4Ideal.Val.cv a0 a1 a2 a3 W b o q j := by
  unfold cv
  rw [keys_eq a2 x2 b e2, asks_eq a2 a3 x2 x3 b e2 e3 hr, D_eq a0 a1 x0 x1 b e0 e1]

include h0 h1 h2

theorem block_max (j : S1x128x128.Idx) :
    k0_pay17 (F := Ideal) (fin x0 x1 x2 x3 W).2.1 j = Cert.RefGather4Ideal.Read.val_main_v45 (F := Ideal) a0 a1 a2 a3 W (ix3 b (j 1) (j 2)) := by
  obtain ⟨u, o, q, rfl⟩ : ∃ (u : Fin 1) (o : Fin 128) (q : Fin 128), j = ix3 u o q := ⟨j 0, j 1, j 2, eq_ix3 j⟩
  rw [fin_eq]
  have hf : ∀ i, k0_pay8 (F := Ideal) x2 i ≠ ⊥ ∧ k0_pay8 (F := Ideal) x2 i ≠ ⊤ := fun i => by rw [keys_eq a2 x2 b e2]; exact h2 _
  refine (max_apply x0 x1 x2 x3 W (fun i => e0 i ▸ h0 _) (fun i => e1 i ▸ h1 _) hf u o q).trans
    ((Finset.sup_congr rfl fun k _ => ?_).trans (Cert.RefGather4Ideal.Val.max_eq a0 a1 a2 a3 W b o q).symm)
  exact cv_eq a0 a1 a2 a3 W x0 x1 x2 x3 b e0 e1 e2 e3 hr o q k

theorem block_stats (j : S1x4x2.Idx) :
    k0_pay1 (F := Ideal) ch 32#32 k0_pay18 k0_pay19 0#32 (fin x0 x1 x2 x3 W).2.2.1 (fin x0 x1 x2 x3 W).2.2.2 j
      = Cert.RefGather4Ideal.Read.val_main_v48 (F := Ideal) a0 a1 a2 a3 W (ix3 b (j 1) (j 2)) := by
  obtain ⟨u, g, z, rfl⟩ : ∃ (u : Fin 1) (g : Fin 4) (z : Fin 2), j = ix3 u g z := ⟨j 0, j 1, j 2, eq_ix3 j⟩
  rw [fin_eq]
  have hf : ∀ i, k0_pay8 (F := Ideal) x2 i ≠ ⊥ ∧ k0_pay8 (F := Ideal) x2 i ≠ ⊤ := fun i => by rw [keys_eq a2 x2 b e2]; exact h2 _
  obtain ⟨s0, s1⟩ := stats_apply x0 x1 x2 x3 W (fun i => e0 i ▸ h0 _) (fun i => e1 i ▸ h1 _) hf u g
  obtain ⟨r0, r1⟩ := Cert.RefGather4Ideal.Val.stats_eq a0 a1 a2 a3 W b g
  have he := cv_eq a0 a1 a2 a3 W x0 x1 x2 x3 b e0 e1 e2 e3 hr
  match z with
  | ⟨0, _⟩ =>
    refine s0.trans (Eq.trans ?_ r0.symm)
    exact Finset.sum_congr rfl fun s _ => Finset.sum_congr rfl fun q _ => Finset.sum_congr rfl fun k _ => he _ q k
  | ⟨1, _⟩ =>
    refine s1.trans (Eq.trans ?_ r1.symm)
    exact Finset.sum_congr rfl fun s _ => Finset.sum_congr rfl fun q _ => Finset.sum_congr rfl fun k _ => congrArg₂ (· * ·) (he _ q k) (he _ q k)
end block

/-! ## The arrays -/

theorem covered5 (i : S16x128x128.Idx) : ∃ t : Fin cfg0.N, (cfg0.win 5).flush t = true ∧ i ∈ ((cfg0.win 5).blk t).view.set :=
  ⟨⟨(i 0).val, (i 0).isLt⟩, flush0_5 _, by
    have h := ((cfg0.win 5).blk (⟨(i 0).val, (i 0).isLt⟩ : Fin cfg0.N)).view.emb_mem_set (ix3 (0 : Fin 1) (i 1) (i 2))
    rw [emb5] at h
    have e : ix3 (bat ⟨(i 0).val, (i 0).isLt⟩) (i 1) (i 2) = i := (eq_ix3 i).symm
    exact e ▸ h⟩

/-- A block that agrees with batch `t` of `Y` everywhere is what a reading of `Y` through the block gives. -/
theorem cut5_eq (t : Fin cfg0.N) (X : FVec Ideal S1x128x128 .f32) (Y : FVec Ideal S16x128x128 .f32) (h : ∀ j, X j = Y (ix3 (bat t) (j 1) (j 2))) :
    (cfg0.win 5).cut (α := Elt Ideal .f32) (grid0.coords t) X = ((cfg0.win 5).blk t).view.read (Elt Ideal) Y := by
  funext j
  exact (h j).trans (congrArg Y (emb5 t j)).symm

theorem covered6 (i : S16x4x2.Idx) : ∃ t : Fin cfg0.N, (cfg0.win 6).flush t = true ∧ i ∈ ((cfg0.win 6).blk t).view.set :=
  ⟨⟨(i 0).val, (i 0).isLt⟩, flush0_6 _, by
    have h := ((cfg0.win 6).blk (⟨(i 0).val, (i 0).isLt⟩ : Fin cfg0.N)).view.emb_mem_set (ix3 (0 : Fin 1) (i 1) (i 2))
    rw [emb6] at h
    have e : ix3 (bat ⟨(i 0).val, (i 0).isLt⟩) (i 1) (i 2) = i := (eq_ix3 i).symm
    exact e ▸ h⟩

/-- A block that agrees with batch `t` of `Y` everywhere is what a reading of `Y` through the block gives. -/
theorem cut6_eq (t : Fin cfg0.N) (X : FVec Ideal S1x4x2 .f32) (Y : FVec Ideal S16x4x2 .f32) (h : ∀ j, X j = Y (ix3 (bat t) (j 1) (j 2))) :
    (cfg0.win 6).cut (α := Elt Ideal .f32) (grid0.coords t) X = ((cfg0.win 6).blk t).view.read (Elt Ideal) Y := by
  funext j
  exact (h j).trans (congrArg Y (emb6 t j)).symm

section arrays
variable (c : Dev nD) (h0 : ∀ i, V m c main_arg0 i ≠ (⊥ : EReal) ∧ V m c main_arg0 i ≠ (⊤ : EReal))
  (h1 : ∀ i, V m c main_arg1 i ≠ (⊥ : EReal) ∧ V m c main_arg1 i ≠ (⊤ : EReal))
  (h2 : ∀ i, V m c main_arg2 i ≠ (⊥ : EReal) ∧ V m c main_arg2 i ≠ (⊤ : EReal))
  (hr : ∀ i, ∃ p : Fin 512, V m c main_arg3 i = BitVec.ofNat 32 p.val)
include h0 h1 h2 hr

theorem final5 : (dats m 0 c).arrAt 5 cfg0.N
    = Cert.RefGather4Ideal.Read.val_main_v45 (F := Ideal) (V m c main_arg0) (V m c main_arg1) (V m c main_arg2) (V m c main_arg3) (V m c main_arg4) := by
  refine (dats m 0 c).arrAt_eq_of_cover 5 _ (fun t _ => ?_) covered5
  rw [flushed5_A, out5, iblk4_eq]
  refine cut5_eq t _ _ fun j => ?_
  exact block_max (V m c main_arg0) (V m c main_arg1) (V m c main_arg2) (V m c main_arg3) _ _ _ _ _ (bat t)
    (iblk0_apply m c t) (iblk1_apply m c t) (iblk2_apply m c t) (iblk3_apply m c t) h0 h1 h2 hr j

theorem final6 : (dats m 0 c).arrAt 6 cfg0.N
    = Cert.RefGather4Ideal.Read.val_main_v48 (F := Ideal) (V m c main_arg0) (V m c main_arg1) (V m c main_arg2) (V m c main_arg3) (V m c main_arg4) := by
  refine (dats m 0 c).arrAt_eq_of_cover 6 _ (fun t _ => ?_) covered6
  rw [flushed6_A, out6, iblk4_eq]
  refine cut6_eq t _ _ fun j => ?_
  exact block_stats (V m c main_arg0) (V m c main_arg1) (V m c main_arg2) (V m c main_arg3) _ _ _ _ _ (bat t)
    (iblk0_apply m c t) (iblk1_apply m c t) (iblk2_apply m c t) (iblk3_apply m c t) h0 h1 h2 hr j
end arrays

end Cert.StageGather4Ideal.Eq

end
-- ==== Proof.Gather4Claims.lean ====
module

public import proofs.«01_k».proof.Defs
public import proofs.«01_k».proof.Proof.Gather4Eq
public import proofs.«01_k».proof.Proof.Gen.StageGather4.Frame
public import proofs.«01_k».proof.Proof.Gen.StageGather4Ideal.Value
public import proofs.«01_k».proof.Proof.Gen.RefGather4Ideal.Run
public import proofs.«01_k».proof.Proof.Gen.Pre_no_tie_gather4
public import Idealize.ShloMosaic.Lib.Quiescent

@[expose] public section

set_option maxRecDepth 16384

noncomputable section

namespace Cert.Gather4Claims

open Idealize.ShloMosaic Idealize.ShloMosaic.TcCoe Idealize.SL.Sem

/-! # The claims about the gather stage -/

/-- The reference runs, keeps its arguments, and has no semaphore to leave raised. -/
theorem frame_ref : Cert.quiescent_RefGather4Ideal := fun m ρ _ =>
  (θ_run Cert.RefGather4Ideal.defs _ _).mono (fun r h => ⟨fun c => (h c).2.2, sem_eq_zero_of_no_sems rfl r.2⟩) (Cert.RefGather4Ideal.Value.run m ρ)

theorem frame_ref_pre : Cert.quiescent_RefGather4Ideal_pre_no_tie_gather4 := fun m ρ _ => frame_ref m ρ trivial

/-- The two sentinels stand for the two infinities. -/
theorem preserves : Cert.preserves_StageGather4_StageGather4Ideal :=
  ⟨IdealRules.named_const.statement Cert.StageGather4Ideal.κ "neg_mask" .f32 0xF149F2CA#32 ⊥ rfl,
    IdealRules.named_const.statement Cert.StageGather4Ideal.κ "mask" .f32 0x7149F2CA#32 ⊤ rfl⟩

/-- From memories that agree on the arguments both programs end with the reference's two results. -/
theorem algebraic : Cert.algebraic_StageGather4Ideal_RefGather4Ideal := by
  intro m ρ m' ρ' hpre hargs
  have hfin := fun c => Cert.StageGather4Ideal.Eq.of_pre _ _ _ _ _ (hpre c)
  refine ⟨fun c => Cert.RefGather4Ideal.Value.res_main_v45 m' c, fun c => Cert.RefGather4Ideal.Value.res_main_v48 m' c, ?_, ?_⟩
  · refine (θ_run Cert.StageGather4Ideal.defs _ _).mono (fun r h c => ?_) (Cert.StageGather4Ideal.Value.run_blocks m ρ)
    obtain ⟨h5, h6, hk⟩ := h c
    obtain ⟨a0, a1, a2, a3, a4⟩ := hargs c
    obtain ⟨f0, f1, f2, f3⟩ := hfin c
    refine ⟨h5.trans ?_, h6.trans ?_, hk⟩
    · refine (Cert.StageGather4Ideal.Eq.final5 m c f0 f1 f2 f3).trans (Eq.trans ?_ (Cert.RefGather4Ideal.Read.val_main_v45_eq m' c).symm)
      rw [a0, a1, a2, a3, a4]
    · refine (Cert.StageGather4Ideal.Eq.final6 m c f0 f1 f2 f3).trans (Eq.trans ?_ (Cert.RefGather4Ideal.Read.val_main_v48_eq m' c).symm)
      rw [a0, a1, a2, a3, a4]
  · exact Cert.RefGather4Ideal.Value.run m' ρ'

end Cert.Gather4Claims

end
-- ==== Proof.Gather2Loop.lean ====
module

public import proofs.«01_k».proof.Proof.Gen.StageGather2Ideal.Value
public import proofs.«01_k».proof.Proof.LoopKit

@[expose] public section

set_option maxRecDepth 16384

noncomputable section

namespace Cert.StageGather2Ideal.Loop

open Cert.StageGather2Ideal Cert.StageGather2Ideal.Gen Idealize.ShloMosaic Idealize.ShloMosaic.TcCoe Idealize.SL.Sem LoopKit

variable {F : FTy → Type} [FloatOps F] [Named F]

/-- What the loop's four buffers hold: masked distances, running maximum, running sum, running sum of squares. -/
abbrev St (F : FTy → Type) : Type := Vec F S512x2048 .f32 × Vec F S64x512 .f32 × Vec F S64x512 .f32 × Vec F S64x512 .f32

section
variable (𝒱 : Variants) (c : Dev nD) (bd : Option 𝒱.V) (i : grid0.Coords) (arg1 : Memref sig .tc .vmem S1x3x512 .f32) (harg1 : arg1.IsWhole) (arg2 : Memref sig .tc .vmem S1x3x2048 .f32) (harg2 : arg2.IsWhole) (arg3 : Memref sig .tc .vmem S1x32x2048 .f32) (harg3 : arg3.IsWhole) (arg4 : Memref sig .tc .vmem S1x1x512 .i32) (harg4 : arg4.IsWhole) (arg5 : Memref sig .tc .vmem S64x64 .f32) (harg5 : arg5.IsWhole) (arg6 : Memref sig .tc .vmem S1x64x512 .f32) (harg6 : arg6.IsWhole) (arg7 : Memref sig .tc .vmem S1x4x2 .f32) (harg7 : arg7.IsWhole) (arg8 : Memref sig .tc .vmem S512x2048 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole) (v5 : FVec F S32x2048 .f32) (v13 : FVec F S32x512 .f32) (v29 : Vec F S64x64 .f32) (v33 : FVec F S64x512 .f32) (v45 : IVec S512x2048 32)

/-- One trip on what the buffers hold. -/
def step (v5 : FVec F S32x2048 .f32) (v13 : FVec F S32x512 .f32) (v29 : Vec F S64x64 .f32) (v45 : IVec S512x2048 32) (s : St F) : St F :=
  (k0_pay3 v45 s.1, k0_pay5 v13 v29 v45 (k0_pay15 v5) s.1 s.2.1, k0_pay6 v13 v29 v45 (k0_pay15 v5) s.1 s.2.2.1,
    k0_pay16 (k0_pay7 v13 v29 v45 (k0_pay15 v5) s.1 s.2.2.2))

/-- What the four buffers read as. -/
def rd (f8 : BufTy.Contents (Elt F) arg8.view.ty) (f9 : BufTy.Contents (Elt F) arg9.view.ty) (f10 : BufTy.Contents (Elt F) arg10.view.ty) (f11 : BufTy.Contents (Elt F) arg11.view.ty) : St F :=
  (arg8.view.read (Elt F) f8, arg9.view.read (Elt F) f9, arg10.view.read (Elt F) f10, arg11.view.read (Elt F) f11)

theorem trip_rd (k : Fin k0_t1_loop.trips) (f8 f9 f10 f11) :
    rd arg8 arg9 arg10 arg11
      (arg8.view.writes (Elt F) f8 ((trip_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 k).1 f8 f9 f10 f11))
      (arg9.view.writes (Elt F) f9 ((trip_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 k).2.1 f8 f9 f10 f11))
      (arg10.view.writes (Elt F) f10 ((trip_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 k).2.2.1 f8 f9 f10 f11))
      (arg11.view.writes (Elt F) f11 ((trip_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 k).2.2.2.1 f8 f9 f10 f11))
      = step v5 v13 v29 v45 (rd arg8 arg9 arg10 arg11 f8 f9 f10 f11) := by
  unfold trip_k0_t1 rd step
  dsimp only
  sl_unfold_words
  refine Prod.ext ?_ (Prod.ext ?_ (Prod.ext ?_ ?_))
  all_goals
    refine (View.read_writes_full _ _ _ _ _).trans ?_
  · exact congrArg (k0_pay3 v45) (View.readAt_full arg8.view f8 _)
  · exact congrArg₂ (k0_pay5 v13 v29 v45 (k0_pay15 v5)) (View.readAt_full arg8.view f8 _) (View.readAt_full arg9.view f9 _)
  · exact congrArg₂ (k0_pay6 v13 v29 v45 (k0_pay15 v5)) (View.readAt_full arg8.view f8 _) (View.readAt_full arg10.view f10 _)
  · exact congrArg k0_pay16 (congrArg₂ (k0_pay7 v13 v29 v45 (k0_pay15 v5)) (View.readAt_full arg8.view f8 _) (View.readAt_full arg11.view f11 _))

/-- After `k` trips the buffers read as `k` steps from what they read at entry. -/
theorem loop_rd (G8 G9 G10 G11) (k : ℕ) (hk : k ≤ k0_t1_loop.trips) :
    rd arg8 arg9 arg10 arg11
      (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 k).1)
      (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 k).2.1)
      (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 k).2.2.1)
      (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 k).2.2.2)
      = (step v5 v13 v29 v45)^[k] (rd arg8 arg9 arg10 arg11 G8 G9 G10 G11) := by
  induction k with
  | zero => rfl
  | succ k ih =>
    rw [Function.iterate_succ_apply', ← ih (by omega)]
    rw [pb_k0_t1_succ 𝒱 c bd i arg1 harg1 arg2 harg2 arg3 harg3 arg4 harg4 arg5 harg5 arg6 harg6 arg7 harg7 arg8 harg8 arg9 harg9 arg10 harg10 arg11 harg11 v5 v13 v29 v33 v45 G8 G9 G10 G11 ⟨k, by omega⟩]
    dsimp only
    rw [View.writes_append, View.writes_append, View.writes_append, View.writes_append]
    exact trip_rd 𝒱 c bd i arg1 harg1 arg2 harg2 arg3 harg3 arg4 harg4 arg5 harg5 arg6 harg6 arg7 harg7 arg8 harg8 arg9 harg9 arg10 harg10 arg11 harg11 v5 v13 v29 v33 v45 ⟨k, by omega⟩ _ _ _ _
end

/-- The four buffers after the sixteen trips, from the blocks of data and the weight. -/
def fin (x0 : Vec F S1x3x512 .f32) (x1 : Vec F S1x3x2048 .f32) (x2 : Vec F S1x32x2048 .f32) (x3 : Vec F S1x1x512 .i32) (x4 : Vec F S64x64 .f32) : St F :=
  (step (k0_pay8 x2) (k0_pay9 x2 x3) x4 (iota .tc S512x2048 32 [1] iota_S512x2048_d1_w32))^[16] (k0_pay10 x0 x1, k0_pay12 k0_pay11, k0_pay13, k0_pay14)

/-- The first result's block. -/
theorem out5 (c : Dev nD) (i : grid0.Coords) (arg1 : Memref sig .tc .vmem S1x3x512 .f32) (harg1 : arg1.IsWhole) (arg2 : Memref sig .tc .vmem S1x3x2048 .f32) (harg2 : arg2.IsWhole) (arg3 : Memref sig .tc .vmem S1x32x2048 .f32) (harg3 : arg3.IsWhole) (arg4 : Memref sig .tc .vmem S1x1x512 .i32) (harg4 : arg4.IsWhole) (arg5 : Memref sig .tc .vmem S64x64 .f32) (harg5 : arg5.IsWhole) (arg6 : Memref sig .tc .vmem S1x64x512 .f32) (harg6 : arg6.IsWhole) (arg7 : Memref sig .tc .vmem S1x4x2 .f32) (harg7 : arg7.IsWhole) (arg8 : Memref sig .tc .vmem S512x2048 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole)
    (x0 : Vec F S1x3x512 .f32) (x1 : Vec F S1x3x2048 .f32) (x2 : Vec F S1x32x2048 .f32) (x3 : Vec F S1x1x512 .i32) (x4 : Vec F S64x64 .f32) :
    out0_A_5 c i arg1 harg1 arg2 harg2 arg3 harg3 arg4 harg4 arg5 harg5 arg6 harg6 arg7 harg7 arg8 harg8 arg9 harg9 arg10 harg10 arg11 harg11 x0 x1 x2 x3 x4 = k0_pay17 (fin x0 x1 x2 x3 x4).2.1 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 x0 x1 x2 x3 x4)]
  unfold kernelRun0_A
  dsimp only
  sl_unfold_words
  refine (View.canon_unit_zero (S := S1x64x512) hz3 _ _).trans (congrArg k0_pay17 ?_)
  refine (readCov_two (s := S64x512) arg9.view _ _ _).trans ?_
  refine (congrArg (fun s : St F => s.2.1) (loop_rd .none c none i arg1 harg1 arg2 harg2 arg3 harg3 arg4 harg4 arg5 harg5 arg6 harg6 arg7 harg7 arg8 harg8 arg9 harg9 arg10 harg10 arg11 harg11 _ _ _ _ _ _ _ _ _ 16 (by decide))).trans ?_
  unfold fin rd
  rw [View.read_writes_full (s := S512x2048), View.read_writes_full (s := S64x512), View.read_writes_full (s := S64x512), View.read_writes_full (s := S64x512)]
  rw [show View.readAt (Elt F) arg1.view _ (harg1.unread x0) = x0 from (View.readAt_full arg1.view _ _).trans (harg1.read_unread x0),
    show View.readAt (Elt F) arg2.view _ (harg2.unread x1) = x1 from (View.readAt_full arg2.view _ _).trans (harg2.read_unread x1),
    show View.readAt (Elt F) arg3.view _ (harg3.unread x2) = x2 from (View.readAt_full arg3.view _ _).trans (harg3.read_unread x2),
    show View.readAt (Elt F) arg4.view _ (harg4.unread x3) = x3 from (View.readAt_full arg4.view _ _).trans (harg4.read_unread x3),
    show View.readAt (Elt F) arg5.view _ (harg5.unread x4) = x4 from (View.readAt_full arg5.view _ _).trans (harg5.read_unread x4)]

/-- The second result's block: the two group sums. -/
theorem out6 (c : Dev nD) (i : grid0.Coords) (arg1 : Memref sig .tc .vmem S1x3x512 .f32) (harg1 : arg1.IsWhole) (arg2 : Memref sig .tc .vmem S1x3x2048 .f32) (harg2 : arg2.IsWhole) (arg3 : Memref sig .tc .vmem S1x32x2048 .f32) (harg3 : arg3.IsWhole) (arg4 : Memref sig .tc .vmem S1x1x512 .i32) (harg4 : arg4.IsWhole) (arg5 : Memref sig .tc .vmem S64x64 .f32) (harg5 : arg5.IsWhole) (arg6 : Memref sig .tc .vmem S1x64x512 .f32) (harg6 : arg6.IsWhole) (arg7 : Memref sig .tc .vmem S1x4x2 .f32) (harg7 : arg7.IsWhole) (arg8 : Memref sig .tc .vmem S512x2048 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S64x512 .f32) (harg11 : arg11.IsWhole)
    (x0 : Vec F S1x3x512 .f32) (x1 : Vec F S1x3x2048 .f32) (x2 : Vec F S1x32x2048 .f32) (x3 : Vec F S1x1x512 .i32) (x4 : Vec F S64x64 .f32) :
    out0_A_6 c i arg1 harg1 arg2 harg2 arg3 harg3 arg4 harg4 arg5 harg5 arg6 harg6 arg7 harg7 arg8 harg8 arg9 harg9 arg10 harg10 arg11 harg11 x0 x1 x2 x3 x4 = k0_pay1 (iota .tc S64x4 32 [0] iota_S64x4_d0_w32) 16#32 k0_pay18 k0_pay19 0#32 (fin x0 x1 x2 x3 x4).2.2.1 (fin x0 x1 x2 x3 x4).2.2.2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4)]
  unfold kernelRun0_A
  dsimp only
  sl_unfold_words
  refine (View.canon_unit_zero (S := S1x4x2) hz3 _ _).trans (congrArg₂ (k0_pay1 (iota .tc S64x4 32 [0] iota_S64x4_d0_w32) 16#32 k0_pay18 k0_pay19 0#32) ?_ ?_)
  · refine (readCov_two (s := S64x512) arg10.view _ _ _).trans ?_
    refine (congrArg (fun s : St F => s.2.2.1) (loop_rd .none c none i arg1 harg1 arg2 harg2 arg3 harg3 arg4 harg4 arg5 harg5 arg6 harg6 arg7 harg7 arg8 harg8 arg9 harg9 arg10 harg10 arg11 harg11 _ _ _ _ _ _ _ _ _ 16 (by decide))).trans ?_
    unfold fin rd
    rw [View.read_writes_full (s := S512x2048), View.read_writes_full (s := S64x512), View.read_writes_full (s := S64x512), View.read_writes_full (s := S64x512)]
    rw [show View.readAt (Elt F) arg1.view _ (harg1.unread x0) = x0 from (View.readAt_full arg1.view _ _).trans (harg1.read_unread x0),
      show View.readAt (Elt F) arg2.view _ (harg2.unread x1) = x1 from (View.readAt_full arg2.view _ _).trans (harg2.read_unread x1),
      show View.readAt (Elt F) arg3.view _ (harg3.unread x2) = x2 from (View.readAt_full arg3.view _ _).trans (harg3.read_unread x2),
      show View.readAt (Elt F) arg4.view _ (harg4.unread x3) = x3 from (View.readAt_full arg4.view _ _).trans (harg4.read_unread x3),
      show View.readAt (Elt F) arg5.view _ (harg5.unread x4) = x4 from (View.readAt_full arg5.view _ _).trans (harg5.read_unread x4)]
  · refine (readCov_two (s := S64x512) arg11.view _ _ _).trans ?_
    refine (congrArg (fun s : St F => s.2.2.2) (loop_rd .none c none i arg1 harg1 arg2 harg2 arg3 harg3 arg4 harg4 arg5 harg5 arg6 harg6 arg7 harg7 arg8 harg8 arg9 harg9 arg10 harg10 arg11 harg11 _ _ _ _ _ _ _ _ _ 16 (by decide))).trans ?_
    unfold fin rd
    rw [View.read_writes_full (s := S512x2048), View.read_writes_full (s := S64x512), View.read_writes_full (s := S64x512), View.read_writes_full (s := S64x512)]
    rw [show View.readAt (Elt F) arg1.view _ (harg1.unread x0) = x0 from (View.readAt_full arg1.view _ _).trans (harg1.read_unread x0),
      show View.readAt (Elt F) arg2.view _ (harg2.unread x1) = x1 from (View.readAt_full arg2.view _ _).trans (harg2.read_unread x1),
      show View.readAt (Elt F) arg3.view _ (harg3.unread x2) = x2 from (View.readAt_full arg3.view _ _).trans (harg3.read_unread x2),
      show View.readAt (Elt F) arg4.view _ (harg4.unread x3) = x3 from (View.readAt_full arg4.view _ _).trans (harg4.read_unread x3),
      show View.readAt (Elt F) arg5.view _ (harg5.unread x4) = x4 from (View.readAt_full arg5.view _ _).trans (harg5.read_unread x4)]

end Cert.StageGather2Ideal.Loop

end
-- ==== Proof.Gather2Val.lean ====
module

public import proofs.«01_k».proof.Proof.Gather2Loop
public import Idealize.ShloMosaic.PureOps.IdealRules
public import proofs.«01_k».proof.Proof.Groups
public import proofs.«01_k».proof.Proof.Column

@[expose] public section

set_option maxRecDepth 16384

noncomputable section

namespace Cert.StageGather2Ideal.Val

open Cert.StageGather2Ideal Cert.StageGather2Ideal.Gen Cert.StageGather2Ideal.Loop Idealize.ShloMosaic Idealize.ShloMosaic.ValueIdx Nearest KOps
open scoped BigOperators

/-! # What one block of the gather stage computes, over the extended reals -/

/-- The key positions, one row for every query. -/
abbrev pos : IVec S512x2048 32 := iota .tc S512x2048 32 [1] iota_S512x2048_d1_w32

theorem mark_val (d : FVec Ideal S512x2048 .f32) (q : Fin 512) (p P : Fin 2048) (hP : FirstMin (fun k => d (ix2 q k)) P) :
    k0_pay2 (F := Ideal) pos d (ix2 q p) = if p = P then 1#1 else 0#1 :=
  mark_apply d iota_S512x2048_d1_w32 reduces_S512x2048_S512 shapeCasts_S512_S512x1 broadcasts_S512x1_S512x2048 (by norm_num) q p P hP

theorem mask_val : Named.named (F := Ideal) (φ := .f32) κ "mask" 0x7149F2CA#32 = (⊤ : EReal) :=
  IdealRules.named_const.ideal_named_scalar (φ := .f32) κ "mask" 0x7149F2CA#32 ⊤ (by rfl)

theorem neg_mask_val : Named.named (F := Ideal) (φ := .f32) κ "neg_mask" 0xF149F2CA#32 = (⊥ : EReal) :=
  IdealRules.named_const.ideal_named_scalar (φ := .f32) κ "neg_mask" 0xF149F2CA#32 ⊥ (by rfl)

theorem masked_val (d : FVec Ideal S512x2048 .f32) (q : Fin 512) (p P : Fin 2048) (hP : FirstMin (fun k => d (ix2 q k)) P) :
    k0_pay3 (F := Ideal) pos d (ix2 q p) = if p = P then ⊤ else d (ix2 q p) := by
  unfold k0_pay3
  rw [cast_self]
  refine (congrArg (fun c : BitVec 1 => Scalar.select c _ (d (ix2 q p))) (mark_val d q p P hP)).trans ?_
  by_cases h : p = P
  · rw [if_pos h, if_pos h]
    exact mask_val
  · rw [if_neg h, if_neg h]
    rfl

theorem conv_val (f : FVec Ideal S32x2048 .f32) (hf : ∀ i, f i ≠ ⊥ ∧ f i ≠ ⊤) (g : FVec Ideal S32x512 .f32) (W : FVec Ideal S64x64 .f32)
    (d : FVec Ideal S512x2048 .f32) (o : Fin 64) (q : Fin 512) (P : Fin 2048) (hP : FirstMin (fun k => d (ix2 q k)) P) :
    k0_pay4 (F := Ideal) g W pos (k0_pay15 f) d (ix2 o q) = conv (C := 32) rfl W f g P o q :=
  conv_apply (C := 32) rfl W f g _ concatenates_S32x512_S32x512_S64x512_d0 _ zero_apply q P
    (gathered_apply (C := 32) rfl f bitsLt_bf16_f32 concatenates_S32x2048_S32x2048_S32x2048_S96x2048_d0 hf _ _ zero_apply
      slices_S96x512_o0_0_S32x512 slices_S96x512_o32_0_S32x512 slices_S96x512_o64_0_S32x512 q P
      (fun p => flag_apply _ natLt_1_32 (ix2 q p) (p = P) (mark_val d q p P hP))) o

theorem dist_val (x0 : FVec Ideal S1x3x512 .f32) (x1 : FVec Ideal S1x3x2048 .f32) (q : Fin 512) (p : Fin 2048) :
    k0_pay10 (F := Ideal) x0 x1 (ix2 q p) = sqd (fun k p => x0 (ix3 0 k p)) (fun k p => x1 (ix3 0 k p)) q p := by
  have hx : ∀ (k : Fin 3) (p : Fin 512), shapeCast S3x512 x0 shapeCasts_S1x3x512_S3x512 (ix2 k p) = x0 (ix3 0 k p) := fun k p => shapeCast_1ab_ab_apply x0 _ k p
  have hy : ∀ (k : Fin 3) (p : Fin 2048), shapeCast S3x2048 x1 shapeCasts_S1x3x2048_S3x2048 (ix2 k p) = x1 (ix3 0 k p) := fun k p => shapeCast_1ab_ab_apply x1 _ k p
  unfold k0_pay10
  rw [cast_self]
  refine (sqd_apply (shapeCast S3x512 x0 shapeCasts_S1x3x512_S3x512) (shapeCast S3x2048 x1 shapeCasts_S1x3x2048_S3x2048)
    reduces_S3x512_S512 reduces_S3x2048_S2048 (.inl rfl) rfl shapeCasts_S512_S1x512 shapeCasts_S2048_S1x2048 broadcasts_S512x1_S512x2048 broadcasts_S1x2048_S512x2048 q p).trans ?_
  simp only [hx, hy]

/-- The block's features, its leading axis dropped. -/
theorem feat_apply (x2 : FVec Ideal S1x32x2048 .f32) (c : Fin 32) (p : Fin 2048) : k0_pay8 (F := Ideal) x2 (ix2 c p) = x2 (ix3 0 c p) :=
  shapeCast_1ab_ab_apply x2 shapeCasts_S1x32x2048_S32x2048 c p

/-- A query's own features: the key's that its index names. -/
theorem query_apply (x2 : FVec Ideal S1x32x2048 .f32) (x3 : IVec S1x1x512 32) (c : Fin 32) (q : Fin 512) (P : Fin 2048)
    (hP : x3 (ix3 0 0 q) = BitVec.ofNat 32 P.val) : k0_pay9 (F := Ideal) x2 x3 (ix2 c q) = x2 (ix3 0 c P) := by
  refine (column_apply (k0_pay8 (F := Ideal) x2) x3 iota_S2048x512_d0_w32 shapeCasts_S1x1x512_S1x512 broadcasts_S1x512_S2048x512 natLt_1_32 (by norm_num) (some .fp32) _ zero_apply c q P hP).trans ?_
  exact feat_apply x2 c P

variable (x0 : FVec Ideal S1x3x512 .f32) (x1 : FVec Ideal S1x3x2048 .f32) (x2 : FVec Ideal S1x32x2048 .f32) (x3 : IVec S1x1x512 32) (x4 : FVec Ideal S64x64 .f32)

/-- Distances of the block's queries to its keys. -/
abbrev D (q : Fin 512) (p : Fin 2048) : EReal := sqd (fun k p => x0 (ix3 0 k p)) (fun k p => x1 (ix3 0 k p)) q p

/-- Convolution of the block's features. -/
abbrev cv (P : Fin 2048) (o : Fin 64) (q : Fin 512) : EReal := conv (C := 32) rfl x4 (k0_pay8 (F := Ideal) x2) (k0_pay9 (F := Ideal) x2 x3) P o q

/-- The four buffers after `k` trips. -/
def at' (k : ℕ) : St Ideal := (step (F := Ideal) (k0_pay8 (F := Ideal) x2) (k0_pay9 (F := Ideal) x2 x3) x4 pos)^[k] (k0_pay10 (F := Ideal) x0 x1, k0_pay12 (F := Ideal) k0_pay11, k0_pay13 (F := Ideal), k0_pay14 (F := Ideal))

theorem at_zero : at' x0 x1 x2 x3 x4 0 = (k0_pay10 (F := Ideal) x0 x1, k0_pay12 (F := Ideal) k0_pay11, k0_pay13 (F := Ideal), k0_pay14 (F := Ideal)) := rfl

theorem at_succ (k : ℕ) : at' x0 x1 x2 x3 x4 (k + 1) = step (F := Ideal) (k0_pay8 (F := Ideal) x2) (k0_pay9 (F := Ideal) x2 x3) x4 pos (at' x0 x1 x2 x3 x4 k) := Function.iterate_succ_apply' _ _ _

theorem mx_init (i : S64x512.Idx) : k0_pay12 (F := Ideal) k0_pay11 i = ⊥ := by
  unfold k0_pay12 k0_pay11
  rw [cast_self]
  exact neg_mask_val

theorem sm_init (i : S64x512.Idx) : k0_pay13 (F := Ideal) i = 0 := by
  unfold k0_pay13
  rw [cast_self]
  exact Ideal.ofBits_zero_f32

theorem sq_init (i : S64x512.Idx) : k0_pay14 (F := Ideal) i = 0 := by
  unfold k0_pay14
  rw [cast_self]
  exact Ideal.ofBits_zero_f32

section
variable (f : FVec Ideal S32x2048 .f32) (hf : ∀ i, f i ≠ ⊥ ∧ f i ≠ ⊤) (h : FVec Ideal S32x512 .f32) (W : FVec Ideal S64x64 .f32) (d : FVec Ideal S512x2048 .f32)
  (a : FVec Ideal S64x512 .f32) (o : Fin 64) (q : Fin 512) (P : Fin 2048) (hP : FirstMin (fun k => d (ix2 q k)) P)
include hf hP

theorem mx_val : k0_pay5 (F := Ideal) h W pos (k0_pay15 f) d a (ix2 o q) = max (a (ix2 o q)) (conv (C := 32) rfl W f h P o q) := by
  unfold k0_pay5
  rw [cast_self]
  exact congrArg (max (a (ix2 o q))) (conv_val f hf h W d o q P hP)

theorem sm_val : k0_pay6 (F := Ideal) h W pos (k0_pay15 f) d a (ix2 o q) = a (ix2 o q) + conv (C := 32) rfl W f h P o q := by
  unfold k0_pay6
  rw [cast_self]
  exact congrArg (a (ix2 o q) + ·) (conv_val f hf h W d o q P hP)

theorem sq_val : k0_pay16 (F := Ideal) (k0_pay7 h W pos (k0_pay15 f) d a) (ix2 o q)
    = a (ix2 o q) + conv (C := 32) rfl W f h P o q * conv (C := 32) rfl W f h P o q := by
  unfold k0_pay16 k0_pay7
  rw [cast_self]
  exact congrArg (fun z => a (ix2 o q) + z * z) (conv_val f hf h W d o q P hP)
end

theorem state (h0 : ∀ i, x0 i ≠ ⊥ ∧ x0 i ≠ ⊤) (h1 : ∀ i, x1 i ≠ ⊥ ∧ x1 i ≠ ⊤) (hf : ∀ i, k0_pay8 (F := Ideal) x2 i ≠ ⊥ ∧ k0_pay8 (F := Ideal) x2 i ≠ ⊤) (k : ℕ) (hk : k ≤ 16) :
    Pooled (D x0 x1) (cv x2 x3 x4) k (at' x0 x1 x2 x3 x4 k).1 (at' x0 x1 x2 x3 x4 k).2.1 (at' x0 x1 x2 x3 x4 k).2.2.1 (at' x0 x1 x2 x3 x4 k).2.2.2 := by
  induction k with
  | zero =>
    rw [at_zero]
    exact Pooled.zero _ _ _ _ _ _ (dist_val x0 x1) mx_init sm_init sq_init
  | succ k ih =>
    rw [at_succ]
    exact Pooled.succ (D x0 x1) (cv x2 x3 x4) (by omega) (fun q p => sqd_lt _ _ (fun k q => h0 _) (fun k q => h1 _) q p) (ih (by omega))
      (fun q P hP p => masked_val _ q p P hP) (fun q P hP o => mx_val _ hf _ x4 _ _ o q P hP)
      (fun q P hP o => sm_val _ hf _ x4 _ _ o q P hP) (fun q P hP o => sq_val _ hf _ x4 _ _ o q P hP)

/-- The group of a channel, on words: the quotient by the group's size, rounded down. -/
def groupWord (v : BitVec 32) : BitVec 32 :=
  if IntOp.andi (IntOp.cmpi .ne (IntOp.subi ((IntOp.cmpi .sgt v 0#32).setWidth 32) ((IntOp.cmpi .slt v 0#32).setWidth 32))
      (IntOp.subi ((IntOp.cmpi .sgt 16#32 0#32).setWidth 32) ((IntOp.cmpi .slt 16#32 0#32).setWidth 32)))
    (IntOp.cmpi .ne (IntOp.remsi .vector v 16#32) 0#32) = 1#1 then IntOp.subi (IntOp.divsi .vector v 16#32) 1#32 else IntOp.divsi .vector v 16#32

theorem groupWord_mark : ∀ (o : Fin 64) (g : Fin 4), IntOp.cmpi .eq (groupWord (BitVec.ofNat 32 o.val)) (BitVec.ofNat 32 g.val) = if o.val / 16 = g.val then 1#1 else 0#1 := by
  decide +kernel

/-- Every channel's number. -/
abbrev ch : IVec S64x4 32 := iota .tc S64x4 32 [0] iota_S64x4_d0_w32

/-- Every channel's group. -/
def grp : IVec S64x4 32 := select (andi (cmpi .ne k0_pay19 (broadcast S64x4 (Scalar.subi (Scalar.extui (Scalar.cmpi .sgt 16#32 0#32)) (Scalar.extui (Scalar.cmpi .slt 16#32 0#32)))))
    (cmpi .ne (remsi ch (broadcast S64x4 16#32)) (broadcast S64x4 0#32))) (subi k0_pay18 (broadcast S64x4 1#32)) k0_pay18

/-- The marks of the four channel groups. -/
theorem group_mark (o : Fin 64) (g : Fin 4) :
    cmpi .eq grp (iota .tc S64x4 32 [1] iota_S64x4_d1_w32) (ix2 o g) = if o.val / 16 = g.val then 1#1 else 0#1 := by
  rw [← groupWord_mark]
  have e0 : iota .tc S64x4 32 [0] iota_S64x4_d0_w32 = fun i => BitVec.ofNat 32 (i 0).val := funext fun i => iota_single_apply _ _ _ _ _ i
  have e1 : iota .tc S64x4 32 [1] iota_S64x4_d1_w32 = fun i => BitVec.ofNat 32 (i 1).val := funext fun i => iota_single_apply _ _ _ _ _ i
  unfold grp ch k0_pay19 k0_pay18
  rw [e0, e1]
  rfl

theorem fin_eq : fin (F := Ideal) x0 x1 x2 x3 x4 = at' x0 x1 x2 x3 x4 16 := rfl

/-- The block's first result: the largest convolution over the sixteen nearest keys. -/
theorem max_apply (h0 : ∀ i, x0 i ≠ ⊥ ∧ x0 i ≠ ⊤) (h1 : ∀ i, x1 i ≠ ⊥ ∧ x1 i ≠ ⊤) (hf : ∀ i, k0_pay8 (F := Ideal) x2 i ≠ ⊥ ∧ k0_pay8 (F := Ideal) x2 i ≠ ⊤) (u : Fin 1) (o : Fin 64) (q : Fin 512) :
    k0_pay17 (F := Ideal) (at' x0 x1 x2 x3 x4 16).2.1 (ix3 u o q) = (Finset.range 16).sup fun j => cv x2 x3 x4 (near (D x0 x1 q) (Fin.ofNat 2048 j)) o q :=
  (shapeCast_ab_1ab_apply (at' x0 x1 x2 x3 x4 16).2.1 shapeCasts_S64x512_S1x64x512 u o q).trans ((state x0 x1 x2 x3 x4 h0 h1 hf 16 le_rfl).mx_eq o q)

/-- The two group sums of any two arrays. -/
theorem sums_val (a b : FVec Ideal S64x512 .f32) (u : Fin 1) (g : Fin 4) :
    k0_pay1 (F := Ideal) ch 16#32 k0_pay18 k0_pay19 0#32 a b (ix3 u g 0) = (∑ s : Fin 16, ∑ q : Fin 512, a (ix2 (chan (G := 4) (S := 16) rfl g s) q))
    ∧ k0_pay1 (F := Ideal) ch 16#32 k0_pay18 k0_pay19 0#32 a b (ix3 u g 1) = ∑ s : Fin 16, ∑ q : Fin 512, b (ix2 (chan (G := 4) (S := 16) rfl g s) q) := by
  have hm : ∀ o : Fin 64, sitofp (F := Ideal) .f32 (extui 32 (cmpi .eq grp (iota .tc S64x4 32 [1] iota_S64x4_d1_w32)) natLt_1_32) (ix2 o g)
      = if o.val / 16 = g.val then (1 : EReal) else 0 := fun o => flag_apply _ natLt_1_32 (ix2 o g) _ (group_mark o g)
  have ga := group_apply (G := 4) (S := 16) rfl _ a reduces_S64x512_S64 (.inl rfl) rfl shapeCasts_S64_S64x1 g 0 hm
  have gb := group_apply (G := 4) (S := 16) rfl _ b reduces_S64x512_S64 (.inl rfl) rfl shapeCasts_S64_S64x1 g 0 hm
  unfold k0_pay1
  rw [shapeCast_ab_1ab_apply, shapeCast_ab_1ab_apply]
  exact ⟨(beside_apply _ _ concatenates_S4x1_S4x1_S4x2_d1 g).1.trans ga, (beside_apply _ _ concatenates_S4x1_S4x1_S4x2_d1 g).2.trans gb⟩

/-- The block's second result: each group's sum and sum of squares. -/
theorem stats_apply (h0 : ∀ i, x0 i ≠ ⊥ ∧ x0 i ≠ ⊤) (h1 : ∀ i, x1 i ≠ ⊥ ∧ x1 i ≠ ⊤) (hf : ∀ i, k0_pay8 (F := Ideal) x2 i ≠ ⊥ ∧ k0_pay8 (F := Ideal) x2 i ≠ ⊤) (u : Fin 1) (g : Fin 4) :
    k0_pay1 (F := Ideal) ch 16#32 k0_pay18 k0_pay19 0#32 (at' x0 x1 x2 x3 x4 16).2.2.1 (at' x0 x1 x2 x3 x4 16).2.2.2 (ix3 u g 0)
      = (∑ s : Fin 16, ∑ q : Fin 512, ∑ j ∈ Finset.range 16, cv x2 x3 x4 (near (D x0 x1 q) (Fin.ofNat 2048 j)) (chan (G := 4) (S := 16) rfl g s) q)
    ∧ k0_pay1 (F := Ideal) ch 16#32 k0_pay18 k0_pay19 0#32 (at' x0 x1 x2 x3 x4 16).2.2.1 (at' x0 x1 x2 x3 x4 16).2.2.2 (ix3 u g 1)
      = ∑ s : Fin 16, ∑ q : Fin 512, ∑ j ∈ Finset.range 16,
          cv x2 x3 x4 (near (D x0 x1 q) (Fin.ofNat 2048 j)) (chan (G := 4) (S := 16) rfl g s) q * cv x2 x3 x4 (near (D x0 x1 q) (Fin.ofNat 2048 j)) (chan (G := 4) (S := 16) rfl g s) q := by
  obtain ⟨e0, e1⟩ := sums_val (at' x0 x1 x2 x3 x4 16).2.2.1 (at' x0 x1 x2 x3 x4 16).2.2.2 u g
  have st := state x0 x1 x2 x3 x4 h0 h1 hf 16 le_rfl
  constructor
  · exact e0.trans (Finset.sum_congr rfl fun s _ => Finset.sum_congr rfl fun q _ => st.sm_eq _ q)
  · exact e1.trans (Finset.sum_congr rfl fun s _ => Finset.sum_congr rfl fun q _ => st.sq_eq _ q)

end Cert.StageGather2Ideal.Val

end
-- ==== Proof.RefGather2.lean ====
module

public import proofs.«01_k».proof.Proof.Gen.RefGather2Ideal.Read
public import proofs.«01_k».proof.Proof.HostOps

@[expose] public section

set_option maxRecDepth 16384

noncomputable section

namespace Cert.RefGather2Ideal.Val

open Cert.RefGather2Ideal Cert.RefGather2Ideal.Read Idealize.ShloMosaic Idealize.ShloMosaic.ValueIdx Nearest KOps
open scoped BigOperators

/-! # What the reference of the second stage computes -/

variable (x0 : FVec Ideal S16x3x512 .f32) (x1 : FVec Ideal S16x3x2048 .f32) (x2 : FVec Ideal S16x32x2048 .f32) (x3 : IVec S16x1x512 32) (x4 : FVec Ideal S64x64 .f32)

/-- The query points of one batch, -/
abbrev pq (b : Fin 16) (k : Fin 3) (p : Fin 512) : EReal := x0 (ix3 b k p)

/-- and its key points. -/
abbrev pk (b : Fin 16) (k : Fin 3) (p : Fin 2048) : EReal := x1 (ix3 b k p)

/-- The query features of one batch, -/
def fq (b : Fin 16) : (⟨2, ![32, 512]⟩ : Shape).Idx → EReal := fun i => (val_main_v7 (F := Ideal) x2 x3) (ix3 b (i 0) (i 1))

/-- and its key features. -/
def fk (b : Fin 16) : (⟨2, ![32, 2048]⟩ : Shape).Idx → EReal := fun i => x2 (ix3 b (i 0) (i 1))

theorem dist_eq (b : Fin 16) (q : Fin 512) (p : Fin 2048) : val_main_v23 (F := Ideal) x0 x1 (ix3 b q p) = sqd (pq x0 b) (pk x1 b) q p := by
  rw [val_main_v23_apply, val_main_v18_apply, val_main_v13_apply, val_main_v12_apply, val_main_cst_apply, val_main_v11_apply, val_main_v17_apply,
    val_main_v16_apply, val_main_v15_apply, val_main_v22_apply, val_main_v21_apply, val_main_v20_apply]
  simp only [val_main_v10_apply, val_main_v9_apply, val_main_v8_apply, val_main_v14_apply, val_main_v19_apply, val_main_cst_1_apply, val_main_cst_2_apply]
  show Ideal.ofBits .f32 0xC0000000#32 * _ + (Ideal.ofBits .f32 0x00000000#32 + _) + (Ideal.ofBits .f32 0x00000000#32 + _) = _
  rw [Ideal.ofBits_zero_f32, zero_add, zero_add]
  unfold sqd
  refine congrArg₂ (· + ·) (congrArg₂ (· + ·) (congrArg (_ * ·) ?_) ?_) ?_
  · exact Finset.sum_congr rfl fun k _ => congrArg₂ (fun i j => x0 i * x1 j)
      (funext fun a => Fin.ext (match a with | ⟨0, _⟩ => rfl | ⟨1, _⟩ => rfl | ⟨2, _⟩ => rfl))
      (funext fun a => Fin.ext (match a with | ⟨0, _⟩ => rfl | ⟨1, _⟩ => rfl | ⟨2, _⟩ => rfl))
  · exact Finset.sum_congr rfl fun k _ => congrArg (fun i => x0 i * x0 i)
      (funext fun a => Fin.ext (match a with | ⟨0, _⟩ => rfl | ⟨1, _⟩ => rfl | ⟨2, _⟩ => rfl))
  · exact Finset.sum_congr rfl fun k _ => congrArg (fun i => x1 i * x1 i)
      (funext fun a => Fin.ext (match a with | ⟨0, _⟩ => rfl | ⟨1, _⟩ => rfl | ⟨2, _⟩ => rfl))

/-- The key the reference takes as the `k`-th nearest of a query. -/
abbrev nb (b : Fin 16) (q : Fin 512) (k : ℕ) : Fin 2048 := near (sqd (pq x0 b) (pk x1 b) q) (Fin.ofNat 2048 k)

theorem index_eq (b : Fin 16) (q : Fin 512) (k : Fin 16) : val_main_indices (F := Ideal) x0 x1 (ix3 b q k) = BitVec.ofNat 32 (nb x0 x1 b q k.val).val := by
  have hv : val_main_v24 (F := Ideal) x0 x1 = fun i => -(val_main_v23 (F := Ideal) x0 x1 i : EReal) := by
    funext i
    rw [val_main_v24_apply]
    generalize val_main_v23 (F := Ideal) x0 x1 i = z
    rfl
  unfold val_main_indices
  rw [hv]
  refine (topK_idx (B := 16) (Q := 512) (N := 2048) (K := 16) (val_main_v23 (F := Ideal) x0 x1) _ b q k (lt_trans k.isLt (by norm_num))).trans ?_
  have e : (fun p => val_main_v23 (F := Ideal) x0 x1 (ix3 b q p)) = sqd (pq x0 b) (pk x1 b) q := funext fun p => dist_eq x0 x1 b q p
  rw [e]
  refine congrArg (fun z => BitVec.ofNat 32 (near (sqd (pq x0 b) (pk x1 b) q) z).val) (Fin.ext ?_)
  exact (Nat.mod_eq_of_lt (lt_trans k.isLt (by norm_num))).symm

theorem start_eq (b : Fin 16) (q : Fin 512) (k : Fin 16) : (val_main_v31 (F := Ideal) x0 x1 (ix4 b q k 0)).toInt = (nb x0 x1 b q k.val).val := by
  rw [val_main_v31_apply, val_main_v30_apply, val_main_v27_apply, val_main_v26_apply, val_main_c_3_apply]
  have e : idx_main_v31 (ix4 b q k 0) = ix3 b q k := funext fun a => Fin.ext (match a with | ⟨0, _⟩ => rfl | ⟨1, _⟩ => rfl | ⟨2, _⟩ => rfl)
  have hlt : (nb x0 x1 b q k.val).val < 2 ^ 31 := lt_trans (nb x0 x1 b q k.val).isLt (by norm_num)
  rw [e, index_eq, wrap_small hlt, toInt_small hlt]

theorem taken_eq (b : Fin 16) (q : Fin 512) (k : Fin 16) (c : Fin 32) :
    val_main_v32 (F := Ideal) x0 x1 x2 (ix4 b q k c) = x2 (ix3 b c (nb x0 x1 b q k.val)) := by
  unfold val_main_v32
  refine (take_apply (B := 16) (N := 2048) (C := 32) (Q := 512) (K := 16) _ (val_main_v25 (F := Ideal) x2) (val_main_v31 (F := Ideal) x0 x1) b q k c _ (start_eq x0 x1 b q k)).trans ?_
  rw [val_main_v25_apply]
  generalize nb x0 x1 b q k.val = p
  exact congrArg x2 (funext fun a => Fin.ext (match a with | ⟨0, _⟩ => rfl | ⟨1, _⟩ => rfl | ⟨2, _⟩ => rfl))

theorem edge_eq (b : Fin 16) (c : Fin 64) (q : Fin 512) (k : Fin 16) :
    val_main_v38 (F := Ideal) x0 x1 x2 x3 (ix4 b c q k) = edge (C := 32) (fk x2 b) (fq x2 x3 b) (nb x0 x1 b q k.val) q rfl c := by
  unfold val_main_v38
  refine (stack4_apply (B := 16) (C := 32) (E := 64) (Q := 512) (K := 16) (val_main_v36 (F := Ideal) x0 x1 x2 x3) (val_main_v37 (F := Ideal) x2 x3) _ rfl b c q k).trans ?_
  unfold edge
  by_cases hc : c.val < 32
  · rw [dif_pos hc, dif_pos hc, val_main_v36_apply, val_main_v33_apply, val_main_v35_apply, val_main_v34_apply]
    have e : idx_main_v33 (ix4 b ⟨c.val, hc⟩ q k) = ix4 b q k ⟨c.val, hc⟩ := funext fun a => Fin.ext (match a with | ⟨0, _⟩ => rfl | ⟨1, _⟩ => rfl | ⟨2, _⟩ => rfl | ⟨3, _⟩ => rfl)
    rw [e, taken_eq]
    exact congrArg (fun z => x2 (ix3 b ⟨c.val, hc⟩ (nb x0 x1 b q k.val)) - (val_main_v7 (F := Ideal) x2 x3) z) (funext fun a => Fin.ext (match a with | ⟨0, _⟩ => rfl | ⟨1, _⟩ => rfl | ⟨2, _⟩ => rfl))
  · rw [dif_neg hc, dif_neg hc, val_main_v37_apply, val_main_v34_apply]
    exact congrArg (val_main_v7 (F := Ideal) x2 x3) (funext fun a => Fin.ext (match a with | ⟨0, _⟩ => rfl | ⟨1, _⟩ => rfl | ⟨2, _⟩ => rfl))

/-- One edge's convolution in one batch. -/
abbrev cv (b : Fin 16) (o : Fin 64) (q : Fin 512) (k : ℕ) : EReal := conv (C := 32) rfl x4 (fk x2 b) (fq x2 x3 b) (nb x0 x1 b q k) o q

theorem conv_eq (b : Fin 16) (o : Fin 64) (q : Fin 512) (k : Fin 16) :
    val_main_v40 (F := Ideal) x0 x1 x2 x3 x4 (ix4 b o q k) = cv x0 x1 x2 x3 x4 b o q k.val := by
  rw [val_main_v40_apply, val_main_v39_apply]
  refine Finset.sum_congr rfl fun c _ => ?_
  rw [mul_comm]
  refine congrArg₂ (· * ·) (congrArg x4 ?_) ((congrArg (val_main_v38 (F := Ideal) x0 x1 x2 x3) ?_).trans (edge_eq x0 x1 x2 x3 b c q k))
  · exact funext fun a => Fin.ext (match a with | ⟨0, _⟩ => rfl | ⟨1, _⟩ => rfl)
  · exact funext fun a => Fin.ext (match a with | ⟨0, _⟩ => rfl | ⟨1, _⟩ => rfl | ⟨2, _⟩ => rfl | ⟨3, _⟩ => rfl)

theorem group_eq (b : Fin 16) (g : Fin 4) (s : Fin 16) (q : Fin 512) (k : Fin 16) :
    val_main_v41 (F := Ideal) x0 x1 x2 x3 x4 (ix5 b g s q k) = cv x0 x1 x2 x3 x4 b (chan (G := 4) (S := 16) rfl g s) q k.val := by
  rw [val_main_v41_apply]
  refine (congrArg (val_main_v40 (F := Ideal) x0 x1 x2 x3 x4) ?_).trans (conv_eq x0 x1 x2 x3 x4 b (chan (G := 4) (S := 16) rfl g s) q k)
  refine funext fun a => Fin.ext ?_
  have h0 := b.isLt; have h1 := g.isLt; have h2 := s.isLt; have h3 := q.isLt; have h4 := k.isLt
  match a with
  | ⟨0, _⟩ => show ((((b.val * 4 + g.val) * 16 + s.val) * 512 + q.val) * 16 + k.val) / 524288 = b.val; omega
  | ⟨1, _⟩ => show ((((b.val * 4 + g.val) * 16 + s.val) * 512 + q.val) * 16 + k.val) / 8192 % 64 = s.val + 16 * g.val; omega
  | ⟨2, _⟩ => show ((((b.val * 4 + g.val) * 16 + s.val) * 512 + q.val) * 16 + k.val) / 16 % 512 = q.val; omega
  | ⟨3, _⟩ => show ((((b.val * 4 + g.val) * 16 + s.val) * 512 + q.val) * 16 + k.val) % 16 = k.val; omega

/-- The reference's first result. -/
theorem max_eq (b : Fin 16) (o : Fin 64) (q : Fin 512) :
    val_main_v45 (F := Ideal) x0 x1 x2 x3 x4 (ix3 b o q) = (Finset.range 16).sup fun j => cv x0 x1 x2 x3 x4 b o q j := by
  unfold val_main_v45
  refine maxlast_apply (B := 16) (C := 64) (Q := 512) (K := 16) _ (by decide) _ _ _ ?_ b o q _ fun k => conv_eq x0 x1 x2 x3 x4 b o q k
  rw [val_main_cst_7_apply]
  show Ideal.ofBits .f32 0xFF800000#32 = ⊥
  simp [Ideal.ofBits, Ideal.ieee]

/-- The reference's second result. -/
theorem stats_eq (b : Fin 16) (g : Fin 4) :
    val_main_v48 (F := Ideal) x0 x1 x2 x3 x4 (ix3 b g 0)
      = (∑ s : Fin 16, ∑ q : Fin 512, ∑ j ∈ Finset.range 16, cv x0 x1 x2 x3 x4 b (chan (G := 4) (S := 16) rfl g s) q j)
    ∧ val_main_v48 (F := Ideal) x0 x1 x2 x3 x4 (ix3 b g 1)
      = ∑ s : Fin 16, ∑ q : Fin 512, ∑ j ∈ Finset.range 16, cv x0 x1 x2 x3 x4 b (chan (G := 4) (S := 16) rfl g s) q j * cv x0 x1 x2 x3 x4 b (chan (G := 4) (S := 16) rfl g s) q j := by
  have hc : ∀ y : S16x4.Idx → EReal, ∀ i : S16x4.Idx, i 0 = b → i 1 = g → y i = y (ix2 b g) := fun y i h0 h1 => congrArg y (by rw [← h0, ← h1]; exact eq_ix2 i)
  unfold val_main_v48
  constructor
  · refine (stack3c_apply _ _ _ b g).1.trans ?_
    rw [val_main_v46_apply]
    refine (hc _ _ rfl rfl).trans ?_
    unfold val_main_v42
    refine (groupsum_apply (B := 16) (G := 4) (S := 16) (Q := 512) (K := 16) _ _ _ _ ?_ b g).trans ?_
    · rw [val_main_cst_5_apply]; exact Ideal.ofBits_zero_f32
    · refine Finset.sum_congr rfl fun s _ => Finset.sum_congr rfl fun q _ => ?_
      rw [← Fin.sum_univ_eq_sum_range (fun j => cv x0 x1 x2 x3 x4 b (chan (G := 4) (S := 16) rfl g s) q j) 16]
      exact Finset.sum_congr rfl fun k _ => group_eq x0 x1 x2 x3 x4 b g s q k
  · refine (stack3c_apply _ _ _ b g).2.trans ?_
    rw [val_main_v47_apply]
    refine (hc _ _ rfl rfl).trans ?_
    unfold val_main_v44
    refine (groupsum_apply (B := 16) (G := 4) (S := 16) (Q := 512) (K := 16) _ _ _ _ ?_ b g).trans ?_
    · rw [val_main_cst_6_apply]; exact Ideal.ofBits_zero_f32
    · refine Finset.sum_congr rfl fun s _ => Finset.sum_congr rfl fun q _ => ?_
      rw [← Fin.sum_univ_eq_sum_range (fun j => cv x0 x1 x2 x3 x4 b (chan (G := 4) (S := 16) rfl g s) q j * cv x0 x1 x2 x3 x4 b (chan (G := 4) (S := 16) rfl g s) q j) 16]
      exact Finset.sum_congr rfl fun k _ => congrArg (fun z => z * z) (group_eq x0 x1 x2 x3 x4 b g s q k)

end Cert.RefGather2Ideal.Val

end
-- ==== Proof.Gather2Eq.lean ====
module

public import proofs.«01_k».proof.Proof.Gather2Val
public import proofs.«01_k».proof.Proof.RefGather2
public import proofs.«01_k».proof.Proof.Query
public import proofs.«01_k».proof.Proof.Gen.StageGather2Ideal.Value
public import proofs.«01_k».proof.Proof.Gen.Pre_no_tie_gather2

@[expose] public section

set_option maxRecDepth 16384

noncomputable section

namespace Cert.StageGather2Ideal.Eq

open Cert.StageGather2Ideal Cert.StageGather2Ideal.Gen Cert.StageGather2Ideal.Value Cert.StageGather2Ideal.Loop Cert.StageGather2Ideal.Val
open Idealize.ShloMosaic Idealize.ShloMosaic.ValueIdx Idealize.ShloMosaic.TcCoe Idealize.SL.Sem Nearest KOps
open scoped BigOperators

/-! # The gather stage's result arrays are the reference's -/

/-- The precondition makes the positions and the features finite and the indices those of keys. -/
theorem of_pre (a0 : FVec Ideal S16x3x512 .f32) (a1 : FVec Ideal S16x3x2048 .f32) (a2 : FVec Ideal S16x32x2048 .f32) (a3 : IVec S16x1x512 32) (a4 : FVec Ideal S64x64 .f32)
    (h : Cert.Pre_no_tie_gather2.fn (F := Ideal) a0 a1 a2 a3 a4 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) ∧ ∀ i, ∃ p : Fin 2048, a3 i = BitVec.ofNat 32 p.val := by
  have e := congrFun h default
  dsimp only [Cert.Pre_no_tie_gather2.fn, Cert.Pre_no_tie_gather2.fn_part1] at e
  obtain ⟨e1, -⟩ := both_bits _ _ e
  obtain ⟨e2, e3⟩ := both_bits _ _ e1
  obtain ⟨ge, lt⟩ := both_bits _ _ e3
  obtain ⟨e4, f2⟩ := both_bits _ _ e2
  obtain ⟨f0, f1⟩ := both_bits _ _ e4
  exact ⟨fun i => finite_of_all a0 _ (fun _ => rfl) _ _ _ _ f0 i, fun i => finite_of_all a1 _ (fun _ => rfl) _ _ _ _ f1 i,
    fun i => finite_of_all a2 _ (fun _ => rfl) _ _ _ _ f2 i, fun i => range_of_all (by norm_num) a3 _ _ (fun _ => rfl) (fun _ => rfl) _ _ _ _ _ _ _ ge lt i⟩

/-- What the reference takes for a query: its key's features. -/
theorem asked_eq (a2 : FVec Ideal S16x32x2048 .f32) (a3 : IVec S16x1x512 32) (b : Fin 16) (c : Fin 32) (q : Fin 512) (p : Fin 2048) (hp : a3 (ix3 b 0 q) = BitVec.ofNat 32 p.val) :
    Cert.RefGather2Ideal.Read.val_main_v7 (F := Ideal) a2 a3 (ix3 b c q) = a2 (ix3 b c p) := by
  have hlt : p.val < 2 ^ 31 := lt_trans p.isLt (by norm_num)
  have hs : (Cert.RefGather2Ideal.Read.val_main_v6 (F := Ideal) a3 (ix3 b q 0)).toInt = p.val := by
    rw [Cert.RefGather2Ideal.Read.val_main_v6_apply, Cert.RefGather2Ideal.Read.val_main_v5_apply, Cert.RefGather2Ideal.Read.val_main_v2_apply,
      Cert.RefGather2Ideal.Read.val_main_v1_apply, Cert.RefGather2Ideal.Read.val_main_c_apply, Cert.RefGather2Ideal.Read.val_main_v0_apply]
    have e : Cert.RefGather2Ideal.Read.idx_main_v0 (Cert.RefGather2Ideal.Read.idx_main_v6 (ix3 b q 0)) = ix3 b 0 q := by
      have hq := q.isLt
      funext a; apply Fin.ext
      match a with
      | ⟨0, _⟩ => show (b.val * 512 + q.val) / 512 = b.val; omega
      | ⟨1, _⟩ => rfl
      | ⟨2, _⟩ => show (b.val * 512 + q.val) % 512 = q.val; omega
    rw [e, hp, wrap_small hlt, toInt_small hlt]
  exact cols_apply (B := 16) (C := 32) (N := 2048) (Q := 512) _ a2 (Cert.RefGather2Ideal.Read.val_main_v6 (F := Ideal) a3) b c q p hs

variable (m : (ℓ : Loc nD τ sig) → Buf (Elt Ideal) ℓ)

/-- Grid point `t` of the sixteen as a batch. -/
abbrev bat (t : Fin cfg0.N) : Fin 16 := ⟨t.val, t.isLt⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

/-! ## Where an index of a window's block lies in its array -/

theorem emb0 (t : Fin cfg0.N) (j : S1x3x512.Idx) : ((cfg0.win 0).blk t).view.emb j = ix3 (bat t) (j 1) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 3 + 1 * (j 1).val = (j 1).val; omega
  | ⟨2, _⟩ => show win0_0.index t (2 : Fin 3) * 512 + 1 * (j 2).val = (j 2).val; omega

theorem emb1 (t : Fin cfg0.N) (j : S1x3x2048.Idx) : ((cfg0.win 1).blk t).view.emb j = ix3 (bat t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 3 + 1 * (j 1).val = (j 1).val; omega
  | ⟨2, _⟩ => show win0_1.index t (2 : Fin 3) * 2048 + 1 * (j 2).val = (j 2).val; omega

theorem emb2 (t : Fin cfg0.N) (j : S1x32x2048.Idx) : ((cfg0.win 2).blk t).view.emb j = ix3 (bat t) (j 1) (j 2) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val; omega
  | ⟨1, _⟩ => show win0_2.index t (1 : Fin 3) * 32 + 1 * (j 1).val = (j 1).val; omega
  | ⟨2, _⟩ => show win0_2.index t (2 : Fin 3) * 2048 + 1 * (j 2).val = (j 2).val; omega

theorem emb3 (t : Fin cfg0.N) (j : S1x1x512.Idx) : ((cfg0.win 3).blk t).view.emb j = ix3 (bat t) (j 1) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val; omega
  | ⟨1, _⟩ => show win0_3.index t (1 : Fin 3) * 1 + 1 * (j 1).val = (j 1).val; omega
  | ⟨2, _⟩ => show win0_3.index t (2 : Fin 3) * 512 + 1 * (j 2).val = (j 2).val; omega

theorem emb5 (t : Fin cfg0.N) (j : S1x64x512.Idx) : ((cfg0.win 5).blk t).view.emb j = ix3 (bat t) (j 1) (j 2) := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val; omega
  | ⟨1, _⟩ => show win0_5.index t (1 : Fin 3) * 64 + 1 * (j 1).val = (j 1).val; omega
  | ⟨2, _⟩ => show win0_5.index t (2 : Fin 3) * 512 + 1 * (j 2).val = (j 2).val; omega

theorem emb6 (t : Fin cfg0.N) (j : S1x4x2.Idx) : ((cfg0.win 6).blk t).view.emb j = ix3 (bat t) (j 1) (j 2) := by
  obtain ⟨e0, e1, e2⟩ := idx6 t
  have h0 : (j 0).val < 1 := (j 0).isLt
  funext a; apply Fin.ext
  match a with
  | ⟨0, _⟩ => show win0_6.index t (0 : Fin 3) * 1 + 1 * (j 0).val = t.val; omega
  | ⟨1, _⟩ => show win0_6.index t (1 : Fin 3) * 4 + 1 * (j 1).val = (j 1).val; omega
  | ⟨2, _⟩ => show win0_6.index t (2 : Fin 3) * 2 + 1 * (j 2).val = (j 2).val; omega

theorem emb4 (t : Fin cfg0.N) (j : S64x64.Idx) : ((cfg0.win 4).blk t).view.emb j = j := by
  obtain ⟨e0, e1⟩ := idx4 t
  funext a; apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega

/-! ## The blocks hold their batch's positions, features and indices, and all weights -/

theorem iblk0_apply (c : Dev nD) (t : Fin cfg0.N) (j : S1x3x512.Idx) : iblk m c 0 t j = V m c main_arg0 (ix3 (bat t) (j 1) (j 2)) :=
  congrArg (V m c main_arg0) (emb0 t j)
theorem iblk1_apply (c : Dev nD) (t : Fin cfg0.N) (j : S1x3x2048.Idx) : iblk m c 1 t j = V m c main_arg1 (ix3 (bat t) (j 1) (j 2)) :=
  congrArg (V m c main_arg1) (emb1 t j)
theorem iblk2_apply (c : Dev nD) (t : Fin cfg0.N) (j : S1x32x2048.Idx) : iblk m c 2 t j = V m c main_arg2 (ix3 (bat t) (j 1) (j 2)) :=
  congrArg (V m c main_arg2) (emb2 t j)
theorem iblk3_apply (c : Dev nD) (t : Fin cfg0.N) (j : S1x1x512.Idx) : iblk m c 3 t j = V m c main_arg3 (ix3 (bat t) (j 1) (j 2)) :=
  congrArg (V m c main_arg3) (emb3 t j)

theorem iblk4_eq (c : Dev nD) (t : Fin cfg0.N) : iblk m c 4 t = V m c main_arg4 := by
  funext j; show V m c main_arg4 (((cfg0.win 4).blk t).view.emb j) = _; rw [emb4]

/-! ## One block against one batch -/

section block
variable (a0 : FVec Ideal S16x3x512 .f32) (a1 : FVec Ideal S16x3x2048 .f32) (a2 : FVec Ideal S16x32x2048 .f32) (a3 : IVec S16x1x512 32) (W : FVec Ideal S64x64 .f32)
variable (x0 : FVec Ideal S1x3x512 .f32) (x1 : FVec Ideal S1x3x2048 .f32) (x2 : FVec Ideal S1x32x2048 .f32) (x3 : IVec S1x1x512 32) (b : Fin 16)

theorem keys_eq (e2 : ∀ j, x2 j = a2 (ix3 b (j 1) (j 2))) : k0_pay8 (F := Ideal) x2 = Cert.RefGather2Ideal.Val.fk a2 b := by
  funext i
  obtain ⟨k, p, rfl⟩ : ∃ (k : Fin 32) (p : Fin 2048), i = ix2 k p := ⟨i 0, i 1, eq_ix2 i⟩
  exact (feat_apply x2 k p).trans (e2 _)

theorem asks_eq (e2 : ∀ j, x2 j = a2 (ix3 b (j 1) (j 2))) (e3 : ∀ j, x3 j = a3 (ix3 b (j 1) (j 2))) (hr : ∀ i, ∃ p : Fin 2048, a3 i = BitVec.ofNat 32 p.val) :
    k0_pay9 (F := Ideal) x2 x3 = Cert.RefGather2Ideal.Val.fq a2 a3 b := by
  funext i
  obtain ⟨k, q, rfl⟩ : ∃ (k : Fin 32) (q : Fin 512), i = ix2 k q := ⟨i 0, i 1, eq_ix2 i⟩
  obtain ⟨p, hp⟩ := hr (ix3 b 0 q)
  refine (query_apply x2 x3 k q p ((e3 _).trans hp)).trans ((e2 _).trans ?_)
  exact (asked_eq a2 a3 b k q p hp).symm

theorem D_eq (e0 : ∀ j, x0 j = a0 (ix3 b (j 1) (j 2))) (e1 : ∀ j, x1 j = a1 (ix3 b (j 1) (j 2))) (q : Fin 512) :
    D x0 x1 q = sqd (Cert.RefGather2Ideal.Val.pq a0 b) (Cert.RefGather2Ideal.Val.pk a1 b) q := by
  have h : (fun (k : Fin 3) (p : Fin 512) => x0 (ix3 0 k p)) = Cert.RefGather2Ideal.Val.pq a0 b := by
    funext k p
    exact e0 _
  have h' : (fun (k : Fin 3) (p : Fin 2048) => x1 (ix3 0 k p)) = Cert.RefGather2Ideal.Val.pk a1 b := by
    funext k p
    exact e1 _
  funext p
  show sqd (fun k p => x0 (ix3 0 k p)) (fun k p => x1 (ix3 0 k p)) q p = _
  rw [h, h']

variable (e0 : ∀ j, x0 j = a0 (ix3 b (j 1) (j 2))) (e1 : ∀ j, x1 j = a1 (ix3 b (j 1) (j 2))) (e2 : ∀ j, x2 j = a2 (ix3 b (j 1) (j 2))) (e3 : ∀ j, x3 j = a3 (ix3 b (j 1) (j 2)))
  (h0 : ∀ i, a0 i ≠ ⊥ ∧ a0 i ≠ ⊤) (h1 : ∀ i, a1 i ≠ ⊥ ∧ a1 i ≠ ⊤) (h2 : ∀ i, a2 i ≠ ⊥ ∧ a2 i ≠ ⊤) (hr : ∀ i, ∃ p : Fin 2048, a3 i = BitVec.ofNat 32 p.val)
include e0 e1 e2 e3 hr

/-- One edge's convolution is the same on both sides. -/
theorem cv_eq (o : Fin 64) (q : Fin 512) (j : ℕ) :
    cv x2 x3 W (near (D x0 x1 q) (Fin.ofNat 2048 j)) o q = Cert.RefGather2Ideal.Val.cv a0 a1 a2 a3 W b o q j := by
  unfold cv
  rw [keys_eq a2 x2 b e2, asks_eq a2 a3 x2 x3 b e2 e3 hr, D_eq a0 a1 x0 x1 b e0 e1]

include h0 h1 h2

theorem block_max (j : S1x64x512.Idx) :
    k0_pay17 (F := Ideal) (fin x0 x1 x2 x3 W).2.1 j = Cert.RefGather2Ideal.Read.val_main_v45 (F := Ideal) a0 a1 a2 a3 W (ix3 b (j 1) (j 2)) := by
  obtain ⟨u, o, q, rfl⟩ : ∃ (u : Fin 1) (o : Fin 64) (q : Fin 512), j = ix3 u o q := ⟨j 0, j 1, j 2, eq_ix3 j⟩
  rw [fin_eq]
  have hf : ∀ i, k0_pay8 (F := Ideal) x2 i ≠ ⊥ ∧ k0_pay8 (F := Ideal) x2 i ≠ ⊤ := fun i => by rw [keys_eq a2 x2 b e2]; exact h2 _
  refine (max_apply x0 x1 x2 x3 W (fun i => e0 i ▸ h0 _) (fun i => e1 i ▸ h1 _) hf u o q).trans
    ((Finset.sup_congr rfl fun k _ => ?_).trans (Cert.RefGather2Ideal.Val.max_eq a0 a1 a2 a3 W b o q).symm)
  exact cv_eq a0 a1 a2 a3 W x0 x1 x2 x3 b e0 e1 e2 e3 hr o q k

theorem block_stats (j : S1x4x2.Idx) :
    k0_pay1 (F := Ideal) ch 16#32 k0_pay18 k0_pay19 0#32 (fin x0 x1 x2 x3 W).2.2.1 (fin x0 x1 x2 x3 W).2.2.2 j
      = Cert.RefGather2Ideal.Read.val_main_v48 (F := Ideal) a0 a1 a2 a3 W (ix3 b (j 1) (j 2)) := by
  obtain ⟨u, g, z, rfl⟩ : ∃ (u : Fin 1) (g : Fin 4) (z : Fin 2), j = ix3 u g z := ⟨j 0, j 1, j 2, eq_ix3 j⟩
  rw [fin_eq]
  have hf : ∀ i, k0_pay8 (F := Ideal) x2 i ≠ ⊥ ∧ k0_pay8 (F := Ideal) x2 i ≠ ⊤ := fun i => by rw [keys_eq a2 x2 b e2]; exact h2 _
  obtain ⟨s0, s1⟩ := stats_apply x0 x1 x2 x3 W (fun i => e0 i ▸ h0 _) (fun i => e1 i ▸ h1 _) hf u g
  obtain ⟨r0, r1⟩ := Cert.RefGather2Ideal.Val.stats_eq a0 a1 a2 a3 W b g
  have he := cv_eq a0 a1 a2 a3 W x0 x1 x2 x3 b e0 e1 e2 e3 hr
  match z with
  | ⟨0, _⟩ =>
    refine s0.trans (Eq.trans ?_ r0.symm)
    exact Finset.sum_congr rfl fun s _ => Finset.sum_congr rfl fun q _ => Finset.sum_congr rfl fun k _ => he _ q k
  | ⟨1, _⟩ =>
    refine s1.trans (Eq.trans ?_ r1.symm)
    exact Finset.sum_congr rfl fun s _ => Finset.sum_congr rfl fun q _ => Finset.sum_congr rfl fun k _ => congrArg₂ (· * ·) (he _ q k) (he _ q k)
end block

/-! ## The arrays -/

theorem covered5 (i : S16x64x512.Idx) : ∃ t : Fin cfg0.N, (cfg0.win 5).flush t = true ∧ i ∈ ((cfg0.win 5).blk t).view.set :=
  ⟨⟨(i 0).val, (i 0).isLt⟩, flush0_5 _, by
    have h := ((cfg0.win 5).blk (⟨(i 0).val, (i 0).isLt⟩ : Fin cfg0.N)).view.emb_mem_set (ix3 (0 : Fin 1) (i 1) (i 2))
    rw [emb5] at h
    have e : ix3 (bat ⟨(i 0).val, (i 0).isLt⟩) (i 1) (i 2) = i := (eq_ix3 i).symm
    exact e ▸ h⟩

/-- A block that agrees with batch `t` of `Y` everywhere is what a reading of `Y` through the block gives. -/
theorem cut5_eq (t : Fin cfg0.N) (X : FVec Ideal S1x64x512 .f32) (Y : FVec Ideal S16x64x512 .f32) (h : ∀ j, X j = Y (ix3 (bat t) (j 1) (j 2))) :
    (cfg0.win 5).cut (α := Elt Ideal .f32) (grid0.coords t) X = ((cfg0.win 5).blk t).view.read (Elt Ideal) Y := by
  funext j
  exact (h j).trans (congrArg Y (emb5 t j)).symm

theorem covered6 (i : S16x4x2.Idx) : ∃ t : Fin cfg0.N, (cfg0.win 6).flush t = true ∧ i ∈ ((cfg0.win 6).blk t).view.set :=
  ⟨⟨(i 0).val, (i 0).isLt⟩, flush0_6 _, by
    have h := ((cfg0.win 6).blk (⟨(i 0).val, (i 0).isLt⟩ : Fin cfg0.N)).view.emb_mem_set (ix3 (0 : Fin 1) (i 1) (i 2))
    rw [emb6] at h
    have e : ix3 (bat ⟨(i 0).val, (i 0).isLt⟩) (i 1) (i 2) = i := (eq_ix3 i).symm
    exact e ▸ h⟩

/-- A block that agrees with batch `t` of `Y` everywhere is what a reading of `Y` through the block gives. -/
theorem cut6_eq (t : Fin cfg0.N) (X : FVec Ideal S1x4x2 .f32) (Y : FVec Ideal S16x4x2 .f32) (h : ∀ j, X j = Y (ix3 (bat t) (j 1) (j 2))) :
    (cfg0.win 6).cut (α := Elt Ideal .f32) (grid0.coords t) X = ((cfg0.win 6).blk t).view.read (Elt Ideal) Y := by
  funext j
  exact (h j).trans (congrArg Y (emb6 t j)).symm

section arrays
variable (c : Dev nD) (h0 : ∀ i, V m c main_arg0 i ≠ (⊥ : EReal) ∧ V m c main_arg0 i ≠ (⊤ : EReal))
  (h1 : ∀ i, V m c main_arg1 i ≠ (⊥ : EReal) ∧ V m c main_arg1 i ≠ (⊤ : EReal))
  (h2 : ∀ i, V m c main_arg2 i ≠ (⊥ : EReal) ∧ V m c main_arg2 i ≠ (⊤ : EReal))
  (hr : ∀ i, ∃ p : Fin 2048, V m c main_arg3 i = BitVec.ofNat 32 p.val)
include h0 h1 h2 hr

theorem final5 : (dats m 0 c).arrAt 5 cfg0.N
    = Cert.RefGather2Ideal.Read.val_main_v45 (F := Ideal) (V m c main_arg0) (V m c main_arg1) (V m c main_arg2) (V m c main_arg3) (V m c main_arg4) := by
  refine (dats m 0 c).arrAt_eq_of_cover 5 _ (fun t _ => ?_) covered5
  rw [flushed5_A, out5, iblk4_eq]
  refine cut5_eq t _ _ fun j => ?_
  exact block_max (V m c main_arg0) (V m c main_arg1) (V m c main_arg2) (V m c main_arg3) _ _ _ _ _ (bat t)
    (iblk0_apply m c t) (iblk1_apply m c t) (iblk2_apply m c t) (iblk3_apply m c t) h0 h1 h2 hr j

theorem final6 : (dats m 0 c).arrAt 6 cfg0.N
    = Cert.RefGather2Ideal.Read.val_main_v48 (F := Ideal) (V m c main_arg0) (V m c main_arg1) (V m c main_arg2) (V m c main_arg3) (V m c main_arg4) := by
  refine (dats m 0 c).arrAt_eq_of_cover 6 _ (fun t _ => ?_) covered6
  rw [flushed6_A, out6, iblk4_eq]
  refine cut6_eq t _ _ fun j => ?_
  exact block_stats (V m c main_arg0) (V m c main_arg1) (V m c main_arg2) (V m c main_arg3) _ _ _ _ _ (bat t)
    (iblk0_apply m c t) (iblk1_apply m c t) (iblk2_apply m c t) (iblk3_apply m c t) h0 h1 h2 hr j
end arrays

end Cert.StageGather2Ideal.Eq

end
-- ==== Proof.Gather2Claims.lean ====
module

public import proofs.«01_k».proof.Defs
public import proofs.«01_k».proof.Proof.Gather2Eq
public import proofs.«01_k».proof.Proof.Gen.StageGather2.Frame
public import proofs.«01_k».proof.Proof.Gen.StageGather2Ideal.Value
public import proofs.«01_k».proof.Proof.Gen.RefGather2Ideal.Run
public import proofs.«01_k».proof.Proof.Gen.Pre_no_tie_gather2
public import Idealize.ShloMosaic.Lib.Quiescent

@[expose] public section

set_option maxRecDepth 16384

noncomputable section

namespace Cert.Gather2Claims

open Idealize.ShloMosaic Idealize.ShloMosaic.TcCoe Idealize.SL.Sem

/-! # The claims about the gather stage -/

/-- The reference runs, keeps its arguments, and has no semaphore to leave raised. -/
theorem frame_ref : Cert.quiescent_RefGather2Ideal := fun m ρ _ =>
  (θ_run Cert.RefGather2Ideal.defs _ _).mono (fun r h => ⟨fun c => (h c).2.2, sem_eq_zero_of_no_sems rfl r.2⟩) (Cert.RefGather2Ideal.Value.run m ρ)

theorem frame_ref_pre : Cert.quiescent_RefGather2Ideal_pre_no_tie_gather2 := fun m ρ _ => frame_ref m ρ trivial

/-- The two sentinels stand for the two infinities. -/
theorem preserves : Cert.preserves_StageGather2_StageGather2Ideal :=
  ⟨IdealRules.named_const.statement Cert.StageGather2Ideal.κ "neg_mask" .f32 0xF149F2CA#32 ⊥ rfl,
    IdealRules.named_const.statement Cert.StageGather2Ideal.κ "mask" .f32 0x7149F2CA#32 ⊤ rfl⟩

/-- From memories that agree on the arguments both programs end with the reference's two results. -/
theorem algebraic : Cert.algebraic_StageGather2Ideal_RefGather2Ideal := by
  intro m ρ m' ρ' hpre hargs
  have hfin := fun c => Cert.StageGather2Ideal.Eq.of_pre _ _ _ _ _ (hpre c)
  refine ⟨fun c => Cert.RefGather2Ideal.Value.res_main_v45 m' c, fun c => Cert.RefGather2Ideal.Value.res_main_v48 m' c, ?_, ?_⟩
  · refine (θ_run Cert.StageGather2Ideal.defs _ _).mono (fun r h c => ?_) (Cert.StageGather2Ideal.Value.run_blocks m ρ)
    obtain ⟨h5, h6, hk⟩ := h c
    obtain ⟨a0, a1, a2, a3, a4⟩ := hargs c
    obtain ⟨f0, f1, f2, f3⟩ := hfin c
    refine ⟨h5.trans ?_, h6.trans ?_, hk⟩
    · refine (Cert.StageGather2Ideal.Eq.final5 m c f0 f1 f2 f3).trans (Eq.trans ?_ (Cert.RefGather2Ideal.Read.val_main_v45_eq m' c).symm)
      rw [a0, a1, a2, a3, a4]
    · refine (Cert.StageGather2Ideal.Eq.final6 m c f0 f1 f2 f3).trans (Eq.trans ?_ (Cert.RefGather2Ideal.Read.val_main_v48_eq m' c).symm)
      rw [a0, a1, a2, a3, a4]
  · exact Cert.RefGather2Ideal.Value.run m' ρ'

end Cert.Gather2Claims

end
-- ==== Proof.FirstLoop.lean ====
module

public import proofs.«01_k».proof.Proof.Gen.StageFirstIdeal.Value
public import proofs.«01_k».proof.Proof.LoopKit

@[expose] public section

set_option maxRecDepth 16384

noncomputable section

namespace Cert.StageFirstIdeal.Loop

open Cert.StageFirstIdeal Cert.StageFirstIdeal.Gen Idealize.ShloMosaic Idealize.ShloMosaic.TcCoe Idealize.SL.Sem LoopKit

variable {F : FTy → Type} [FloatOps F] [Named F]

/-- What the loop's four buffers hold: masked distances, running maximum, running sum, running sum of squares. -/
abbrev St (F : FTy → Type) : Type := Vec F S512x2048 .f32 × Vec F S32x512 .f32 × Vec F S32x512 .f32 × Vec F S32x512 .f32

section
variable (𝒱 : Variants) (c : Dev nD) (bd : Option 𝒱.V) (i : grid0.Coords) (arg2 : Memref sig .tc .vmem S1x3x512 .f32) (harg2 : arg2.IsWhole) (arg3 : Memref sig .tc .vmem S1x3x2048 .f32) (harg3 : arg3.IsWhole) (arg4 : Memref sig .tc .vmem S8x3 .f32) (harg4 : arg4.IsWhole) (arg5 : Memref sig .tc .vmem S8x1 .f32) (harg5 : arg5.IsWhole) (arg6 : Memref sig .tc .vmem S32x16 .f32) (harg6 : arg6.IsWhole) (arg7 : Memref sig .tc .vmem S1x32x512 .f32) (harg7 : arg7.IsWhole) (arg8 : Memref sig .tc .vmem S1x4x2 .f32) (harg8 : arg8.IsWhole) (arg9 : Memref sig .tc .vmem S512x2048 .f32) (harg9 : arg9.IsWhole) (arg10 : Memref sig .tc .vmem S32x512 .f32) (harg10 : arg10.IsWhole) (arg11 : Memref sig .tc .vmem S32x512 .f32) (harg11 : arg11.IsWhole) (arg12 : Memref sig .tc .vmem S32x512 .f32) (harg12 : arg12.IsWhole) (v8 : FVec F S8x2048 .f32) (v13 : FVec F S8x512 .f32) (v28 : FVec F S512x2048 .f32) (v29 : Vec F S32x16 .f32) (v45 : IVec S512x2048 32)

/-- One trip on what the buffers hold. -/
def step (v8 : FVec F S8x2048 .f32) (v13 : FVec F S8x512 .f32) (v29 : Vec F S32x16 .f32) (v45 : IVec S512x2048 32) (s : St F) : St F :=
  (k0_pay5 v45 s.1, k0_pay7 v13 v29 v45 (k0_pay19 v8) s.1 s.2.1, k0_pay8 v13 v29 v45 (k0_pay19 v8) s.1 s.2.2.1,
    k0_pay20 (k0_pay9 v13 v29 v45 (k0_pay19 v8) s.1 s.2.2.2))

/-- What the four buffers read as. -/
def rd (f9 : BufTy.Contents (Elt F) arg9.view.ty) (f10 : BufTy.Contents (Elt F) arg10.view.ty) (f11 : BufTy.Contents (Elt F) arg11.view.ty) (f12 : BufTy.Contents (Elt F) arg12.view.ty) : St F :=
  (arg9.view.read (Elt F) f9, arg10.view.read (Elt F) f10, arg11.view.read (Elt F) f11, arg12.view.read (Elt F) f12)

theorem trip_rd (k : Fin k0_t1_loop.trips) (f9 f10 f11 f12) :
    rd arg9 arg10 arg11 arg12
      (arg9.view.writes (Elt F) f9 ((trip_k0_t1 (F := F) 𝒱 c bd i arg2 harg2 arg3 harg3 arg4 harg4 arg5 harg5 arg6 harg6 arg7 harg7 arg8 harg8 arg9 harg9 arg10 harg10 arg11 harg11 arg12 harg12 v8 v13 v28 v29 v45 k).1 f9 f10 f11 f12))
      (arg10.view.writes (Elt F) f10 ((trip_k0_t1 (F := F) 𝒱 c bd i arg2 harg2 arg3 harg3 arg4 harg4 arg5 harg5 arg6 harg6 arg7 harg7 arg8 harg8 arg9 harg9 arg10 harg10 arg11 harg11 arg12 harg12 v8 v13 v28 v29 v45 k).2.1 f9 f10 f11 f12))
      (arg11.view.writes (Elt F) f11 ((trip_k0_t1 (F := F) 𝒱 c bd i arg2 harg2 arg3 harg3 arg4 harg4 arg5 harg5 arg6 harg6 arg7 harg7 arg8 harg8 arg9 harg9 arg10 harg10 arg11 harg11 arg12 harg12 v8 v13 v28 v29 v45 k).2.2.1 f9 f10 f11 f12))
      (arg12.view.writes (Elt F) f12 ((trip_k0_t1 (F := F) 𝒱 c bd i arg2 harg2 arg3 harg3 arg4 harg4 arg5 harg5 arg6 harg6 arg7 harg7 arg8 harg8 arg9 harg9 arg10 harg10 arg11 harg11 arg12 harg12 v8 v13 v28 v29 v45 k).2.2.2.1 f9 f10 f11 f12))
      = step v8 v13 v29 v45 (rd arg9 arg10 arg11 arg12 f9 f10 f11 f12) := by
  unfold trip_k0_t1 rd step
  dsimp only
  sl_unfold_words
  refine Prod.ext ?_ (Prod.ext ?_ (Prod.ext ?_ ?_))
  all_goals
    refine (View.read_writes_full _ _ _ _ _).trans ?_
  · exact congrArg (k0_pay5 v45) (View.readAt_full arg9.view f9 _)
  · exact congrArg₂ (k0_pay7 v13 v29 v45 (k0_pay19 v8)) (View.readAt_full arg9.view f9 _) (View.readAt_full arg10.view f10 _)
  · exact congrArg₂ (k0_pay8 v13 v29 v45 (k0_pay19 v8)) (View.readAt_full arg9.view f9 _) (View.readAt_full arg11.view f11 _)
  · exact congrArg k0_pay20 (congrArg₂ (k0_pay9 v13 v29 v45 (k0_pay19 v8)) (View.readAt_full arg9.view f9 _) (View.readAt_full arg12.view f12 _))

/-- After `k` trips the buffers read as `k` steps from what they read at entry. -/
theorem loop_rd (G9 G10 G11 G12) (k : ℕ) (hk : k ≤ k0_t1_loop.trips) :
    rd arg9 arg10 arg11 arg12
      (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 v8 v13 v28 v29 v45 G9 G10 G11 G12 k).1)
      (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 v8 v13 v28 v29 v45 G9 G10 G11 G12 k).2.1)
      (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 v8 v13 v28 v29 v45 G9 G10 G11 G12 k).2.2.1)
      (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 v8 v13 v28 v29 v45 G9 G10 G11 G12 k).2.2.2)
      = (step v8 v13 v29 v45)^[k] (rd arg9 arg10 arg11 arg12 G9 G10 G11 G12) := by
  induction k with
  | zero => rfl
  | succ k ih =>
    rw [Function.iterate_succ_apply', ← ih (by omega)]
    rw [pb_k0_t1_succ 𝒱 c bd i arg2 harg2 arg3 harg3 arg4 harg4 arg5 harg5 arg6 harg6 arg7 harg7 arg8 harg8 arg9 harg9 arg10 harg10 arg11 harg11 arg12 harg12 v8 v13 v28 v29 v45 G9 G10 G11 G12 ⟨k, by omega⟩]
    dsimp only
    rw [View.writes_append, View.writes_append, View.writes_append, View.writes_append]
    exact trip_rd 𝒱 c bd i arg2 harg2 arg3 harg3 arg4 harg4 arg5 harg5 arg6 harg6 arg7 harg7 arg8 harg8 arg9 harg9 arg10 harg10 arg11 harg11 arg12 harg12 v8 v13 v28 v29 v45 ⟨k, by omega⟩ _ _ _ _
end

/-- The four buffers after the sixteen trips, from the blocks of data and the weights. -/
def fin (x0 : Vec F S1x3x512 .f32) (x1 : Vec F S1x3x2048 .f32) (x2 : Vec F S8x3 .f32) (x3 : Vec F S8x1 .f32) (x4 : Vec F S32x16 .f32) : St F :=
  (step (k0_pay12 x1 x2 x3) (k0_pay13 x0 x2 x3) x4 (iota .tc S512x2048 32 [1] iota_S512x2048_d1_w32))^[16] (k0_pay15 (k0_pay14 x0 x1), k0_pay16, k0_pay17, k0_pay18)

/-- The first result's block. -/
theorem out5_A (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S8x3 .f32) (harg4 : arg4.IsWhole) (arg5 : Memref sig .tc .vmem S8x1 .f32) (harg5 : arg5.IsWhole) (arg6 : Memref sig .tc .vmem S32x16 .f32) (harg6 : arg6.IsWhole) (arg7 : Memref sig .tc .vmem S1x32x512 .f32) (harg7 : arg7.IsWhole) (arg8 : Memref sig .tc .vmem S1x4x2 .f32) (harg8 : arg8.IsWhole) (arg9 : Memref sig .tc .vmem S512x2048 .f32) (harg9 : arg9.IsWhole) (arg10 : Memref sig .tc .vmem S32x512 .f32) (harg10 : arg10.IsWhole) (arg11 : Memref sig .tc .vmem S32x512 .f32) (harg11 : arg11.IsWhole) (arg12 : Memref sig .tc .vmem S32x512 .f32) (harg12 : arg12.IsWhole) (hc0 : cond0_0 i) (hc1 : ¬cond0_1 i)
    (x0 : Vec F S1x3x512 .f32) (x1 : Vec F S1x3x2048 .f32) (x2 : Vec F S8x3 .f32) (x3 : Vec F S8x1 .f32) (x4 : Vec F S32x16 .f32) :
    out0_A_5 c i arg2 harg2 arg3 harg3 arg4 harg4 arg5 harg5 arg6 harg6 arg7 harg7 arg8 harg8 arg9 harg9 arg10 harg10 arg11 harg11 arg12 harg12 hc0 hc1 x0 x1 x2 x3 x4 = k0_pay21 (fin x0 x1 x2 x3 x4).2.1 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  refine (View.canon_unit_zero (S := S1x32x512) hz3 _ _).trans (congrArg k0_pay21 ?_)
  refine (readCov_two (s := S32x512) arg10.view _ _ _).trans ?_
  refine (congrArg (fun s : St F => s.2.1) (loop_rd .none c none i arg2 harg2 arg3 harg3 arg4 harg4 arg5 harg5 arg6 harg6 arg7 harg7 arg8 harg8 arg9 harg9 arg10 harg10 arg11 harg11 arg12 harg12 _ _ _ _ _ _ _ _ _ 16 (by decide))).trans ?_
  unfold fin rd
  rw [View.read_writes_full (s := S512x2048), View.read_writes_full (s := S32x512), View.read_writes_full (s := S32x512), View.read_writes_full (s := S32x512)]
  rw [show View.readAt (Elt F) arg2.view _ (harg2.unread x0) = x0 from (View.readAt_full arg2.view _ _).trans (harg2.read_unread x0),
    show View.readAt (Elt F) arg3.view _ (harg3.unread x1) = x1 from (View.readAt_full arg3.view _ _).trans (harg3.read_unread x1),
    show View.readAt (Elt F) arg4.view _ (harg4.unread x2) = x2 from (View.readAt_full arg4.view _ _).trans (harg4.read_unread x2),
    show View.readAt (Elt F) arg5.view _ (harg5.unread x3) = x3 from (View.readAt_full arg5.view _ _).trans (harg5.read_unread x3),
    show View.readAt (Elt F) arg6.view _ (harg6.unread x4) = x4 from (View.readAt_full arg6.view _ _).trans (harg6.read_unread x4)]

/-- The second result's block: the group sums of the first tile. -/
theorem out6_A (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S8x3 .f32) (harg4 : arg4.IsWhole) (arg5 : Memref sig .tc .vmem S8x1 .f32) (harg5 : arg5.IsWhole) (arg6 : Memref sig .tc .vmem S32x16 .f32) (harg6 : arg6.IsWhole) (arg7 : Memref sig .tc .vmem S1x32x512 .f32) (harg7 : arg7.IsWhole) (arg8 : Memref sig .tc .vmem S1x4x2 .f32) (harg8 : arg8.IsWhole) (arg9 : Memref sig .tc .vmem S512x2048 .f32) (harg9 : arg9.IsWhole) (arg10 : Memref sig .tc .vmem S32x512 .f32) (harg10 : arg10.IsWhole) (arg11 : Memref sig .tc .vmem S32x512 .f32) (harg11 : arg11.IsWhole) (arg12 : Memref sig .tc .vmem S32x512 .f32) (harg12 : arg12.IsWhole) (hc0 : cond0_0 i) (hc1 : ¬cond0_1 i)
    (x0 : Vec F S1x3x512 .f32) (x1 : Vec F S1x3x2048 .f32) (x2 : Vec F S8x3 .f32) (x3 : Vec F S8x1 .f32) (x4 : Vec F S32x16 .f32) :
    out0_A_6 c i arg2 harg2 arg3 harg3 arg4 harg4 arg5 harg5 arg6 harg6 arg7 harg7 arg8 harg8 arg9 harg9 arg10 harg10 arg11 harg11 arg12 harg12 hc0 hc1 x0 x1 x2 x3 x4 = k0_pay2 (iota .tc S32x4 32 [0] iota_S32x4_d0_w32) 8#32 k0_pay22 k0_pay23 k0_pay24 (fin x0 x1 x2 x3 x4).2.2.1 (fin x0 x1 x2 x3 x4).2.2.2 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  refine (View.canon_unit_zero (S := S1x4x2) hz3 _ _).trans (congrArg₂ (k0_pay2 (iota .tc S32x4 32 [0] iota_S32x4_d0_w32) 8#32 k0_pay22 k0_pay23 k0_pay24) ?_ ?_)
  · refine (readCov_two (s := S32x512) arg11.view _ _ _).trans ?_
    refine (congrArg (fun s : St F => s.2.2.1) (loop_rd .none c none i arg2 harg2 arg3 harg3 arg4 harg4 arg5 harg5 arg6 harg6 arg7 harg7 arg8 harg8 arg9 harg9 arg10 harg10 arg11 harg11 arg12 harg12 _ _ _ _ _ _ _ _ _ 16 (by decide))).trans ?_
    unfold fin rd
    rw [View.read_writes_full (s := S512x2048), View.read_writes_full (s := S32x512), View.read_writes_full (s := S32x512), View.read_writes_full (s := S32x512)]
    rw [show View.readAt (Elt F) arg2.view _ (harg2.unread x0) = x0 from (View.readAt_full arg2.view _ _).trans (harg2.read_unread x0),
      show View.readAt (Elt F) arg3.view _ (harg3.unread x1) = x1 from (View.readAt_full arg3.view _ _).trans (harg3.read_unread x1),
      show View.readAt (Elt F) arg4.view _ (harg4.unread x2) = x2 from (View.readAt_full arg4.view _ _).trans (harg4.read_unread x2),
      show View.readAt (Elt F) arg5.view _ (harg5.unread x3) = x3 from (View.readAt_full arg5.view _ _).trans (harg5.read_unread x3),
      show View.readAt (Elt F) arg6.view _ (harg6.unread x4) = x4 from (View.readAt_full arg6.view _ _).trans (harg6.read_unread x4)]
  · refine (readCov_two (s := S32x512) arg12.view _ _ _).trans ?_
    refine (congrArg (fun s : St F => s.2.2.2) (loop_rd .none c none i arg2 harg2 arg3 harg3 arg4 harg4 arg5 harg5 arg6 harg6 arg7 harg7 arg8 harg8 arg9 harg9 arg10 harg10 arg11 harg11 arg12 harg12 _ _ _ _ _ _ _ _ _ 16 (by decide))).trans ?_
    unfold fin rd
    rw [View.read_writes_full (s := S512x2048), View.read_writes_full (s := S32x512), View.read_writes_full (s := S32x512), View.read_writes_full (s := S32x512)]
    rw [show View.readAt (Elt F) arg2.view _ (harg2.unread x0) = x0 from (View.readAt_full arg2.view _ _).trans (harg2.read_unread x0),
      show View.readAt (Elt F) arg3.view _ (harg3.unread x1) = x1 from (View.readAt_full arg3.view _ _).trans (harg3.read_unread x1),
      show View.readAt (Elt F) arg4.view _ (harg4.unread x2) = x2 from (View.readAt_full arg4.view _ _).trans (harg4.read_unread x2),
      show View.readAt (Elt F) arg5.view _ (harg5.unread x3) = x3 from (View.readAt_full arg5.view _ _).trans (harg5.read_unread x3),
      show View.readAt (Elt F) arg6.view _ (harg6.unread x4) = x4 from (View.readAt_full arg6.view _ _).trans (harg6.read_unread x4)]

/-- The first result's block. -/
theorem out5_B (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S8x3 .f32) (harg4 : arg4.IsWhole) (arg5 : Memref sig .tc .vmem S8x1 .f32) (harg5 : arg5.IsWhole) (arg6 : Memref sig .tc .vmem S32x16 .f32) (harg6 : arg6.IsWhole) (arg7 : Memref sig .tc .vmem S1x32x512 .f32) (harg7 : arg7.IsWhole) (arg8 : Memref sig .tc .vmem S1x4x2 .f32) (harg8 : arg8.IsWhole) (arg9 : Memref sig .tc .vmem S512x2048 .f32) (harg9 : arg9.IsWhole) (arg10 : Memref sig .tc .vmem S32x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : cond0_1 i)
    (x0 : Vec F S1x3x512 .f32) (x1 : Vec F S1x3x2048 .f32) (x2 : Vec F S8x3 .f32) (x3 : Vec F S8x1 .f32) (x4 : Vec F S32x16 .f32) (xo6 : Vec F S1x4x2 .f32) :
    out0_B_5 c i arg2 harg2 arg3 harg3 arg4 harg4 arg5 harg5 arg6 harg6 arg7 harg7 arg8 harg8 arg9 harg9 arg10 harg10 arg11 harg11 arg12 harg12 hc0 hc1 x0 x1 x2 x3 x4 xo6 = k0_pay21 (fin x0 x1 x2 x3 x4).2.1 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 hc0 hc1 x0 x1 x2 x3 x4 xo6)]
  unfold kernelRun0_B
  dsimp only
  sl_unfold_words
  refine (View.canon_unit_zero (S := S1x32x512) hz3 _ _).trans (congrArg k0_pay21 ?_)
  refine (readCov_two (s := S32x512) arg10.view _ _ _).trans ?_
  refine (congrArg (fun s : St F => s.2.1) (loop_rd .none c none i arg2 harg2 arg3 harg3 arg4 harg4 arg5 harg5 arg6 harg6 arg7 harg7 arg8 harg8 arg9 harg9 arg10 harg10 arg11 harg11 arg12 harg12 _ _ _ _ _ _ _ _ _ 16 (by decide))).trans ?_
  unfold fin rd
  rw [View.read_writes_full (s := S512x2048), View.read_writes_full (s := S32x512), View.read_writes_full (s := S32x512), View.read_writes_full (s := S32x512)]
  rw [show View.readAt (Elt F) arg2.view _ (harg2.unread x0) = x0 from (View.readAt_full arg2.view _ _).trans (harg2.read_unread x0),
    show View.readAt (Elt F) arg3.view _ (harg3.unread x1) = x1 from (View.readAt_full arg3.view _ _).trans (harg3.read_unread x1),
    show View.readAt (Elt F) arg4.view _ (harg4.unread x2) = x2 from (View.readAt_full arg4.view _ _).trans (harg4.read_unread x2),
    show View.readAt (Elt F) arg5.view _ (harg5.unread x3) = x3 from (View.readAt_full arg5.view _ _).trans (harg5.read_unread x3),
    show View.readAt (Elt F) arg6.view _ (harg6.unread x4) = x4 from (View.readAt_full arg6.view _ _).trans (harg6.read_unread x4)]

/-- The second result's block: the group sums, added to those of the tiles before. -/
theorem out6_B (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S8x3 .f32) (harg4 : arg4.IsWhole) (arg5 : Memref sig .tc .vmem S8x1 .f32) (harg5 : arg5.IsWhole) (arg6 : Memref sig .tc .vmem S32x16 .f32) (harg6 : arg6.IsWhole) (arg7 : Memref sig .tc .vmem S1x32x512 .f32) (harg7 : arg7.IsWhole) (arg8 : Memref sig .tc .vmem S1x4x2 .f32) (harg8 : arg8.IsWhole) (arg9 : Memref sig .tc .vmem S512x2048 .f32) (harg9 : arg9.IsWhole) (arg10 : Memref sig .tc .vmem S32x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : cond0_1 i)
    (x0 : Vec F S1x3x512 .f32) (x1 : Vec F S1x3x2048 .f32) (x2 : Vec F S8x3 .f32) (x3 : Vec F S8x1 .f32) (x4 : Vec F S32x16 .f32) (xo6 : Vec F S1x4x2 .f32) :
    out0_B_6 c i arg2 harg2 arg3 harg3 arg4 harg4 arg5 harg5 arg6 harg6 arg7 harg7 arg8 harg8 arg9 harg9 arg10 harg10 arg11 harg11 arg12 harg12 hc0 hc1 x0 x1 x2 x3 x4 xo6 = k0_pay3 (iota .tc S32x4 32 [0] iota_S32x4_d0_w32) 8#32 k0_pay22 k0_pay23 k0_pay24 (fin x0 x1 x2 x3 x4).2.2.1 (fin x0 x1 x2 x3 x4).2.2.2 xo6 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 x0 x1 x2 x3 x4 xo6)]
  unfold kernelRun0_B
  dsimp only
  sl_unfold_words
  refine (View.canon_unit_zero (S := S1x4x2) hz3 _ _).trans (congr (congrArg₂ (k0_pay3 (iota .tc S32x4 32 [0] iota_S32x4_d0_w32) 8#32 k0_pay22 k0_pay23 k0_pay24) ?_ ?_) ?_)
  · refine (readCov_two (s := S32x512) arg11.view _ _ _).trans ?_
    refine (congrArg (fun s : St F => s.2.2.1) (loop_rd .none c none i arg2 harg2 arg3 harg3 arg4 harg4 arg5 harg5 arg6 harg6 arg7 harg7 arg8 harg8 arg9 harg9 arg10 harg10 arg11 harg11 arg12 harg12 _ _ _ _ _ _ _ _ _ 16 (by decide))).trans ?_
    unfold fin rd
    rw [View.read_writes_full (s := S512x2048), View.read_writes_full (s := S32x512), View.read_writes_full (s := S32x512), View.read_writes_full (s := S32x512)]
    rw [show View.readAt (Elt F) arg2.view _ (harg2.unread x0) = x0 from (View.readAt_full arg2.view _ _).trans (harg2.read_unread x0),
      show View.readAt (Elt F) arg3.view _ (harg3.unread x1) = x1 from (View.readAt_full arg3.view _ _).trans (harg3.read_unread x1),
      show View.readAt (Elt F) arg4.view _ (harg4.unread x2) = x2 from (View.readAt_full arg4.view _ _).trans (harg4.read_unread x2),
      show View.readAt (Elt F) arg5.view _ (harg5.unread x3) = x3 from (View.readAt_full arg5.view _ _).trans (harg5.read_unread x3),
      show View.readAt (Elt F) arg6.view _ (harg6.unread x4) = x4 from (View.readAt_full arg6.view _ _).trans (harg6.read_unread x4)]
  · refine (readCov_two (s := S32x512) arg12.view _ _ _).trans ?_
    refine (congrArg (fun s : St F => s.2.2.2) (loop_rd .none c none i arg2 harg2 arg3 harg3 arg4 harg4 arg5 harg5 arg6 harg6 arg7 harg7 arg8 harg8 arg9 harg9 arg10 harg10 arg11 harg11 arg12 harg12 _ _ _ _ _ _ _ _ _ 16 (by decide))).trans ?_
    unfold fin rd
    rw [View.read_writes_full (s := S512x2048), View.read_writes_full (s := S32x512), View.read_writes_full (s := S32x512), View.read_writes_full (s := S32x512)]
    rw [show View.readAt (Elt F) arg2.view _ (harg2.unread x0) = x0 from (View.readAt_full arg2.view _ _).trans (harg2.read_unread x0),
      show View.readAt (Elt F) arg3.view _ (harg3.unread x1) = x1 from (View.readAt_full arg3.view _ _).trans (harg3.read_unread x1),
      show View.readAt (Elt F) arg4.view _ (harg4.unread x2) = x2 from (View.readAt_full arg4.view _ _).trans (harg4.read_unread x2),
      show View.readAt (Elt F) arg5.view _ (harg5.unread x3) = x3 from (View.readAt_full arg5.view _ _).trans (harg5.read_unread x3),
      show View.readAt (Elt F) arg6.view _ (harg6.unread x4) = x4 from (View.readAt_full arg6.view _ _).trans (harg6.read_unread x4)]
  · exact (View.readAt_full arg8.view _ _).trans (harg8.read_unread xo6)

end Cert.StageFirstIdeal.Loop

end
-- ==== Proof.FirstVal.lean ====
module

public import proofs.«01_k».proof.Proof.FirstLoop
public import Idealize.ShloMosaic.PureOps.IdealRules
public import proofs.«01_k».proof.Proof.Groups
public import proofs.«01_k».proof.Proof.Column

@[expose] public section

set_option maxRecDepth 16384

noncomputable section

namespace Cert.StageFirstIdeal.Val

open Cert.StageFirstIdeal Cert.StageFirstIdeal.Gen Cert.StageFirstIdeal.Loop Idealize.ShloMosaic Idealize.ShloMosaic.ValueIdx Nearest KOps
open scoped BigOperators

/-! # What one block of the first stage computes, over the extended reals -/

/-- The key positions, one row for every query. -/
abbrev pos : IVec S512x2048 32 := iota .tc S512x2048 32 [1] iota_S512x2048_d1_w32

theorem mark_val (d : FVec Ideal S512x2048 .f32) (q : Fin 512) (p P : Fin 2048) (hP : FirstMin (fun k => d (ix2 q k)) P) :
    k0_pay4 (F := Ideal) pos d (ix2 q p) = if p = P then 1#1 else 0#1 :=
  mark_apply d iota_S512x2048_d1_w32 reduces_S512x2048_S512 shapeCasts_S512_S512x1 broadcasts_S512x1_S512x2048 (by norm_num) q p P hP

theorem mask_val : Named.named (F := Ideal) (φ := .f32) κ "mask" 0x7149F2CA#32 = (⊤ : EReal) :=
  IdealRules.named_const.ideal_named_scalar (φ := .f32) κ "mask" 0x7149F2CA#32 ⊤ (by rfl)

theorem neg_mask_val : Named.named (F := Ideal) (φ := .f32) κ "neg_mask" 0xF149F2CA#32 = (⊥ : EReal) :=
  IdealRules.named_const.ideal_named_scalar (φ := .f32) κ "neg_mask" 0xF149F2CA#32 ⊥ (by rfl)

theorem masked_val (d : FVec Ideal S512x2048 .f32) (q : Fin 512) (p P : Fin 2048) (hP : FirstMin (fun k => d (ix2 q k)) P) :
    k0_pay5 (F := Ideal) pos d (ix2 q p) = if p = P then ⊤ else d (ix2 q p) := by
  unfold k0_pay5
  rw [cast_self]
  refine (congrArg (fun c : BitVec 1 => Scalar.select c _ (d (ix2 q p))) (mark_val d q p P hP)).trans ?_
  by_cases h : p = P
  · rw [if_pos h, if_pos h]
    exact mask_val
  · rw [if_neg h, if_neg h]
    rfl

theorem conv_val (f : FVec Ideal S8x2048 .f32) (hf : ∀ i, f i ≠ ⊥ ∧ f i ≠ ⊤) (g : FVec Ideal S8x512 .f32) (W : FVec Ideal S32x16 .f32)
    (d : FVec Ideal S512x2048 .f32) (o : Fin 32) (q : Fin 512) (P : Fin 2048) (hP : FirstMin (fun k => d (ix2 q k)) P) :
    k0_pay6 (F := Ideal) g W pos (k0_pay19 f) d (ix2 o q) = conv (C := 8) rfl W f g P o q :=
  conv_apply (C := 8) rfl W f g _ concatenates_S8x512_S8x512_S16x512_d0 _ zero_apply q P
    (gathered_apply (C := 8) rfl f bitsLt_bf16_f32 concatenates_S8x2048_S8x2048_S8x2048_S24x2048_d0 hf _ _ zero_apply
      slices_S24x512_o0_0_S8x512 slices_S24x512_o8_0_S8x512 slices_S24x512_o16_0_S8x512 q P
      (fun p => flag_apply _ natLt_1_32 (ix2 q p) (p = P) (mark_val d q p P hP))) o

theorem dist_val (x0 : FVec Ideal S1x3x512 .f32) (x1 : FVec Ideal S1x3x2048 .f32) (q : Fin 512) (p : Fin 2048) :
    k0_pay15 (k0_pay14 (F := Ideal) x0 x1) (ix2 q p) = sqd (fun k p => x0 (ix3 0 k p)) (fun k p => x1 (ix3 0 k p)) q p := by
  have hx : ∀ (k : Fin 3) (p : Fin 512), shapeCast S3x512 x0 shapeCasts_S1x3x512_S3x512 (ix2 k p) = x0 (ix3 0 k p) := fun k p => shapeCast_1ab_ab_apply x0 _ k p
  have hy : ∀ (k : Fin 3) (p : Fin 2048), shapeCast S3x2048 x1 shapeCasts_S1x3x2048_S3x2048 (ix2 k p) = x1 (ix3 0 k p) := fun k p => shapeCast_1ab_ab_apply x1 _ k p
  unfold k0_pay15 k0_pay14
  rw [cast_self]
  refine (sqd_apply (shapeCast S3x512 x0 shapeCasts_S1x3x512_S3x512) (shapeCast S3x2048 x1 shapeCasts_S1x3x2048_S3x2048)
    reduces_S3x512_S512 reduces_S3x2048_S2048 (.inl rfl) rfl shapeCasts_S512_S1x512 shapeCasts_S2048_S1x2048 broadcasts_S512x1_S512x2048 broadcasts_S1x2048_S512x2048 q p).trans ?_
  simp only [hx, hy]

/-- The keys' lifted features: the input convolution and its bias. -/
theorem feat_apply (x1 : FVec Ideal S1x3x2048 .f32) (x2 : FVec Ideal S8x3 .f32) (x3 : FVec Ideal S8x1 .f32) (c : Fin 8) (p : Fin 2048) :
    k0_pay12 (F := Ideal) x1 x2 x3 (ix2 c p) = (∑ k : Fin 3, x2 (ix2 c k) * x1 (ix3 0 k p)) + x3 (ix2 c 0) := by
  refine (lift_apply (shapeCast S3x2048 x1 shapeCasts_S1x3x2048_S3x2048) x2 x3 broadcasts_S8x1_S8x2048 _ zero_apply c p).trans ?_
  simp only [shapeCast_1ab_ab_apply]

/-- The queries' lifted features. -/
theorem query_apply (x0 : FVec Ideal S1x3x512 .f32) (x2 : FVec Ideal S8x3 .f32) (x3 : FVec Ideal S8x1 .f32) (c : Fin 8) (q : Fin 512) :
    k0_pay13 (F := Ideal) x0 x2 x3 (ix2 c q) = (∑ k : Fin 3, x2 (ix2 c k) * x0 (ix3 0 k q)) + x3 (ix2 c 0) := by
  refine (lift_apply (shapeCast S3x512 x0 shapeCasts_S1x3x512_S3x512) x2 x3 broadcasts_S8x1_S8x512 _ zero_apply c q).trans ?_
  simp only [shapeCast_1ab_ab_apply]

variable (x0 : FVec Ideal S1x3x512 .f32) (x1 : FVec Ideal S1x3x2048 .f32) (x2 : FVec Ideal S8x3 .f32) (x3 : FVec Ideal S8x1 .f32) (x4 : FVec Ideal S32x16 .f32)

/-- Distances of the block's queries to its keys. -/
abbrev D (q : Fin 512) (p : Fin 2048) : EReal := sqd (fun k p => x0 (ix3 0 k p)) (fun k p => x1 (ix3 0 k p)) q p

/-- Convolution of the block's features. -/
abbrev cv (P : Fin 2048) (o : Fin 32) (q : Fin 512) : EReal := conv (C := 8) rfl x4 (k0_pay12 (F := Ideal) x1 x2 x3) (k0_pay13 (F := Ideal) x0 x2 x3) P o q

/-- The four buffers after `k` trips. -/
def at' (k : ℕ) : St Ideal := (step (F := Ideal) (k0_pay12 (F := Ideal) x1 x2 x3) (k0_pay13 (F := Ideal) x0 x2 x3) x4 pos)^[k] (k0_pay15 (k0_pay14 (F := Ideal) x0 x1), k0_pay16 (F := Ideal), k0_pay17 (F := Ideal), k0_pay18 (F := Ideal))

theorem at_zero : at' x0 x1 x2 x3 x4 0 = (k0_pay15 (k0_pay14 (F := Ideal) x0 x1), k0_pay16 (F := Ideal), k0_pay17 (F := Ideal), k0_pay18 (F := Ideal)) := rfl

theorem at_succ (k : ℕ) : at' x0 x1 x2 x3 x4 (k + 1) = step (F := Ideal) (k0_pay12 (F := Ideal) x1 x2 x3) (k0_pay13 (F := Ideal) x0 x2 x3) x4 pos (at' x0 x1 x2 x3 x4 k) := Function.iterate_succ_apply' _ _ _

theorem mx_init (i : S32x512.Idx) : k0_pay16 (F := Ideal) i = ⊥ := by
  unfold k0_pay16
  rw [cast_self]
  exact neg_mask_val

theorem sm_init (i : S32x512.Idx) : k0_pay17 (F := Ideal) i = 0 := by
  unfold k0_pay17
  rw [cast_self]
  exact Ideal.ofBits_zero_f32

theorem sq_init (i : S32x512.Idx) : k0_pay18 (F := Ideal) i = 0 := by
  unfold k0_pay18
  rw [cast_self]
  exact Ideal.ofBits_zero_f32

section
variable (f : FVec Ideal S8x2048 .f32) (hf : ∀ i, f i ≠ ⊥ ∧ f i ≠ ⊤) (h : FVec Ideal S8x512 .f32) (W : FVec Ideal S32x16 .f32) (d : FVec Ideal S512x2048 .f32)
  (a : FVec Ideal S32x512 .f32) (o : Fin 32) (q : Fin 512) (P : Fin 2048) (hP : FirstMin (fun k => d (ix2 q k)) P)
include hf hP

theorem mx_val : k0_pay7 (F := Ideal) h W pos (k0_pay19 f) d a (ix2 o q) = max (a (ix2 o q)) (conv (C := 8) rfl W f h P o q) := by
  unfold k0_pay7
  rw [cast_self]
  exact congrArg (max (a (ix2 o q))) (conv_val f hf h W d o q P hP)

theorem sm_val : k0_pay8 (F := Ideal) h W pos (k0_pay19 f) d a (ix2 o q) = a (ix2 o q) + conv (C := 8) rfl W f h P o q := by
  unfold k0_pay8
  rw [cast_self]
  exact congrArg (a (ix2 o q) + ·) (conv_val f hf h W d o q P hP)

theorem sq_val : k0_pay20 (F := Ideal) (k0_pay9 h W pos (k0_pay19 f) d a) (ix2 o q)
    = a (ix2 o q) + conv (C := 8) rfl W f h P o q * conv (C := 8) rfl W f h P o q := by
  unfold k0_pay20 k0_pay9
  rw [cast_self]
  exact congrArg (fun z => a (ix2 o q) + z * z) (conv_val f hf h W d o q P hP)
end

theorem state (h0 : ∀ i, x0 i ≠ ⊥ ∧ x0 i ≠ ⊤) (h1 : ∀ i, x1 i ≠ ⊥ ∧ x1 i ≠ ⊤) (hf : ∀ i, k0_pay12 (F := Ideal) x1 x2 x3 i ≠ ⊥ ∧ k0_pay12 (F := Ideal) x1 x2 x3 i ≠ ⊤) (k : ℕ) (hk : k ≤ 16) :
    Pooled (D x0 x1) (cv x0 x1 x2 x3 x4) k (at' x0 x1 x2 x3 x4 k).1 (at' x0 x1 x2 x3 x4 k).2.1 (at' x0 x1 x2 x3 x4 k).2.2.1 (at' x0 x1 x2 x3 x4 k).2.2.2 := by
  induction k with
  | zero =>
    rw [at_zero]
    exact Pooled.zero _ _ _ _ _ _ (dist_val x0 x1) mx_init sm_init sq_init
  | succ k ih =>
    rw [at_succ]
    exact Pooled.succ (D x0 x1) (cv x0 x1 x2 x3 x4) (by omega) (fun q p => sqd_lt _ _ (fun k q => h0 _) (fun k q => h1 _) q p) (ih (by omega))
      (fun q P hP p => masked_val _ q p P hP) (fun q P hP o => mx_val _ hf _ x4 _ _ o q P hP)
      (fun q P hP o => sm_val _ hf _ x4 _ _ o q P hP) (fun q P hP o => sq_val _ hf _ x4 _ _ o q P hP)

/-- The group of a channel, on words: the quotient by the group's size, rounded down. -/
def groupWord (v : BitVec 32) : BitVec 32 :=
  if IntOp.andi (IntOp.cmpi .ne (IntOp.subi ((IntOp.cmpi .sgt v 0#32).setWidth 32) ((IntOp.cmpi .slt v 0#32).setWidth 32))
      (IntOp.subi ((IntOp.cmpi .sgt 8#32 0#32).setWidth 32) ((IntOp.cmpi .slt 8#32 0#32).setWidth 32)))
    (IntOp.cmpi .ne (IntOp.remsi .vector v 8#32) 0#32) = 1#1 then IntOp.subi (IntOp.divsi .vector v 8#32) 1#32 else IntOp.divsi .vector v 8#32

theorem groupWord_mark : ∀ (o : Fin 32) (g : Fin 4), IntOp.cmpi .eq (groupWord (BitVec.ofNat 32 o.val)) (BitVec.ofNat 32 g.val) = if o.val / 8 = g.val then 1#1 else 0#1 := by
  decide +kernel

/-- Every channel's number. -/
abbrev ch : IVec S32x4 32 := iota .tc S32x4 32 [0] iota_S32x4_d0_w32

/-- Every channel's group. -/
def grp : IVec S32x4 32 := select (andi (cmpi .ne (subi k0_pay23 (extui 32 (cmpi .slt ch k0_pay24) natLt_1_32)) (broadcast S32x4 (Scalar.subi (Scalar.extui (Scalar.cmpi .sgt 8#32 0#32)) (Scalar.extui (Scalar.cmpi .slt 8#32 0#32)))))
    (cmpi .ne (remsi ch (broadcast S32x4 8#32)) (broadcast S32x4 0#32))) (subi k0_pay22 (broadcast S32x4 1#32)) k0_pay22

/-- The marks of the four channel groups. -/
theorem group_mark (o : Fin 32) (g : Fin 4) :
    cmpi .eq grp (iota .tc S32x4 32 [1] iota_S32x4_d1_w32) (ix2 o g) = if o.val / 8 = g.val then 1#1 else 0#1 := by
  rw [← groupWord_mark]
  have e0 : iota .tc S32x4 32 [0] iota_S32x4_d0_w32 = fun i => BitVec.ofNat 32 (i 0).val := funext fun i => iota_single_apply _ _ _ _ _ i
  have e1 : iota .tc S32x4 32 [1] iota_S32x4_d1_w32 = fun i => BitVec.ofNat 32 (i 1).val := funext fun i => iota_single_apply _ _ _ _ _ i
  unfold grp ch k0_pay23 k0_pay24 k0_pay22
  rw [e0, e1]
  rfl

theorem fin_eq : fin (F := Ideal) x0 x1 x2 x3 x4 = at' x0 x1 x2 x3 x4 16 := rfl

/-- The block's first result: the largest convolution over the sixteen nearest keys. -/
theorem max_apply (h0 : ∀ i, x0 i ≠ ⊥ ∧ x0 i ≠ ⊤) (h1 : ∀ i, x1 i ≠ ⊥ ∧ x1 i ≠ ⊤) (hf : ∀ i, k0_pay12 (F := Ideal) x1 x2 x3 i ≠ ⊥ ∧ k0_pay12 (F := Ideal) x1 x2 x3 i ≠ ⊤) (u : Fin 1) (o : Fin 32) (q : Fin 512) :
    k0_pay21 (F := Ideal) (at' x0 x1 x2 x3 x4 16).2.1 (ix3 u o q) = (Finset.range 16).sup fun j => cv x0 x1 x2 x3 x4 (near (D x0 x1 q) (Fin.ofNat 2048 j)) o q :=
  (shapeCast_ab_1ab_apply (at' x0 x1 x2 x3 x4 16).2.1 shapeCasts_S32x512_S1x32x512 u o q).trans ((state x0 x1 x2 x3 x4 h0 h1 hf 16 le_rfl).mx_eq o q)

/-- The two group sums of any two arrays. -/
theorem sums_val (a b : FVec Ideal S32x512 .f32) (g : Fin 4) :
    k0_pay1 (F := Ideal) ch 8#32 k0_pay22 k0_pay23 k0_pay24 a b (ix2 g 0) = (∑ s : Fin 8, ∑ q : Fin 512, a (ix2 (chan (G := 4) (S := 8) rfl g s) q))
    ∧ k0_pay1 (F := Ideal) ch 8#32 k0_pay22 k0_pay23 k0_pay24 a b (ix2 g 1) = ∑ s : Fin 8, ∑ q : Fin 512, b (ix2 (chan (G := 4) (S := 8) rfl g s) q) := by
  have hm : ∀ o : Fin 32, sitofp (F := Ideal) .f32 (extui 32 (cmpi .eq grp (iota .tc S32x4 32 [1] iota_S32x4_d1_w32)) natLt_1_32) (ix2 o g)
      = if o.val / 8 = g.val then (1 : EReal) else 0 := fun o => flag_apply _ natLt_1_32 (ix2 o g) _ (group_mark o g)
  have ga := group_apply (G := 4) (S := 8) rfl _ a reduces_S32x512_S32 (.inl rfl) rfl shapeCasts_S32_S32x1 g 0 hm
  have gb := group_apply (G := 4) (S := 8) rfl _ b reduces_S32x512_S32 (.inl rfl) rfl shapeCasts_S32_S32x1 g 0 hm
  unfold k0_pay1
  exact ⟨(beside_apply _ _ concatenates_S4x1_S4x1_S4x2_d1 g).1.trans ga, (beside_apply _ _ concatenates_S4x1_S4x1_S4x2_d1 g).2.trans gb⟩

/-- The block's second result: each group's sum and sum of squares. -/
theorem stats_apply (h0 : ∀ i, x0 i ≠ ⊥ ∧ x0 i ≠ ⊤) (h1 : ∀ i, x1 i ≠ ⊥ ∧ x1 i ≠ ⊤) (hf : ∀ i, k0_pay12 (F := Ideal) x1 x2 x3 i ≠ ⊥ ∧ k0_pay12 (F := Ideal) x1 x2 x3 i ≠ ⊤) (g : Fin 4) :
    k0_pay1 (F := Ideal) ch 8#32 k0_pay22 k0_pay23 k0_pay24 (at' x0 x1 x2 x3 x4 16).2.2.1 (at' x0 x1 x2 x3 x4 16).2.2.2 (ix2 g 0)
      = (∑ s : Fin 8, ∑ q : Fin 512, ∑ j ∈ Finset.range 16, cv x0 x1 x2 x3 x4 (near (D x0 x1 q) (Fin.ofNat 2048 j)) (chan (G := 4) (S := 8) rfl g s) q)
    ∧ k0_pay1 (F := Ideal) ch 8#32 k0_pay22 k0_pay23 k0_pay24 (at' x0 x1 x2 x3 x4 16).2.2.1 (at' x0 x1 x2 x3 x4 16).2.2.2 (ix2 g 1)
      = ∑ s : Fin 8, ∑ q : Fin 512, ∑ j ∈ Finset.range 16,
          cv x0 x1 x2 x3 x4 (near (D x0 x1 q) (Fin.ofNat 2048 j)) (chan (G := 4) (S := 8) rfl g s) q * cv x0 x1 x2 x3 x4 (near (D x0 x1 q) (Fin.ofNat 2048 j)) (chan (G := 4) (S := 8) rfl g s) q := by
  obtain ⟨e0, e1⟩ := sums_val (at' x0 x1 x2 x3 x4 16).2.2.1 (at' x0 x1 x2 x3 x4 16).2.2.2 g
  have st := state x0 x1 x2 x3 x4 h0 h1 hf 16 le_rfl
  constructor
  · exact e0.trans (Finset.sum_congr rfl fun s _ => Finset.sum_congr rfl fun q _ => st.sm_eq _ q)
  · exact e1.trans (Finset.sum_congr rfl fun s _ => Finset.sum_congr rfl fun q _ => st.sq_eq _ q)

end Cert.StageFirstIdeal.Val

end
-- ==== Proof.RefFirst.lean ====
module

public import proofs.«01_k».proof.Proof.Gen.RefFirstIdeal.Read
public import proofs.«01_k».proof.Proof.HostOps

@[expose] public section

set_option maxRecDepth 16384

noncomputable section

namespace Cert.RefFirstIdeal.Val

open Cert.RefFirstIdeal Cert.RefFirstIdeal.Read Idealize.ShloMosaic Idealize.ShloMosaic.ValueIdx Nearest KOps
open scoped BigOperators

/-! # What the reference of the first stage computes -/

variable (x0 : FVec Ideal S16x3x2048 .f32) (x1 : FVec Ideal S8x3 .f32) (x2 : FVec Ideal S8x1 .f32) (x3 : FVec Ideal S32x16 .f32)

/-- The query points of one batch, -/
abbrev pq (b : Fin 16) (k : Fin 3) (p : Fin 2048) : EReal := x0 (ix3 b k p)

/-- and its key points. -/
abbrev pk (b : Fin 16) (k : Fin 3) (p : Fin 2048) : EReal := x0 (ix3 b k p)

/-- The query features of one batch, -/
def fq (b : Fin 16) : (⟨2, ![8, 2048]⟩ : Shape).Idx → EReal := fun i => (val_main_v4 (F := Ideal) x0 x1 x2) (ix3 b (i 0) (i 1))

/-- and its key features. -/
def fk (b : Fin 16) : (⟨2, ![8, 2048]⟩ : Shape).Idx → EReal := fun i => (val_main_v4 (F := Ideal) x0 x1 x2) (ix3 b (i 0) (i 1))

theorem dist_eq (b : Fin 16) (q : Fin 2048) (p : Fin 2048) : val_main_v20 (F := Ideal) x0 (ix3 b q p) = sqd (pq x0 b) (pk x0 b) q p := by
  rw [val_main_v20_apply, val_main_v15_apply, val_main_v10_apply, val_main_v9_apply, val_main_cst_apply, val_main_v8_apply, val_main_v14_apply,
    val_main_v13_apply, val_main_v12_apply, val_main_v19_apply, val_main_v18_apply, val_main_v17_apply]
  simp only [val_main_v7_apply, val_main_v6_apply, val_main_v5_apply, val_main_v11_apply, val_main_v16_apply, val_main_cst_0_apply, val_main_cst_1_apply]
  show Ideal.ofBits .f32 0xC0000000#32 * _ + (Ideal.ofBits .f32 0x00000000#32 + _) + (Ideal.ofBits .f32 0x00000000#32 + _) = _
  rw [Ideal.ofBits_zero_f32, zero_add, zero_add]
  unfold sqd
  refine congrArg₂ (· + ·) (congrArg₂ (· + ·) (congrArg (_ * ·) ?_) ?_) ?_
  · exact Finset.sum_congr rfl fun k _ => congrArg₂ (fun i j => x0 i * x0 j)
      (funext fun a => Fin.ext (match a with | ⟨0, _⟩ => rfl | ⟨1, _⟩ => rfl | ⟨2, _⟩ => rfl))
      (funext fun a => Fin.ext (match a with | ⟨0, _⟩ => rfl | ⟨1, _⟩ => rfl | ⟨2, _⟩ => rfl))
  · exact Finset.sum_congr rfl fun k _ => congrArg (fun i => x0 i * x0 i)
      (funext fun a => Fin.ext (match a with | ⟨0, _⟩ => rfl | ⟨1, _⟩ => rfl | ⟨2, _⟩ => rfl))
  · exact Finset.sum_congr rfl fun k _ => congrArg (fun i => x0 i * x0 i)
      (funext fun a => Fin.ext (match a with | ⟨0, _⟩ => rfl | ⟨1, _⟩ => rfl | ⟨2, _⟩ => rfl))

/-- The key the reference takes as the `k`-th nearest of a query. -/
abbrev nb (b : Fin 16) (q : Fin 2048) (k : ℕ) : Fin 2048 := near (sqd (pq x0 b) (pk x0 b) q) (Fin.ofNat 2048 k)

theorem index_eq (b : Fin 16) (q : Fin 2048) (k : Fin 16) : val_main_indices (F := Ideal) x0 (ix3 b q k) = BitVec.ofNat 32 (nb x0 b q k.val).val := by
  have hv : val_main_v21 (F := Ideal) x0 = fun i => -(val_main_v20 (F := Ideal) x0 i : EReal) := by
    funext i
    rw [val_main_v21_apply]
    generalize val_main_v20 (F := Ideal) x0 i = z
    rfl
  unfold val_main_indices
  rw [hv]
  refine (topK_idx (B := 16) (Q := 2048) (N := 2048) (K := 16) (val_main_v20 (F := Ideal) x0) _ b q k (lt_trans k.isLt (by norm_num))).trans ?_
  have e : (fun p => val_main_v20 (F := Ideal) x0 (ix3 b q p)) = sqd (pq x0 b) (pk x0 b) q := funext fun p => dist_eq x0 b q p
  rw [e]
  refine congrArg (fun z => BitVec.ofNat 32 (near (sqd (pq x0 b) (pk x0 b) q) z).val) (Fin.ext ?_)
  exact (Nat.mod_eq_of_lt (lt_trans k.isLt (by norm_num))).symm

theorem start_eq (b : Fin 16) (q : Fin 2048) (k : Fin 16) : (val_main_v28 (F := Ideal) x0 (ix4 b q k 0)).toInt = (nb x0 b q k.val).val := by
  rw [val_main_v28_apply, val_main_v27_apply, val_main_v24_apply, val_main_v23_apply, val_main_c_apply]
  have e : idx_main_v28 (ix4 b q k 0) = ix3 b q k := funext fun a => Fin.ext (match a with | ⟨0, _⟩ => rfl | ⟨1, _⟩ => rfl | ⟨2, _⟩ => rfl)
  have hlt : (nb x0 b q k.val).val < 2 ^ 31 := lt_trans (nb x0 b q k.val).isLt (by norm_num)
  rw [e, index_eq, wrap_small hlt, toInt_small hlt]

theorem taken_eq (b : Fin 16) (q : Fin 2048) (k : Fin 16) (c : Fin 8) :
    val_main_v29 (F := Ideal) x0 x1 x2 (ix4 b q k c) = (val_main_v4 (F := Ideal) x0 x1 x2) (ix3 b c (nb x0 b q k.val)) := by
  unfold val_main_v29
  refine (take_apply (B := 16) (N := 2048) (C := 8) (Q := 2048) (K := 16) _ (val_main_v22 (F := Ideal) x0 x1 x2) (val_main_v28 (F := Ideal) x0) b q k c _ (start_eq x0 b q k)).trans ?_
  rw [val_main_v22_apply]
  generalize nb x0 b q k.val = p
  exact congrArg (val_main_v4 (F := Ideal) x0 x1 x2) (funext fun a => Fin.ext (match a with | ⟨0, _⟩ => rfl | ⟨1, _⟩ => rfl | ⟨2, _⟩ => rfl))

theorem edge_eq (b : Fin 16) (c : Fin 16) (q : Fin 2048) (k : Fin 16) :
    val_main_v35 (F := Ideal) x0 x1 x2 (ix4 b c q k) = edge (C := 8) (fk x0 x1 x2 b) (fq x0 x1 x2 b) (nb x0 b q k.val) q rfl c := by
  unfold val_main_v35
  refine (stack4_apply (B := 16) (C := 8) (E := 16) (Q := 2048) (K := 16) (val_main_v33 (F := Ideal) x0 x1 x2) (val_main_v34 (F := Ideal) x0 x1 x2) _ rfl b c q k).trans ?_
  unfold edge
  by_cases hc : c.val < 8
  · rw [dif_pos hc, dif_pos hc, val_main_v33_apply, val_main_v30_apply, val_main_v32_apply, val_main_v31_apply]
    have e : idx_main_v30 (ix4 b ⟨c.val, hc⟩ q k) = ix4 b q k ⟨c.val, hc⟩ := funext fun a => Fin.ext (match a with | ⟨0, _⟩ => rfl | ⟨1, _⟩ => rfl | ⟨2, _⟩ => rfl | ⟨3, _⟩ => rfl)
    rw [e, taken_eq]
    exact congrArg (fun z => (val_main_v4 (F := Ideal) x0 x1 x2) (ix3 b ⟨c.val, hc⟩ (nb x0 b q k.val)) - (val_main_v4 (F := Ideal) x0 x1 x2) z) (funext fun a => Fin.ext (match a with | ⟨0, _⟩ => rfl | ⟨1, _⟩ => rfl | ⟨2, _⟩ => rfl))
  · rw [dif_neg hc, dif_neg hc, val_main_v34_apply, val_main_v31_apply]
    exact congrArg (val_main_v4 (F := Ideal) x0 x1 x2) (funext fun a => Fin.ext (match a with | ⟨0, _⟩ => rfl | ⟨1, _⟩ => rfl | ⟨2, _⟩ => rfl))

/-- One edge's convolution in one batch. -/
abbrev cv (b : Fin 16) (o : Fin 32) (q : Fin 2048) (k : ℕ) : EReal := conv (C := 8) rfl x3 (fk x0 x1 x2 b) (fq x0 x1 x2 b) (nb x0 b q k) o q

theorem conv_eq (b : Fin 16) (o : Fin 32) (q : Fin 2048) (k : Fin 16) :
    val_main_v37 (F := Ideal) x0 x1 x2 x3 (ix4 b o q k) = cv x0 x1 x2 x3 b o q k.val := by
  rw [val_main_v37_apply, val_main_v36_apply]
  refine Finset.sum_congr rfl fun c _ => ?_
  rw [mul_comm]
  refine congrArg₂ (· * ·) (congrArg x3 ?_) ((congrArg (val_main_v35 (F := Ideal) x0 x1 x2) ?_).trans (edge_eq x0 x1 x2 b c q k))
  · exact funext fun a => Fin.ext (match a with | ⟨0, _⟩ => rfl | ⟨1, _⟩ => rfl)
  · exact funext fun a => Fin.ext (match a with | ⟨0, _⟩ => rfl | ⟨1, _⟩ => rfl | ⟨2, _⟩ => rfl | ⟨3, _⟩ => rfl)

theorem group_eq (b : Fin 16) (g : Fin 4) (s : Fin 8) (q : Fin 2048) (k : Fin 16) :
    val_main_v38 (F := Ideal) x0 x1 x2 x3 (ix5 b g s q k) = cv x0 x1 x2 x3 b (chan (G := 4) (S := 8) rfl g s) q k.val := by
  rw [val_main_v38_apply]
  refine (congrArg (val_main_v37 (F := Ideal) x0 x1 x2 x3) ?_).trans (conv_eq x0 x1 x2 x3 b (chan (G := 4) (S := 8) rfl g s) q k)
  refine funext fun a => Fin.ext ?_
  have h0 := b.isLt; have h1 := g.isLt; have h2 := s.isLt; have h3 := q.isLt; have h4 := k.isLt
  match a with
  | ⟨0, _⟩ => show ((((b.val * 4 + g.val) * 8 + s.val) * 2048 + q.val) * 16 + k.val) / 1048576 = b.val; omega
  | ⟨1, _⟩ => show ((((b.val * 4 + g.val) * 8 + s.val) * 2048 + q.val) * 16 + k.val) / 32768 % 32 = s.val + 8 * g.val; omega
  | ⟨2, _⟩ => show ((((b.val * 4 + g.val) * 8 + s.val) * 2048 + q.val) * 16 + k.val) / 16 % 2048 = q.val; omega
  | ⟨3, _⟩ => show ((((b.val * 4 + g.val) * 8 + s.val) * 2048 + q.val) * 16 + k.val) % 16 = k.val; omega

/-- The reference's first result. -/
theorem max_eq (b : Fin 16) (o : Fin 32) (q : Fin 2048) :
    val_main_v42 (F := Ideal) x0 x1 x2 x3 (ix3 b o q) = (Finset.range 16).sup fun j => cv x0 x1 x2 x3 b o q j := by
  unfold val_main_v42
  refine maxlast_apply (B := 16) (C := 32) (Q := 2048) (K := 16) _ (by decide) _ _ _ ?_ b o q _ fun k => conv_eq x0 x1 x2 x3 b o q k
  rw [val_main_cst_5_apply]
  show Ideal.ofBits .f32 0xFF800000#32 = ⊥
  simp [Ideal.ofBits, Ideal.ieee]

/-- The reference's second result. -/
theorem stats_eq (b : Fin 16) (g : Fin 4) :
    val_main_v45 (F := Ideal) x0 x1 x2 x3 (ix3 b g 0)
      = (∑ s : Fin 8, ∑ q : Fin 2048, ∑ j ∈ Finset.range 16, cv x0 x1 x2 x3 b (chan (G := 4) (S := 8) rfl g s) q j)
    ∧ val_main_v45 (F := Ideal) x0 x1 x2 x3 (ix3 b g 1)
      = ∑ s : Fin 8, ∑ q : Fin 2048, ∑ j ∈ Finset.range 16, cv x0 x1 x2 x3 b (chan (G := 4) (S := 8) rfl g s) q j * cv x0 x1 x2 x3 b (chan (G := 4) (S := 8) rfl g s) q j := by
  have hc : ∀ y : S16x4.Idx → EReal, ∀ i : S16x4.Idx, i 0 = b → i 1 = g → y i = y (ix2 b g) := fun y i h0 h1 => congrArg y (by rw [← h0, ← h1]; exact eq_ix2 i)
  unfold val_main_v45
  constructor
  · refine (stack3c_apply _ _ _ b g).1.trans ?_
    rw [val_main_v43_apply]
    refine (hc _ _ rfl rfl).trans ?_
    unfold val_main_v39
    refine (groupsum_apply (B := 16) (G := 4) (S := 8) (Q := 2048) (K := 16) _ _ _ _ ?_ b g).trans ?_
    · rw [val_main_cst_3_apply]; exact Ideal.ofBits_zero_f32
    · refine Finset.sum_congr rfl fun s _ => Finset.sum_congr rfl fun q _ => ?_
      rw [← Fin.sum_univ_eq_sum_range (fun j => cv x0 x1 x2 x3 b (chan (G := 4) (S := 8) rfl g s) q j) 16]
      exact Finset.sum_congr rfl fun k _ => group_eq x0 x1 x2 x3 b g s q k
  · refine (stack3c_apply _ _ _ b g).2.trans ?_
    rw [val_main_v44_apply]
    refine (hc _ _ rfl rfl).trans ?_
    unfold val_main_v41
    refine (groupsum_apply (B := 16) (G := 4) (S := 8) (Q := 2048) (K := 16) _ _ _ _ ?_ b g).trans ?_
    · rw [val_main_cst_4_apply]; exact Ideal.ofBits_zero_f32
    · refine Finset.sum_congr rfl fun s _ => Finset.sum_congr rfl fun q _ => ?_
      rw [← Fin.sum_univ_eq_sum_range (fun j => cv x0 x1 x2 x3 b (chan (G := 4) (S := 8) rfl g s) q j * cv x0 x1 x2 x3 b (chan (G := 4) (S := 8) rfl g s) q j) 16]
      exact Finset.sum_congr rfl fun k _ => congrArg (fun z => z * z) (group_eq x0 x1 x2 x3 b g s q k)

end Cert.RefFirstIdeal.Val

end
-- ==== Proof.FirstEq.lean ====
module

public import proofs.«01_k».proof.Proof.FirstVal
public import proofs.«01_k».proof.Proof.RefFirst
public import proofs.«01_k».proof.Proof.Query
public import proofs.«01_k».proof.Proof.Gen.StageFirstIdeal.Value
public import proofs.«01_k».proof.Proof.Gen.Pre_no_tie_stage1

@[expose] public section

set_option maxRecDepth 16384

noncomputable section

namespace Cert.StageFirstIdeal.Eq

open Cert.StageFirstIdeal Cert.StageFirstIdeal.Gen Cert.StageFirstIdeal.Value Cert.StageFirstIdeal.Loop Cert.StageFirstIdeal.Val
open Idealize.ShloMosaic Idealize.ShloMosaic.ValueIdx Idealize.ShloMosaic.TcCoe Idealize.SL.Sem Nearest KOps
open scoped BigOperators

/-! # The first stage's result arrays are the reference's -/

/-- The precondition makes the positions, the first weights and the offsets finite. -/
theorem of_pre (a0 : FVec Ideal S16x3x2048 .f32) (a1 : FVec Ideal S8x3 .f32) (a2 : FVec Ideal S8x1 .f32) (a3 : FVec Ideal S32x16 .f32)
    (h : Cert.Pre_no_tie_stage1.fn (F := Ideal) a0 a1 a2 a3 = fun _ => 1#1) :
    (∀ i, a0 i ≠ ⊥ ∧ a0 i ≠ ⊤) ∧ (∀ i, a1 i ≠ ⊥ ∧ a1 i ≠ ⊤) ∧ ∀ i, a2 i ≠ ⊥ ∧ a2 i ≠ ⊤ := by
  have e := congrFun h default
  dsimp only [Cert.Pre_no_tie_stage1.fn, Cert.Pre_no_tie_stage1.fn_part1] at e
  obtain ⟨e1, -⟩ := both_bits _ _ e
  obtain ⟨e2, f2⟩ := both_bits _ _ e1
  obtain ⟨f0, f1⟩ := both_bits _ _ e2
  exact ⟨fun i => finite_of_all a0 _ (fun _ => rfl) _ _ _ _ f0 i, fun i => finite_of_all a1 _ (fun _ => rfl) _ _ _ _ f1 i,
    fun i => finite_of_all a2 _ (fun _ => rfl) _ _ _ _ f2 i⟩

/-- A finite combination of finite numbers is finite. -/
theorem fin_combo {n : ℕ} (f g : Fin n → EReal) (z : EReal) (hf : ∀ k, f k ≠ ⊥ ∧ f k ≠ ⊤) (hg : ∀ k, g k ≠ ⊥ ∧ g k ≠ ⊤) (hz : z ≠ ⊥ ∧ z ≠ ⊤) :
    (∑ k, f k * g k) + z ≠ ⊥ ∧ (∑ k, f k * g k) + z ≠ ⊤ := by
  obtain ⟨f', rfl⟩ : ∃ f' : Fin n → ℝ, f = fun k => (f' k : EReal) := ⟨fun k => (f k).toReal, funext fun k => (EReal.coe_toReal (hf k).2 (hf k).1).symm⟩
  obtain ⟨g', rfl⟩ : ∃ g' : Fin n → ℝ, g = fun k => (g' k : EReal) := ⟨fun k => (g k).toReal, funext fun k => (EReal.coe_toReal (hg k).2 (hg k).1).symm⟩
  lift z to ℝ using ⟨hz.2, hz.1⟩
  have e : (∑ k, (f' k : EReal) * (g' k : EReal)) + (z : EReal) = (((∑ k, f' k * g' k) + z : ℝ) : EReal) := by
    have hs := map_sum (⟨⟨Real.toEReal, rfl⟩, EReal.coe_add⟩ : ℝ →+ EReal) (fun k => f' k * g' k) Finset.univ
    rw [EReal.coe_add]
    exact congrArg (· + (z : EReal)) ((Finset.sum_congr rfl fun k _ => (EReal.coe_mul _ _).symm).trans hs.symm)
  rw [e]
  exact ⟨EReal.coe_ne_bot _, EReal.coe_ne_top _⟩

/-- A convolution depends on the query's own features only. -/
theorem conv_congr {C N Q Q' O E : ℕ} (hE : E = C + C) (W : (⟨2, ![O, E]⟩ : Shape).Idx → EReal) (key : (⟨2, ![C, N]⟩ : Shape).Idx → EReal)
    (f : (⟨2, ![C, Q]⟩ : Shape).Idx → EReal) (f' : (⟨2, ![C, Q']⟩ : Shape).Idx → EReal) (P : Fin N) (o : Fin O) (q : Fin Q) (q' : Fin Q')
    (h : ∀ c, f (ix2 c q) = f' (ix2 c q')) : conv hE W key f P o q = conv hE W key f' P o q' := by
  unfold conv edge
  refine Finset.sum_congr rfl fun c _ => ?_
  simp only [h]

/-- A squared distance depends on the query's own position only. -/
theorem sqd_congr {Q Q' N : ℕ} (x : Fin 3 → Fin Q → EReal) (x' : Fin 3 → Fin Q' → EReal) (y : Fin 3 → Fin N → EReal) (q : Fin Q) (q' : Fin Q')
    (h : ∀ k, x k q = x' k q') : sqd x y q = sqd x' y q' := by
  funext p
  unfold sqd
  simp only [h]

/-- Query `q` of tile `r` among all. -/
def place (r : ℕ) (q : Fin 512) : Fin 2048 := Fin.ofNat 2048 (512 * r + q.val)

/-- A sum over the queries is the sum over the tiles of the sums over theirs. -/
theorem sum_tiles (f : Fin 2048 → EReal) : ∑ r ∈ Finset.range 4, ∑ q : Fin 512, f (place r q) = ∑ q, f q := by
  have h : ∀ p : Fin 4 × Fin 512, f (place p.1.val p.2) = f ((finProdFinEquiv (m := 4) (n := 512)) p) := by
    rintro ⟨r, q⟩
    have hr := r.isLt
    have hq := q.isLt
    refine congrArg f (Fin.ext ?_)
    show (512 * r.val + q.val) % 2048 = q.val + 512 * r.val
    omega
  rw [Finset.sum_range, ← Fintype.sum_prod_type' (f := fun (r : Fin 4) (q : Fin 512) => f (place r.val q))]
  exact (Finset.sum_congr rfl fun p _ => h p).trans (Equiv.sum_comp (finProdFinEquiv (m := 4) (n := 512)) f)

variable (m : (ℓ : Loc nD τ sig) → Buf (Elt Ideal) ℓ)

theorem points (t : Fin cfg0.N) : t.val < 64 := t.isLt

/-- The batch of grid point `t`. -/
def bat (t : Fin cfg0.N) : Fin 16 := ⟨t.val / 4, by have := points t; omega⟩

theorem idx0 : ∀ t : Fin cfg0.N, win0_0.index t (0 : Fin 3) = t.val / 4 ∧ win0_0.index t (1 : Fin 3) = 0 ∧ win0_0.index t (2 : Fin 3) = t.val % 4 :=
  (by decide +kernel : ∀ t : Fin grid0.N, _)

theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

theorem idx5 : ∀ t : Fin cfg0.N, win0_5.index t (0 : Fin 3) = t.val / 4 ∧ win0_5.index t (1 : Fin 3) = 0 ∧ win0_5.index t (2 : Fin 3) = t.val % 4 :=
  (by decide +kernel : ∀ t : Fin grid0.N, _)

theorem idx6 : ∀ t : Fin cfg0.N, win0_6.index t (0 : Fin 3) = t.val / 4 ∧ win0_6.index t (1 : Fin 3) = 0 ∧ win0_6.index t (2 : Fin 3) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

/-! ## Where an index of a window's block lies in its array -/

theorem emb0 (t : Fin cfg0.N) (j : S1x3x512.Idx) : ((cfg0.win 0).blk t).view.emb j = ix3 (bat t) (j 1) (place (t.val % 4) (j 2)) := by
  obtain ⟨e0, e1, e2⟩ := idx0 t
  have h0 : (j 0).val < 1 := (j 0).isLt
  have h2 : (j 2).val < 512 := (j 2).isLt
  funext a; apply Fin.ext
  match a with
  | ⟨0, _⟩ => show win0_0.index t (0 : Fin 3) * 1 + 1 * (j 0).val = t.val / 4; omega
  | ⟨1, _⟩ => show win0_0.index t (1 : Fin 3) * 3 + 1 * (j 1).val = (j 1).val; omega
  | ⟨2, _⟩ => show win0_0.index t (2 : Fin 3) * 512 + 1 * (j 2).val = (512 * (t.val % 4) + (j 2).val) % 2048; omega

theorem emb1 (t : Fin cfg0.N) (j : S1x3x2048.Idx) : ((cfg0.win 1).blk t).view.emb j = ix3 (bat t) (j 1) (j 2) := by
  obtain ⟨e0, e1, e2⟩ := idx1 t
  have h0 : (j 0).val < 1 := (j 0).isLt
  have h2 : (j 2).val < 2048 := (j 2).isLt
  funext a; apply Fin.ext
  match a with
  | ⟨0, _⟩ => show win0_1.index t (0 : Fin 3) * 1 + 1 * (j 0).val = t.val / 4; omega
  | ⟨1, _⟩ => show win0_1.index t (1 : Fin 3) * 3 + 1 * (j 1).val = (j 1).val; omega
  | ⟨2, _⟩ => show win0_1.index t (2 : Fin 3) * 2048 + 1 * (j 2).val = (j 2).val; omega

theorem emb5 (t : Fin cfg0.N) (j : S1x32x512.Idx) : ((cfg0.win 5).blk t).view.emb j = ix3 (bat t) (j 1) (place (t.val % 4) (j 2)) := by
  obtain ⟨e0, e1, e2⟩ := idx5 t
  have h0 : (j 0).val < 1 := (j 0).isLt
  have h2 : (j 2).val < 512 := (j 2).isLt
  funext a; apply Fin.ext
  match a with
  | ⟨0, _⟩ => show win0_5.index t (0 : Fin 3) * 1 + 1 * (j 0).val = t.val / 4; omega
  | ⟨1, _⟩ => show win0_5.index t (1 : Fin 3) * 32 + 1 * (j 1).val = (j 1).val; omega
  | ⟨2, _⟩ => show win0_5.index t (2 : Fin 3) * 512 + 1 * (j 2).val = (512 * (t.val % 4) + (j 2).val) % 2048; omega

theorem emb6 (t : Fin cfg0.N) (j : S1x4x2.Idx) : ((cfg0.win 6).blk t).view.emb j = ix3 (bat t) (j 1) (j 2) := by
  obtain ⟨e0, e1, e2⟩ := idx6 t
  have h0 : (j 0).val < 1 := (j 0).isLt
  have h2 : (j 2).val < 2 := (j 2).isLt
  funext a; apply Fin.ext
  match a with
  | ⟨0, _⟩ => show win0_6.index t (0 : Fin 3) * 1 + 1 * (j 0).val = t.val / 4; omega
  | ⟨1, _⟩ => show win0_6.index t (1 : Fin 3) * 4 + 1 * (j 1).val = (j 1).val; omega
  | ⟨2, _⟩ => show win0_6.index t (2 : Fin 3) * 2 + 1 * (j 2).val = (j 2).val; omega

theorem emb2 (t : Fin cfg0.N) (j : S8x3.Idx) : ((cfg0.win 2).blk t).view.emb j = j := by
  obtain ⟨e0, e1⟩ := idx2 t
  funext a; apply Fin.ext
  match a with
  | ⟨0, _⟩ => show win0_2.index t (0 : Fin 2) * 8 + 1 * (j 0).val = (j 0).val; omega
  | ⟨1, _⟩ => show win0_2.index t (1 : Fin 2) * 3 + 1 * (j 1).val = (j 1).val; omega

theorem emb3 (t : Fin cfg0.N) (j : S8x1.Idx) : ((cfg0.win 3).blk t).view.emb j = j := by
  obtain ⟨e0, e1⟩ := idx3 t
  funext a; apply Fin.ext
  match a with
  | ⟨0, _⟩ => show win0_3.index t (0 : Fin 2) * 8 + 1 * (j 0).val = (j 0).val; omega
  | ⟨1, _⟩ => show win0_3.index t (1 : Fin 2) * 1 + 1 * (j 1).val = (j 1).val; omega

theorem emb4 (t : Fin cfg0.N) (j : S32x16.Idx) : ((cfg0.win 4).blk t).view.emb j = j := by
  obtain ⟨e0, e1⟩ := idx4 t
  funext a; apply Fin.ext
  match a with
  | ⟨0, _⟩ => show win0_4.index t (0 : Fin 2) * 32 + 1 * (j 0).val = (j 0).val; omega
  | ⟨1, _⟩ => show win0_4.index t (1 : Fin 2) * 16 + 1 * (j 1).val = (j 1).val; omega

/-! ## The blocks hold their tile's and their batch's positions, and all weights -/

theorem iblk0_apply (c : Dev nD) (t : Fin cfg0.N) (j : S1x3x512.Idx) : iblk m c 0 t j = V m c main_arg0 (ix3 (bat t) (j 1) (place (t.val % 4) (j 2))) :=
  congrArg (V m c main_arg0) (emb0 t j)

theorem iblk1_apply (c : Dev nD) (t : Fin cfg0.N) (j : S1x3x2048.Idx) : iblk m c 1 t j = V m c main_arg0 (ix3 (bat t) (j 1) (j 2)) :=
  congrArg (V m c main_arg0) (emb1 t j)

theorem iblk2_eq (c : Dev nD) (t : Fin cfg0.N) : iblk m c 2 t = V m c main_arg1 := by
  funext j; show V m c main_arg1 (((cfg0.win 2).blk t).view.emb j) = _; rw [emb2]

theorem iblk3_eq (c : Dev nD) (t : Fin cfg0.N) : iblk m c 3 t = V m c main_arg2 := by
  funext j; show V m c main_arg2 (((cfg0.win 3).blk t).view.emb j) = _; rw [emb3]

theorem iblk4_eq (c : Dev nD) (t : Fin cfg0.N) : iblk m c 4 t = V m c main_arg3 := by
  funext j; show V m c main_arg3 (((cfg0.win 4).blk t).view.emb j) = _; rw [emb4]

/-! ## One tile against one batch -/

section block
variable (a0 : FVec Ideal S16x3x2048 .f32) (a1 : FVec Ideal S8x3 .f32) (a2 : FVec Ideal S8x1 .f32) (W : FVec Ideal S32x16 .f32)
variable (x0 : FVec Ideal S1x3x512 .f32) (x1 : FVec Ideal S1x3x2048 .f32) (b : Fin 16) (r : ℕ)

/-- The reference's input features, at one point. -/
theorem feats (c : Fin 8) (p : Fin 2048) : Cert.RefFirstIdeal.Read.val_main_v4 (F := Ideal) a0 a1 a2 (ix3 b c p)
    = (∑ k : Fin 3, a1 (ix2 c k) * a0 (ix3 b k p)) + a2 (ix2 c 0) := by
  rw [Cert.RefFirstIdeal.Read.val_main_v4_apply, Cert.RefFirstIdeal.Read.val_main_v1_apply, Cert.RefFirstIdeal.Read.val_main_v0_apply,
    Cert.RefFirstIdeal.Read.val_main_v3_apply, Cert.RefFirstIdeal.Read.val_main_v2_apply]
  refine congrArg₂ (· + ·) (Finset.sum_congr rfl fun k _ => ?_) (congrArg a2 ?_)
  · rw [mul_comm]
    refine congrArg₂ (· * ·) (congrArg a1 ?_) (congrArg a0 ?_)
    · exact funext fun a => Fin.ext (match a with | ⟨0, _⟩ => rfl | ⟨1, _⟩ => rfl)
    · exact funext fun a => Fin.ext (match a with | ⟨0, _⟩ => rfl | ⟨1, _⟩ => rfl | ⟨2, _⟩ => rfl)
  · exact funext fun a => Fin.ext (match a with | ⟨0, _⟩ => rfl | ⟨1, _⟩ => rfl)

theorem keys_eq (e1 : ∀ j, x1 j = a0 (ix3 b (j 1) (j 2))) : k0_pay12 (F := Ideal) x1 a1 a2 = Cert.RefFirstIdeal.Val.fk a0 a1 a2 b := by
  funext i
  obtain ⟨k, p, rfl⟩ : ∃ (k : Fin 8) (p : Fin 2048), i = ix2 k p := ⟨i 0, i 1, eq_ix2 i⟩
  refine (feat_apply x1 a1 a2 k p).trans (Eq.trans ?_ (feats a0 a1 a2 b k p).symm)
  exact congrArg (· + a2 (ix2 k 0)) (Finset.sum_congr rfl fun d _ => congrArg (a1 (ix2 k d) * ·) (e1 _))

theorem asks_eq (e0 : ∀ j, x0 j = a0 (ix3 b (j 1) (place r (j 2)))) (k : Fin 8) (q : Fin 512) :
    k0_pay13 (F := Ideal) x0 a1 a2 (ix2 k q) = Cert.RefFirstIdeal.Val.fq a0 a1 a2 b (ix2 k (place r q)) := by
  refine (query_apply x0 a1 a2 k q).trans (Eq.trans ?_ (feats a0 a1 a2 b k (place r q)).symm)
  exact congrArg (· + a2 (ix2 k 0)) (Finset.sum_congr rfl fun d _ => congrArg (a1 (ix2 k d) * ·) (e0 _))

theorem keys_fin (h0 : ∀ i, a0 i ≠ ⊥ ∧ a0 i ≠ ⊤) (h1 : ∀ i, a1 i ≠ ⊥ ∧ a1 i ≠ ⊤) (h2 : ∀ i, a2 i ≠ ⊥ ∧ a2 i ≠ ⊤) (i) :
    Cert.RefFirstIdeal.Val.fk a0 a1 a2 b i ≠ ⊥ ∧ Cert.RefFirstIdeal.Val.fk a0 a1 a2 b i ≠ ⊤ := by
  obtain ⟨k, p, rfl⟩ : ∃ (k : Fin 8) (p : Fin 2048), i = ix2 k p := ⟨i 0, i 1, eq_ix2 i⟩
  have e : Cert.RefFirstIdeal.Val.fk a0 a1 a2 b (ix2 k p) = _ := feats a0 a1 a2 b k p
  rw [e]
  exact fin_combo _ _ _ (fun _ => h1 _) (fun _ => h0 _) (h2 _)

theorem D_eq (e0 : ∀ j, x0 j = a0 (ix3 b (j 1) (place r (j 2)))) (e1 : ∀ j, x1 j = a0 (ix3 b (j 1) (j 2))) (q : Fin 512) :
    D x0 x1 q = sqd (Cert.RefFirstIdeal.Val.pq a0 b) (Cert.RefFirstIdeal.Val.pk a0 b) (place r q) := by
  have h' : (fun (k : Fin 3) (p : Fin 2048) => x1 (ix3 0 k p)) = Cert.RefFirstIdeal.Val.pk a0 b := by
    funext k p
    exact e1 _
  show sqd (fun k p => x0 (ix3 0 k p)) (fun k p => x1 (ix3 0 k p)) q = _
  rw [h']
  exact sqd_congr _ _ _ _ _ fun k => e0 _

variable (e0 : ∀ j, x0 j = a0 (ix3 b (j 1) (place r (j 2)))) (e1 : ∀ j, x1 j = a0 (ix3 b (j 1) (j 2)))
  (h0 : ∀ i, a0 i ≠ ⊥ ∧ a0 i ≠ ⊤) (h1 : ∀ i, a1 i ≠ ⊥ ∧ a1 i ≠ ⊤) (h2 : ∀ i, a2 i ≠ ⊥ ∧ a2 i ≠ ⊤)
include e0 e1

/-- One edge's convolution is the same on both sides. -/
theorem cv_eq (o : Fin 32) (q : Fin 512) (j : ℕ) :
    cv x0 x1 a1 a2 W (near (D x0 x1 q) (Fin.ofNat 2048 j)) o q = Cert.RefFirstIdeal.Val.cv a0 a1 a2 W b o (place r q) j := by
  unfold cv
  rw [keys_eq a0 a1 a2 x1 b e1, D_eq a0 x0 x1 b r e0 e1]
  exact conv_congr rfl W _ _ _ _ o q _ fun k => asks_eq a0 a1 a2 x0 b r e0 k q

include h0 h1 h2

theorem block_max (j : S1x32x512.Idx) :
    k0_pay21 (F := Ideal) (fin x0 x1 a1 a2 W).2.1 j = Cert.RefFirstIdeal.Read.val_main_v42 (F := Ideal) a0 a1 a2 W (ix3 b (j 1) (place r (j 2))) := by
  obtain ⟨u, o, q, rfl⟩ : ∃ (u : Fin 1) (o : Fin 32) (q : Fin 512), j = ix3 u o q := ⟨j 0, j 1, j 2, eq_ix3 j⟩
  rw [fin_eq]
  have hf : ∀ i, k0_pay12 (F := Ideal) x1 a1 a2 i ≠ ⊥ ∧ k0_pay12 (F := Ideal) x1 a1 a2 i ≠ ⊤ := fun i => by
    rw [keys_eq a0 a1 a2 x1 b e1]; exact keys_fin a0 a1 a2 b h0 h1 h2 i
  refine (max_apply x0 x1 a1 a2 W (fun i => e0 i ▸ h0 _) (fun i => e1 i ▸ h0 _) hf u o q).trans
    ((Finset.sup_congr rfl fun k _ => ?_).trans (Cert.RefFirstIdeal.Val.max_eq a0 a1 a2 W b o (place r q)).symm)
  exact cv_eq a0 a1 a2 W x0 x1 b r e0 e1 o q k
end block

/-- What an edge adds to the first or to the second statistic. -/
def adds (a0 : FVec Ideal S16x3x2048 .f32) (a1 : FVec Ideal S8x3 .f32) (a2 : FVec Ideal S8x1 .f32) (W : FVec Ideal S32x16 .f32) (b : Fin 16) (z : Fin 2)
    (o : Fin 32) (q : Fin 2048) : EReal :=
  match z with
  | ⟨0, _⟩ => ∑ j ∈ Finset.range 16, Cert.RefFirstIdeal.Val.cv a0 a1 a2 W b o q j
  | ⟨1, _⟩ => ∑ j ∈ Finset.range 16, Cert.RefFirstIdeal.Val.cv a0 a1 a2 W b o q j * Cert.RefFirstIdeal.Val.cv a0 a1 a2 W b o q j

/-- The statistics of one tile. -/
def tile (a0 : FVec Ideal S16x3x2048 .f32) (a1 : FVec Ideal S8x3 .f32) (a2 : FVec Ideal S8x1 .f32) (W : FVec Ideal S32x16 .f32) (b : Fin 16) (g : Fin 4) (z : Fin 2)
    (r : ℕ) : EReal :=
  ∑ s : Fin 8, ∑ q : Fin 512, adds a0 a1 a2 W b z (chan (G := 4) (S := 8) rfl g s) (place r q)

/-- The four tiles' statistics make the batch's. -/
theorem tiles_eq (a0 : FVec Ideal S16x3x2048 .f32) (a1 : FVec Ideal S8x3 .f32) (a2 : FVec Ideal S8x1 .f32) (W : FVec Ideal S32x16 .f32) (b : Fin 16) (g : Fin 4) (z : Fin 2) :
    ∑ r ∈ Finset.range 4, tile a0 a1 a2 W b g z r = Cert.RefFirstIdeal.Read.val_main_v45 (F := Ideal) a0 a1 a2 W (ix3 b g z) := by
  unfold tile
  rw [Finset.sum_comm]
  have h : ∀ s : Fin 8, ∑ r ∈ Finset.range 4, ∑ q : Fin 512, adds a0 a1 a2 W b z (chan (G := 4) (S := 8) rfl g s) (place r q)
      = ∑ q, adds a0 a1 a2 W b z (chan (G := 4) (S := 8) rfl g s) q := fun s => sum_tiles _
  rw [Finset.sum_congr rfl fun s _ => h s]
  obtain ⟨r0, r1⟩ := Cert.RefFirstIdeal.Val.stats_eq a0 a1 a2 W b g
  match z with
  | ⟨0, _⟩ => exact r0.symm
  | ⟨1, _⟩ => exact r1.symm

/-- The statistics the kernel adds up in one tile. -/
theorem block_stats (a0 : FVec Ideal S16x3x2048 .f32) (a1 : FVec Ideal S8x3 .f32) (a2 : FVec Ideal S8x1 .f32) (W : FVec Ideal S32x16 .f32)
    (x0 : FVec Ideal S1x3x512 .f32) (x1 : FVec Ideal S1x3x2048 .f32) (b : Fin 16) (r : ℕ)
    (e0 : ∀ j, x0 j = a0 (ix3 b (j 1) (place r (j 2)))) (e1 : ∀ j, x1 j = a0 (ix3 b (j 1) (j 2)))
    (h0 : ∀ i, a0 i ≠ ⊥ ∧ a0 i ≠ ⊤) (h1 : ∀ i, a1 i ≠ ⊥ ∧ a1 i ≠ ⊤) (h2 : ∀ i, a2 i ≠ ⊥ ∧ a2 i ≠ ⊤) (g : Fin 4) (z : Fin 2) :
    k0_pay1 (F := Ideal) ch 8#32 k0_pay22 k0_pay23 k0_pay24 (fin x0 x1 a1 a2 W).2.2.1 (fin x0 x1 a1 a2 W).2.2.2 (ix2 g z) = tile a0 a1 a2 W b g z r := by
  rw [fin_eq]
  have hf : ∀ i, k0_pay12 (F := Ideal) x1 a1 a2 i ≠ ⊥ ∧ k0_pay12 (F := Ideal) x1 a1 a2 i ≠ ⊤ := fun i => by
    rw [keys_eq a0 a1 a2 x1 b e1]; exact keys_fin a0 a1 a2 b h0 h1 h2 i
  obtain ⟨s0, s1⟩ := stats_apply x0 x1 a1 a2 W (fun i => e0 i ▸ h0 _) (fun i => e1 i ▸ h0 _) hf g
  have he := cv_eq a0 a1 a2 W x0 x1 b r e0 e1
  match z with
  | ⟨0, _⟩ =>
    refine s0.trans ?_
    exact Finset.sum_congr rfl fun s _ => Finset.sum_congr rfl fun q _ => Finset.sum_congr rfl fun k _ => he _ q k
  | ⟨1, _⟩ =>
    refine s1.trans ?_
    exact Finset.sum_congr rfl fun s _ => Finset.sum_congr rfl fun q _ => Finset.sum_congr rfl fun k _ => congrArg₂ (· * ·) (he _ q k) (he _ q k)

/-! ## The two forms in which a tile's statistics are stored -/

theorem store_first (a b : FVec Ideal S32x512 .f32) (j : S1x4x2.Idx) :
    k0_pay2 (F := Ideal) ch 8#32 k0_pay22 k0_pay23 k0_pay24 a b j = k0_pay1 (F := Ideal) ch 8#32 k0_pay22 k0_pay23 k0_pay24 a b (ix2 (j 1) (j 2)) := by
  obtain ⟨u, g, z, rfl⟩ : ∃ (u : Fin 1) (g : Fin 4) (z : Fin 2), j = ix3 u g z := ⟨j 0, j 1, j 2, eq_ix3 j⟩
  exact shapeCast_ab_1ab_apply (k0_pay1 (F := Ideal) ch 8#32 k0_pay22 k0_pay23 k0_pay24 a b) shapeCasts_S4x2_S1x4x2 u g z

theorem store_next (a b : FVec Ideal S32x512 .f32) (x : FVec Ideal S1x4x2 .f32) (j : S1x4x2.Idx) :
    k0_pay3 (F := Ideal) ch 8#32 k0_pay22 k0_pay23 k0_pay24 a b x j = x j + k0_pay1 (F := Ideal) ch 8#32 k0_pay22 k0_pay23 k0_pay24 a b (ix2 (j 1) (j 2)) := by
  obtain ⟨u, g, z, rfl⟩ : ∃ (u : Fin 1) (g : Fin 4) (z : Fin 2), j = ix3 u g z := ⟨j 0, j 1, j 2, eq_ix3 j⟩
  refine (shapeCast_ab_1ab_apply (addf (shapeCast S4x2 x shapeCasts_S1x4x2_S4x2) (k0_pay1 (F := Ideal) ch 8#32 k0_pay22 k0_pay23 k0_pay24 a b)) shapeCasts_S4x2_S1x4x2 u g z).trans ?_
  have hu : u = 0 := Subsingleton.elim _ _
  subst hu
  exact congrArg (· + _) (shapeCast_1ab_ab_apply x shapeCasts_S1x4x2_S4x2 g z)

/-! ## The arrays -/

/-- The grid point of batch `b` and tile `r`. -/
def point (b : Fin 16) (r : Fin 4) : Fin cfg0.N := ⟨4 * b.val + r.val, show 4 * b.val + r.val < 64 by have := b.isLt; have := r.isLt; omega⟩

theorem bat_point (b : Fin 16) (r : Fin 4) : bat (point b r) = b := by
  have := r.isLt
  apply Fin.ext
  show (4 * b.val + r.val) / 4 = b.val
  omega

theorem tile_point (b : Fin 16) (r : Fin 4) : (point b r).val % 4 = r.val := by
  have := r.isLt
  show (4 * b.val + r.val) % 4 = r.val
  omega

theorem covered5 (i : S16x32x2048.Idx) : ∃ t : Fin cfg0.N, (cfg0.win 5).flush t = true ∧ i ∈ ((cfg0.win 5).blk t).view.set := by
  obtain ⟨b, o, q, rfl⟩ : ∃ (b : Fin 16) (o : Fin 32) (q : Fin 2048), i = ix3 b o q := ⟨i 0, i 1, i 2, eq_ix3 i⟩
  have hq := q.isLt
  have hr : q.val / 512 < 4 := by omega
  refine ⟨point b ⟨q.val / 512, hr⟩, flush0_5 _, ?_⟩
  have h := ((cfg0.win 5).blk (point b ⟨q.val / 512, hr⟩)).view.emb_mem_set (ix3 (0 : Fin 1) o (⟨q.val % 512, Nat.mod_lt _ (by norm_num)⟩ : Fin 512))
  rw [emb5, bat_point, tile_point] at h
  have e : place (q.val / 512) ⟨q.val % 512, Nat.mod_lt _ (by norm_num)⟩ = q := by
    apply Fin.ext
    show (512 * (q.val / 512) + q.val % 512) % 2048 = q.val
    omega
  have e' : ix3 b o (place (q.val / 512) ⟨q.val % 512, Nat.mod_lt _ (by norm_num)⟩) = ix3 b o q := by rw [e]
  exact e' ▸ h

/-- A block that agrees with its tile of `Y` everywhere is what a reading of `Y` through the block gives. -/
theorem cut5_eq (t : Fin cfg0.N) (X : FVec Ideal S1x32x512 .f32) (Y : FVec Ideal S16x32x2048 .f32) (h : ∀ j, X j = Y (ix3 (bat t) (j 1) (place (t.val % 4) (j 2)))) :
    (cfg0.win 5).cut (α := Elt Ideal .f32) (grid0.coords t) X = ((cfg0.win 5).blk t).view.read (Elt Ideal) Y := by
  funext j
  exact (h j).trans (congrArg Y (emb5 t j)).symm

theorem covered6 (i : S16x4x2.Idx) : ∃ t : Fin cfg0.N, (cfg0.win 6).flush t = true ∧ i ∈ ((cfg0.win 6).blk t).view.set := by
  obtain ⟨b, g, z, rfl⟩ : ∃ (b : Fin 16) (g : Fin 4) (z : Fin 2), i = ix3 b g z := ⟨i 0, i 1, i 2, eq_ix3 i⟩
  refine ⟨point b 3, (flush0_6 _).mpr (tile_point b 3), ?_⟩
  have h := ((cfg0.win 6).blk (point b 3)).view.emb_mem_set (ix3 (0 : Fin 1) g z)
  rw [emb6, bat_point] at h
  exact h

/-- A block that agrees with its batch of `Y` everywhere is what a reading of `Y` through the block gives. -/
theorem cut6_eq (t : Fin cfg0.N) (X : FVec Ideal S1x4x2 .f32) (Y : FVec Ideal S16x4x2 .f32) (h : ∀ j, X j = Y (ix3 (bat t) (j 1) (j 2))) :
    (cfg0.win 6).cut (α := Elt Ideal .f32) (grid0.coords t) X = ((cfg0.win 6).blk t).view.read (Elt Ideal) Y := by
  funext j
  exact (h j).trans (congrArg Y (emb6 t j)).symm

section arrays
variable (c : Dev nD) (h0 : ∀ i, V m c main_arg0 i ≠ (⊥ : EReal) ∧ V m c main_arg0 i ≠ (⊤ : EReal))
  (h1 : ∀ i, V m c main_arg1 i ≠ (⊥ : EReal) ∧ V m c main_arg1 i ≠ (⊤ : EReal))
  (h2 : ∀ i, V m c main_arg2 i ≠ (⊥ : EReal) ∧ V m c main_arg2 i ≠ (⊤ : EReal))
include h0 h1 h2

/-- What the body writes for its tile is the reference's. -/
theorem point_max (t : Fin cfg0.N) (j : S1x32x512.Idx) :
    k0_pay21 (F := Ideal) (fin (iblk m c 0 t) (iblk m c 1 t) (iblk m c 2 t) (iblk m c 3 t) (iblk m c 4 t)).2.1 j
      = Cert.RefFirstIdeal.Read.val_main_v42 (F := Ideal) (V m c main_arg0) (V m c main_arg1) (V m c main_arg2) (V m c main_arg3) (ix3 (bat t) (j 1) (place (t.val % 4) (j 2))) := by
  rw [iblk2_eq, iblk3_eq, iblk4_eq]
  exact block_max (V m c main_arg0) (V m c main_arg1) (V m c main_arg2) (V m c main_arg3) _ _ (bat t) (t.val % 4) (iblk0_apply m c t) (iblk1_apply m c t) h0 h1 h2 j

theorem point_stats (t : Fin cfg0.N) (g : Fin 4) (z : Fin 2) :
    k0_pay1 (F := Ideal) ch 8#32 k0_pay22 k0_pay23 k0_pay24 (fin (iblk m c 0 t) (iblk m c 1 t) (iblk m c 2 t) (iblk m c 3 t) (iblk m c 4 t)).2.2.1
        (fin (iblk m c 0 t) (iblk m c 1 t) (iblk m c 2 t) (iblk m c 3 t) (iblk m c 4 t)).2.2.2 (ix2 g z)
      = tile (V m c main_arg0) (V m c main_arg1) (V m c main_arg2) (V m c main_arg3) (bat t) g z (t.val % 4) := by
  rw [iblk2_eq, iblk3_eq, iblk4_eq]
  exact block_stats (V m c main_arg0) (V m c main_arg1) (V m c main_arg2) (V m c main_arg3) _ _ (bat t) (t.val % 4) (iblk0_apply m c t) (iblk1_apply m c t) h0 h1 h2 g z

/-- After tile `r` the statistics' block holds the sums over the tiles so far. -/
theorem so_far (r : ℕ) : ∀ t : Fin cfg0.N, t.val % 4 = r → ∀ j : S1x4x2.Idx, (outsAt0 m c t.val t.isLt).2 j
    = ∑ k ∈ Finset.range (r + 1), tile (V m c main_arg0) (V m c main_arg1) (V m c main_arg2) (V m c main_arg3) (bat t) (j 1) (j 2) k := by
  induction r with
  | zero =>
    intro t ht j
    rw [outsAt0_A m c t ht (by omega)]
    dsimp only
    rw [out6_A]
    refine (store_first _ _ j).trans ((point_stats m c h0 h1 h2 t (j 1) (j 2)).trans ?_)
    rw [ht, Finset.sum_range_one]
  | succ r ih =>
    intro t ht j
    have hlt := points t
    rw [outsAt0_B m c t (by omega) (by omega)]
    dsimp only
    rw [out6_B]
    refine (store_next _ _ _ j).trans ?_
    rw [Finset.sum_range_succ]
    have hb : bat ⟨t.val - 1, Nat.lt_of_le_of_lt (Nat.sub_le _ _) t.isLt⟩ = bat t := by
      apply Fin.ext
      show (t.val - 1) / 4 = t.val / 4
      omega
    have hi := ih ⟨t.val - 1, Nat.lt_of_le_of_lt (Nat.sub_le _ _) t.isLt⟩ (show (t.val - 1) % 4 = r by omega) j
    rw [hb] at hi
    refine congrArg₂ (· + ·) hi ((point_stats m c h0 h1 h2 t (j 1) (j 2)).trans ?_)
    rw [ht]

theorem final5 : (dats m 0 c).arrAt 5 cfg0.N
    = Cert.RefFirstIdeal.Read.val_main_v42 (F := Ideal) (V m c main_arg0) (V m c main_arg1) (V m c main_arg2) (V m c main_arg3) := by
  refine (dats m 0 c).arrAt_eq_of_cover 5 _ (fun t _ => ?_) covered5
  by_cases ht : t.val % 4 = 0
  · rw [flushed5_A m c t ht (by omega), out5_A]
    exact cut5_eq t _ _ fun j => point_max m c h0 h1 h2 t j
  · rw [flushed5_B m c t ht (by omega), out5_B]
    exact cut5_eq t _ _ fun j => point_max m c h0 h1 h2 t j

theorem final6 : (dats m 0 c).arrAt 6 cfg0.N
    = Cert.RefFirstIdeal.Read.val_main_v45 (F := Ideal) (V m c main_arg0) (V m c main_arg1) (V m c main_arg2) (V m c main_arg3) := by
  refine (dats m 0 c).arrAt_eq_of_cover 6 _ (fun t hfl => ?_) covered6
  rw [flushed6]
  refine cut6_eq t _ _ fun j => ?_
  exact (so_far m c h0 h1 h2 3 t ((flush0_6 t).mp hfl) j).trans (tiles_eq _ _ _ _ _ _ _)
end arrays

end Cert.StageFirstIdeal.Eq

end
-- ==== Proof.FirstClaims.lean ====
module

public import proofs.«01_k».proof.Defs
public import proofs.«01_k».proof.Proof.FirstEq
public import proofs.«01_k».proof.Proof.Gen.StageFirst.Frame
public import proofs.«01_k».proof.Proof.Gen.StageFirstIdeal.Value
public import proofs.«01_k».proof.Proof.Gen.RefFirstIdeal.Run
public import proofs.«01_k».proof.Proof.Gen.Pre_no_tie_stage1
public import Idealize.ShloMosaic.Lib.Quiescent

@[expose] public section

set_option maxRecDepth 16384

noncomputable section

namespace Cert.FirstClaims

open Idealize.ShloMosaic Idealize.ShloMosaic.TcCoe Idealize.SL.Sem

/-! # The claims about the first stage -/

/-- The reference runs, keeps its arguments, and has no semaphore to leave raised. -/
theorem frame_ref : Cert.quiescent_RefFirstIdeal := fun m ρ _ =>
  (θ_run Cert.RefFirstIdeal.defs _ _).mono (fun r h => ⟨fun c => (h c).2.2, sem_eq_zero_of_no_sems rfl r.2⟩) (Cert.RefFirstIdeal.Value.run m ρ)

theorem frame_ref_pre : Cert.quiescent_RefFirstIdeal_pre_no_tie_stage1 := fun m ρ _ => frame_ref m ρ trivial

/-- The two sentinels stand for the two infinities. -/
theorem preserves : Cert.preserves_StageFirst_StageFirstIdeal :=
  ⟨IdealRules.named_const.statement Cert.StageFirstIdeal.κ "neg_mask" .f32 0xF149F2CA#32 ⊥ rfl,
    IdealRules.named_const.statement Cert.StageFirstIdeal.κ "mask" .f32 0x7149F2CA#32 ⊤ rfl⟩

/-- From memories that agree on the arguments both programs end with the reference's two results. -/
theorem algebraic : Cert.algebraic_StageFirstIdeal_RefFirstIdeal := by
  intro m ρ m' ρ' hpre hargs
  have hfin := fun c => Cert.StageFirstIdeal.Eq.of_pre _ _ _ _ (hpre c)
  refine ⟨fun c => Cert.RefFirstIdeal.Value.res_main_v42 m' c, fun c => Cert.RefFirstIdeal.Value.res_main_v45 m' c, ?_, ?_⟩
  · refine (θ_run Cert.StageFirstIdeal.defs _ _).mono (fun r h c => ?_) (Cert.StageFirstIdeal.Value.run_blocks m ρ)
    obtain ⟨h5, h6, hk⟩ := h c
    obtain ⟨a0, a1, a2, a3⟩ := hargs c
    obtain ⟨f0, f1, f2⟩ := hfin c
    refine ⟨h5.trans ?_, h6.trans ?_, hk⟩
    · refine (Cert.StageFirstIdeal.Eq.final5 m c f0 f1 f2).trans (Eq.trans ?_ (Cert.RefFirstIdeal.Read.val_main_v42_eq m' c).symm)
      rw [a0, a1, a2, a3]
    · refine (Cert.StageFirstIdeal.Eq.final6 m c f0 f1 f2).trans (Eq.trans ?_ (Cert.RefFirstIdeal.Read.val_main_v45_eq m' c).symm)
      rw [a0, a1, a2, a3]
  · exact Cert.RefFirstIdeal.Value.run m' ρ'

end Cert.FirstClaims

end
-- ==== Proof.Spread.lean ====
module

public import proofs.«01_k».proof.Proof.Ops
public import proofs.«01_k».proof.Proof.Finite
public import Idealize.ShloMosaic.Lib.ReduceAll
public import Idealize.ShloMosaic.PureOps.Ideal

@[expose] public section

noncomputable section

namespace KOps

open Idealize.ShloMosaic
open scoped BigOperators

/-! # Normalization: dividing by a root, and multiplying by an inverse root -/

/-- Where the variance is above zero, dividing by its root and then scaling is multiplying by the scaled inverse root. -/
theorem div_root {v : EReal} (hv : 0 < v) (x g : EReal) : Ideal.div x (Ideal.sqrt v) * g = x * (Ideal.rsqrt v * g) := by
  rw [← mul_assoc]
  congr 1
  induction v using EReal.rec with
  | bot => simp at hv
  | top =>
    have e : Ideal.sqrt ⊤ = ⊤ := rfl
    have e' : Ideal.rsqrt ⊤ = 0 := rfl
    rw [e, e', Ideal.div, if_neg (by simp), EReal.inv_top]
  | coe r =>
    have hr : 0 < r := by exact_mod_cast hv
    have hs : (0 : ℝ) < Real.sqrt r := Real.sqrt_pos.mpr hr
    have hs' : ((Real.sqrt r : ℝ) : EReal) ≠ 0 := by exact_mod_cast hs.ne'
    have e : Ideal.sqrt (r : EReal) = ((Real.sqrt r : ℝ) : EReal) := if_neg (not_lt.mpr hr.le)
    have e' : Ideal.rsqrt (r : EReal) = (((Real.sqrt r)⁻¹ : ℝ) : EReal) := (if_neg (not_lt.mpr hr.le)).trans (if_neg hr.ne')
    rw [e, e', Ideal.div, if_neg hs', EReal.coe_inv]

/-- A sum against the marks of one place is the entry there. -/
theorem pick_left {N : ℕ} (h g : Fin N → EReal) (P : Fin N) (hh : ∀ p, h p = if P.val = p.val then 1 else 0) : ∑ p, h p * g p = g P := by
  rw [Finset.sum_congr rfl fun p _ => mul_comm (h p) (g p)]
  refine pick g h P fun p => (hh p).trans ?_
  by_cases e : p = P
  · rw [if_pos e, if_pos (congrArg Fin.val e.symm)]
  · rw [if_neg e, if_neg fun w => e (Fin.ext w.symm)]

/-- A comparison whose bit is 1 holds. -/
theorem lt_of_cmp {x y : EReal} (h : Ideal.cmp .ogt x y = 1#1) : y < x := by
  by_contra hn
  simp [Ideal.cmp, hn] at h

/-- Where the conjunction over all entries of `x > 0` is 1, every entry of `x` is above zero. -/
theorem pos_of_all {s u t : Shape} {axes : List (Fin s.rank)} [Subsingleton t.Idx] (x y : FVec Ideal s .f32) (hy : ∀ i, y i = Ideal.ofBits .f32 0x00000000#32)
    (init : u.Idx → BitVec 1) (h : s.ReducesTo axes t) (hu : 0 < u.numel) (j : t.Idx)
    (e : Host.reduce IntOp.andi (cmpf .ogt x y) init h hu j = 1#1) (i : s.Idx) : 0 < x i := by
  have hi : Ideal.cmp .ogt (x i) (y i) = 1#1 := Host.reduce_andi_all _ init h hu j e i
  have hl := lt_of_cmp hi
  rw [hy i] at hl
  exact lt_of_eq_of_lt Ideal.ofBits_zero_f32.symm hl

end KOps

end
-- ==== Proof.Finalize4Eq.lean ====
module

public import proofs.«01_k».proof.Defs
public import proofs.«01_k».proof.Proof.Spread
public import proofs.«01_k».proof.Proof.Column
public import proofs.«01_k».proof.Proof.Groups
public import proofs.«01_k».proof.Proof.Gen.Finalize4Ideal.Value
public import proofs.«01_k».proof.Proof.Gen.RefFinalize4Ideal.Read
public import proofs.«01_k».proof.Proof.Gen.Pre_spread4

@[expose] public section

set_option maxRecDepth 16384

noncomputable section

namespace Cert.Finalize4Ideal.Eq

open Cert.Finalize4Ideal Cert.Finalize4Ideal.Gen Cert.Finalize4Ideal.Value
open Idealize.ShloMosaic Idealize.ShloMosaic.ValueIdx Idealize.ShloMosaic.TcCoe Idealize.SL.Sem KOps
open scoped BigOperators

/-! # Normalization of a stage's pooled features is the reference's, 128 channels -/

/-- The group of a channel, on words: the quotient by the group's size, rounded down. -/
def groupWord (v : BitVec 32) : BitVec 32 :=
  if IntOp.andi (IntOp.cmpi .ne (IntOp.subi ((IntOp.cmpi .sgt v 0#32).setWidth 32) ((IntOp.cmpi .slt v 0#32).setWidth 32))
      (IntOp.subi ((IntOp.cmpi .sgt 32#32 0#32).setWidth 32) ((IntOp.cmpi .slt 32#32 0#32).setWidth 32)))
    (IntOp.cmpi .ne (IntOp.remsi .vector v 32#32) 0#32) = 1#1 then IntOp.subi (IntOp.divsi .vector v 32#32) 1#32 else IntOp.divsi .vector v 32#32

theorem groupWord_mark : ∀ (o : Fin 128) (g : Fin 4), IntOp.cmpi .eq (groupWord (BitVec.ofNat 32 o.val)) (BitVec.ofNat 32 g.val) = if o.val / 32 = g.val then 1#1 else 0#1 := by
  decide +kernel

/-- The group of a channel. -/
abbrev gr (o : Fin 128) : Fin 4 := ⟨o.val / 32, by have := o.isLt; omega⟩

/-- The marks of the channel groups. -/
theorem mark_val (o : Fin 128) (g : Fin 4) : k0_pay4 (F := Ideal) (ix2 o g) = if (gr o).val = g.val then (1 : EReal) else 0 := by
  unfold k0_pay4
  refine flag_apply _ natLt_1_32 (ix2 o g) _ ?_
  rw [← groupWord_mark]
  have e0 : iota .tc S128x4 32 [0] iota_S128x4_d0_w32 = fun i => BitVec.ofNat 32 (i 0).val := funext fun i => iota_single_apply _ _ _ _ _ i
  have e1 : iota .tc S128x4 32 [1] iota_S128x4_d1_w32 = fun i => BitVec.ofNat 32 (i 1).val := funext fun i => iota_single_apply _ _ _ _ _ i
  rw [e0, e1]
  rfl

/-- The number of summands of a group, as a number. -/
abbrev cnt : EReal := Ideal.ofBits .f32 0x47800000#32

/-- The mean of a group from its sum. -/
abbrev mean (s : EReal) : EReal := Ideal.div s cnt

/-- The variance of a group from its two sums, with the small addend. -/
abbrev vari (s t : EReal) : EReal := Ideal.div t cnt - mean s * mean s + Ideal.ofBits .f32 0x3727C5AC#32

/-- The last step: what is below zero is scaled by a fifth. -/
abbrev leak (y : EReal) : EReal := Scalar.select (Ideal.cmp .ogt y (Ideal.ofBits .f32 0x00000000#32)) y (Ideal.ofBits .f32 0x3E4CCCCD#32 * y)

section block
variable (x0 : FVec Ideal S1x128x128 .f32) (x1 : FVec Ideal S1x4x2 .f32) (x2 x3 : FVec Ideal S128x1 .f32)

theorem flat_apply (g : Fin 4) (z : Fin 2) : k0_pay2 (F := Ideal) x1 (ix2 g z) = x1 (ix3 0 g z) := shapeCast_1ab_ab_apply x1 shapeCasts_S1x4x2_S4x2 g z

theorem sum_apply (g : Fin 4) (z : Fin 1) : extractStridedSlice S4x1 ![0, 0] (k0_pay2 (F := Ideal) x1) slices_S4x2_o0_0_S4x1 (ix2 g z) = x1 (ix3 0 g 0) := by
  refine (extractStridedSlice_apply _ (k0_pay2 (F := Ideal) x1) _ _ (ix2 g (0 : Fin 2)) (fun a => ?_)).trans (flat_apply x1 g 0)
  have hz := z.isLt
  match a with
  | ⟨0, _⟩ => show g.val = 0 + g.val; omega
  | ⟨1, _⟩ => show 0 = 0 + z.val; omega

theorem sq_apply (g : Fin 4) (z : Fin 1) : extractStridedSlice S4x1 ![0, 1] (k0_pay2 (F := Ideal) x1) slices_S4x2_o0_1_S4x1 (ix2 g z) = x1 (ix3 0 g 1) := by
  refine (extractStridedSlice_apply _ (k0_pay2 (F := Ideal) x1) _ _ (ix2 g (1 : Fin 2)) (fun a => ?_)).trans (flat_apply x1 g 1)
  have hz := z.isLt
  match a with
  | ⟨0, _⟩ => show g.val = 0 + g.val; omega
  | ⟨1, _⟩ => show 1 = 1 + z.val; omega

theorem mean_val (g : Fin 4) (z : Fin 1) : k0_pay3 (F := Ideal) x1 (ix2 g z) = mean (x1 (ix3 0 g 0)) := by
  unfold k0_pay3
  exact congrArg mean (sum_apply x1 g z)

theorem chan_mean (o : Fin 128) (z : Fin 1) : k0_pay5 (F := Ideal) x1 (ix2 o z) = mean (x1 (ix3 0 (gr o) 0)) := by
  unfold k0_pay5
  refine (Ideal.matmul_plain_apply (some .fp32) (k0_pay4 (F := Ideal)) (k0_pay3 (F := Ideal) x1) _ o z).trans ?_
  rw [zero_apply, zero_add]
  exact (pick_left _ (fun g => k0_pay3 (F := Ideal) x1 (ix2 g z)) (gr o) (fun g => mark_val o g)).trans (mean_val x1 (gr o) z)

theorem chan_root (o : Fin 128) (z : Fin 1) : k0_pay6 (F := Ideal) x1 (ix2 o z) = Ideal.rsqrt (vari (x1 (ix3 0 (gr o) 0)) (x1 (ix3 0 (gr o) 1))) := by
  unfold k0_pay6
  refine (Ideal.matmul_plain_apply (some .fp32) (k0_pay4 (F := Ideal)) _ _ o z).trans ?_
  rw [zero_apply, zero_add]
  refine (pick_left _ _ (gr o) (fun g => mark_val o g)).trans ?_
  have e0 := mean_val x1 (gr o) z
  have e1 := sq_apply x1 (gr o) z
  show Ideal.rsqrt (Ideal.div (extractStridedSlice S4x1 ![0, 1] (k0_pay2 (F := Ideal) x1) slices_S4x2_o0_1_S4x1 (ix2 (gr o) z)) cnt
    - k0_pay3 (F := Ideal) x1 (ix2 (gr o) z) * k0_pay3 (F := Ideal) x1 (ix2 (gr o) z) + Ideal.ofBits .f32 0x3727C5AC#32) = _
  rw [e0, e1]

/-- One entry of the block's result. -/
theorem out_apply (u : Fin 1) (o : Fin 128) (q : Fin 128) :
    k0_pay1 (F := Ideal) (k0_pay5 (F := Ideal) x1) (k0_pay6 (F := Ideal) x1) x0 x2 x3 (ix3 u o q)
      = leak ((x0 (ix3 0 o q) - mean (x1 (ix3 0 (gr o) 0))) * (Ideal.rsqrt (vari (x1 (ix3 0 (gr o) 0)) (x1 (ix3 0 (gr o) 1))) * x2 (ix2 o 0)) + x3 (ix2 o 0)) := by
  unfold k0_pay1
  refine (shapeCast_ab_1ab_apply _ shapeCasts_S128x128_S1x128x128 u o q).trans ?_
  have ea := (col_apply (k0_pay5 (F := Ideal) x1) broadcasts_S128x1_S128x128 o q).trans (chan_mean x1 o 0)
  have er := (col_apply (mulf (k0_pay6 (F := Ideal) x1) x2) broadcasts_S128x1_S128x128 o q).trans (congrArg (· * x2 (ix2 o 0)) (chan_root x1 o 0))
  have eb := col_apply x3 broadcasts_S128x1_S128x128 o q
  have ex := shapeCast_1ab_ab_apply x0 shapeCasts_S1x128x128_S128x128 o q
  refine congrArg leak ?_
  exact congrArg₂ (· + ·) (congrArg₂ (· * ·) (congrArg₂ (· - ·) ex ea) er) eb
end block

/-! ## The reference -/

section ref
open Cert.RefFinalize4Ideal.Read
variable (a0 : FVec Ideal S16x128x128 .f32) (a1 : FVec Ideal S16x4x2 .f32) (a2 a3 : FVec Ideal S128x1 .f32)

theorem ref_sum (b : Fin 16) (g : Fin 4) : val_main_v1 (F := Ideal) a1 (ix2 b g) = a1 (ix3 b g 0) := by
  rw [val_main_v1_apply, val_main_v0_apply]
  refine congrArg a1 ?_
  have hb := b.isLt
  have hg := g.isLt
  funext a; apply Fin.ext
  match a with
  | ⟨0, _⟩ => show (b.val * 4 + g.val) / 4 = b.val; omega
  | ⟨1, _⟩ => show (b.val * 4 + g.val) / 1 % 4 = g.val; omega
  | ⟨2, _⟩ => rfl

theorem ref_sq (b : Fin 16) (g : Fin 4) : val_main_v5 (F := Ideal) a1 (ix2 b g) = a1 (ix3 b g 1) := by
  rw [val_main_v5_apply, val_main_v4_apply]
  refine congrArg a1 ?_
  have hb := b.isLt
  have hg := g.isLt
  funext a; apply Fin.ext
  match a with
  | ⟨0, _⟩ => show (b.val * 4 + g.val) / 4 = b.val; omega
  | ⟨1, _⟩ => show (b.val * 4 + g.val) / 1 % 4 = g.val; omega
  | ⟨2, _⟩ => rfl

theorem ref_mean (b : Fin 16) (g : Fin 4) : val_main_v3 (F := Ideal) a1 (ix2 b g) = mean (a1 (ix3 b g 0)) := by
  rw [val_main_v3_apply, ref_sum, val_main_v2_apply, val_main_cst_apply]
  rfl

theorem ref_vari (b : Fin 16) (g : Fin 4) : val_main_v15 (F := Ideal) a1 (ix2 b g) = vari (a1 (ix3 b g 0)) (a1 (ix3 b g 1)) := by
  rw [val_main_v15_apply, val_main_v9_apply, val_main_v8_apply, val_main_v7_apply, ref_mean, ref_sq, val_main_v6_apply, val_main_cst_0_apply, val_main_v14_apply, val_main_cst_1_apply]
  rfl

/-- One entry of the reference's result. -/
theorem ref_apply (b : Fin 16) (o : Fin 128) (q : Fin 128) :
    val_main_v31 (F := Ideal) a0 a1 a2 a3 (ix3 b o q)
      = leak (Ideal.div (a0 (ix3 b o q) - mean (a1 (ix3 b (gr o) 0))) (Ideal.sqrt (vari (a1 (ix3 b (gr o) 0)) (a1 (ix3 b (gr o) 1)))) * a2 (ix2 o 0) + a3 (ix2 o 0)) := by
  have hb := b.isLt
  have ho := o.isLt
  have hq := q.isLt
  have hs : o.val % 32 < 32 := Nat.mod_lt _ (by norm_num)
  have e20 : idx_main_v20 (ix3 b o q) = ix4 b (gr o) ⟨o.val % 32, hs⟩ q := by
    funext a; apply Fin.ext
    match a with
    | ⟨0, _⟩ => show ((b.val * 128 + o.val) * 128 + q.val) / 16384 = b.val; omega
    | ⟨1, _⟩ => show ((b.val * 128 + o.val) * 128 + q.val) / 4096 % 4 = o.val / 32; omega
    | ⟨2, _⟩ => show ((b.val * 128 + o.val) * 128 + q.val) / 128 % 32 = o.val % 32; omega
    | ⟨3, _⟩ => show ((b.val * 128 + o.val) * 128 + q.val) % 128 = q.val; omega
  have e10 : idx_main_v10 (ix4 b (gr o) (⟨o.val % 32, hs⟩ : Fin 32) q) = ix3 b o q := by
    funext a; apply Fin.ext
    match a with
    | ⟨0, _⟩ => show (((b.val * 4 + o.val / 32) * 32 + o.val % 32) * 128 + q.val) / 16384 = b.val; omega
    | ⟨1, _⟩ => show (((b.val * 4 + o.val / 32) * 32 + o.val % 32) * 128 + q.val) / 128 % 128 = o.val; omega
    | ⟨2, _⟩ => show (((b.val * 4 + o.val / 32) * 32 + o.val % 32) * 128 + q.val) % 128 = q.val; omega
  have e12 : idx_main_v11 (idx_main_v12 (ix4 b (gr o) (⟨o.val % 32, hs⟩ : Fin 32) q)) = ix2 b (gr o) := by
    funext a; apply Fin.ext
    match a with
    | ⟨0, _⟩ => rfl
    | ⟨1, _⟩ => rfl
  have e18 : idx_main_v17 (idx_main_v18 (ix4 b (gr o) (⟨o.val % 32, hs⟩ : Fin 32) q)) = ix2 b (gr o) := by
    funext a; apply Fin.ext
    match a with
    | ⟨0, _⟩ => rfl
    | ⟨1, _⟩ => rfl
  have e22 : idx_main_v21 (idx_main_v22 (ix3 b o q)) = ix2 o 0 := by
    funext a; apply Fin.ext
    match a with
    | ⟨0, _⟩ => rfl
    | ⟨1, _⟩ => rfl
  have e25 : idx_main_v24 (idx_main_v25 (ix3 b o q)) = ix2 o 0 := by
    funext a; apply Fin.ext
    match a with
    | ⟨0, _⟩ => rfl
    | ⟨1, _⟩ => rfl
  have h26 : val_main_v26 (F := Ideal) a0 a1 a2 a3 (ix3 b o q)
      = Ideal.div (a0 (ix3 b o q) - mean (a1 (ix3 b (gr o) 0))) (Ideal.sqrt (vari (a1 (ix3 b (gr o) 0)) (a1 (ix3 b (gr o) 1)))) * a2 (ix2 o 0) + a3 (ix2 o 0) := by
    rw [val_main_v26_apply, val_main_v23_apply, val_main_v20_apply, e20, val_main_v19_apply, val_main_v13_apply, val_main_v10_apply, e10, val_main_v12_apply, val_main_v11_apply, e12, ref_mean,
      val_main_v18_apply, val_main_v17_apply, e18, val_main_v16_apply, ref_vari, val_main_v22_apply, val_main_v21_apply, e22, val_main_v25_apply, val_main_v24_apply, e25]
    rfl
  rw [val_main_v31_apply, val_main_v28_apply, val_main_v30_apply, h26, val_main_v27_apply, val_main_cst_2_apply, val_main_v29_apply, val_main_cst_3_apply]
  rfl

/-- The precondition: every group's variance, with the small addend, is above zero. -/
theorem of_pre (h : Cert.Pre_spread4.fn (F := Ideal) a0 a1 a2 a3 = fun _ => 1#1) (b : Fin 16) (g : Fin 4) : 0 < vari (a1 (ix3 b g 0)) (a1 (ix3 b g 1)) := by
  have e := congrFun h default
  rw [← ref_vari]
  exact pos_of_all (val_main_v15 (F := Ideal) a1) _ (fun _ => rfl) _ _ _ _ e (ix2 b g)
end ref

variable (m : (ℓ : Loc nD τ sig) → Buf (Elt Ideal) ℓ)

/-- Grid point `t` of the sixteen as a batch. -/
abbrev bat (t : Fin cfg0.N) : Fin 16 := ⟨t.val, t.isLt⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

theorem emb0 (t : Fin cfg0.N) (j : S1x128x128.Idx) : ((cfg0.win 0).blk t).view.emb j = ix3 (bat t) (j 1) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 128 + 1 * (j 1).val = (j 1).val; omega
  | ⟨2, _⟩ => show win0_0.index t (2 : Fin 3) * 128 + 1 * (j 2).val = (j 2).val; omega

theorem emb1 (t : Fin cfg0.N) (j : S1x4x2.Idx) : ((cfg0.win 1).blk t).view.emb j = ix3 (bat t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 4 + 1 * (j 1).val = (j 1).val; omega
  | ⟨2, _⟩ => show win0_1.index t (2 : Fin 3) * 2 + 1 * (j 2).val = (j 2).val; omega

theorem emb2 (t : Fin cfg0.N) (j : S128x1.Idx) : ((cfg0.win 2).blk t).view.emb j = j := by
  obtain ⟨e0, e1⟩ := idx2 t
  funext a; apply Fin.ext
  match a with
  | ⟨0, _⟩ => show win0_2.index t (0 : Fin 2) * 128 + 1 * (j 0).val = (j 0).val; omega
  | ⟨1, _⟩ => show win0_2.index t (1 : Fin 2) * 1 + 1 * (j 1).val = (j 1).val; omega

theorem emb3 (t : Fin cfg0.N) (j : S128x1.Idx) : ((cfg0.win 3).blk t).view.emb j = j := by
  obtain ⟨e0, e1⟩ := idx3 t
  funext a; apply Fin.ext
  match a with
  | ⟨0, _⟩ => show win0_3.index t (0 : Fin 2) * 128 + 1 * (j 0).val = (j 0).val; omega
  | ⟨1, _⟩ => show win0_3.index t (1 : Fin 2) * 1 + 1 * (j 1).val = (j 1).val; omega

theorem emb4 (t : Fin cfg0.N) (j : S1x128x128.Idx) : ((cfg0.win 4).blk t).view.emb j = ix3 (bat t) (j 1) (j 2) := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val; omega
  | ⟨1, _⟩ => show win0_4.index t (1 : Fin 3) * 128 + 1 * (j 1).val = (j 1).val; omega
  | ⟨2, _⟩ => show win0_4.index t (2 : Fin 3) * 128 + 1 * (j 2).val = (j 2).val; omega

theorem iblk0_apply (c : Dev nD) (t : Fin cfg0.N) (j : S1x128x128.Idx) : iblk m c 0 t j = V m c main_arg0 (ix3 (bat t) (j 1) (j 2)) :=
  congrArg (V m c main_arg0) (emb0 t j)
theorem iblk1_apply (c : Dev nD) (t : Fin cfg0.N) (j : S1x4x2.Idx) : iblk m c 1 t j = V m c main_arg1 (ix3 (bat t) (j 1) (j 2)) :=
  congrArg (V m c main_arg1) (emb1 t j)
theorem iblk2_eq (c : Dev nD) (t : Fin cfg0.N) : iblk m c 2 t = V m c main_arg2 := by
  funext j; show V m c main_arg2 (((cfg0.win 2).blk t).view.emb j) = _; rw [emb2]
theorem iblk3_eq (c : Dev nD) (t : Fin cfg0.N) : iblk m c 3 t = V m c main_arg3 := by
  funext j; show V m c main_arg3 (((cfg0.win 3).blk t).view.emb j) = _; rw [emb3]

theorem hz2 : ((![0, 0] : Fin 2 → ℕ)) = fun _ => 0 := funext (by decide)
theorem hz3 : ((![0, 0, 0] : Fin 3 → ℕ)) = fun _ => 0 := funext (by decide)

theorem out_eq (x0 : FVec Ideal S1x128x128 .f32) (x1 : FVec Ideal S1x4x2 .f32) (x2 x3 : FVec Ideal S128x1 .f32) :
    out0_4 (F := Ideal) x0 x1 x2 x3 = k0_pay1 (F := Ideal) (k0_pay5 (F := Ideal) x1) (k0_pay6 (F := Ideal) x1) x0 x2 x3 := by
  unfold out0_4
  refine (View.canon_unit_zero (S := S1x128x128) hz3 _ _).trans ?_
  have l0 : View.ld (Val := Elt Ideal) (e' := .f32) x0 r0_1 = x0 := View.ld_unit_zero (Val := Elt Ideal) (e := .f32) (S := S1x128x128) hz3 _ x0
  have l1 : View.ld (Val := Elt Ideal) (e' := .f32) x1 r0_0 = x1 := View.ld_unit_zero (Val := Elt Ideal) (e := .f32) (S := S1x4x2) hz3 _ x1
  have l2 : View.ld (Val := Elt Ideal) (e' := .f32) x2 r0_2 = x2 := View.ld_unit_zero (Val := Elt Ideal) (e := .f32) (S := S128x1) hz2 _ x2
  have l3 : View.ld (Val := Elt Ideal) (e' := .f32) x3 r0_2 = x3 := View.ld_unit_zero (Val := Elt Ideal) (e := .f32) (S := S128x1) hz2 _ x3
  rw [l0, l1, l2, l3]

/-- One block's result is one batch of the reference's. -/
theorem block_eq (a0 : FVec Ideal S16x128x128 .f32) (a1 : FVec Ideal S16x4x2 .f32) (a2 a3 : FVec Ideal S128x1 .f32) (b : Fin 16)
    (hv : ∀ g : Fin 4, 0 < vari (a1 (ix3 b g 0)) (a1 (ix3 b g 1)))
    (x0 : FVec Ideal S1x128x128 .f32) (x1 : FVec Ideal S1x4x2 .f32) (e0 : ∀ j, x0 j = a0 (ix3 b (j 1) (j 2))) (e1 : ∀ j, x1 j = a1 (ix3 b (j 1) (j 2))) (j : S1x128x128.Idx) :
    out0_4 (F := Ideal) x0 x1 a2 a3 j = Cert.RefFinalize4Ideal.Read.val_main_v31 (F := Ideal) a0 a1 a2 a3 (ix3 b (j 1) (j 2)) := by
  obtain ⟨u, o, q, rfl⟩ : ∃ (u : Fin 1) (o : Fin 128) (q : Fin 128), j = ix3 u o q := ⟨j 0, j 1, j 2, eq_ix3 j⟩
  rw [out_eq]
  refine (out_apply x0 x1 a2 a3 u o q).trans (Eq.trans ?_ (ref_apply a0 a1 a2 a3 b o q).symm)
  have s0 : x1 (ix3 0 (gr o) 0) = a1 (ix3 b (gr o) 0) := e1 _
  have s1 : x1 (ix3 0 (gr o) 1) = a1 (ix3 b (gr o) 1) := e1 _
  have sx : x0 (ix3 0 o q) = a0 (ix3 b o q) := e0 _
  rw [s0, s1, sx]
  exact congrArg (fun y => leak (y + a3 (ix2 o 0))) (div_root (hv (gr o)) _ _).symm

theorem covered4 (i : S16x128x128.Idx) : ∃ t : Fin cfg0.N, (cfg0.win 4).flush t = true ∧ i ∈ ((cfg0.win 4).blk t).view.set :=
  ⟨⟨(i 0).val, (i 0).isLt⟩, flush0_4 _, by
    have h := ((cfg0.win 4).blk (⟨(i 0).val, (i 0).isLt⟩ : Fin cfg0.N)).view.emb_mem_set (ix3 (0 : Fin 1) (i 1) (i 2))
    rw [emb4] at h
    have e : ix3 (bat ⟨(i 0).val, (i 0).isLt⟩) (i 1) (i 2) = i := (eq_ix3 i).symm
    exact e ▸ h⟩

/-- A block that agrees with batch `t` of `Y` everywhere is what a reading of `Y` through the block gives. -/
theorem cut4_eq (t : Fin cfg0.N) (X : FVec Ideal S1x128x128 .f32) (Y : FVec Ideal S16x128x128 .f32) (h : ∀ j, X j = Y (ix3 (bat t) (j 1) (j 2))) :
    (cfg0.win 4).cut (α := Elt Ideal .f32) (grid0.coords t) X = ((cfg0.win 4).blk t).view.read (Elt Ideal) Y := by
  funext j
  exact (h j).trans (congrArg Y (emb4 t j)).symm

theorem final4 (c : Dev nD) (hv : ∀ (b : Fin 16) (g : Fin 4), 0 < vari (V m c main_arg1 (ix3 b g 0)) (V m c main_arg1 (ix3 b g 1))) : (dats m 0 c).arrAt 4 cfg0.N
    = Cert.RefFinalize4Ideal.Read.val_main_v31 (F := Ideal) (V m c main_arg0) (V m c main_arg1) (V m c main_arg2) (V m c main_arg3) := by
  refine (dats m 0 c).arrAt_eq_of_cover 4 _ (fun t _ => ?_) covered4
  rw [flushed4, iblk2_eq, iblk3_eq]
  refine cut4_eq t _ _ fun j => ?_
  exact block_eq (V m c main_arg0) (V m c main_arg1) (V m c main_arg2) (V m c main_arg3) (bat t) (hv (bat t)) _ _ (iblk0_apply m c t) (iblk1_apply m c t) j

end Cert.Finalize4Ideal.Eq

end
-- ==== Proof.Finalize4Claims.lean ====
module

public import proofs.«01_k».proof.Defs
public import proofs.«01_k».proof.Proof.Finalize4Eq
public import proofs.«01_k».proof.Proof.Gen.Finalize4.Frame
public import proofs.«01_k».proof.Proof.Gen.Finalize4Ideal.Value
public import proofs.«01_k».proof.Proof.Gen.RefFinalize4Ideal.Run
public import proofs.«01_k».proof.Proof.Gen.Pre_spread4
public import Idealize.ShloMosaic.Lib.Quiescent

@[expose] public section

set_option maxRecDepth 16384

noncomputable section

namespace Cert.Finalize4Claims

open Idealize.ShloMosaic Idealize.ShloMosaic.TcCoe Idealize.SL.Sem

/-! # The claims about the normalization of 128 channels -/

/-- The reference runs, keeps its arguments, and has no semaphore to leave raised. -/
theorem frame_ref : Cert.quiescent_RefFinalize4Ideal := fun m ρ _ =>
  (θ_run Cert.RefFinalize4Ideal.defs _ _).mono (fun r h => ⟨fun c => (h c).2, sem_eq_zero_of_no_sems rfl r.2⟩) (Cert.RefFinalize4Ideal.Value.run m ρ)

theorem frame_ref_pre : Cert.quiescent_RefFinalize4Ideal_pre_spread4 := fun m ρ _ => frame_ref m ρ trivial

/-- From memories that agree on the arguments, with every group's variance above zero, both programs end with the reference's result. -/
theorem algebraic : Cert.algebraic_Finalize4Ideal_RefFinalize4Ideal_pre_spread4 := by
  intro m ρ m' ρ' hpre hargs
  have hv := fun c => Cert.Finalize4Ideal.Eq.of_pre _ _ _ _ (hpre c)
  refine ⟨fun c => Cert.RefFinalize4Ideal.Value.res_main_v31 m' c, ?_, ?_⟩
  · refine (θ_run Cert.Finalize4Ideal.defs _ _).mono (fun r h c => ?_) (Cert.Finalize4Ideal.Value.run_blocks m ρ)
    obtain ⟨h4, hk⟩ := h c
    obtain ⟨a0, a1, a2, a3⟩ := hargs c
    refine ⟨h4.trans ?_, hk⟩
    refine (Cert.Finalize4Ideal.Eq.final4 m c (hv c)).trans (Eq.trans ?_ (Cert.RefFinalize4Ideal.Read.val_main_v31_eq m' c).symm)
    rw [a0, a1, a2, a3]
  · exact Cert.RefFinalize4Ideal.Value.run m' ρ'

end Cert.Finalize4Claims

end
-- ==== Proof.Finalize2Eq.lean ====
module

public import proofs.«01_k».proof.Defs
public import proofs.«01_k».proof.Proof.Spread
public import proofs.«01_k».proof.Proof.Column
public import proofs.«01_k».proof.Proof.Groups
public import proofs.«01_k».proof.Proof.Gen.Finalize2Ideal.Value
public import proofs.«01_k».proof.Proof.Gen.RefFinalize2Ideal.Read
public import proofs.«01_k».proof.Proof.Gen.Pre_spread2

@[expose] public section

set_option maxRecDepth 16384

noncomputable section

namespace Cert.Finalize2Ideal.Eq

open Cert.Finalize2Ideal Cert.Finalize2Ideal.Gen Cert.Finalize2Ideal.Value
open Idealize.ShloMosaic Idealize.ShloMosaic.ValueIdx Idealize.ShloMosaic.TcCoe Idealize.SL.Sem KOps
open scoped BigOperators

/-! # Normalization of a stage's pooled features is the reference's, 64 channels -/

/-- The group of a channel, on words: the quotient by the group's size, rounded down. -/
def groupWord (v : BitVec 32) : BitVec 32 :=
  if IntOp.andi (IntOp.cmpi .ne (IntOp.subi ((IntOp.cmpi .sgt v 0#32).setWidth 32) ((IntOp.cmpi .slt v 0#32).setWidth 32))
      (IntOp.subi ((IntOp.cmpi .sgt 16#32 0#32).setWidth 32) ((IntOp.cmpi .slt 16#32 0#32).setWidth 32)))
    (IntOp.cmpi .ne (IntOp.remsi .vector v 16#32) 0#32) = 1#1 then IntOp.subi (IntOp.divsi .vector v 16#32) 1#32 else IntOp.divsi .vector v 16#32

theorem groupWord_mark : ∀ (o : Fin 64) (g : Fin 4), IntOp.cmpi .eq (groupWord (BitVec.ofNat 32 o.val)) (BitVec.ofNat 32 g.val) = if o.val / 16 = g.val then 1#1 else 0#1 := by
  decide +kernel

/-- The group of a channel. -/
abbrev gr (o : Fin 64) : Fin 4 := ⟨o.val / 16, by have := o.isLt; omega⟩

/-- The marks of the channel groups. -/
theorem mark_val (o : Fin 64) (g : Fin 4) : k0_pay4 (F := Ideal) (ix2 o g) = if (gr o).val = g.val then (1 : EReal) else 0 := by
  unfold k0_pay4
  refine flag_apply _ natLt_1_32 (ix2 o g) _ ?_
  rw [← groupWord_mark]
  have e0 : iota .tc S64x4 32 [0] iota_S64x4_d0_w32 = fun i => BitVec.ofNat 32 (i 0).val := funext fun i => iota_single_apply _ _ _ _ _ i
  have e1 : iota .tc S64x4 32 [1] iota_S64x4_d1_w32 = fun i => BitVec.ofNat 32 (i 1).val := funext fun i => iota_single_apply _ _ _ _ _ i
  rw [e0, e1]
  rfl

/-- The number of summands of a group, as a number. -/
abbrev cnt : EReal := Ideal.ofBits .f32 0x48000000#32

/-- The mean of a group from its sum. -/
abbrev mean (s : EReal) : EReal := Ideal.div s cnt

/-- The variance of a group from its two sums, with the small addend. -/
abbrev vari (s t : EReal) : EReal := Ideal.div t cnt - mean s * mean s + Ideal.ofBits .f32 0x3727C5AC#32

/-- The last step: what is below zero is scaled by a fifth. -/
abbrev leak (y : EReal) : EReal := Scalar.select (Ideal.cmp .ogt y (Ideal.ofBits .f32 0x00000000#32)) y (Ideal.ofBits .f32 0x3E4CCCCD#32 * y)

section block
variable (x0 : FVec Ideal S1x64x512 .f32) (x1 : FVec Ideal S1x4x2 .f32) (x2 x3 : FVec Ideal S64x1 .f32)

theorem flat_apply (g : Fin 4) (z : Fin 2) : k0_pay2 (F := Ideal) x1 (ix2 g z) = x1 (ix3 0 g z) := shapeCast_1ab_ab_apply x1 shapeCasts_S1x4x2_S4x2 g z

theorem sum_apply (g : Fin 4) (z : Fin 1) : extractStridedSlice S4x1 ![0, 0] (k0_pay2 (F := Ideal) x1) slices_S4x2_o0_0_S4x1 (ix2 g z) = x1 (ix3 0 g 0) := by
  refine (extractStridedSlice_apply _ (k0_pay2 (F := Ideal) x1) _ _ (ix2 g (0 : Fin 2)) (fun a => ?_)).trans (flat_apply x1 g 0)
  have hz := z.isLt
  match a with
  | ⟨0, _⟩ => show g.val = 0 + g.val; omega
  | ⟨1, _⟩ => show 0 = 0 + z.val; omega

theorem sq_apply (g : Fin 4) (z : Fin 1) : extractStridedSlice S4x1 ![0, 1] (k0_pay2 (F := Ideal) x1) slices_S4x2_o0_1_S4x1 (ix2 g z) = x1 (ix3 0 g 1) := by
  refine (extractStridedSlice_apply _ (k0_pay2 (F := Ideal) x1) _ _ (ix2 g (1 : Fin 2)) (fun a => ?_)).trans (flat_apply x1 g 1)
  have hz := z.isLt
  match a with
  | ⟨0, _⟩ => show g.val = 0 + g.val; omega
  | ⟨1, _⟩ => show 1 = 1 + z.val; omega

theorem mean_val (g : Fin 4) (z : Fin 1) : k0_pay3 (F := Ideal) x1 (ix2 g z) = mean (x1 (ix3 0 g 0)) := by
  unfold k0_pay3
  exact congrArg mean (sum_apply x1 g z)

theorem chan_mean (o : Fin 64) (z : Fin 1) : k0_pay5 (F := Ideal) x1 (ix2 o z) = mean (x1 (ix3 0 (gr o) 0)) := by
  unfold k0_pay5
  refine (Ideal.matmul_plain_apply (some .fp32) (k0_pay4 (F := Ideal)) (k0_pay3 (F := Ideal) x1) _ o z).trans ?_
  rw [zero_apply, zero_add]
  exact (pick_left _ (fun g => k0_pay3 (F := Ideal) x1 (ix2 g z)) (gr o) (fun g => mark_val o g)).trans (mean_val x1 (gr o) z)

theorem chan_root (o : Fin 64) (z : Fin 1) : k0_pay6 (F := Ideal) x1 (ix2 o z) = Ideal.rsqrt (vari (x1 (ix3 0 (gr o) 0)) (x1 (ix3 0 (gr o) 1))) := by
  unfold k0_pay6
  refine (Ideal.matmul_plain_apply (some .fp32) (k0_pay4 (F := Ideal)) _ _ o z).trans ?_
  rw [zero_apply, zero_add]
  refine (pick_left _ _ (gr o) (fun g => mark_val o g)).trans ?_
  have e0 := mean_val x1 (gr o) z
  have e1 := sq_apply x1 (gr o) z
  show Ideal.rsqrt (Ideal.div (extractStridedSlice S4x1 ![0, 1] (k0_pay2 (F := Ideal) x1) slices_S4x2_o0_1_S4x1 (ix2 (gr o) z)) cnt
    - k0_pay3 (F := Ideal) x1 (ix2 (gr o) z) * k0_pay3 (F := Ideal) x1 (ix2 (gr o) z) + Ideal.ofBits .f32 0x3727C5AC#32) = _
  rw [e0, e1]

/-- One entry of the block's result. -/
theorem out_apply (u : Fin 1) (o : Fin 64) (q : Fin 512) :
    k0_pay1 (F := Ideal) (k0_pay5 (F := Ideal) x1) (k0_pay6 (F := Ideal) x1) x0 x2 x3 (ix3 u o q)
      = leak ((x0 (ix3 0 o q) - mean (x1 (ix3 0 (gr o) 0))) * (Ideal.rsqrt (vari (x1 (ix3 0 (gr o) 0)) (x1 (ix3 0 (gr o) 1))) * x2 (ix2 o 0)) + x3 (ix2 o 0)) := by
  unfold k0_pay1
  refine (shapeCast_ab_1ab_apply _ shapeCasts_S64x512_S1x64x512 u o q).trans ?_
  have ea := (col_apply (k0_pay5 (F := Ideal) x1) broadcasts_S64x1_S64x512 o q).trans (chan_mean x1 o 0)
  have er := (col_apply (mulf (k0_pay6 (F := Ideal) x1) x2) broadcasts_S64x1_S64x512 o q).trans (congrArg (· * x2 (ix2 o 0)) (chan_root x1 o 0))
  have eb := col_apply x3 broadcasts_S64x1_S64x512 o q
  have ex := shapeCast_1ab_ab_apply x0 shapeCasts_S1x64x512_S64x512 o q
  refine congrArg leak ?_
  exact congrArg₂ (· + ·) (congrArg₂ (· * ·) (congrArg₂ (· - ·) ex ea) er) eb
end block

/-! ## The reference -/

section ref
open Cert.RefFinalize2Ideal.Read
variable (a0 : FVec Ideal S16x64x512 .f32) (a1 : FVec Ideal S16x4x2 .f32) (a2 a3 : FVec Ideal S64x1 .f32)

theorem ref_sum (b : Fin 16) (g : Fin 4) : val_main_v1 (F := Ideal) a1 (ix2 b g) = a1 (ix3 b g 0) := by
  rw [val_main_v1_apply, val_main_v0_apply]
  refine congrArg a1 ?_
  have hb := b.isLt
  have hg := g.isLt
  funext a; apply Fin.ext
  match a with
  | ⟨0, _⟩ => show (b.val * 4 + g.val) / 4 = b.val; omega
  | ⟨1, _⟩ => show (b.val * 4 + g.val) / 1 % 4 = g.val; omega
  | ⟨2, _⟩ => rfl

theorem ref_sq (b : Fin 16) (g : Fin 4) : val_main_v5 (F := Ideal) a1 (ix2 b g) = a1 (ix3 b g 1) := by
  rw [val_main_v5_apply, val_main_v4_apply]
  refine congrArg a1 ?_
  have hb := b.isLt
  have hg := g.isLt
  funext a; apply Fin.ext
  match a with
  | ⟨0, _⟩ => show (b.val * 4 + g.val) / 4 = b.val; omega
  | ⟨1, _⟩ => show (b.val * 4 + g.val) / 1 % 4 = g.val; omega
  | ⟨2, _⟩ => rfl

theorem ref_mean (b : Fin 16) (g : Fin 4) : val_main_v3 (F := Ideal) a1 (ix2 b g) = mean (a1 (ix3 b g 0)) := by
  rw [val_main_v3_apply, ref_sum, val_main_v2_apply, val_main_cst_apply]
  rfl

theorem ref_vari (b : Fin 16) (g : Fin 4) : val_main_v15 (F := Ideal) a1 (ix2 b g) = vari (a1 (ix3 b g 0)) (a1 (ix3 b g 1)) := by
  rw [val_main_v15_apply, val_main_v9_apply, val_main_v8_apply, val_main_v7_apply, ref_mean, ref_sq, val_main_v6_apply, val_main_cst_0_apply, val_main_v14_apply, val_main_cst_1_apply]
  rfl

/-- One entry of the reference's result. -/
theorem ref_apply (b : Fin 16) (o : Fin 64) (q : Fin 512) :
    val_main_v31 (F := Ideal) a0 a1 a2 a3 (ix3 b o q)
      = leak (Ideal.div (a0 (ix3 b o q) - mean (a1 (ix3 b (gr o) 0))) (Ideal.sqrt (vari (a1 (ix3 b (gr o) 0)) (a1 (ix3 b (gr o) 1)))) * a2 (ix2 o 0) + a3 (ix2 o 0)) := by
  have hb := b.isLt
  have ho := o.isLt
  have hq := q.isLt
  have hs : o.val % 16 < 16 := Nat.mod_lt _ (by norm_num)
  have e20 : idx_main_v20 (ix3 b o q) = ix4 b (gr o) ⟨o.val % 16, hs⟩ q := by
    funext a; apply Fin.ext
    match a with
    | ⟨0, _⟩ => show ((b.val * 64 + o.val) * 512 + q.val) / 32768 = b.val; omega
    | ⟨1, _⟩ => show ((b.val * 64 + o.val) * 512 + q.val) / 8192 % 4 = o.val / 16; omega
    | ⟨2, _⟩ => show ((b.val * 64 + o.val) * 512 + q.val) / 512 % 16 = o.val % 16; omega
    | ⟨3, _⟩ => show ((b.val * 64 + o.val) * 512 + q.val) % 512 = q.val; omega
  have e10 : idx_main_v10 (ix4 b (gr o) (⟨o.val % 16, hs⟩ : Fin 16) q) = ix3 b o q := by
    funext a; apply Fin.ext
    match a with
    | ⟨0, _⟩ => show (((b.val * 4 + o.val / 16) * 16 + o.val % 16) * 512 + q.val) / 32768 = b.val; omega
    | ⟨1, _⟩ => show (((b.val * 4 + o.val / 16) * 16 + o.val % 16) * 512 + q.val) / 512 % 64 = o.val; omega
    | ⟨2, _⟩ => show (((b.val * 4 + o.val / 16) * 16 + o.val % 16) * 512 + q.val) % 512 = q.val; omega
  have e12 : idx_main_v11 (idx_main_v12 (ix4 b (gr o) (⟨o.val % 16, hs⟩ : Fin 16) q)) = ix2 b (gr o) := by
    funext a; apply Fin.ext
    match a with
    | ⟨0, _⟩ => rfl
    | ⟨1, _⟩ => rfl
  have e18 : idx_main_v17 (idx_main_v18 (ix4 b (gr o) (⟨o.val % 16, hs⟩ : Fin 16) q)) = ix2 b (gr o) := by
    funext a; apply Fin.ext
    match a with
    | ⟨0, _⟩ => rfl
    | ⟨1, _⟩ => rfl
  have e22 : idx_main_v21 (idx_main_v22 (ix3 b o q)) = ix2 o 0 := by
    funext a; apply Fin.ext
    match a with
    | ⟨0, _⟩ => rfl
    | ⟨1, _⟩ => rfl
  have e25 : idx_main_v24 (idx_main_v25 (ix3 b o q)) = ix2 o 0 := by
    funext a; apply Fin.ext
    match a with
    | ⟨0, _⟩ => rfl
    | ⟨1, _⟩ => rfl
  have h26 : val_main_v26 (F := Ideal) a0 a1 a2 a3 (ix3 b o q)
      = Ideal.div (a0 (ix3 b o q) - mean (a1 (ix3 b (gr o) 0))) (Ideal.sqrt (vari (a1 (ix3 b (gr o) 0)) (a1 (ix3 b (gr o) 1)))) * a2 (ix2 o 0) + a3 (ix2 o 0) := by
    rw [val_main_v26_apply, val_main_v23_apply, val_main_v20_apply, e20, val_main_v19_apply, val_main_v13_apply, val_main_v10_apply, e10, val_main_v12_apply, val_main_v11_apply, e12, ref_mean,
      val_main_v18_apply, val_main_v17_apply, e18, val_main_v16_apply, ref_vari, val_main_v22_apply, val_main_v21_apply, e22, val_main_v25_apply, val_main_v24_apply, e25]
    rfl
  rw [val_main_v31_apply, val_main_v28_apply, val_main_v30_apply, h26, val_main_v27_apply, val_main_cst_2_apply, val_main_v29_apply, val_main_cst_3_apply]
  rfl

/-- The precondition: every group's variance, with the small addend, is above zero. -/
theorem of_pre (h : Cert.Pre_spread2.fn (F := Ideal) a0 a1 a2 a3 = fun _ => 1#1) (b : Fin 16) (g : Fin 4) : 0 < vari (a1 (ix3 b g 0)) (a1 (ix3 b g 1)) := by
  have e := congrFun h default
  rw [← ref_vari]
  exact pos_of_all (val_main_v15 (F := Ideal) a1) _ (fun _ => rfl) _ _ _ _ e (ix2 b g)
end ref

variable (m : (ℓ : Loc nD τ sig) → Buf (Elt Ideal) ℓ)

/-- Grid point `t` of the sixteen as a batch. -/
abbrev bat (t : Fin cfg0.N) : Fin 16 := ⟨t.val, t.isLt⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

theorem emb0 (t : Fin cfg0.N) (j : S1x64x512.Idx) : ((cfg0.win 0).blk t).view.emb j = ix3 (bat t) (j 1) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 64 + 1 * (j 1).val = (j 1).val; omega
  | ⟨2, _⟩ => show win0_0.index t (2 : Fin 3) * 512 + 1 * (j 2).val = (j 2).val; omega

theorem emb1 (t : Fin cfg0.N) (j : S1x4x2.Idx) : ((cfg0.win 1).blk t).view.emb j = ix3 (bat t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 4 + 1 * (j 1).val = (j 1).val; omega
  | ⟨2, _⟩ => show win0_1.index t (2 : Fin 3) * 2 + 1 * (j 2).val = (j 2).val; omega

theorem emb2 (t : Fin cfg0.N) (j : S64x1.Idx) : ((cfg0.win 2).blk t).view.emb j = j := by
  obtain ⟨e0, e1⟩ := idx2 t
  funext a; apply Fin.ext
  match a with
  | ⟨0, _⟩ => show win0_2.index t (0 : Fin 2) * 64 + 1 * (j 0).val = (j 0).val; omega
  | ⟨1, _⟩ => show win0_2.index t (1 : Fin 2) * 1 + 1 * (j 1).val = (j 1).val; omega

theorem emb3 (t : Fin cfg0.N) (j : S64x1.Idx) : ((cfg0.win 3).blk t).view.emb j = j := by
  obtain ⟨e0, e1⟩ := idx3 t
  funext a; apply Fin.ext
  match a with
  | ⟨0, _⟩ => show win0_3.index t (0 : Fin 2) * 64 + 1 * (j 0).val = (j 0).val; omega
  | ⟨1, _⟩ => show win0_3.index t (1 : Fin 2) * 1 + 1 * (j 1).val = (j 1).val; omega

theorem emb4 (t : Fin cfg0.N) (j : S1x64x512.Idx) : ((cfg0.win 4).blk t).view.emb j = ix3 (bat t) (j 1) (j 2) := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val; omega
  | ⟨1, _⟩ => show win0_4.index t (1 : Fin 3) * 64 + 1 * (j 1).val = (j 1).val; omega
  | ⟨2, _⟩ => show win0_4.index t (2 : Fin 3) * 512 + 1 * (j 2).val = (j 2).val; omega

theorem iblk0_apply (c : Dev nD) (t : Fin cfg0.N) (j : S1x64x512.Idx) : iblk m c 0 t j = V m c main_arg0 (ix3 (bat t) (j 1) (j 2)) :=
  congrArg (V m c main_arg0) (emb0 t j)
theorem iblk1_apply (c : Dev nD) (t : Fin cfg0.N) (j : S1x4x2.Idx) : iblk m c 1 t j = V m c main_arg1 (ix3 (bat t) (j 1) (j 2)) :=
  congrArg (V m c main_arg1) (emb1 t j)
theorem iblk2_eq (c : Dev nD) (t : Fin cfg0.N) : iblk m c 2 t = V m c main_arg2 := by
  funext j; show V m c main_arg2 (((cfg0.win 2).blk t).view.emb j) = _; rw [emb2]
theorem iblk3_eq (c : Dev nD) (t : Fin cfg0.N) : iblk m c 3 t = V m c main_arg3 := by
  funext j; show V m c main_arg3 (((cfg0.win 3).blk t).view.emb j) = _; rw [emb3]

theorem hz2 : ((![0, 0] : Fin 2 → ℕ)) = fun _ => 0 := funext (by decide)
theorem hz3 : ((![0, 0, 0] : Fin 3 → ℕ)) = fun _ => 0 := funext (by decide)

theorem out_eq (x0 : FVec Ideal S1x64x512 .f32) (x1 : FVec Ideal S1x4x2 .f32) (x2 x3 : FVec Ideal S64x1 .f32) :
    out0_4 (F := Ideal) x0 x1 x2 x3 = k0_pay1 (F := Ideal) (k0_pay5 (F := Ideal) x1) (k0_pay6 (F := Ideal) x1) x0 x2 x3 := by
  unfold out0_4
  refine (View.canon_unit_zero (S := S1x64x512) hz3 _ _).trans ?_
  have l0 : View.ld (Val := Elt Ideal) (e' := .f32) x0 r0_1 = x0 := View.ld_unit_zero (Val := Elt Ideal) (e := .f32) (S := S1x64x512) hz3 _ x0
  have l1 : View.ld (Val := Elt Ideal) (e' := .f32) x1 r0_0 = x1 := View.ld_unit_zero (Val := Elt Ideal) (e := .f32) (S := S1x4x2) hz3 _ x1
  have l2 : View.ld (Val := Elt Ideal) (e' := .f32) x2 r0_2 = x2 := View.ld_unit_zero (Val := Elt Ideal) (e := .f32) (S := S64x1) hz2 _ x2
  have l3 : View.ld (Val := Elt Ideal) (e' := .f32) x3 r0_2 = x3 := View.ld_unit_zero (Val := Elt Ideal) (e := .f32) (S := S64x1) hz2 _ x3
  rw [l0, l1, l2, l3]

/-- One block's result is one batch of the reference's. -/
theorem block_eq (a0 : FVec Ideal S16x64x512 .f32) (a1 : FVec Ideal S16x4x2 .f32) (a2 a3 : FVec Ideal S64x1 .f32) (b : Fin 16)
    (hv : ∀ g : Fin 4, 0 < vari (a1 (ix3 b g 0)) (a1 (ix3 b g 1)))
    (x0 : FVec Ideal S1x64x512 .f32) (x1 : FVec Ideal S1x4x2 .f32) (e0 : ∀ j, x0 j = a0 (ix3 b (j 1) (j 2))) (e1 : ∀ j, x1 j = a1 (ix3 b (j 1) (j 2))) (j : S1x64x512.Idx) :
    out0_4 (F := Ideal) x0 x1 a2 a3 j = Cert.RefFinalize2Ideal.Read.val_main_v31 (F := Ideal) a0 a1 a2 a3 (ix3 b (j 1) (j 2)) := by
  obtain ⟨u, o, q, rfl⟩ : ∃ (u : Fin 1) (o : Fin 64) (q : Fin 512), j = ix3 u o q := ⟨j 0, j 1, j 2, eq_ix3 j⟩
  rw [out_eq]
  refine (out_apply x0 x1 a2 a3 u o q).trans (Eq.trans ?_ (ref_apply a0 a1 a2 a3 b o q).symm)
  have s0 : x1 (ix3 0 (gr o) 0) = a1 (ix3 b (gr o) 0) := e1 _
  have s1 : x1 (ix3 0 (gr o) 1) = a1 (ix3 b (gr o) 1) := e1 _
  have sx : x0 (ix3 0 o q) = a0 (ix3 b o q) := e0 _
  rw [s0, s1, sx]
  exact congrArg (fun y => leak (y + a3 (ix2 o 0))) (div_root (hv (gr o)) _ _).symm

theorem covered4 (i : S16x64x512.Idx) : ∃ t : Fin cfg0.N, (cfg0.win 4).flush t = true ∧ i ∈ ((cfg0.win 4).blk t).view.set :=
  ⟨⟨(i 0).val, (i 0).isLt⟩, flush0_4 _, by
    have h := ((cfg0.win 4).blk (⟨(i 0).val, (i 0).isLt⟩ : Fin cfg0.N)).view.emb_mem_set (ix3 (0 : Fin 1) (i 1) (i 2))
    rw [emb4] at h
    have e : ix3 (bat ⟨(i 0).val, (i 0).isLt⟩) (i 1) (i 2) = i := (eq_ix3 i).symm
    exact e ▸ h⟩

/-- A block that agrees with batch `t` of `Y` everywhere is what a reading of `Y` through the block gives. -/
theorem cut4_eq (t : Fin cfg0.N) (X : FVec Ideal S1x64x512 .f32) (Y : FVec Ideal S16x64x512 .f32) (h : ∀ j, X j = Y (ix3 (bat t) (j 1) (j 2))) :
    (cfg0.win 4).cut (α := Elt Ideal .f32) (grid0.coords t) X = ((cfg0.win 4).blk t).view.read (Elt Ideal) Y := by
  funext j
  exact (h j).trans (congrArg Y (emb4 t j)).symm

theorem final4 (c : Dev nD) (hv : ∀ (b : Fin 16) (g : Fin 4), 0 < vari (V m c main_arg1 (ix3 b g 0)) (V m c main_arg1 (ix3 b g 1))) : (dats m 0 c).arrAt 4 cfg0.N
    = Cert.RefFinalize2Ideal.Read.val_main_v31 (F := Ideal) (V m c main_arg0) (V m c main_arg1) (V m c main_arg2) (V m c main_arg3) := by
  refine (dats m 0 c).arrAt_eq_of_cover 4 _ (fun t _ => ?_) covered4
  rw [flushed4, iblk2_eq, iblk3_eq]
  refine cut4_eq t _ _ fun j => ?_
  exact block_eq (V m c main_arg0) (V m c main_arg1) (V m c main_arg2) (V m c main_arg3) (bat t) (hv (bat t)) _ _ (iblk0_apply m c t) (iblk1_apply m c t) j

end Cert.Finalize2Ideal.Eq

end
-- ==== Proof.Finalize2Claims.lean ====
module

public import proofs.«01_k».proof.Defs
public import proofs.«01_k».proof.Proof.Finalize2Eq
public import proofs.«01_k».proof.Proof.Gen.Finalize2.Frame
public import proofs.«01_k».proof.Proof.Gen.Finalize2Ideal.Value
public import proofs.«01_k».proof.Proof.Gen.RefFinalize2Ideal.Run
public import proofs.«01_k».proof.Proof.Gen.Pre_spread2
public import Idealize.ShloMosaic.Lib.Quiescent

@[expose] public section

set_option maxRecDepth 16384

noncomputable section

namespace Cert.Finalize2Claims

open Idealize.ShloMosaic Idealize.ShloMosaic.TcCoe Idealize.SL.Sem

/-! # The claims about the normalization of 64 channels -/

/-- The reference runs, keeps its arguments, and has no semaphore to leave raised. -/
theorem frame_ref : Cert.quiescent_RefFinalize2Ideal := fun m ρ _ =>
  (θ_run Cert.RefFinalize2Ideal.defs _ _).mono (fun r h => ⟨fun c => (h c).2, sem_eq_zero_of_no_sems rfl r.2⟩) (Cert.RefFinalize2Ideal.Value.run m ρ)

theorem frame_ref_pre : Cert.quiescent_RefFinalize2Ideal_pre_spread2 := fun m ρ _ => frame_ref m ρ trivial

/-- From memories that agree on the arguments, with every group's variance above zero, both programs end with the reference's result. -/
theorem algebraic : Cert.algebraic_Finalize2Ideal_RefFinalize2Ideal_pre_spread2 := by
  intro m ρ m' ρ' hpre hargs
  have hv := fun c => Cert.Finalize2Ideal.Eq.of_pre _ _ _ _ (hpre c)
  refine ⟨fun c => Cert.RefFinalize2Ideal.Value.res_main_v31 m' c, ?_, ?_⟩
  · refine (θ_run Cert.Finalize2Ideal.defs _ _).mono (fun r h c => ?_) (Cert.Finalize2Ideal.Value.run_blocks m ρ)
    obtain ⟨h4, hk⟩ := h c
    obtain ⟨a0, a1, a2, a3⟩ := hargs c
    refine ⟨h4.trans ?_, hk⟩
    refine (Cert.Finalize2Ideal.Eq.final4 m c (hv c)).trans (Eq.trans ?_ (Cert.RefFinalize2Ideal.Read.val_main_v31_eq m' c).symm)
    rw [a0, a1, a2, a3]
  · exact Cert.RefFinalize2Ideal.Value.run m' ρ'

end Cert.Finalize2Claims

end
-- ==== Proof.Finalize1Eq.lean ====
module

public import proofs.«01_k».proof.Defs
public import proofs.«01_k».proof.Proof.Spread
public import proofs.«01_k».proof.Proof.Column
public import proofs.«01_k».proof.Proof.Groups
public import proofs.«01_k».proof.Proof.Gen.Finalize1Ideal.Value
public import proofs.«01_k».proof.Proof.Gen.RefFinalize1Ideal.Read
public import proofs.«01_k».proof.Proof.Gen.Pre_spread1

@[expose] public section

set_option maxRecDepth 16384

noncomputable section

namespace Cert.Finalize1Ideal.Eq

open Cert.Finalize1Ideal Cert.Finalize1Ideal.Gen Cert.Finalize1Ideal.Value
open Idealize.ShloMosaic Idealize.ShloMosaic.ValueIdx Idealize.ShloMosaic.TcCoe Idealize.SL.Sem KOps
open scoped BigOperators

/-! # Normalization of a stage's pooled features is the reference's, 32 channels -/

/-- The group of a channel, on words: the quotient by the group's size, rounded down. -/
def groupWord (v : BitVec 32) : BitVec 32 :=
  if IntOp.andi (IntOp.cmpi .ne (IntOp.subi ((IntOp.cmpi .sgt v 0#32).setWidth 32) ((IntOp.cmpi .slt v 0#32).setWidth 32))
      (IntOp.subi ((IntOp.cmpi .sgt 8#32 0#32).setWidth 32) ((IntOp.cmpi .slt 8#32 0#32).setWidth 32)))
    (IntOp.cmpi .ne (IntOp.remsi .vector v 8#32) 0#32) = 1#1 then IntOp.subi (IntOp.divsi .vector v 8#32) 1#32 else IntOp.divsi .vector v 8#32

theorem groupWord_mark : ∀ (o : Fin 32) (g : Fin 4), IntOp.cmpi .eq (groupWord (BitVec.ofNat 32 o.val)) (BitVec.ofNat 32 g.val) = if o.val / 8 = g.val then 1#1 else 0#1 := by
  decide +kernel

/-- The group of a channel. -/
abbrev gr (o : Fin 32) : Fin 4 := ⟨o.val / 8, by have := o.isLt; omega⟩

/-- The marks of the channel groups. -/
theorem mark_val (o : Fin 32) (g : Fin 4) : k0_pay4 (F := Ideal) (ix2 o g) = if (gr o).val = g.val then (1 : EReal) else 0 := by
  unfold k0_pay4
  refine flag_apply _ natLt_1_32 (ix2 o g) _ ?_
  rw [← groupWord_mark]
  have e0 : iota .tc S32x4 32 [0] iota_S32x4_d0_w32 = fun i => BitVec.ofNat 32 (i 0).val := funext fun i => iota_single_apply _ _ _ _ _ i
  have e1 : iota .tc S32x4 32 [1] iota_S32x4_d1_w32 = fun i => BitVec.ofNat 32 (i 1).val := funext fun i => iota_single_apply _ _ _ _ _ i
  rw [e0, e1]
  rfl

/-- The number of summands of a group, as a number. -/
abbrev cnt : EReal := Ideal.ofBits .f32 0x48800000#32

/-- The mean of a group from its sum. -/
abbrev mean (s : EReal) : EReal := Ideal.div s cnt

/-- The variance of a group from its two sums, with the small addend. -/
abbrev vari (s t : EReal) : EReal := Ideal.div t cnt - mean s * mean s + Ideal.ofBits .f32 0x3727C5AC#32

/-- The last step: what is below zero is scaled by a fifth. -/
abbrev leak (y : EReal) : EReal := Scalar.select (Ideal.cmp .ogt y (Ideal.ofBits .f32 0x00000000#32)) y (Ideal.ofBits .f32 0x3E4CCCCD#32 * y)

section block
variable (x0 : FVec Ideal S1x32x2048 .f32) (x1 : FVec Ideal S1x4x2 .f32) (x2 x3 : FVec Ideal S32x1 .f32)

theorem flat_apply (g : Fin 4) (z : Fin 2) : k0_pay2 (F := Ideal) x1 (ix2 g z) = x1 (ix3 0 g z) := shapeCast_1ab_ab_apply x1 shapeCasts_S1x4x2_S4x2 g z

theorem sum_apply (g : Fin 4) (z : Fin 1) : extractStridedSlice S4x1 ![0, 0] (k0_pay2 (F := Ideal) x1) slices_S4x2_o0_0_S4x1 (ix2 g z) = x1 (ix3 0 g 0) := by
  refine (extractStridedSlice_apply _ (k0_pay2 (F := Ideal) x1) _ _ (ix2 g (0 : Fin 2)) (fun a => ?_)).trans (flat_apply x1 g 0)
  have hz := z.isLt
  match a with
  | ⟨0, _⟩ => show g.val = 0 + g.val; omega
  | ⟨1, _⟩ => show 0 = 0 + z.val; omega

theorem sq_apply (g : Fin 4) (z : Fin 1) : extractStridedSlice S4x1 ![0, 1] (k0_pay2 (F := Ideal) x1) slices_S4x2_o0_1_S4x1 (ix2 g z) = x1 (ix3 0 g 1) := by
  refine (extractStridedSlice_apply _ (k0_pay2 (F := Ideal) x1) _ _ (ix2 g (1 : Fin 2)) (fun a => ?_)).trans (flat_apply x1 g 1)
  have hz := z.isLt
  match a with
  | ⟨0, _⟩ => show g.val = 0 + g.val; omega
  | ⟨1, _⟩ => show 1 = 1 + z.val; omega

theorem mean_val (g : Fin 4) (z : Fin 1) : k0_pay3 (F := Ideal) x1 (ix2 g z) = mean (x1 (ix3 0 g 0)) := by
  unfold k0_pay3
  exact congrArg mean (sum_apply x1 g z)

theorem chan_mean (o : Fin 32) (z : Fin 1) : k0_pay5 (F := Ideal) x1 (ix2 o z) = mean (x1 (ix3 0 (gr o) 0)) := by
  unfold k0_pay5
  refine (Ideal.matmul_plain_apply (some .fp32) (k0_pay4 (F := Ideal)) (k0_pay3 (F := Ideal) x1) _ o z).trans ?_
  rw [zero_apply, zero_add]
  exact (pick_left _ (fun g => k0_pay3 (F := Ideal) x1 (ix2 g z)) (gr o) (fun g => mark_val o g)).trans (mean_val x1 (gr o) z)

theorem chan_root (o : Fin 32) (z : Fin 1) : k0_pay6 (F := Ideal) x1 (ix2 o z) = Ideal.rsqrt (vari (x1 (ix3 0 (gr o) 0)) (x1 (ix3 0 (gr o) 1))) := by
  unfold k0_pay6
  refine (Ideal.matmul_plain_apply (some .fp32) (k0_pay4 (F := Ideal)) _ _ o z).trans ?_
  rw [zero_apply, zero_add]
  refine (pick_left _ _ (gr o) (fun g => mark_val o g)).trans ?_
  have e0 := mean_val x1 (gr o) z
  have e1 := sq_apply x1 (gr o) z
  show Ideal.rsqrt (Ideal.div (extractStridedSlice S4x1 ![0, 1] (k0_pay2 (F := Ideal) x1) slices_S4x2_o0_1_S4x1 (ix2 (gr o) z)) cnt
    - k0_pay3 (F := Ideal) x1 (ix2 (gr o) z) * k0_pay3 (F := Ideal) x1 (ix2 (gr o) z) + Ideal.ofBits .f32 0x3727C5AC#32) = _
  rw [e0, e1]

/-- One entry of the block's result. -/
theorem out_apply (u : Fin 1) (o : Fin 32) (q : Fin 2048) :
    k0_pay1 (F := Ideal) (k0_pay5 (F := Ideal) x1) (k0_pay6 (F := Ideal) x1) x0 x2 x3 (ix3 u o q)
      = leak ((x0 (ix3 0 o q) - mean (x1 (ix3 0 (gr o) 0))) * (Ideal.rsqrt (vari (x1 (ix3 0 (gr o) 0)) (x1 (ix3 0 (gr o) 1))) * x2 (ix2 o 0)) + x3 (ix2 o 0)) := by
  unfold k0_pay1
  refine (shapeCast_ab_1ab_apply _ shapeCasts_S32x2048_S1x32x2048 u o q).trans ?_
  have ea := (col_apply (k0_pay5 (F := Ideal) x1) broadcasts_S32x1_S32x2048 o q).trans (chan_mean x1 o 0)
  have er := (col_apply (mulf (k0_pay6 (F := Ideal) x1) x2) broadcasts_S32x1_S32x2048 o q).trans (congrArg (· * x2 (ix2 o 0)) (chan_root x1 o 0))
  have eb := col_apply x3 broadcasts_S32x1_S32x2048 o q
  have ex := shapeCast_1ab_ab_apply x0 shapeCasts_S1x32x2048_S32x2048 o q
  refine congrArg leak ?_
  exact congrArg₂ (· + ·) (congrArg₂ (· * ·) (congrArg₂ (· - ·) ex ea) er) eb
end block

/-! ## The reference -/

section ref
open Cert.RefFinalize1Ideal.Read
variable (a0 : FVec Ideal S16x32x2048 .f32) (a1 : FVec Ideal S16x4x2 .f32) (a2 a3 : FVec Ideal S32x1 .f32)

theorem ref_sum (b : Fin 16) (g : Fin 4) : val_main_v1 (F := Ideal) a1 (ix2 b g) = a1 (ix3 b g 0) := by
  rw [val_main_v1_apply, val_main_v0_apply]
  refine congrArg a1 ?_
  have hb := b.isLt
  have hg := g.isLt
  funext a; apply Fin.ext
  match a with
  | ⟨0, _⟩ => show (b.val * 4 + g.val) / 4 = b.val; omega
  | ⟨1, _⟩ => show (b.val * 4 + g.val) / 1 % 4 = g.val; omega
  | ⟨2, _⟩ => rfl

theorem ref_sq (b : Fin 16) (g : Fin 4) : val_main_v5 (F := Ideal) a1 (ix2 b g) = a1 (ix3 b g 1) := by
  rw [val_main_v5_apply, val_main_v4_apply]
  refine congrArg a1 ?_
  have hb := b.isLt
  have hg := g.isLt
  funext a; apply Fin.ext
  match a with
  | ⟨0, _⟩ => show (b.val * 4 + g.val) / 4 = b.val; omega
  | ⟨1, _⟩ => show (b.val * 4 + g.val) / 1 % 4 = g.val; omega
  | ⟨2, _⟩ => rfl

theorem ref_mean (b : Fin 16) (g : Fin 4) : val_main_v3 (F := Ideal) a1 (ix2 b g) = mean (a1 (ix3 b g 0)) := by
  rw [val_main_v3_apply, ref_sum, val_main_v2_apply, val_main_cst_apply]
  rfl

theorem ref_vari (b : Fin 16) (g : Fin 4) : val_main_v15 (F := Ideal) a1 (ix2 b g) = vari (a1 (ix3 b g 0)) (a1 (ix3 b g 1)) := by
  rw [val_main_v15_apply, val_main_v9_apply, val_main_v8_apply, val_main_v7_apply, ref_mean, ref_sq, val_main_v6_apply, val_main_cst_0_apply, val_main_v14_apply, val_main_cst_1_apply]
  rfl

/-- One entry of the reference's result. -/
theorem ref_apply (b : Fin 16) (o : Fin 32) (q : Fin 2048) :
    val_main_v31 (F := Ideal) a0 a1 a2 a3 (ix3 b o q)
      = leak (Ideal.div (a0 (ix3 b o q) - mean (a1 (ix3 b (gr o) 0))) (Ideal.sqrt (vari (a1 (ix3 b (gr o) 0)) (a1 (ix3 b (gr o) 1)))) * a2 (ix2 o 0) + a3 (ix2 o 0)) := by
  have hb := b.isLt
  have ho := o.isLt
  have hq := q.isLt
  have hs : o.val % 8 < 8 := Nat.mod_lt _ (by norm_num)
  have e20 : idx_main_v20 (ix3 b o q) = ix4 b (gr o) ⟨o.val % 8, hs⟩ q := by
    funext a; apply Fin.ext
    match a with
    | ⟨0, _⟩ => show ((b.val * 32 + o.val) * 2048 + q.val) / 65536 = b.val; omega
    | ⟨1, _⟩ => show ((b.val * 32 + o.val) * 2048 + q.val) / 16384 % 4 = o.val / 8; omega
    | ⟨2, _⟩ => show ((b.val * 32 + o.val) * 2048 + q.val) / 2048 % 8 = o.val % 8; omega
    | ⟨3, _⟩ => show ((b.val * 32 + o.val) * 2048 + q.val) % 2048 = q.val; omega
  have e10 : idx_main_v10 (ix4 b (gr o) (⟨o.val % 8, hs⟩ : Fin 8) q) = ix3 b o q := by
    funext a; apply Fin.ext
    match a with
    | ⟨0, _⟩ => show (((b.val * 4 + o.val / 8) * 8 + o.val % 8) * 2048 + q.val) / 65536 = b.val; omega
    | ⟨1, _⟩ => show (((b.val * 4 + o.val / 8) * 8 + o.val % 8) * 2048 + q.val) / 2048 % 32 = o.val; omega
    | ⟨2, _⟩ => show (((b.val * 4 + o.val / 8) * 8 + o.val % 8) * 2048 + q.val) % 2048 = q.val; omega
  have e12 : idx_main_v11 (idx_main_v12 (ix4 b (gr o) (⟨o.val % 8, hs⟩ : Fin 8) q)) = ix2 b (gr o) := by
    funext a; apply Fin.ext
    match a with
    | ⟨0, _⟩ => rfl
    | ⟨1, _⟩ => rfl
  have e18 : idx_main_v17 (idx_main_v18 (ix4 b (gr o) (⟨o.val % 8, hs⟩ : Fin 8) q)) = ix2 b (gr o) := by
    funext a; apply Fin.ext
    match a with
    | ⟨0, _⟩ => rfl
    | ⟨1, _⟩ => rfl
  have e22 : idx_main_v21 (idx_main_v22 (ix3 b o q)) = ix2 o 0 := by
    funext a; apply Fin.ext
    match a with
    | ⟨0, _⟩ => rfl
    | ⟨1, _⟩ => rfl
  have e25 : idx_main_v24 (idx_main_v25 (ix3 b o q)) = ix2 o 0 := by
    funext a; apply Fin.ext
    match a with
    | ⟨0, _⟩ => rfl
    | ⟨1, _⟩ => rfl
  have h26 : val_main_v26 (F := Ideal) a0 a1 a2 a3 (ix3 b o q)
      = Ideal.div (a0 (ix3 b o q) - mean (a1 (ix3 b (gr o) 0))) (Ideal.sqrt (vari (a1 (ix3 b (gr o) 0)) (a1 (ix3 b (gr o) 1)))) * a2 (ix2 o 0) + a3 (ix2 o 0) := by
    rw [val_main_v26_apply, val_main_v23_apply, val_main_v20_apply, e20, val_main_v19_apply, val_main_v13_apply, val_main_v10_apply, e10, val_main_v12_apply, val_main_v11_apply, e12, ref_mean,
      val_main_v18_apply, val_main_v17_apply, e18, val_main_v16_apply, ref_vari, val_main_v22_apply, val_main_v21_apply, e22, val_main_v25_apply, val_main_v24_apply, e25]
    rfl
  rw [val_main_v31_apply, val_main_v28_apply, val_main_v30_apply, h26, val_main_v27_apply, val_main_cst_2_apply, val_main_v29_apply, val_main_cst_3_apply]
  rfl

/-- The precondition: every group's variance, with the small addend, is above zero. -/
theorem of_pre (h : Cert.Pre_spread1.fn (F := Ideal) a0 a1 a2 a3 = fun _ => 1#1) (b : Fin 16) (g : Fin 4) : 0 < vari (a1 (ix3 b g 0)) (a1 (ix3 b g 1)) := by
  have e := congrFun h default
  rw [← ref_vari]
  exact pos_of_all (val_main_v15 (F := Ideal) a1) _ (fun _ => rfl) _ _ _ _ e (ix2 b g)
end ref

variable (m : (ℓ : Loc nD τ sig) → Buf (Elt Ideal) ℓ)

/-- Grid point `t` of the sixteen as a batch. -/
abbrev bat (t : Fin cfg0.N) : Fin 16 := ⟨t.val, t.isLt⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

theorem emb0 (t : Fin cfg0.N) (j : S1x32x2048.Idx) : ((cfg0.win 0).blk t).view.emb j = ix3 (bat t) (j 1) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 32 + 1 * (j 1).val = (j 1).val; omega
  | ⟨2, _⟩ => show win0_0.index t (2 : Fin 3) * 2048 + 1 * (j 2).val = (j 2).val; omega

theorem emb1 (t : Fin cfg0.N) (j : S1x4x2.Idx) : ((cfg0.win 1).blk t).view.emb j = ix3 (bat t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 4 + 1 * (j 1).val = (j 1).val; omega
  | ⟨2, _⟩ => show win0_1.index t (2 : Fin 3) * 2 + 1 * (j 2).val = (j 2).val; omega

theorem emb2 (t : Fin cfg0.N) (j : S32x1.Idx) : ((cfg0.win 2).blk t).view.emb j = j := by
  obtain ⟨e0, e1⟩ := idx2 t
  funext a; apply Fin.ext
  match a with
  | ⟨0, _⟩ => show win0_2.index t (0 : Fin 2) * 32 + 1 * (j 0).val = (j 0).val; omega
  | ⟨1, _⟩ => show win0_2.index t (1 : Fin 2) * 1 + 1 * (j 1).val = (j 1).val; omega

theorem emb3 (t : Fin cfg0.N) (j : S32x1.Idx) : ((cfg0.win 3).blk t).view.emb j = j := by
  obtain ⟨e0, e1⟩ := idx3 t
  funext a; apply Fin.ext
  match a with
  | ⟨0, _⟩ => show win0_3.index t (0 : Fin 2) * 32 + 1 * (j 0).val = (j 0).val; omega
  | ⟨1, _⟩ => show win0_3.index t (1 : Fin 2) * 1 + 1 * (j 1).val = (j 1).val; omega

theorem emb4 (t : Fin cfg0.N) (j : S1x32x2048.Idx) : ((cfg0.win 4).blk t).view.emb j = ix3 (bat t) (j 1) (j 2) := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val; omega
  | ⟨1, _⟩ => show win0_4.index t (1 : Fin 3) * 32 + 1 * (j 1).val = (j 1).val; omega
  | ⟨2, _⟩ => show win0_4.index t (2 : Fin 3) * 2048 + 1 * (j 2).val = (j 2).val; omega

theorem iblk0_apply (c : Dev nD) (t : Fin cfg0.N) (j : S1x32x2048.Idx) : iblk m c 0 t j = V m c main_arg0 (ix3 (bat t) (j 1) (j 2)) :=
  congrArg (V m c main_arg0) (emb0 t j)
theorem iblk1_apply (c : Dev nD) (t : Fin cfg0.N) (j : S1x4x2.Idx) : iblk m c 1 t j = V m c main_arg1 (ix3 (bat t) (j 1) (j 2)) :=
  congrArg (V m c main_arg1) (emb1 t j)
theorem iblk2_eq (c : Dev nD) (t : Fin cfg0.N) : iblk m c 2 t = V m c main_arg2 := by
  funext j; show V m c main_arg2 (((cfg0.win 2).blk t).view.emb j) = _; rw [emb2]
theorem iblk3_eq (c : Dev nD) (t : Fin cfg0.N) : iblk m c 3 t = V m c main_arg3 := by
  funext j; show V m c main_arg3 (((cfg0.win 3).blk t).view.emb j) = _; rw [emb3]

theorem hz2 : ((![0, 0] : Fin 2 → ℕ)) = fun _ => 0 := funext (by decide)
theorem hz3 : ((![0, 0, 0] : Fin 3 → ℕ)) = fun _ => 0 := funext (by decide)

theorem out_eq (x0 : FVec Ideal S1x32x2048 .f32) (x1 : FVec Ideal S1x4x2 .f32) (x2 x3 : FVec Ideal S32x1 .f32) :
    out0_4 (F := Ideal) x0 x1 x2 x3 = k0_pay1 (F := Ideal) (k0_pay5 (F := Ideal) x1) (k0_pay6 (F := Ideal) x1) x0 x2 x3 := by
  unfold out0_4
  refine (View.canon_unit_zero (S := S1x32x2048) hz3 _ _).trans ?_
  have l0 : View.ld (Val := Elt Ideal) (e' := .f32) x0 r0_1 = x0 := View.ld_unit_zero (Val := Elt Ideal) (e := .f32) (S := S1x32x2048) hz3 _ x0
  have l1 : View.ld (Val := Elt Ideal) (e' := .f32) x1 r0_0 = x1 := View.ld_unit_zero (Val := Elt Ideal) (e := .f32) (S := S1x4x2) hz3 _ x1
  have l2 : View.ld (Val := Elt Ideal) (e' := .f32) x2 r0_2 = x2 := View.ld_unit_zero (Val := Elt Ideal) (e := .f32) (S := S32x1) hz2 _ x2
  have l3 : View.ld (Val := Elt Ideal) (e' := .f32) x3 r0_2 = x3 := View.ld_unit_zero (Val := Elt Ideal) (e := .f32) (S := S32x1) hz2 _ x3
  rw [l0, l1, l2, l3]

/-- One block's result is one batch of the reference's. -/
theorem block_eq (a0 : FVec Ideal S16x32x2048 .f32) (a1 : FVec Ideal S16x4x2 .f32) (a2 a3 : FVec Ideal S32x1 .f32) (b : Fin 16)
    (hv : ∀ g : Fin 4, 0 < vari (a1 (ix3 b g 0)) (a1 (ix3 b g 1)))
    (x0 : FVec Ideal S1x32x2048 .f32) (x1 : FVec Ideal S1x4x2 .f32) (e0 : ∀ j, x0 j = a0 (ix3 b (j 1) (j 2))) (e1 : ∀ j, x1 j = a1 (ix3 b (j 1) (j 2))) (j : S1x32x2048.Idx) :
    out0_4 (F := Ideal) x0 x1 a2 a3 j = Cert.RefFinalize1Ideal.Read.val_main_v31 (F := Ideal) a0 a1 a2 a3 (ix3 b (j 1) (j 2)) := by
  obtain ⟨u, o, q, rfl⟩ : ∃ (u : Fin 1) (o : Fin 32) (q : Fin 2048), j = ix3 u o q := ⟨j 0, j 1, j 2, eq_ix3 j⟩
  rw [out_eq]
  refine (out_apply x0 x1 a2 a3 u o q).trans (Eq.trans ?_ (ref_apply a0 a1 a2 a3 b o q).symm)
  have s0 : x1 (ix3 0 (gr o) 0) = a1 (ix3 b (gr o) 0) := e1 _
  have s1 : x1 (ix3 0 (gr o) 1) = a1 (ix3 b (gr o) 1) := e1 _
  have sx : x0 (ix3 0 o q) = a0 (ix3 b o q) := e0 _
  rw [s0, s1, sx]
  exact congrArg (fun y => leak (y + a3 (ix2 o 0))) (div_root (hv (gr o)) _ _).symm

theorem covered4 (i : S16x32x2048.Idx) : ∃ t : Fin cfg0.N, (cfg0.win 4).flush t = true ∧ i ∈ ((cfg0.win 4).blk t).view.set :=
  ⟨⟨(i 0).val, (i 0).isLt⟩, flush0_4 _, by
    have h := ((cfg0.win 4).blk (⟨(i 0).val, (i 0).isLt⟩ : Fin cfg0.N)).view.emb_mem_set (ix3 (0 : Fin 1) (i 1) (i 2))
    rw [emb4] at h
    have e : ix3 (bat ⟨(i 0).val, (i 0).isLt⟩) (i 1) (i 2) = i := (eq_ix3 i).symm
    exact e ▸ h⟩

/-- A block that agrees with batch `t` of `Y` everywhere is what a reading of `Y` through the block gives. -/
theorem cut4_eq (t : Fin cfg0.N) (X : FVec Ideal S1x32x2048 .f32) (Y : FVec Ideal S16x32x2048 .f32) (h : ∀ j, X j = Y (ix3 (bat t) (j 1) (j 2))) :
    (cfg0.win 4).cut (α := Elt Ideal .f32) (grid0.coords t) X = ((cfg0.win 4).blk t).view.read (Elt Ideal) Y := by
  funext j
  exact (h j).trans (congrArg Y (emb4 t j)).symm

theorem final4 (c : Dev nD) (hv : ∀ (b : Fin 16) (g : Fin 4), 0 < vari (V m c main_arg1 (ix3 b g 0)) (V m c main_arg1 (ix3 b g 1))) : (dats m 0 c).arrAt 4 cfg0.N
    = Cert.RefFinalize1Ideal.Read.val_main_v31 (F := Ideal) (V m c main_arg0) (V m c main_arg1) (V m c main_arg2) (V m c main_arg3) := by
  refine (dats m 0 c).arrAt_eq_of_cover 4 _ (fun t _ => ?_) covered4
  rw [flushed4, iblk2_eq, iblk3_eq]
  refine cut4_eq t _ _ fun j => ?_
  exact block_eq (V m c main_arg0) (V m c main_arg1) (V m c main_arg2) (V m c main_arg3) (bat t) (hv (bat t)) _ _ (iblk0_apply m c t) (iblk1_apply m c t) j

end Cert.Finalize1Ideal.Eq

end
-- ==== Proof.Finalize1Claims.lean ====
module

public import proofs.«01_k».proof.Defs
public import proofs.«01_k».proof.Proof.Finalize1Eq
public import proofs.«01_k».proof.Proof.Gen.Finalize1.Frame
public import proofs.«01_k».proof.Proof.Gen.Finalize1Ideal.Value
public import proofs.«01_k».proof.Proof.Gen.RefFinalize1Ideal.Run
public import proofs.«01_k».proof.Proof.Gen.Pre_spread1
public import Idealize.ShloMosaic.Lib.Quiescent

@[expose] public section

set_option maxRecDepth 16384

noncomputable section

namespace Cert.Finalize1Claims

open Idealize.ShloMosaic Idealize.ShloMosaic.TcCoe Idealize.SL.Sem

/-! # The claims about the normalization of 32 channels -/

/-- The reference runs, keeps its arguments, and has no semaphore to leave raised. -/
theorem frame_ref : Cert.quiescent_RefFinalize1Ideal := fun m ρ _ =>
  (θ_run Cert.RefFinalize1Ideal.defs _ _).mono (fun r h => ⟨fun c => (h c).2, sem_eq_zero_of_no_sems rfl r.2⟩) (Cert.RefFinalize1Ideal.Value.run m ρ)

theorem frame_ref_pre : Cert.quiescent_RefFinalize1Ideal_pre_spread1 := fun m ρ _ => frame_ref m ρ trivial

/-- From memories that agree on the arguments, with every group's variance above zero, both programs end with the reference's result. -/
theorem algebraic : Cert.algebraic_Finalize1Ideal_RefFinalize1Ideal_pre_spread1 := by
  intro m ρ m' ρ' hpre hargs
  have hv := fun c => Cert.Finalize1Ideal.Eq.of_pre _ _ _ _ (hpre c)
  refine ⟨fun c => Cert.RefFinalize1Ideal.Value.res_main_v31 m' c, ?_, ?_⟩
  · refine (θ_run Cert.Finalize1Ideal.defs _ _).mono (fun r h c => ?_) (Cert.Finalize1Ideal.Value.run_blocks m ρ)
    obtain ⟨h4, hk⟩ := h c
    obtain ⟨a0, a1, a2, a3⟩ := hargs c
    refine ⟨h4.trans ?_, hk⟩
    refine (Cert.Finalize1Ideal.Eq.final4 m c (hv c)).trans (Eq.trans ?_ (Cert.RefFinalize1Ideal.Read.val_main_v31_eq m' c).symm)
    rw [a0, a1, a2, a3]
  · exact Cert.RefFinalize1Ideal.Value.run m' ρ'

end Cert.Finalize1Claims

end
-- ==== Proof.lean ====
/- The claims of the certificate, put together from the modules under Proof/. -/
module

public import proofs.«01_k».proof.Defs
public import proofs.«01_k».proof.Proof.Gen.StageSelf
public import proofs.«01_k».proof.Proof.Gen.StageSelf.Skeleton
public import proofs.«01_k».proof.Proof.Gen.StageSelf.Loops
public import proofs.«01_k».proof.Proof.Gen.StageSelf.Launch
public import proofs.«01_k».proof.Proof.Gen.StageSelf.Points
public import proofs.«01_k».proof.Proof.Gen.StageSelf.Frame
public import proofs.«01_k».proof.Proof.Gen.StageSelfIdeal
public import proofs.«01_k».proof.Proof.Gen.StageSelfIdeal.Skeleton
public import proofs.«01_k».proof.Proof.Gen.StageSelfIdeal.Loops
public import proofs.«01_k».proof.Proof.Gen.StageSelfIdeal.Launch
public import proofs.«01_k».proof.Proof.Gen.StageSelfIdeal.Points
public import proofs.«01_k».proof.Proof.Gen.StageSelfIdeal.Frame
public import proofs.«01_k».proof.Proof.Gen.RefSelfIdeal
public import proofs.«01_k».proof.Proof.Gen.Pre_no_tie_self
public import proofs.«01_k».proof.Proof.Gen.StageSelfIdeal.Value
public import proofs.«01_k».proof.Proof.Gen.RefSelfIdeal.Run
public import proofs.«01_k».proof.Proof.Gen.RefSelfIdeal.Read
public import proofs.«01_k».proof.Proof.Gen.StageFirst
public import proofs.«01_k».proof.Proof.Gen.StageFirst.Skeleton
public import proofs.«01_k».proof.Proof.Gen.StageFirst.Loops
public import proofs.«01_k».proof.Proof.Gen.StageFirst.Launch
public import proofs.«01_k».proof.Proof.Gen.StageFirst.Points
public import proofs.«01_k».proof.Proof.Gen.StageFirst.Frame
public import proofs.«01_k».proof.Proof.Gen.StageFirstIdeal
public import proofs.«01_k».proof.Proof.Gen.StageFirstIdeal.Skeleton
public import proofs.«01_k».proof.Proof.Gen.StageFirstIdeal.Loops
public import proofs.«01_k».proof.Proof.Gen.StageFirstIdeal.Launch
public import proofs.«01_k».proof.Proof.Gen.StageFirstIdeal.Points
public import proofs.«01_k».proof.Proof.Gen.StageFirstIdeal.Frame
public import proofs.«01_k».proof.Proof.Gen.StageFirstIdeal.Value
public import proofs.«01_k».proof.Proof.Gen.RefFirstIdeal
public import proofs.«01_k».proof.Proof.Gen.RefFirstIdeal.Run
public import proofs.«01_k».proof.Proof.Gen.RefFirstIdeal.Read
public import proofs.«01_k».proof.Proof.Gen.StageGather2
public import proofs.«01_k».proof.Proof.Gen.StageGather2.Skeleton
public import proofs.«01_k».proof.Proof.Gen.StageGather2.Loops
public import proofs.«01_k».proof.Proof.Gen.StageGather2.Launch
public import proofs.«01_k».proof.Proof.Gen.StageGather2.Points
public import proofs.«01_k».proof.Proof.Gen.StageGather2.Frame
public import proofs.«01_k».proof.Proof.Gen.StageGather2Ideal
public import proofs.«01_k».proof.Proof.Gen.StageGather2Ideal.Skeleton
public import proofs.«01_k».proof.Proof.Gen.StageGather2Ideal.Loops
public import proofs.«01_k».proof.Proof.Gen.StageGather2Ideal.Launch
public import proofs.«01_k».proof.Proof.Gen.StageGather2Ideal.Points
public import proofs.«01_k».proof.Proof.Gen.StageGather2Ideal.Frame
public import proofs.«01_k».proof.Proof.Gen.StageGather2Ideal.Value
public import proofs.«01_k».proof.Proof.Gen.RefGather2Ideal
public import proofs.«01_k».proof.Proof.Gen.RefGather2Ideal.Run
public import proofs.«01_k».proof.Proof.Gen.RefGather2Ideal.Read
public import proofs.«01_k».proof.Proof.Gen.StageGather4
public import proofs.«01_k».proof.Proof.Gen.StageGather4.Skeleton
public import proofs.«01_k».proof.Proof.Gen.StageGather4.Loops
public import proofs.«01_k».proof.Proof.Gen.StageGather4.Launch
public import proofs.«01_k».proof.Proof.Gen.StageGather4.Points
public import proofs.«01_k».proof.Proof.Gen.StageGather4.Frame
public import proofs.«01_k».proof.Proof.Gen.StageGather4Ideal
public import proofs.«01_k».proof.Proof.Gen.StageGather4Ideal.Skeleton
public import proofs.«01_k».proof.Proof.Gen.StageGather4Ideal.Loops
public import proofs.«01_k».proof.Proof.Gen.StageGather4Ideal.Launch
public import proofs.«01_k».proof.Proof.Gen.StageGather4Ideal.Points
public import proofs.«01_k».proof.Proof.Gen.StageGather4Ideal.Frame
public import proofs.«01_k».proof.Proof.Gen.StageGather4Ideal.Value
public import proofs.«01_k».proof.Proof.Gen.RefGather4Ideal
public import proofs.«01_k».proof.Proof.Gen.RefGather4Ideal.Run
public import proofs.«01_k».proof.Proof.Gen.RefGather4Ideal.Read
public import proofs.«01_k».proof.Proof.Gen.Pre_no_tie_gather2
public import proofs.«01_k».proof.Proof.Gen.Pre_no_tie_gather4
public import proofs.«01_k».proof.Proof.Gen.Pre_no_tie_stage1
public import proofs.«01_k».proof.Proof.Gen.Finalize4
public import proofs.«01_k».proof.Proof.Gen.Finalize4.Skeleton
public import proofs.«01_k».proof.Proof.Gen.Finalize4.Launch
public import proofs.«01_k».proof.Proof.Gen.Finalize4.Points
public import proofs.«01_k».proof.Proof.Gen.Finalize4.Frame
public import proofs.«01_k».proof.Proof.Gen.Finalize4Ideal
public import proofs.«01_k».proof.Proof.Gen.Finalize4Ideal.Skeleton
public import proofs.«01_k».proof.Proof.Gen.Finalize4Ideal.Launch
public import proofs.«01_k».proof.Proof.Gen.Finalize4Ideal.Points
public import proofs.«01_k».proof.Proof.Gen.Finalize4Ideal.Frame
public import proofs.«01_k».proof.Proof.Gen.Finalize4Ideal.Value
public import proofs.«01_k».proof.Proof.Gen.RefFinalize4Ideal
public import proofs.«01_k».proof.Proof.Gen.RefFinalize4Ideal.Run
public import proofs.«01_k».proof.Proof.Gen.RefFinalize4Ideal.Read
public import proofs.«01_k».proof.Proof.Gen.Finalize2
public import proofs.«01_k».proof.Proof.Gen.Finalize2.Skeleton
public import proofs.«01_k».proof.Proof.Gen.Finalize2.Launch
public import proofs.«01_k».proof.Proof.Gen.Finalize2.Points
public import proofs.«01_k».proof.Proof.Gen.Finalize2.Frame
public import proofs.«01_k».proof.Proof.Gen.Finalize2Ideal
public import proofs.«01_k».proof.Proof.Gen.Finalize2Ideal.Skeleton
public import proofs.«01_k».proof.Proof.Gen.Finalize2Ideal.Launch
public import proofs.«01_k».proof.Proof.Gen.Finalize2Ideal.Points
public import proofs.«01_k».proof.Proof.Gen.Finalize2Ideal.Frame
public import proofs.«01_k».proof.Proof.Gen.Finalize2Ideal.Value
public import proofs.«01_k».proof.Proof.Gen.RefFinalize2Ideal
public import proofs.«01_k».proof.Proof.Gen.RefFinalize2Ideal.Run
public import proofs.«01_k».proof.Proof.Gen.RefFinalize2Ideal.Read
public import proofs.«01_k».proof.Proof.Gen.Finalize1
public import proofs.«01_k».proof.Proof.Gen.Finalize1.Skeleton
public import proofs.«01_k».proof.Proof.Gen.Finalize1.Launch
public import proofs.«01_k».proof.Proof.Gen.Finalize1.Points
public import proofs.«01_k».proof.Proof.Gen.Finalize1.Frame
public import proofs.«01_k».proof.Proof.Gen.Finalize1Ideal
public import proofs.«01_k».proof.Proof.Gen.Finalize1Ideal.Skeleton
public import proofs.«01_k».proof.Proof.Gen.Finalize1Ideal.Launch
public import proofs.«01_k».proof.Proof.Gen.Finalize1Ideal.Points
public import proofs.«01_k».proof.Proof.Gen.Finalize1Ideal.Frame
public import proofs.«01_k».proof.Proof.Gen.Finalize1Ideal.Value
public import proofs.«01_k».proof.Proof.Gen.RefFinalize1Ideal
public import proofs.«01_k».proof.Proof.Gen.RefFinalize1Ideal.Run
public import proofs.«01_k».proof.Proof.Gen.RefFinalize1Ideal.Read
public import proofs.«01_k».proof.Proof.Gen.Fps128
public import proofs.«01_k».proof.Proof.Gen.Fps128.Skeleton
public import proofs.«01_k».proof.Proof.Gen.Fps128.Launch
public import proofs.«01_k».proof.Proof.Gen.Fps128.Points
public import proofs.«01_k».proof.Proof.Gen.Fps128.Frame
public import proofs.«01_k».proof.Proof.Gen.Fps128Ideal
public import proofs.«01_k».proof.Proof.Gen.Fps128Ideal.Skeleton
public import proofs.«01_k».proof.Proof.Gen.Fps128Ideal.Launch
public import proofs.«01_k».proof.Proof.Gen.Fps128Ideal.Points
public import proofs.«01_k».proof.Proof.Gen.Fps128Ideal.Frame
public import proofs.«01_k».proof.Proof.Gen.Fps128Ideal.Value
public import proofs.«01_k».proof.Proof.Gen.RefFps128Ideal
public import proofs.«01_k».proof.Proof.Gen.RefFps128Ideal.Run
public import proofs.«01_k».proof.Proof.Gen.RefFps128Ideal.Step
public import proofs.«01_k».proof.Proof.Fps128Claims
public import proofs.«01_k».proof.Proof.Gen.Fps512
public import proofs.«01_k».proof.Proof.Gen.Fps512.Skeleton
public import proofs.«01_k».proof.Proof.Gen.Fps512.Launch
public import proofs.«01_k».proof.Proof.Gen.Fps512.Points
public import proofs.«01_k».proof.Proof.Gen.Fps512.Frame
public import proofs.«01_k».proof.Proof.Gen.Fps512Ideal
public import proofs.«01_k».proof.Proof.Gen.Fps512Ideal.Skeleton
public import proofs.«01_k».proof.Proof.Gen.Fps512Ideal.Launch
public import proofs.«01_k».proof.Proof.Gen.Fps512Ideal.Points
public import proofs.«01_k».proof.Proof.Gen.Fps512Ideal.Frame
public import proofs.«01_k».proof.Proof.Gen.Fps512Ideal.Value
public import proofs.«01_k».proof.Proof.Gen.RefFps512Ideal
public import proofs.«01_k».proof.Proof.Gen.RefFps512Ideal.Run
public import proofs.«01_k».proof.Proof.Gen.RefFps512Ideal.Step
public import proofs.«01_k».proof.Proof.Fps512Claims
public import proofs.«01_k».proof.Proof.SelfClaims
public import proofs.«01_k».proof.Proof.Gather4Claims
public import proofs.«01_k».proof.Proof.Gather2Claims
public import proofs.«01_k».proof.Proof.FirstClaims
public import proofs.«01_k».proof.Proof.Finalize4Claims
public import proofs.«01_k».proof.Proof.Gen.Pre_spread4
public import proofs.«01_k».proof.Proof.Finalize2Claims
public import proofs.«01_k».proof.Proof.Gen.Pre_spread2
public import proofs.«01_k».proof.Proof.Finalize1Claims
public import proofs.«01_k».proof.Proof.Gen.Pre_spread1
public import Idealize.ShloMosaic.Adequacy
public import Idealize.ShloMosaic.Init

@[expose] public section

noncomputable section

namespace Cert.Proof

open Idealize.ShloMosaic Idealize.SL.Sem Cert.StageSelf

/-- All the claims. -/
theorem claim : Cert.Claim := ⟨Cert.StageSelf.Gen.facts, Cert.StageSelfIdeal.Gen.facts, Cert.RefSelfIdeal.Gen.facts, Cert.StageGather4.Gen.facts, Cert.StageGather4Ideal.Gen.facts, Cert.RefGather4Ideal.Gen.facts, Cert.StageGather2.Gen.facts, Cert.StageGather2Ideal.Gen.facts, Cert.RefGather2Ideal.Gen.facts, Cert.StageFirst.Gen.facts, Cert.StageFirstIdeal.Gen.facts, Cert.RefFirstIdeal.Gen.facts, Cert.Finalize4.Gen.facts, Cert.Finalize4Ideal.Gen.facts, Cert.RefFinalize4Ideal.Gen.facts, Cert.Finalize2.Gen.facts, Cert.Finalize2Ideal.Gen.facts, Cert.RefFinalize2Ideal.Gen.facts, Cert.Finalize1.Gen.facts, Cert.Finalize1Ideal.Gen.facts, Cert.RefFinalize1Ideal.Gen.facts, Cert.Fps128.Gen.facts, Cert.Fps128Ideal.Gen.facts, Cert.RefFps128Ideal.Gen.facts, Cert.Fps512.Gen.facts, Cert.Fps512Ideal.Gen.facts, Cert.RefFps512Ideal.Gen.facts, Cert.Pre_no_tie_self.Gen.facts, Cert.Pre_no_tie_gather4.Gen.facts, Cert.Pre_no_tie_gather2.Gen.facts, Cert.Pre_no_tie_stage1.Gen.facts, Cert.Pre_spread4.Gen.facts, Cert.Pre_spread2.Gen.facts, Cert.Pre_spread1.Gen.facts,
  fun m ρ _ => Cert.StageSelf.Gen.frame m ρ,
  fun m ρ _ => Cert.StageSelf.Gen.frame m ρ,
  fun m ρ _ => Cert.StageSelfIdeal.Gen.frame m ρ,
  Cert.SelfClaims.frame_ref,
  Cert.SelfClaims.frame_ref_pre,
  fun m ρ _ => Cert.StageGather4.Gen.frame m ρ,
  fun m ρ _ => Cert.StageGather4.Gen.frame m ρ,
  fun m ρ _ => Cert.StageGather4Ideal.Gen.frame m ρ,
  Cert.Gather4Claims.frame_ref,
  Cert.Gather4Claims.frame_ref_pre,
  fun m ρ _ => Cert.StageGather2.Gen.frame m ρ,
  fun m ρ _ => Cert.StageGather2.Gen.frame m ρ,
  fun m ρ _ => Cert.StageGather2Ideal.Gen.frame m ρ,
  Cert.Gather2Claims.frame_ref,
  Cert.Gather2Claims.frame_ref_pre,
  fun m ρ _ => Cert.StageFirst.Gen.frame m ρ,
  fun m ρ _ => Cert.StageFirst.Gen.frame m ρ,
  fun m ρ _ => Cert.StageFirstIdeal.Gen.frame m ρ,
  Cert.FirstClaims.frame_ref,
  Cert.FirstClaims.frame_ref_pre,
  fun m ρ _ => Cert.Finalize4.Gen.frame m ρ,
  fun m ρ _ => Cert.Finalize4Ideal.Gen.frame m ρ,
  fun m ρ _ => Cert.Finalize4Ideal.Gen.frame m ρ,
  Cert.Finalize4Claims.frame_ref,
  Cert.Finalize4Claims.frame_ref_pre,
  fun m ρ _ => Cert.Finalize2.Gen.frame m ρ,
  fun m ρ _ => Cert.Finalize2Ideal.Gen.frame m ρ,
  fun m ρ _ => Cert.Finalize2Ideal.Gen.frame m ρ,
  Cert.Finalize2Claims.frame_ref,
  Cert.Finalize2Claims.frame_ref_pre,
  fun m ρ _ => Cert.Finalize1.Gen.frame m ρ,
  fun m ρ _ => Cert.Finalize1Ideal.Gen.frame m ρ,
  fun m ρ _ => Cert.Finalize1Ideal.Gen.frame m ρ,
  Cert.Finalize1Claims.frame_ref,
  Cert.Finalize1Claims.frame_ref_pre,
  fun m ρ _ => Cert.Fps128.Gen.frame m ρ,
  fun m ρ _ => Cert.Fps128Ideal.Gen.frame m ρ,
  Cert.Fps128Claims.frame_ref,
  fun m ρ _ => Cert.Fps512.Gen.frame m ρ,
  fun m ρ _ => Cert.Fps512Ideal.Gen.frame m ρ,
  Cert.Fps512Claims.frame_ref,
  Cert.SelfClaims.preserves,
  Cert.SelfClaims.algebraic,
  Cert.Gather4Claims.preserves,
  Cert.Gather4Claims.algebraic,
  Cert.Gather2Claims.preserves,
  Cert.Gather2Claims.algebraic,
  Cert.FirstClaims.preserves,
  Cert.FirstClaims.algebraic,
  trivial,
  Cert.Finalize4Claims.algebraic,
  trivial,
  Cert.Finalize2Claims.algebraic,
  trivial,
  Cert.Finalize1Claims.algebraic,
  Cert.Fps128Claims.preserves,
  Cert.Fps128Claims.algebraic,
  Cert.Fps512Claims.preserves,
  Cert.Fps512Claims.algebraic⟩

end Cert.Proof

end
